-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1)
      ∧ r.2.mem ((c.tc : Thread Cert.Kernel14.nD Cert.Kernel14.τ).loc Cert.Kernel14.main_arg2) = m ((c.tc : Thread Cert.Kernel14.nD Cert.Kernel14.τ).loc Cert.Kernel14.main_arg2))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v1_0)) (v2 : (c : Dev Cert.KernelIdeal.nD) → Buf (Elt Ideal) ((c.tc : Thread Cert.KernelIdeal.nD Cert.KernelIdeal.τ).loc Cert.KernelIdeal.main_v1_1)) (v3 : (c : Dev Cert.KernelIdeal.nD) → Buf (Elt Ideal) ((c.tc : Thread Cert.KernelIdeal.nD Cert.KernelIdeal.τ).loc Cert.KernelIdeal.main_v1_2)) (v4 : (c : Dev Cert.KernelIdeal.nD) → Buf (Elt Ideal) ((c.tc : Thread Cert.KernelIdeal.nD Cert.KernelIdeal.τ).loc Cert.KernelIdeal.main_v1_5)) (v5 : (c : Dev Cert.KernelIdeal.nD) → Buf (Elt Ideal) ((c.tc : Thread Cert.KernelIdeal.nD Cert.KernelIdeal.τ).loc Cert.KernelIdeal.main_v1_3)) (v6 : (c : Dev Cert.KernelIdeal.nD) → Buf (Elt Ideal) ((c.tc : Thread Cert.KernelIdeal.nD Cert.KernelIdeal.τ).loc Cert.KernelIdeal.main_v1_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v1_0) = v1 c
          ∧ r.2.mem ((c.tc : Thread Cert.KernelIdeal.nD Cert.KernelIdeal.τ).loc Cert.KernelIdeal.main_v1_1) = v2 c
          ∧ r.2.mem ((c.tc : Thread Cert.KernelIdeal.nD Cert.KernelIdeal.τ).loc Cert.KernelIdeal.main_v1_2) = v3 c
          ∧ r.2.mem ((c.tc : Thread Cert.KernelIdeal.nD Cert.KernelIdeal.τ).loc Cert.KernelIdeal.main_v1_5) = v4 c
          ∧ r.2.mem ((c.tc : Thread Cert.KernelIdeal.nD Cert.KernelIdeal.τ).loc Cert.KernelIdeal.main_v1_3) = v5 c
          ∧ r.2.mem ((c.tc : Thread Cert.KernelIdeal.nD Cert.KernelIdeal.τ).loc Cert.KernelIdeal.main_v1_4) = v6 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v30) = v0 c
          ∧ r.2.mem ((c.tc : Thread Cert.ReferenceIdeal.nD Cert.ReferenceIdeal.τ).loc Cert.ReferenceIdeal.main_v58) = v1 c
          ∧ r.2.mem ((c.tc : Thread Cert.ReferenceIdeal.nD Cert.ReferenceIdeal.τ).loc Cert.ReferenceIdeal.main_v56) = v2 c
          ∧ r.2.mem ((c.tc : Thread Cert.ReferenceIdeal.nD Cert.ReferenceIdeal.τ).loc Cert.ReferenceIdeal.main_v54) = v3 c
          ∧ r.2.mem ((c.tc : Thread Cert.ReferenceIdeal.nD Cert.ReferenceIdeal.τ).loc Cert.ReferenceIdeal.main_v52) = v4 c
          ∧ r.2.mem ((c.tc : Thread Cert.ReferenceIdeal.nD Cert.ReferenceIdeal.τ).loc Cert.ReferenceIdeal.main_v51) = v5 c
          ∧ r.2.mem ((c.tc : Thread Cert.ReferenceIdeal.nD Cert.ReferenceIdeal.τ).loc Cert.ReferenceIdeal.main_v49) = v6 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v3) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v4) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v1) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v5) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v0)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v5) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v0)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v5) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v0)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v6) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)) →
    ∃ (v0 : (c : Dev Cert.Kernel9Ideal.nD) → Buf (Elt Ideal) ((c.tc : Thread Cert.Kernel9Ideal.nD Cert.Kernel9Ideal.τ).loc Cert.Kernel9Ideal.main_v0)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v15) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)) →
    ∃ (v0 : (c : Dev Cert.Kernel10Ideal.nD) → Buf (Elt Ideal) ((c.tc : Thread Cert.Kernel10Ideal.nD Cert.Kernel10Ideal.τ).loc Cert.Kernel10Ideal.main_v0)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v8) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)) →
    ∃ (v0 : (c : Dev Cert.Kernel11Ideal.nD) → Buf (Elt Ideal) ((c.tc : Thread Cert.Kernel11Ideal.nD Cert.Kernel11Ideal.τ).loc Cert.Kernel11Ideal.main_v0)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v0) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v5) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)) →
    ∃ (v0 : (c : Dev Cert.Kernel12Ideal.nD) → Buf (Elt Ideal) ((c.tc : Thread Cert.Kernel12Ideal.nD Cert.Kernel12Ideal.τ).loc Cert.Kernel12Ideal.main_v0)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v0) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v6) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)
      ∧ m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2)) →
    ∃ (v0 : (c : Dev Cert.Kernel13Ideal.nD) → Buf (Elt Ideal) ((c.tc : Thread Cert.Kernel13Ideal.nD Cert.Kernel13Ideal.τ).loc Cert.Kernel13Ideal.main_v0)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v0) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
          ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v15) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1)
          ∧ r.2.mem ((c.tc : Thread Cert.Reference13Ideal.nD Cert.Reference13Ideal.τ).loc Cert.Reference13Ideal.main_arg2) = m' ((c.tc : Thread Cert.Reference13Ideal.nD Cert.Reference13Ideal.τ).loc Cert.Reference13Ideal.main_arg2))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)
      ∧ m' ((c.tc : Thread Cert.Reference14Ideal.nD Cert.Reference14Ideal.τ).loc Cert.Reference14Ideal.main_arg2) = m ((c.tc : Thread Cert.Kernel14Ideal.nD Cert.Kernel14Ideal.τ).loc Cert.Kernel14Ideal.main_arg2)) →
    ∃ (v0 : (c : Dev Cert.Kernel14Ideal.nD) → Buf (Elt Ideal) ((c.tc : Thread Cert.Kernel14Ideal.nD Cert.Kernel14Ideal.τ).loc Cert.Kernel14Ideal.main_v0)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v0) = v0 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
          ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v8) = v0 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1)
          ∧ r.2.mem ((c.tc : Thread Cert.Reference14Ideal.nD Cert.Reference14Ideal.τ).loc Cert.Reference14Ideal.main_arg2) = m' ((c.tc : Thread Cert.Reference14Ideal.nD Cert.Reference14Ideal.τ).loc Cert.Reference14Ideal.main_arg2))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)) →
    ∃ (v0 : (c : Dev Cert.Kernel15Ideal.nD) → Buf (Elt Ideal) ((c.tc : Thread Cert.Kernel15Ideal.nD Cert.Kernel15Ideal.τ).loc Cert.Kernel15Ideal.main_v0)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v0) = v0 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v3) = v0 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
-- ==== Kernel.lean ====
abbrev S4x2048x64 : Shape := ⟨3, ![4, 2048, 64]⟩
abbrev S2048x256 : Shape := ⟨2, ![2048, 256]⟩
abbrev S2048x4x64x64 : Shape := ⟨4, ![2048, 4, 64, 64]⟩
abbrev S4x128x64 : Shape := ⟨3, ![4, 128, 64]⟩
abbrev S128x256 : Shape := ⟨2, ![128, 256]⟩
abbrev S128x4x64x64 : Shape := ⟨4, ![128, 4, 64, 64]⟩
abbrev S4x64x64 : Shape := ⟨3, ![4, 64, 64]⟩
abbrev S4x64x128 : Shape := ⟨3, ![4, 64, 128]⟩
abbrev S128x64 : Shape := ⟨2, ![128, 64]⟩
abbrev S64x64 : Shape := ⟨2, ![64, 64]⟩
abbrev S64x128 : Shape := ⟨2, ![64, 128]⟩
abbrev S1x64x128 : Shape := ⟨3, ![1, 64, 128]⟩
abbrev S1x64x64 : Shape := ⟨3, ![1, 64, 64]⟩
abbrev S1x1x64x64 : Shape := ⟨4, ![1, 1, 64, 64]⟩
abbrev S1x1x64 : Shape := ⟨3, ![1, 1, 64]⟩
abbrev S1x64 : Shape := ⟨2, ![1, 64]⟩
abbrev S64 : Shape := ⟨1, ![64]⟩
abbrev S64x1 : Shape := ⟨2, ![64, 1]⟩
abbrev S128x128 : Shape := ⟨2, ![128, 128]⟩

abbrev nBuf : Space → Nat
  | .hbm => 15
  | .vmem => 51
  | .smem => 0
  | _ => 0

abbrev bufTy : (tb : Table) → Fin (tcTables nBuf tb) → BufTy
  | .hbm, ⟨0, _⟩ => ⟨S4x2048x64, .f32⟩
  | .hbm, ⟨1, _⟩ => ⟨S4x2048x64, .f32⟩
  | .hbm, ⟨2, _⟩ => ⟨S4x2048x64, .f32⟩
  | .hbm, ⟨3, _⟩ => ⟨S2048x256, .f32⟩
  | .hbm, ⟨4, _⟩ => ⟨S4x2048x64, .f32⟩
  | .hbm, ⟨5, _⟩ => ⟨S4x2048x64, .f32⟩
  | .hbm, ⟨6, _⟩ => ⟨S2048x256, .f32⟩
  | .hbm, ⟨7, _⟩ => ⟨S2048x256, .f32⟩
  | .hbm, ⟨8, _⟩ => ⟨S2048x4x64x64, .f32⟩
  | .hbm, ⟨9, _⟩ => ⟨S4x2048x64, .f32⟩
  | .hbm, ⟨10, _⟩ => ⟨S4x2048x64, .f32⟩
  | .hbm, ⟨11, _⟩ => ⟨S4x2048x64, .f32⟩
  | .hbm, ⟨12, _⟩ => ⟨S4x2048x64, .f32⟩
  | .hbm, ⟨13, _⟩ => ⟨S4x2048x64, .f32⟩
  | .hbm, ⟨14, _⟩ => ⟨S2048x256, .f32⟩
  | .local _ .vmem, ⟨0, _⟩ => ⟨S4x128x64, .f32⟩
  | .local _ .vmem, ⟨1, _⟩ => ⟨S4x128x64, .f32⟩
  | .local _ .vmem, ⟨2, _⟩ => ⟨S4x128x64, .f32⟩
  | .local _ .vmem, ⟨3, _⟩ => ⟨S4x128x64, .f32⟩
  | .local _ .vmem, ⟨4, _⟩ => ⟨S4x128x64, .f32⟩
  | .local _ .vmem, ⟨5, _⟩ => ⟨S4x128x64, .f32⟩
  | .local _ .vmem, ⟨6, _⟩ => ⟨S4x128x64, .f32⟩
  | .local _ .vmem, ⟨7, _⟩ => ⟨S4x128x64, .f32⟩
  | .local _ .vmem, ⟨8, _⟩ => ⟨S4x128x64, .f32⟩
  | .local _ .vmem, ⟨9, _⟩ => ⟨S4x128x64, .f32⟩
  | .local _ .vmem, ⟨10, _⟩ => ⟨S128x256, .f32⟩
  | .local _ .vmem, ⟨11, _⟩ => ⟨S128x256, .f32⟩
  | .local _ .vmem, ⟨12, _⟩ => ⟨S128x256, .f32⟩
  | .local _ .vmem, ⟨13, _⟩ => ⟨S128x256, .f32⟩
  | .local _ .vmem, ⟨14, _⟩ => ⟨S128x4x64x64, .f32⟩
  | .local _ .vmem, ⟨15, _⟩ => ⟨S128x4x64x64, .f32⟩
  | .local _ .vmem, ⟨16, _⟩ => ⟨S4x64x64, .f32⟩
  | .local _ .vmem, ⟨17, _⟩ => ⟨S4x64x128, .f32⟩
  | .local _ .vmem, ⟨18, _⟩ => ⟨S4x64x128, .f32⟩
  | .local _ .vmem, ⟨19, _⟩ => ⟨S4x128x64, .f32⟩
  | .local _ .vmem, ⟨20, _⟩ => ⟨S4x128x64, .f32⟩
  | .local _ .vmem, ⟨21, _⟩ => ⟨S4x128x64, .f32⟩
  | .local _ .vmem, ⟨22, _⟩ => ⟨S4x128x64, .f32⟩
  | .local _ .vmem, ⟨23, _⟩ => ⟨S4x128x64, .f32⟩
  | .local _ .vmem, ⟨24, _⟩ => ⟨S4x128x64, .f32⟩
  | .local _ .vmem, ⟨25, _⟩ => ⟨S4x128x64, .f32⟩
  | .local _ .vmem, ⟨26, _⟩ => ⟨S4x128x64, .f32⟩
  | .local _ .vmem, ⟨27, _⟩ => ⟨S4x128x64, .f32⟩
  | .local _ .vmem, ⟨28, _⟩ => ⟨S4x128x64, .f32⟩
  | .local _ .vmem, ⟨29, _⟩ => ⟨S128x256, .f32⟩
  | .local _ .vmem, ⟨30, _⟩ => ⟨S128x256, .f32⟩
  | .local _ .vmem, ⟨31, _⟩ => ⟨S128x256, .f32⟩
  | .local _ .vmem, ⟨32, _⟩ => ⟨S128x256, .f32⟩
  | .local _ .vmem, ⟨33, _⟩ => ⟨S128x4x64x64, .f32⟩
  | .local _ .vmem, ⟨34, _⟩ => ⟨S128x4x64x64, .f32⟩
  | .local _ .vmem, ⟨35, _⟩ => ⟨S4x128x64, .f32⟩
  | .local _ .vmem, ⟨36, _⟩ => ⟨S4x128x64, .f32⟩
  | .local _ .vmem, ⟨37, _⟩ => ⟨S4x128x64, .f32⟩
  | .local _ .vmem, ⟨38, _⟩ => ⟨S4x128x64, .f32⟩
  | .local _ .vmem, ⟨39, _⟩ => ⟨S4x128x64, .f32⟩
  | .local _ .vmem, ⟨40, _⟩ => ⟨S4x128x64, .f32⟩
  | .local _ .vmem, ⟨41, _⟩ => ⟨S4x128x64, .f32⟩
  | .local _ .vmem, ⟨42, _⟩ => ⟨S4x128x64, .f32⟩
  | .local _ .vmem, ⟨43, _⟩ => ⟨S4x128x64, .f32⟩
  | .local _ .vmem, ⟨44, _⟩ => ⟨S4x128x64, .f32⟩
  | .local _ .vmem, ⟨45, _⟩ => ⟨S128x256, .f32⟩
  | .local _ .vmem, ⟨46, _⟩ => ⟨S128x256, .f32⟩
  | .local _ .vmem, ⟨47, _⟩ => ⟨S4x64x64, .f32⟩
  | .local _ .vmem, ⟨48, _⟩ => ⟨S4x64x128, .f32⟩
  | .local _ .vmem, ⟨49, _⟩ => ⟨S4x64x128, .f32⟩
  | .local _ .vmem, ⟨50, _⟩ => ⟨S4x64x128, .f32⟩
  | _, _ => ⟨S4x2048x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | _, _ => false

abbrev semScoped : Fin 0 → Bool
  | ⟨_, h⟩ => absurd h (Nat.not_lt_zero _)

abbrev dmaSemScoped : Fin 44 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | _ => false

abbrev sig : RefSig :=
  ofTc nBuf bufTy 0 44 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v1_0 : Ref sig .tc := ⟨.hbm, 9, rfl⟩
abbrev main_v1_1 : Ref sig .tc := ⟨.hbm, 10, rfl⟩
abbrev main_v1_2 : Ref sig .tc := ⟨.hbm, 11, rfl⟩
abbrev main_v1_3 : Ref sig .tc := ⟨.hbm, 12, rfl⟩
abbrev main_v1_4 : Ref sig .tc := ⟨.hbm, 13, rfl⟩
abbrev main_v1_5 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_scratch0 : Ref sig .tc := ⟨.vmem, 16, rfl⟩
abbrev cc0_scratch1 : Ref sig .tc := ⟨.vmem, 17, rfl⟩
abbrev cc0_scratch2 : Ref sig .tc := ⟨.vmem, 18, rfl⟩
abbrev cc1_stg0_0 : Ref sig .tc := ⟨.vmem, 19, rfl⟩
abbrev cc1_stg0_1 : Ref sig .tc := ⟨.vmem, 20, rfl⟩
abbrev cc1_stg1_0 : Ref sig .tc := ⟨.vmem, 21, rfl⟩
abbrev cc1_stg1_1 : Ref sig .tc := ⟨.vmem, 22, rfl⟩
abbrev cc1_stg2_0 : Ref sig .tc := ⟨.vmem, 23, rfl⟩
abbrev cc1_stg2_1 : Ref sig .tc := ⟨.vmem, 24, rfl⟩
abbrev cc1_stg3_0 : Ref sig .tc := ⟨.vmem, 25, rfl⟩
abbrev cc1_stg3_1 : Ref sig .tc := ⟨.vmem, 26, rfl⟩
abbrev cc1_stg4_0 : Ref sig .tc := ⟨.vmem, 27, rfl⟩
abbrev cc1_stg4_1 : Ref sig .tc := ⟨.vmem, 28, rfl⟩
abbrev cc1_stg5_0 : Ref sig .tc := ⟨.vmem, 29, rfl⟩
abbrev cc1_stg5_1 : Ref sig .tc := ⟨.vmem, 30, rfl⟩
abbrev cc1_stg6_0 : Ref sig .tc := ⟨.vmem, 31, rfl⟩
abbrev cc1_stg6_1 : Ref sig .tc := ⟨.vmem, 32, rfl⟩
abbrev cc1_stg7_0 : Ref sig .tc := ⟨.vmem, 33, rfl⟩
abbrev cc1_stg7_1 : Ref sig .tc := ⟨.vmem, 34, rfl⟩
abbrev cc1_stg8_0 : Ref sig .tc := ⟨.vmem, 35, rfl⟩
abbrev cc1_stg8_1 : Ref sig .tc := ⟨.vmem, 36, rfl⟩
abbrev cc1_stg9_0 : Ref sig .tc := ⟨.vmem, 37, rfl⟩
abbrev cc1_stg9_1 : Ref sig .tc := ⟨.vmem, 38, rfl⟩
abbrev cc1_stg10_0 : Ref sig .tc := ⟨.vmem, 39, rfl⟩
abbrev cc1_stg10_1 : Ref sig .tc := ⟨.vmem, 40, rfl⟩
abbrev cc1_stg11_0 : Ref sig .tc := ⟨.vmem, 41, rfl⟩
abbrev cc1_stg11_1 : Ref sig .tc := ⟨.vmem, 42, rfl⟩
abbrev cc1_stg12_0 : Ref sig .tc := ⟨.vmem, 43, rfl⟩
abbrev cc1_stg12_1 : Ref sig .tc := ⟨.vmem, 44, rfl⟩
abbrev cc1_stg13_0 : Ref sig .tc := ⟨.vmem, 45, rfl⟩
abbrev cc1_stg13_1 : Ref sig .tc := ⟨.vmem, 46, rfl⟩
abbrev cc1_scratch0 : Ref sig .tc := ⟨.vmem, 47, rfl⟩
abbrev cc1_scratch1 : Ref sig .tc := ⟨.vmem, 48, rfl⟩
abbrev cc1_scratch2 : Ref sig .tc := ⟨.vmem, 49, rfl⟩
abbrev cc1_scratch3 : Ref sig .tc := ⟨.vmem, 50, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc1_sem0_0 : DmaSem sig := 16
abbrev cc1_sem0_1 : DmaSem sig := 17
abbrev cc1_sem1_0 : DmaSem sig := 18
abbrev cc1_sem1_1 : DmaSem sig := 19
abbrev cc1_sem2_0 : DmaSem sig := 20
abbrev cc1_sem2_1 : DmaSem sig := 21
abbrev cc1_sem3_0 : DmaSem sig := 22
abbrev cc1_sem3_1 : DmaSem sig := 23
abbrev cc1_sem4_0 : DmaSem sig := 24
abbrev cc1_sem4_1 : DmaSem sig := 25
abbrev cc1_sem5_0 : DmaSem sig := 26
abbrev cc1_sem5_1 : DmaSem sig := 27
abbrev cc1_sem6_0 : DmaSem sig := 28
abbrev cc1_sem6_1 : DmaSem sig := 29
abbrev cc1_sem7_0 : DmaSem sig := 30
abbrev cc1_sem7_1 : DmaSem sig := 31
abbrev cc1_sem8_0 : DmaSem sig := 32
abbrev cc1_sem8_1 : DmaSem sig := 33
abbrev cc1_sem9_0 : DmaSem sig := 34
abbrev cc1_sem9_1 : DmaSem sig := 35
abbrev cc1_sem10_0 : DmaSem sig := 36
abbrev cc1_sem10_1 : DmaSem sig := 37
abbrev cc1_sem11_0 : DmaSem sig := 38
abbrev cc1_sem11_1 : DmaSem sig := 39
abbrev cc1_sem12_0 : DmaSem sig := 40
abbrev cc1_sem12_1 : DmaSem sig := 41
abbrev cc1_sem13_0 : DmaSem sig := 42
abbrev cc1_sem13_1 : DmaSem sig := 43

abbrev nD : Nat := 1
abbrev τ : Topo := Topo.v7x

variable {F : FTy → Type} [FloatOps F]

abbrev grid0 : Pipeline.Grid := ⟨1, ![16], ![false]⟩

@[reducible] def k0_t1_loop : Scf.Loop 32 :=
  let c0_i32_33 : BitVec 32 := 0#32
  let c128_i32 : BitVec 32 := 128#32
  let v56 : BitVec 32 := Scalar.addi c0_i32_33 c128_i32
  let c1_i32 : BitVec 32 := 1#32
  ⟨c0_i32_33, v56, c1_i32⟩
def k0_off1 (k0_t1 : Fin k0_t1_loop.trips) : Fin 4 → Nat :=
  let c0_i32_33 : BitVec 32 := 0#32
  let c1_i32 : BitVec 32 := 1#32
  let arg12 : BitVec 32 := Scf.iv c0_i32_33 c1_i32 k0_t1
  let v106 : Index := Scalar.indexCast arg12
  let c0_71 : Index := 0#32
  let c0_72 : Index := 0#32
  let c0_73 : Index := 0#32
  ![v106.toNat, 0, 0, 0]
def k0_off2 (k0_t1 : Fin k0_t1_loop.trips) : Fin 3 → Nat :=
  let c0_74 : Index := 0#32
  let c0_i32_33 : BitVec 32 := 0#32
  let c1_i32 : BitVec 32 := 1#32
  let arg12 : BitVec 32 := Scf.iv c0_i32_33 c1_i32 k0_t1
  let v110 : Index := Scalar.indexCast arg12
  let c0_75 : Index := 0#32
  ![0, v110.toNat, 0]
def k0_off3 (k0_t1 : Fin k0_t1_loop.trips) : Fin 4 → Nat :=
  let c0_i32_33 : BitVec 32 := 0#32
  let c1_i32 : BitVec 32 := 1#32
  let arg12 : BitVec 32 := Scf.iv c0_i32_33 c1_i32 k0_t1
  let v164 : Index := Scalar.indexCast arg12
  let c1_98 : Index := 1#32
  let c0_99 : Index := 0#32
  let c0_100 : Index := 0#32
  ![v164.toNat, 1, 0, 0]
def k0_off4 (k0_t1 : Fin k0_t1_loop.trips) : Fin 3 → Nat :=
  let c1_101 : Index := 1#32
  let c0_i32_33 : BitVec 32 := 0#32
  let c1_i32 : BitVec 32 := 1#32
  let arg12 : BitVec 32 := Scf.iv c0_i32_33 c1_i32 k0_t1
  let v168 : Index := Scalar.indexCast arg12
  let c0_102 : Index := 0#32
  ![1, v168.toNat, 0]
def k0_off5 (k0_t1 : Fin k0_t1_loop.trips) : Fin 4 → Nat :=
  let c0_i32_33 : BitVec 32 := 0#32
  let c1_i32 : BitVec 32 := 1#32
  let arg12 : BitVec 32 := Scf.iv c0_i32_33 c1_i32 k0_t1
  let v222 : Index := Scalar.indexCast arg12
  let c2_125 : Index := 2#32
  let c0_126 : Index := 0#32
  let c0_127 : Index := 0#32
  ![v222.toNat, 2, 0, 0]
def k0_off6 (k0_t1 : Fin k0_t1_loop.trips) : Fin 3 → Nat :=
  let c2_128 : Index := 2#32
  let c0_i32_33 : BitVec 32 := 0#32
  let c1_i32 : BitVec 32 := 1#32
  let arg12 : BitVec 32 := Scf.iv c0_i32_33 c1_i32 k0_t1
  let v226 : Index := Scalar.indexCast arg12
  let c0_129 : Index := 0#32
  ![2, v226.toNat, 0]
def k0_off7 (k0_t1 : Fin k0_t1_loop.trips) : Fin 4 → Nat :=
  let c0_i32_33 : BitVec 32 := 0#32
  let c1_i32 : BitVec 32 := 1#32
  let arg12 : BitVec 32 := Scf.iv c0_i32_33 c1_i32 k0_t1
  let v280 : Index := Scalar.indexCast arg12
  let c3_152 : Index := 3#32
  let c0_153 : Index := 0#32
  let c0_154 : Index := 0#32
  ![v280.toNat, 3, 0, 0]
def k0_off8 (k0_t1 : Fin k0_t1_loop.trips) : Fin 3 → Nat :=
  let c3_155 : Index := 3#32
  let c0_i32_33 : BitVec 32 := 0#32
  let c1_i32 : BitVec 32 := 1#32
  let arg12 : BitVec 32 := Scf.iv c0_i32_33 c1_i32 k0_t1
  let v284 : Index := Scalar.indexCast arg12
  let c0_156 : Index := 0#32
  ![3, v284.toNat, 0]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S4x128x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x128x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4x128x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4x128x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S4x128x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x4x64x64 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨1, ![16], ![false]⟩

@[reducible] def k1_t1_loop : Scf.Loop 32 :=
  let c0_i32_57 : BitVec 32 := 0#32
  let c128_i32 : BitVec 32 := 128#32
  let v96 : BitVec 32 := Scalar.addi c0_i32_57 c128_i32
  let c1_i32 : BitVec 32 := 1#32
  ⟨c0_i32_57, v96, c1_i32⟩
def k1_off1 (k1_t1 : Fin k1_t1_loop.trips) : Fin 4 → Nat :=
  let c127_i32 : BitVec 32 := 127#32
  let c0_i32_57 : BitVec 32 := 0#32
  let c1_i32 : BitVec 32 := 1#32
  let arg19 : BitVec 32 := Scf.iv c0_i32_57 c1_i32 k1_t1
  let v146 : BitVec 32 := Scalar.subi c127_i32 arg19
  let v147 : Index := Scalar.indexCast v146
  let c0_95 : Index := 0#32
  let c0_96 : Index := 0#32
  let c0_97 : Index := 0#32
  ![v147.toNat, 0, 0, 0]
def k1_off2 (k1_t1 : Fin k1_t1_loop.trips) : Fin 3 → Nat :=
  let c0_98 : Index := 0#32
  let c127_i32 : BitVec 32 := 127#32
  let c0_i32_57 : BitVec 32 := 0#32
  let c1_i32 : BitVec 32 := 1#32
  let arg19 : BitVec 32 := Scf.iv c0_i32_57 c1_i32 k1_t1
  let v146 : BitVec 32 := Scalar.subi c127_i32 arg19
  let v150 : Index := Scalar.indexCast v146
  let c0_99 : Index := 0#32
  ![0, v150.toNat, 0]
def k1_off3 (k1_t1 : Fin k1_t1_loop.trips) : Fin 4 → Nat :=
  let c127_i32 : BitVec 32 := 127#32
  let c0_i32_57 : BitVec 32 := 0#32
  let c1_i32 : BitVec 32 := 1#32
  let arg19 : BitVec 32 := Scf.iv c0_i32_57 c1_i32 k1_t1
  let v146 : BitVec 32 := Scalar.subi c127_i32 arg19
  let v269 : Index := Scalar.indexCast v146
  let c1_143 : Index := 1#32
  let c0_144 : Index := 0#32
  let c0_145 : Index := 0#32
  ![v269.toNat, 1, 0, 0]
def k1_off4 (k1_t1 : Fin k1_t1_loop.trips) : Fin 3 → Nat :=
  let c1_146 : Index := 1#32
  let c127_i32 : BitVec 32 := 127#32
  let c0_i32_57 : BitVec 32 := 0#32
  let c1_i32 : BitVec 32 := 1#32
  let arg19 : BitVec 32 := Scf.iv c0_i32_57 c1_i32 k1_t1
  let v146 : BitVec 32 := Scalar.subi c127_i32 arg19
  let v272 : Index := Scalar.indexCast v146
  let c0_147 : Index := 0#32
  ![1, v272.toNat, 0]
def k1_off5 (k1_t1 : Fin k1_t1_loop.trips) : Fin 4 → Nat :=
  let c127_i32 : BitVec 32 := 127#32
  let c0_i32_57 : BitVec 32 := 0#32
  let c1_i32 : BitVec 32 := 1#32
  let arg19 : BitVec 32 := Scf.iv c0_i32_57 c1_i32 k1_t1
  let v146 : BitVec 32 := Scalar.subi c127_i32 arg19
  let v391 : Index := Scalar.indexCast v146
  let c2_191 : Index := 2#32
  let c0_192 : Index := 0#32
  let c0_193 : Index := 0#32
  ![v391.toNat, 2, 0, 0]
def k1_off6 (k1_t1 : Fin k1_t1_loop.trips) : Fin 3 → Nat :=
  let c2_194 : Index := 2#32
  let c127_i32 : BitVec 32 := 127#32
  let c0_i32_57 : BitVec 32 := 0#32
  let c1_i32 : BitVec 32 := 1#32
  let arg19 : BitVec 32 := Scf.iv c0_i32_57 c1_i32 k1_t1
  let v146 : BitVec 32 := Scalar.subi c127_i32 arg19
  let v394 : Index := Scalar.indexCast v146
  let c0_195 : Index := 0#32
  ![2, v394.toNat, 0]
def k1_off7 (k1_t1 : Fin k1_t1_loop.trips) : Fin 4 → Nat :=
  let c127_i32 : BitVec 32 := 127#32
  let c0_i32_57 : BitVec 32 := 0#32
  let c1_i32 : BitVec 32 := 1#32
  let arg19 : BitVec 32 := Scf.iv c0_i32_57 c1_i32 k1_t1
  let v146 : BitVec 32 := Scalar.subi c127_i32 arg19
  let v513 : Index := Scalar.indexCast v146
  let c3_239 : Index := 3#32
  let c0_240 : Index := 0#32
  let c0_241 : Index := 0#32
  ![v513.toNat, 3, 0, 0]
def k1_off8 (k1_t1 : Fin k1_t1_loop.trips) : Fin 3 → Nat :=
  let c3_242 : Index := 3#32
  let c127_i32 : BitVec 32 := 127#32
  let c0_i32_57 : BitVec 32 := 0#32
  let c1_i32 : BitVec 32 := 1#32
  let arg19 : BitVec 32 := Scf.iv c0_i32_57 c1_i32 k1_t1
  let v146 : BitVec 32 := Scalar.subi c127_i32 arg19
  let v516 : Index := Scalar.indexCast v146
  let c0_243 : Index := 0#32
  ![3, v516.toNat, 0]
def cc1_transform_0 (i : grid1.Coords) : Fin 3 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  let c0_i32_1 : BitVec 32 := 0#32
  ![c0_i32.toNat, v0.toNat, c0_i32_0.toNat]

def cc1_transform_1 (i : grid1.Coords) : Fin 3 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  let c0_i32_1 : BitVec 32 := 0#32
  ![c0_i32.toNat, v0.toNat, c0_i32_0.toNat]

def cc1_transform_2 (i : grid1.Coords) : Fin 3 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  let c0_i32_1 : BitVec 32 := 0#32
  ![c0_i32.toNat, v0.toNat, c0_i32_0.toNat]

def cc1_transform_3 (i : grid1.Coords) : Fin 3 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  let c0_i32_1 : BitVec 32 := 0#32
  ![c0_i32.toNat, v0.toNat, c0_i32_0.toNat]

def cc1_transform_4 (i : grid1.Coords) : Fin 3 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  let c0_i32_1 : BitVec 32 := 0#32
  ![c0_i32.toNat, v0.toNat, c0_i32_0.toNat]

def cc1_transform_5 (i : grid1.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc1_transform_6 (i : grid1.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc1_transform_7 (i : grid1.Coords) : Fin 4 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  let c0_i32_1 : BitVec 32 := 0#32
  let c0_i32_2 : BitVec 32 := 0#32
  ![v0.toNat, c0_i32.toNat, c0_i32_0.toNat, c0_i32_1.toNat]

def cc1_transform_8 (i : grid1.Coords) : Fin 3 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  let c0_i32_1 : BitVec 32 := 0#32
  ![c0_i32.toNat, v0.toNat, c0_i32_0.toNat]

def cc1_transform_9 (i : grid1.Coords) : Fin 3 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  let c0_i32_1 : BitVec 32 := 0#32
  ![c0_i32.toNat, v0.toNat, c0_i32_0.toNat]

def cc1_transform_10 (i : grid1.Coords) : Fin 3 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  let c0_i32_1 : BitVec 32 := 0#32
  ![c0_i32.toNat, v0.toNat, c0_i32_0.toNat]

def cc1_transform_11 (i : grid1.Coords) : Fin 3 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  let c0_i32_1 : BitVec 32 := 0#32
  ![c0_i32.toNat, v0.toNat, c0_i32_0.toNat]

def cc1_transform_12 (i : grid1.Coords) : Fin 3 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  let c0_i32_1 : BitVec 32 := 0#32
  ![c0_i32.toNat, v0.toNat, c0_i32_0.toNat]

def cc1_transform_13 (i : grid1.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

abbrev stage1_0 : Fin 2 → Memref sig .tc .vmem S4x128x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4x128x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S4x128x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S4x128x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S4x128x64 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S128x256 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S128x256 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S128x4x64x64 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev stage1_8 : Fin 2 → Memref sig .tc .vmem S4x128x64 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

abbrev stage1_9 : Fin 2 → Memref sig .tc .vmem S4x128x64 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

abbrev stage1_10 : Fin 2 → Memref sig .tc .vmem S4x128x64 .f32 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true]

abbrev stage1_11 : Fin 2 → Memref sig .tc .vmem S4x128x64 .f32 := fun | 0 => Memref.whole cc1_stg11_0 | 1 => Memref.whole cc1_stg11_1 | ⟨_ + 2, h⟩ => absurd h (Nat.not_lt.2 (Nat.le_add_left _ _))
abbrev sem1_11 : Fin 2 → DmaSem sig := fun | 0 => cc1_sem11_0 | 1 => cc1_sem11_1 | ⟨_ + 2, h⟩ => absurd h (Nat.not_lt.2 (Nat.le_add_left _ _))
abbrev reads1_11 : Fin grid1.rank → Bool := ![true]

abbrev stage1_12 : Fin 2 → Memref sig .tc .vmem S4x128x64 .f32 := fun | 0 => Memref.whole cc1_stg12_0 | 1 => Memref.whole cc1_stg12_1 | ⟨_ + 2, h⟩ => absurd h (Nat.not_lt.2 (Nat.le_add_left _ _))
abbrev sem1_12 : Fin 2 → DmaSem sig := fun | 0 => cc1_sem12_0 | 1 => cc1_sem12_1 | ⟨_ + 2, h⟩ => absurd h (Nat.not_lt.2 (Nat.le_add_left _ _))
abbrev reads1_12 : Fin grid1.rank → Bool := ![true]

abbrev stage1_13 : Fin 2 → Memref sig .tc .vmem S128x256 .f32 := fun | 0 => Memref.whole cc1_stg13_0 | 1 => Memref.whole cc1_stg13_1 | ⟨_ + 2, h⟩ => absurd h (Nat.not_lt.2 (Nat.le_add_left _ _))
abbrev sem1_13 : Fin 2 → DmaSem sig := fun | 0 => cc1_sem13_0 | 1 => cc1_sem13_1 | ⟨_ + 2, h⟩ => absurd h (Nat.not_lt.2 (Nat.le_add_left _ _))
abbrev reads1_13 : Fin grid1.rank → Bool := ![true]
-- ==== ReferenceIdeal.lean ====
abbrev S4x2048x64 : Shape := ⟨3, ![4, 2048, 64]⟩
abbrev S2048x256 : Shape := ⟨2, ![2048, 256]⟩
abbrev S2048x4x64 : Shape := ⟨3, ![2048, 4, 64]⟩
abbrev S1x2048x4x64 : Shape := ⟨4, ![1, 2048, 4, 64]⟩
abbrev S2048x1x4x64 : Shape := ⟨4, ![2048, 1, 4, 64]⟩
abbrev S_ : Shape := ⟨0, ![]⟩
abbrev S1x4x64x64 : Shape := ⟨4, ![1, 4, 64, 64]⟩
abbrev S2048x1x4x1x64 : Shape := ⟨5, ![2048, 1, 4, 1, 64]⟩
abbrev S2048x1x4x64x64 : Shape := ⟨5, ![2048, 1, 4, 64, 64]⟩
abbrev S2048x1x4x64x1 : Shape := ⟨5, ![2048, 1, 4, 64, 1]⟩
abbrev S1x1x4x64 : Shape := ⟨4, ![1, 1, 4, 64]⟩
abbrev S1x4x64 : Shape := ⟨3, ![1, 4, 64]⟩
abbrev S1x4x1x64 : Shape := ⟨4, ![1, 4, 1, 64]⟩
abbrev S1x4x64x1 : Shape := ⟨4, ![1, 4, 64, 1]⟩
abbrev S1x1x4x1x64 : Shape := ⟨5, ![1, 1, 4, 1, 64]⟩
abbrev S1x1x4x64x64 : Shape := ⟨5, ![1, 1, 4, 64, 64]⟩
abbrev S1x1x4x64x1 : Shape := ⟨5, ![1, 1, 4, 64, 1]⟩
abbrev S4x64 : Shape := ⟨2, ![4, 64]⟩

abbrev nBuf : Space → Nat
  | .hbm => 422
  | .vmem => 0
  | .smem => 0
  | _ => 0

abbrev hbmTy0_0 (i : Nat) : BufTy := match i % 128 with
  | 0 => ⟨S4x2048x64, .f32⟩
  | 1 => ⟨S4x2048x64, .f32⟩
  | 2 => ⟨S4x2048x64, .f32⟩
  | 3 => ⟨S2048x256, .f32⟩
  | 4 => ⟨S4x2048x64, .f32⟩
  | 5 => ⟨S4x2048x64, .f32⟩
  | 6 => ⟨S2048x256, .f32⟩
  | 7 => ⟨S2048x4x64, .f32⟩
  | 8 => ⟨S1x2048x4x64, .f32⟩
  | 9 => ⟨S2048x4x64, .f32⟩
  | 10 => ⟨S1x2048x4x64, .f32⟩
  | 11 => ⟨S2048x4x64, .f32⟩
  | 12 => ⟨S1x2048x4x64, .f32⟩
  | 13 => ⟨S1x2048x4x64, .f32⟩
  | 14 => ⟨S2048x4x64, .f32⟩
  | 15 => ⟨S1x2048x4x64, .f32⟩
  | 16 => ⟨S2048x4x64, .f32⟩
  | 17 => ⟨S1x2048x4x64, .f32⟩
  | 18 => ⟨S2048x1x4x64, .f32⟩
  | 19 => ⟨S2048x1x4x64, .f32⟩
  | 20 => ⟨S2048x1x4x64, .f32⟩
  | 21 => ⟨S2048x1x4x64, .f32⟩
  | 22 => ⟨S2048x1x4x64, .f32⟩
  | 23 => ⟨S2048x1x4x64, .f32⟩
  | 24 => ⟨S_, .f32⟩
  | 25 => ⟨S1x4x64x64, .f32⟩
  | 26 => ⟨S_, .f32⟩
  | 27 => ⟨S2048x1x4x64, .f32⟩
  | 28 => ⟨S_, .f32⟩
  | 29 => ⟨S2048x1x4x1x64, .f32⟩
  | 30 => ⟨S_, .f32⟩
  | 31 => ⟨S2048x1x4x64x64, .f32⟩
  | 32 => ⟨S_, .f32⟩
  | 33 => ⟨S2048x1x4x1x64, .f32⟩
  | 34 => ⟨S_, .f32⟩
  | 35 => ⟨S2048x1x4x1x64, .f32⟩
  | 36 => ⟨S_, .f32⟩
  | 37 => ⟨S2048x1x4x64x1, .f32⟩
  | 38 => ⟨S_, .f32⟩
  | 39 => ⟨S2048x1x4x1x64, .f32⟩
  | 40 => ⟨S_, .f32⟩
  | 41 => ⟨S2048x1x4x64x1, .f32⟩
  | 42 => ⟨S_, .f32⟩
  | 43 => ⟨S2048x1x4x1x64, .f32⟩
  | 44 => ⟨S_, .f32⟩
  | 45 => ⟨S2048x1x4x64x64, .f32⟩
  | 46 => ⟨S_, .i32⟩
  | 47 => ⟨S2048x1x4x64, .f32⟩
  | 48 => ⟨S2048x1x4x64, .f32⟩
  | 49 => ⟨S2048x1x4x64, .f32⟩
  | 50 => ⟨S2048x1x4x64, .f32⟩
  | 51 => ⟨S2048x1x4x64, .f32⟩
  | 52 => ⟨S2048x1x4x64, .f32⟩
  | 53 => ⟨S_, .i32⟩
  | 54 => ⟨S1x4x64x64, .f32⟩
  | 55 => ⟨S2048x1x4x64, .f32⟩
  | 56 => ⟨S2048x1x4x1x64, .f32⟩
  | 57 => ⟨S2048x1x4x64x64, .f32⟩
  | 58 => ⟨S2048x1x4x1x64, .f32⟩
  | 59 => ⟨S2048x1x4x1x64, .f32⟩
  | 60 => ⟨S2048x1x4x64x1, .f32⟩
  | 61 => ⟨S2048x1x4x1x64, .f32⟩
  | 62 => ⟨S2048x1x4x64x1, .f32⟩
  | 63 => ⟨S2048x1x4x1x64, .f32⟩
  | 64 => ⟨S2048x1x4x64x64, .f32⟩
  | 65 => ⟨S_, .i32⟩
  | 66 => ⟨S_, .i1⟩
  | 67 => ⟨S_, .i32⟩
  | 68 => ⟨S_, .i32⟩
  | 69 => ⟨S_, .i32⟩
  | 70 => ⟨S1x1x4x64, .f32⟩
  | 71 => ⟨S1x4x64, .f32⟩
  | 72 => ⟨S_, .i32⟩
  | 73 => ⟨S_, .i32⟩
  | 74 => ⟨S_, .i32⟩
  | 75 => ⟨S1x1x4x64, .f32⟩
  | 76 => ⟨S1x4x64, .f32⟩
  | 77 => ⟨S_, .i32⟩
  | 78 => ⟨S_, .i32⟩
  | 79 => ⟨S_, .i32⟩
  | 80 => ⟨S1x1x4x64, .f32⟩
  | 81 => ⟨S1x4x64, .f32⟩
  | 82 => ⟨S_, .i32⟩
  | 83 => ⟨S_, .i32⟩
  | 84 => ⟨S_, .i32⟩
  | 85 => ⟨S1x1x4x64, .f32⟩
  | 86 => ⟨S1x4x64, .f32⟩
  | 87 => ⟨S_, .i32⟩
  | 88 => ⟨S_, .i32⟩
  | 89 => ⟨S_, .i32⟩
  | 90 => ⟨S1x1x4x64, .f32⟩
  | 91 => ⟨S1x4x64, .f32⟩
  | 92 => ⟨S_, .i32⟩
  | 93 => ⟨S_, .i32⟩
  | 94 => ⟨S_, .i32⟩
  | 95 => ⟨S1x1x4x64, .f32⟩
  | 96 => ⟨S1x4x64, .f32⟩
  | 97 => ⟨S1x4x64, .f32⟩
  | 98 => ⟨S1x4x1x64, .f32⟩
  | 99 => ⟨S1x4x64x64, .f32⟩
  | 100 => ⟨S1x4x64x64, .f32⟩
  | 101 => ⟨S_, .f32⟩
  | 102 => ⟨S1x4x64, .f32⟩
  | 103 => ⟨S1x4x1x64, .f32⟩
  | 104 => ⟨S1x4x64x64, .f32⟩
  | 105 => ⟨S1x4x64x64, .f32⟩
  | 106 => ⟨S1x4x64x1, .f32⟩
  | 107 => ⟨S1x4x64, .f32⟩
  | 108 => ⟨S1x4x1x64, .f32⟩
  | 109 => ⟨S1x4x64x64, .f32⟩
  | 110 => ⟨S1x4x64x64, .f32⟩
  | 111 => ⟨S1x4x64x64, .f32⟩
  | 112 => ⟨S1x4x64x64, .f32⟩
  | 113 => ⟨S1x4x64x1, .f32⟩
  | 114 => ⟨S1x4x1x64, .f32⟩
  | 115 => ⟨S1x4x64x64, .f32⟩
  | 116 => ⟨S1x4x64x64, .f32⟩
  | 117 => ⟨S1x4x64x64, .f32⟩
  | 118 => ⟨S1x4x64x64, .f32⟩
  | 119 => ⟨S1x4x1x64, .f32⟩
  | 120 => ⟨S1x4x64x64, .f32⟩
  | 121 => ⟨S1x4x64x64, .f32⟩
  | 122 => ⟨S_, .f32⟩
  | 123 => ⟨S1x4x64, .f32⟩
  | 124 => ⟨S1x1x4x64, .f32⟩
  | 125 => ⟨S_, .i32⟩
  | 126 => ⟨S_, .i32⟩
  | 127 => ⟨S_, .i32⟩
  | _ => ⟨S4x2048x64, .f32⟩

abbrev hbmTy0_1 (i : Nat) : BufTy := match i % 128 with
  | 0 => ⟨S2048x1x4x64, .f32⟩
  | 1 => ⟨S1x1x4x1x64, .f32⟩
  | 2 => ⟨S_, .i32⟩
  | 3 => ⟨S_, .i32⟩
  | 4 => ⟨S_, .i32⟩
  | 5 => ⟨S_, .i32⟩
  | 6 => ⟨S2048x1x4x1x64, .f32⟩
  | 7 => ⟨S1x1x4x64x64, .f32⟩
  | 8 => ⟨S_, .i32⟩
  | 9 => ⟨S_, .i32⟩
  | 10 => ⟨S_, .i32⟩
  | 11 => ⟨S_, .i32⟩
  | 12 => ⟨S2048x1x4x64x64, .f32⟩
  | 13 => ⟨S1x1x4x1x64, .f32⟩
  | 14 => ⟨S_, .i32⟩
  | 15 => ⟨S_, .i32⟩
  | 16 => ⟨S_, .i32⟩
  | 17 => ⟨S_, .i32⟩
  | 18 => ⟨S2048x1x4x1x64, .f32⟩
  | 19 => ⟨S1x1x4x1x64, .f32⟩
  | 20 => ⟨S_, .i32⟩
  | 21 => ⟨S_, .i32⟩
  | 22 => ⟨S_, .i32⟩
  | 23 => ⟨S_, .i32⟩
  | 24 => ⟨S2048x1x4x1x64, .f32⟩
  | 25 => ⟨S1x1x4x64x1, .f32⟩
  | 26 => ⟨S_, .i32⟩
  | 27 => ⟨S_, .i32⟩
  | 28 => ⟨S_, .i32⟩
  | 29 => ⟨S_, .i32⟩
  | 30 => ⟨S2048x1x4x64x1, .f32⟩
  | 31 => ⟨S1x1x4x1x64, .f32⟩
  | 32 => ⟨S_, .i32⟩
  | 33 => ⟨S_, .i32⟩
  | 34 => ⟨S_, .i32⟩
  | 35 => ⟨S_, .i32⟩
  | 36 => ⟨S2048x1x4x1x64, .f32⟩
  | 37 => ⟨S1x1x4x64x1, .f32⟩
  | 38 => ⟨S_, .i32⟩
  | 39 => ⟨S_, .i32⟩
  | 40 => ⟨S_, .i32⟩
  | 41 => ⟨S_, .i32⟩
  | 42 => ⟨S2048x1x4x64x1, .f32⟩
  | 43 => ⟨S1x1x4x1x64, .f32⟩
  | 44 => ⟨S_, .i32⟩
  | 45 => ⟨S_, .i32⟩
  | 46 => ⟨S_, .i32⟩
  | 47 => ⟨S_, .i32⟩
  | 48 => ⟨S2048x1x4x1x64, .f32⟩
  | 49 => ⟨S1x1x4x64x64, .f32⟩
  | 50 => ⟨S_, .i32⟩
  | 51 => ⟨S_, .i32⟩
  | 52 => ⟨S_, .i32⟩
  | 53 => ⟨S_, .i32⟩
  | 54 => ⟨S2048x1x4x64x64, .f32⟩
  | 55 => ⟨S_, .i32⟩
  | 56 => ⟨S_, .i32⟩
  | 57 => ⟨S1x2048x4x64, .f32⟩
  | 58 => ⟨S2048x256, .f32⟩
  | 59 => ⟨S_, .f32⟩
  | 60 => ⟨S1x4x64x64, .f32⟩
  | 61 => ⟨S1x2048x4x64, .f32⟩
  | 62 => ⟨S2048x1x4x64, .f32⟩
  | 63 => ⟨S_, .f32⟩
  | 64 => ⟨S1x4x64x64, .f32⟩
  | 65 => ⟨S_, .f32⟩
  | 66 => ⟨S2048x1x4x64, .f32⟩
  | 67 => ⟨S_, .f32⟩
  | 68 => ⟨S2048x1x4x64, .f32⟩
  | 69 => ⟨S_, .f32⟩
  | 70 => ⟨S2048x1x4x64, .f32⟩
  | 71 => ⟨S_, .f32⟩
  | 72 => ⟨S2048x1x4x64, .f32⟩
  | 73 => ⟨S_, .f32⟩
  | 74 => ⟨S2048x1x4x64, .f32⟩
  | 75 => ⟨S_, .f32⟩
  | 76 => ⟨S2048x1x4x64, .f32⟩
  | 77 => ⟨S_, .i32⟩
  | 78 => ⟨S2048x1x4x64, .f32⟩
  | 79 => ⟨S2048x1x4x1x64, .f32⟩
  | 80 => ⟨S2048x1x4x64x64, .f32⟩
  | 81 => ⟨S2048x1x4x1x64, .f32⟩
  | 82 => ⟨S2048x1x4x64, .f32⟩
  | 83 => ⟨S2048x1x4x64, .f32⟩
  | 84 => ⟨S2048x1x4x1x64, .f32⟩
  | 85 => ⟨S2048x1x4x64x1, .f32⟩
  | 86 => ⟨S2048x1x4x1x64, .f32⟩
  | 87 => ⟨S2048x1x4x64x1, .f32⟩
  | 88 => ⟨S2048x1x4x1x64, .f32⟩
  | 89 => ⟨S2048x1x4x64x64, .f32⟩
  | 90 => ⟨S_, .i32⟩
  | 91 => ⟨S1x4x64x64, .f32⟩
  | 92 => ⟨S2048x1x4x64, .f32⟩
  | 93 => ⟨S2048x1x4x64, .f32⟩
  | 94 => ⟨S2048x1x4x64, .f32⟩
  | 95 => ⟨S2048x1x4x64, .f32⟩
  | 96 => ⟨S2048x1x4x64, .f32⟩
  | 97 => ⟨S2048x1x4x64, .f32⟩
  | 98 => ⟨S_, .i32⟩
  | 99 => ⟨S_, .i1⟩
  | 100 => ⟨S_, .i32⟩
  | 101 => ⟨S_, .i32⟩
  | 102 => ⟨S_, .i32⟩
  | 103 => ⟨S_, .i32⟩
  | 104 => ⟨S_, .i32⟩
  | 105 => ⟨S_, .i32⟩
  | 106 => ⟨S_, .i32⟩
  | 107 => ⟨S1x1x4x64, .f32⟩
  | 108 => ⟨S1x4x64, .f32⟩
  | 109 => ⟨S_, .i32⟩
  | 110 => ⟨S_, .i32⟩
  | 111 => ⟨S_, .i32⟩
  | 112 => ⟨S_, .i32⟩
  | 113 => ⟨S1x1x4x1x64, .f32⟩
  | 114 => ⟨S1x4x1x64, .f32⟩
  | 115 => ⟨S_, .i32⟩
  | 116 => ⟨S_, .i32⟩
  | 117 => ⟨S_, .i32⟩
  | 118 => ⟨S_, .i32⟩
  | 119 => ⟨S1x1x4x64x64, .f32⟩
  | 120 => ⟨S1x4x64x64, .f32⟩
  | 121 => ⟨S_, .i32⟩
  | 122 => ⟨S_, .i32⟩
  | 123 => ⟨S_, .i32⟩
  | 124 => ⟨S_, .i32⟩
  | 125 => ⟨S1x1x4x1x64, .f32⟩
  | 126 => ⟨S1x4x1x64, .f32⟩
  | 127 => ⟨S_, .i32⟩
  | _ => ⟨S4x2048x64, .f32⟩

abbrev hbmTy0_2 (i : Nat) : BufTy := match i % 128 with
  | 0 => ⟨S_, .i32⟩
  | 1 => ⟨S_, .i32⟩
  | 2 => ⟨S1x1x4x64, .f32⟩
  | 3 => ⟨S1x4x64, .f32⟩
  | 4 => ⟨S_, .i32⟩
  | 5 => ⟨S_, .i32⟩
  | 6 => ⟨S_, .i32⟩
  | 7 => ⟨S1x1x4x64, .f32⟩
  | 8 => ⟨S1x4x64, .f32⟩
  | 9 => ⟨S_, .i32⟩
  | 10 => ⟨S_, .i32⟩
  | 11 => ⟨S_, .i32⟩
  | 12 => ⟨S_, .i32⟩
  | 13 => ⟨S1x1x4x1x64, .f32⟩
  | 14 => ⟨S1x4x1x64, .f32⟩
  | 15 => ⟨S_, .i32⟩
  | 16 => ⟨S_, .i32⟩
  | 17 => ⟨S_, .i32⟩
  | 18 => ⟨S_, .i32⟩
  | 19 => ⟨S1x1x4x64x1, .f32⟩
  | 20 => ⟨S1x4x64x1, .f32⟩
  | 21 => ⟨S_, .i32⟩
  | 22 => ⟨S_, .i32⟩
  | 23 => ⟨S_, .i32⟩
  | 24 => ⟨S_, .i32⟩
  | 25 => ⟨S1x1x4x1x64, .f32⟩
  | 26 => ⟨S1x4x1x64, .f32⟩
  | 27 => ⟨S_, .i32⟩
  | 28 => ⟨S_, .i32⟩
  | 29 => ⟨S_, .i32⟩
  | 30 => ⟨S_, .i32⟩
  | 31 => ⟨S1x1x4x64x1, .f32⟩
  | 32 => ⟨S1x4x64x1, .f32⟩
  | 33 => ⟨S_, .i32⟩
  | 34 => ⟨S_, .i32⟩
  | 35 => ⟨S_, .i32⟩
  | 36 => ⟨S_, .i32⟩
  | 37 => ⟨S1x1x4x1x64, .f32⟩
  | 38 => ⟨S1x4x1x64, .f32⟩
  | 39 => ⟨S_, .i32⟩
  | 40 => ⟨S_, .i32⟩
  | 41 => ⟨S_, .i32⟩
  | 42 => ⟨S_, .i32⟩
  | 43 => ⟨S1x1x4x64x64, .f32⟩
  | 44 => ⟨S1x4x64x64, .f32⟩
  | 45 => ⟨S1x4x64x64, .f32⟩
  | 46 => ⟨S1x4x64x64, .f32⟩
  | 47 => ⟨S_, .f32⟩
  | 48 => ⟨S1x4x64, .f32⟩
  | 49 => ⟨S1x4x1x64, .f32⟩
  | 50 => ⟨S1x4x64x64, .f32⟩
  | 51 => ⟨S1x4x64x64, .f32⟩
  | 52 => ⟨S1x4x64x64, .f32⟩
  | 53 => ⟨S_, .f32⟩
  | 54 => ⟨S4x64, .f32⟩
  | 55 => ⟨S1x4x64, .f32⟩
  | 56 => ⟨S1x4x64x64, .f32⟩
  | 57 => ⟨S1x4x64x64, .f32⟩
  | 58 => ⟨S_, .f32⟩
  | 59 => ⟨S1x4x64, .f32⟩
  | 60 => ⟨S1x4x1x64, .f32⟩
  | 61 => ⟨S1x4x64x64, .f32⟩
  | 62 => ⟨S1x4x64x64, .f32⟩
  | 63 => ⟨S_, .f32⟩
  | 64 => ⟨S1x4x64, .f32⟩
  | 65 => ⟨S1x4x64x1, .f32⟩
  | 66 => ⟨S_, .f32⟩
  | 67 => ⟨S4x64, .f32⟩
  | 68 => ⟨S1x4x64, .f32⟩
  | 69 => ⟨S_, .f32⟩
  | 70 => ⟨S4x64, .f32⟩
  | 71 => ⟨S1x4x64, .f32⟩
  | 72 => ⟨S1x4x64x64, .f32⟩
  | 73 => ⟨S1x4x64x64, .f32⟩
  | 74 => ⟨S_, .f32⟩
  | 75 => ⟨S1x4x64, .f32⟩
  | 76 => ⟨S1x4x1x64, .f32⟩
  | 77 => ⟨S1x4x64x64, .f32⟩
  | 78 => ⟨S1x4x64x64, .f32⟩
  | 79 => ⟨S_, .f32⟩
  | 80 => ⟨S1x4x64, .f32⟩
  | 81 => ⟨S1x4x64x1, .f32⟩
  | 82 => ⟨S_, .f32⟩
  | 83 => ⟨S4x64, .f32⟩
  | 84 => ⟨S1x4x64, .f32⟩
  | 85 => ⟨S1x4x64, .f32⟩
  | 86 => ⟨S1x4x64, .f32⟩
  | 87 => ⟨S_, .f32⟩
  | 88 => ⟨S4x64, .f32⟩
  | 89 => ⟨S1x4x64, .f32⟩
  | 90 => ⟨S1x4x64x64, .f32⟩
  | 91 => ⟨S_, .f32⟩
  | 92 => ⟨S1x4x64, .f32⟩
  | 93 => ⟨S1x4x1x64, .f32⟩
  | 94 => ⟨S1x4x64x64, .f32⟩
  | 95 => ⟨S1x4x64x64, .f32⟩
  | 96 => ⟨S_, .f32⟩
  | 97 => ⟨S4x64, .f32⟩
  | 98 => ⟨S1x4x64, .f32⟩
  | 99 => ⟨S1x4x64x64, .f32⟩
  | 100 => ⟨S1x4x64x64, .f32⟩
  | 101 => ⟨S_, .f32⟩
  | 102 => ⟨S1x4x64, .f32⟩
  | 103 => ⟨S1x4x1x64, .f32⟩
  | 104 => ⟨S1x4x64x64, .f32⟩
  | 105 => ⟨S1x4x64x64, .f32⟩
  | 106 => ⟨S1x4x64x64, .f32⟩
  | 107 => ⟨S_, .f32⟩
  | 108 => ⟨S4x64, .f32⟩
  | 109 => ⟨S1x4x64, .f32⟩
  | 110 => ⟨S1x4x64, .f32⟩
  | 111 => ⟨S1x4x64, .f32⟩
  | 112 => ⟨S1x1x4x64, .f32⟩
  | 113 => ⟨S_, .i32⟩
  | 114 => ⟨S_, .i32⟩
  | 115 => ⟨S_, .i32⟩
  | 116 => ⟨S2048x1x4x64, .f32⟩
  | 117 => ⟨S1x1x4x64, .f32⟩
  | 118 => ⟨S_, .i32⟩
  | 119 => ⟨S_, .i32⟩
  | 120 => ⟨S_, .i32⟩
  | 121 => ⟨S2048x1x4x64, .f32⟩
  | 122 => ⟨S1x1x4x64, .f32⟩
  | 123 => ⟨S_, .i32⟩
  | 124 => ⟨S_, .i32⟩
  | 125 => ⟨S_, .i32⟩
  | 126 => ⟨S2048x1x4x64, .f32⟩
  | 127 => ⟨S1x1x4x64, .f32⟩
  | _ => ⟨S4x2048x64, .f32⟩

abbrev hbmTy0_3 (i : Nat) : BufTy := match i % 128 with
  | 0 => ⟨S_, .i32⟩
  | 1 => ⟨S_, .i32⟩
  | 2 => ⟨S_, .i32⟩
  | 3 => ⟨S2048x1x4x64, .f32⟩
  | 4 => ⟨S1x1x4x64, .f32⟩
  | 5 => ⟨S_, .i32⟩
  | 6 => ⟨S_, .i32⟩
  | 7 => ⟨S_, .i32⟩
  | 8 => ⟨S2048x1x4x64, .f32⟩
  | 9 => ⟨S1x1x4x64, .f32⟩
  | 10 => ⟨S_, .i32⟩
  | 11 => ⟨S_, .i32⟩
  | 12 => ⟨S_, .i32⟩
  | 13 => ⟨S2048x1x4x64, .f32⟩
  | 14 => ⟨S_, .i32⟩
  | 15 => ⟨S_, .i32⟩
  | 16 => ⟨S1x2048x4x64, .f32⟩
  | 17 => ⟨S1x2048x4x64, .f32⟩
  | 18 => ⟨S1x2048x4x64, .f32⟩
  | 19 => ⟨S1x2048x4x64, .f32⟩
  | 20 => ⟨S1x2048x4x64, .f32⟩
  | 21 => ⟨S1x2048x4x64, .f32⟩
  | 22 => ⟨S_, .f32⟩
  | 23 => ⟨S2048x4x64, .f32⟩
  | 24 => ⟨S4x2048x64, .f32⟩
  | 25 => ⟨S_, .f32⟩
  | 26 => ⟨S2048x4x64, .f32⟩
  | 27 => ⟨S4x2048x64, .f32⟩
  | 28 => ⟨S2048x256, .f32⟩
  | 29 => ⟨S_, .f32⟩
  | 30 => ⟨S2048x4x64, .f32⟩
  | 31 => ⟨S4x2048x64, .f32⟩
  | 32 => ⟨S_, .f32⟩
  | 33 => ⟨S2048x4x64, .f32⟩
  | 34 => ⟨S4x2048x64, .f32⟩
  | 35 => ⟨S_, .f32⟩
  | 36 => ⟨S2048x4x64, .f32⟩
  | 37 => ⟨S4x2048x64, .f32⟩
  | _ => ⟨S4x2048x64, .f32⟩

abbrev hbmTy (i : Nat) : BufTy := match i / 128 with
  | 0 => hbmTy0_0 i
  | 1 => hbmTy0_1 i
  | 2 => hbmTy0_2 i
  | 3 => hbmTy0_3 i
  | _ => ⟨S4x2048x64, .f32⟩

abbrev bufTy : (tb : Table) → Fin (tcTables nBuf tb) → BufTy
  | .hbm, ⟨i, _⟩ => hbmTy i
  | _, _ => ⟨S4x2048x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst : Ref sig .tc := ⟨.hbm, 24, rfl⟩
abbrev main_v17 : Ref sig .tc := ⟨.hbm, 25, rfl⟩
abbrev main_cst_0 : Ref sig .tc := ⟨.hbm, 26, rfl⟩
abbrev main_v18 : Ref sig .tc := ⟨.hbm, 27, rfl⟩
abbrev main_cst_1 : Ref sig .tc := ⟨.hbm, 28, rfl⟩
abbrev main_v19 : Ref sig .tc := ⟨.hbm, 29, rfl⟩
abbrev main_cst_2 : Ref sig .tc := ⟨.hbm, 30, rfl⟩
abbrev main_v20 : Ref sig .tc := ⟨.hbm, 31, rfl⟩
abbrev main_cst_3 : Ref sig .tc := ⟨.hbm, 32, rfl⟩
abbrev main_v21 : Ref sig .tc := ⟨.hbm, 33, rfl⟩
abbrev main_cst_4 : Ref sig .tc := ⟨.hbm, 34, rfl⟩
abbrev main_v22 : Ref sig .tc := ⟨.hbm, 35, rfl⟩
abbrev main_cst_5 : Ref sig .tc := ⟨.hbm, 36, rfl⟩
abbrev main_v23 : Ref sig .tc := ⟨.hbm, 37, rfl⟩
abbrev main_cst_6 : Ref sig .tc := ⟨.hbm, 38, rfl⟩
abbrev main_v24 : Ref sig .tc := ⟨.hbm, 39, rfl⟩
abbrev main_cst_7 : Ref sig .tc := ⟨.hbm, 40, rfl⟩
abbrev main_v25 : Ref sig .tc := ⟨.hbm, 41, rfl⟩
abbrev main_cst_8 : Ref sig .tc := ⟨.hbm, 42, rfl⟩
abbrev main_v26 : Ref sig .tc := ⟨.hbm, 43, rfl⟩
abbrev main_cst_9 : Ref sig .tc := ⟨.hbm, 44, rfl⟩
abbrev main_v27 : Ref sig .tc := ⟨.hbm, 45, rfl⟩
abbrev main_c : Ref sig .tc := ⟨.hbm, 46, rfl⟩
abbrev main_v28_0 : Ref sig .tc := ⟨.hbm, 47, rfl⟩
abbrev main_v28_1 : Ref sig .tc := ⟨.hbm, 48, rfl⟩
abbrev main_v28_2 : Ref sig .tc := ⟨.hbm, 49, rfl⟩
abbrev main_v28_3 : Ref sig .tc := ⟨.hbm, 50, rfl⟩
abbrev main_v28_4 : Ref sig .tc := ⟨.hbm, 51, rfl⟩
abbrev main_v28_5 : Ref sig .tc := ⟨.hbm, 52, rfl⟩
abbrev main_v28_6 : Ref sig .tc := ⟨.hbm, 53, rfl⟩
abbrev main_v28_7 : Ref sig .tc := ⟨.hbm, 54, rfl⟩
abbrev main_v28_8 : Ref sig .tc := ⟨.hbm, 55, rfl⟩
abbrev main_v28_9 : Ref sig .tc := ⟨.hbm, 56, rfl⟩
abbrev main_v28_10 : Ref sig .tc := ⟨.hbm, 57, rfl⟩
abbrev main_v28_11 : Ref sig .tc := ⟨.hbm, 58, rfl⟩
abbrev main_v28_12 : Ref sig .tc := ⟨.hbm, 59, rfl⟩
abbrev main_v28_13 : Ref sig .tc := ⟨.hbm, 60, rfl⟩
abbrev main_v28_14 : Ref sig .tc := ⟨.hbm, 61, rfl⟩
abbrev main_v28_15 : Ref sig .tc := ⟨.hbm, 62, rfl⟩
abbrev main_v28_16 : Ref sig .tc := ⟨.hbm, 63, rfl⟩
abbrev main_v28_17 : Ref sig .tc := ⟨.hbm, 64, rfl⟩
abbrev main_while0c_c_41 : Ref sig .tc := ⟨.hbm, 65, rfl⟩
abbrev main_while0c_v59 : Ref sig .tc := ⟨.hbm, 66, rfl⟩
abbrev main_while0b_call0_c : Ref sig .tc := ⟨.hbm, 67, rfl⟩
abbrev main_while0b_call0_c_0 : Ref sig .tc := ⟨.hbm, 68, rfl⟩
abbrev main_while0b_call0_c_1 : Ref sig .tc := ⟨.hbm, 69, rfl⟩
abbrev main_while0b_call0_v0 : Ref sig .tc := ⟨.hbm, 70, rfl⟩
abbrev main_while0b_v59 : Ref sig .tc := ⟨.hbm, 71, rfl⟩
abbrev main_while0b_call1_c : Ref sig .tc := ⟨.hbm, 72, rfl⟩
abbrev main_while0b_call1_c_0 : Ref sig .tc := ⟨.hbm, 73, rfl⟩
abbrev main_while0b_call1_c_1 : Ref sig .tc := ⟨.hbm, 74, rfl⟩
abbrev main_while0b_call1_v0 : Ref sig .tc := ⟨.hbm, 75, rfl⟩
abbrev main_while0b_v60 : Ref sig .tc := ⟨.hbm, 76, rfl⟩
abbrev main_while0b_call2_c : Ref sig .tc := ⟨.hbm, 77, rfl⟩
abbrev main_while0b_call2_c_0 : Ref sig .tc := ⟨.hbm, 78, rfl⟩
abbrev main_while0b_call2_c_1 : Ref sig .tc := ⟨.hbm, 79, rfl⟩
abbrev main_while0b_call2_v0 : Ref sig .tc := ⟨.hbm, 80, rfl⟩
abbrev main_while0b_v61 : Ref sig .tc := ⟨.hbm, 81, rfl⟩
abbrev main_while0b_call3_c : Ref sig .tc := ⟨.hbm, 82, rfl⟩
abbrev main_while0b_call3_c_0 : Ref sig .tc := ⟨.hbm, 83, rfl⟩
abbrev main_while0b_call3_c_1 : Ref sig .tc := ⟨.hbm, 84, rfl⟩
abbrev main_while0b_call3_v0 : Ref sig .tc := ⟨.hbm, 85, rfl⟩
abbrev main_while0b_v62 : Ref sig .tc := ⟨.hbm, 86, rfl⟩
abbrev main_while0b_call4_c : Ref sig .tc := ⟨.hbm, 87, rfl⟩
abbrev main_while0b_call4_c_0 : Ref sig .tc := ⟨.hbm, 88, rfl⟩
abbrev main_while0b_call4_c_1 : Ref sig .tc := ⟨.hbm, 89, rfl⟩
abbrev main_while0b_call4_v0 : Ref sig .tc := ⟨.hbm, 90, rfl⟩
abbrev main_while0b_v63 : Ref sig .tc := ⟨.hbm, 91, rfl⟩
abbrev main_while0b_call5_c : Ref sig .tc := ⟨.hbm, 92, rfl⟩
abbrev main_while0b_call5_c_0 : Ref sig .tc := ⟨.hbm, 93, rfl⟩
abbrev main_while0b_call5_c_1 : Ref sig .tc := ⟨.hbm, 94, rfl⟩
abbrev main_while0b_call5_v0 : Ref sig .tc := ⟨.hbm, 95, rfl⟩
abbrev main_while0b_v64 : Ref sig .tc := ⟨.hbm, 96, rfl⟩
abbrev main_while0b_v65 : Ref sig .tc := ⟨.hbm, 97, rfl⟩
abbrev main_while0b_v66 : Ref sig .tc := ⟨.hbm, 98, rfl⟩
abbrev main_while0b_v67 : Ref sig .tc := ⟨.hbm, 99, rfl⟩
abbrev main_while0b_v68 : Ref sig .tc := ⟨.hbm, 100, rfl⟩
abbrev main_while0b_cst_41 : Ref sig .tc := ⟨.hbm, 101, rfl⟩
abbrev main_while0b_v69 : Ref sig .tc := ⟨.hbm, 102, rfl⟩
abbrev main_while0b_v70 : Ref sig .tc := ⟨.hbm, 103, rfl⟩
abbrev main_while0b_v71 : Ref sig .tc := ⟨.hbm, 104, rfl⟩
abbrev main_while0b_v72 : Ref sig .tc := ⟨.hbm, 105, rfl⟩
abbrev main_while0b_v73 : Ref sig .tc := ⟨.hbm, 106, rfl⟩
abbrev main_while0b_v74 : Ref sig .tc := ⟨.hbm, 107, rfl⟩
abbrev main_while0b_v75 : Ref sig .tc := ⟨.hbm, 108, rfl⟩
abbrev main_while0b_v76 : Ref sig .tc := ⟨.hbm, 109, rfl⟩
abbrev main_while0b_v77 : Ref sig .tc := ⟨.hbm, 110, rfl⟩
abbrev main_while0b_v78 : Ref sig .tc := ⟨.hbm, 111, rfl⟩
abbrev main_while0b_v79 : Ref sig .tc := ⟨.hbm, 112, rfl⟩
abbrev main_while0b_v80 : Ref sig .tc := ⟨.hbm, 113, rfl⟩
abbrev main_while0b_v81 : Ref sig .tc := ⟨.hbm, 114, rfl⟩
abbrev main_while0b_v82 : Ref sig .tc := ⟨.hbm, 115, rfl⟩
abbrev main_while0b_v83 : Ref sig .tc := ⟨.hbm, 116, rfl⟩
abbrev main_while0b_v84 : Ref sig .tc := ⟨.hbm, 117, rfl⟩
abbrev main_while0b_v85 : Ref sig .tc := ⟨.hbm, 118, rfl⟩
abbrev main_while0b_v86 : Ref sig .tc := ⟨.hbm, 119, rfl⟩
abbrev main_while0b_v87 : Ref sig .tc := ⟨.hbm, 120, rfl⟩
abbrev main_while0b_v88 : Ref sig .tc := ⟨.hbm, 121, rfl⟩
abbrev main_while0b_cst_42 : Ref sig .tc := ⟨.hbm, 122, rfl⟩
abbrev main_while0b_v89 : Ref sig .tc := ⟨.hbm, 123, rfl⟩
abbrev main_while0b_call6_v0 : Ref sig .tc := ⟨.hbm, 124, rfl⟩
abbrev main_while0b_call6_c : Ref sig .tc := ⟨.hbm, 125, rfl⟩
abbrev main_while0b_call6_c_0 : Ref sig .tc := ⟨.hbm, 126, rfl⟩
abbrev main_while0b_call6_c_1 : Ref sig .tc := ⟨.hbm, 127, rfl⟩
abbrev main_while0b_v90 : Ref sig .tc := ⟨.hbm, 128, rfl⟩
abbrev main_while0b_call7_v0 : Ref sig .tc := ⟨.hbm, 129, rfl⟩
abbrev main_while0b_call7_c : Ref sig .tc := ⟨.hbm, 130, rfl⟩
abbrev main_while0b_call7_c_0 : Ref sig .tc := ⟨.hbm, 131, rfl⟩
abbrev main_while0b_call7_c_1 : Ref sig .tc := ⟨.hbm, 132, rfl⟩
abbrev main_while0b_call7_c_2 : Ref sig .tc := ⟨.hbm, 133, rfl⟩
abbrev main_while0b_v91 : Ref sig .tc := ⟨.hbm, 134, rfl⟩
abbrev main_while0b_call8_v0 : Ref sig .tc := ⟨.hbm, 135, rfl⟩
abbrev main_while0b_call8_c : Ref sig .tc := ⟨.hbm, 136, rfl⟩
abbrev main_while0b_call8_c_0 : Ref sig .tc := ⟨.hbm, 137, rfl⟩
abbrev main_while0b_call8_c_1 : Ref sig .tc := ⟨.hbm, 138, rfl⟩
abbrev main_while0b_call8_c_2 : Ref sig .tc := ⟨.hbm, 139, rfl⟩
abbrev main_while0b_v92 : Ref sig .tc := ⟨.hbm, 140, rfl⟩
abbrev main_while0b_call9_v0 : Ref sig .tc := ⟨.hbm, 141, rfl⟩
abbrev main_while0b_call9_c : Ref sig .tc := ⟨.hbm, 142, rfl⟩
abbrev main_while0b_call9_c_0 : Ref sig .tc := ⟨.hbm, 143, rfl⟩
abbrev main_while0b_call9_c_1 : Ref sig .tc := ⟨.hbm, 144, rfl⟩
abbrev main_while0b_call9_c_2 : Ref sig .tc := ⟨.hbm, 145, rfl⟩
abbrev main_while0b_v93 : Ref sig .tc := ⟨.hbm, 146, rfl⟩
abbrev main_while0b_call10_v0 : Ref sig .tc := ⟨.hbm, 147, rfl⟩
abbrev main_while0b_call10_c : Ref sig .tc := ⟨.hbm, 148, rfl⟩
abbrev main_while0b_call10_c_0 : Ref sig .tc := ⟨.hbm, 149, rfl⟩
abbrev main_while0b_call10_c_1 : Ref sig .tc := ⟨.hbm, 150, rfl⟩
abbrev main_while0b_call10_c_2 : Ref sig .tc := ⟨.hbm, 151, rfl⟩
abbrev main_while0b_v94 : Ref sig .tc := ⟨.hbm, 152, rfl⟩
abbrev main_while0b_call11_v0 : Ref sig .tc := ⟨.hbm, 153, rfl⟩
abbrev main_while0b_call11_c : Ref sig .tc := ⟨.hbm, 154, rfl⟩
abbrev main_while0b_call11_c_0 : Ref sig .tc := ⟨.hbm, 155, rfl⟩
abbrev main_while0b_call11_c_1 : Ref sig .tc := ⟨.hbm, 156, rfl⟩
abbrev main_while0b_call11_c_2 : Ref sig .tc := ⟨.hbm, 157, rfl⟩
abbrev main_while0b_v95 : Ref sig .tc := ⟨.hbm, 158, rfl⟩
abbrev main_while0b_call12_v0 : Ref sig .tc := ⟨.hbm, 159, rfl⟩
abbrev main_while0b_call12_c : Ref sig .tc := ⟨.hbm, 160, rfl⟩
abbrev main_while0b_call12_c_0 : Ref sig .tc := ⟨.hbm, 161, rfl⟩
abbrev main_while0b_call12_c_1 : Ref sig .tc := ⟨.hbm, 162, rfl⟩
abbrev main_while0b_call12_c_2 : Ref sig .tc := ⟨.hbm, 163, rfl⟩
abbrev main_while0b_v96 : Ref sig .tc := ⟨.hbm, 164, rfl⟩
abbrev main_while0b_call13_v0 : Ref sig .tc := ⟨.hbm, 165, rfl⟩
abbrev main_while0b_call13_c : Ref sig .tc := ⟨.hbm, 166, rfl⟩
abbrev main_while0b_call13_c_0 : Ref sig .tc := ⟨.hbm, 167, rfl⟩
abbrev main_while0b_call13_c_1 : Ref sig .tc := ⟨.hbm, 168, rfl⟩
abbrev main_while0b_call13_c_2 : Ref sig .tc := ⟨.hbm, 169, rfl⟩
abbrev main_while0b_v97 : Ref sig .tc := ⟨.hbm, 170, rfl⟩
abbrev main_while0b_call14_v0 : Ref sig .tc := ⟨.hbm, 171, rfl⟩
abbrev main_while0b_call14_c : Ref sig .tc := ⟨.hbm, 172, rfl⟩
abbrev main_while0b_call14_c_0 : Ref sig .tc := ⟨.hbm, 173, rfl⟩
abbrev main_while0b_call14_c_1 : Ref sig .tc := ⟨.hbm, 174, rfl⟩
abbrev main_while0b_call14_c_2 : Ref sig .tc := ⟨.hbm, 175, rfl⟩
abbrev main_while0b_v98 : Ref sig .tc := ⟨.hbm, 176, rfl⟩
abbrev main_while0b_call15_v0 : Ref sig .tc := ⟨.hbm, 177, rfl⟩
abbrev main_while0b_call15_c : Ref sig .tc := ⟨.hbm, 178, rfl⟩
abbrev main_while0b_call15_c_0 : Ref sig .tc := ⟨.hbm, 179, rfl⟩
abbrev main_while0b_call15_c_1 : Ref sig .tc := ⟨.hbm, 180, rfl⟩
abbrev main_while0b_call15_c_2 : Ref sig .tc := ⟨.hbm, 181, rfl⟩
abbrev main_while0b_v99 : Ref sig .tc := ⟨.hbm, 182, rfl⟩
abbrev main_while0b_c_43 : Ref sig .tc := ⟨.hbm, 183, rfl⟩
abbrev main_while0b_v100 : Ref sig .tc := ⟨.hbm, 184, rfl⟩
abbrev main_v29 : Ref sig .tc := ⟨.hbm, 185, rfl⟩
abbrev main_v30 : Ref sig .tc := ⟨.hbm, 186, rfl⟩
abbrev main_cst_10 : Ref sig .tc := ⟨.hbm, 187, rfl⟩
abbrev main_v31 : Ref sig .tc := ⟨.hbm, 188, rfl⟩
abbrev main_v32 : Ref sig .tc := ⟨.hbm, 189, rfl⟩
abbrev main_v33 : Ref sig .tc := ⟨.hbm, 190, rfl⟩
abbrev main_cst_11 : Ref sig .tc := ⟨.hbm, 191, rfl⟩
abbrev main_v34 : Ref sig .tc := ⟨.hbm, 192, rfl⟩
abbrev main_cst_12 : Ref sig .tc := ⟨.hbm, 193, rfl⟩
abbrev main_v35 : Ref sig .tc := ⟨.hbm, 194, rfl⟩
abbrev main_cst_13 : Ref sig .tc := ⟨.hbm, 195, rfl⟩
abbrev main_v36 : Ref sig .tc := ⟨.hbm, 196, rfl⟩
abbrev main_cst_14 : Ref sig .tc := ⟨.hbm, 197, rfl⟩
abbrev main_v37 : Ref sig .tc := ⟨.hbm, 198, rfl⟩
abbrev main_cst_15 : Ref sig .tc := ⟨.hbm, 199, rfl⟩
abbrev main_v38 : Ref sig .tc := ⟨.hbm, 200, rfl⟩
abbrev main_cst_16 : Ref sig .tc := ⟨.hbm, 201, rfl⟩
abbrev main_v39 : Ref sig .tc := ⟨.hbm, 202, rfl⟩
abbrev main_cst_17 : Ref sig .tc := ⟨.hbm, 203, rfl⟩
abbrev main_v40 : Ref sig .tc := ⟨.hbm, 204, rfl⟩
abbrev main_c_18 : Ref sig .tc := ⟨.hbm, 205, rfl⟩
abbrev main_v41_0 : Ref sig .tc := ⟨.hbm, 206, rfl⟩
abbrev main_v41_1 : Ref sig .tc := ⟨.hbm, 207, rfl⟩
abbrev main_v41_2 : Ref sig .tc := ⟨.hbm, 208, rfl⟩
abbrev main_v41_3 : Ref sig .tc := ⟨.hbm, 209, rfl⟩
abbrev main_v41_4 : Ref sig .tc := ⟨.hbm, 210, rfl⟩
abbrev main_v41_5 : Ref sig .tc := ⟨.hbm, 211, rfl⟩
abbrev main_v41_6 : Ref sig .tc := ⟨.hbm, 212, rfl⟩
abbrev main_v41_7 : Ref sig .tc := ⟨.hbm, 213, rfl⟩
abbrev main_v41_8 : Ref sig .tc := ⟨.hbm, 214, rfl⟩
abbrev main_v41_9 : Ref sig .tc := ⟨.hbm, 215, rfl⟩
abbrev main_v41_10 : Ref sig .tc := ⟨.hbm, 216, rfl⟩
abbrev main_v41_11 : Ref sig .tc := ⟨.hbm, 217, rfl⟩
abbrev main_v41_12 : Ref sig .tc := ⟨.hbm, 218, rfl⟩
abbrev main_v41_13 : Ref sig .tc := ⟨.hbm, 219, rfl⟩
abbrev main_v41_14 : Ref sig .tc := ⟨.hbm, 220, rfl⟩
abbrev main_v41_15 : Ref sig .tc := ⟨.hbm, 221, rfl⟩
abbrev main_v41_16 : Ref sig .tc := ⟨.hbm, 222, rfl⟩
abbrev main_v41_17 : Ref sig .tc := ⟨.hbm, 223, rfl⟩
abbrev main_v41_18 : Ref sig .tc := ⟨.hbm, 224, rfl⟩
abbrev main_v41_19 : Ref sig .tc := ⟨.hbm, 225, rfl⟩
abbrev main_while1c_c_43 : Ref sig .tc := ⟨.hbm, 226, rfl⟩
abbrev main_while1c_v59 : Ref sig .tc := ⟨.hbm, 227, rfl⟩
abbrev main_while1b_c_43 : Ref sig .tc := ⟨.hbm, 228, rfl⟩
abbrev main_while1b_v59 : Ref sig .tc := ⟨.hbm, 229, rfl⟩
abbrev main_while1b_c_44 : Ref sig .tc := ⟨.hbm, 230, rfl⟩
abbrev main_while1b_v60 : Ref sig .tc := ⟨.hbm, 231, rfl⟩
abbrev main_while1b_call16_c : Ref sig .tc := ⟨.hbm, 232, rfl⟩
abbrev main_while1b_call16_c_0 : Ref sig .tc := ⟨.hbm, 233, rfl⟩
abbrev main_while1b_call16_c_1 : Ref sig .tc := ⟨.hbm, 234, rfl⟩
abbrev main_while1b_call16_v0 : Ref sig .tc := ⟨.hbm, 235, rfl⟩
abbrev main_while1b_v61 : Ref sig .tc := ⟨.hbm, 236, rfl⟩
abbrev main_while1b_call17_c : Ref sig .tc := ⟨.hbm, 237, rfl⟩
abbrev main_while1b_call17_c_0 : Ref sig .tc := ⟨.hbm, 238, rfl⟩
abbrev main_while1b_call17_c_1 : Ref sig .tc := ⟨.hbm, 239, rfl⟩
abbrev main_while1b_call17_c_2 : Ref sig .tc := ⟨.hbm, 240, rfl⟩
abbrev main_while1b_call17_v0 : Ref sig .tc := ⟨.hbm, 241, rfl⟩
abbrev main_while1b_v62 : Ref sig .tc := ⟨.hbm, 242, rfl⟩
abbrev main_while1b_call18_c : Ref sig .tc := ⟨.hbm, 243, rfl⟩
abbrev main_while1b_call18_c_0 : Ref sig .tc := ⟨.hbm, 244, rfl⟩
abbrev main_while1b_call18_c_1 : Ref sig .tc := ⟨.hbm, 245, rfl⟩
abbrev main_while1b_call18_c_2 : Ref sig .tc := ⟨.hbm, 246, rfl⟩
abbrev main_while1b_call18_v0 : Ref sig .tc := ⟨.hbm, 247, rfl⟩
abbrev main_while1b_v63 : Ref sig .tc := ⟨.hbm, 248, rfl⟩
abbrev main_while1b_call19_c : Ref sig .tc := ⟨.hbm, 249, rfl⟩
abbrev main_while1b_call19_c_0 : Ref sig .tc := ⟨.hbm, 250, rfl⟩
abbrev main_while1b_call19_c_1 : Ref sig .tc := ⟨.hbm, 251, rfl⟩
abbrev main_while1b_call19_c_2 : Ref sig .tc := ⟨.hbm, 252, rfl⟩
abbrev main_while1b_call19_v0 : Ref sig .tc := ⟨.hbm, 253, rfl⟩
abbrev main_while1b_v64 : Ref sig .tc := ⟨.hbm, 254, rfl⟩
abbrev main_while1b_call20_c : Ref sig .tc := ⟨.hbm, 255, rfl⟩
abbrev main_while1b_call20_c_0 : Ref sig .tc := ⟨.hbm, 256, rfl⟩
abbrev main_while1b_call20_c_1 : Ref sig .tc := ⟨.hbm, 257, rfl⟩
abbrev main_while1b_call20_v0 : Ref sig .tc := ⟨.hbm, 258, rfl⟩
abbrev main_while1b_v65 : Ref sig .tc := ⟨.hbm, 259, rfl⟩
abbrev main_while1b_call21_c : Ref sig .tc := ⟨.hbm, 260, rfl⟩
abbrev main_while1b_call21_c_0 : Ref sig .tc := ⟨.hbm, 261, rfl⟩
abbrev main_while1b_call21_c_1 : Ref sig .tc := ⟨.hbm, 262, rfl⟩
abbrev main_while1b_call21_v0 : Ref sig .tc := ⟨.hbm, 263, rfl⟩
abbrev main_while1b_v66 : Ref sig .tc := ⟨.hbm, 264, rfl⟩
abbrev main_while1b_call22_c : Ref sig .tc := ⟨.hbm, 265, rfl⟩
abbrev main_while1b_call22_c_0 : Ref sig .tc := ⟨.hbm, 266, rfl⟩
abbrev main_while1b_call22_c_1 : Ref sig .tc := ⟨.hbm, 267, rfl⟩
abbrev main_while1b_call22_c_2 : Ref sig .tc := ⟨.hbm, 268, rfl⟩
abbrev main_while1b_call22_v0 : Ref sig .tc := ⟨.hbm, 269, rfl⟩
abbrev main_while1b_v67 : Ref sig .tc := ⟨.hbm, 270, rfl⟩
abbrev main_while1b_call23_c : Ref sig .tc := ⟨.hbm, 271, rfl⟩
abbrev main_while1b_call23_c_0 : Ref sig .tc := ⟨.hbm, 272, rfl⟩
abbrev main_while1b_call23_c_1 : Ref sig .tc := ⟨.hbm, 273, rfl⟩
abbrev main_while1b_call23_c_2 : Ref sig .tc := ⟨.hbm, 274, rfl⟩
abbrev main_while1b_call23_v0 : Ref sig .tc := ⟨.hbm, 275, rfl⟩
abbrev main_while1b_v68 : Ref sig .tc := ⟨.hbm, 276, rfl⟩
abbrev main_while1b_call24_c : Ref sig .tc := ⟨.hbm, 277, rfl⟩
abbrev main_while1b_call24_c_0 : Ref sig .tc := ⟨.hbm, 278, rfl⟩
abbrev main_while1b_call24_c_1 : Ref sig .tc := ⟨.hbm, 279, rfl⟩
abbrev main_while1b_call24_c_2 : Ref sig .tc := ⟨.hbm, 280, rfl⟩
abbrev main_while1b_call24_v0 : Ref sig .tc := ⟨.hbm, 281, rfl⟩
abbrev main_while1b_v69 : Ref sig .tc := ⟨.hbm, 282, rfl⟩
abbrev main_while1b_call25_c : Ref sig .tc := ⟨.hbm, 283, rfl⟩
abbrev main_while1b_call25_c_0 : Ref sig .tc := ⟨.hbm, 284, rfl⟩
abbrev main_while1b_call25_c_1 : Ref sig .tc := ⟨.hbm, 285, rfl⟩
abbrev main_while1b_call25_c_2 : Ref sig .tc := ⟨.hbm, 286, rfl⟩
abbrev main_while1b_call25_v0 : Ref sig .tc := ⟨.hbm, 287, rfl⟩
abbrev main_while1b_v70 : Ref sig .tc := ⟨.hbm, 288, rfl⟩
abbrev main_while1b_call26_c : Ref sig .tc := ⟨.hbm, 289, rfl⟩
abbrev main_while1b_call26_c_0 : Ref sig .tc := ⟨.hbm, 290, rfl⟩
abbrev main_while1b_call26_c_1 : Ref sig .tc := ⟨.hbm, 291, rfl⟩
abbrev main_while1b_call26_c_2 : Ref sig .tc := ⟨.hbm, 292, rfl⟩
abbrev main_while1b_call26_v0 : Ref sig .tc := ⟨.hbm, 293, rfl⟩
abbrev main_while1b_v71 : Ref sig .tc := ⟨.hbm, 294, rfl⟩
abbrev main_while1b_call27_c : Ref sig .tc := ⟨.hbm, 295, rfl⟩
abbrev main_while1b_call27_c_0 : Ref sig .tc := ⟨.hbm, 296, rfl⟩
abbrev main_while1b_call27_c_1 : Ref sig .tc := ⟨.hbm, 297, rfl⟩
abbrev main_while1b_call27_c_2 : Ref sig .tc := ⟨.hbm, 298, rfl⟩
abbrev main_while1b_call27_v0 : Ref sig .tc := ⟨.hbm, 299, rfl⟩
abbrev main_while1b_v72 : Ref sig .tc := ⟨.hbm, 300, rfl⟩
abbrev main_while1b_v73 : Ref sig .tc := ⟨.hbm, 301, rfl⟩
abbrev main_while1b_v74 : Ref sig .tc := ⟨.hbm, 302, rfl⟩
abbrev main_while1b_cst_45 : Ref sig .tc := ⟨.hbm, 303, rfl⟩
abbrev main_while1b_v75 : Ref sig .tc := ⟨.hbm, 304, rfl⟩
abbrev main_while1b_v76 : Ref sig .tc := ⟨.hbm, 305, rfl⟩
abbrev main_while1b_v77 : Ref sig .tc := ⟨.hbm, 306, rfl⟩
abbrev main_while1b_v78 : Ref sig .tc := ⟨.hbm, 307, rfl⟩
abbrev main_while1b_v79 : Ref sig .tc := ⟨.hbm, 308, rfl⟩
abbrev main_while1b_cst_46 : Ref sig .tc := ⟨.hbm, 309, rfl⟩
abbrev main_while1b_v80 : Ref sig .tc := ⟨.hbm, 310, rfl⟩
abbrev main_while1b_v81 : Ref sig .tc := ⟨.hbm, 311, rfl⟩
abbrev main_while1b_v82 : Ref sig .tc := ⟨.hbm, 312, rfl⟩
abbrev main_while1b_v83 : Ref sig .tc := ⟨.hbm, 313, rfl⟩
abbrev main_while1b_cst_47 : Ref sig .tc := ⟨.hbm, 314, rfl⟩
abbrev main_while1b_v84 : Ref sig .tc := ⟨.hbm, 315, rfl⟩
abbrev main_while1b_v85 : Ref sig .tc := ⟨.hbm, 316, rfl⟩
abbrev main_while1b_v86 : Ref sig .tc := ⟨.hbm, 317, rfl⟩
abbrev main_while1b_v87 : Ref sig .tc := ⟨.hbm, 318, rfl⟩
abbrev main_while1b_cst_48 : Ref sig .tc := ⟨.hbm, 319, rfl⟩
abbrev main_while1b_v88 : Ref sig .tc := ⟨.hbm, 320, rfl⟩
abbrev main_while1b_v89 : Ref sig .tc := ⟨.hbm, 321, rfl⟩
abbrev main_while1b_cst_49 : Ref sig .tc := ⟨.hbm, 322, rfl⟩
abbrev main_while1b_v90 : Ref sig .tc := ⟨.hbm, 323, rfl⟩
abbrev main_while1b_v91 : Ref sig .tc := ⟨.hbm, 324, rfl⟩
abbrev main_while1b_cst_50 : Ref sig .tc := ⟨.hbm, 325, rfl⟩
abbrev main_while1b_v92 : Ref sig .tc := ⟨.hbm, 326, rfl⟩
abbrev main_while1b_v93 : Ref sig .tc := ⟨.hbm, 327, rfl⟩
abbrev main_while1b_v94 : Ref sig .tc := ⟨.hbm, 328, rfl⟩
abbrev main_while1b_v95 : Ref sig .tc := ⟨.hbm, 329, rfl⟩
abbrev main_while1b_cst_51 : Ref sig .tc := ⟨.hbm, 330, rfl⟩
abbrev main_while1b_v96 : Ref sig .tc := ⟨.hbm, 331, rfl⟩
abbrev main_while1b_v97 : Ref sig .tc := ⟨.hbm, 332, rfl⟩
abbrev main_while1b_v98 : Ref sig .tc := ⟨.hbm, 333, rfl⟩
abbrev main_while1b_v99 : Ref sig .tc := ⟨.hbm, 334, rfl⟩
abbrev main_while1b_cst_52 : Ref sig .tc := ⟨.hbm, 335, rfl⟩
abbrev main_while1b_v100 : Ref sig .tc := ⟨.hbm, 336, rfl⟩
abbrev main_while1b_v101 : Ref sig .tc := ⟨.hbm, 337, rfl⟩
abbrev main_while1b_cst_53 : Ref sig .tc := ⟨.hbm, 338, rfl⟩
abbrev main_while1b_v102 : Ref sig .tc := ⟨.hbm, 339, rfl⟩
abbrev main_while1b_v103 : Ref sig .tc := ⟨.hbm, 340, rfl⟩
abbrev main_while1b_v104 : Ref sig .tc := ⟨.hbm, 341, rfl⟩
abbrev main_while1b_v105 : Ref sig .tc := ⟨.hbm, 342, rfl⟩
abbrev main_while1b_cst_54 : Ref sig .tc := ⟨.hbm, 343, rfl⟩
abbrev main_while1b_v106 : Ref sig .tc := ⟨.hbm, 344, rfl⟩
abbrev main_while1b_v107 : Ref sig .tc := ⟨.hbm, 345, rfl⟩
abbrev main_while1b_v108 : Ref sig .tc := ⟨.hbm, 346, rfl⟩
abbrev main_while1b_cst_55 : Ref sig .tc := ⟨.hbm, 347, rfl⟩
abbrev main_while1b_v109 : Ref sig .tc := ⟨.hbm, 348, rfl⟩
abbrev main_while1b_v110 : Ref sig .tc := ⟨.hbm, 349, rfl⟩
abbrev main_while1b_v111 : Ref sig .tc := ⟨.hbm, 350, rfl⟩
abbrev main_while1b_v112 : Ref sig .tc := ⟨.hbm, 351, rfl⟩
abbrev main_while1b_cst_56 : Ref sig .tc := ⟨.hbm, 352, rfl⟩
abbrev main_while1b_v113 : Ref sig .tc := ⟨.hbm, 353, rfl⟩
abbrev main_while1b_v114 : Ref sig .tc := ⟨.hbm, 354, rfl⟩
abbrev main_while1b_v115 : Ref sig .tc := ⟨.hbm, 355, rfl⟩
abbrev main_while1b_v116 : Ref sig .tc := ⟨.hbm, 356, rfl⟩
abbrev main_while1b_cst_57 : Ref sig .tc := ⟨.hbm, 357, rfl⟩
abbrev main_while1b_v117 : Ref sig .tc := ⟨.hbm, 358, rfl⟩
abbrev main_while1b_v118 : Ref sig .tc := ⟨.hbm, 359, rfl⟩
abbrev main_while1b_v119 : Ref sig .tc := ⟨.hbm, 360, rfl⟩
abbrev main_while1b_v120 : Ref sig .tc := ⟨.hbm, 361, rfl⟩
abbrev main_while1b_v121 : Ref sig .tc := ⟨.hbm, 362, rfl⟩
abbrev main_while1b_cst_58 : Ref sig .tc := ⟨.hbm, 363, rfl⟩
abbrev main_while1b_v122 : Ref sig .tc := ⟨.hbm, 364, rfl⟩
abbrev main_while1b_v123 : Ref sig .tc := ⟨.hbm, 365, rfl⟩
abbrev main_while1b_v124 : Ref sig .tc := ⟨.hbm, 366, rfl⟩
abbrev main_while1b_v125 : Ref sig .tc := ⟨.hbm, 367, rfl⟩
abbrev main_while1b_call28_v0 : Ref sig .tc := ⟨.hbm, 368, rfl⟩
abbrev main_while1b_call28_c : Ref sig .tc := ⟨.hbm, 369, rfl⟩
abbrev main_while1b_call28_c_0 : Ref sig .tc := ⟨.hbm, 370, rfl⟩
abbrev main_while1b_call28_c_1 : Ref sig .tc := ⟨.hbm, 371, rfl⟩
abbrev main_while1b_v126 : Ref sig .tc := ⟨.hbm, 372, rfl⟩
abbrev main_while1b_call29_v0 : Ref sig .tc := ⟨.hbm, 373, rfl⟩
abbrev main_while1b_call29_c : Ref sig .tc := ⟨.hbm, 374, rfl⟩
abbrev main_while1b_call29_c_0 : Ref sig .tc := ⟨.hbm, 375, rfl⟩
abbrev main_while1b_call29_c_1 : Ref sig .tc := ⟨.hbm, 376, rfl⟩
abbrev main_while1b_v127 : Ref sig .tc := ⟨.hbm, 377, rfl⟩
abbrev main_while1b_call30_v0 : Ref sig .tc := ⟨.hbm, 378, rfl⟩
abbrev main_while1b_call30_c : Ref sig .tc := ⟨.hbm, 379, rfl⟩
abbrev main_while1b_call30_c_0 : Ref sig .tc := ⟨.hbm, 380, rfl⟩
abbrev main_while1b_call30_c_1 : Ref sig .tc := ⟨.hbm, 381, rfl⟩
abbrev main_while1b_v128 : Ref sig .tc := ⟨.hbm, 382, rfl⟩
abbrev main_while1b_call31_v0 : Ref sig .tc := ⟨.hbm, 383, rfl⟩
abbrev main_while1b_call31_c : Ref sig .tc := ⟨.hbm, 384, rfl⟩
abbrev main_while1b_call31_c_0 : Ref sig .tc := ⟨.hbm, 385, rfl⟩
abbrev main_while1b_call31_c_1 : Ref sig .tc := ⟨.hbm, 386, rfl⟩
abbrev main_while1b_v129 : Ref sig .tc := ⟨.hbm, 387, rfl⟩
abbrev main_while1b_call32_v0 : Ref sig .tc := ⟨.hbm, 388, rfl⟩
abbrev main_while1b_call32_c : Ref sig .tc := ⟨.hbm, 389, rfl⟩
abbrev main_while1b_call32_c_0 : Ref sig .tc := ⟨.hbm, 390, rfl⟩
abbrev main_while1b_call32_c_1 : Ref sig .tc := ⟨.hbm, 391, rfl⟩
abbrev main_while1b_v130 : Ref sig .tc := ⟨.hbm, 392, rfl⟩
abbrev main_while1b_call33_v0 : Ref sig .tc := ⟨.hbm, 393, rfl⟩
abbrev main_while1b_call33_c : Ref sig .tc := ⟨.hbm, 394, rfl⟩
abbrev main_while1b_call33_c_0 : Ref sig .tc := ⟨.hbm, 395, rfl⟩
abbrev main_while1b_call33_c_1 : Ref sig .tc := ⟨.hbm, 396, rfl⟩
abbrev main_while1b_v131 : Ref sig .tc := ⟨.hbm, 397, rfl⟩
abbrev main_while1b_c_59 : Ref sig .tc := ⟨.hbm, 398, rfl⟩
abbrev main_while1b_v132 : Ref sig .tc := ⟨.hbm, 399, rfl⟩
abbrev main_v42 : Ref sig .tc := ⟨.hbm, 400, rfl⟩
abbrev main_v43 : Ref sig .tc := ⟨.hbm, 401, rfl⟩
abbrev main_v44 : Ref sig .tc := ⟨.hbm, 402, rfl⟩
abbrev main_v45 : Ref sig .tc := ⟨.hbm, 403, rfl⟩
abbrev main_v46 : Ref sig .tc := ⟨.hbm, 404, rfl⟩
abbrev main_v47 : Ref sig .tc := ⟨.hbm, 405, rfl⟩
abbrev main_cst_19 : Ref sig .tc := ⟨.hbm, 406, rfl⟩
abbrev main_v48 : Ref sig .tc := ⟨.hbm, 407, rfl⟩
abbrev main_v49 : Ref sig .tc := ⟨.hbm, 408, rfl⟩
abbrev main_cst_20 : Ref sig .tc := ⟨.hbm, 409, rfl⟩
abbrev main_v50 : Ref sig .tc := ⟨.hbm, 410, rfl⟩
abbrev main_v51 : Ref sig .tc := ⟨.hbm, 411, rfl⟩
abbrev main_v52 : Ref sig .tc := ⟨.hbm, 412, rfl⟩
abbrev main_cst_21 : Ref sig .tc := ⟨.hbm, 413, rfl⟩
abbrev main_v53 : Ref sig .tc := ⟨.hbm, 414, rfl⟩
abbrev main_v54 : Ref sig .tc := ⟨.hbm, 415, rfl⟩
abbrev main_cst_22 : Ref sig .tc := ⟨.hbm, 416, rfl⟩
abbrev main_v55 : Ref sig .tc := ⟨.hbm, 417, rfl⟩
abbrev main_v56 : Ref sig .tc := ⟨.hbm, 418, rfl⟩
abbrev main_cst_23 : Ref sig .tc := ⟨.hbm, 419, rfl⟩
abbrev main_v57 : Ref sig .tc := ⟨.hbm, 420, rfl⟩
abbrev main_v58 : Ref sig .tc := ⟨.hbm, 421, rfl⟩

abbrev nD : Nat := 1
abbrev τ : Topo := Topo.v7x

variable {F : FTy → Type} [FloatOps F]

abbrev main_while0_count : Scf.Loop 32 := ⟨0#32, 2048#32, 1#32⟩

abbrev main_while1_count : Scf.Loop 32 := ⟨0#32, 2048#32, 1#32⟩
-- ==== Kernel2.lean ====
abbrev S2048x1024 : Shape := ⟨2, ![2048, 1024]⟩
abbrev S2048x4096 : Shape := ⟨2, ![2048, 4096]⟩
abbrev S1024x4096 : Shape := ⟨2, ![1024, 4096]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S2048x1024, .f32⟩
  | .hbm, ⟨1, _⟩ => ⟨S2048x4096, .f32⟩
  | .hbm, ⟨2, _⟩ => ⟨S1024x4096, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .f32⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 2], ![false, false, false]⟩

def k0_cond1 (i : grid0.Coords) : BitVec 1 :=
  let arg2 : BitVec 32 := BitVec.ofNat 32 (i 2).val
  let c0_i32 : BitVec 32 := 0#32
  let v5 : BitVec 1 := Scalar.cmpi .eq arg2 c0_i32
  let v6 : BitVec 32 := Scalar.extui v5
  let c0_i32_3 : BitVec 32 := 0#32
  let v7 : BitVec 1 := Scalar.cmpi .ne v6 c0_i32_3
  v7

def k0_cond2 (i : grid0.Coords) : BitVec 1 :=
  let arg2 : BitVec 32 := BitVec.ofNat 32 (i 2).val
  let c0_i32_4 : BitVec 32 := 0#32
  let v8 : BitVec 1 := Scalar.cmpi .sgt arg2 c0_i32_4
  let v9 : BitVec 32 := Scalar.extui v8
  let c0_i32_5 : BitVec 32 := 0#32
  let v10 : BitVec 1 := Scalar.cmpi .ne v9 c0_i32_5
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference2Ideal.lean ====
abbrev S2048x1024 : Shape := ⟨2, ![2048, 1024]⟩
abbrev S2048x4096 : Shape := ⟨2, ![2048, 4096]⟩
abbrev S_ : Shape := ⟨0, ![]⟩
abbrev S1024x4096 : Shape := ⟨2, ![1024, 4096]⟩
abbrev S4096x1024 : Shape := ⟨2, ![4096, 1024]⟩

abbrev nBuf : Space → Nat
  | .hbm => 7
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x4096, .f32⟩
  | .hbm, ⟨2, _⟩ => ⟨S_, .f32⟩
  | .hbm, ⟨3, _⟩ => ⟨S1024x4096, .f32⟩
  | .hbm, ⟨4, _⟩ => ⟨S2048x4096, .f32⟩
  | .hbm, ⟨5, _⟩ => ⟨S4096x1024, .f32⟩
  | .hbm, ⟨6, _⟩ => ⟨S1024x4096, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel3.lean ====
abbrev S2048x4096 : Shape := ⟨2, ![2048, 4096]⟩
abbrev S1024x4096 : Shape := ⟨2, ![1024, 4096]⟩
abbrev S2048x1024 : Shape := ⟨2, ![2048, 1024]⟩
abbrev S1024x1024 : Shape := ⟨2, ![1024, 1024]⟩

abbrev nBuf : Space → Nat
  | .hbm => 4
  | .vmem => 8
  | .smem => 0
  | _ => 0

abbrev bufTy : (tb : Table) → Fin (tcTables nBuf tb) → BufTy
  | .hbm, ⟨0, _⟩ => ⟨S2048x4096, .f32⟩
  | .hbm, ⟨1, _⟩ => ⟨S1024x4096, .bf16⟩
  | .hbm, ⟨2, _⟩ => ⟨S2048x1024, .f32⟩
  | .hbm, ⟨3, _⟩ => ⟨S2048x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | _, _ => ⟨S2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 1, 4], ![false, false, false]⟩

def k0_cond1 (i : grid0.Coords) : BitVec 1 :=
  let arg2 : BitVec 32 := BitVec.ofNat 32 (i 2).val
  let c0_i32 : BitVec 32 := 0#32
  let v4 : BitVec 1 := Scalar.cmpi .eq arg2 c0_i32
  let v5 : BitVec 32 := Scalar.extui v4
  let c0_i32_3 : BitVec 32 := 0#32
  let v6 : BitVec 1 := Scalar.cmpi .ne v5 c0_i32_3
  v6

def k0_cond2 (i : grid0.Coords) : BitVec 1 :=
  let arg2 : BitVec 32 := BitVec.ofNat 32 (i 2).val
  let c0_i32_4 : BitVec 32 := 0#32
  let v7 : BitVec 1 := Scalar.cmpi .sgt arg2 c0_i32_4
  let v8 : BitVec 32 := Scalar.extui v7
  let c0_i32_5 : BitVec 32 := 0#32
  let v9 : BitVec 1 := Scalar.cmpi .ne v8 c0_i32_5
  v9

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference3Ideal.lean ====
abbrev S2048x4096 : Shape := ⟨2, ![2048, 4096]⟩
abbrev S1024x4096 : Shape := ⟨2, ![1024, 4096]⟩
abbrev S2048x1024 : Shape := ⟨2, ![2048, 1024]⟩
abbrev S_ : Shape := ⟨0, ![]⟩

abbrev nBuf : Space → Nat
  | .hbm => 9
  | .vmem => 0
  | .smem => 0
  | _ => 0

abbrev bufTy : (tb : Table) → Fin (tcTables nBuf tb) → BufTy
  | .hbm, ⟨0, _⟩ => ⟨S2048x4096, .f32⟩
  | .hbm, ⟨1, _⟩ => ⟨S1024x4096, .bf16⟩
  | .hbm, ⟨2, _⟩ => ⟨S2048x1024, .f32⟩
  | .hbm, ⟨3, _⟩ => ⟨S_, .f32⟩
  | .hbm, ⟨4, _⟩ => ⟨S2048x1024, .f32⟩
  | .hbm, ⟨5, _⟩ => ⟨S1024x4096, .f32⟩
  | .hbm, ⟨6, _⟩ => ⟨S2048x4096, .f32⟩
  | .hbm, ⟨7, _⟩ => ⟨S2048x1024, .f32⟩
  | .hbm, ⟨8, _⟩ => ⟨S2048x1024, .f32⟩
  | _, _ => ⟨S2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩

abbrev nD : Nat := 1
abbrev τ : Topo := Topo.v7x

variable {F : FTy → Type} [FloatOps F]
-- ==== Kernel4.lean ====
abbrev S2048x1024 : Shape := ⟨2, ![2048, 1024]⟩
abbrev S1024x4096 : Shape := ⟨2, ![1024, 4096]⟩
abbrev S2048x4096 : Shape := ⟨2, ![2048, 4096]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S2048x1024, .f32⟩
  | .hbm, ⟨1, _⟩ => ⟨S1024x4096, .bf16⟩
  | .hbm, ⟨2, _⟩ => ⟨S2048x4096, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 4, 1], ![false, false, false]⟩

def k0_cond1 (i : grid0.Coords) : BitVec 1 :=
  let arg2 : BitVec 32 := BitVec.ofNat 32 (i 2).val
  let c0_i32 : BitVec 32 := 0#32
  let v4 : BitVec 1 := Scalar.cmpi .eq arg2 c0_i32
  let v5 : BitVec 32 := Scalar.extui v4
  let c0_i32_3 : BitVec 32 := 0#32
  let v6 : BitVec 1 := Scalar.cmpi .ne v5 c0_i32_3
  v6

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference4Ideal.lean ====
abbrev S2048x1024 : Shape := ⟨2, ![2048, 1024]⟩
abbrev S1024x4096 : Shape := ⟨2, ![1024, 4096]⟩
abbrev S2048x4096 : Shape := ⟨2, ![2048, 4096]⟩

abbrev nBuf : Space → Nat
  | .hbm => 4
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1024x4096, .bf16⟩
  | .hbm, ⟨2, _⟩ => ⟨S1024x4096, .f32⟩
  | .hbm, ⟨3, _⟩ => ⟨S2048x4096, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Kernel5.lean ====
abbrev S2048x4096 : Shape := ⟨2, ![2048, 4096]⟩
abbrev S2048x1024 : Shape := ⟨2, ![2048, 1024]⟩
abbrev S4096x1024 : Shape := ⟨2, ![4096, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S2048x4096, .f32⟩
  | .hbm, ⟨1, _⟩ => ⟨S2048x1024, .f32⟩
  | .hbm, ⟨2, _⟩ => ⟨S4096x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .f32⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | _, _ => ⟨S2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 2], ![false, false, false]⟩

def k0_cond1 (i : grid0.Coords) : BitVec 1 :=
  let arg2 : BitVec 32 := BitVec.ofNat 32 (i 2).val
  let c0_i32 : BitVec 32 := 0#32
  let v8 : BitVec 1 := Scalar.cmpi .eq arg2 c0_i32
  let v9 : BitVec 32 := Scalar.extui v8
  let c0_i32_4 : BitVec 32 := 0#32
  let v10 : BitVec 1 := Scalar.cmpi .ne v9 c0_i32_4
  v10

def k0_cond2 (i : grid0.Coords) : BitVec 1 :=
  let arg2 : BitVec 32 := BitVec.ofNat 32 (i 2).val
  let c0_i32_5 : BitVec 32 := 0#32
  let v11 : BitVec 1 := Scalar.cmpi .sgt arg2 c0_i32_5
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference5Ideal.lean ====
abbrev S2048x4096 : Shape := ⟨2, ![2048, 4096]⟩
abbrev S2048x1024 : Shape := ⟨2, ![2048, 1024]⟩
abbrev S_ : Shape := ⟨0, ![]⟩
abbrev S4096x1024 : Shape := ⟨2, ![4096, 1024]⟩
abbrev S1024x4096 : Shape := ⟨2, ![1024, 4096]⟩

abbrev nBuf : Space → Nat
  | .hbm => 11
  | .vmem => 0
  | .smem => 0
  | _ => 0

abbrev bufTy : (tb : Table) → Fin (tcTables nBuf tb) → BufTy
  | .hbm, ⟨0, _⟩ => ⟨S2048x4096, .f32⟩
  | .hbm, ⟨1, _⟩ => ⟨S2048x1024, .f32⟩
  | .hbm, ⟨2, _⟩ => ⟨S_, .f32⟩
  | .hbm, ⟨3, _⟩ => ⟨S4096x1024, .f32⟩
  | .hbm, ⟨4, _⟩ => ⟨S_, .f32⟩
  | .hbm, ⟨5, _⟩ => ⟨S2048x4096, .f32⟩
  | .hbm, ⟨6, _⟩ => ⟨S2048x4096, .f32⟩
  | .hbm, ⟨7, _⟩ => ⟨S2048x4096, .f32⟩
  | .hbm, ⟨8, _⟩ => ⟨S2048x1024, .f32⟩
  | .hbm, ⟨9, _⟩ => ⟨S1024x4096, .f32⟩
  | .hbm, ⟨10, _⟩ => ⟨S4096x1024, .f32⟩
  | _, _ => ⟨S2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_call0_cst : Ref sig .tc := ⟨.hbm, 4, rfl⟩
abbrev main_call0_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩

abbrev nD : Nat := 1
abbrev τ : Topo := Topo.v7x

variable {F : FTy → Type} [FloatOps F]
-- ==== Kernel6.lean ====
abbrev S2048x1024 : Shape := ⟨2, ![2048, 1024]⟩
abbrev S2048x4096 : Shape := ⟨2, ![2048, 4096]⟩
abbrev S4x1024x1024 : Shape := ⟨3, ![4, 1024, 1024]⟩
abbrev S1024x1024 : Shape := ⟨2, ![1024, 1024]⟩
abbrev S1x1024x1024 : Shape := ⟨3, ![1, 1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S2048x1024, .f32⟩
  | .hbm, ⟨1, _⟩ => ⟨S2048x4096, .f32⟩
  | .hbm, ⟨2, _⟩ => ⟨S4x1024x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .f32⟩
  | .local _ .vmem, ⟨3, _⟩ => ⟨S1024x1024, .f32⟩
  | .local _ .vmem, ⟨4, _⟩ => ⟨S1x1024x1024, .f32⟩
  | .local _ .vmem, ⟨5, _⟩ => ⟨S1x1024x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 2], ![false, false, false]⟩

def k0_cond1 (i : grid0.Coords) : BitVec 1 :=
  let arg2 : BitVec 32 := BitVec.ofNat 32 (i 2).val
  let c0_i32 : BitVec 32 := 0#32
  let v5 : BitVec 1 := Scalar.cmpi .eq arg2 c0_i32
  let v6 : BitVec 32 := Scalar.extui v5
  let c0_i32_3 : BitVec 32 := 0#32
  let v7 : BitVec 1 := Scalar.cmpi .ne v6 c0_i32_3
  v7

def k0_cond2 (i : grid0.Coords) : BitVec 1 :=
  let arg2 : BitVec 32 := BitVec.ofNat 32 (i 2).val
  let c0_i32_4 : BitVec 32 := 0#32
  let v8 : BitVec 1 := Scalar.cmpi .sgt arg2 c0_i32_4
  let v9 : BitVec 32 := Scalar.extui v8
  let c0_i32_5 : BitVec 32 := 0#32
  let v10 : BitVec 1 := Scalar.cmpi .ne v9 c0_i32_5
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference6Ideal.lean ====
abbrev S2048x1024 : Shape := ⟨2, ![2048, 1024]⟩
abbrev S2048x4096 : Shape := ⟨2, ![2048, 4096]⟩
abbrev S_ : Shape := ⟨0, ![]⟩
abbrev S1024x4096 : Shape := ⟨2, ![1024, 4096]⟩
abbrev S4096x1024 : Shape := ⟨2, ![4096, 1024]⟩
abbrev S1024x4x1024 : Shape := ⟨3, ![1024, 4, 1024]⟩
abbrev S4x1024x1024 : Shape := ⟨3, ![4, 1024, 1024]⟩

abbrev nBuf : Space → Nat
  | .hbm => 9
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x4096, .f32⟩
  | .hbm, ⟨2, _⟩ => ⟨S_, .f32⟩
  | .hbm, ⟨3, _⟩ => ⟨S1024x4096, .f32⟩
  | .hbm, ⟨4, _⟩ => ⟨S2048x4096, .f32⟩
  | .hbm, ⟨5, _⟩ => ⟨S4096x1024, .f32⟩
  | .hbm, ⟨6, _⟩ => ⟨S1024x4096, .f32⟩
  | .hbm, ⟨7, _⟩ => ⟨S1024x4x1024, .f32⟩
  | .hbm, ⟨8, _⟩ => ⟨S4x1024x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel7.lean ====
abbrev S2048x1024 : Shape := ⟨2, ![2048, 1024]⟩
abbrev S4x2x1024x1024 : Shape := ⟨4, ![4, 2, 1024, 1024]⟩
abbrev S2048x4096 : Shape := ⟨2, ![2048, 4096]⟩
abbrev S1024x1024 : Shape := ⟨2, ![1024, 1024]⟩
abbrev S1x1x1024x1024 : Shape := ⟨4, ![1, 1, 1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S2048x1024, .f32⟩
  | .hbm, ⟨1, _⟩ => ⟨S4x2x1024x1024, .bf16⟩
  | .hbm, ⟨2, _⟩ => ⟨S2048x4096, .f32⟩
  | .local _ .vmem, ⟨0, _⟩ => ⟨S1024x1024, .f32⟩
  | .local _ .vmem, ⟨1, _⟩ => ⟨S1024x1024, .f32⟩
  | .local _ .vmem, ⟨2, _⟩ => ⟨S1x1x1024x1024, .bf16⟩
  | .local _ .vmem, ⟨3, _⟩ => ⟨S1x1x1024x1024, .bf16⟩
  | .local _ .vmem, ⟨4, _⟩ => ⟨S1024x1024, .f32⟩
  | .local _ .vmem, ⟨5, _⟩ => ⟨S1024x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 4, 1], ![false, false, false]⟩

def k0_cond1 (i : grid0.Coords) : BitVec 1 :=
  let arg2 : BitVec 32 := BitVec.ofNat 32 (i 2).val
  let c0_i32 : BitVec 32 := 0#32
  let v5 : BitVec 1 := Scalar.cmpi .eq arg2 c0_i32
  let v6 : BitVec 32 := Scalar.extui v5
  let c0_i32_5 : BitVec 32 := 0#32
  let v7 : BitVec 1 := Scalar.cmpi .ne v6 c0_i32_5
  v7

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, arg2.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference7Ideal.lean ====
abbrev S2048x1024 : Shape := ⟨2, ![2048, 1024]⟩
abbrev S4x2x1024x1024 : Shape := ⟨4, ![4, 2, 1024, 1024]⟩
abbrev S4x1x1024x1024 : Shape := ⟨4, ![4, 1, 1024, 1024]⟩
abbrev S4x1024x1024 : Shape := ⟨3, ![4, 1024, 1024]⟩
abbrev S1024x4x1024 : Shape := ⟨3, ![1024, 4, 1024]⟩
abbrev S1024x4096 : Shape := ⟨2, ![1024, 4096]⟩
abbrev S2048x4096 : Shape := ⟨2, ![2048, 4096]⟩

abbrev nBuf : Space → Nat
  | .hbm => 8
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S4x2x1024x1024, .bf16⟩
  | .hbm, ⟨2, _⟩ => ⟨S4x1x1024x1024, .bf16⟩
  | .hbm, ⟨3, _⟩ => ⟨S4x1024x1024, .bf16⟩
  | .hbm, ⟨4, _⟩ => ⟨S1024x4x1024, .bf16⟩
  | .hbm, ⟨5, _⟩ => ⟨S1024x4096, .bf16⟩
  | .hbm, ⟨6, _⟩ => ⟨S1024x4096, .f32⟩
  | .hbm, ⟨7, _⟩ => ⟨S2048x4096, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩

abbrev nD : Nat := 1
abbrev τ : Topo := Topo.v7x

variable {F : FTy → Type} [FloatOps F]
-- ==== Kernel8.lean ====
abbrev S2048x4096 : Shape := ⟨2, ![2048, 4096]⟩
abbrev S4x2x1024x1024 : Shape := ⟨4, ![4, 2, 1024, 1024]⟩
abbrev S2048x1024 : Shape := ⟨2, ![2048, 1024]⟩
abbrev S1024x1024 : Shape := ⟨2, ![1024, 1024]⟩
abbrev S1x1x1024x1024 : Shape := ⟨4, ![1, 1, 1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S2048x4096, .f32⟩
  | .hbm, ⟨1, _⟩ => ⟨S4x2x1024x1024, .bf16⟩
  | .hbm, ⟨2, _⟩ => ⟨S2048x1024, .f32⟩
  | .local _ .vmem, ⟨0, _⟩ => ⟨S1024x1024, .f32⟩
  | .local _ .vmem, ⟨1, _⟩ => ⟨S1024x1024, .f32⟩
  | .local _ .vmem, ⟨2, _⟩ => ⟨S1x1x1024x1024, .bf16⟩
  | .local _ .vmem, ⟨3, _⟩ => ⟨S1x1x1024x1024, .bf16⟩
  | .local _ .vmem, ⟨4, _⟩ => ⟨S1024x1024, .f32⟩
  | .local _ .vmem, ⟨5, _⟩ => ⟨S1024x1024, .f32⟩
  | _, _ => ⟨S2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 4], ![false, false, false]⟩

def k0_cond1 (i : grid0.Coords) : BitVec 1 :=
  let arg2 : BitVec 32 := BitVec.ofNat 32 (i 2).val
  let c0_i32 : BitVec 32 := 0#32
  let v8 : BitVec 1 := Scalar.cmpi .eq arg2 c0_i32
  let v9 : BitVec 32 := Scalar.extui v8
  let c0_i32_6 : BitVec 32 := 0#32
  let v10 : BitVec 1 := Scalar.cmpi .ne v9 c0_i32_6
  v10

def k0_cond2 (i : grid0.Coords) : BitVec 1 :=
  let arg2 : BitVec 32 := BitVec.ofNat 32 (i 2).val
  let c0_i32_7 : BitVec 32 := 0#32
  let v11 : BitVec 1 := Scalar.cmpi .sgt arg2 c0_i32_7
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg2.toNat, c0_i32.toNat, c0_i32_0.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference8Ideal.lean ====
abbrev S2048x4096 : Shape := ⟨2, ![2048, 4096]⟩
abbrev S4x2x1024x1024 : Shape := ⟨4, ![4, 2, 1024, 1024]⟩
abbrev S_ : Shape := ⟨0, ![]⟩
abbrev S4x1x1024x1024 : Shape := ⟨4, ![4, 1, 1024, 1024]⟩
abbrev S4x1024x1024 : Shape := ⟨3, ![4, 1024, 1024]⟩
abbrev S4096x1024 : Shape := ⟨2, ![4096, 1024]⟩
abbrev S2048x1024 : Shape := ⟨2, ![2048, 1024]⟩

abbrev nBuf : Space → Nat
  | .hbm => 11
  | .vmem => 0
  | .smem => 0
  | _ => 0

abbrev bufTy : (tb : Table) → Fin (tcTables nBuf tb) → BufTy
  | .hbm, ⟨0, _⟩ => ⟨S2048x4096, .f32⟩
  | .hbm, ⟨1, _⟩ => ⟨S4x2x1024x1024, .bf16⟩
  | .hbm, ⟨2, _⟩ => ⟨S_, .f32⟩
  | .hbm, ⟨3, _⟩ => ⟨S2048x4096, .f32⟩
  | .hbm, ⟨4, _⟩ => ⟨S2048x4096, .f32⟩
  | .hbm, ⟨5, _⟩ => ⟨S2048x4096, .f32⟩
  | .hbm, ⟨6, _⟩ => ⟨S4x1x1024x1024, .bf16⟩
  | .hbm, ⟨7, _⟩ => ⟨S4x1024x1024, .bf16⟩
  | .hbm, ⟨8, _⟩ => ⟨S4096x1024, .bf16⟩
  | .hbm, ⟨9, _⟩ => ⟨S4096x1024, .f32⟩
  | .hbm, ⟨10, _⟩ => ⟨S2048x1024, .f32⟩
  | _, _ => ⟨S2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_cst : Ref sig .tc := ⟨.hbm, 2, rfl⟩
abbrev main_call0_v0 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩

abbrev nD : Nat := 1
abbrev τ : Topo := Topo.v7x

variable {F : FTy → Type} [FloatOps F]
-- ==== Kernel9.lean ====
abbrev S2048x1024 : Shape := ⟨2, ![2048, 1024]⟩
abbrev S4x2x1024x1024 : Shape := ⟨4, ![4, 2, 1024, 1024]⟩
abbrev S2048x4096 : Shape := ⟨2, ![2048, 4096]⟩
abbrev S1024x1024 : Shape := ⟨2, ![1024, 1024]⟩
abbrev S1x1x1024x1024 : Shape := ⟨4, ![1, 1, 1024, 1024]⟩

abbrev nBuf : Space → Nat
  | .hbm => 4
  | .vmem => 8
  | .smem => 0
  | _ => 0

abbrev bufTy : (tb : Table) → Fin (tcTables nBuf tb) → BufTy
  | .hbm, ⟨0, _⟩ => ⟨S2048x1024, .f32⟩
  | .hbm, ⟨1, _⟩ => ⟨S4x2x1024x1024, .bf16⟩
  | .hbm, ⟨2, _⟩ => ⟨S2048x4096, .f32⟩
  | .hbm, ⟨3, _⟩ => ⟨S2048x4096, .f32⟩
  | .local _ .vmem, ⟨0, _⟩ => ⟨S1024x1024, .f32⟩
  | .local _ .vmem, ⟨1, _⟩ => ⟨S1024x1024, .f32⟩
  | .local _ .vmem, ⟨2, _⟩ => ⟨S1x1x1024x1024, .bf16⟩
  | .local _ .vmem, ⟨3, _⟩ => ⟨S1x1x1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 4, 1], ![false, false, false]⟩

def k0_cond1 (i : grid0.Coords) : BitVec 1 :=
  let arg2 : BitVec 32 := BitVec.ofNat 32 (i 2).val
  let c0_i32 : BitVec 32 := 0#32
  let v5 : BitVec 1 := Scalar.cmpi .eq arg2 c0_i32
  let v6 : BitVec 32 := Scalar.extui v5
  let c0_i32_5 : BitVec 32 := 0#32
  let v7 : BitVec 1 := Scalar.cmpi .ne v6 c0_i32_5
  v7

def k0_cond2 (i : grid0.Coords) : BitVec 1 :=
  let arg2 : BitVec 32 := BitVec.ofNat 32 (i 2).val
  let c0_i32_6 : BitVec 32 := 0#32
  let v8 : BitVec 1 := Scalar.cmpi .eq arg2 c0_i32_6
  let v9 : BitVec 32 := Scalar.extui v8
  let c0_i32_7 : BitVec 32 := 0#32
  let v10 : BitVec 1 := Scalar.cmpi .ne v9 c0_i32_7
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference9Ideal.lean ====
abbrev S2048x1024 : Shape := ⟨2, ![2048, 1024]⟩
abbrev S4x2x1024x1024 : Shape := ⟨4, ![4, 2, 1024, 1024]⟩
abbrev S2048x4096 : Shape := ⟨2, ![2048, 4096]⟩
abbrev S_ : Shape := ⟨0, ![]⟩
abbrev S4x1x1024x1024 : Shape := ⟨4, ![4, 1, 1024, 1024]⟩
abbrev S4x1024x1024 : Shape := ⟨3, ![4, 1024, 1024]⟩
abbrev S4096x1024 : Shape := ⟨2, ![4096, 1024]⟩

abbrev nBuf : Space → Nat
  | .hbm => 25
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S4x2x1024x1024, .bf16⟩
  | .hbm, ⟨2, _⟩ => ⟨S2048x4096, .f32⟩
  | .hbm, ⟨3, _⟩ => ⟨S_, .f32⟩
  | .hbm, ⟨4, _⟩ => ⟨S2048x4096, .f32⟩
  | .hbm, ⟨5, _⟩ => ⟨S2048x4096, .f32⟩
  | .hbm, ⟨6, _⟩ => ⟨S_, .f32⟩
  | .hbm, ⟨7, _⟩ => ⟨S2048x4096, .f32⟩
  | .hbm, ⟨8, _⟩ => ⟨S2048x4096, .i1⟩
  | .hbm, ⟨9, _⟩ => ⟨S_, .f32⟩
  | .hbm, ⟨10, _⟩ => ⟨S2048x4096, .f32⟩
  | .hbm, ⟨11, _⟩ => ⟨S2048x4096, .f32⟩
  | .hbm, ⟨12, _⟩ => ⟨S_, .f32⟩
  | .hbm, ⟨13, _⟩ => ⟨S2048x4096, .f32⟩
  | .hbm, ⟨14, _⟩ => ⟨S2048x4096, .f32⟩
  | .hbm, ⟨15, _⟩ => ⟨S4x1x1024x1024, .bf16⟩
  | .hbm, ⟨16, _⟩ => ⟨S4x1024x1024, .bf16⟩
  | .hbm, ⟨17, _⟩ => ⟨S4096x1024, .bf16⟩
  | .hbm, ⟨18, _⟩ => ⟨S4096x1024, .f32⟩
  | .hbm, ⟨19, _⟩ => ⟨S2048x1024, .f32⟩
  | .hbm, ⟨20, _⟩ => ⟨S2048x4096, .f32⟩
  | .hbm, ⟨21, _⟩ => ⟨S2048x4096, .f32⟩
  | .hbm, ⟨22, _⟩ => ⟨S_, .f32⟩
  | .hbm, ⟨23, _⟩ => ⟨S2048x4096, .f32⟩
  | .hbm, ⟨24, _⟩ => ⟨S2048x4096, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_cst : Ref sig .tc := ⟨.hbm, 3, rfl⟩
abbrev main_call0_v0 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_2 : Ref sig .tc := ⟨.hbm, 22, rfl⟩
abbrev main_v14 : Ref sig .tc := ⟨.hbm, 23, rfl⟩
abbrev main_v15 : Ref sig .tc := ⟨.hbm, 24, rfl⟩

abbrev nD : Nat := 1
abbrev τ : Topo := Topo.v7x

variable {F : FTy → Type} [FloatOps F]
-- ==== Kernel10.lean ====
abbrev S2048x4096 : Shape := ⟨2, ![2048, 4096]⟩
abbrev S4x2x1024x1024 : Shape := ⟨4, ![4, 2, 1024, 1024]⟩
abbrev S2048x1024 : Shape := ⟨2, ![2048, 1024]⟩
abbrev S1024x1024 : Shape := ⟨2, ![1024, 1024]⟩
abbrev S1x1x1024x1024 : Shape := ⟨4, ![1, 1, 1024, 1024]⟩

abbrev nBuf : Space → Nat
  | .hbm => 4
  | .vmem => 8
  | .smem => 0
  | _ => 0

abbrev bufTy : (tb : Table) → Fin (tcTables nBuf tb) → BufTy
  | .hbm, ⟨0, _⟩ => ⟨S2048x4096, .f32⟩
  | .hbm, ⟨1, _⟩ => ⟨S4x2x1024x1024, .bf16⟩
  | .hbm, ⟨2, _⟩ => ⟨S2048x1024, .f32⟩
  | .hbm, ⟨3, _⟩ => ⟨S2048x1024, .f32⟩
  | .local _ .vmem, ⟨0, _⟩ => ⟨S1024x1024, .f32⟩
  | .local _ .vmem, ⟨1, _⟩ => ⟨S1024x1024, .f32⟩
  | .local _ .vmem, ⟨2, _⟩ => ⟨S1x1x1024x1024, .bf16⟩
  | .local _ .vmem, ⟨3, _⟩ => ⟨S1x1x1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | _, _ => ⟨S2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 1, 4], ![false, false, false]⟩

def k0_cond1 (i : grid0.Coords) : BitVec 1 :=
  let arg2 : BitVec 32 := BitVec.ofNat 32 (i 2).val
  let c0_i32 : BitVec 32 := 0#32
  let v5 : BitVec 1 := Scalar.cmpi .eq arg2 c0_i32
  let v6 : BitVec 32 := Scalar.extui v5
  let c0_i32_5 : BitVec 32 := 0#32
  let v7 : BitVec 1 := Scalar.cmpi .ne v6 c0_i32_5
  v7

def k0_cond2 (i : grid0.Coords) : BitVec 1 :=
  let arg2 : BitVec 32 := BitVec.ofNat 32 (i 2).val
  let c0_i32_6 : BitVec 32 := 0#32
  let v8 : BitVec 1 := Scalar.cmpi .sgt arg2 c0_i32_6
  let v9 : BitVec 32 := Scalar.extui v8
  let c0_i32_7 : BitVec 32 := 0#32
  let v10 : BitVec 1 := Scalar.cmpi .ne v9 c0_i32_7
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg2.toNat, c0_i32.toNat, arg1.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference10Ideal.lean ====
abbrev S2048x4096 : Shape := ⟨2, ![2048, 4096]⟩
abbrev S4x2x1024x1024 : Shape := ⟨4, ![4, 2, 1024, 1024]⟩
abbrev S2048x1024 : Shape := ⟨2, ![2048, 1024]⟩
abbrev S_ : Shape := ⟨0, ![]⟩
abbrev S4x1x1024x1024 : Shape := ⟨4, ![4, 1, 1024, 1024]⟩
abbrev S4x1024x1024 : Shape := ⟨3, ![4, 1024, 1024]⟩
abbrev S1024x4x1024 : Shape := ⟨3, ![1024, 4, 1024]⟩
abbrev S1024x4096 : Shape := ⟨2, ![1024, 4096]⟩

abbrev nBuf : Space → Nat
  | .hbm => 13
  | .vmem => 0
  | .smem => 0
  | _ => 0

abbrev bufTy : (tb : Table) → Fin (tcTables nBuf tb) → BufTy
  | .hbm, ⟨0, _⟩ => ⟨S2048x4096, .f32⟩
  | .hbm, ⟨1, _⟩ => ⟨S4x2x1024x1024, .bf16⟩
  | .hbm, ⟨2, _⟩ => ⟨S2048x1024, .f32⟩
  | .hbm, ⟨3, _⟩ => ⟨S_, .f32⟩
  | .hbm, ⟨4, _⟩ => ⟨S2048x1024, .f32⟩
  | .hbm, ⟨5, _⟩ => ⟨S4x1x1024x1024, .bf16⟩
  | .hbm, ⟨6, _⟩ => ⟨S4x1024x1024, .bf16⟩
  | .hbm, ⟨7, _⟩ => ⟨S1024x4x1024, .bf16⟩
  | .hbm, ⟨8, _⟩ => ⟨S1024x4096, .bf16⟩
  | .hbm, ⟨9, _⟩ => ⟨S1024x4096, .f32⟩
  | .hbm, ⟨10, _⟩ => ⟨S2048x4096, .f32⟩
  | .hbm, ⟨11, _⟩ => ⟨S2048x1024, .f32⟩
  | .hbm, ⟨12, _⟩ => ⟨S2048x1024, .f32⟩
  | _, _ => ⟨S2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩

abbrev nD : Nat := 1
abbrev τ : Topo := Topo.v7x

variable {F : FTy → Type} [FloatOps F]
-- ==== Kernel11.lean ====
abbrev S2048x1024 : Shape := ⟨2, ![2048, 1024]⟩
abbrev S4x2x1024x1024 : Shape := ⟨4, ![4, 2, 1024, 1024]⟩
abbrev S2048x4096 : Shape := ⟨2, ![2048, 4096]⟩
abbrev S1024x1024 : Shape := ⟨2, ![1024, 1024]⟩
abbrev S1x1x1024x1024 : Shape := ⟨4, ![1, 1, 1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S2048x1024, .f32⟩
  | .hbm, ⟨1, _⟩ => ⟨S4x2x1024x1024, .bf16⟩
  | .hbm, ⟨2, _⟩ => ⟨S2048x4096, .f32⟩
  | .local _ .vmem, ⟨0, _⟩ => ⟨S1024x1024, .f32⟩
  | .local _ .vmem, ⟨1, _⟩ => ⟨S1024x1024, .f32⟩
  | .local _ .vmem, ⟨2, _⟩ => ⟨S1x1x1024x1024, .bf16⟩
  | .local _ .vmem, ⟨3, _⟩ => ⟨S1x1x1024x1024, .bf16⟩
  | .local _ .vmem, ⟨4, _⟩ => ⟨S1024x1024, .f32⟩
  | .local _ .vmem, ⟨5, _⟩ => ⟨S1024x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 4, 1], ![false, false, false]⟩

def k0_cond1 (i : grid0.Coords) : BitVec 1 :=
  let arg2 : BitVec 32 := BitVec.ofNat 32 (i 2).val
  let c0_i32 : BitVec 32 := 0#32
  let v5 : BitVec 1 := Scalar.cmpi .eq arg2 c0_i32
  let v6 : BitVec 32 := Scalar.extui v5
  let c0_i32_5 : BitVec 32 := 0#32
  let v7 : BitVec 1 := Scalar.cmpi .ne v6 c0_i32_5
  v7

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let c0_i32 : BitVec 32 := 0#32
  let c0_i32_0 : BitVec 32 := 0#32
  ![arg1.toNat, c1_i32.toNat, arg2.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference11Ideal.lean ====
abbrev S2048x1024 : Shape := ⟨2, ![2048, 1024]⟩
abbrev S4x2x1024x1024 : Shape := ⟨4, ![4, 2, 1024, 1024]⟩
abbrev S4x1x1024x1024 : Shape := ⟨4, ![4, 1, 1024, 1024]⟩
abbrev S4x1024x1024 : Shape := ⟨3, ![4, 1024, 1024]⟩
abbrev S1024x4x1024 : Shape := ⟨3, ![1024, 4, 1024]⟩
abbrev S1024x4096 : Shape := ⟨2, ![1024, 4096]⟩
abbrev S2048x4096 : Shape := ⟨2, ![2048, 4096]⟩

abbrev nBuf : Space → Nat
  | .hbm => 8
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S4x2x1024x1024, .bf16⟩
  | .hbm, ⟨2, _⟩ => ⟨S4x1x1024x1024, .bf16⟩
  | .hbm, ⟨3, _⟩ => ⟨S4x1024x1024, .bf16⟩
  | .hbm, ⟨4, _⟩ => ⟨S1024x4x1024, .bf16⟩
  | .hbm, ⟨5, _⟩ => ⟨S1024x4096, .bf16⟩
  | .hbm, ⟨6, _⟩ => ⟨S1024x4096, .f32⟩
  | .hbm, ⟨7, _⟩ => ⟨S2048x4096, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩

abbrev nD : Nat := 1
abbrev τ : Topo := Topo.v7x

variable {F : FTy → Type} [FloatOps F]
-- ==== Kernel12.lean ====
abbrev S2048x4096 : Shape := ⟨2, ![2048, 4096]⟩
abbrev S4x2x1024x1024 : Shape := ⟨4, ![4, 2, 1024, 1024]⟩
abbrev S2048x1024 : Shape := ⟨2, ![2048, 1024]⟩
abbrev S1024x1024 : Shape := ⟨2, ![1024, 1024]⟩
abbrev S1x1x1024x1024 : Shape := ⟨4, ![1, 1, 1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S2048x4096, .f32⟩
  | .hbm, ⟨1, _⟩ => ⟨S4x2x1024x1024, .bf16⟩
  | .hbm, ⟨2, _⟩ => ⟨S2048x1024, .f32⟩
  | .local _ .vmem, ⟨0, _⟩ => ⟨S1024x1024, .f32⟩
  | .local _ .vmem, ⟨1, _⟩ => ⟨S1024x1024, .f32⟩
  | .local _ .vmem, ⟨2, _⟩ => ⟨S1x1x1024x1024, .bf16⟩
  | .local _ .vmem, ⟨3, _⟩ => ⟨S1x1x1024x1024, .bf16⟩
  | .local _ .vmem, ⟨4, _⟩ => ⟨S1024x1024, .f32⟩
  | .local _ .vmem, ⟨5, _⟩ => ⟨S1024x1024, .f32⟩
  | _, _ => ⟨S2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 4], ![false, false, false]⟩

def k0_cond1 (i : grid0.Coords) : BitVec 1 :=
  let arg2 : BitVec 32 := BitVec.ofNat 32 (i 2).val
  let c0_i32 : BitVec 32 := 0#32
  let v8 : BitVec 1 := Scalar.cmpi .eq arg2 c0_i32
  let v9 : BitVec 32 := Scalar.extui v8
  let c0_i32_6 : BitVec 32 := 0#32
  let v10 : BitVec 1 := Scalar.cmpi .ne v9 c0_i32_6
  v10

def k0_cond2 (i : grid0.Coords) : BitVec 1 :=
  let arg2 : BitVec 32 := BitVec.ofNat 32 (i 2).val
  let c0_i32_7 : BitVec 32 := 0#32
  let v11 : BitVec 1 := Scalar.cmpi .sgt arg2 c0_i32_7
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let c0_i32 : BitVec 32 := 0#32
  let c0_i32_0 : BitVec 32 := 0#32
  ![arg2.toNat, c1_i32.toNat, c0_i32.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference12Ideal.lean ====
abbrev S2048x4096 : Shape := ⟨2, ![2048, 4096]⟩
abbrev S4x2x1024x1024 : Shape := ⟨4, ![4, 2, 1024, 1024]⟩
abbrev S_ : Shape := ⟨0, ![]⟩
abbrev S4x1x1024x1024 : Shape := ⟨4, ![4, 1, 1024, 1024]⟩
abbrev S4x1024x1024 : Shape := ⟨3, ![4, 1024, 1024]⟩
abbrev S4096x1024 : Shape := ⟨2, ![4096, 1024]⟩
abbrev S2048x1024 : Shape := ⟨2, ![2048, 1024]⟩

abbrev nBuf : Space → Nat
  | .hbm => 11
  | .vmem => 0
  | .smem => 0
  | _ => 0

abbrev bufTy : (tb : Table) → Fin (tcTables nBuf tb) → BufTy
  | .hbm, ⟨0, _⟩ => ⟨S2048x4096, .f32⟩
  | .hbm, ⟨1, _⟩ => ⟨S4x2x1024x1024, .bf16⟩
  | .hbm, ⟨2, _⟩ => ⟨S_, .f32⟩
  | .hbm, ⟨3, _⟩ => ⟨S2048x4096, .f32⟩
  | .hbm, ⟨4, _⟩ => ⟨S2048x4096, .f32⟩
  | .hbm, ⟨5, _⟩ => ⟨S2048x4096, .f32⟩
  | .hbm, ⟨6, _⟩ => ⟨S4x1x1024x1024, .bf16⟩
  | .hbm, ⟨7, _⟩ => ⟨S4x1024x1024, .bf16⟩
  | .hbm, ⟨8, _⟩ => ⟨S4096x1024, .bf16⟩
  | .hbm, ⟨9, _⟩ => ⟨S4096x1024, .f32⟩
  | .hbm, ⟨10, _⟩ => ⟨S2048x1024, .f32⟩
  | _, _ => ⟨S2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_cst : Ref sig .tc := ⟨.hbm, 2, rfl⟩
abbrev main_call0_v0 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩

abbrev nD : Nat := 1
abbrev τ : Topo := Topo.v7x

variable {F : FTy → Type} [FloatOps F]
-- ==== Kernel13.lean ====
abbrev S2048x1024 : Shape := ⟨2, ![2048, 1024]⟩
abbrev S4x2x1024x1024 : Shape := ⟨4, ![4, 2, 1024, 1024]⟩
abbrev S2048x4096 : Shape := ⟨2, ![2048, 4096]⟩
abbrev S1024x1024 : Shape := ⟨2, ![1024, 1024]⟩
abbrev S1x1x1024x1024 : Shape := ⟨4, ![1, 1, 1024, 1024]⟩

abbrev nBuf : Space → Nat
  | .hbm => 4
  | .vmem => 8
  | .smem => 0
  | _ => 0

abbrev bufTy : (tb : Table) → Fin (tcTables nBuf tb) → BufTy
  | .hbm, ⟨0, _⟩ => ⟨S2048x1024, .f32⟩
  | .hbm, ⟨1, _⟩ => ⟨S4x2x1024x1024, .bf16⟩
  | .hbm, ⟨2, _⟩ => ⟨S2048x4096, .f32⟩
  | .hbm, ⟨3, _⟩ => ⟨S2048x4096, .f32⟩
  | .local _ .vmem, ⟨0, _⟩ => ⟨S1024x1024, .f32⟩
  | .local _ .vmem, ⟨1, _⟩ => ⟨S1024x1024, .f32⟩
  | .local _ .vmem, ⟨2, _⟩ => ⟨S1x1x1024x1024, .bf16⟩
  | .local _ .vmem, ⟨3, _⟩ => ⟨S1x1x1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 4, 1], ![false, false, false]⟩

def k0_cond1 (i : grid0.Coords) : BitVec 1 :=
  let arg2 : BitVec 32 := BitVec.ofNat 32 (i 2).val
  let c0_i32 : BitVec 32 := 0#32
  let v5 : BitVec 1 := Scalar.cmpi .eq arg2 c0_i32
  let v6 : BitVec 32 := Scalar.extui v5
  let c0_i32_5 : BitVec 32 := 0#32
  let v7 : BitVec 1 := Scalar.cmpi .ne v6 c0_i32_5
  v7

def k0_cond2 (i : grid0.Coords) : BitVec 1 :=
  let arg2 : BitVec 32 := BitVec.ofNat 32 (i 2).val
  let c0_i32_6 : BitVec 32 := 0#32
  let v8 : BitVec 1 := Scalar.cmpi .eq arg2 c0_i32_6
  let v9 : BitVec 32 := Scalar.extui v8
  let c0_i32_7 : BitVec 32 := 0#32
  let v10 : BitVec 1 := Scalar.cmpi .ne v9 c0_i32_7
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let c0_i32 : BitVec 32 := 0#32
  let c0_i32_0 : BitVec 32 := 0#32
  ![arg1.toNat, c1_i32.toNat, c0_i32.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference13Ideal.lean ====
abbrev S2048x1024 : Shape := ⟨2, ![2048, 1024]⟩
abbrev S4x2x1024x1024 : Shape := ⟨4, ![4, 2, 1024, 1024]⟩
abbrev S2048x4096 : Shape := ⟨2, ![2048, 4096]⟩
abbrev S_ : Shape := ⟨0, ![]⟩
abbrev S4x1x1024x1024 : Shape := ⟨4, ![4, 1, 1024, 1024]⟩
abbrev S4x1024x1024 : Shape := ⟨3, ![4, 1024, 1024]⟩
abbrev S4096x1024 : Shape := ⟨2, ![4096, 1024]⟩

abbrev nBuf : Space → Nat
  | .hbm => 25
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S4x2x1024x1024, .bf16⟩
  | .hbm, ⟨2, _⟩ => ⟨S2048x4096, .f32⟩
  | .hbm, ⟨3, _⟩ => ⟨S_, .f32⟩
  | .hbm, ⟨4, _⟩ => ⟨S2048x4096, .f32⟩
  | .hbm, ⟨5, _⟩ => ⟨S2048x4096, .f32⟩
  | .hbm, ⟨6, _⟩ => ⟨S_, .f32⟩
  | .hbm, ⟨7, _⟩ => ⟨S2048x4096, .f32⟩
  | .hbm, ⟨8, _⟩ => ⟨S2048x4096, .i1⟩
  | .hbm, ⟨9, _⟩ => ⟨S_, .f32⟩
  | .hbm, ⟨10, _⟩ => ⟨S2048x4096, .f32⟩
  | .hbm, ⟨11, _⟩ => ⟨S2048x4096, .f32⟩
  | .hbm, ⟨12, _⟩ => ⟨S_, .f32⟩
  | .hbm, ⟨13, _⟩ => ⟨S2048x4096, .f32⟩
  | .hbm, ⟨14, _⟩ => ⟨S2048x4096, .f32⟩
  | .hbm, ⟨15, _⟩ => ⟨S4x1x1024x1024, .bf16⟩
  | .hbm, ⟨16, _⟩ => ⟨S4x1024x1024, .bf16⟩
  | .hbm, ⟨17, _⟩ => ⟨S4096x1024, .bf16⟩
  | .hbm, ⟨18, _⟩ => ⟨S4096x1024, .f32⟩
  | .hbm, ⟨19, _⟩ => ⟨S2048x1024, .f32⟩
  | .hbm, ⟨20, _⟩ => ⟨S2048x4096, .f32⟩
  | .hbm, ⟨21, _⟩ => ⟨S2048x4096, .f32⟩
  | .hbm, ⟨22, _⟩ => ⟨S_, .f32⟩
  | .hbm, ⟨23, _⟩ => ⟨S2048x4096, .f32⟩
  | .hbm, ⟨24, _⟩ => ⟨S2048x4096, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_cst : Ref sig .tc := ⟨.hbm, 3, rfl⟩
abbrev main_call0_v0 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_2 : Ref sig .tc := ⟨.hbm, 22, rfl⟩
abbrev main_v14 : Ref sig .tc := ⟨.hbm, 23, rfl⟩
abbrev main_v15 : Ref sig .tc := ⟨.hbm, 24, rfl⟩

abbrev nD : Nat := 1
abbrev τ : Topo := Topo.v7x

variable {F : FTy → Type} [FloatOps F]
-- ==== Kernel14.lean ====
abbrev S2048x4096 : Shape := ⟨2, ![2048, 4096]⟩
abbrev S4x2x1024x1024 : Shape := ⟨4, ![4, 2, 1024, 1024]⟩
abbrev S2048x1024 : Shape := ⟨2, ![2048, 1024]⟩
abbrev S1024x1024 : Shape := ⟨2, ![1024, 1024]⟩
abbrev S1x1x1024x1024 : Shape := ⟨4, ![1, 1, 1024, 1024]⟩

abbrev nBuf : Space → Nat
  | .hbm => 4
  | .vmem => 8
  | .smem => 0
  | _ => 0

abbrev bufTy : (tb : Table) → Fin (tcTables nBuf tb) → BufTy
  | .hbm, ⟨0, _⟩ => ⟨S2048x4096, .f32⟩
  | .hbm, ⟨1, _⟩ => ⟨S4x2x1024x1024, .bf16⟩
  | .hbm, ⟨2, _⟩ => ⟨S2048x1024, .f32⟩
  | .hbm, ⟨3, _⟩ => ⟨S2048x1024, .f32⟩
  | .local _ .vmem, ⟨0, _⟩ => ⟨S1024x1024, .f32⟩
  | .local _ .vmem, ⟨1, _⟩ => ⟨S1024x1024, .f32⟩
  | .local _ .vmem, ⟨2, _⟩ => ⟨S1x1x1024x1024, .bf16⟩
  | .local _ .vmem, ⟨3, _⟩ => ⟨S1x1x1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | _, _ => ⟨S2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 1, 4], ![false, false, false]⟩

def k0_cond1 (i : grid0.Coords) : BitVec 1 :=
  let arg2 : BitVec 32 := BitVec.ofNat 32 (i 2).val
  let c0_i32 : BitVec 32 := 0#32
  let v5 : BitVec 1 := Scalar.cmpi .eq arg2 c0_i32
  let v6 : BitVec 32 := Scalar.extui v5
  let c0_i32_5 : BitVec 32 := 0#32
  let v7 : BitVec 1 := Scalar.cmpi .ne v6 c0_i32_5
  v7

def k0_cond2 (i : grid0.Coords) : BitVec 1 :=
  let arg2 : BitVec 32 := BitVec.ofNat 32 (i 2).val
  let c0_i32_6 : BitVec 32 := 0#32
  let v8 : BitVec 1 := Scalar.cmpi .sgt arg2 c0_i32_6
  let v9 : BitVec 32 := Scalar.extui v8
  let c0_i32_7 : BitVec 32 := 0#32
  let v10 : BitVec 1 := Scalar.cmpi .ne v9 c0_i32_7
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let c0_i32 : BitVec 32 := 0#32
  let c0_i32_0 : BitVec 32 := 0#32
  ![arg2.toNat, c1_i32.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference14Ideal.lean ====
abbrev S2048x4096 : Shape := ⟨2, ![2048, 4096]⟩
abbrev S4x2x1024x1024 : Shape := ⟨4, ![4, 2, 1024, 1024]⟩
abbrev S2048x1024 : Shape := ⟨2, ![2048, 1024]⟩
abbrev S_ : Shape := ⟨0, ![]⟩
abbrev S4x1x1024x1024 : Shape := ⟨4, ![4, 1, 1024, 1024]⟩
abbrev S4x1024x1024 : Shape := ⟨3, ![4, 1024, 1024]⟩
abbrev S1024x4x1024 : Shape := ⟨3, ![1024, 4, 1024]⟩
abbrev S1024x4096 : Shape := ⟨2, ![1024, 4096]⟩

abbrev nBuf : Space → Nat
  | .hbm => 13
  | .vmem => 0
  | .smem => 0
  | _ => 0

abbrev bufTy : (tb : Table) → Fin (tcTables nBuf tb) → BufTy
  | .hbm, ⟨0, _⟩ => ⟨S2048x4096, .f32⟩
  | .hbm, ⟨1, _⟩ => ⟨S4x2x1024x1024, .bf16⟩
  | .hbm, ⟨2, _⟩ => ⟨S2048x1024, .f32⟩
  | .hbm, ⟨3, _⟩ => ⟨S_, .f32⟩
  | .hbm, ⟨4, _⟩ => ⟨S2048x1024, .f32⟩
  | .hbm, ⟨5, _⟩ => ⟨S4x1x1024x1024, .bf16⟩
  | .hbm, ⟨6, _⟩ => ⟨S4x1024x1024, .bf16⟩
  | .hbm, ⟨7, _⟩ => ⟨S1024x4x1024, .bf16⟩
  | .hbm, ⟨8, _⟩ => ⟨S1024x4096, .bf16⟩
  | .hbm, ⟨9, _⟩ => ⟨S1024x4096, .f32⟩
  | .hbm, ⟨10, _⟩ => ⟨S2048x4096, .f32⟩
  | .hbm, ⟨11, _⟩ => ⟨S2048x1024, .f32⟩
  | .hbm, ⟨12, _⟩ => ⟨S2048x1024, .f32⟩
  | _, _ => ⟨S2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩

abbrev nD : Nat := 1
abbrev τ : Topo := Topo.v7x

variable {F : FTy → Type} [FloatOps F]
-- ==== Kernel15.lean ====
abbrev S2048x1024 : Shape := ⟨2, ![2048, 1024]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S2048x1024, .f32⟩
  | .hbm, ⟨1, _⟩ => ⟨S1024x1024, .bf16⟩
  | .hbm, ⟨2, _⟩ => ⟨S2048x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![2, 1, 1], ![false, false, false]⟩

def k0_cond1 (i : grid0.Coords) : BitVec 1 :=
  let arg2 : BitVec 32 := BitVec.ofNat 32 (i 2).val
  let c0_i32 : BitVec 32 := 0#32
  let v4 : BitVec 1 := Scalar.cmpi .eq arg2 c0_i32
  let v5 : BitVec 32 := Scalar.extui v4
  let c0_i32_3 : BitVec 32 := 0#32
  let v6 : BitVec 1 := Scalar.cmpi .ne v5 c0_i32_3
  v6

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference15Ideal.lean ====
abbrev S2048x1024 : Shape := ⟨2, ![2048, 1024]⟩
abbrev S1024x1024 : Shape := ⟨2, ![1024, 1024]⟩
abbrev S_ : Shape := ⟨0, ![]⟩

abbrev nBuf : Space → Nat
  | .hbm => 7
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1024x1024, .bf16⟩
  | .hbm, ⟨2, _⟩ => ⟨S_, .f32⟩
  | .hbm, ⟨3, _⟩ => ⟨S2048x1024, .f32⟩
  | .hbm, ⟨4, _⟩ => ⟨S1024x1024, .f32⟩
  | .hbm, ⟨5, _⟩ => ⟨S2048x1024, .f32⟩
  | .hbm, ⟨6, _⟩ => ⟨S2048x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Proof.Arr.lean ====
module
public import proofs.«01_k».proof.Proof.Gen.KernelIdeal.Loops
public import proofs.«01_k».proof.Proof.Gen.KernelIdeal.Points
public import Idealize.ShloMosaic.Lib.VecWindow
public import Idealize.ShloMosaic.Lib.WritesUnit
public import Idealize.ShloMosaic.Lib.Pointwise
@[expose] public section
set_option maxRecDepth 16384
noncomputable section
namespace Cert.Proof.Scan
open Cert.KernelIdeal Cert.KernelIdeal.Gen
open Idealize.ShloMosaic Idealize.ShloMosaic.TcCoe

variable {F : FTy → Type}

/-! Rows and slabs of the blocks as plain functions of their indices, and what the stores of one trip leave. -/

/-- A row of a head at a step. -/
def rowOf (A : Vec F S4x128x64 .f32) (h : Fin 4) (t : Fin 128) : Vec F S1x1x64 .f32 := fun j => A (ix3 h t (j 2))
/-- A head's slab. -/
def slabOf (A : Vec F S4x64x128 .f32) (h : Fin 4) : Vec F S1x64x128 .f32 := fun j => A (ix3 h (j 1) (j 2))
/-- A head's state at a step. -/
def stateOf (A : Vec F S128x4x64x64 .f32) (t : Fin 128) (h : Fin 4) : Vec F S1x1x64x64 .f32 :=
  fun j => A (ix4 t h (j 2) (j 3))
/-- A head's matrix. -/
def matOf (A : Vec F S4x64x64 .f32) (h : Fin 4) : Vec F S1x64x64 .f32 := fun j => A (ix3 h (j 1) (j 2))

section Loads
variable {κ : Kind} {sp : Space} {Val : EltTy → Type}

theorem readAt_row (v : View sig κ sp S4x128x64 .f32) (f : v.ty.Contents (Elt F)) {off : Fin 3 → ℕ}
    (inb : ∀ a, off a + S1x1x64.size a ≤ S4x128x64.size a) (h : Fin 4) (t : Fin 128) (ho : off = ![h.val, t.val, 0]) :
    v.readAt (Elt F) (Rect.unit (s := S4x128x64) off S1x1x64.size inb).toLoadRect f
      = rowOf (F := F) (v.read (Elt F) f) h t := by
  subst ho
  rw [View.readAt_unit v f inb rfl inb]
  funext j
  have h0 : (j (0 : Fin 3)).val = 0 := by have : (j (0 : Fin 3)).val < 1 := (j (0 : Fin 3)).isLt; omega
  have h1 : (j (1 : Fin 3)).val = 0 := by have : (j (1 : Fin 3)).val < 1 := (j (1 : Fin 3)).isLt; omega
  refine congrArg (v.read (Elt F) f) (funext fun a => Fin.ext ?_)
  match a with
  | ⟨0, _⟩ => show h.val + 1 * (j (0 : Fin 3)).val = h.val; omega
  | ⟨1, _⟩ => show t.val + 1 * (j (1 : Fin 3)).val = t.val; omega
  | ⟨2, _⟩ => show 0 + 1 * (j (2 : Fin 3)).val = (j (2 : Fin 3)).val; omega

theorem readAt_slab (v : View sig κ sp S4x64x128 .f32) (f : v.ty.Contents (Elt F)) {off : Fin 3 → ℕ}
    (inb : ∀ a, off a + S1x64x128.size a ≤ S4x64x128.size a) (h : Fin 4) (ho : off = ![h.val, 0, 0]) :
    v.readAt (Elt F) (Rect.unit (s := S4x64x128) off S1x64x128.size inb).toLoadRect f
      = slabOf (F := F) (v.read (Elt F) f) h := by
  subst ho
  rw [View.readAt_unit v f inb rfl inb]
  funext j
  have h0 : (j (0 : Fin 3)).val = 0 := by have : (j (0 : Fin 3)).val < 1 := (j (0 : Fin 3)).isLt; omega
  refine congrArg (v.read (Elt F) f) (funext fun a => Fin.ext ?_)
  match a with
  | ⟨0, _⟩ => show h.val + 1 * (j (0 : Fin 3)).val = h.val; omega
  | ⟨1, _⟩ => show 0 + 1 * (j (1 : Fin 3)).val = (j (1 : Fin 3)).val; omega
  | ⟨2, _⟩ => show 0 + 1 * (j (2 : Fin 3)).val = (j (2 : Fin 3)).val; omega

theorem readAt_mat (v : View sig κ sp S4x64x64 .f32) (f : v.ty.Contents (Elt F)) {off : Fin 3 → ℕ}
    (inb : ∀ a, off a + S1x64x64.size a ≤ S4x64x64.size a) (h : Fin 4) (ho : off = ![h.val, 0, 0]) :
    v.readAt (Elt F) (Rect.unit (s := S4x64x64) off S1x64x64.size inb).toLoadRect f
      = matOf (F := F) (v.read (Elt F) f) h := by
  subst ho
  rw [View.readAt_unit v f inb rfl inb]
  funext j
  have h0 : (j (0 : Fin 3)).val = 0 := by have : (j (0 : Fin 3)).val < 1 := (j (0 : Fin 3)).isLt; omega
  refine congrArg (v.read (Elt F) f) (funext fun a => Fin.ext ?_)
  match a with
  | ⟨0, _⟩ => show h.val + 1 * (j (0 : Fin 3)).val = h.val; omega
  | ⟨1, _⟩ => show 0 + 1 * (j (1 : Fin 3)).val = (j (1 : Fin 3)).val; omega
  | ⟨2, _⟩ => show 0 + 1 * (j (2 : Fin 3)).val = (j (2 : Fin 3)).val; omega

theorem readAt_state (v : View sig κ sp S128x4x64x64 .f32) (f : v.ty.Contents (Elt F)) {off : Fin 4 → ℕ}
    (inb : ∀ a, off a + S1x1x64x64.size a ≤ S128x4x64x64.size a) (t : Fin 128) (h : Fin 4)
    (ho : off = ![t.val, h.val, 0, 0]) :
    v.readAt (Elt F) (Rect.unit (s := S128x4x64x64) off S1x1x64x64.size inb).toLoadRect f
      = stateOf (F := F) (v.read (Elt F) f) t h := by
  subst ho
  rw [View.readAt_unit v f inb rfl inb]
  funext j
  have h0 : (j (0 : Fin 4)).val = 0 := by have : (j (0 : Fin 4)).val < 1 := (j (0 : Fin 4)).isLt; omega
  have h1 : (j (1 : Fin 4)).val = 0 := by have : (j (1 : Fin 4)).val < 1 := (j (1 : Fin 4)).isLt; omega
  refine congrArg (v.read (Elt F) f) (funext fun a => Fin.ext ?_)
  match a with
  | ⟨0, _⟩ => show t.val + 1 * (j (0 : Fin 4)).val = t.val; omega
  | ⟨1, _⟩ => show h.val + 1 * (j (1 : Fin 4)).val = h.val; omega
  | ⟨2, _⟩ => show 0 + 1 * (j (2 : Fin 4)).val = (j (2 : Fin 4)).val; omega
  | ⟨3, _⟩ => show 0 + 1 * (j (3 : Fin 4)).val = (j (3 : Fin 4)).val; omega

/-- A row written at head `h`, step `t`: read at its own index the row, elsewhere what was there. -/
theorem read_row_cons (v : View sig κ sp S4x128x64 .f32) (f : v.ty.Contents (Elt F)) {off : Fin 3 → ℕ}
    (inb : ∀ a, off a + S1x1x64.size a ≤ S4x128x64.size a) (w : Vec F S1x1x64 .f32)
    (L : List (View.Piece (Elt F) S4x128x64 .f32)) (h : Fin 4) (t : Fin 128) (ho : off = ![h.val, t.val, 0])
    (h' : Fin 4) (t' : Fin 128) (j : Fin 64) :
    v.read (Elt F) (v.writes (Elt F) f ((⟨Rect.unit (s := S4x128x64) off S1x1x64.size inb, w⟩ : View.Piece (Elt F) S4x128x64 .f32) :: L)) (ix3 h' t' j)
      = if h' = h ∧ t' = t then w (ix3 0 0 j) else v.read (Elt F) (v.writes (Elt F) f L) (ix3 h' t' j) := by
  split
  · next hh =>
    obtain ⟨rfl, rfl⟩ := hh
    refine View.read_writes_cons_unit_of_mem v f inb w L _ (ix3 (0 : Fin 1) (0 : Fin 1) j) ho fun a => ?_
    match a with
    | ⟨0, _⟩ => rfl
    | ⟨1, _⟩ => rfl
    | ⟨2, _⟩ => exact (Nat.zero_add _).symm
  · next hh =>
    by_cases e : h' = h
    · have e2 : t' ≠ t := fun e2 => hh ⟨e, e2⟩
      refine View.read_writes_cons_unit_of_not_mem v f inb w L _ ho (1 : Fin 3) ?_
      have : t'.val ≠ t.val := fun q => e2 (Fin.ext q)
      show t'.val < t.val ∨ t.val + 1 ≤ t'.val
      omega
    · refine View.read_writes_cons_unit_of_not_mem v f inb w L _ ho (0 : Fin 3) ?_
      have : h'.val ≠ h.val := fun q => e (Fin.ext q)
      show h'.val < h.val ∨ h.val + 1 ≤ h'.val
      omega

/-- A slab written at head `h`. -/
theorem read_slab_cons (v : View sig κ sp S4x64x128 .f32) (f : v.ty.Contents (Elt F)) {off : Fin 3 → ℕ}
    (inb : ∀ a, off a + S1x64x128.size a ≤ S4x64x128.size a) (w : Vec F S1x64x128 .f32)
    (L : List (View.Piece (Elt F) S4x64x128 .f32)) (h : Fin 4) (ho : off = ![h.val, 0, 0])
    (h' : Fin 4) (i : Fin 64) (j : Fin 128) :
    v.read (Elt F) (v.writes (Elt F) f ((⟨Rect.unit (s := S4x64x128) off S1x64x128.size inb, w⟩ : View.Piece (Elt F) S4x64x128 .f32) :: L)) (ix3 h' i j)
      = if h' = h then w (ix3 0 i j) else v.read (Elt F) (v.writes (Elt F) f L) (ix3 h' i j) := by
  split
  · next hh =>
    subst hh
    refine View.read_writes_cons_unit_of_mem v f inb w L _ (ix3 (0 : Fin 1) i j) ho fun a => ?_
    match a with
    | ⟨0, _⟩ => rfl
    | ⟨1, _⟩ => exact (Nat.zero_add _).symm
    | ⟨2, _⟩ => exact (Nat.zero_add _).symm
  · next e =>
    refine View.read_writes_cons_unit_of_not_mem v f inb w L _ ho (0 : Fin 3) ?_
    have : h'.val ≠ h.val := fun q => e (Fin.ext q)
    show h'.val < h.val ∨ h.val + 1 ≤ h'.val
    omega

/-- A matrix written at head `h`. -/
theorem read_mat_cons (v : View sig κ sp S4x64x64 .f32) (f : v.ty.Contents (Elt F)) {off : Fin 3 → ℕ}
    (inb : ∀ a, off a + S1x64x64.size a ≤ S4x64x64.size a) (w : Vec F S1x64x64 .f32)
    (L : List (View.Piece (Elt F) S4x64x64 .f32)) (h : Fin 4) (ho : off = ![h.val, 0, 0])
    (h' : Fin 4) (i : Fin 64) (j : Fin 64) :
    v.read (Elt F) (v.writes (Elt F) f ((⟨Rect.unit (s := S4x64x64) off S1x64x64.size inb, w⟩ : View.Piece (Elt F) S4x64x64 .f32) :: L)) (ix3 h' i j)
      = if h' = h then w (ix3 0 i j) else v.read (Elt F) (v.writes (Elt F) f L) (ix3 h' i j) := by
  split
  · next hh =>
    subst hh
    refine View.read_writes_cons_unit_of_mem v f inb w L _ (ix3 (0 : Fin 1) i j) ho fun a => ?_
    match a with
    | ⟨0, _⟩ => rfl
    | ⟨1, _⟩ => exact (Nat.zero_add _).symm
    | ⟨2, _⟩ => exact (Nat.zero_add _).symm
  · next e =>
    refine View.read_writes_cons_unit_of_not_mem v f inb w L _ ho (0 : Fin 3) ?_
    have : h'.val ≠ h.val := fun q => e (Fin.ext q)
    show h'.val < h.val ∨ h.val + 1 ≤ h'.val
    omega

/-- A head's state written at step `t`. -/
theorem read_state_cons (v : View sig κ sp S128x4x64x64 .f32) (f : v.ty.Contents (Elt F)) {off : Fin 4 → ℕ}
    (inb : ∀ a, off a + S1x1x64x64.size a ≤ S128x4x64x64.size a) (w : Vec F S1x1x64x64 .f32)
    (L : List (View.Piece (Elt F) S128x4x64x64 .f32)) (t : Fin 128) (h : Fin 4) (ho : off = ![t.val, h.val, 0, 0])
    (t' : Fin 128) (h' : Fin 4) (i j : Fin 64) :
    v.read (Elt F) (v.writes (Elt F) f ((⟨Rect.unit (s := S128x4x64x64) off S1x1x64x64.size inb, w⟩ : View.Piece (Elt F) S128x4x64x64 .f32) :: L)) (ix4 t' h' i j)
      = if h' = h ∧ t' = t then w (ix4 0 0 i j) else v.read (Elt F) (v.writes (Elt F) f L) (ix4 t' h' i j) := by
  split
  · next hh =>
    obtain ⟨rfl, rfl⟩ := hh
    refine View.read_writes_cons_unit_of_mem v f inb w L _ (ix4 (0 : Fin 1) (0 : Fin 1) i j) ho fun a => ?_
    match a with
    | ⟨0, _⟩ => rfl
    | ⟨1, _⟩ => rfl
    | ⟨2, _⟩ => exact (Nat.zero_add _).symm
    | ⟨3, _⟩ => exact (Nat.zero_add _).symm
  · next hh =>
    by_cases e : h' = h
    · have e2 : t' ≠ t := fun e2 => hh ⟨e, e2⟩
      refine View.read_writes_cons_unit_of_not_mem v f inb w L _ ho (0 : Fin 4) ?_
      have : t'.val ≠ t.val := fun q => e2 (Fin.ext q)
      show t'.val < t.val ∨ t.val + 1 ≤ t'.val
      omega
    · refine View.read_writes_cons_unit_of_not_mem v f inb w L _ ho (1 : Fin 4) ?_
      have : h'.val ≠ h.val := fun q => e (Fin.ext q)
      show h'.val < h.val ∨ h.val + 1 ≤ h'.val
      omega
end Loads
end Cert.Proof.Scan
end
-- ==== Proof.BwdStep.lean ====
module
public import proofs.«01_k».proof.Proof.Arr
@[expose] public section
set_option maxRecDepth 16384
set_option maxHeartbeats 1000000
noncomputable section
namespace Cert.Proof.Scan
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
variable {F : FTy → Type} [FloatOps F]
local notation "𝕄G" => MT nD τ sig Unit (Elt F) ℕ (UR sig nD τ) ℕ

/-! One step of one head of the backward scan, and one trip of its loop over the blocks' arrays. -/

/-- The four heads' matrices the loop carries. -/
abbrev Acc (F : FTy → Type) := FVec F S64x64 .f32 × FVec F S64x64 .f32 × FVec F S64x64 .f32 × FVec F S64x64 .f32
/-- A matrix of every head as what the loop carries. -/
abbrev pack (D : Fin 4 → FVec F S64x64 .f32) : Acc F := (D 0, D 1, D 2, D 3)

/-- What one step of one head reads: the saved state, the rows `r w k kk a` and the slabs holding the transposed `v` and `dy`. -/
structure Ld (F : FTy → Type) where
  s : Vec F S1x1x64x64 .f32
  r : Vec F S1x1x64 .f32
  w : Vec F S1x1x64 .f32
  k : Vec F S1x1x64 .f32
  kk : Vec F S1x1x64 .f32
  a : Vec F S1x1x64 .f32
  v : Vec F S1x64x128 .f32
  dy : Vec F S1x64x128 .f32

theorem Ld.ext_of {x y : Ld F} (hs : x.s = y.s) (hr : x.r = y.r) (hw : x.w = y.w) (hk : x.k = y.k) (hkk : x.kk = y.kk)
    (ha : x.a = y.a) (hv : x.v = y.v) (hdy : x.dy = y.dy) : x = y := by
  cases x; cases y; cases hs; cases hr; cases hw; cases hk; cases hkk; cases ha; cases hv; cases hdy; rfl

/-- The lane numbers. -/
abbrev lanes : IVec S64x128 32 := iota .tc S64x128 32 [1] iota_S64x128_d1_w32

section Step
variable (i : Fin k1_t1_loop.trips) (x : Ld F) (ds : FVec F S64x64 .f32)

/-- The column of `v` at the step. -/
def vcol : FVec F S64x1 .f32 := k1_pay10 lanes 0#32 1#32 i x.v
/-- The column of `dy` at the step. -/
def dycol : FVec F S64x1 .f32 := k1_pay11 lanes 0#32 1#32 i x.dy
/-- The state's product with `-kk`, a column. -/
def saOf : FVec F S64x1 .f32 := k1_pay12 (k1_pay4 x.s) (k1_pay8 x.kk)
/-- The adjoint of the state after the step. -/
def gOf : FVec F S64x64 .f32 := k1_pay14 ds (k1_pay5 x.r) (dycol i x)
/-- The step's row of `dr`. -/
def dr (_ds : FVec F S64x64 .f32) : FVec F S1x1x64 .f32 :=
  k1_pay13 (k1_pay4 x.s) (k1_pay6 x.w) (k1_pay7 x.k) (k1_pay8 x.kk) (k1_pay9 x.a) (vcol i x) (dycol i x)
/-- The step's row of `dw`. -/
def dw : FVec F S1x1x64 .f32 := k1_pay15 ds (k1_pay4 x.s) (k1_pay5 x.r) (dycol i x)
/-- The step's row of `dk`. -/
def dk : FVec F S1x1x64 .f32 := k1_pay16 ds (k1_pay5 x.r) (vcol i x) (dycol i x)
/-- The step's row of `dkk`. -/
def dkk : FVec F S1x1x64 .f32 := k1_pay20 (k1_pay4 x.s) (k1_pay8 x.kk) (k1_pay9 x.a) (saOf x) (gOf i x ds)
/-- The step's row of `da`. -/
def da : FVec F S1x1x64 .f32 := k1_pay21 (k1_pay8 x.kk) (saOf x) (gOf i x ds)
/-- The slab of `dv` columns after the step, over the slab before. -/
def dvSlab (old : Vec F S1x64x128 .f32) : FVec F S1x64x128 .f32 :=
  k1_pay22 lanes (Scalar.subi 127#32 (Scf.iv 0#32 1#32 i)) (k1_pay17 ds (k1_pay5 x.r) (k1_pay7 x.k) (dycol i x)) old
/-- The adjoint of the state before the step. -/
def dsNext : FVec F S64x64 .f32 := k1_pay23 (k1_pay6 x.w) (k1_pay8 x.kk) (k1_pay9 x.a) (gOf i x ds)
end Step

/-- The blocks the backward scan reads, as arrays: saved states, `r w k kk a`, and `v`, `dy` transposed by head. -/
structure Blk (F : FTy → Type) where
  s : Vec F S128x4x64x64 .f32
  r : Vec F S4x128x64 .f32
  w : Vec F S4x128x64 .f32
  k : Vec F S4x128x64 .f32
  kk : Vec F S4x128x64 .f32
  a : Vec F S4x128x64 .f32
  v : Vec F S4x64x128 .f32
  dy : Vec F S4x64x128 .f32

theorem trips1 : k1_t1_loop.trips = 128 := by decide +kernel
theorem lt1 (i : Fin k1_t1_loop.trips) : i.val < 128 := trips1 ▸ i.isLt
/-- The step a trip of the backward loop takes: the last first. -/
def tOf (i : Fin k1_t1_loop.trips) : Fin 128 := ⟨127 - i.val, by omega⟩

/-- What head `h` reads at a trip. -/
def Blk.ld (B : Blk F) (i : Fin k1_t1_loop.trips) (h : Fin 4) : Ld F :=
  ⟨stateOf B.s (tOf i) h, rowOf B.r h (tOf i), rowOf B.w h (tOf i), rowOf B.k h (tOf i), rowOf B.kk h (tOf i),
    rowOf B.a h (tOf i), slabOf B.v h, slabOf B.dy h⟩

/-- A row per head written at a trip, the last head's first. -/
abbrev rowPcs (i : Fin k1_t1_loop.trips) (q : Fin 4 → Vec F S1x1x64 .f32) : List (View.Piece (Elt F) S4x128x64 .f32) :=
  [⟨Rect.unit (s := S4x128x64) (k1_off8 i) S1x1x64.size (k1_off8_inb i), q 3⟩,
   ⟨Rect.unit (s := S4x128x64) (k1_off6 i) S1x1x64.size (k1_off6_inb i), q 2⟩,
   ⟨Rect.unit (s := S4x128x64) (k1_off4 i) S1x1x64.size (k1_off4_inb i), q 1⟩,
   ⟨Rect.unit (s := S4x128x64) (k1_off2 i) S1x1x64.size (k1_off2_inb i), q 0⟩]
/-- A slab per head. -/
abbrev slabPcs (q : Fin 4 → Vec F S1x64x128 .f32) : List (View.Piece (Elt F) S4x64x128 .f32) :=
  [⟨Rect.unit (s := S4x64x128) ![3, 0, 0] S1x64x128.size inb_S4x64x128_S1x64x128_3_0_0, q 3⟩,
   ⟨Rect.unit (s := S4x64x128) ![2, 0, 0] S1x64x128.size inb_S4x64x128_S1x64x128_2_0_0, q 2⟩,
   ⟨Rect.unit (s := S4x64x128) ![1, 0, 0] S1x64x128.size inb_S4x64x128_S1x64x128_1_0_0, q 1⟩,
   ⟨Rect.unit (s := S4x64x128) ![0, 0, 0] S1x64x128.size inb_S4x64x128_S1x64x128_0_0_0, q 0⟩]

theorem off1_eq : ∀ i : Fin k1_t1_loop.trips, k1_off1 i = ![(tOf i).val, 0, 0, 0] := by decide +kernel
theorem off3_eq : ∀ i : Fin k1_t1_loop.trips, k1_off3 i = ![(tOf i).val, 1, 0, 0] := by decide +kernel
theorem off5_eq : ∀ i : Fin k1_t1_loop.trips, k1_off5 i = ![(tOf i).val, 2, 0, 0] := by decide +kernel
theorem off7_eq : ∀ i : Fin k1_t1_loop.trips, k1_off7 i = ![(tOf i).val, 3, 0, 0] := by decide +kernel
theorem off2_eq : ∀ i : Fin k1_t1_loop.trips, k1_off2 i = ![0, (tOf i).val, 0] := by decide +kernel
theorem off4_eq : ∀ i : Fin k1_t1_loop.trips, k1_off4 i = ![1, (tOf i).val, 0] := by decide +kernel
theorem off6_eq : ∀ i : Fin k1_t1_loop.trips, k1_off6 i = ![2, (tOf i).val, 0] := by decide +kernel
theorem off8_eq : ∀ i : Fin k1_t1_loop.trips, k1_off8 i = ![3, (tOf i).val, 0] := by decide +kernel

/-- After a trip's rows: at the trip's step the heads' rows, elsewhere what was there. -/
theorem read_rowPcs {κ : Kind} {sp : Space} (v : View sig κ sp S4x128x64 .f32) (f : v.ty.Contents (Elt F))
    (i : Fin k1_t1_loop.trips) (q : Fin 4 → Vec F S1x1x64 .f32) (h : Fin 4) (t : Fin 128) (j : Fin 64) :
    v.read (Elt F) (v.writes (Elt F) f (rowPcs i q)) (ix3 h t j)
      = if t = tOf i then q h (ix3 0 0 j) else v.read (Elt F) f (ix3 h t j) := by
  rw [read_row_cons v f _ _ _ 3 (tOf i) (off8_eq i), read_row_cons v f _ _ _ 2 (tOf i) (off6_eq i),
    read_row_cons v f _ _ _ 1 (tOf i) (off4_eq i), read_row_cons v f _ _ _ 0 (tOf i) (off2_eq i)]
  by_cases e : t = tOf i
  · match h with
    | 0 => simp [e]
    | 1 => simp [e]
    | 2 => simp [e]
    | 3 => simp [e]
  · simp [e, View.writes]

/-- After the heads' slabs. -/
theorem read_slabPcs {κ : Kind} {sp : Space} (v : View sig κ sp S4x64x128 .f32) (f : v.ty.Contents (Elt F))
    (q : Fin 4 → Vec F S1x64x128 .f32) (h : Fin 4) (a : Fin 64) (j : Fin 128) :
    v.read (Elt F) (v.writes (Elt F) f (slabPcs q)) (ix3 h a j) = q h (ix3 0 a j) := by
  rw [read_slab_cons (off := ![3, 0, 0]) v f _ _ _ 3 rfl, read_slab_cons (off := ![2, 0, 0]) v f _ _ _ 2 rfl, read_slab_cons (off := ![1, 0, 0]) v f _ _ _ 1 rfl,
    read_slab_cons (off := ![0, 0, 0]) v f _ _ _ 0 rfl]
  match h with
  | 0 => rfl
  | 1 => rfl
  | 2 => rfl
  | 3 => rfl

end Cert.Proof.Scan
end
-- ==== Proof.BwdTrip.lean ====
module
public import proofs.«01_k».proof.Proof.BwdStep
@[expose] public section
set_option maxRecDepth 16384
set_option maxHeartbeats 1000000
noncomputable section
namespace Cert.Proof.Scan
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
variable {F : FTy → Type} [FloatOps F]
local notation "𝕄G" => MT nD τ sig Unit (Elt F) ℕ (UR sig nD τ) ℕ
section Trip
variable (c : Dev nD) (i : grid1.Coords)
  (arg1 : Memref sig .tc .vmem S4x128x64 .f32) (harg1 : arg1.IsWhole)
  (arg2 : Memref sig .tc .vmem S4x128x64 .f32) (harg2 : arg2.IsWhole)
  (arg3 : Memref sig .tc .vmem S4x128x64 .f32) (harg3 : arg3.IsWhole)
  (arg4 : Memref sig .tc .vmem S4x128x64 .f32) (harg4 : arg4.IsWhole)
  (arg5 : Memref sig .tc .vmem S4x128x64 .f32) (harg5 : arg5.IsWhole)
  (arg6 : Memref sig .tc .vmem S128x256 .f32) (harg6 : arg6.IsWhole)
  (arg7 : Memref sig .tc .vmem S128x256 .f32) (harg7 : arg7.IsWhole)
  (arg8 : Memref sig .tc .vmem S128x4x64x64 .f32) (harg8 : arg8.IsWhole)
  (arg9 : Memref sig .tc .vmem S4x128x64 .f32) (harg9 : arg9.IsWhole)
  (arg10 : Memref sig .tc .vmem S4x128x64 .f32) (harg10 : arg10.IsWhole)
  (arg11 : Memref sig .tc .vmem S4x128x64 .f32) (harg11 : arg11.IsWhole)
  (arg12 : Memref sig .tc .vmem S4x128x64 .f32) (harg12 : arg12.IsWhole)
  (arg13 : Memref sig .tc .vmem S4x128x64 .f32) (harg13 : arg13.IsWhole)
  (arg14 : Memref sig .tc .vmem S128x256 .f32) (harg14 : arg14.IsWhole)
  (arg15 : Memref sig .tc .vmem S4x64x64 .f32) (harg15 : arg15.IsWhole)
  (arg16 : Memref sig .tc .vmem S4x64x128 .f32) (harg16 : arg16.IsWhole)
  (arg17 : Memref sig .tc .vmem S4x64x128 .f32) (harg17 : arg17.IsWhole)
  (arg18 : Memref sig .tc .vmem S4x64x128 .f32) (harg18 : arg18.IsWhole)

/-- What head `h` loads at a trip, from the memrefs. -/
abbrev rawLd (k : Fin k1_t1_loop.trips) (X8 : BufTy.Contents (Elt F) arg8.view.ty) (X1 : BufTy.Contents (Elt F) arg1.view.ty) (X2 : BufTy.Contents (Elt F) arg2.view.ty) (X3 : BufTy.Contents (Elt F) arg3.view.ty) (X4 : BufTy.Contents (Elt F) arg4.view.ty) (X5 : BufTy.Contents (Elt F) arg5.view.ty) (X16 : BufTy.Contents (Elt F) arg16.view.ty) (X17 : BufTy.Contents (Elt F) arg17.view.ty) : Fin 4 → Ld F
  | 0 => ⟨arg8.view.readAt (Elt F) (Rect.unit (s := S128x4x64x64) (k1_off1 k) S1x1x64x64.size (k1_off1_inb k)).toLoadRect X8,
      arg1.view.readAt (Elt F) (Rect.unit (s := S4x128x64) (k1_off2 k) S1x1x64.size (k1_off2_inb k)).toLoadRect X1,
      arg2.view.readAt (Elt F) (Rect.unit (s := S4x128x64) (k1_off2 k) S1x1x64.size (k1_off2_inb k)).toLoadRect X2,
      arg3.view.readAt (Elt F) (Rect.unit (s := S4x128x64) (k1_off2 k) S1x1x64.size (k1_off2_inb k)).toLoadRect X3,
      arg4.view.readAt (Elt F) (Rect.unit (s := S4x128x64) (k1_off2 k) S1x1x64.size (k1_off2_inb k)).toLoadRect X4,
      arg5.view.readAt (Elt F) (Rect.unit (s := S4x128x64) (k1_off2 k) S1x1x64.size (k1_off2_inb k)).toLoadRect X5,
      arg16.view.readAt (Elt F) (Rect.unit (s := S4x64x128) ![0, 0, 0] S1x64x128.size inb_S4x64x128_S1x64x128_0_0_0).toLoadRect X16,
      arg17.view.readAt (Elt F) (Rect.unit (s := S4x64x128) ![0, 0, 0] S1x64x128.size inb_S4x64x128_S1x64x128_0_0_0).toLoadRect X17⟩
  | 1 => ⟨arg8.view.readAt (Elt F) (Rect.unit (s := S128x4x64x64) (k1_off3 k) S1x1x64x64.size (k1_off3_inb k)).toLoadRect X8,
      arg1.view.readAt (Elt F) (Rect.unit (s := S4x128x64) (k1_off4 k) S1x1x64.size (k1_off4_inb k)).toLoadRect X1,
      arg2.view.readAt (Elt F) (Rect.unit (s := S4x128x64) (k1_off4 k) S1x1x64.size (k1_off4_inb k)).toLoadRect X2,
      arg3.view.readAt (Elt F) (Rect.unit (s := S4x128x64) (k1_off4 k) S1x1x64.size (k1_off4_inb k)).toLoadRect X3,
      arg4.view.readAt (Elt F) (Rect.unit (s := S4x128x64) (k1_off4 k) S1x1x64.size (k1_off4_inb k)).toLoadRect X4,
      arg5.view.readAt (Elt F) (Rect.unit (s := S4x128x64) (k1_off4 k) S1x1x64.size (k1_off4_inb k)).toLoadRect X5,
      arg16.view.readAt (Elt F) (Rect.unit (s := S4x64x128) ![1, 0, 0] S1x64x128.size inb_S4x64x128_S1x64x128_1_0_0).toLoadRect X16,
      arg17.view.readAt (Elt F) (Rect.unit (s := S4x64x128) ![1, 0, 0] S1x64x128.size inb_S4x64x128_S1x64x128_1_0_0).toLoadRect X17⟩
  | 2 => ⟨arg8.view.readAt (Elt F) (Rect.unit (s := S128x4x64x64) (k1_off5 k) S1x1x64x64.size (k1_off5_inb k)).toLoadRect X8,
      arg1.view.readAt (Elt F) (Rect.unit (s := S4x128x64) (k1_off6 k) S1x1x64.size (k1_off6_inb k)).toLoadRect X1,
      arg2.view.readAt (Elt F) (Rect.unit (s := S4x128x64) (k1_off6 k) S1x1x64.size (k1_off6_inb k)).toLoadRect X2,
      arg3.view.readAt (Elt F) (Rect.unit (s := S4x128x64) (k1_off6 k) S1x1x64.size (k1_off6_inb k)).toLoadRect X3,
      arg4.view.readAt (Elt F) (Rect.unit (s := S4x128x64) (k1_off6 k) S1x1x64.size (k1_off6_inb k)).toLoadRect X4,
      arg5.view.readAt (Elt F) (Rect.unit (s := S4x128x64) (k1_off6 k) S1x1x64.size (k1_off6_inb k)).toLoadRect X5,
      arg16.view.readAt (Elt F) (Rect.unit (s := S4x64x128) ![2, 0, 0] S1x64x128.size inb_S4x64x128_S1x64x128_2_0_0).toLoadRect X16,
      arg17.view.readAt (Elt F) (Rect.unit (s := S4x64x128) ![2, 0, 0] S1x64x128.size inb_S4x64x128_S1x64x128_2_0_0).toLoadRect X17⟩
  | 3 => ⟨arg8.view.readAt (Elt F) (Rect.unit (s := S128x4x64x64) (k1_off7 k) S1x1x64x64.size (k1_off7_inb k)).toLoadRect X8,
      arg1.view.readAt (Elt F) (Rect.unit (s := S4x128x64) (k1_off8 k) S1x1x64.size (k1_off8_inb k)).toLoadRect X1,
      arg2.view.readAt (Elt F) (Rect.unit (s := S4x128x64) (k1_off8 k) S1x1x64.size (k1_off8_inb k)).toLoadRect X2,
      arg3.view.readAt (Elt F) (Rect.unit (s := S4x128x64) (k1_off8 k) S1x1x64.size (k1_off8_inb k)).toLoadRect X3,
      arg4.view.readAt (Elt F) (Rect.unit (s := S4x128x64) (k1_off8 k) S1x1x64.size (k1_off8_inb k)).toLoadRect X4,
      arg5.view.readAt (Elt F) (Rect.unit (s := S4x128x64) (k1_off8 k) S1x1x64.size (k1_off8_inb k)).toLoadRect X5,
      arg16.view.readAt (Elt F) (Rect.unit (s := S4x64x128) ![3, 0, 0] S1x64x128.size inb_S4x64x128_S1x64x128_3_0_0).toLoadRect X16,
      arg17.view.readAt (Elt F) (Rect.unit (s := S4x64x128) ![3, 0, 0] S1x64x128.size inb_S4x64x128_S1x64x128_3_0_0).toLoadRect X17⟩

/-- What head `h`'s slab of `dv` columns holds when a trip loads it. -/
abbrev rawDv (f18 : BufTy.Contents (Elt F) arg18.view.ty) : Fin 4 → Vec F S1x64x128 .f32
  | 0 => arg18.view.readAt (Elt F) (Rect.unit (s := S4x64x128) ![0, 0, 0] S1x64x128.size inb_S4x64x128_S1x64x128_0_0_0).toLoadRect f18
  | 1 => arg18.view.readAt (Elt F) (Rect.unit (s := S4x64x128) ![1, 0, 0] S1x64x128.size inb_S4x64x128_S1x64x128_1_0_0).toLoadRect f18
  | 2 => arg18.view.readAt (Elt F) (Rect.unit (s := S4x64x128) ![2, 0, 0] S1x64x128.size inb_S4x64x128_S1x64x128_2_0_0).toLoadRect f18
  | 3 => arg18.view.readAt (Elt F) (Rect.unit (s := S4x64x128) ![3, 0, 0] S1x64x128.size inb_S4x64x128_S1x64x128_3_0_0).toLoadRect f18

/-- The memrefs as arrays. -/
abbrev blkOf (X8 : BufTy.Contents (Elt F) arg8.view.ty) (X1 : BufTy.Contents (Elt F) arg1.view.ty) (X2 : BufTy.Contents (Elt F) arg2.view.ty) (X3 : BufTy.Contents (Elt F) arg3.view.ty) (X4 : BufTy.Contents (Elt F) arg4.view.ty) (X5 : BufTy.Contents (Elt F) arg5.view.ty) (X16 : BufTy.Contents (Elt F) arg16.view.ty) (X17 : BufTy.Contents (Elt F) arg17.view.ty) : Blk F :=
  ⟨arg8.view.read (Elt F) X8, arg1.view.read (Elt F) X1, arg2.view.read (Elt F) X2, arg3.view.read (Elt F) X3, arg4.view.read (Elt F) X4, arg5.view.read (Elt F) X5, arg16.view.read (Elt F) X16, arg17.view.read (Elt F) X17⟩

theorem rawLd_eq (k : Fin k1_t1_loop.trips) (X8 : BufTy.Contents (Elt F) arg8.view.ty) (X1 : BufTy.Contents (Elt F) arg1.view.ty) (X2 : BufTy.Contents (Elt F) arg2.view.ty) (X3 : BufTy.Contents (Elt F) arg3.view.ty) (X4 : BufTy.Contents (Elt F) arg4.view.ty) (X5 : BufTy.Contents (Elt F) arg5.view.ty) (X16 : BufTy.Contents (Elt F) arg16.view.ty) (X17 : BufTy.Contents (Elt F) arg17.view.ty) (h : Fin 4) :
    rawLd arg1 arg2 arg3 arg4 arg5 arg8 arg16 arg17 k X8 X1 X2 X3 X4 X5 X16 X17 h = (blkOf arg1 arg2 arg3 arg4 arg5 arg8 arg16 arg17 X8 X1 X2 X3 X4 X5 X16 X17).ld k h := by
  match h with
  | 0 =>
    exact Ld.ext_of (readAt_state arg8.view X8 _ (tOf k) 0 (off1_eq k))
          (readAt_row arg1.view X1 _ 0 (tOf k) (off2_eq k))
      (readAt_row arg2.view X2 _ 0 (tOf k) (off2_eq k))
      (readAt_row arg3.view X3 _ 0 (tOf k) (off2_eq k))
      (readAt_row arg4.view X4 _ 0 (tOf k) (off2_eq k))
      (readAt_row arg5.view X5 _ 0 (tOf k) (off2_eq k))
      (readAt_slab arg16.view X16 _ 0 rfl) (readAt_slab arg17.view X17 _ 0 rfl)
  | 1 =>
    exact Ld.ext_of (readAt_state arg8.view X8 _ (tOf k) 1 (off3_eq k))
          (readAt_row arg1.view X1 _ 1 (tOf k) (off4_eq k))
      (readAt_row arg2.view X2 _ 1 (tOf k) (off4_eq k))
      (readAt_row arg3.view X3 _ 1 (tOf k) (off4_eq k))
      (readAt_row arg4.view X4 _ 1 (tOf k) (off4_eq k))
      (readAt_row arg5.view X5 _ 1 (tOf k) (off4_eq k))
      (readAt_slab arg16.view X16 _ 1 rfl) (readAt_slab arg17.view X17 _ 1 rfl)
  | 2 =>
    exact Ld.ext_of (readAt_state arg8.view X8 _ (tOf k) 2 (off5_eq k))
          (readAt_row arg1.view X1 _ 2 (tOf k) (off6_eq k))
      (readAt_row arg2.view X2 _ 2 (tOf k) (off6_eq k))
      (readAt_row arg3.view X3 _ 2 (tOf k) (off6_eq k))
      (readAt_row arg4.view X4 _ 2 (tOf k) (off6_eq k))
      (readAt_row arg5.view X5 _ 2 (tOf k) (off6_eq k))
      (readAt_slab arg16.view X16 _ 2 rfl) (readAt_slab arg17.view X17 _ 2 rfl)
  | 3 =>
    exact Ld.ext_of (readAt_state arg8.view X8 _ (tOf k) 3 (off7_eq k))
          (readAt_row arg1.view X1 _ 3 (tOf k) (off8_eq k))
      (readAt_row arg2.view X2 _ 3 (tOf k) (off8_eq k))
      (readAt_row arg3.view X3 _ 3 (tOf k) (off8_eq k))
      (readAt_row arg4.view X4 _ 3 (tOf k) (off8_eq k))
      (readAt_row arg5.view X5 _ 3 (tOf k) (off8_eq k))
      (readAt_slab arg16.view X16 _ 3 rfl) (readAt_slab arg17.view X17 _ 3 rfl)

theorem rawDv_eq (f18 : BufTy.Contents (Elt F) arg18.view.ty) (h : Fin 4) :
    rawDv arg18 f18 h = slabOf (arg18.view.read (Elt F) f18) h := by
  match h with
  | 0 => exact readAt_slab arg18.view f18 _ 0 rfl
  | 1 => exact readAt_slab arg18.view f18 _ 1 rfl
  | 2 => exact readAt_slab arg18.view f18 _ 2 rfl
  | 3 => exact readAt_slab arg18.view f18 _ 3 rfl

/-- The memrefs a trip reads, at their contents, and those it writes. -/
abbrev Pts (X8 : BufTy.Contents (Elt F) arg8.view.ty) (X1 : BufTy.Contents (Elt F) arg1.view.ty) (X2 : BufTy.Contents (Elt F) arg2.view.ty) (X3 : BufTy.Contents (Elt F) arg3.view.ty) (X4 : BufTy.Contents (Elt F) arg4.view.ty) (X5 : BufTy.Contents (Elt F) arg5.view.ty) (X16 : BufTy.Contents (Elt F) arg16.view.ty) (X17 : BufTy.Contents (Elt F) arg17.view.ty) (f9 : BufTy.Contents (Elt F) arg9.view.ty) (f10 : BufTy.Contents (Elt F) arg10.view.ty) (f11 : BufTy.Contents (Elt F) arg11.view.ty) (f12 : BufTy.Contents (Elt F) arg12.view.ty) (f13 : BufTy.Contents (Elt F) arg13.view.ty) (f18 : BufTy.Contents (Elt F) arg18.view.ty) : sProp 𝕄G :=
  iprop((arg8.view.loc (c : Thread nD τ) ↦[arg8.view.set]{fullShare} X8) ∗ (arg1.view.loc (c : Thread nD τ) ↦[arg1.view.set]{fullShare} X1) ∗ (arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg16.view.loc (c : Thread nD τ) ↦[arg16.view.set]{fullShare} X16) ∗ (arg17.view.loc (c : Thread nD τ) ↦[arg17.view.set]{fullShare} X17) ∗ (arg9.view.loc (c : Thread nD τ) ↦[arg9.view.set]{fullShare} f9) ∗ (arg10.view.loc (c : Thread nD τ) ↦[arg10.view.set]{fullShare} f10) ∗ (arg11.view.loc (c : Thread nD τ) ↦[arg11.view.set]{fullShare} f11) ∗ (arg12.view.loc (c : Thread nD τ) ↦[arg12.view.set]{fullShare} f12) ∗ (arg13.view.loc (c : Thread nD τ) ↦[arg13.view.set]{fullShare} f13) ∗ (arg18.view.loc (c : Thread nD τ) ↦[arg18.view.set]{fullShare} f18))

variable (𝒱 : Variants) (bd : Option 𝒱.V) (v69 : FVec F S64x128 .f32) (X8 : BufTy.Contents (Elt F) arg8.view.ty) (X1 : BufTy.Contents (Elt F) arg1.view.ty) (X2 : BufTy.Contents (Elt F) arg2.view.ty) (X3 : BufTy.Contents (Elt F) arg3.view.ty) (X4 : BufTy.Contents (Elt F) arg4.view.ty) (X5 : BufTy.Contents (Elt F) arg5.view.ty) (X16 : BufTy.Contents (Elt F) arg16.view.ty) (X17 : BufTy.Contents (Elt F) arg17.view.ty) (k : Fin k1_t1_loop.trips)
include harg1 harg2 harg3 harg4 harg5 harg6 harg7 harg8 harg9 harg10 harg11 harg12 harg13 harg14 harg15 harg16 harg17 harg18

/-- One trip run once: what it yields and the pieces it writes are found by the run. -/
def tripRun :
    Σ' (RR : Acc F → BufTy.Contents (Elt F) arg9.view.ty → BufTy.Contents (Elt F) arg10.view.ty → BufTy.Contents (Elt F) arg11.view.ty → BufTy.Contents (Elt F) arg12.view.ty → BufTy.Contents (Elt F) arg13.view.ty → BufTy.Contents (Elt F) arg18.view.ty →  Acc F) (L9 : Acc F → BufTy.Contents (Elt F) arg9.view.ty → BufTy.Contents (Elt F) arg10.view.ty → BufTy.Contents (Elt F) arg11.view.ty → BufTy.Contents (Elt F) arg12.view.ty → BufTy.Contents (Elt F) arg13.view.ty → BufTy.Contents (Elt F) arg18.view.ty →  List (View.Piece (Elt F) S4x128x64 .f32)) (L10 : Acc F → BufTy.Contents (Elt F) arg9.view.ty → BufTy.Contents (Elt F) arg10.view.ty → BufTy.Contents (Elt F) arg11.view.ty → BufTy.Contents (Elt F) arg12.view.ty → BufTy.Contents (Elt F) arg13.view.ty → BufTy.Contents (Elt F) arg18.view.ty →  List (View.Piece (Elt F) S4x128x64 .f32)) (L11 : Acc F → BufTy.Contents (Elt F) arg9.view.ty → BufTy.Contents (Elt F) arg10.view.ty → BufTy.Contents (Elt F) arg11.view.ty → BufTy.Contents (Elt F) arg12.view.ty → BufTy.Contents (Elt F) arg13.view.ty → BufTy.Contents (Elt F) arg18.view.ty →  List (View.Piece (Elt F) S4x128x64 .f32)) (L12 : Acc F → BufTy.Contents (Elt F) arg9.view.ty → BufTy.Contents (Elt F) arg10.view.ty → BufTy.Contents (Elt F) arg11.view.ty → BufTy.Contents (Elt F) arg12.view.ty → BufTy.Contents (Elt F) arg13.view.ty → BufTy.Contents (Elt F) arg18.view.ty →  List (View.Piece (Elt F) S4x128x64 .f32)) (L13 : Acc F → BufTy.Contents (Elt F) arg9.view.ty → BufTy.Contents (Elt F) arg10.view.ty → BufTy.Contents (Elt F) arg11.view.ty → BufTy.Contents (Elt F) arg12.view.ty → BufTy.Contents (Elt F) arg13.view.ty → BufTy.Contents (Elt F) arg18.view.ty →  List (View.Piece (Elt F) S4x128x64 .f32)),
      { L18 : Acc F → BufTy.Contents (Elt F) arg9.view.ty → BufTy.Contents (Elt F) arg10.view.ty → BufTy.Contents (Elt F) arg11.view.ty → BufTy.Contents (Elt F) arg12.view.ty → BufTy.Contents (Elt F) arg13.view.ty → BufTy.Contents (Elt F) arg18.view.ty →  List (View.Piece (Elt F) S4x64x128 .f32) // ∀ (E : Set ℕ) (acc : Acc F) (f9 : BufTy.Contents (Elt F) arg9.view.ty) (f10 : BufTy.Contents (Elt F) arg10.view.ty) (f11 : BufTy.Contents (Elt F) arg11.view.ty) (f12 : BufTy.Contents (Elt F) arg12.view.ty) (f13 : BufTy.Contents (Elt F) arg13.view.ty) (f18 : BufTy.Contents (Elt F) arg18.view.ty),
        Pts c arg1 arg2 arg3 arg4 arg5 arg8 arg9 arg10 arg11 arg12 arg13 arg16 arg17 arg18 X8 X1 X2 X3 X4 X5 X16 X17 f9 f10 f11 f12 f13 f18 ⊢ wp frame (wpE (defs₀ (F := F)) 𝒱 (c : Thread nD τ) bd) E
          (k1_t1_body (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v69 lanes k acc)
          (fun yld => iprop(⌜yld = RR acc f9 f10 f11 f12 f13 f18⌝ ∗ Pts c arg1 arg2 arg3 arg4 arg5 arg8 arg9 arg10 arg11 arg12 arg13 arg16 arg17 arg18 X8 X1 X2 X3 X4 X5 X16 X17 (arg9.view.writes (Elt F) f9 (L9 acc f9 f10 f11 f12 f13 f18)) (arg10.view.writes (Elt F) f10 (L10 acc f9 f10 f11 f12 f13 f18)) (arg11.view.writes (Elt F) f11 (L11 acc f9 f10 f11 f12 f13 f18)) (arg12.view.writes (Elt F) f12 (L12 acc f9 f10 f11 f12 f13 f18)) (arg13.view.writes (Elt F) f13 (L13 acc f9 f10 f11 f12 f13 f18)) (arg18.view.writes (Elt F) f18 (L18 acc f9 f10 f11 f12 f13 f18)))) } := by
  have hk : k.val < 128 := Nat.lt_of_lt_of_le k.isLt k1_t1_abs.2.1
  refine ⟨?_, ?_, ?_, ?_, ?_, ?_, ?_, fun E acc f9 f10 f11 f12 f13 f18 => ?run⟩
  case run =>
    unfold k1_t1_body
    iintro ⟨HR8, HR1, HR2, HR3, HR4, HR5, HR16, HR17, HW9, HW10, HW11, HW12, HW13, HW18⟩
    sl_exec
    sl_step
    sl_close

theorem tripRun_0 (D : Fin 4 → FVec F S64x64 .f32) (f9 : BufTy.Contents (Elt F) arg9.view.ty) (f10 : BufTy.Contents (Elt F) arg10.view.ty) (f11 : BufTy.Contents (Elt F) arg11.view.ty) (f12 : BufTy.Contents (Elt F) arg12.view.ty) (f13 : BufTy.Contents (Elt F) arg13.view.ty) (f18 : BufTy.Contents (Elt F) arg18.view.ty) :
    (tripRun c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 𝒱 bd v69 X8 X1 X2 X3 X4 X5 X16 X17 k).1 (pack D) f9 f10 f11 f12 f13 f18 = pack fun h => dsNext k ((blkOf arg1 arg2 arg3 arg4 arg5 arg8 arg16 arg17 X8 X1 X2 X3 X4 X5 X16 X17).ld k h) (D h) :=
  (show _ = pack fun h => dsNext k (rawLd arg1 arg2 arg3 arg4 arg5 arg8 arg16 arg17 k X8 X1 X2 X3 X4 X5 X16 X17 h) (D h) from rfl).trans (by simp only [rawLd_eq])

theorem tripRun_1 (D : Fin 4 → FVec F S64x64 .f32) (f9 : BufTy.Contents (Elt F) arg9.view.ty) (f10 : BufTy.Contents (Elt F) arg10.view.ty) (f11 : BufTy.Contents (Elt F) arg11.view.ty) (f12 : BufTy.Contents (Elt F) arg12.view.ty) (f13 : BufTy.Contents (Elt F) arg13.view.ty) (f18 : BufTy.Contents (Elt F) arg18.view.ty) :
    (tripRun c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 𝒱 bd v69 X8 X1 X2 X3 X4 X5 X16 X17 k).2.1 (pack D) f9 f10 f11 f12 f13 f18 = rowPcs k fun h => dr k ((blkOf arg1 arg2 arg3 arg4 arg5 arg8 arg16 arg17 X8 X1 X2 X3 X4 X5 X16 X17).ld k h) (D h) :=
  (show _ = rowPcs k fun h => dr k (rawLd arg1 arg2 arg3 arg4 arg5 arg8 arg16 arg17 k X8 X1 X2 X3 X4 X5 X16 X17 h) (D h) from rfl).trans (by simp only [rawLd_eq])

theorem tripRun_2 (D : Fin 4 → FVec F S64x64 .f32) (f9 : BufTy.Contents (Elt F) arg9.view.ty) (f10 : BufTy.Contents (Elt F) arg10.view.ty) (f11 : BufTy.Contents (Elt F) arg11.view.ty) (f12 : BufTy.Contents (Elt F) arg12.view.ty) (f13 : BufTy.Contents (Elt F) arg13.view.ty) (f18 : BufTy.Contents (Elt F) arg18.view.ty) :
    (tripRun c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 𝒱 bd v69 X8 X1 X2 X3 X4 X5 X16 X17 k).2.2.1 (pack D) f9 f10 f11 f12 f13 f18 = rowPcs k fun h => dw k ((blkOf arg1 arg2 arg3 arg4 arg5 arg8 arg16 arg17 X8 X1 X2 X3 X4 X5 X16 X17).ld k h) (D h) :=
  (show _ = rowPcs k fun h => dw k (rawLd arg1 arg2 arg3 arg4 arg5 arg8 arg16 arg17 k X8 X1 X2 X3 X4 X5 X16 X17 h) (D h) from rfl).trans (by simp only [rawLd_eq])

theorem tripRun_3 (D : Fin 4 → FVec F S64x64 .f32) (f9 : BufTy.Contents (Elt F) arg9.view.ty) (f10 : BufTy.Contents (Elt F) arg10.view.ty) (f11 : BufTy.Contents (Elt F) arg11.view.ty) (f12 : BufTy.Contents (Elt F) arg12.view.ty) (f13 : BufTy.Contents (Elt F) arg13.view.ty) (f18 : BufTy.Contents (Elt F) arg18.view.ty) :
    (tripRun c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 𝒱 bd v69 X8 X1 X2 X3 X4 X5 X16 X17 k).2.2.2.1 (pack D) f9 f10 f11 f12 f13 f18 = rowPcs k fun h => dk k ((blkOf arg1 arg2 arg3 arg4 arg5 arg8 arg16 arg17 X8 X1 X2 X3 X4 X5 X16 X17).ld k h) (D h) :=
  (show _ = rowPcs k fun h => dk k (rawLd arg1 arg2 arg3 arg4 arg5 arg8 arg16 arg17 k X8 X1 X2 X3 X4 X5 X16 X17 h) (D h) from rfl).trans (by simp only [rawLd_eq])

theorem tripRun_4 (D : Fin 4 → FVec F S64x64 .f32) (f9 : BufTy.Contents (Elt F) arg9.view.ty) (f10 : BufTy.Contents (Elt F) arg10.view.ty) (f11 : BufTy.Contents (Elt F) arg11.view.ty) (f12 : BufTy.Contents (Elt F) arg12.view.ty) (f13 : BufTy.Contents (Elt F) arg13.view.ty) (f18 : BufTy.Contents (Elt F) arg18.view.ty) :
    (tripRun c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 𝒱 bd v69 X8 X1 X2 X3 X4 X5 X16 X17 k).2.2.2.2.1 (pack D) f9 f10 f11 f12 f13 f18 = rowPcs k fun h => dkk k ((blkOf arg1 arg2 arg3 arg4 arg5 arg8 arg16 arg17 X8 X1 X2 X3 X4 X5 X16 X17).ld k h) (D h) :=
  (show _ = rowPcs k fun h => dkk k (rawLd arg1 arg2 arg3 arg4 arg5 arg8 arg16 arg17 k X8 X1 X2 X3 X4 X5 X16 X17 h) (D h) from rfl).trans (by simp only [rawLd_eq])

theorem tripRun_5 (D : Fin 4 → FVec F S64x64 .f32) (f9 : BufTy.Contents (Elt F) arg9.view.ty) (f10 : BufTy.Contents (Elt F) arg10.view.ty) (f11 : BufTy.Contents (Elt F) arg11.view.ty) (f12 : BufTy.Contents (Elt F) arg12.view.ty) (f13 : BufTy.Contents (Elt F) arg13.view.ty) (f18 : BufTy.Contents (Elt F) arg18.view.ty) :
    (tripRun c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 𝒱 bd v69 X8 X1 X2 X3 X4 X5 X16 X17 k).2.2.2.2.2.1 (pack D) f9 f10 f11 f12 f13 f18 = rowPcs k fun h => da k ((blkOf arg1 arg2 arg3 arg4 arg5 arg8 arg16 arg17 X8 X1 X2 X3 X4 X5 X16 X17).ld k h) (D h) :=
  (show _ = rowPcs k fun h => da k (rawLd arg1 arg2 arg3 arg4 arg5 arg8 arg16 arg17 k X8 X1 X2 X3 X4 X5 X16 X17 h) (D h) from rfl).trans (by simp only [rawLd_eq])

theorem tripRun_6 (D : Fin 4 → FVec F S64x64 .f32) (f9 : BufTy.Contents (Elt F) arg9.view.ty) (f10 : BufTy.Contents (Elt F) arg10.view.ty) (f11 : BufTy.Contents (Elt F) arg11.view.ty) (f12 : BufTy.Contents (Elt F) arg12.view.ty) (f13 : BufTy.Contents (Elt F) arg13.view.ty) (f18 : BufTy.Contents (Elt F) arg18.view.ty) :
    (tripRun c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 𝒱 bd v69 X8 X1 X2 X3 X4 X5 X16 X17 k).2.2.2.2.2.2.1 (pack D) f9 f10 f11 f12 f13 f18 = slabPcs fun h => dvSlab k ((blkOf arg1 arg2 arg3 arg4 arg5 arg8 arg16 arg17 X8 X1 X2 X3 X4 X5 X16 X17).ld k h) (D h) (slabOf (arg18.view.read (Elt F) f18) h) :=
  (show _ = slabPcs fun h => dvSlab k (rawLd arg1 arg2 arg3 arg4 arg5 arg8 arg16 arg17 k X8 X1 X2 X3 X4 X5 X16 X17 h) (D h) (rawDv arg18 f18 h) from rfl).trans (by simp only [rawLd_eq, rawDv_eq])

/-- One trip over the blocks' arrays. -/
theorem trip (E : Set ℕ) (D : Fin 4 → FVec F S64x64 .f32) (f9 : BufTy.Contents (Elt F) arg9.view.ty) (f10 : BufTy.Contents (Elt F) arg10.view.ty) (f11 : BufTy.Contents (Elt F) arg11.view.ty) (f12 : BufTy.Contents (Elt F) arg12.view.ty) (f13 : BufTy.Contents (Elt F) arg13.view.ty) (f18 : BufTy.Contents (Elt F) arg18.view.ty) :
    Pts c arg1 arg2 arg3 arg4 arg5 arg8 arg9 arg10 arg11 arg12 arg13 arg16 arg17 arg18 X8 X1 X2 X3 X4 X5 X16 X17 f9 f10 f11 f12 f13 f18 ⊢ wp frame (wpE (defs₀ (F := F)) 𝒱 (c : Thread nD τ) bd) E
      (k1_t1_body (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v69 lanes k (pack D))
      (fun yld => iprop(⌜yld = pack fun h => dsNext k ((blkOf arg1 arg2 arg3 arg4 arg5 arg8 arg16 arg17 X8 X1 X2 X3 X4 X5 X16 X17).ld k h) (D h)⌝ ∗ Pts c arg1 arg2 arg3 arg4 arg5 arg8 arg9 arg10 arg11 arg12 arg13 arg16 arg17 arg18 X8 X1 X2 X3 X4 X5 X16 X17
        (arg9.view.writes (Elt F) f9 (rowPcs k fun h => dr k ((blkOf arg1 arg2 arg3 arg4 arg5 arg8 arg16 arg17 X8 X1 X2 X3 X4 X5 X16 X17).ld k h) (D h)))
        (arg10.view.writes (Elt F) f10 (rowPcs k fun h => dw k ((blkOf arg1 arg2 arg3 arg4 arg5 arg8 arg16 arg17 X8 X1 X2 X3 X4 X5 X16 X17).ld k h) (D h)))
        (arg11.view.writes (Elt F) f11 (rowPcs k fun h => dk k ((blkOf arg1 arg2 arg3 arg4 arg5 arg8 arg16 arg17 X8 X1 X2 X3 X4 X5 X16 X17).ld k h) (D h)))
        (arg12.view.writes (Elt F) f12 (rowPcs k fun h => dkk k ((blkOf arg1 arg2 arg3 arg4 arg5 arg8 arg16 arg17 X8 X1 X2 X3 X4 X5 X16 X17).ld k h) (D h)))
        (arg13.view.writes (Elt F) f13 (rowPcs k fun h => da k ((blkOf arg1 arg2 arg3 arg4 arg5 arg8 arg16 arg17 X8 X1 X2 X3 X4 X5 X16 X17).ld k h) (D h)))
        (arg18.view.writes (Elt F) f18 (slabPcs fun h => dvSlab k ((blkOf arg1 arg2 arg3 arg4 arg5 arg8 arg16 arg17 X8 X1 X2 X3 X4 X5 X16 X17).ld k h) (D h) (slabOf (arg18.view.read (Elt F) f18) h))))) := by
  have h := (tripRun c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 𝒱 bd v69 X8 X1 X2 X3 X4 X5 X16 X17 k).2.2.2.2.2.2.2 E (pack D) f9 f10 f11 f12 f13 f18
  rw [tripRun_1, tripRun_2, tripRun_3, tripRun_4, tripRun_5, tripRun_6] at h
  simp only [tripRun_0] at h
  exact h
end Trip
end Cert.Proof.Scan
end
-- ==== Proof.BwdLoop.lean ====
module
public import proofs.«01_k».proof.Proof.BwdTrip
@[expose] public section
set_option maxRecDepth 16384
set_option maxHeartbeats 1000000
noncomputable section
namespace Cert.Proof.Scan
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
variable {F : FTy → Type} [FloatOps F]
local notation "𝕄G" => MT nD τ sig Unit (Elt F) ℕ (UR sig nD τ) ℕ

/-! The backward scan's loop by its invariant: what the trips before have written, index by index. -/

/-- What the loop carries, by head. -/
abbrev unpack (p : Acc F) : Fin 4 → FVec F S64x64 .f32
  | 0 => p.1
  | 1 => p.2.1
  | 2 => p.2.2.1
  | 3 => p.2.2.2

/-- What the loop carries before trip `n`, by head: the state's adjoint after the step the trip takes. -/
def dsAt (B : Blk F) (D : Fin 4 → FVec F S64x64 .f32) : ℕ → Fin 4 → FVec F S64x64 .f32
  | 0 => D
  | n + 1 => if h : n < k1_t1_loop.trips then fun hd => dsNext ⟨n, h⟩ (B.ld ⟨n, h⟩ hd) (dsAt B D n hd) else dsAt B D n

theorem dsAt_succ (B : Blk F) (D : Fin 4 → FVec F S64x64 .f32) (k : Fin k1_t1_loop.trips) :
    dsAt B D (k.val + 1) = fun hd => dsNext k (B.ld k hd) (dsAt B D k.val hd) := by
  rw [dsAt]; exact dif_pos k.isLt

/-- The column of `dv` a step of a head adds. -/
def dvCol (i : Fin k1_t1_loop.trips) (x : Ld F) (ds : FVec F S64x64 .f32) : FVec F S64 .f32 :=
  multiReduction .add [1] S64 (k1_pay17 ds (k1_pay5 x.r) (k1_pay7 x.k) (dycol i x)) 0x00000000#32 reduces_S64x64_S64 (.inl rfl) rfl

/-- The steps of the trips before `n` are written: each head's row at the step is the trip's. -/
def RowsDone (q : Fin k1_t1_loop.trips → Fin 4 → Vec F S1x1x64 .f32) (n : ℕ) (x : Vec F S4x128x64 .f32) : Prop :=
  match n with
  | 0 => True
  | n + 1 => ∀ (h : Fin 4) (i : Fin k1_t1_loop.trips) (j : Fin 64), i.val < n + 1 → x (ix3 h (tOf i) j) = q i h (ix3 0 0 j)
/-- The same of the columns of a slab. -/
def ColsDone (q : Fin k1_t1_loop.trips → Fin 4 → FVec F S64 .f32) (n : ℕ) (x : Vec F S4x64x128 .f32) : Prop :=
  match n with
  | 0 => True
  | n + 1 => ∀ (h : Fin 4) (i : Fin k1_t1_loop.trips) (a : Fin 64), i.val < n + 1 → x (ix3 h a (tOf i)) = q i h (ix1 a)

theorem RowsDone.at {q : Fin k1_t1_loop.trips → Fin 4 → Vec F S1x1x64 .f32} {n : ℕ} {x : Vec F S4x128x64 .f32} (hd : RowsDone q n x)
    (h : Fin 4) (i : Fin k1_t1_loop.trips) (j : Fin 64) (hi : i.val < n) : x (ix3 h (tOf i) j) = q i h (ix3 0 0 j) := by
  cases n with
  | zero => exact absurd hi (Nat.not_lt_zero _)
  | succ n => exact hd h i j hi
theorem ColsDone.at {q : Fin k1_t1_loop.trips → Fin 4 → FVec F S64 .f32} {n : ℕ} {x : Vec F S4x64x128 .f32} (hd : ColsDone q n x)
    (h : Fin 4) (i : Fin k1_t1_loop.trips) (a : Fin 64) (hi : i.val < n) : x (ix3 h a (tOf i)) = q i h (ix1 a) := by
  cases n with
  | zero => exact absurd hi (Nat.not_lt_zero _)
  | succ n => exact hd h i a hi

theorem tOf_inj {i k : Fin k1_t1_loop.trips} (h : tOf i = tOf k) : i = k := by
  have hi := lt1 i
  have hk := lt1 k
  have : 127 - i.val = 127 - k.val := congrArg Fin.val h
  exact Fin.ext (by omega)

theorem RowsDone.succ {κ : Kind} {sp : Space} (v : View sig κ sp S4x128x64 .f32) (f : v.ty.Contents (Elt F))
    (q : Fin k1_t1_loop.trips → Fin 4 → Vec F S1x1x64 .f32) (k : Fin k1_t1_loop.trips)
    (h : RowsDone q k.val (v.read (Elt F) f)) (q' : Fin 4 → Vec F S1x1x64 .f32) (hq : q' = q k) :
    RowsDone q (k.val + 1) (v.read (Elt F) (v.writes (Elt F) f (rowPcs k q'))) := by
  subst hq
  intro hd i j hi
  rw [read_rowPcs]
  split
  · next e => rw [tOf_inj e]
  · next e =>
    have : i.val ≠ k.val := fun e' => e (congrArg tOf (Fin.ext e'))
    exact h.at hd i j (by omega)

/-- The word a trip compares the lanes with. -/
theorem word_eq : ∀ i : Fin k1_t1_loop.trips, Scalar.subi 127#32 (Scf.iv 0#32 1#32 i) = BitVec.ofNat 32 (tOf i).val := by
  decide +kernel

theorem lane_select {α : Type} (l t : Fin 128) (x y : α) :
    Scalar.select (IntOp.cmpi CmpIPredicate.eq (BitVec.ofNat 32 l.val) (BitVec.ofNat 32 t.val)) x y
      = if l = t then x else y := by
  by_cases e : l = t
  · subst e; simp [IntOp.cmpi, Scalar.select]
  · have hl : BitVec.ofNat 32 l.val ≠ BitVec.ofNat 32 t.val := by
      intro h
      have := congrArg BitVec.toNat h
      rw [BitVec.toNat_ofNat, BitVec.toNat_ofNat, Nat.mod_eq_of_lt (by omega), Nat.mod_eq_of_lt (by omega)] at this
      exact e (Fin.ext this)
    simp [IntOp.cmpi, Scalar.select, e, beq_eq_false_iff_ne.mpr hl]

theorem dvSlab_apply (i : Fin k1_t1_loop.trips) (x : Ld F) (ds : FVec F S64x64 .f32) (old : Vec F S1x64x128 .f32)
    (a : Fin 64) (l : Fin 128) :
    dvSlab i x ds old (ix3 0 a l) = if l = tOf i then dvCol i x ds (ix1 a) else old (ix3 0 a l) := by
  unfold dvSlab k1_pay22
  rw [word_eq]
  pointwise
  rw [lane_select]
  rfl

theorem ColsDone.succ {κ : Kind} {sp : Space} (v : View sig κ sp S4x64x128 .f32) (f : v.ty.Contents (Elt F))
    (q : Fin k1_t1_loop.trips → Fin 4 → FVec F S64 .f32) (k : Fin k1_t1_loop.trips)
    (h : ColsDone q k.val (v.read (Elt F) f)) (x : Fin 4 → Ld F) (ds : Fin 4 → FVec F S64x64 .f32)
    (hq : ∀ hd, dvCol k (x hd) (ds hd) = q k hd) :
    ColsDone q (k.val + 1) (v.read (Elt F) (v.writes (Elt F) f
      (slabPcs fun hd => dvSlab k (x hd) (ds hd) (slabOf (v.read (Elt F) f) hd)))) := by
  intro hd i a hi
  rw [read_slabPcs, dvSlab_apply]
  split
  · next e => rw [tOf_inj e, hq]
  · next e =>
    have : i.val ≠ k.val := fun e' => e (congrArg tOf (Fin.ext e'))
    exact h.at hd i a (by omega)

section Loop
variable (c : Dev nD) (i : grid1.Coords)
  (arg1 : Memref sig .tc .vmem S4x128x64 .f32) (harg1 : arg1.IsWhole)
  (arg2 : Memref sig .tc .vmem S4x128x64 .f32) (harg2 : arg2.IsWhole)
  (arg3 : Memref sig .tc .vmem S4x128x64 .f32) (harg3 : arg3.IsWhole)
  (arg4 : Memref sig .tc .vmem S4x128x64 .f32) (harg4 : arg4.IsWhole)
  (arg5 : Memref sig .tc .vmem S4x128x64 .f32) (harg5 : arg5.IsWhole)
  (arg6 : Memref sig .tc .vmem S128x256 .f32) (harg6 : arg6.IsWhole)
  (arg7 : Memref sig .tc .vmem S128x256 .f32) (harg7 : arg7.IsWhole)
  (arg8 : Memref sig .tc .vmem S128x4x64x64 .f32) (harg8 : arg8.IsWhole)
  (arg9 : Memref sig .tc .vmem S4x128x64 .f32) (harg9 : arg9.IsWhole)
  (arg10 : Memref sig .tc .vmem S4x128x64 .f32) (harg10 : arg10.IsWhole)
  (arg11 : Memref sig .tc .vmem S4x128x64 .f32) (harg11 : arg11.IsWhole)
  (arg12 : Memref sig .tc .vmem S4x128x64 .f32) (harg12 : arg12.IsWhole)
  (arg13 : Memref sig .tc .vmem S4x128x64 .f32) (harg13 : arg13.IsWhole)
  (arg14 : Memref sig .tc .vmem S128x256 .f32) (harg14 : arg14.IsWhole)
  (arg15 : Memref sig .tc .vmem S4x64x64 .f32) (harg15 : arg15.IsWhole)
  (arg16 : Memref sig .tc .vmem S4x64x128 .f32) (harg16 : arg16.IsWhole)
  (arg17 : Memref sig .tc .vmem S4x64x128 .f32) (harg17 : arg17.IsWhole)
  (arg18 : Memref sig .tc .vmem S4x64x128 .f32) (harg18 : arg18.IsWhole)

/-- The invariant before trip `n`: what the region reads, the written steps, and the carried adjoints. -/
abbrev invB (X8 : BufTy.Contents (Elt F) arg8.view.ty) (X1 : BufTy.Contents (Elt F) arg1.view.ty) (X2 : BufTy.Contents (Elt F) arg2.view.ty) (X3 : BufTy.Contents (Elt F) arg3.view.ty) (X4 : BufTy.Contents (Elt F) arg4.view.ty) (X5 : BufTy.Contents (Elt F) arg5.view.ty) (X16 : BufTy.Contents (Elt F) arg16.view.ty) (X17 : BufTy.Contents (Elt F) arg17.view.ty) (v69 : FVec F S64x128 .f32) (init : Acc F) (n : ℕ) (acc : Acc F) : sProp 𝕄G :=
  iprop((arg8.view.loc (c : Thread nD τ) ↦[arg8.view.set]{fullShare} X8) ∗ (arg1.view.loc (c : Thread nD τ) ↦[arg1.view.set]{fullShare} X1) ∗ (arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg16.view.loc (c : Thread nD τ) ↦[arg16.view.set]{fullShare} X16) ∗ (arg17.view.loc (c : Thread nD τ) ↦[arg17.view.set]{fullShare} X17) ∗ (∃ f, (arg9.view.loc (c : Thread nD τ) ↦[arg9.view.set]{fullShare} f) ∗ ⌜RowsDone (fun k hd => dr k ((blkOf arg1 arg2 arg3 arg4 arg5 arg8 arg16 arg17 X8 X1 X2 X3 X4 X5 X16 X17).ld k hd) (dsAt (blkOf arg1 arg2 arg3 arg4 arg5 arg8 arg16 arg17 X8 X1 X2 X3 X4 X5 X16 X17) (unpack init) k.val hd)) n (arg9.view.read (Elt F) f) = True⌝) ∗ (∃ f, (arg10.view.loc (c : Thread nD τ) ↦[arg10.view.set]{fullShare} f) ∗ ⌜RowsDone (fun k hd => dw k ((blkOf arg1 arg2 arg3 arg4 arg5 arg8 arg16 arg17 X8 X1 X2 X3 X4 X5 X16 X17).ld k hd) (dsAt (blkOf arg1 arg2 arg3 arg4 arg5 arg8 arg16 arg17 X8 X1 X2 X3 X4 X5 X16 X17) (unpack init) k.val hd)) n (arg10.view.read (Elt F) f) = True⌝) ∗ (∃ f, (arg11.view.loc (c : Thread nD τ) ↦[arg11.view.set]{fullShare} f) ∗ ⌜RowsDone (fun k hd => dk k ((blkOf arg1 arg2 arg3 arg4 arg5 arg8 arg16 arg17 X8 X1 X2 X3 X4 X5 X16 X17).ld k hd) (dsAt (blkOf arg1 arg2 arg3 arg4 arg5 arg8 arg16 arg17 X8 X1 X2 X3 X4 X5 X16 X17) (unpack init) k.val hd)) n (arg11.view.read (Elt F) f) = True⌝) ∗ (∃ f, (arg12.view.loc (c : Thread nD τ) ↦[arg12.view.set]{fullShare} f) ∗ ⌜RowsDone (fun k hd => dkk k ((blkOf arg1 arg2 arg3 arg4 arg5 arg8 arg16 arg17 X8 X1 X2 X3 X4 X5 X16 X17).ld k hd) (dsAt (blkOf arg1 arg2 arg3 arg4 arg5 arg8 arg16 arg17 X8 X1 X2 X3 X4 X5 X16 X17) (unpack init) k.val hd)) n (arg12.view.read (Elt F) f) = True⌝) ∗ (∃ f, (arg13.view.loc (c : Thread nD τ) ↦[arg13.view.set]{fullShare} f) ∗ ⌜RowsDone (fun k hd => da k ((blkOf arg1 arg2 arg3 arg4 arg5 arg8 arg16 arg17 X8 X1 X2 X3 X4 X5 X16 X17).ld k hd) (dsAt (blkOf arg1 arg2 arg3 arg4 arg5 arg8 arg16 arg17 X8 X1 X2 X3 X4 X5 X16 X17) (unpack init) k.val hd)) n (arg13.view.read (Elt F) f) = True⌝) ∗ (∃ f, (arg18.view.loc (c : Thread nD τ) ↦[arg18.view.set]{fullShare} f) ∗ ⌜ColsDone (fun k hd => dvCol k ((blkOf arg1 arg2 arg3 arg4 arg5 arg8 arg16 arg17 X8 X1 X2 X3 X4 X5 X16 X17).ld k hd) (dsAt (blkOf arg1 arg2 arg3 arg4 arg5 arg8 arg16 arg17 X8 X1 X2 X3 X4 X5 X16 X17) (unpack init) k.val hd)) n (arg18.view.read (Elt F) f) = True⌝) ∗ ⌜acc = pack (dsAt (blkOf arg1 arg2 arg3 arg4 arg5 arg8 arg16 arg17 X8 X1 X2 X3 X4 X5 X16 X17) (unpack init) n)⌝)

set_option warn.classDefReducibility false in
/-- The backward loop by its invariant. -/
@[sl_loop] def loopInvB (𝒱 : Variants) (bd : Option 𝒱.V) (E : Set ℕ) (v69 : FVec F S64x128 .f32) (X8 : BufTy.Contents (Elt F) arg8.view.ty) (X1 : BufTy.Contents (Elt F) arg1.view.ty) (X2 : BufTy.Contents (Elt F) arg2.view.ty) (X3 : BufTy.Contents (Elt F) arg3.view.ty) (X4 : BufTy.Contents (Elt F) arg4.view.ty) (X5 : BufTy.Contents (Elt F) arg5.view.ty) (X16 : BufTy.Contents (Elt F) arg16.view.ty) (X17 : BufTy.Contents (Elt F) arg17.view.ty) (init : Acc F) :
    LoopInvTy_k1_t1 (F := F) Unit ℕ (UR sig nD τ) ℕ 𝒱 c bd E i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v69 lanes init where
  inv := invB c arg1 arg2 arg3 arg4 arg5 arg8 arg9 arg10 arg11 arg12 arg13 arg16 arg17 arg18 X8 X1 X2 X3 X4 X5 X16 X17 v69 init
  step k acc := by
    iintro ⟨HR8, HR1, HR2, HR3, HR4, HR5, HR16, HR17, ⟨%f9, HW9, %h9⟩, ⟨%f10, HW10, %h10⟩, ⟨%f11, HW11, %h11⟩, ⟨%f12, HW12, %h12⟩, ⟨%f13, HW13, %h13⟩, ⟨%f18, HW18, %h18⟩, %h_acc⟩
    subst h_acc
    iapply (wp_wand_r Idealize.ShloMosaic.frame (wpE (defs₀ (F := F)) 𝒱 (c : Thread nD τ) bd) E)
    isplitl [HR8 HR1 HR2 HR3 HR4 HR5 HR16 HR17 HW9 HW10 HW11 HW12 HW13 HW18]
    · iapply (trip c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 𝒱 bd v69 X8 X1 X2 X3 X4 X5 X16 X17 k E (dsAt (blkOf arg1 arg2 arg3 arg4 arg5 arg8 arg16 arg17 X8 X1 X2 X3 X4 X5 X16 X17) (unpack init) k.val) f9 f10 f11 f12 f13 f18)
      isplitl [HR8]; · iexact HR8
      isplitl [HR1]; · iexact HR1
      isplitl [HR2]; · iexact HR2
      isplitl [HR3]; · iexact HR3
      isplitl [HR4]; · iexact HR4
      isplitl [HR5]; · iexact HR5
      isplitl [HR16]; · iexact HR16
      isplitl [HR17]; · iexact HR17
      isplitl [HW9]; · iexact HW9
      isplitl [HW10]; · iexact HW10
      isplitl [HW11]; · iexact HW11
      isplitl [HW12]; · iexact HW12
      isplitl [HW13]; · iexact HW13
      iexact HW18
    · iintro %yld ⟨%h_res, HR8, HR1, HR2, HR3, HR4, HR5, HR16, HR17, HW9, HW10, HW11, HW12, HW13, HW18⟩
      isplitl [HR8]; · iexact HR8
      isplitl [HR1]; · iexact HR1
      isplitl [HR2]; · iexact HR2
      isplitl [HR3]; · iexact HR3
      isplitl [HR4]; · iexact HR4
      isplitl [HR5]; · iexact HR5
      isplitl [HR16]; · iexact HR16
      isplitl [HR17]; · iexact HR17
      isplitl [HW9]
      · iexists _; isplitl [HW9]; · iexact HW9
        ipureintro; exact eq_true (RowsDone.succ _ _ _ _ (of_eq_true h9) _ rfl)
      isplitl [HW10]
      · iexists _; isplitl [HW10]; · iexact HW10
        ipureintro; exact eq_true (RowsDone.succ _ _ _ _ (of_eq_true h10) _ rfl)
      isplitl [HW11]
      · iexists _; isplitl [HW11]; · iexact HW11
        ipureintro; exact eq_true (RowsDone.succ _ _ _ _ (of_eq_true h11) _ rfl)
      isplitl [HW12]
      · iexists _; isplitl [HW12]; · iexact HW12
        ipureintro; exact eq_true (RowsDone.succ _ _ _ _ (of_eq_true h12) _ rfl)
      isplitl [HW13]
      · iexists _; isplitl [HW13]; · iexact HW13
        ipureintro; exact eq_true (RowsDone.succ _ _ _ _ (of_eq_true h13) _ rfl)
      isplitl [HW18]
      · iexists _; isplitl [HW18]; · iexact HW18
        ipureintro; exact eq_true (ColsDone.succ _ _ _ _ (of_eq_true h18) _ _ fun _ => rfl)
      ipureintro; rw [h_res, dsAt_succ]
end Loop
end Cert.Proof.Scan
end
-- ==== Proof.BwdBlock.lean ====
module
public import proofs.«01_k».proof.Proof.BwdLoop
@[expose] public section
set_option maxRecDepth 16384
set_option maxHeartbeats 1000000
noncomputable section
namespace Cert.Proof.Scan
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
variable {F : FTy → Type} [FloatOps F]
local notation "𝕄G" => MT nD τ sig Unit (Elt F) ℕ (UR sig nD τ) ℕ

/-! The backward scan over one block as plain functions of the arrays it reads. -/

theorem heads_lt (h : Fin 4) (j : Fin 64) : 64 * h.val + j.val < 256 := by omega
/-- The lane of column `j` of head `h`. -/
abbrev lane (h : Fin 4) (j : Fin 64) : Fin 256 := ⟨64 * h.val + j.val, heads_lt h j⟩
theorem laneHead_lt (l : Fin 256) : l.val / 64 < 4 := by omega
/-- The head of a lane. -/
abbrev laneHead (l : Fin 256) : Fin 4 := ⟨l.val / 64, laneHead_lt l⟩
/-- The column of a lane within its head. -/
abbrev laneCol (l : Fin 256) : Fin 64 := ⟨l.val % 64, Nat.mod_lt _ (by decide)⟩

/-- A head's columns of a row-major block. -/
def colsOf (A : Vec F S128x256 .f32) (h : Fin 4) : Vec F S128x64 .f32 := fun j => A (ix2 (j 0) (lane h (j 1)))
/-- Every head's columns turned. -/
def slabs (A : Vec F S128x256 .f32) : Vec F S4x64x128 .f32 := fun j => k1_pay87 (colsOf A (j 0)) (ix3 0 (j 1) (j 2))
/-- Every head's slab turned back, side by side. -/
def unslabs (A : Vec F S4x64x128 .f32) : Vec F S128x256 .f32 :=
  fun j => k1_pay107 (slabOf A (laneHead (j 1))) (ix2 (j 0) (laneCol (j 1)))
/-- The heads' matrices of an array. -/
def mats (M : Vec F S4x64x64 .f32) (h : Fin 4) : FVec F S64x64 .f32 := k1_pay97 (matOf M h)
/-- The array of the heads' matrices. -/
def unmats (D : Fin 4 → FVec F S64x64 .f32) : Vec F S4x64x64 .f32 := fun j => k1_pay106 (D (j 0)) (ix3 0 (j 1) (j 2))

/-- The trip that takes a step. -/
abbrev iOf (t : Fin 128) : Fin k1_t1_loop.trips := ⟨127 - t.val, by rw [trips1]; omega⟩
theorem tOf_iOf (t : Fin 128) : tOf (iOf t) = t := Fin.ext (by show 127 - (127 - t.val) = t.val; omega)

/-- The block of the trips' rows. -/
def rows (q : Fin k1_t1_loop.trips → Fin 4 → Vec F S1x1x64 .f32) : Vec F S4x128x64 .f32 := fun j => q (iOf (j 1)) (j 0) (ix3 0 0 (j 2))
/-- The slabs of the trips' columns. -/
def cols (q : Fin k1_t1_loop.trips → Fin 4 → FVec F S64 .f32) : Vec F S4x64x128 .f32 := fun j => q (iOf (j 2)) (j 0) (ix1 (j 1))

theorem rows_of {q : Fin k1_t1_loop.trips → Fin 4 → Vec F S1x1x64 .f32} {x : Vec F S4x128x64 .f32}
    (h : RowsDone q k1_t1_loop.trips x) : x = rows q := by
  funext j
  obtain ⟨a, b, d, rfl⟩ : ∃ a b d, j = ix3 a b d := ⟨_, _, _, eq_ix3 j⟩
  have := h.at a (iOf b) d (iOf b).isLt
  rw [tOf_iOf] at this
  exact this
theorem cols_of {q : Fin k1_t1_loop.trips → Fin 4 → FVec F S64 .f32} {x : Vec F S4x64x128 .f32}
    (h : ColsDone q k1_t1_loop.trips x) : x = cols q := by
  funext j
  obtain ⟨a, b, d, rfl⟩ : ∃ a b d, j = ix3 a b d := ⟨_, _, _, eq_ix3 j⟩
  have := h.at a (iOf d) b (iOf d).isLt
  rw [tOf_iOf] at this
  exact this

/-- A row output of the block, by the step's function. -/
def rowsB (g : Fin k1_t1_loop.trips → Ld F → FVec F S64x64 .f32 → Vec F S1x1x64 .f32) (B : Blk F) (D : Fin 4 → FVec F S64x64 .f32) :
    Vec F S4x128x64 .f32 := rows fun k hd => g k (B.ld k hd) (dsAt B D k.val hd)
/-- The slabs of `dv` columns of the block. -/
def dvT (B : Blk F) (D : Fin 4 → FVec F S64x64 .f32) : Vec F S4x64x128 .f32 :=
  cols fun k hd => dvCol k (B.ld k hd) (dsAt B D k.val hd)

theorem unpack_pack (D : Fin 4 → FVec F S64x64 .f32) : unpack (pack D) = D := by
  funext h
  match h with
  | 0 => rfl
  | 1 => rfl
  | 2 => rfl
  | 3 => rfl

theorem rowsB_of (g : Fin k1_t1_loop.trips → Ld F → FVec F S64x64 .f32 → Vec F S1x1x64 .f32) {B B' : Blk F} (hB : B = B')
    {I : Acc F} {D : Fin 4 → FVec F S64x64 .f32} (hI : I = pack D) {x : Vec F S4x128x64 .f32}
    (h : RowsDone (fun k hd => g k (B.ld k hd) (dsAt B (unpack I) k.val hd)) k1_t1_loop.trips x = True) : x = rowsB g B' D := by
  subst hB hI
  rw [unpack_pack] at h
  exact rows_of (of_eq_true h)
theorem dvT_of {B B' : Blk F} (hB : B = B')
    {I : Acc F} {D : Fin 4 → FVec F S64x64 .f32} (hI : I = pack D) {x : Vec F S4x64x128 .f32}
    (h : ColsDone (fun k hd => dvCol k (B.ld k hd) (dsAt B (unpack I) k.val hd)) k1_t1_loop.trips x = True) : x = dvT B' D := by
  subst hB hI
  rw [unpack_pack] at h
  exact cols_of (of_eq_true h)

section Views
variable {κ : Kind} {sp : Space}

theorem readAt_cols (v : View sig κ sp S128x256 .f32) (f : v.ty.Contents (Elt F)) {off : Fin 2 → ℕ}
    (inb : ∀ a, off a + S128x64.size a ≤ S128x256.size a) (h : Fin 4) (ho : off = ![0, 64 * h.val]) :
    v.readAt (Elt F) (Rect.unit (s := S128x256) off S128x64.size inb).toLoadRect f = colsOf (F := F) (v.read (Elt F) f) h := by
  subst ho
  rw [View.readAt_unit v f inb rfl inb]
  funext j
  refine congrArg (v.read (Elt F) f) (funext fun a => Fin.ext ?_)
  match a with
  | ⟨0, _⟩ => show 0 + 1 * (j (0 : Fin 2)).val = (j (0 : Fin 2)).val; omega
  | ⟨1, _⟩ => show 64 * h.val + 1 * (j (1 : Fin 2)).val = 64 * h.val + (j (1 : Fin 2)).val; omega

/-- A head's columns written. -/
theorem read_cols_cons (v : View sig κ sp S128x256 .f32) (f : v.ty.Contents (Elt F)) {off : Fin 2 → ℕ}
    (inb : ∀ a, off a + S128x64.size a ≤ S128x256.size a) (w : Vec F S128x64 .f32)
    (L : List (View.Piece (Elt F) S128x256 .f32)) (h : Fin 4) (ho : off = ![0, 64 * h.val]) (i : Fin 128) (l : Fin 256) :
    v.read (Elt F) (v.writes (Elt F) f ((⟨Rect.unit (s := S128x256) off S128x64.size inb, w⟩ : View.Piece (Elt F) S128x256 .f32) :: L)) (ix2 i l)
      = if laneHead l = h then w (ix2 i (laneCol l)) else v.read (Elt F) (v.writes (Elt F) f L) (ix2 i l) := by
  split
  · next hh =>
    have hl : l.val / 64 = h.val := congrArg Fin.val hh
    refine View.read_writes_cons_unit_of_mem v f inb w L _ (ix2 i (laneCol l)) ho fun a => ?_
    match a with
    | ⟨0, _⟩ => exact (Nat.zero_add _).symm
    | ⟨1, _⟩ => show l.val = 64 * h.val + l.val % 64; omega
  · next e =>
    refine View.read_writes_cons_unit_of_not_mem v f inb w L _ ho (1 : Fin 2) ?_
    have : l.val / 64 ≠ h.val := fun q => e (Fin.ext q)
    show l.val < 64 * h.val ∨ 64 * h.val + 64 ≤ l.val
    omega

/-- The four heads' columns written: the whole block. -/
theorem read_unslabs (v : View sig κ sp S128x256 .f32) (f : v.ty.Contents (Elt F)) (A : Vec F S4x64x128 .f32)
    (w0 w1 w2 w3 : Vec F S128x64 .f32) (h0 : w0 = k1_pay107 (slabOf A 0)) (h1 : w1 = k1_pay107 (slabOf A 1))
    (h2 : w2 = k1_pay107 (slabOf A 2)) (h3 : w3 = k1_pay107 (slabOf A 3)) (L : List (View.Piece (Elt F) S128x256 .f32)) :
    v.read (Elt F) (v.writes (Elt F) f
      (⟨Rect.unit (s := S128x256) ![0, 192] S128x64.size inb_S128x256_S128x64_0_192, w3⟩
        :: ⟨Rect.unit (s := S128x256) ![0, 128] S128x64.size inb_S128x256_S128x64_0_128, w2⟩
        :: ⟨Rect.unit (s := S128x256) ![0, 64] S128x64.size inb_S128x256_S128x64_0_64, w1⟩
        :: ⟨Rect.unit (s := S128x256) ![0, 0] S128x64.size inb_S128x256_S128x64_0_0, w0⟩ :: L)) = unslabs A := by
  subst h0 h1 h2 h3
  funext j
  obtain ⟨i, l, rfl⟩ : ∃ i l, j = ix2 i l := ⟨_, _, eq_ix2 j⟩
  rw [read_cols_cons (off := ![0, 192]) v f _ _ _ 3 rfl, read_cols_cons (off := ![0, 128]) v f _ _ _ 2 rfl,
    read_cols_cons (off := ![0, 64]) v f _ _ _ 1 rfl, read_cols_cons (off := ![0, 0]) v f _ _ _ 0 rfl]
  show _ = k1_pay107 (slabOf A (laneHead l)) (ix2 i (laneCol l))
  generalize laneHead l = h
  match h with
  | 0 => rfl
  | 1 => rfl
  | 2 => rfl
  | 3 => rfl

/-- The four heads' turned columns written: the slabs. -/
theorem read_slabs (v : View sig κ sp S4x64x128 .f32) (f : v.ty.Contents (Elt F)) (A : Vec F S128x256 .f32)
    (w0 w1 w2 w3 : Vec F S1x64x128 .f32) (h0 : w0 = k1_pay87 (colsOf A 0)) (h1 : w1 = k1_pay87 (colsOf A 1))
    (h2 : w2 = k1_pay87 (colsOf A 2)) (h3 : w3 = k1_pay87 (colsOf A 3)) (L : List (View.Piece (Elt F) S4x64x128 .f32)) :
    v.read (Elt F) (v.writes (Elt F) f
      (⟨Rect.unit (s := S4x64x128) ![3, 0, 0] S1x64x128.size inb_S4x64x128_S1x64x128_3_0_0, w3⟩
        :: ⟨Rect.unit (s := S4x64x128) ![2, 0, 0] S1x64x128.size inb_S4x64x128_S1x64x128_2_0_0, w2⟩
        :: ⟨Rect.unit (s := S4x64x128) ![1, 0, 0] S1x64x128.size inb_S4x64x128_S1x64x128_1_0_0, w1⟩
        :: ⟨Rect.unit (s := S4x64x128) ![0, 0, 0] S1x64x128.size inb_S4x64x128_S1x64x128_0_0_0, w0⟩ :: L)) = slabs A := by
  subst h0 h1 h2 h3
  funext j
  obtain ⟨h, a, b, rfl⟩ : ∃ a b d, j = ix3 a b d := ⟨_, _, _, eq_ix3 j⟩
  rw [read_slab_cons (off := ![3, 0, 0]) v f _ _ _ 3 rfl, read_slab_cons (off := ![2, 0, 0]) v f _ _ _ 2 rfl,
    read_slab_cons (off := ![1, 0, 0]) v f _ _ _ 1 rfl, read_slab_cons (off := ![0, 0, 0]) v f _ _ _ 0 rfl]
  match h with
  | 0 => rfl
  | 1 => rfl
  | 2 => rfl
  | 3 => rfl

/-- The four heads' matrices written: the array. -/
theorem read_unmats (v : View sig κ sp S4x64x64 .f32) (f : v.ty.Contents (Elt F)) (D : Fin 4 → FVec F S64x64 .f32)
    (w0 w1 w2 w3 : Vec F S1x64x64 .f32) (h0 : w0 = k1_pay106 (D 0)) (h1 : w1 = k1_pay106 (D 1))
    (h2 : w2 = k1_pay106 (D 2)) (h3 : w3 = k1_pay106 (D 3)) (L : List (View.Piece (Elt F) S4x64x64 .f32)) :
    v.read (Elt F) (v.writes (Elt F) f
      (⟨Rect.unit (s := S4x64x64) ![3, 0, 0] S1x64x64.size inb_S4x64x64_S1x64x64_3_0_0, w3⟩
        :: ⟨Rect.unit (s := S4x64x64) ![2, 0, 0] S1x64x64.size inb_S4x64x64_S1x64x64_2_0_0, w2⟩
        :: ⟨Rect.unit (s := S4x64x64) ![1, 0, 0] S1x64x64.size inb_S4x64x64_S1x64x64_1_0_0, w1⟩
        :: ⟨Rect.unit (s := S4x64x64) ![0, 0, 0] S1x64x64.size inb_S4x64x64_S1x64x64_0_0_0, w0⟩ :: L)) = unmats D := by
  subst h0 h1 h2 h3
  funext j
  obtain ⟨h, a, b, rfl⟩ : ∃ a b d, j = ix3 a b d := ⟨_, _, _, eq_ix3 j⟩
  rw [read_mat_cons (off := ![3, 0, 0]) v f _ _ _ 3 rfl, read_mat_cons (off := ![2, 0, 0]) v f _ _ _ 2 rfl,
    read_mat_cons (off := ![1, 0, 0]) v f _ _ _ 1 rfl, read_mat_cons (off := ![0, 0, 0]) v f _ _ _ 0 rfl]
  match h with
  | 0 => rfl
  | 1 => rfl
  | 2 => rfl
  | 3 => rfl

/-- The whole array of matrices written. -/
theorem read_mats_whole (v : View sig κ sp S4x64x64 .f32) (f : v.ty.Contents (Elt F)) {off : Fin 3 → ℕ}
    (inb : ∀ a, off a + S4x64x64.size a ≤ S4x64x64.size a) (w : Vec F S4x64x64 .f32)
    (L : List (View.Piece (Elt F) S4x64x64 .f32)) (ho : off = ![0, 0, 0]) :
    v.read (Elt F) (v.writes (Elt F) f ((⟨Rect.unit (s := S4x64x64) off S4x64x64.size inb, w⟩ : View.Piece (Elt F) S4x64x64 .f32) :: L)) = w := by
  funext j
  refine View.read_writes_cons_unit_of_mem v f inb w L _ j ho fun a => ?_
  match a with
  | ⟨0, _⟩ => exact (Nat.zero_add _).symm
  | ⟨1, _⟩ => exact (Nat.zero_add _).symm
  | ⟨2, _⟩ => exact (Nat.zero_add _).symm
end Views

/-- The block the backward scan reads, from the arrays staged. -/
abbrev blk1 (R W K KK A : Vec F S4x128x64 .f32) (V DY : Vec F S128x256 .f32) (S : Vec F S128x4x64x64 .f32) : Blk F :=
  ⟨S, R, W, K, KK, A, slabs V, slabs DY⟩

end Cert.Proof.Scan
end
-- ==== Proof.FwdTrip.lean ====
module
public import proofs.«01_k».proof.Proof.BwdBlock
@[expose] public section
set_option maxRecDepth 16384
set_option maxHeartbeats 1000000
noncomputable section
namespace Cert.Proof.Scan
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
variable {F : FTy → Type} [FloatOps F]
local notation "𝕄G" => MT nD τ sig Unit (Elt F) ℕ (UR sig nD τ) ℕ

/-! One step of one head of the forward scan, and one trip of its loop over the blocks' arrays. -/

/-- What one step of one head reads: the rows `r w k kk a` and the slab holding the transposed `v`. -/
structure Lf (F : FTy → Type) where
  r : Vec F S1x1x64 .f32
  w : Vec F S1x1x64 .f32
  k : Vec F S1x1x64 .f32
  kk : Vec F S1x1x64 .f32
  a : Vec F S1x1x64 .f32
  v : Vec F S1x64x128 .f32

theorem Lf.ext_of {x y : Lf F} (hr : x.r = y.r) (hw : x.w = y.w) (hk : x.k = y.k) (hkk : x.kk = y.kk)
    (ha : x.a = y.a) (hv : x.v = y.v) : x = y := by
  cases x; cases y; cases hr; cases hw; cases hk; cases hkk; cases ha; cases hv; rfl

section Step
variable (i : Fin k0_t1_loop.trips) (x : Lf F) (s : FVec F S64x64 .f32)
/-- The state after the step. -/
def sNext : FVec F S64x64 .f32 :=
  k0_pay11 (k0_pay5 x.k) (k0_pay7 lanes 0#32 1#32 i x.v) (k0_pay8 s x.w) (k0_pay9 s x.kk) (k0_pay10 x.kk x.a)
/-- The slab of `y` columns after the step, over the slab before. -/
def ySlab (old : Vec F S1x64x128 .f32) : FVec F S1x64x128 .f32 :=
  k0_pay12 lanes (Scf.iv 0#32 1#32 i) (k0_pay4 x.r) (k0_pay5 x.k) (k0_pay7 lanes 0#32 1#32 i x.v) (k0_pay8 s x.w) (k0_pay9 s x.kk) (k0_pay10 x.kk x.a) old
/-- The column of `y` the step adds. -/
def yCol : FVec F S64 .f32 :=
  multiReduction .add [1] S64 (mulf (sNext i x s) (broadcastTo S64x64 (k0_pay4 x.r) broadcasts_S1x64_S64x64)) 0x00000000#32 reduces_S64x64_S64 (.inl rfl) rfl
end Step

/-- The blocks the forward scan reads, as arrays: `r w k kk a`, and `v` transposed by head. -/
structure Blf (F : FTy → Type) where
  r : Vec F S4x128x64 .f32
  w : Vec F S4x128x64 .f32
  k : Vec F S4x128x64 .f32
  kk : Vec F S4x128x64 .f32
  a : Vec F S4x128x64 .f32
  v : Vec F S4x64x128 .f32

theorem trips0 : k0_t1_loop.trips = 128 := by decide +kernel
theorem lt0 (i : Fin k0_t1_loop.trips) : i.val < 128 := trips0 ▸ i.isLt
/-- The step a trip of the forward loop takes. -/
def sOf (i : Fin k0_t1_loop.trips) : Fin 128 := ⟨i.val, lt0 i⟩

/-- What head `h` reads at a trip. -/
def Blf.ld (B : Blf F) (i : Fin k0_t1_loop.trips) (h : Fin 4) : Lf F :=
  ⟨rowOf B.r h (sOf i), rowOf B.w h (sOf i), rowOf B.k h (sOf i), rowOf B.kk h (sOf i), rowOf B.a h (sOf i), slabOf B.v h⟩

/-- A state per head written at a trip, the last head's first. -/
abbrev statePcs (i : Fin k0_t1_loop.trips) (q : Fin 4 → Vec F S1x1x64x64 .f32) : List (View.Piece (Elt F) S128x4x64x64 .f32) :=
  [⟨Rect.unit (s := S128x4x64x64) (k0_off7 i) S1x1x64x64.size (k0_off7_inb i), q 3⟩,
   ⟨Rect.unit (s := S128x4x64x64) (k0_off5 i) S1x1x64x64.size (k0_off5_inb i), q 2⟩,
   ⟨Rect.unit (s := S128x4x64x64) (k0_off3 i) S1x1x64x64.size (k0_off3_inb i), q 1⟩,
   ⟨Rect.unit (s := S128x4x64x64) (k0_off1 i) S1x1x64x64.size (k0_off1_inb i), q 0⟩]

theorem foff1_eq : ∀ i : Fin k0_t1_loop.trips, k0_off1 i = ![(sOf i).val, 0, 0, 0] := by decide +kernel
theorem foff3_eq : ∀ i : Fin k0_t1_loop.trips, k0_off3 i = ![(sOf i).val, 1, 0, 0] := by decide +kernel
theorem foff5_eq : ∀ i : Fin k0_t1_loop.trips, k0_off5 i = ![(sOf i).val, 2, 0, 0] := by decide +kernel
theorem foff7_eq : ∀ i : Fin k0_t1_loop.trips, k0_off7 i = ![(sOf i).val, 3, 0, 0] := by decide +kernel
theorem foff2_eq : ∀ i : Fin k0_t1_loop.trips, k0_off2 i = ![0, (sOf i).val, 0] := by decide +kernel
theorem foff4_eq : ∀ i : Fin k0_t1_loop.trips, k0_off4 i = ![1, (sOf i).val, 0] := by decide +kernel
theorem foff6_eq : ∀ i : Fin k0_t1_loop.trips, k0_off6 i = ![2, (sOf i).val, 0] := by decide +kernel
theorem foff8_eq : ∀ i : Fin k0_t1_loop.trips, k0_off8 i = ![3, (sOf i).val, 0] := by decide +kernel

/-- After a trip's states: at the trip's step the heads' states, elsewhere what was there. -/
theorem read_statePcs {κ : Kind} {sp : Space} (v : View sig κ sp S128x4x64x64 .f32) (f : v.ty.Contents (Elt F))
    (i : Fin k0_t1_loop.trips) (q : Fin 4 → Vec F S1x1x64x64 .f32) (t : Fin 128) (h : Fin 4) (a b : Fin 64) :
    v.read (Elt F) (v.writes (Elt F) f (statePcs i q)) (ix4 t h a b)
      = if t = sOf i then q h (ix4 0 0 a b) else v.read (Elt F) f (ix4 t h a b) := by
  rw [read_state_cons v f _ _ _ (sOf i) 3 (foff7_eq i), read_state_cons v f _ _ _ (sOf i) 2 (foff5_eq i),
    read_state_cons v f _ _ _ (sOf i) 1 (foff3_eq i), read_state_cons v f _ _ _ (sOf i) 0 (foff1_eq i)]
  by_cases e : t = sOf i
  · match h with
    | 0 => simp [e]
    | 1 => simp [e]
    | 2 => simp [e]
    | 3 => simp [e]
  · simp [e, View.writes]

section Trip
variable (c : Dev nD) (i : grid0.Coords)
  (arg1 : Memref sig .tc .vmem S4x128x64 .f32) (harg1 : arg1.IsWhole)
  (arg2 : Memref sig .tc .vmem S4x128x64 .f32) (harg2 : arg2.IsWhole)
  (arg3 : Memref sig .tc .vmem S4x128x64 .f32) (harg3 : arg3.IsWhole)
  (arg4 : Memref sig .tc .vmem S4x128x64 .f32) (harg4 : arg4.IsWhole)
  (arg5 : Memref sig .tc .vmem S4x128x64 .f32) (harg5 : arg5.IsWhole)
  (arg6 : Memref sig .tc .vmem S128x256 .f32) (harg6 : arg6.IsWhole)
  (arg7 : Memref sig .tc .vmem S128x256 .f32) (harg7 : arg7.IsWhole)
  (arg8 : Memref sig .tc .vmem S128x4x64x64 .f32) (harg8 : arg8.IsWhole)
  (arg9 : Memref sig .tc .vmem S4x64x64 .f32) (harg9 : arg9.IsWhole)
  (arg10 : Memref sig .tc .vmem S4x64x128 .f32) (harg10 : arg10.IsWhole)
  (arg11 : Memref sig .tc .vmem S4x64x128 .f32) (harg11 : arg11.IsWhole)

/-- What head `h` loads at a trip, from the memrefs. -/
abbrev rawLf (k : Fin k0_t1_loop.trips) (X1 : BufTy.Contents (Elt F) arg1.view.ty) (X2 : BufTy.Contents (Elt F) arg2.view.ty) (X3 : BufTy.Contents (Elt F) arg3.view.ty) (X4 : BufTy.Contents (Elt F) arg4.view.ty) (X5 : BufTy.Contents (Elt F) arg5.view.ty) (X10 : BufTy.Contents (Elt F) arg10.view.ty) : Fin 4 → Lf F
  | 0 => ⟨arg1.view.readAt (Elt F) (Rect.unit (s := S4x128x64) (k0_off2 k) S1x1x64.size (k0_off2_inb k)).toLoadRect X1,
      arg2.view.readAt (Elt F) (Rect.unit (s := S4x128x64) (k0_off2 k) S1x1x64.size (k0_off2_inb k)).toLoadRect X2,
      arg3.view.readAt (Elt F) (Rect.unit (s := S4x128x64) (k0_off2 k) S1x1x64.size (k0_off2_inb k)).toLoadRect X3,
      arg4.view.readAt (Elt F) (Rect.unit (s := S4x128x64) (k0_off2 k) S1x1x64.size (k0_off2_inb k)).toLoadRect X4,
      arg5.view.readAt (Elt F) (Rect.unit (s := S4x128x64) (k0_off2 k) S1x1x64.size (k0_off2_inb k)).toLoadRect X5,
      arg10.view.readAt (Elt F) (Rect.unit (s := S4x64x128) ![0, 0, 0] S1x64x128.size inb_S4x64x128_S1x64x128_0_0_0).toLoadRect X10⟩
  | 1 => ⟨arg1.view.readAt (Elt F) (Rect.unit (s := S4x128x64) (k0_off4 k) S1x1x64.size (k0_off4_inb k)).toLoadRect X1,
      arg2.view.readAt (Elt F) (Rect.unit (s := S4x128x64) (k0_off4 k) S1x1x64.size (k0_off4_inb k)).toLoadRect X2,
      arg3.view.readAt (Elt F) (Rect.unit (s := S4x128x64) (k0_off4 k) S1x1x64.size (k0_off4_inb k)).toLoadRect X3,
      arg4.view.readAt (Elt F) (Rect.unit (s := S4x128x64) (k0_off4 k) S1x1x64.size (k0_off4_inb k)).toLoadRect X4,
      arg5.view.readAt (Elt F) (Rect.unit (s := S4x128x64) (k0_off4 k) S1x1x64.size (k0_off4_inb k)).toLoadRect X5,
      arg10.view.readAt (Elt F) (Rect.unit (s := S4x64x128) ![1, 0, 0] S1x64x128.size inb_S4x64x128_S1x64x128_1_0_0).toLoadRect X10⟩
  | 2 => ⟨arg1.view.readAt (Elt F) (Rect.unit (s := S4x128x64) (k0_off6 k) S1x1x64.size (k0_off6_inb k)).toLoadRect X1,
      arg2.view.readAt (Elt F) (Rect.unit (s := S4x128x64) (k0_off6 k) S1x1x64.size (k0_off6_inb k)).toLoadRect X2,
      arg3.view.readAt (Elt F) (Rect.unit (s := S4x128x64) (k0_off6 k) S1x1x64.size (k0_off6_inb k)).toLoadRect X3,
      arg4.view.readAt (Elt F) (Rect.unit (s := S4x128x64) (k0_off6 k) S1x1x64.size (k0_off6_inb k)).toLoadRect X4,
      arg5.view.readAt (Elt F) (Rect.unit (s := S4x128x64) (k0_off6 k) S1x1x64.size (k0_off6_inb k)).toLoadRect X5,
      arg10.view.readAt (Elt F) (Rect.unit (s := S4x64x128) ![2, 0, 0] S1x64x128.size inb_S4x64x128_S1x64x128_2_0_0).toLoadRect X10⟩
  | 3 => ⟨arg1.view.readAt (Elt F) (Rect.unit (s := S4x128x64) (k0_off8 k) S1x1x64.size (k0_off8_inb k)).toLoadRect X1,
      arg2.view.readAt (Elt F) (Rect.unit (s := S4x128x64) (k0_off8 k) S1x1x64.size (k0_off8_inb k)).toLoadRect X2,
      arg3.view.readAt (Elt F) (Rect.unit (s := S4x128x64) (k0_off8 k) S1x1x64.size (k0_off8_inb k)).toLoadRect X3,
      arg4.view.readAt (Elt F) (Rect.unit (s := S4x128x64) (k0_off8 k) S1x1x64.size (k0_off8_inb k)).toLoadRect X4,
      arg5.view.readAt (Elt F) (Rect.unit (s := S4x128x64) (k0_off8 k) S1x1x64.size (k0_off8_inb k)).toLoadRect X5,
      arg10.view.readAt (Elt F) (Rect.unit (s := S4x64x128) ![3, 0, 0] S1x64x128.size inb_S4x64x128_S1x64x128_3_0_0).toLoadRect X10⟩

/-- The memrefs as arrays. -/
abbrev blfOf (X1 : BufTy.Contents (Elt F) arg1.view.ty) (X2 : BufTy.Contents (Elt F) arg2.view.ty) (X3 : BufTy.Contents (Elt F) arg3.view.ty) (X4 : BufTy.Contents (Elt F) arg4.view.ty) (X5 : BufTy.Contents (Elt F) arg5.view.ty) (X10 : BufTy.Contents (Elt F) arg10.view.ty) : Blf F :=
  ⟨arg1.view.read (Elt F) X1, arg2.view.read (Elt F) X2, arg3.view.read (Elt F) X3, arg4.view.read (Elt F) X4, arg5.view.read (Elt F) X5, arg10.view.read (Elt F) X10⟩

theorem rawLf_eq (k : Fin k0_t1_loop.trips) (X1 : BufTy.Contents (Elt F) arg1.view.ty) (X2 : BufTy.Contents (Elt F) arg2.view.ty) (X3 : BufTy.Contents (Elt F) arg3.view.ty) (X4 : BufTy.Contents (Elt F) arg4.view.ty) (X5 : BufTy.Contents (Elt F) arg5.view.ty) (X10 : BufTy.Contents (Elt F) arg10.view.ty) (h : Fin 4) :
    rawLf arg1 arg2 arg3 arg4 arg5 arg10 k X1 X2 X3 X4 X5 X10 h = (blfOf arg1 arg2 arg3 arg4 arg5 arg10 X1 X2 X3 X4 X5 X10).ld k h := by
  match h with
  | 0 =>
    exact Lf.ext_of     (readAt_row arg1.view X1 _ 0 (sOf k) (foff2_eq k))
      (readAt_row arg2.view X2 _ 0 (sOf k) (foff2_eq k))
      (readAt_row arg3.view X3 _ 0 (sOf k) (foff2_eq k))
      (readAt_row arg4.view X4 _ 0 (sOf k) (foff2_eq k))
      (readAt_row arg5.view X5 _ 0 (sOf k) (foff2_eq k))
      (readAt_slab arg10.view X10 _ 0 rfl)
  | 1 =>
    exact Lf.ext_of     (readAt_row arg1.view X1 _ 1 (sOf k) (foff4_eq k))
      (readAt_row arg2.view X2 _ 1 (sOf k) (foff4_eq k))
      (readAt_row arg3.view X3 _ 1 (sOf k) (foff4_eq k))
      (readAt_row arg4.view X4 _ 1 (sOf k) (foff4_eq k))
      (readAt_row arg5.view X5 _ 1 (sOf k) (foff4_eq k))
      (readAt_slab arg10.view X10 _ 1 rfl)
  | 2 =>
    exact Lf.ext_of     (readAt_row arg1.view X1 _ 2 (sOf k) (foff6_eq k))
      (readAt_row arg2.view X2 _ 2 (sOf k) (foff6_eq k))
      (readAt_row arg3.view X3 _ 2 (sOf k) (foff6_eq k))
      (readAt_row arg4.view X4 _ 2 (sOf k) (foff6_eq k))
      (readAt_row arg5.view X5 _ 2 (sOf k) (foff6_eq k))
      (readAt_slab arg10.view X10 _ 2 rfl)
  | 3 =>
    exact Lf.ext_of     (readAt_row arg1.view X1 _ 3 (sOf k) (foff8_eq k))
      (readAt_row arg2.view X2 _ 3 (sOf k) (foff8_eq k))
      (readAt_row arg3.view X3 _ 3 (sOf k) (foff8_eq k))
      (readAt_row arg4.view X4 _ 3 (sOf k) (foff8_eq k))
      (readAt_row arg5.view X5 _ 3 (sOf k) (foff8_eq k))
      (readAt_slab arg10.view X10 _ 3 rfl)

/-- The memrefs a trip reads, at their contents, and those it writes. -/
abbrev PtsF (X1 : BufTy.Contents (Elt F) arg1.view.ty) (X2 : BufTy.Contents (Elt F) arg2.view.ty) (X3 : BufTy.Contents (Elt F) arg3.view.ty) (X4 : BufTy.Contents (Elt F) arg4.view.ty) (X5 : BufTy.Contents (Elt F) arg5.view.ty) (X10 : BufTy.Contents (Elt F) arg10.view.ty) (f8 : BufTy.Contents (Elt F) arg8.view.ty) (f11 : BufTy.Contents (Elt F) arg11.view.ty) : sProp 𝕄G :=
  iprop((arg1.view.loc (c : Thread nD τ) ↦[arg1.view.set]{fullShare} X1) ∗ (arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg10.view.loc (c : Thread nD τ) ↦[arg10.view.set]{fullShare} X10) ∗ (arg8.view.loc (c : Thread nD τ) ↦[arg8.view.set]{fullShare} f8) ∗ (arg11.view.loc (c : Thread nD τ) ↦[arg11.view.set]{fullShare} f11))

variable (𝒱 : Variants) (bd : Option 𝒱.V) (X1 : BufTy.Contents (Elt F) arg1.view.ty) (X2 : BufTy.Contents (Elt F) arg2.view.ty) (X3 : BufTy.Contents (Elt F) arg3.view.ty) (X4 : BufTy.Contents (Elt F) arg4.view.ty) (X5 : BufTy.Contents (Elt F) arg5.view.ty) (X10 : BufTy.Contents (Elt F) arg10.view.ty) (k : Fin k0_t1_loop.trips)
include harg1 harg2 harg3 harg4 harg5 harg6 harg7 harg8 harg9 harg10 harg11

/-- One trip run once: what it yields and the pieces it writes are found by the run. -/
def tripRunF :
    Σ' (RR : Acc F → BufTy.Contents (Elt F) arg8.view.ty → BufTy.Contents (Elt F) arg11.view.ty →  Acc F) (L8 : Acc F → BufTy.Contents (Elt F) arg8.view.ty → BufTy.Contents (Elt F) arg11.view.ty →  List (View.Piece (Elt F) S128x4x64x64 .f32)),
      { L11 : Acc F → BufTy.Contents (Elt F) arg8.view.ty → BufTy.Contents (Elt F) arg11.view.ty →  List (View.Piece (Elt F) S4x64x128 .f32) // ∀ (E : Set ℕ) (acc : Acc F) (f8 : BufTy.Contents (Elt F) arg8.view.ty) (f11 : BufTy.Contents (Elt F) arg11.view.ty),
        PtsF c arg1 arg2 arg3 arg4 arg5 arg8 arg10 arg11 X1 X2 X3 X4 X5 X10 f8 f11 ⊢ wp frame (wpE (defs₀ (F := F)) 𝒱 (c : Thread nD τ) bd) E
          (k0_t1_body (F := F) i arg1 harg1 arg2 harg2 arg3 harg3 arg4 harg4 arg5 harg5 arg6 harg6 arg7 harg7 arg8 harg8 arg9 harg9 arg10 harg10 arg11 harg11 lanes k acc)
          (fun yld => iprop(⌜yld = RR acc f8 f11⌝ ∗ PtsF c arg1 arg2 arg3 arg4 arg5 arg8 arg10 arg11 X1 X2 X3 X4 X5 X10 (arg8.view.writes (Elt F) f8 (L8 acc f8 f11)) (arg11.view.writes (Elt F) f11 (L11 acc f8 f11)))) } := by
  have hk : k.val < 128 := Nat.lt_of_lt_of_le k.isLt k0_t1_abs.2.1
  refine ⟨?_, ?_, ?_, fun E acc f8 f11 => ?run⟩
  case run =>
    unfold k0_t1_body
    iintro ⟨HR1, HR2, HR3, HR4, HR5, HR10, HW8, HW11⟩
    sl_exec
    sl_step
    sl_close

theorem tripRunF_0 (D : Fin 4 → FVec F S64x64 .f32) (f8 : BufTy.Contents (Elt F) arg8.view.ty) (f11 : BufTy.Contents (Elt F) arg11.view.ty) :
    (tripRunF c i arg1 harg1 arg2 harg2 arg3 harg3 arg4 harg4 arg5 harg5 arg6 harg6 arg7 harg7 arg8 harg8 arg9 harg9 arg10 harg10 arg11 harg11 𝒱 bd X1 X2 X3 X4 X5 X10 k).1 (pack D) f8 f11 = pack fun h => sNext k ((blfOf arg1 arg2 arg3 arg4 arg5 arg10 X1 X2 X3 X4 X5 X10).ld k h) (D h) :=
  (show _ = pack fun h => sNext k (rawLf arg1 arg2 arg3 arg4 arg5 arg10 k X1 X2 X3 X4 X5 X10 h) (D h) from rfl).trans (by simp only [rawLf_eq])

theorem tripRunF_1 (D : Fin 4 → FVec F S64x64 .f32) (f8 : BufTy.Contents (Elt F) arg8.view.ty) (f11 : BufTy.Contents (Elt F) arg11.view.ty) :
    (tripRunF c i arg1 harg1 arg2 harg2 arg3 harg3 arg4 harg4 arg5 harg5 arg6 harg6 arg7 harg7 arg8 harg8 arg9 harg9 arg10 harg10 arg11 harg11 𝒱 bd X1 X2 X3 X4 X5 X10 k).2.1 (pack D) f8 f11 = statePcs k fun h => k0_pay3 (D h) :=
  rfl

theorem tripRunF_2 (D : Fin 4 → FVec F S64x64 .f32) (f8 : BufTy.Contents (Elt F) arg8.view.ty) (f11 : BufTy.Contents (Elt F) arg11.view.ty) :
    (tripRunF c i arg1 harg1 arg2 harg2 arg3 harg3 arg4 harg4 arg5 harg5 arg6 harg6 arg7 harg7 arg8 harg8 arg9 harg9 arg10 harg10 arg11 harg11 𝒱 bd X1 X2 X3 X4 X5 X10 k).2.2.1 (pack D) f8 f11 = slabPcs fun h => ySlab k ((blfOf arg1 arg2 arg3 arg4 arg5 arg10 X1 X2 X3 X4 X5 X10).ld k h) (D h) (slabOf (arg11.view.read (Elt F) f11) h) :=
  (show _ = slabPcs fun h => ySlab k (rawLf arg1 arg2 arg3 arg4 arg5 arg10 k X1 X2 X3 X4 X5 X10 h) (D h) (rawDv arg11 f11 h) from rfl).trans (by simp only [rawLf_eq, rawDv_eq])

/-- One trip over the blocks' arrays. -/
theorem tripF (E : Set ℕ) (D : Fin 4 → FVec F S64x64 .f32) (f8 : BufTy.Contents (Elt F) arg8.view.ty) (f11 : BufTy.Contents (Elt F) arg11.view.ty) :
    PtsF c arg1 arg2 arg3 arg4 arg5 arg8 arg10 arg11 X1 X2 X3 X4 X5 X10 f8 f11 ⊢ wp frame (wpE (defs₀ (F := F)) 𝒱 (c : Thread nD τ) bd) E
      (k0_t1_body (F := F) i arg1 harg1 arg2 harg2 arg3 harg3 arg4 harg4 arg5 harg5 arg6 harg6 arg7 harg7 arg8 harg8 arg9 harg9 arg10 harg10 arg11 harg11 lanes k (pack D))
      (fun yld => iprop(⌜yld = pack fun h => sNext k ((blfOf arg1 arg2 arg3 arg4 arg5 arg10 X1 X2 X3 X4 X5 X10).ld k h) (D h)⌝ ∗ PtsF c arg1 arg2 arg3 arg4 arg5 arg8 arg10 arg11 X1 X2 X3 X4 X5 X10
        (arg8.view.writes (Elt F) f8 (statePcs k fun h => k0_pay3 (D h)))
        (arg11.view.writes (Elt F) f11 (slabPcs fun h => ySlab k ((blfOf arg1 arg2 arg3 arg4 arg5 arg10 X1 X2 X3 X4 X5 X10).ld k h) (D h) (slabOf (arg11.view.read (Elt F) f11) h))))) := by
  have h := (tripRunF c i arg1 harg1 arg2 harg2 arg3 harg3 arg4 harg4 arg5 harg5 arg6 harg6 arg7 harg7 arg8 harg8 arg9 harg9 arg10 harg10 arg11 harg11 𝒱 bd X1 X2 X3 X4 X5 X10 k).2.2.2 E (pack D) f8 f11
  rw [tripRunF_1, tripRunF_2] at h
  simp only [tripRunF_0] at h
  exact h
end Trip
end Cert.Proof.Scan
end
-- ==== Proof.FwdLoop.lean ====
module
public import proofs.«01_k».proof.Proof.FwdTrip
@[expose] public section
set_option maxRecDepth 16384
set_option maxHeartbeats 1000000
noncomputable section
namespace Cert.Proof.Scan
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
variable {F : FTy → Type} [FloatOps F]
local notation "𝕄G" => MT nD τ sig Unit (Elt F) ℕ (UR sig nD τ) ℕ

/-! The forward scan's loop by its invariant: what the trips before have written, index by index. -/

/-- What the loop carries before trip `n`, by head: the state before the step the trip takes. -/
def sAt (B : Blf F) (D : Fin 4 → FVec F S64x64 .f32) : ℕ → Fin 4 → FVec F S64x64 .f32
  | 0 => D
  | n + 1 => if h : n < k0_t1_loop.trips then fun hd => sNext ⟨n, h⟩ (B.ld ⟨n, h⟩ hd) (sAt B D n hd) else sAt B D n

theorem sAt_succ (B : Blf F) (D : Fin 4 → FVec F S64x64 .f32) (k : Fin k0_t1_loop.trips) :
    sAt B D (k.val + 1) = fun hd => sNext k (B.ld k hd) (sAt B D k.val hd) := by
  rw [sAt]; exact dif_pos k.isLt

/-- The trips before `n` have written their states. -/
def StatesDone (q : Fin k0_t1_loop.trips → Fin 4 → Vec F S1x1x64x64 .f32) (n : ℕ) (x : Vec F S128x4x64x64 .f32) : Prop :=
  match n with
  | 0 => True
  | n + 1 => ∀ (h : Fin 4) (i : Fin k0_t1_loop.trips) (a b : Fin 64), i.val < n + 1 → x (ix4 (sOf i) h a b) = q i h (ix4 0 0 a b)
/-- The trips before `n` have written their columns. -/
def YDone (q : Fin k0_t1_loop.trips → Fin 4 → FVec F S64 .f32) (n : ℕ) (x : Vec F S4x64x128 .f32) : Prop :=
  match n with
  | 0 => True
  | n + 1 => ∀ (h : Fin 4) (i : Fin k0_t1_loop.trips) (a : Fin 64), i.val < n + 1 → x (ix3 h a (sOf i)) = q i h (ix1 a)

theorem StatesDone.at {q : Fin k0_t1_loop.trips → Fin 4 → Vec F S1x1x64x64 .f32} {n : ℕ} {x : Vec F S128x4x64x64 .f32} (hd : StatesDone q n x)
    (h : Fin 4) (i : Fin k0_t1_loop.trips) (a b : Fin 64) (hi : i.val < n) : x (ix4 (sOf i) h a b) = q i h (ix4 0 0 a b) := by
  cases n with
  | zero => exact absurd hi (Nat.not_lt_zero _)
  | succ n => exact hd h i a b hi
theorem YDone.at {q : Fin k0_t1_loop.trips → Fin 4 → FVec F S64 .f32} {n : ℕ} {x : Vec F S4x64x128 .f32} (hd : YDone q n x)
    (h : Fin 4) (i : Fin k0_t1_loop.trips) (a : Fin 64) (hi : i.val < n) : x (ix3 h a (sOf i)) = q i h (ix1 a) := by
  cases n with
  | zero => exact absurd hi (Nat.not_lt_zero _)
  | succ n => exact hd h i a hi

theorem sOf_inj {i k : Fin k0_t1_loop.trips} (h : sOf i = sOf k) : i = k := Fin.ext (congrArg Fin.val h)

theorem StatesDone.succ {κ : Kind} {sp : Space} (v : View sig κ sp S128x4x64x64 .f32) (f : v.ty.Contents (Elt F))
    (q : Fin k0_t1_loop.trips → Fin 4 → Vec F S1x1x64x64 .f32) (k : Fin k0_t1_loop.trips)
    (h : StatesDone q k.val (v.read (Elt F) f)) (q' : Fin 4 → Vec F S1x1x64x64 .f32) (hq : q' = q k) :
    StatesDone q (k.val + 1) (v.read (Elt F) (v.writes (Elt F) f (statePcs k q'))) := by
  subst hq
  intro hd i a b hi
  rw [read_statePcs]
  split
  · next e => rw [sOf_inj e]
  · next e =>
    have : i.val ≠ k.val := fun e' => e (congrArg sOf (Fin.ext e'))
    exact h.at hd i a b (by omega)

/-- The word a trip compares the lanes with. -/
theorem word0_eq : ∀ i : Fin k0_t1_loop.trips, Scf.iv 0#32 1#32 i = BitVec.ofNat 32 (sOf i).val := by
  decide +kernel

theorem ySlab_apply (i : Fin k0_t1_loop.trips) (x : Lf F) (s : FVec F S64x64 .f32) (old : Vec F S1x64x128 .f32)
    (a : Fin 64) (l : Fin 128) :
    ySlab i x s old (ix3 0 a l) = if l = sOf i then yCol i x s (ix1 a) else old (ix3 0 a l) := by
  unfold ySlab k0_pay12
  rw [word0_eq]
  pointwise
  rw [lane_select]
  unfold yCol sNext
  pointwise

theorem YDone.succ {κ : Kind} {sp : Space} (v : View sig κ sp S4x64x128 .f32) (f : v.ty.Contents (Elt F))
    (q : Fin k0_t1_loop.trips → Fin 4 → FVec F S64 .f32) (k : Fin k0_t1_loop.trips)
    (h : YDone q k.val (v.read (Elt F) f)) (x : Fin 4 → Lf F) (s : Fin 4 → FVec F S64x64 .f32)
    (hq : ∀ hd, yCol k (x hd) (s hd) = q k hd) :
    YDone q (k.val + 1) (v.read (Elt F) (v.writes (Elt F) f
      (slabPcs fun hd => ySlab k (x hd) (s hd) (slabOf (v.read (Elt F) f) hd)))) := by
  intro hd i a hi
  rw [read_slabPcs, ySlab_apply]
  split
  · next e => rw [sOf_inj e, hq]
  · next e =>
    have : i.val ≠ k.val := fun e' => e (congrArg sOf (Fin.ext e'))
    exact h.at hd i a (by omega)

section Loop
variable (c : Dev nD) (i : grid0.Coords)
  (arg1 : Memref sig .tc .vmem S4x128x64 .f32) (harg1 : arg1.IsWhole)
  (arg2 : Memref sig .tc .vmem S4x128x64 .f32) (harg2 : arg2.IsWhole)
  (arg3 : Memref sig .tc .vmem S4x128x64 .f32) (harg3 : arg3.IsWhole)
  (arg4 : Memref sig .tc .vmem S4x128x64 .f32) (harg4 : arg4.IsWhole)
  (arg5 : Memref sig .tc .vmem S4x128x64 .f32) (harg5 : arg5.IsWhole)
  (arg6 : Memref sig .tc .vmem S128x256 .f32) (harg6 : arg6.IsWhole)
  (arg7 : Memref sig .tc .vmem S128x256 .f32) (harg7 : arg7.IsWhole)
  (arg8 : Memref sig .tc .vmem S128x4x64x64 .f32) (harg8 : arg8.IsWhole)
  (arg9 : Memref sig .tc .vmem S4x64x64 .f32) (harg9 : arg9.IsWhole)
  (arg10 : Memref sig .tc .vmem S4x64x128 .f32) (harg10 : arg10.IsWhole)
  (arg11 : Memref sig .tc .vmem S4x64x128 .f32) (harg11 : arg11.IsWhole)

/-- The invariant before trip `n`: what the region reads, the written steps, and the carried states. -/
abbrev invF (X1 : BufTy.Contents (Elt F) arg1.view.ty) (X2 : BufTy.Contents (Elt F) arg2.view.ty) (X3 : BufTy.Contents (Elt F) arg3.view.ty) (X4 : BufTy.Contents (Elt F) arg4.view.ty) (X5 : BufTy.Contents (Elt F) arg5.view.ty) (X10 : BufTy.Contents (Elt F) arg10.view.ty) (v47 : IVec S64x128 32) (init : Acc F) (n : ℕ) (acc : Acc F) : sProp 𝕄G :=
  iprop((arg1.view.loc (c : Thread nD τ) ↦[arg1.view.set]{fullShare} X1) ∗ (arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg10.view.loc (c : Thread nD τ) ↦[arg10.view.set]{fullShare} X10) ∗ (∃ f8, (arg8.view.loc (c : Thread nD τ) ↦[arg8.view.set]{fullShare} f8) ∗ ⌜StatesDone (fun k hd => k0_pay3 (sAt (blfOf arg1 arg2 arg3 arg4 arg5 arg10 X1 X2 X3 X4 X5 X10) (unpack init) k.val hd)) n (arg8.view.read (Elt F) f8) = True⌝) ∗ (∃ f11, (arg11.view.loc (c : Thread nD τ) ↦[arg11.view.set]{fullShare} f11) ∗ ⌜YDone (fun k hd => yCol k ((blfOf arg1 arg2 arg3 arg4 arg5 arg10 X1 X2 X3 X4 X5 X10).ld k hd) (sAt (blfOf arg1 arg2 arg3 arg4 arg5 arg10 X1 X2 X3 X4 X5 X10) (unpack init) k.val hd)) n (arg11.view.read (Elt F) f11) = True⌝)
    ∗ ⌜acc = pack (sAt (blfOf arg1 arg2 arg3 arg4 arg5 arg10 X1 X2 X3 X4 X5 X10) (unpack init) n)⌝)

set_option warn.classDefReducibility false in
/-- The forward loop by its invariant. -/
@[sl_loop] def loopInvF (𝒱 : Variants) (bd : Option 𝒱.V) (E : Set ℕ) (X1 : BufTy.Contents (Elt F) arg1.view.ty) (X2 : BufTy.Contents (Elt F) arg2.view.ty) (X3 : BufTy.Contents (Elt F) arg3.view.ty) (X4 : BufTy.Contents (Elt F) arg4.view.ty) (X5 : BufTy.Contents (Elt F) arg5.view.ty) (X10 : BufTy.Contents (Elt F) arg10.view.ty) (init : Acc F) :
    LoopInvTy_k0_t1 (F := F) Unit ℕ (UR sig nD τ) ℕ 𝒱 c bd E i arg1 harg1 arg2 harg2 arg3 harg3 arg4 harg4 arg5 harg5 arg6 harg6 arg7 harg7 arg8 harg8 arg9 harg9 arg10 harg10 arg11 harg11 lanes init where
  inv := invF c arg1 arg2 arg3 arg4 arg5 arg8 arg10 arg11 X1 X2 X3 X4 X5 X10 lanes init
  step k acc := by
    iintro ⟨HR1, HR2, HR3, HR4, HR5, HR10, ⟨%f8, HW8, %h8⟩, ⟨%f11, HW11, %h11⟩, %h_acc⟩
    subst h_acc
    iapply (wp_wand_r Idealize.ShloMosaic.frame (wpE (defs₀ (F := F)) 𝒱 (c : Thread nD τ) bd) E)
    isplitl [HR1 HR2 HR3 HR4 HR5 HR10 HW8 HW11]
    · iapply (tripF c i arg1 harg1 arg2 harg2 arg3 harg3 arg4 harg4 arg5 harg5 arg6 harg6 arg7 harg7 arg8 harg8 arg9 harg9 arg10 harg10 arg11 harg11 𝒱 bd X1 X2 X3 X4 X5 X10 k E (sAt (blfOf arg1 arg2 arg3 arg4 arg5 arg10 X1 X2 X3 X4 X5 X10) (unpack init) k.val) f8 f11)
      isplitl [HR1]; · iexact HR1
      isplitl [HR2]; · iexact HR2
      isplitl [HR3]; · iexact HR3
      isplitl [HR4]; · iexact HR4
      isplitl [HR5]; · iexact HR5
      isplitl [HR10]; · iexact HR10
      isplitl [HW8]; · iexact HW8
      iexact HW11
    · iintro %yld ⟨%h_res, HR1, HR2, HR3, HR4, HR5, HR10, HW8, HW11⟩
      isplitl [HR1]; · iexact HR1
      isplitl [HR2]; · iexact HR2
      isplitl [HR3]; · iexact HR3
      isplitl [HR4]; · iexact HR4
      isplitl [HR5]; · iexact HR5
      isplitl [HR10]; · iexact HR10
      isplitl [HW8]
      · iexists _; isplitl [HW8]; · iexact HW8
        ipureintro; exact eq_true (StatesDone.succ _ _ _ _ (of_eq_true h8) _ rfl)
      isplitl [HW11]
      · iexists _; isplitl [HW11]; · iexact HW11
        ipureintro; exact eq_true (YDone.succ _ _ _ _ (of_eq_true h11) _ _ fun _ => rfl)
      ipureintro; rw [h_res, sAt_succ]
end Loop

/-! The forward scan over one block as plain functions of the arrays it reads. -/

/-- The trip that takes a step. -/
abbrev iOf0 (t : Fin 128) : Fin k0_t1_loop.trips := ⟨t.val, by rw [trips0]; exact t.isLt⟩
theorem sOf_iOf0 (t : Fin 128) : sOf (iOf0 t) = t := rfl

/-- The saved states of the block. -/
def statesB (B : Blf F) (D : Fin 4 → FVec F S64x64 .f32) : Vec F S128x4x64x64 .f32 :=
  fun j => k0_pay3 (sAt B D (j 0).val (j 1)) (ix4 0 0 (j 2) (j 3))
/-- The slabs of `y` columns of the block. -/
def yT (B : Blf F) (D : Fin 4 → FVec F S64x64 .f32) : Vec F S4x64x128 .f32 :=
  fun j => yCol (iOf0 (j 2)) (B.ld (iOf0 (j 2)) (j 0)) (sAt B D (j 2).val (j 0)) (ix1 (j 1))

theorem statesB_of {B B' : Blf F} (hB : B = B') {I : Acc F} {D : Fin 4 → FVec F S64x64 .f32} (hI : I = pack D) {x : Vec F S128x4x64x64 .f32}
    (h : StatesDone (fun k hd => k0_pay3 (sAt B (unpack I) k.val hd)) k0_t1_loop.trips x = True) : x = statesB B' D := by
  subst hB hI
  rw [unpack_pack] at h
  funext j
  obtain ⟨t, hd, a, b, rfl⟩ : ∃ t hd a b, j = ix4 t hd a b := ⟨_, _, _, _, eq_ix4 j⟩
  exact (of_eq_true h).at hd (iOf0 t) a b (iOf0 t).isLt
theorem yT_of {B B' : Blf F} (hB : B = B') {I : Acc F} {D : Fin 4 → FVec F S64x64 .f32} (hI : I = pack D) {x : Vec F S4x64x128 .f32}
    (h : YDone (fun k hd => yCol k (B.ld k hd) (sAt B (unpack I) k.val hd)) k0_t1_loop.trips x = True) : x = yT B' D := by
  subst hB hI
  rw [unpack_pack] at h
  funext j
  obtain ⟨hd, a, t, rfl⟩ : ∃ a b d, j = ix3 a b d := ⟨_, _, _, eq_ix3 j⟩
  exact (of_eq_true h).at hd (iOf0 t) a (iOf0 t).isLt

end Cert.Proof.Scan
end
-- ==== Proof.FwdBody.lean ====
module
public import proofs.«01_k».proof.Proof.FwdLoop
@[expose] public section
set_option maxRecDepth 16384
set_option maxHeartbeats 1000000
noncomputable section
namespace Cert.Proof.Scan
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
variable {F : FTy → Type} [FloatOps F]
local notation "𝕄G" => MT nD τ sig Unit (Elt F) ℕ (UR sig nD τ) ℕ

/-! The forward scan's body at a grid point. -/

/-- The block the forward scan reads, from the arrays staged. -/
abbrev blk0 (R W K KK A : Vec F S4x128x64 .f32) (V : Vec F S128x256 .f32) : Blf F := ⟨R, W, K, KK, A, slabs V⟩

section Post
variable (c : Dev nD)
  (arg1 : Memref sig .tc .vmem S4x128x64 .f32)
  (arg2 : Memref sig .tc .vmem S4x128x64 .f32)
  (arg3 : Memref sig .tc .vmem S4x128x64 .f32)
  (arg4 : Memref sig .tc .vmem S4x128x64 .f32)
  (arg5 : Memref sig .tc .vmem S4x128x64 .f32)
  (arg6 : Memref sig .tc .vmem S128x256 .f32)
  (arg7 : Memref sig .tc .vmem S128x256 .f32)
  (arg8 : Memref sig .tc .vmem S128x4x64x64 .f32)
  (arg9 : Memref sig .tc .vmem S4x64x64 .f32)
  (arg10 : Memref sig .tc .vmem S4x64x128 .f32)
  (arg11 : Memref sig .tc .vmem S4x64x128 .f32)

/-- What the body leaves: the staged inputs as they were, each output block and the state at the block's functions. -/
def fwdPost (M : Vec F S4x64x64 .f32) (X1 : BufTy.Contents (Elt F) arg1.view.ty) (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) : sProp 𝕄G :=
  iprop((arg1.view.loc (c : Thread nD τ) ↦[arg1.view.set]{fullShare} X1) ∗ (arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (∃ f, ⌜arg7.view.read (Elt F) f = unslabs (yT (blk0 (arg1.view.read (Elt F) X1) (arg2.view.read (Elt F) X2) (arg3.view.read (Elt F) X3) (arg4.view.read (Elt F) X4) (arg5.view.read (Elt F) X5) (arg6.view.read (Elt F) X6)) (mats M))⌝ ∗ (arg7.view.loc (c : Thread nD τ) ↦[arg7.view.set]{fullShare} f)) ∗ (∃ f, ⌜arg8.view.read (Elt F) f = statesB (blk0 (arg1.view.read (Elt F) X1) (arg2.view.read (Elt F) X2) (arg3.view.read (Elt F) X3) (arg4.view.read (Elt F) X4) (arg5.view.read (Elt F) X5) (arg6.view.read (Elt F) X6)) (mats M)⌝ ∗ (arg8.view.loc (c : Thread nD τ) ↦[arg8.view.set]{fullShare} f)) ∗ (∃ f, ⌜arg9.view.read (Elt F) f = unmats (sAt (blk0 (arg1.view.read (Elt F) X1) (arg2.view.read (Elt F) X2) (arg3.view.read (Elt F) X3) (arg4.view.read (Elt F) X4) (arg5.view.read (Elt F) X5) (arg6.view.read (Elt F) X6)) (mats M) k0_t1_loop.trips)⌝ ∗ (arg9.view.loc (c : Thread nD τ) ↦[arg9.view.set]{fullShare} f)) ∗ (∃ f, (arg10.view.loc (c : Thread nD τ) ↦[arg10.view.set]{fullShare} f)) ∗ (∃ f, (arg11.view.loc (c : Thread nD τ) ↦[arg11.view.set]{fullShare} f)))
end Post

section Body
variable (c : Dev nD) (i : grid0.Coords)
  (arg1 : Memref sig .tc .vmem S4x128x64 .f32) (harg1 : arg1.IsWhole)
  (arg2 : Memref sig .tc .vmem S4x128x64 .f32) (harg2 : arg2.IsWhole)
  (arg3 : Memref sig .tc .vmem S4x128x64 .f32) (harg3 : arg3.IsWhole)
  (arg4 : Memref sig .tc .vmem S4x128x64 .f32) (harg4 : arg4.IsWhole)
  (arg5 : Memref sig .tc .vmem S4x128x64 .f32) (harg5 : arg5.IsWhole)
  (arg6 : Memref sig .tc .vmem S128x256 .f32) (harg6 : arg6.IsWhole)
  (arg7 : Memref sig .tc .vmem S128x256 .f32) (harg7 : arg7.IsWhole)
  (arg8 : Memref sig .tc .vmem S128x4x64x64 .f32) (harg8 : arg8.IsWhole)
  (arg9 : Memref sig .tc .vmem S4x64x64 .f32) (harg9 : arg9.IsWhole)
  (arg10 : Memref sig .tc .vmem S4x64x128 .f32) (harg10 : arg10.IsWhole)
  (arg11 : Memref sig .tc .vmem S4x64x128 .f32) (harg11 : arg11.IsWhole)(𝒱 : Variants) (bd : Option 𝒱.V)

/-- The first point: the state is zeroed first. -/
theorem fbodyFirst (hc : Scalar.cmpi .ne (Scalar.extui (Scalar.cmpi .eq (BitVec.ofNat 32 (i 0).val) 0#32)) 0#32 = 1#1) (M : Vec F S4x64x64 .f32) (X1 : BufTy.Contents (Elt F) arg1.view.ty) (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (X8 : BufTy.Contents (Elt F) arg8.view.ty) (X9 : BufTy.Contents (Elt F) arg9.view.ty) (X10 : BufTy.Contents (Elt F) arg10.view.ty) (X11 : BufTy.Contents (Elt F) arg11.view.ty) (hM : M = k1_pay86) (E : Set ℕ) :
    (iprop((arg1.view.loc (c : Thread nD τ) ↦[arg1.view.set]{fullShare} X1) ∗ (arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (arg8.view.loc (c : Thread nD τ) ↦[arg8.view.set]{fullShare} X8) ∗ (arg9.view.loc (c : Thread nD τ) ↦[arg9.view.set]{fullShare} X9) ∗ (arg10.view.loc (c : Thread nD τ) ↦[arg10.view.set]{fullShare} X10) ∗ (arg11.view.loc (c : Thread nD τ) ↦[arg11.view.set]{fullShare} X11)) : sProp 𝕄G) ⊢ wp frame (wpE (defs₀ (F := F)) 𝒱 (c : Thread nD τ) bd) E
      (cc0_rwkv_scan_fwd_skel (F := F) i arg1 harg1 arg2 harg2 arg3 harg3 arg4 harg4 arg5 harg5 arg6 harg6 arg7 harg7 arg8 harg8 arg9 harg9 arg10 harg10 arg11 harg11) (fun _ => fwdPost c arg1 arg2 arg3 arg4 arg5 arg6 arg7 arg8 arg9 arg10 arg11 M X1 X2 X3 X4 X5 X6) := by
  unfold cc0_rwkv_scan_fwd_skel
  iintro ⟨H1, H2, H3, H4, H5, H6, H7, H8, H9, H10, H11⟩
  sl_exec
  sl_step
  have hB : blfOf arg1 arg2 arg3 arg4 arg5 arg10 X1 X2 X3 X4 X5
      (arg10.view.writes (Elt F) arg10.view.junk (fbodyFirst.sl.H10_4 arg6 X6)) = (blk0 (arg1.view.read (Elt F) X1) (arg2.view.read (Elt F) X2) (arg3.view.read (Elt F) X3) (arg4.view.read (Elt F) X4) (arg5.view.read (Elt F) X5) (arg6.view.read (Elt F) X6)) :=
    congrArg (fun v => (⟨_, _, _, _, _, v⟩ : Blf F))
      (read_slabs arg10.view _ _ _ _ _ _ (congrArg k1_pay87 (readAt_cols arg6.view X6 _ 0 rfl)) (congrArg k1_pay87 (readAt_cols arg6.view X6 _ 1 rfl))
        (congrArg k1_pay87 (readAt_cols arg6.view X6 _ 2 rfl)) (congrArg k1_pay87 (readAt_cols arg6.view X6 _ 3 rfl)) [])
  have hI : ((k0_pay37 (fbodyFirst.sl.v48 arg9), k0_pay38 (fbodyFirst.sl.v50 arg9), k0_pay39 (fbodyFirst.sl.v52 arg9), k0_pay40 (fbodyFirst.sl.v54 arg9)) : Acc F) = pack (mats M) := by
    subst hM
    show ((_, _, _, _) : Acc F) = (_, _, _, _)
    refine congrArg₂ Prod.mk ?_ (congrArg₂ Prod.mk ?_ (congrArg₂ Prod.mk ?_ ?_))
    · exact congrArg k1_pay97 ((readAt_mat arg9.view _ _ 0 rfl).trans (congrArg (matOf · 0) (read_mats_whole arg9.view _ _ _ _ rfl)))
    · exact congrArg k1_pay97 ((readAt_mat arg9.view _ _ 1 rfl).trans (congrArg (matOf · 1) (read_mats_whole arg9.view _ _ _ _ rfl)))
    · exact congrArg k1_pay97 ((readAt_mat arg9.view _ _ 2 rfl).trans (congrArg (matOf · 2) (read_mats_whole arg9.view _ _ _ _ rfl)))
    · exact congrArg k1_pay97 ((readAt_mat arg9.view _ _ 3 rfl).trans (congrArg (matOf · 3) (read_mats_whole arg9.view _ _ _ _ rfl)))
  have e8 := statesB_of hB hI hL7
  have e11 := yT_of hB hI hL9
  have ed : ∀ h : Fin 4, sAt _ (unpack _) k0_t1_loop.trips h = sAt (blk0 (arg1.view.read (Elt F) X1) (arg2.view.read (Elt F) X2) (arg3.view.read (Elt F) X3) (arg4.view.read (Elt F) X4) (arg5.view.read (Elt F) X5) (arg6.view.read (Elt F) X6)) (mats M) k0_t1_loop.trips h := fun h => congrFun (congrArg₂ (fun B D => sAt B D k0_t1_loop.trips) hB ((congrArg unpack hI).trans (unpack_pack _))) h
  unfold fwdPost
  isplitl [H1]; · iexact H1
  isplitl [H2]; · iexact H2
  isplitl [H3]; · iexact H3
  isplitl [H4]; · iexact H4
  isplitl [H5]; · iexact H5
  isplitl [H6]; · iexact H6
  isplitl [H7]
  · iexists _
    isplitr; swap; · iexact H7
    ipureintro; exact read_unslabs arg7.view _ _ _ _ _ _ (congrArg k1_pay107 ((readAt_slab arg11.view _ _ 0 rfl).trans (congrArg (slabOf · 0) e11))) (congrArg k1_pay107 ((readAt_slab arg11.view _ _ 1 rfl).trans (congrArg (slabOf · 1) e11))) (congrArg k1_pay107 ((readAt_slab arg11.view _ _ 2 rfl).trans (congrArg (slabOf · 2) e11))) (congrArg k1_pay107 ((readAt_slab arg11.view _ _ 3 rfl).trans (congrArg (slabOf · 3) e11))) _
  isplitl [H8]
  · iexists _
    isplitr; swap; · iexact H8
    ipureintro; exact e8
  isplitl [H9]
  · iexists _
    isplitr; swap; · iexact H9
    ipureintro; exact read_unmats arg9.view _ _ _ _ _ _ (congrArg k1_pay106 (ed 0)) (congrArg k1_pay106 (ed 1)) (congrArg k1_pay106 (ed 2)) (congrArg k1_pay106 (ed 3)) _
  isplitl [H10]
  · iexists _
    iexact H10
  iexists _
  iexact H11

/-- A later point: from the state the point before left. -/
theorem fbodyNext (hc : ¬ Scalar.cmpi .ne (Scalar.extui (Scalar.cmpi .eq (BitVec.ofNat 32 (i 0).val) 0#32)) 0#32 = 1#1) (M : Vec F S4x64x64 .f32) (X1 : BufTy.Contents (Elt F) arg1.view.ty) (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (X8 : BufTy.Contents (Elt F) arg8.view.ty) (X9 : BufTy.Contents (Elt F) arg9.view.ty) (X10 : BufTy.Contents (Elt F) arg10.view.ty) (X11 : BufTy.Contents (Elt F) arg11.view.ty) (hM : M = arg9.view.read (Elt F) X9) (E : Set ℕ) :
    (iprop((arg1.view.loc (c : Thread nD τ) ↦[arg1.view.set]{fullShare} X1) ∗ (arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (arg8.view.loc (c : Thread nD τ) ↦[arg8.view.set]{fullShare} X8) ∗ (arg9.view.loc (c : Thread nD τ) ↦[arg9.view.set]{fullShare} X9) ∗ (arg10.view.loc (c : Thread nD τ) ↦[arg10.view.set]{fullShare} X10) ∗ (arg11.view.loc (c : Thread nD τ) ↦[arg11.view.set]{fullShare} X11)) : sProp 𝕄G) ⊢ wp frame (wpE (defs₀ (F := F)) 𝒱 (c : Thread nD τ) bd) E
      (cc0_rwkv_scan_fwd_skel (F := F) i arg1 harg1 arg2 harg2 arg3 harg3 arg4 harg4 arg5 harg5 arg6 harg6 arg7 harg7 arg8 harg8 arg9 harg9 arg10 harg10 arg11 harg11) (fun _ => fwdPost c arg1 arg2 arg3 arg4 arg5 arg6 arg7 arg8 arg9 arg10 arg11 M X1 X2 X3 X4 X5 X6) := by
  unfold cc0_rwkv_scan_fwd_skel
  iintro ⟨H1, H2, H3, H4, H5, H6, H7, H8, H9, H10, H11⟩
  sl_exec
  sl_step
  have hB : blfOf arg1 arg2 arg3 arg4 arg5 arg10 X1 X2 X3 X4 X5
      (arg10.view.writes (Elt F) arg10.view.junk (fbodyNext.sl.H10_4 arg6 X6)) = (blk0 (arg1.view.read (Elt F) X1) (arg2.view.read (Elt F) X2) (arg3.view.read (Elt F) X3) (arg4.view.read (Elt F) X4) (arg5.view.read (Elt F) X5) (arg6.view.read (Elt F) X6)) :=
    congrArg (fun v => (⟨_, _, _, _, _, v⟩ : Blf F))
      (read_slabs arg10.view _ _ _ _ _ _ (congrArg k1_pay87 (readAt_cols arg6.view X6 _ 0 rfl)) (congrArg k1_pay87 (readAt_cols arg6.view X6 _ 1 rfl))
        (congrArg k1_pay87 (readAt_cols arg6.view X6 _ 2 rfl)) (congrArg k1_pay87 (readAt_cols arg6.view X6 _ 3 rfl)) [])
  have hI : ((k0_pay37 (View.readAt (Elt F) arg9.view (Rect.unit (s := S4x64x64) ![0, 0, 0] S1x64x64.size inb_S4x64x64_S1x64x64_0_0_0).toLoadRect X9), k0_pay38 (View.readAt (Elt F) arg9.view (Rect.unit (s := S4x64x64) ![1, 0, 0] S1x64x64.size inb_S4x64x64_S1x64x64_1_0_0).toLoadRect X9), k0_pay39 (View.readAt (Elt F) arg9.view (Rect.unit (s := S4x64x64) ![2, 0, 0] S1x64x64.size inb_S4x64x64_S1x64x64_2_0_0).toLoadRect X9), k0_pay40 (View.readAt (Elt F) arg9.view (Rect.unit (s := S4x64x64) ![3, 0, 0] S1x64x64.size inb_S4x64x64_S1x64x64_3_0_0).toLoadRect X9)) : Acc F) = pack (mats M) := by
    subst hM
    show ((_, _, _, _) : Acc F) = (_, _, _, _)
    refine congrArg₂ Prod.mk ?_ (congrArg₂ Prod.mk ?_ (congrArg₂ Prod.mk ?_ ?_))
    · exact congrArg k1_pay97 (readAt_mat arg9.view X9 _ 0 rfl)
    · exact congrArg k1_pay97 (readAt_mat arg9.view X9 _ 1 rfl)
    · exact congrArg k1_pay97 (readAt_mat arg9.view X9 _ 2 rfl)
    · exact congrArg k1_pay97 (readAt_mat arg9.view X9 _ 3 rfl)
  have e8 := statesB_of hB hI hL7
  have e11 := yT_of hB hI hL9
  have ed : ∀ h : Fin 4, sAt _ (unpack _) k0_t1_loop.trips h = sAt (blk0 (arg1.view.read (Elt F) X1) (arg2.view.read (Elt F) X2) (arg3.view.read (Elt F) X3) (arg4.view.read (Elt F) X4) (arg5.view.read (Elt F) X5) (arg6.view.read (Elt F) X6)) (mats M) k0_t1_loop.trips h := fun h => congrFun (congrArg₂ (fun B D => sAt B D k0_t1_loop.trips) hB ((congrArg unpack hI).trans (unpack_pack _))) h
  unfold fwdPost
  isplitl [H1]; · iexact H1
  isplitl [H2]; · iexact H2
  isplitl [H3]; · iexact H3
  isplitl [H4]; · iexact H4
  isplitl [H5]; · iexact H5
  isplitl [H6]; · iexact H6
  isplitl [H7]
  · iexists _
    isplitr; swap; · iexact H7
    ipureintro; exact read_unslabs arg7.view _ _ _ _ _ _ (congrArg k1_pay107 ((readAt_slab arg11.view _ _ 0 rfl).trans (congrArg (slabOf · 0) e11))) (congrArg k1_pay107 ((readAt_slab arg11.view _ _ 1 rfl).trans (congrArg (slabOf · 1) e11))) (congrArg k1_pay107 ((readAt_slab arg11.view _ _ 2 rfl).trans (congrArg (slabOf · 2) e11))) (congrArg k1_pay107 ((readAt_slab arg11.view _ _ 3 rfl).trans (congrArg (slabOf · 3) e11))) _
  isplitl [H8]
  · iexists _
    isplitr; swap; · iexact H8
    ipureintro; exact e8
  isplitl [H9]
  · iexists _
    isplitr; swap; · iexact H9
    ipureintro; exact read_unmats arg9.view _ _ _ _ _ _ (congrArg k1_pay106 (ed 0)) (congrArg k1_pay106 (ed 1)) (congrArg k1_pay106 (ed 2)) (congrArg k1_pay106 (ed 3)) _
  isplitl [H10]
  · iexists _
    iexact H10
  iexists _
  iexact H11
end Body
end Cert.Proof.Scan
end
-- ==== Proof.FwdPoint.lean ====
module
public import proofs.«01_k».proof.Proof.FwdBody
public import proofs.«01_k».proof.Proof.Gen.KernelIdeal.Launch
@[expose] public section
set_option maxRecDepth 16384
set_option maxHeartbeats 1000000
noncomputable section
namespace Cert.Proof.Scan
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)
variable {F : FTy → Type} [FloatOps F]
local notation "𝕄G" => MT nD τ sig Unit (Elt F) ℕ (UR sig nD τ) ℕ
/-- No variant is used: every loop is counted. -/
abbrev 𝒱₀ : Variants := Variants.none
variable (c : Dev nD)
/-- The separation-logic bookkeeping of a point: given the run of the body over raw contents, the staged blocks and the scratch
    taken in as the pipeline hands them and given back at the block's functions. -/
theorem point0 (n : ℕ) (S : Vec F S4x64x64 .f32) (P : Prog (TpuEff nD τ sig (Elt F) Λ₀ .tc) PUnit) (a0 : Memref sig .tc .vmem S4x128x64 .f32) (a1 : Memref sig .tc .vmem S4x128x64 .f32) (a2 : Memref sig .tc .vmem S4x128x64 .f32) (a3 : Memref sig .tc .vmem S4x128x64 .f32) (a4 : Memref sig .tc .vmem S4x128x64 .f32) (a5 : Memref sig .tc .vmem S128x256 .f32) (a6 : Memref sig .tc .vmem S128x256 .f32) (a7 : Memref sig .tc .vmem S128x4x64x64 .f32) (s0 : Memref sig .tc .vmem S4x64x64 .f32) (s1 : Memref sig .tc .vmem S4x64x128 .f32) (s2 : Memref sig .tc .vmem S4x64x128 .f32) (T : Vec F S4x64x64 .f32 → BufTy.Contents (Elt F) s0.view.ty) (hT : ∀ f S, s0.view.read (Elt F) f = S → f = T S)
    (hrun : ∀ (f0 : BufTy.Contents (Elt F) a0.view.ty) (f1 : BufTy.Contents (Elt F) a1.view.ty) (f2 : BufTy.Contents (Elt F) a2.view.ty) (f3 : BufTy.Contents (Elt F) a3.view.ty) (f4 : BufTy.Contents (Elt F) a4.view.ty) (f5 : BufTy.Contents (Elt F) a5.view.ty) (f6 : BufTy.Contents (Elt F) a6.view.ty) (f7 : BufTy.Contents (Elt F) a7.view.ty) (m0 : BufTy.Contents (Elt F) s0.view.ty) (m1 : BufTy.Contents (Elt F) s1.view.ty) (m2 : BufTy.Contents (Elt F) s2.view.ty), (n ≠ 0 → m0 = T S) → ((iprop(((a0).view.loc (c : Thread nD τ) ↦[(a0).view.set]{fullShare} f0) ∗ ((a1).view.loc (c : Thread nD τ) ↦[(a1).view.set]{fullShare} f1) ∗ ((a2).view.loc (c : Thread nD τ) ↦[(a2).view.set]{fullShare} f2) ∗ ((a3).view.loc (c : Thread nD τ) ↦[(a3).view.set]{fullShare} f3) ∗ ((a4).view.loc (c : Thread nD τ) ↦[(a4).view.set]{fullShare} f4) ∗ ((a5).view.loc (c : Thread nD τ) ↦[(a5).view.set]{fullShare} f5) ∗ ((a6).view.loc (c : Thread nD τ) ↦[(a6).view.set]{fullShare} f6) ∗ ((a7).view.loc (c : Thread nD τ) ↦[(a7).view.set]{fullShare} f7) ∗ ((s0).view.loc (c : Thread nD τ) ↦[(s0).view.set]{fullShare} m0) ∗ ((s1).view.loc (c : Thread nD τ) ↦[(s1).view.set]{fullShare} m1) ∗ ((s2).view.loc (c : Thread nD τ) ↦[(s2).view.set]{fullShare} m2)) : sProp 𝕄G) ⊢ wp Idealize.ShloMosaic.frame (wpE (defs₀ (F := F)) 𝒱₀ (c : Thread nD τ) none) Set.univ P (fun _ => fwdPost c a0 a1 a2 a3 a4 a5 a6 a7 s0 s1 s2 S f0 f1 f2 f3 f4 f5)))
    (x0 : Vec F S4x128x64 .f32) (x1 : Vec F S4x128x64 .f32) (x2 : Vec F S4x128x64 .f32) (x3 : Vec F S4x128x64 .f32) (x4 : Vec F S4x128x64 .f32) (x5 : Vec F S128x256 .f32) {D0 : Type} {D1 : Type} {D2 : Type} {D3 : Type} {D4 : Type} {D5 : Type} {D6 : Type} {D7 : Type}
    (b0 : D0 → Vec F S4x128x64 .f32) (hb0 : ∀ d, b0 d = x0) (b1 : D1 → Vec F S4x128x64 .f32) (hb1 : ∀ d, b1 d = x1) (b2 : D2 → Vec F S4x128x64 .f32) (hb2 : ∀ d, b2 d = x2) (b3 : D3 → Vec F S4x128x64 .f32) (hb3 : ∀ d, b3 d = x3) (b4 : D4 → Vec F S4x128x64 .f32) (hb4 : ∀ d, b4 d = x4) (b5 : D5 → Vec F S128x256 .f32) (hb5 : ∀ d, b5 d = x5) (b6 : D6 → Vec F S128x256 .f32)  (b7 : D7 → Vec F S128x4x64x64 .f32)  (R O : sProp 𝕄G) :
    (iprop(((∃ f : BufTy.Contents (Elt F) s0.view.ty, ⌜n ≠ 0 → f = T S⌝ ∗ (s0.view.loc (c : Thread nD τ) ↦[s0.view.set]{fullShare} f)) ∗ (∃ f : BufTy.Contents (Elt F) s1.view.ty, (s1.view.loc (c : Thread nD τ) ↦[s1.view.set]{fullShare} f)) ∗ (∃ f : BufTy.Contents (Elt F) s2.view.ty, (s2.view.loc (c : Thread nD τ) ↦[s2.view.set]{fullShare} f)) ∗ R) ∗ O ∗ (∃ d, owns (c : Thread nD τ) a0 fullShare (b0 d)) ∗ (∃ d, owns (c : Thread nD τ) a1 fullShare (b1 d)) ∗ (∃ d, owns (c : Thread nD τ) a2 fullShare (b2 d)) ∗ (∃ d, owns (c : Thread nD τ) a3 fullShare (b3 d)) ∗ (∃ d, owns (c : Thread nD τ) a4 fullShare (b4 d)) ∗ (∃ d, owns (c : Thread nD τ) a5 fullShare (b5 d)) ∗ (∃ d, owns (c : Thread nD τ) a6 fullShare (b6 d)) ∗ (∃ d, owns (c : Thread nD τ) a7 fullShare (b7 d))) : sProp 𝕄G)
    ⊢ wp Idealize.ShloMosaic.frame (wpE (defs₀ (F := F)) 𝒱₀ (c : Thread nD τ) none) Set.univ P
      (fun _ => iprop(((∃ f : BufTy.Contents (Elt F) s0.view.ty, ⌜f = T (unmats (sAt (blk0 x0 x1 x2 x3 x4 x5) (mats S) k0_t1_loop.trips))⌝ ∗ (s0.view.loc (c : Thread nD τ) ↦[s0.view.set]{fullShare} f)) ∗ (∃ f : BufTy.Contents (Elt F) s1.view.ty, (s1.view.loc (c : Thread nD τ) ↦[s1.view.set]{fullShare} f)) ∗ (∃ f : BufTy.Contents (Elt F) s2.view.ty, (s2.view.loc (c : Thread nD τ) ↦[s2.view.set]{fullShare} f)) ∗ R) ∗ O ∗ owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare (unslabs (yT (blk0 x0 x1 x2 x3 x4 x5) (mats S))) ∗ owns (c : Thread nD τ) a7 fullShare (statesB (blk0 x0 x1 x2 x3 x4 x5) (mats S)))) := by
  unfold owns
  iintro ⟨⟨⟨%m0, %hm0, S0⟩, ⟨%m1, S1⟩, ⟨%m2, S2⟩, HR⟩, HO, ⟨%d0, %f0, %hf0, H0⟩, ⟨%d1, %f1, %hf1, H1⟩, ⟨%d2, %f2, %hf2, H2⟩, ⟨%d3, %f3, %hf3, H3⟩, ⟨%d4, %f4, %hf4, H4⟩, ⟨%d5, %f5, %hf5, H5⟩, ⟨%d6, %f6, %hf6, H6⟩, ⟨%d7, %f7, %hf7, H7⟩⟩
  rw [hb0] at hf0
  rw [hb1] at hf1
  rw [hb2] at hf2
  rw [hb3] at hf3
  rw [hb4] at hf4
  rw [hb5] at hf5
  subst hf0
  subst hf1
  subst hf2
  subst hf3
  subst hf4
  subst hf5
  ihave Hwp := hrun f0 f1 f2 f3 f4 f5 f6 f7 m0 m1 m2 hm0 $$ [H0 H1 H2 H3 H4 H5 H6 H7 S0 S1 S2]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [S0]; · iexact S0
    isplitl [S1]; · iexact S1
    iexact S2
  iapply (wp_wand _ _ _) $$ Hwp
  iintro %a HP
  unfold fwdPost
  icases HP with ⟨H0, H1, H2, H3, H4, H5, ⟨%g6, %hg6, H6⟩, ⟨%g7, %hg7, H7⟩, ⟨%n0, %hn0, S0⟩, ⟨%n1, S1⟩, ⟨%n2, S2⟩⟩
  isplitl [S0 S1 S2 HR]
  · isplitl [S0]
    · iexists n0; isplitr; swap; (· iexact S0)
      ipureintro; exact hT _ _ hn0
    isplitl [S1]; · iexists n1; iexact S1
    isplitl [S2]; · iexists n2; iexact S2
    iexact HR
  isplitl [HO]; · iexact HO
  isplitl [H0]
  · iexists _; isplitr; swap; (· iexact H0)
    ipureintro; rfl
  isplitl [H1]
  · iexists _; isplitr; swap; (· iexact H1)
    ipureintro; rfl
  isplitl [H2]
  · iexists _; isplitr; swap; (· iexact H2)
    ipureintro; rfl
  isplitl [H3]
  · iexists _; isplitr; swap; (· iexact H3)
    ipureintro; rfl
  isplitl [H4]
  · iexists _; isplitr; swap; (· iexact H4)
    ipureintro; rfl
  isplitl [H5]
  · iexists _; isplitr; swap; (· iexact H5)
    ipureintro; rfl
  isplitl [H6]
  · iexists _; isplitr; swap; (· iexact H6)
    ipureintro; exact hg6
  iexists _; isplitr; swap; (· iexact H7)
  ipureintro; exact hg7
end Cert.Proof.Scan
end
-- ==== Proof.FwdDat.lean ====
module
public import proofs.«01_k».proof.Proof.FwdPoint
public import proofs.«01_k».proof.Proof.Gen.KernelIdeal.Points
public import proofs.«01_k».proof.Proof.Gen.KernelIdeal.Launch
public import Idealize.ShloMosaic.Lib.Pipeline.RegionsLoop
public import Idealize.ShloMosaic.Lib.Pipeline.Frame
@[expose] public section
set_option maxRecDepth 16384
set_option maxHeartbeats 1000000
noncomputable section
namespace Cert.Proof.Scan
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)
variable {F : FTy → Type} [FloatOps F]
local notation "𝕄G" => MT nD τ sig Unit (Elt F) ℕ (UR sig nD τ) ℕ

/-! Pipeline 0: the blocks each grid point reads, the state it starts from, and what it leaves. -/

section Data0
variable (c : Dev nD) (V : (b : Ref sig .tc) → Buf (Elt F) ((c : Thread nD τ).loc b))

/-- The grid's point of number `n` (numbers from 16 on wrap round; none is used). -/
def pt0 (n : ℕ) : Fin cfg0.N := ⟨n % 16, Nat.mod_lt _ (by decide)⟩
theorem pt0_val (t : Fin cfg0.N) : pt0 t.val = t := Fin.ext (Nat.mod_eq_of_lt t.isLt)

/-- The block of `r` staged at point `t`. -/
abbrev in0_0 (t : Fin cfg0.N) : Vec F S4x128x64 .f32 := ((cfg0.win 0).blk t).view.read (Elt F) (V (Pipeline.arrRef spec0 0))
/-- The block of `w` staged at point `t`. -/
abbrev in0_1 (t : Fin cfg0.N) : Vec F S4x128x64 .f32 := ((cfg0.win 1).blk t).view.read (Elt F) (V (Pipeline.arrRef spec0 1))
/-- The block of `k` staged at point `t`. -/
abbrev in0_2 (t : Fin cfg0.N) : Vec F S4x128x64 .f32 := ((cfg0.win 2).blk t).view.read (Elt F) (V (Pipeline.arrRef spec0 2))
/-- The block of `kk` staged at point `t`. -/
abbrev in0_3 (t : Fin cfg0.N) : Vec F S4x128x64 .f32 := ((cfg0.win 3).blk t).view.read (Elt F) (V (Pipeline.arrRef spec0 3))
/-- The block of `a` staged at point `t`. -/
abbrev in0_4 (t : Fin cfg0.N) : Vec F S4x128x64 .f32 := ((cfg0.win 4).blk t).view.read (Elt F) (V (Pipeline.arrRef spec0 4))
/-- The block of `v` staged at point `t`. -/
abbrev in0_5 (t : Fin cfg0.N) : Vec F S128x256 .f32 := ((cfg0.win 5).blk t).view.read (Elt F) (V (Pipeline.arrRef spec0 5))
/-- All of them together. -/
abbrev B0 (t : Fin cfg0.N) : Blf F := blk0 (in0_0 c V t) (in0_1 c V t) (in0_2 c V t) (in0_3 c V t) (in0_4 c V t) (in0_5 c V t)

/-- The state the body starts point `n` from. -/
def St0 : ℕ → Vec F S4x64x64 .f32
  | 0 => k1_pay86
  | n + 1 => unmats (sAt (B0 c V (pt0 n)) (mats (St0 n)) k0_t1_loop.trips)

theorem St0_succ (t : Fin cfg0.N) : St0 c V (t.val + 1) = unmats (sAt (B0 c V t) (mats (St0 c V t.val)) k0_t1_loop.trips) := by
  show unmats (sAt (B0 c V (pt0 t.val)) _ _) = _
  rw [pt0_val]

/-- The invariant between points: the state as the last point left it, the other scratch at something. -/
def Φ0 (n : ℕ) : sProp 𝕄G :=
  iprop((∃ f : BufTy.Contents (Elt F) (Memref.whole cc0_scratch0).view.ty, ⌜n ≠ 0 → f = St0 c V n⌝ ∗ ((Memref.whole cc0_scratch0).view.loc (c : Thread nD τ) ↦[(Memref.whole cc0_scratch0).view.set]{fullShare} f))
    ∗ (∃ f : BufTy.Contents (Elt F) (Memref.whole cc0_scratch1).view.ty, ((Memref.whole cc0_scratch1).view.loc (c : Thread nD τ) ↦[(Memref.whole cc0_scratch1).view.set]{fullShare} f))
    ∗ (∃ f : BufTy.Contents (Elt F) (Memref.whole cc0_scratch2).view.ty, ((Memref.whole cc0_scratch2).view.loc (c : Thread nD τ) ↦[(Memref.whole cc0_scratch2).view.set]{fullShare} f))
    ∗ Pipeline.scopedRestBut (Ix := Unit) (Name := ℕ) (U := UR sig nD τ) (Lvl := ℕ) (Val := Elt F) spec0 c [cc0_scratch0, cc0_scratch1, cc0_scratch2])

/-- What point `t` leaves for window 6. -/
abbrev out0_6 (t : Fin cfg0.N) : Vec F S128x256 .f32 := unslabs (yT (B0 c V t) (mats (St0 c V t.val)))
/-- What point `t` leaves for window 7. -/
abbrev out0_7 (t : Fin cfg0.N) : Vec F S128x4x64x64 .f32 := statesB (B0 c V t) (mats (St0 c V t.val))

/-- The proof data: each input staged as it lies in its array, each output at the block's function. -/
def dat0 : Dat τ (Elt F) Unit ℕ (UR sig nD τ) ℕ cfg0 c where
  A w := V (Pipeline.arrRef spec0 w)
  after w t := match w with
    | ⟨0, _⟩ => in0_0 c V t
    | ⟨1, _⟩ => in0_1 c V t
    | ⟨2, _⟩ => in0_2 c V t
    | ⟨3, _⟩ => in0_3 c V t
    | ⟨4, _⟩ => in0_4 c V t
    | ⟨5, _⟩ => in0_5 c V t
    | ⟨6, _⟩ => out0_6 c V t
    | ⟨7, _⟩ => out0_7 c V t
  Φ t := Φ0 c V t.val
  q _ := fullShare
  owed _ := 0

theorem before0_0 (t : Fin cfg0.N) (d) : (dat0 c V).before 0 t d = in0_0 c V t := by
  unfold Dat.before; rw [if_pos (fetch0_0 t)]; rfl
theorem before0_1 (t : Fin cfg0.N) (d) : (dat0 c V).before 1 t d = in0_1 c V t := by
  unfold Dat.before; rw [if_pos (fetch0_1 t)]; rfl
theorem before0_2 (t : Fin cfg0.N) (d) : (dat0 c V).before 2 t d = in0_2 c V t := by
  unfold Dat.before; rw [if_pos (fetch0_2 t)]; rfl
theorem before0_3 (t : Fin cfg0.N) (d) : (dat0 c V).before 3 t d = in0_3 c V t := by
  unfold Dat.before; rw [if_pos (fetch0_3 t)]; rfl
theorem before0_4 (t : Fin cfg0.N) (d) : (dat0 c V).before 4 t d = in0_4 c V t := by
  unfold Dat.before; rw [if_pos (fetch0_4 t)]; rfl
theorem before0_5 (t : Fin cfg0.N) (d) : (dat0 c V).before 5 t d = in0_5 c V t := by
  unfold Dat.before; rw [if_pos (fetch0_5 t)]; rfl

theorem coord0 (t : Fin cfg0.N) : ((grid0.coords t) 0).val = t.val := by revert t; decide
theorem cond0 : ∀ n : ℕ, n < 16 → (Scalar.cmpi .ne (Scalar.extui (Scalar.cmpi .eq (BitVec.ofNat 32 n) 0#32)) 0#32 = 1#1 ↔ n = 0) := by decide

/-- The body run at a point, from what its staging buffers and scratch hold. -/
theorem run0 (t : Fin cfg0.N) (f0 : BufTy.Contents (Elt F) (win0_0.stage (cfg0.slots t 0)).view.ty) (f1 : BufTy.Contents (Elt F) (win0_1.stage (cfg0.slots t 1)).view.ty) (f2 : BufTy.Contents (Elt F) (win0_2.stage (cfg0.slots t 2)).view.ty) (f3 : BufTy.Contents (Elt F) (win0_3.stage (cfg0.slots t 3)).view.ty) (f4 : BufTy.Contents (Elt F) (win0_4.stage (cfg0.slots t 4)).view.ty) (f5 : BufTy.Contents (Elt F) (win0_5.stage (cfg0.slots t 5)).view.ty) (f6 : BufTy.Contents (Elt F) (win0_6.stage (cfg0.slots t 6)).view.ty) (f7 : BufTy.Contents (Elt F) (win0_7.stage (cfg0.slots t 7)).view.ty) (m0 : BufTy.Contents (Elt F) (Memref.whole cc0_scratch0).view.ty) (m1 : BufTy.Contents (Elt F) (Memref.whole cc0_scratch1).view.ty) (m2 : BufTy.Contents (Elt F) (Memref.whole cc0_scratch2).view.ty) (hm0 : t.val ≠ 0 → m0 = St0 c V t.val) : (iprop(((win0_0.stage (cfg0.slots t 0)).view.loc (c : Thread nD τ) ↦[(win0_0.stage (cfg0.slots t 0)).view.set]{fullShare} f0) ∗ ((win0_1.stage (cfg0.slots t 1)).view.loc (c : Thread nD τ) ↦[(win0_1.stage (cfg0.slots t 1)).view.set]{fullShare} f1) ∗ ((win0_2.stage (cfg0.slots t 2)).view.loc (c : Thread nD τ) ↦[(win0_2.stage (cfg0.slots t 2)).view.set]{fullShare} f2) ∗ ((win0_3.stage (cfg0.slots t 3)).view.loc (c : Thread nD τ) ↦[(win0_3.stage (cfg0.slots t 3)).view.set]{fullShare} f3) ∗ ((win0_4.stage (cfg0.slots t 4)).view.loc (c : Thread nD τ) ↦[(win0_4.stage (cfg0.slots t 4)).view.set]{fullShare} f4) ∗ ((win0_5.stage (cfg0.slots t 5)).view.loc (c : Thread nD τ) ↦[(win0_5.stage (cfg0.slots t 5)).view.set]{fullShare} f5) ∗ ((win0_6.stage (cfg0.slots t 6)).view.loc (c : Thread nD τ) ↦[(win0_6.stage (cfg0.slots t 6)).view.set]{fullShare} f6) ∗ ((win0_7.stage (cfg0.slots t 7)).view.loc (c : Thread nD τ) ↦[(win0_7.stage (cfg0.slots t 7)).view.set]{fullShare} f7) ∗ ((Memref.whole cc0_scratch0).view.loc (c : Thread nD τ) ↦[(Memref.whole cc0_scratch0).view.set]{fullShare} m0) ∗ ((Memref.whole cc0_scratch1).view.loc (c : Thread nD τ) ↦[(Memref.whole cc0_scratch1).view.set]{fullShare} m1) ∗ ((Memref.whole cc0_scratch2).view.loc (c : Thread nD τ) ↦[(Memref.whole cc0_scratch2).view.set]{fullShare} m2)) : sProp 𝕄G) ⊢ wp Idealize.ShloMosaic.frame (wpE (defs₀ (F := F)) 𝒱₀ (c : Thread nD τ) none) Set.univ (bodyAt0 t) (fun _ => fwdPost c (win0_0.stage (cfg0.slots t 0)) (win0_1.stage (cfg0.slots t 1)) (win0_2.stage (cfg0.slots t 2)) (win0_3.stage (cfg0.slots t 3)) (win0_4.stage (cfg0.slots t 4)) (win0_5.stage (cfg0.slots t 5)) (win0_6.stage (cfg0.slots t 6)) (win0_7.stage (cfg0.slots t 7)) (Memref.whole cc0_scratch0) (Memref.whole cc0_scratch1) (Memref.whole cc0_scratch2) (St0 c V t.val) f0 f1 f2 f3 f4 f5) := by
  rw [show (bodyAt0 t : Prog (TpuEff nD τ sig (Elt F) Λ₀ .tc) PUnit) = cc0_rwkv_scan_fwd_skel (F := F) (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (Memref.whole cc0_scratch0) (Memref.isWhole_whole _) (Memref.whole cc0_scratch1) (Memref.isWhole_whole _) (Memref.whole cc0_scratch2) (Memref.isWhole_whole _) from by unfold bodyAt0; rw [cc0_rwkv_scan_fwd_eq_skeleton]]
  by_cases h0 : t.val = 0
  · exact fbodyFirst c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (Memref.whole cc0_scratch0) (Memref.isWhole_whole _) (Memref.whole cc0_scratch1) (Memref.isWhole_whole _) (Memref.whole cc0_scratch2) (Memref.isWhole_whole _) 𝒱₀ none (by rw [coord0]; exact (cond0 _ t.isLt).mpr h0) _ f0 f1 f2 f3 f4 f5 f6 f7 m0 m1 m2 (by rw [h0]; rfl) _
  · exact fbodyNext c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (Memref.whole cc0_scratch0) (Memref.isWhole_whole _) (Memref.whole cc0_scratch1) (Memref.isWhole_whole _) (Memref.whole cc0_scratch2) (Memref.isWhole_whole _) 𝒱₀ none (by rw [coord0]; exact fun h => h0 ((cond0 _ t.isLt).mp h)) _ f0 f1 f2 f3 f4 f5 f6 f7 m0 m1 m2 (hm0 h0).symm _

/-- The body at a point: from the staged blocks and the invariant to the block's functions and the next invariant. -/
theorem body0 : BodyObligation (dat0 c V) (defs₀ (F := F)) 𝒱₀ () Set.univ := fun t => by
  rw [bigSep_W0, bigSep_W0]
  rw [show (dat0 c V).Φ t.castSucc = Φ0 c V t.val from rfl, show (dat0 c V).Φ t.succ = Φ0 c V (t.val + 1) from rfl,
    show (dat0 c V).owesAt () t.succ = (dat0 c V).owesAt () t.castSucc from rfl]
  have h := point0 c t.val (St0 c V t.val) (bodyAt0 t) (st0_0 t) (st0_1 t) (st0_2 t) (st0_3 t) (st0_4 t) (st0_5 t) (st0_6 t) (st0_7 t) (Memref.whole cc0_scratch0) (Memref.whole cc0_scratch1) (Memref.whole cc0_scratch2) (fun S => S) (fun _ _ h => h) (run0 c V t) (in0_0 c V t) (in0_1 c V t) (in0_2 c V t) (in0_3 c V t) (in0_4 c V t) (in0_5 c V t) ((dat0 c V).before 0 t) (before0_0 c V t) ((dat0 c V).before 1 t) (before0_1 c V t) ((dat0 c V).before 2 t) (before0_2 c V t) ((dat0 c V).before 3 t) (before0_3 c V t) ((dat0 c V).before 4 t) (before0_4 c V t) ((dat0 c V).before 5 t) (before0_5 c V t) ((dat0 c V).before 6 t)  ((dat0 c V).before 7 t)
    (Pipeline.scopedRestBut (Ix := Unit) (Name := ℕ) (U := UR sig nD τ) (Lvl := ℕ) (Val := Elt F) spec0 c [cc0_scratch0, cc0_scratch1, cc0_scratch2])
    ((dat0 c V).owesAt () t.castSucc)
  rw [← St0_succ] at h
  refine h.trans (wp_mono _ _ _ fun _ => ?_)
  · refine sep_mono (sep_mono ?_ .rfl) .rfl
    iintro ⟨%f, %hf, H⟩
    iexists f; isplitr; · ipureintro; exact fun _ => hf
    iexact H
end Data0
end Cert.Proof.Scan
end
-- ==== Proof.BwdBody.lean ====
module
public import proofs.«01_k».proof.Proof.BwdBlock
@[expose] public section
set_option maxRecDepth 16384
set_option maxHeartbeats 1000000
noncomputable section
namespace Cert.Proof.Scan
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
variable {F : FTy → Type} [FloatOps F]
local notation "𝕄G" => MT nD τ sig Unit (Elt F) ℕ (UR sig nD τ) ℕ

/-! The backward scan's body at a grid point. -/

section Post
variable (c : Dev nD)
  (arg1 : Memref sig .tc .vmem S4x128x64 .f32)
  (arg2 : Memref sig .tc .vmem S4x128x64 .f32)
  (arg3 : Memref sig .tc .vmem S4x128x64 .f32)
  (arg4 : Memref sig .tc .vmem S4x128x64 .f32)
  (arg5 : Memref sig .tc .vmem S4x128x64 .f32)
  (arg6 : Memref sig .tc .vmem S128x256 .f32)
  (arg7 : Memref sig .tc .vmem S128x256 .f32)
  (arg8 : Memref sig .tc .vmem S128x4x64x64 .f32)
  (arg9 : Memref sig .tc .vmem S4x128x64 .f32)
  (arg10 : Memref sig .tc .vmem S4x128x64 .f32)
  (arg11 : Memref sig .tc .vmem S4x128x64 .f32)
  (arg12 : Memref sig .tc .vmem S4x128x64 .f32)
  (arg13 : Memref sig .tc .vmem S4x128x64 .f32)
  (arg14 : Memref sig .tc .vmem S128x256 .f32)
  (arg15 : Memref sig .tc .vmem S4x64x64 .f32)
  (arg16 : Memref sig .tc .vmem S4x64x128 .f32)
  (arg17 : Memref sig .tc .vmem S4x64x128 .f32)
  (arg18 : Memref sig .tc .vmem S4x64x128 .f32)

/-- What the body leaves: the staged inputs as they were, each output block and the state's adjoint at the block's functions. -/
def bwdPost (M : Vec F S4x64x64 .f32) (X1 : BufTy.Contents (Elt F) arg1.view.ty) (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (X8 : BufTy.Contents (Elt F) arg8.view.ty) : sProp 𝕄G :=
  iprop((arg1.view.loc (c : Thread nD τ) ↦[arg1.view.set]{fullShare} X1) ∗ (arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (arg8.view.loc (c : Thread nD τ) ↦[arg8.view.set]{fullShare} X8) ∗ (∃ f, ⌜arg9.view.read (Elt F) f = rowsB dr (blk1 (arg1.view.read (Elt F) X1) (arg2.view.read (Elt F) X2) (arg3.view.read (Elt F) X3) (arg4.view.read (Elt F) X4) (arg5.view.read (Elt F) X5) (arg6.view.read (Elt F) X6) (arg7.view.read (Elt F) X7) (arg8.view.read (Elt F) X8)) (mats M)⌝ ∗ (arg9.view.loc (c : Thread nD τ) ↦[arg9.view.set]{fullShare} f)) ∗ (∃ f, ⌜arg10.view.read (Elt F) f = rowsB dw (blk1 (arg1.view.read (Elt F) X1) (arg2.view.read (Elt F) X2) (arg3.view.read (Elt F) X3) (arg4.view.read (Elt F) X4) (arg5.view.read (Elt F) X5) (arg6.view.read (Elt F) X6) (arg7.view.read (Elt F) X7) (arg8.view.read (Elt F) X8)) (mats M)⌝ ∗ (arg10.view.loc (c : Thread nD τ) ↦[arg10.view.set]{fullShare} f)) ∗ (∃ f, ⌜arg11.view.read (Elt F) f = rowsB dk (blk1 (arg1.view.read (Elt F) X1) (arg2.view.read (Elt F) X2) (arg3.view.read (Elt F) X3) (arg4.view.read (Elt F) X4) (arg5.view.read (Elt F) X5) (arg6.view.read (Elt F) X6) (arg7.view.read (Elt F) X7) (arg8.view.read (Elt F) X8)) (mats M)⌝ ∗ (arg11.view.loc (c : Thread nD τ) ↦[arg11.view.set]{fullShare} f)) ∗ (∃ f, ⌜arg12.view.read (Elt F) f = rowsB dkk (blk1 (arg1.view.read (Elt F) X1) (arg2.view.read (Elt F) X2) (arg3.view.read (Elt F) X3) (arg4.view.read (Elt F) X4) (arg5.view.read (Elt F) X5) (arg6.view.read (Elt F) X6) (arg7.view.read (Elt F) X7) (arg8.view.read (Elt F) X8)) (mats M)⌝ ∗ (arg12.view.loc (c : Thread nD τ) ↦[arg12.view.set]{fullShare} f)) ∗ (∃ f, ⌜arg13.view.read (Elt F) f = rowsB da (blk1 (arg1.view.read (Elt F) X1) (arg2.view.read (Elt F) X2) (arg3.view.read (Elt F) X3) (arg4.view.read (Elt F) X4) (arg5.view.read (Elt F) X5) (arg6.view.read (Elt F) X6) (arg7.view.read (Elt F) X7) (arg8.view.read (Elt F) X8)) (mats M)⌝ ∗ (arg13.view.loc (c : Thread nD τ) ↦[arg13.view.set]{fullShare} f)) ∗ (∃ f, ⌜arg14.view.read (Elt F) f = unslabs (dvT (blk1 (arg1.view.read (Elt F) X1) (arg2.view.read (Elt F) X2) (arg3.view.read (Elt F) X3) (arg4.view.read (Elt F) X4) (arg5.view.read (Elt F) X5) (arg6.view.read (Elt F) X6) (arg7.view.read (Elt F) X7) (arg8.view.read (Elt F) X8)) (mats M))⌝ ∗ (arg14.view.loc (c : Thread nD τ) ↦[arg14.view.set]{fullShare} f)) ∗ (∃ f, ⌜arg15.view.read (Elt F) f = unmats (dsAt (blk1 (arg1.view.read (Elt F) X1) (arg2.view.read (Elt F) X2) (arg3.view.read (Elt F) X3) (arg4.view.read (Elt F) X4) (arg5.view.read (Elt F) X5) (arg6.view.read (Elt F) X6) (arg7.view.read (Elt F) X7) (arg8.view.read (Elt F) X8)) (mats M) k1_t1_loop.trips)⌝ ∗ (arg15.view.loc (c : Thread nD τ) ↦[arg15.view.set]{fullShare} f)) ∗ (∃ f, (arg16.view.loc (c : Thread nD τ) ↦[arg16.view.set]{fullShare} f)) ∗ (∃ f, (arg17.view.loc (c : Thread nD τ) ↦[arg17.view.set]{fullShare} f)) ∗ (∃ f, (arg18.view.loc (c : Thread nD τ) ↦[arg18.view.set]{fullShare} f)))
end Post

section Body
variable (c : Dev nD) (i : grid1.Coords)
  (arg1 : Memref sig .tc .vmem S4x128x64 .f32) (harg1 : arg1.IsWhole)
  (arg2 : Memref sig .tc .vmem S4x128x64 .f32) (harg2 : arg2.IsWhole)
  (arg3 : Memref sig .tc .vmem S4x128x64 .f32) (harg3 : arg3.IsWhole)
  (arg4 : Memref sig .tc .vmem S4x128x64 .f32) (harg4 : arg4.IsWhole)
  (arg5 : Memref sig .tc .vmem S4x128x64 .f32) (harg5 : arg5.IsWhole)
  (arg6 : Memref sig .tc .vmem S128x256 .f32) (harg6 : arg6.IsWhole)
  (arg7 : Memref sig .tc .vmem S128x256 .f32) (harg7 : arg7.IsWhole)
  (arg8 : Memref sig .tc .vmem S128x4x64x64 .f32) (harg8 : arg8.IsWhole)
  (arg9 : Memref sig .tc .vmem S4x128x64 .f32) (harg9 : arg9.IsWhole)
  (arg10 : Memref sig .tc .vmem S4x128x64 .f32) (harg10 : arg10.IsWhole)
  (arg11 : Memref sig .tc .vmem S4x128x64 .f32) (harg11 : arg11.IsWhole)
  (arg12 : Memref sig .tc .vmem S4x128x64 .f32) (harg12 : arg12.IsWhole)
  (arg13 : Memref sig .tc .vmem S4x128x64 .f32) (harg13 : arg13.IsWhole)
  (arg14 : Memref sig .tc .vmem S128x256 .f32) (harg14 : arg14.IsWhole)
  (arg15 : Memref sig .tc .vmem S4x64x64 .f32) (harg15 : arg15.IsWhole)
  (arg16 : Memref sig .tc .vmem S4x64x128 .f32) (harg16 : arg16.IsWhole)
  (arg17 : Memref sig .tc .vmem S4x64x128 .f32) (harg17 : arg17.IsWhole)
  (arg18 : Memref sig .tc .vmem S4x64x128 .f32) (harg18 : arg18.IsWhole)(𝒱 : Variants) (bd : Option 𝒱.V)

/-- The first point: the state adjoint is zeroed first. -/
theorem bodyFirst (hc : Scalar.cmpi .ne (Scalar.extui (Scalar.cmpi .eq (BitVec.ofNat 32 (i 0).val) 0#32)) 0#32 = 1#1) (M : Vec F S4x64x64 .f32) (X1 : BufTy.Contents (Elt F) arg1.view.ty) (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (X8 : BufTy.Contents (Elt F) arg8.view.ty) (X9 : BufTy.Contents (Elt F) arg9.view.ty) (X10 : BufTy.Contents (Elt F) arg10.view.ty) (X11 : BufTy.Contents (Elt F) arg11.view.ty) (X12 : BufTy.Contents (Elt F) arg12.view.ty) (X13 : BufTy.Contents (Elt F) arg13.view.ty) (X14 : BufTy.Contents (Elt F) arg14.view.ty) (X15 : BufTy.Contents (Elt F) arg15.view.ty) (X16 : BufTy.Contents (Elt F) arg16.view.ty) (X17 : BufTy.Contents (Elt F) arg17.view.ty) (X18 : BufTy.Contents (Elt F) arg18.view.ty) (hM : M = k1_pay86) (E : Set ℕ) :
    (iprop((arg1.view.loc (c : Thread nD τ) ↦[arg1.view.set]{fullShare} X1) ∗ (arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (arg8.view.loc (c : Thread nD τ) ↦[arg8.view.set]{fullShare} X8) ∗ (arg9.view.loc (c : Thread nD τ) ↦[arg9.view.set]{fullShare} X9) ∗ (arg10.view.loc (c : Thread nD τ) ↦[arg10.view.set]{fullShare} X10) ∗ (arg11.view.loc (c : Thread nD τ) ↦[arg11.view.set]{fullShare} X11) ∗ (arg12.view.loc (c : Thread nD τ) ↦[arg12.view.set]{fullShare} X12) ∗ (arg13.view.loc (c : Thread nD τ) ↦[arg13.view.set]{fullShare} X13) ∗ (arg14.view.loc (c : Thread nD τ) ↦[arg14.view.set]{fullShare} X14) ∗ (arg15.view.loc (c : Thread nD τ) ↦[arg15.view.set]{fullShare} X15) ∗ (arg16.view.loc (c : Thread nD τ) ↦[arg16.view.set]{fullShare} X16) ∗ (arg17.view.loc (c : Thread nD τ) ↦[arg17.view.set]{fullShare} X17) ∗ (arg18.view.loc (c : Thread nD τ) ↦[arg18.view.set]{fullShare} X18)) : sProp 𝕄G) ⊢ wp frame (wpE (defs₀ (F := F)) 𝒱 (c : Thread nD τ) bd) E
      (cc1_rwkv_scan_bwd_skel (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) (fun _ => bwdPost c arg1 arg2 arg3 arg4 arg5 arg6 arg7 arg8 arg9 arg10 arg11 arg12 arg13 arg14 arg15 arg16 arg17 arg18 M X1 X2 X3 X4 X5 X6 X7 X8) := by
  unfold cc1_rwkv_scan_bwd_skel
  iintro ⟨H1, H2, H3, H4, H5, H6, H7, H8, H9, H10, H11, H12, H13, H14, H15, H16, H17, H18⟩
  sl_exec
  sl_step
  have hB : blkOf arg1 arg2 arg3 arg4 arg5 arg8 arg16 arg17 X8 X1 X2 X3 X4 X5
      (arg16.view.writes (Elt F) arg16.view.junk (bodyFirst.sl.H16_4 arg6 X6)) (arg17.view.writes (Elt F) arg17.view.junk (bodyFirst.sl.H17_4 arg7 X7)) = (blk1 (arg1.view.read (Elt F) X1) (arg2.view.read (Elt F) X2) (arg3.view.read (Elt F) X3) (arg4.view.read (Elt F) X4) (arg5.view.read (Elt F) X5) (arg6.view.read (Elt F) X6) (arg7.view.read (Elt F) X7) (arg8.view.read (Elt F) X8)) :=
    congrArg₂ (fun v dy => (⟨_, _, _, _, _, _, v, dy⟩ : Blk F))
      (read_slabs arg16.view _ _ _ _ _ _ (congrArg k1_pay87 (readAt_cols arg6.view X6 _ 0 rfl)) (congrArg k1_pay87 (readAt_cols arg6.view X6 _ 1 rfl))
        (congrArg k1_pay87 (readAt_cols arg6.view X6 _ 2 rfl)) (congrArg k1_pay87 (readAt_cols arg6.view X6 _ 3 rfl)) [])
      (read_slabs arg17.view _ _ _ _ _ _ (congrArg k1_pay87 (readAt_cols arg7.view X7 _ 0 rfl)) (congrArg k1_pay87 (readAt_cols arg7.view X7 _ 1 rfl))
        (congrArg k1_pay87 (readAt_cols arg7.view X7 _ 2 rfl)) (congrArg k1_pay87 (readAt_cols arg7.view X7 _ 3 rfl)) [])
  have hI : ((k1_pay97 (bodyFirst.sl.v88 arg15), k1_pay98 (bodyFirst.sl.v90 arg15), k1_pay99 (bodyFirst.sl.v92 arg15), k1_pay100 (bodyFirst.sl.v94 arg15)) : Acc F) = pack (mats M) := by
    subst hM
    show ((_, _, _, _) : Acc F) = (_, _, _, _)
    refine congrArg₂ Prod.mk ?_ (congrArg₂ Prod.mk ?_ (congrArg₂ Prod.mk ?_ ?_))
    · exact congrArg k1_pay97 ((readAt_mat arg15.view _ _ 0 rfl).trans (congrArg (matOf · 0) (read_mats_whole arg15.view _ _ _ _ rfl)))
    · exact congrArg k1_pay97 ((readAt_mat arg15.view _ _ 1 rfl).trans (congrArg (matOf · 1) (read_mats_whole arg15.view _ _ _ _ rfl)))
    · exact congrArg k1_pay97 ((readAt_mat arg15.view _ _ 2 rfl).trans (congrArg (matOf · 2) (read_mats_whole arg15.view _ _ _ _ rfl)))
    · exact congrArg k1_pay97 ((readAt_mat arg15.view _ _ 3 rfl).trans (congrArg (matOf · 3) (read_mats_whole arg15.view _ _ _ _ rfl)))
  have e9 := rowsB_of dr hB hI hL9
  have e10 := rowsB_of dw hB hI hL11
  have e11 := rowsB_of dk hB hI hL13
  have e12 := rowsB_of dkk hB hI hL15
  have e13 := rowsB_of da hB hI hL17
  have e18 := dvT_of hB hI hL19
  have ed : ∀ h : Fin 4, dsAt _ (unpack _) k1_t1_loop.trips h = dsAt (blk1 (arg1.view.read (Elt F) X1) (arg2.view.read (Elt F) X2) (arg3.view.read (Elt F) X3) (arg4.view.read (Elt F) X4) (arg5.view.read (Elt F) X5) (arg6.view.read (Elt F) X6) (arg7.view.read (Elt F) X7) (arg8.view.read (Elt F) X8)) (mats M) k1_t1_loop.trips h := fun h => congrFun (congrArg₂ (fun B D => dsAt B D k1_t1_loop.trips) hB ((congrArg unpack hI).trans (unpack_pack _))) h
  unfold bwdPost
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]
  · iexists _
    isplitr; swap; · iexact H9
    ipureintro; exact e9
  isplitl [H10]
  · iexists _
    isplitr; swap; · iexact H10
    ipureintro; exact e10
  isplitl [H11]
  · iexists _
    isplitr; swap; · iexact H11
    ipureintro; exact e11
  isplitl [H12]
  · iexists _
    isplitr; swap; · iexact H12
    ipureintro; exact e12
  isplitl [H13]
  · iexists _
    isplitr; swap; · iexact H13
    ipureintro; exact e13
  isplitl [H14]
  · iexists _
    isplitr; swap; · iexact H14
    ipureintro; exact read_unslabs arg14.view _ _ _ _ _ _ (congrArg k1_pay107 ((readAt_slab arg18.view _ _ 0 rfl).trans (congrArg (slabOf · 0) e18))) (congrArg k1_pay107 ((readAt_slab arg18.view _ _ 1 rfl).trans (congrArg (slabOf · 1) e18))) (congrArg k1_pay107 ((readAt_slab arg18.view _ _ 2 rfl).trans (congrArg (slabOf · 2) e18))) (congrArg k1_pay107 ((readAt_slab arg18.view _ _ 3 rfl).trans (congrArg (slabOf · 3) e18))) _
  isplitl [H15]
  · iexists _
    isplitr; swap; · iexact H15
    ipureintro; exact read_unmats arg15.view _ _ _ _ _ _ (congrArg k1_pay106 (ed 0)) (congrArg k1_pay106 (ed 1)) (congrArg k1_pay106 (ed 2)) (congrArg k1_pay106 (ed 3)) _
  isplitl [H16]
  · iexists _
    iexact H16
  isplitl [H17]
  · iexists _
    iexact H17
  iexists _
  iexact H18

/-- A later point: from the state adjoint the point before left. -/
theorem bodyNext (hc : ¬ Scalar.cmpi .ne (Scalar.extui (Scalar.cmpi .eq (BitVec.ofNat 32 (i 0).val) 0#32)) 0#32 = 1#1) (M : Vec F S4x64x64 .f32) (X1 : BufTy.Contents (Elt F) arg1.view.ty) (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (X8 : BufTy.Contents (Elt F) arg8.view.ty) (X9 : BufTy.Contents (Elt F) arg9.view.ty) (X10 : BufTy.Contents (Elt F) arg10.view.ty) (X11 : BufTy.Contents (Elt F) arg11.view.ty) (X12 : BufTy.Contents (Elt F) arg12.view.ty) (X13 : BufTy.Contents (Elt F) arg13.view.ty) (X14 : BufTy.Contents (Elt F) arg14.view.ty) (X15 : BufTy.Contents (Elt F) arg15.view.ty) (X16 : BufTy.Contents (Elt F) arg16.view.ty) (X17 : BufTy.Contents (Elt F) arg17.view.ty) (X18 : BufTy.Contents (Elt F) arg18.view.ty) (hM : M = arg15.view.read (Elt F) X15) (E : Set ℕ) :
    (iprop((arg1.view.loc (c : Thread nD τ) ↦[arg1.view.set]{fullShare} X1) ∗ (arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (arg8.view.loc (c : Thread nD τ) ↦[arg8.view.set]{fullShare} X8) ∗ (arg9.view.loc (c : Thread nD τ) ↦[arg9.view.set]{fullShare} X9) ∗ (arg10.view.loc (c : Thread nD τ) ↦[arg10.view.set]{fullShare} X10) ∗ (arg11.view.loc (c : Thread nD τ) ↦[arg11.view.set]{fullShare} X11) ∗ (arg12.view.loc (c : Thread nD τ) ↦[arg12.view.set]{fullShare} X12) ∗ (arg13.view.loc (c : Thread nD τ) ↦[arg13.view.set]{fullShare} X13) ∗ (arg14.view.loc (c : Thread nD τ) ↦[arg14.view.set]{fullShare} X14) ∗ (arg15.view.loc (c : Thread nD τ) ↦[arg15.view.set]{fullShare} X15) ∗ (arg16.view.loc (c : Thread nD τ) ↦[arg16.view.set]{fullShare} X16) ∗ (arg17.view.loc (c : Thread nD τ) ↦[arg17.view.set]{fullShare} X17) ∗ (arg18.view.loc (c : Thread nD τ) ↦[arg18.view.set]{fullShare} X18)) : sProp 𝕄G) ⊢ wp frame (wpE (defs₀ (F := F)) 𝒱 (c : Thread nD τ) bd) E
      (cc1_rwkv_scan_bwd_skel (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) (fun _ => bwdPost c arg1 arg2 arg3 arg4 arg5 arg6 arg7 arg8 arg9 arg10 arg11 arg12 arg13 arg14 arg15 arg16 arg17 arg18 M X1 X2 X3 X4 X5 X6 X7 X8) := by
  unfold cc1_rwkv_scan_bwd_skel
  iintro ⟨H1, H2, H3, H4, H5, H6, H7, H8, H9, H10, H11, H12, H13, H14, H15, H16, H17, H18⟩
  sl_exec
  sl_step
  have hB : blkOf arg1 arg2 arg3 arg4 arg5 arg8 arg16 arg17 X8 X1 X2 X3 X4 X5
      (arg16.view.writes (Elt F) arg16.view.junk (bodyNext.sl.H16_4 arg6 X6)) (arg17.view.writes (Elt F) arg17.view.junk (bodyNext.sl.H17_4 arg7 X7)) = (blk1 (arg1.view.read (Elt F) X1) (arg2.view.read (Elt F) X2) (arg3.view.read (Elt F) X3) (arg4.view.read (Elt F) X4) (arg5.view.read (Elt F) X5) (arg6.view.read (Elt F) X6) (arg7.view.read (Elt F) X7) (arg8.view.read (Elt F) X8)) :=
    congrArg₂ (fun v dy => (⟨_, _, _, _, _, _, v, dy⟩ : Blk F))
      (read_slabs arg16.view _ _ _ _ _ _ (congrArg k1_pay87 (readAt_cols arg6.view X6 _ 0 rfl)) (congrArg k1_pay87 (readAt_cols arg6.view X6 _ 1 rfl))
        (congrArg k1_pay87 (readAt_cols arg6.view X6 _ 2 rfl)) (congrArg k1_pay87 (readAt_cols arg6.view X6 _ 3 rfl)) [])
      (read_slabs arg17.view _ _ _ _ _ _ (congrArg k1_pay87 (readAt_cols arg7.view X7 _ 0 rfl)) (congrArg k1_pay87 (readAt_cols arg7.view X7 _ 1 rfl))
        (congrArg k1_pay87 (readAt_cols arg7.view X7 _ 2 rfl)) (congrArg k1_pay87 (readAt_cols arg7.view X7 _ 3 rfl)) [])
  have hI : ((k1_pay97 (View.readAt (Elt F) arg15.view (Rect.unit (s := S4x64x64) ![0, 0, 0] S1x64x64.size inb_S4x64x64_S1x64x64_0_0_0).toLoadRect X15), k1_pay98 (View.readAt (Elt F) arg15.view (Rect.unit (s := S4x64x64) ![1, 0, 0] S1x64x64.size inb_S4x64x64_S1x64x64_1_0_0).toLoadRect X15), k1_pay99 (View.readAt (Elt F) arg15.view (Rect.unit (s := S4x64x64) ![2, 0, 0] S1x64x64.size inb_S4x64x64_S1x64x64_2_0_0).toLoadRect X15), k1_pay100 (View.readAt (Elt F) arg15.view (Rect.unit (s := S4x64x64) ![3, 0, 0] S1x64x64.size inb_S4x64x64_S1x64x64_3_0_0).toLoadRect X15)) : Acc F) = pack (mats M) := by
    subst hM
    show ((_, _, _, _) : Acc F) = (_, _, _, _)
    refine congrArg₂ Prod.mk ?_ (congrArg₂ Prod.mk ?_ (congrArg₂ Prod.mk ?_ ?_))
    · exact congrArg k1_pay97 (readAt_mat arg15.view X15 _ 0 rfl)
    · exact congrArg k1_pay97 (readAt_mat arg15.view X15 _ 1 rfl)
    · exact congrArg k1_pay97 (readAt_mat arg15.view X15 _ 2 rfl)
    · exact congrArg k1_pay97 (readAt_mat arg15.view X15 _ 3 rfl)
  have e9 := rowsB_of dr hB hI hL9
  have e10 := rowsB_of dw hB hI hL11
  have e11 := rowsB_of dk hB hI hL13
  have e12 := rowsB_of dkk hB hI hL15
  have e13 := rowsB_of da hB hI hL17
  have e18 := dvT_of hB hI hL19
  have ed : ∀ h : Fin 4, dsAt _ (unpack _) k1_t1_loop.trips h = dsAt (blk1 (arg1.view.read (Elt F) X1) (arg2.view.read (Elt F) X2) (arg3.view.read (Elt F) X3) (arg4.view.read (Elt F) X4) (arg5.view.read (Elt F) X5) (arg6.view.read (Elt F) X6) (arg7.view.read (Elt F) X7) (arg8.view.read (Elt F) X8)) (mats M) k1_t1_loop.trips h := fun h => congrFun (congrArg₂ (fun B D => dsAt B D k1_t1_loop.trips) hB ((congrArg unpack hI).trans (unpack_pack _))) h
  unfold bwdPost
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]
  · iexists _
    isplitr; swap; · iexact H9
    ipureintro; exact e9
  isplitl [H10]
  · iexists _
    isplitr; swap; · iexact H10
    ipureintro; exact e10
  isplitl [H11]
  · iexists _
    isplitr; swap; · iexact H11
    ipureintro; exact e11
  isplitl [H12]
  · iexists _
    isplitr; swap; · iexact H12
    ipureintro; exact e12
  isplitl [H13]
  · iexists _
    isplitr; swap; · iexact H13
    ipureintro; exact e13
  isplitl [H14]
  · iexists _
    isplitr; swap; · iexact H14
    ipureintro; exact read_unslabs arg14.view _ _ _ _ _ _ (congrArg k1_pay107 ((readAt_slab arg18.view _ _ 0 rfl).trans (congrArg (slabOf · 0) e18))) (congrArg k1_pay107 ((readAt_slab arg18.view _ _ 1 rfl).trans (congrArg (slabOf · 1) e18))) (congrArg k1_pay107 ((readAt_slab arg18.view _ _ 2 rfl).trans (congrArg (slabOf · 2) e18))) (congrArg k1_pay107 ((readAt_slab arg18.view _ _ 3 rfl).trans (congrArg (slabOf · 3) e18))) _
  isplitl [H15]
  · iexists _
    isplitr; swap; · iexact H15
    ipureintro; exact read_unmats arg15.view _ _ _ _ _ _ (congrArg k1_pay106 (ed 0)) (congrArg k1_pay106 (ed 1)) (congrArg k1_pay106 (ed 2)) (congrArg k1_pay106 (ed 3)) _
  isplitl [H16]
  · iexists _
    iexact H16
  isplitl [H17]
  · iexists _
    iexact H17
  iexists _
  iexact H18
end Body
end Cert.Proof.Scan
end
-- ==== Proof.BwdPoint.lean ====
module
public import proofs.«01_k».proof.Proof.BwdBody
public import proofs.«01_k».proof.Proof.FwdPoint
public import proofs.«01_k».proof.Proof.Gen.KernelIdeal.Launch
@[expose] public section
set_option maxRecDepth 16384
set_option maxHeartbeats 1000000
noncomputable section
namespace Cert.Proof.Scan
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)
variable {F : FTy → Type} [FloatOps F]
local notation "𝕄G" => MT nD τ sig Unit (Elt F) ℕ (UR sig nD τ) ℕ
variable (c : Dev nD)
/-- The separation-logic bookkeeping of a point: given the run of the body over raw contents, the staged blocks and the scratch
    taken in as the pipeline hands them and given back at the block's functions. -/
theorem point1 (n : ℕ) (S : Vec F S4x64x64 .f32) (P : Prog (TpuEff nD τ sig (Elt F) Λ₀ .tc) PUnit) (a0 : Memref sig .tc .vmem S4x128x64 .f32) (a1 : Memref sig .tc .vmem S4x128x64 .f32) (a2 : Memref sig .tc .vmem S4x128x64 .f32) (a3 : Memref sig .tc .vmem S4x128x64 .f32) (a4 : Memref sig .tc .vmem S4x128x64 .f32) (a5 : Memref sig .tc .vmem S128x256 .f32) (a6 : Memref sig .tc .vmem S128x256 .f32) (a7 : Memref sig .tc .vmem S128x4x64x64 .f32) (a8 : Memref sig .tc .vmem S4x128x64 .f32) (a9 : Memref sig .tc .vmem S4x128x64 .f32) (a10 : Memref sig .tc .vmem S4x128x64 .f32) (a11 : Memref sig .tc .vmem S4x128x64 .f32) (a12 : Memref sig .tc .vmem S4x128x64 .f32) (a13 : Memref sig .tc .vmem S128x256 .f32) (s0 : Memref sig .tc .vmem S4x64x64 .f32) (s1 : Memref sig .tc .vmem S4x64x128 .f32) (s2 : Memref sig .tc .vmem S4x64x128 .f32) (s3 : Memref sig .tc .vmem S4x64x128 .f32) (T : Vec F S4x64x64 .f32 → BufTy.Contents (Elt F) s0.view.ty) (hT : ∀ f S, s0.view.read (Elt F) f = S → f = T S)
    (hrun : ∀ (f0 : BufTy.Contents (Elt F) a0.view.ty) (f1 : BufTy.Contents (Elt F) a1.view.ty) (f2 : BufTy.Contents (Elt F) a2.view.ty) (f3 : BufTy.Contents (Elt F) a3.view.ty) (f4 : BufTy.Contents (Elt F) a4.view.ty) (f5 : BufTy.Contents (Elt F) a5.view.ty) (f6 : BufTy.Contents (Elt F) a6.view.ty) (f7 : BufTy.Contents (Elt F) a7.view.ty) (f8 : BufTy.Contents (Elt F) a8.view.ty) (f9 : BufTy.Contents (Elt F) a9.view.ty) (f10 : BufTy.Contents (Elt F) a10.view.ty) (f11 : BufTy.Contents (Elt F) a11.view.ty) (f12 : BufTy.Contents (Elt F) a12.view.ty) (f13 : BufTy.Contents (Elt F) a13.view.ty) (m0 : BufTy.Contents (Elt F) s0.view.ty) (m1 : BufTy.Contents (Elt F) s1.view.ty) (m2 : BufTy.Contents (Elt F) s2.view.ty) (m3 : BufTy.Contents (Elt F) s3.view.ty), (n ≠ 0 → m0 = T S) → ((iprop(((a0).view.loc (c : Thread nD τ) ↦[(a0).view.set]{fullShare} f0) ∗ ((a1).view.loc (c : Thread nD τ) ↦[(a1).view.set]{fullShare} f1) ∗ ((a2).view.loc (c : Thread nD τ) ↦[(a2).view.set]{fullShare} f2) ∗ ((a3).view.loc (c : Thread nD τ) ↦[(a3).view.set]{fullShare} f3) ∗ ((a4).view.loc (c : Thread nD τ) ↦[(a4).view.set]{fullShare} f4) ∗ ((a5).view.loc (c : Thread nD τ) ↦[(a5).view.set]{fullShare} f5) ∗ ((a6).view.loc (c : Thread nD τ) ↦[(a6).view.set]{fullShare} f6) ∗ ((a7).view.loc (c : Thread nD τ) ↦[(a7).view.set]{fullShare} f7) ∗ ((a8).view.loc (c : Thread nD τ) ↦[(a8).view.set]{fullShare} f8) ∗ ((a9).view.loc (c : Thread nD τ) ↦[(a9).view.set]{fullShare} f9) ∗ ((a10).view.loc (c : Thread nD τ) ↦[(a10).view.set]{fullShare} f10) ∗ ((a11).view.loc (c : Thread nD τ) ↦[(a11).view.set]{fullShare} f11) ∗ ((a12).view.loc (c : Thread nD τ) ↦[(a12).view.set]{fullShare} f12) ∗ ((a13).view.loc (c : Thread nD τ) ↦[(a13).view.set]{fullShare} f13) ∗ ((s0).view.loc (c : Thread nD τ) ↦[(s0).view.set]{fullShare} m0) ∗ ((s1).view.loc (c : Thread nD τ) ↦[(s1).view.set]{fullShare} m1) ∗ ((s2).view.loc (c : Thread nD τ) ↦[(s2).view.set]{fullShare} m2) ∗ ((s3).view.loc (c : Thread nD τ) ↦[(s3).view.set]{fullShare} m3)) : sProp 𝕄G) ⊢ wp Idealize.ShloMosaic.frame (wpE (defs₀ (F := F)) 𝒱₀ (c : Thread nD τ) none) Set.univ P (fun _ => bwdPost c a0 a1 a2 a3 a4 a5 a6 a7 a8 a9 a10 a11 a12 a13 s0 s1 s2 s3 S f0 f1 f2 f3 f4 f5 f6 f7)))
    (x0 : Vec F S4x128x64 .f32) (x1 : Vec F S4x128x64 .f32) (x2 : Vec F S4x128x64 .f32) (x3 : Vec F S4x128x64 .f32) (x4 : Vec F S4x128x64 .f32) (x5 : Vec F S128x256 .f32) (x6 : Vec F S128x256 .f32) (x7 : Vec F S128x4x64x64 .f32) {D0 : Type} {D1 : Type} {D2 : Type} {D3 : Type} {D4 : Type} {D5 : Type} {D6 : Type} {D7 : Type} {D8 : Type} {D9 : Type} {D10 : Type} {D11 : Type} {D12 : Type} {D13 : Type}
    (b0 : D0 → Vec F S4x128x64 .f32) (hb0 : ∀ d, b0 d = x0) (b1 : D1 → Vec F S4x128x64 .f32) (hb1 : ∀ d, b1 d = x1) (b2 : D2 → Vec F S4x128x64 .f32) (hb2 : ∀ d, b2 d = x2) (b3 : D3 → Vec F S4x128x64 .f32) (hb3 : ∀ d, b3 d = x3) (b4 : D4 → Vec F S4x128x64 .f32) (hb4 : ∀ d, b4 d = x4) (b5 : D5 → Vec F S128x256 .f32) (hb5 : ∀ d, b5 d = x5) (b6 : D6 → Vec F S128x256 .f32) (hb6 : ∀ d, b6 d = x6) (b7 : D7 → Vec F S128x4x64x64 .f32) (hb7 : ∀ d, b7 d = x7) (b8 : D8 → Vec F S4x128x64 .f32)  (b9 : D9 → Vec F S4x128x64 .f32)  (b10 : D10 → Vec F S4x128x64 .f32)  (b11 : D11 → Vec F S4x128x64 .f32)  (b12 : D12 → Vec F S4x128x64 .f32)  (b13 : D13 → Vec F S128x256 .f32)  (R O : sProp 𝕄G) :
    (iprop(((∃ f : BufTy.Contents (Elt F) s0.view.ty, ⌜n ≠ 0 → f = T S⌝ ∗ (s0.view.loc (c : Thread nD τ) ↦[s0.view.set]{fullShare} f)) ∗ (∃ f : BufTy.Contents (Elt F) s1.view.ty, (s1.view.loc (c : Thread nD τ) ↦[s1.view.set]{fullShare} f)) ∗ (∃ f : BufTy.Contents (Elt F) s2.view.ty, (s2.view.loc (c : Thread nD τ) ↦[s2.view.set]{fullShare} f)) ∗ (∃ f : BufTy.Contents (Elt F) s3.view.ty, (s3.view.loc (c : Thread nD τ) ↦[s3.view.set]{fullShare} f)) ∗ R) ∗ O ∗ (∃ d, owns (c : Thread nD τ) a0 fullShare (b0 d)) ∗ (∃ d, owns (c : Thread nD τ) a1 fullShare (b1 d)) ∗ (∃ d, owns (c : Thread nD τ) a2 fullShare (b2 d)) ∗ (∃ d, owns (c : Thread nD τ) a3 fullShare (b3 d)) ∗ (∃ d, owns (c : Thread nD τ) a4 fullShare (b4 d)) ∗ (∃ d, owns (c : Thread nD τ) a5 fullShare (b5 d)) ∗ (∃ d, owns (c : Thread nD τ) a6 fullShare (b6 d)) ∗ (∃ d, owns (c : Thread nD τ) a7 fullShare (b7 d)) ∗ (∃ d, owns (c : Thread nD τ) a8 fullShare (b8 d)) ∗ (∃ d, owns (c : Thread nD τ) a9 fullShare (b9 d)) ∗ (∃ d, owns (c : Thread nD τ) a10 fullShare (b10 d)) ∗ (∃ d, owns (c : Thread nD τ) a11 fullShare (b11 d)) ∗ (∃ d, owns (c : Thread nD τ) a12 fullShare (b12 d)) ∗ (∃ d, owns (c : Thread nD τ) a13 fullShare (b13 d))) : sProp 𝕄G)
    ⊢ wp Idealize.ShloMosaic.frame (wpE (defs₀ (F := F)) 𝒱₀ (c : Thread nD τ) none) Set.univ P
      (fun _ => iprop(((∃ f : BufTy.Contents (Elt F) s0.view.ty, ⌜f = T (unmats (dsAt (blk1 x0 x1 x2 x3 x4 x5 x6 x7) (mats S) k1_t1_loop.trips))⌝ ∗ (s0.view.loc (c : Thread nD τ) ↦[s0.view.set]{fullShare} f)) ∗ (∃ f : BufTy.Contents (Elt F) s1.view.ty, (s1.view.loc (c : Thread nD τ) ↦[s1.view.set]{fullShare} f)) ∗ (∃ f : BufTy.Contents (Elt F) s2.view.ty, (s2.view.loc (c : Thread nD τ) ↦[s2.view.set]{fullShare} f)) ∗ (∃ f : BufTy.Contents (Elt F) s3.view.ty, (s3.view.loc (c : Thread nD τ) ↦[s3.view.set]{fullShare} f)) ∗ R) ∗ O ∗ owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7 ∗ owns (c : Thread nD τ) a8 fullShare (rowsB dr (blk1 x0 x1 x2 x3 x4 x5 x6 x7) (mats S)) ∗ owns (c : Thread nD τ) a9 fullShare (rowsB dw (blk1 x0 x1 x2 x3 x4 x5 x6 x7) (mats S)) ∗ owns (c : Thread nD τ) a10 fullShare (rowsB dk (blk1 x0 x1 x2 x3 x4 x5 x6 x7) (mats S)) ∗ owns (c : Thread nD τ) a11 fullShare (rowsB dkk (blk1 x0 x1 x2 x3 x4 x5 x6 x7) (mats S)) ∗ owns (c : Thread nD τ) a12 fullShare (rowsB da (blk1 x0 x1 x2 x3 x4 x5 x6 x7) (mats S)) ∗ owns (c : Thread nD τ) a13 fullShare (unslabs (dvT (blk1 x0 x1 x2 x3 x4 x5 x6 x7) (mats S))))) := by
  unfold owns
  iintro ⟨⟨⟨%m0, %hm0, S0⟩, ⟨%m1, S1⟩, ⟨%m2, S2⟩, ⟨%m3, S3⟩, HR⟩, HO, ⟨%d0, %f0, %hf0, H0⟩, ⟨%d1, %f1, %hf1, H1⟩, ⟨%d2, %f2, %hf2, H2⟩, ⟨%d3, %f3, %hf3, H3⟩, ⟨%d4, %f4, %hf4, H4⟩, ⟨%d5, %f5, %hf5, H5⟩, ⟨%d6, %f6, %hf6, H6⟩, ⟨%d7, %f7, %hf7, H7⟩, ⟨%d8, %f8, %hf8, H8⟩, ⟨%d9, %f9, %hf9, H9⟩, ⟨%d10, %f10, %hf10, H10⟩, ⟨%d11, %f11, %hf11, H11⟩, ⟨%d12, %f12, %hf12, H12⟩, ⟨%d13, %f13, %hf13, H13⟩⟩
  rw [hb0] at hf0
  rw [hb1] at hf1
  rw [hb2] at hf2
  rw [hb3] at hf3
  rw [hb4] at hf4
  rw [hb5] at hf5
  rw [hb6] at hf6
  rw [hb7] at hf7
  subst hf0
  subst hf1
  subst hf2
  subst hf3
  subst hf4
  subst hf5
  subst hf6
  subst hf7
  ihave Hwp := hrun f0 f1 f2 f3 f4 f5 f6 f7 f8 f9 f10 f11 f12 f13 m0 m1 m2 m3 hm0 $$ [H0 H1 H2 H3 H4 H5 H6 H7 H8 H9 H10 H11 H12 H13 S0 S1 S2 S3]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [S0]; · iexact S0
    isplitl [S1]; · iexact S1
    isplitl [S2]; · iexact S2
    iexact S3
  iapply (wp_wand _ _ _) $$ Hwp
  iintro %a HP
  unfold bwdPost
  icases HP with ⟨H0, H1, H2, H3, H4, H5, H6, H7, ⟨%g8, %hg8, H8⟩, ⟨%g9, %hg9, H9⟩, ⟨%g10, %hg10, H10⟩, ⟨%g11, %hg11, H11⟩, ⟨%g12, %hg12, H12⟩, ⟨%g13, %hg13, H13⟩, ⟨%n0, %hn0, S0⟩, ⟨%n1, S1⟩, ⟨%n2, S2⟩, ⟨%n3, S3⟩⟩
  isplitl [S0 S1 S2 S3 HR]
  · isplitl [S0]
    · iexists n0; isplitr; swap; (· iexact S0)
      ipureintro; exact hT _ _ hn0
    isplitl [S1]; · iexists n1; iexact S1
    isplitl [S2]; · iexists n2; iexact S2
    isplitl [S3]; · iexists n3; iexact S3
    iexact HR
  isplitl [HO]; · iexact HO
  isplitl [H0]
  · iexists _; isplitr; swap; (· iexact H0)
    ipureintro; rfl
  isplitl [H1]
  · iexists _; isplitr; swap; (· iexact H1)
    ipureintro; rfl
  isplitl [H2]
  · iexists _; isplitr; swap; (· iexact H2)
    ipureintro; rfl
  isplitl [H3]
  · iexists _; isplitr; swap; (· iexact H3)
    ipureintro; rfl
  isplitl [H4]
  · iexists _; isplitr; swap; (· iexact H4)
    ipureintro; rfl
  isplitl [H5]
  · iexists _; isplitr; swap; (· iexact H5)
    ipureintro; rfl
  isplitl [H6]
  · iexists _; isplitr; swap; (· iexact H6)
    ipureintro; rfl
  isplitl [H7]
  · iexists _; isplitr; swap; (· iexact H7)
    ipureintro; rfl
  isplitl [H8]
  · iexists _; isplitr; swap; (· iexact H8)
    ipureintro; exact hg8
  isplitl [H9]
  · iexists _; isplitr; swap; (· iexact H9)
    ipureintro; exact hg9
  isplitl [H10]
  · iexists _; isplitr; swap; (· iexact H10)
    ipureintro; exact hg10
  isplitl [H11]
  · iexists _; isplitr; swap; (· iexact H11)
    ipureintro; exact hg11
  isplitl [H12]
  · iexists _; isplitr; swap; (· iexact H12)
    ipureintro; exact hg12
  iexists _; isplitr; swap; (· iexact H13)
  ipureintro; exact hg13
end Cert.Proof.Scan
end
-- ==== Proof.BwdDat.lean ====
module
public import proofs.«01_k».proof.Proof.BwdPoint
public import proofs.«01_k».proof.Proof.FwdPoint
public import proofs.«01_k».proof.Proof.Gen.KernelIdeal.Points
public import proofs.«01_k».proof.Proof.Gen.KernelIdeal.Launch
public import Idealize.ShloMosaic.Lib.Pipeline.RegionsLoop
public import Idealize.ShloMosaic.Lib.Pipeline.Frame
@[expose] public section
set_option maxRecDepth 16384
set_option maxHeartbeats 1000000
noncomputable section
namespace Cert.Proof.Scan
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)
variable {F : FTy → Type} [FloatOps F]
local notation "𝕄G" => MT nD τ sig Unit (Elt F) ℕ (UR sig nD τ) ℕ

/-! Pipeline 1: the blocks each grid point reads, the state it starts from, and what it leaves. -/

section Data1
variable (c : Dev nD) (V : (b : Ref sig .tc) → Buf (Elt F) ((c : Thread nD τ).loc b))

/-- The grid's point of number `n` (numbers from 16 on wrap round; none is used). -/
def pt1 (n : ℕ) : Fin cfg1.N := ⟨n % 16, Nat.mod_lt _ (by decide)⟩
theorem pt1_val (t : Fin cfg1.N) : pt1 t.val = t := Fin.ext (Nat.mod_eq_of_lt t.isLt)

/-- The block of `r` staged at point `t`. -/
abbrev in1_0 (t : Fin cfg1.N) : Vec F S4x128x64 .f32 := ((cfg1.win 0).blk t).view.read (Elt F) (V (Pipeline.arrRef spec1 0))
/-- The block of `w` staged at point `t`. -/
abbrev in1_1 (t : Fin cfg1.N) : Vec F S4x128x64 .f32 := ((cfg1.win 1).blk t).view.read (Elt F) (V (Pipeline.arrRef spec1 1))
/-- The block of `k` staged at point `t`. -/
abbrev in1_2 (t : Fin cfg1.N) : Vec F S4x128x64 .f32 := ((cfg1.win 2).blk t).view.read (Elt F) (V (Pipeline.arrRef spec1 2))
/-- The block of `kk` staged at point `t`. -/
abbrev in1_3 (t : Fin cfg1.N) : Vec F S4x128x64 .f32 := ((cfg1.win 3).blk t).view.read (Elt F) (V (Pipeline.arrRef spec1 3))
/-- The block of `a` staged at point `t`. -/
abbrev in1_4 (t : Fin cfg1.N) : Vec F S4x128x64 .f32 := ((cfg1.win 4).blk t).view.read (Elt F) (V (Pipeline.arrRef spec1 4))
/-- The block of `v` staged at point `t`. -/
abbrev in1_5 (t : Fin cfg1.N) : Vec F S128x256 .f32 := ((cfg1.win 5).blk t).view.read (Elt F) (V (Pipeline.arrRef spec1 5))
/-- The block of `dy` staged at point `t`. -/
abbrev in1_6 (t : Fin cfg1.N) : Vec F S128x256 .f32 := ((cfg1.win 6).blk t).view.read (Elt F) (V (Pipeline.arrRef spec1 6))
/-- The block of `states` staged at point `t`. -/
abbrev in1_7 (t : Fin cfg1.N) : Vec F S128x4x64x64 .f32 := ((cfg1.win 7).blk t).view.read (Elt F) (V (Pipeline.arrRef spec1 7))
/-- All of them together. -/
abbrev B1 (t : Fin cfg1.N) : Blk F := blk1 (in1_0 c V t) (in1_1 c V t) (in1_2 c V t) (in1_3 c V t) (in1_4 c V t) (in1_5 c V t) (in1_6 c V t) (in1_7 c V t)

/-- The state the body starts point `n` from. -/
def St1 : ℕ → Vec F S4x64x64 .f32
  | 0 => k1_pay86
  | n + 1 => unmats (dsAt (B1 c V (pt1 n)) (mats (St1 n)) k1_t1_loop.trips)

theorem St1_succ (t : Fin cfg1.N) : St1 c V (t.val + 1) = unmats (dsAt (B1 c V t) (mats (St1 c V t.val)) k1_t1_loop.trips) := by
  show unmats (dsAt (B1 c V (pt1 t.val)) _ _) = _
  rw [pt1_val]

/-- The invariant between points: the state as the last point left it, the other scratch at something. -/
def Φ1 (n : ℕ) : sProp 𝕄G :=
  iprop((∃ f : BufTy.Contents (Elt F) (Memref.whole cc1_scratch0).view.ty, ⌜n ≠ 0 → f = St1 c V n⌝ ∗ ((Memref.whole cc1_scratch0).view.loc (c : Thread nD τ) ↦[(Memref.whole cc1_scratch0).view.set]{fullShare} f))
    ∗ (∃ f : BufTy.Contents (Elt F) (Memref.whole cc1_scratch1).view.ty, ((Memref.whole cc1_scratch1).view.loc (c : Thread nD τ) ↦[(Memref.whole cc1_scratch1).view.set]{fullShare} f))
    ∗ (∃ f : BufTy.Contents (Elt F) (Memref.whole cc1_scratch2).view.ty, ((Memref.whole cc1_scratch2).view.loc (c : Thread nD τ) ↦[(Memref.whole cc1_scratch2).view.set]{fullShare} f))
    ∗ (∃ f : BufTy.Contents (Elt F) (Memref.whole cc1_scratch3).view.ty, ((Memref.whole cc1_scratch3).view.loc (c : Thread nD τ) ↦[(Memref.whole cc1_scratch3).view.set]{fullShare} f))
    ∗ Pipeline.scopedRestBut (Ix := Unit) (Name := ℕ) (U := UR sig nD τ) (Lvl := ℕ) (Val := Elt F) spec1 c [cc1_scratch0, cc1_scratch1, cc1_scratch2, cc1_scratch3])

/-- What point `t` leaves for window 8. -/
abbrev out1_8 (t : Fin cfg1.N) : Vec F S4x128x64 .f32 := rowsB dr (B1 c V t) (mats (St1 c V t.val))
/-- What point `t` leaves for window 9. -/
abbrev out1_9 (t : Fin cfg1.N) : Vec F S4x128x64 .f32 := rowsB dw (B1 c V t) (mats (St1 c V t.val))
/-- What point `t` leaves for window 10. -/
abbrev out1_10 (t : Fin cfg1.N) : Vec F S4x128x64 .f32 := rowsB dk (B1 c V t) (mats (St1 c V t.val))
/-- What point `t` leaves for window 11. -/
abbrev out1_11 (t : Fin cfg1.N) : Vec F S4x128x64 .f32 := rowsB dkk (B1 c V t) (mats (St1 c V t.val))
/-- What point `t` leaves for window 12. -/
abbrev out1_12 (t : Fin cfg1.N) : Vec F S4x128x64 .f32 := rowsB da (B1 c V t) (mats (St1 c V t.val))
/-- What point `t` leaves for window 13. -/
abbrev out1_13 (t : Fin cfg1.N) : Vec F S128x256 .f32 := unslabs (dvT (B1 c V t) (mats (St1 c V t.val)))

/-- The proof data: each input staged as it lies in its array, each output at the block's function. -/
def dat1 : Dat τ (Elt F) Unit ℕ (UR sig nD τ) ℕ cfg1 c where
  A w := V (Pipeline.arrRef spec1 w)
  after w t := match w with
    | ⟨0, _⟩ => in1_0 c V t
    | ⟨1, _⟩ => in1_1 c V t
    | ⟨2, _⟩ => in1_2 c V t
    | ⟨3, _⟩ => in1_3 c V t
    | ⟨4, _⟩ => in1_4 c V t
    | ⟨5, _⟩ => in1_5 c V t
    | ⟨6, _⟩ => in1_6 c V t
    | ⟨7, _⟩ => in1_7 c V t
    | ⟨8, _⟩ => out1_8 c V t
    | ⟨9, _⟩ => out1_9 c V t
    | ⟨10, _⟩ => out1_10 c V t
    | ⟨11, _⟩ => out1_11 c V t
    | ⟨12, _⟩ => out1_12 c V t
    | ⟨13, _⟩ => out1_13 c V t
  Φ t := Φ1 c V t.val
  q _ := fullShare
  owed _ := 0

theorem before1_0 (t : Fin cfg1.N) (d) : (dat1 c V).before 0 t d = in1_0 c V t := by
  unfold Dat.before; rw [if_pos (fetch1_0 t)]; rfl
theorem before1_1 (t : Fin cfg1.N) (d) : (dat1 c V).before 1 t d = in1_1 c V t := by
  unfold Dat.before; rw [if_pos (fetch1_1 t)]; rfl
theorem before1_2 (t : Fin cfg1.N) (d) : (dat1 c V).before 2 t d = in1_2 c V t := by
  unfold Dat.before; rw [if_pos (fetch1_2 t)]; rfl
theorem before1_3 (t : Fin cfg1.N) (d) : (dat1 c V).before 3 t d = in1_3 c V t := by
  unfold Dat.before; rw [if_pos (fetch1_3 t)]; rfl
theorem before1_4 (t : Fin cfg1.N) (d) : (dat1 c V).before 4 t d = in1_4 c V t := by
  unfold Dat.before; rw [if_pos (fetch1_4 t)]; rfl
theorem before1_5 (t : Fin cfg1.N) (d) : (dat1 c V).before 5 t d = in1_5 c V t := by
  unfold Dat.before; rw [if_pos (fetch1_5 t)]; rfl
theorem before1_6 (t : Fin cfg1.N) (d) : (dat1 c V).before 6 t d = in1_6 c V t := by
  unfold Dat.before; rw [if_pos (fetch1_6 t)]; rfl
theorem before1_7 (t : Fin cfg1.N) (d) : (dat1 c V).before 7 t d = in1_7 c V t := by
  unfold Dat.before; rw [if_pos (fetch1_7 t)]; rfl

theorem coord1 (t : Fin cfg1.N) : ((grid1.coords t) 0).val = t.val := by revert t; decide
theorem cond1 : ∀ n : ℕ, n < 16 → (Scalar.cmpi .ne (Scalar.extui (Scalar.cmpi .eq (BitVec.ofNat 32 n) 0#32)) 0#32 = 1#1 ↔ n = 0) := by decide

/-- The body run at a point, from what its staging buffers and scratch hold. -/
theorem run1 (t : Fin cfg1.N) (f0 : BufTy.Contents (Elt F) (win1_0.stage (cfg1.slots t 0)).view.ty) (f1 : BufTy.Contents (Elt F) (win1_1.stage (cfg1.slots t 1)).view.ty) (f2 : BufTy.Contents (Elt F) (win1_2.stage (cfg1.slots t 2)).view.ty) (f3 : BufTy.Contents (Elt F) (win1_3.stage (cfg1.slots t 3)).view.ty) (f4 : BufTy.Contents (Elt F) (win1_4.stage (cfg1.slots t 4)).view.ty) (f5 : BufTy.Contents (Elt F) (win1_5.stage (cfg1.slots t 5)).view.ty) (f6 : BufTy.Contents (Elt F) (win1_6.stage (cfg1.slots t 6)).view.ty) (f7 : BufTy.Contents (Elt F) (win1_7.stage (cfg1.slots t 7)).view.ty) (f8 : BufTy.Contents (Elt F) (win1_8.stage (cfg1.slots t 8)).view.ty) (f9 : BufTy.Contents (Elt F) (win1_9.stage (cfg1.slots t 9)).view.ty) (f10 : BufTy.Contents (Elt F) (win1_10.stage (cfg1.slots t 10)).view.ty) (f11 : BufTy.Contents (Elt F) (win1_11.stage (cfg1.slots t 11)).view.ty) (f12 : BufTy.Contents (Elt F) (win1_12.stage (cfg1.slots t 12)).view.ty) (f13 : BufTy.Contents (Elt F) (win1_13.stage (cfg1.slots t 13)).view.ty) (m0 : BufTy.Contents (Elt F) (Memref.whole cc1_scratch0).view.ty) (m1 : BufTy.Contents (Elt F) (Memref.whole cc1_scratch1).view.ty) (m2 : BufTy.Contents (Elt F) (Memref.whole cc1_scratch2).view.ty) (m3 : BufTy.Contents (Elt F) (Memref.whole cc1_scratch3).view.ty) (hm0 : t.val ≠ 0 → m0 = St1 c V t.val) : (iprop(((win1_0.stage (cfg1.slots t 0)).view.loc (c : Thread nD τ) ↦[(win1_0.stage (cfg1.slots t 0)).view.set]{fullShare} f0) ∗ ((win1_1.stage (cfg1.slots t 1)).view.loc (c : Thread nD τ) ↦[(win1_1.stage (cfg1.slots t 1)).view.set]{fullShare} f1) ∗ ((win1_2.stage (cfg1.slots t 2)).view.loc (c : Thread nD τ) ↦[(win1_2.stage (cfg1.slots t 2)).view.set]{fullShare} f2) ∗ ((win1_3.stage (cfg1.slots t 3)).view.loc (c : Thread nD τ) ↦[(win1_3.stage (cfg1.slots t 3)).view.set]{fullShare} f3) ∗ ((win1_4.stage (cfg1.slots t 4)).view.loc (c : Thread nD τ) ↦[(win1_4.stage (cfg1.slots t 4)).view.set]{fullShare} f4) ∗ ((win1_5.stage (cfg1.slots t 5)).view.loc (c : Thread nD τ) ↦[(win1_5.stage (cfg1.slots t 5)).view.set]{fullShare} f5) ∗ ((win1_6.stage (cfg1.slots t 6)).view.loc (c : Thread nD τ) ↦[(win1_6.stage (cfg1.slots t 6)).view.set]{fullShare} f6) ∗ ((win1_7.stage (cfg1.slots t 7)).view.loc (c : Thread nD τ) ↦[(win1_7.stage (cfg1.slots t 7)).view.set]{fullShare} f7) ∗ ((win1_8.stage (cfg1.slots t 8)).view.loc (c : Thread nD τ) ↦[(win1_8.stage (cfg1.slots t 8)).view.set]{fullShare} f8) ∗ ((win1_9.stage (cfg1.slots t 9)).view.loc (c : Thread nD τ) ↦[(win1_9.stage (cfg1.slots t 9)).view.set]{fullShare} f9) ∗ ((win1_10.stage (cfg1.slots t 10)).view.loc (c : Thread nD τ) ↦[(win1_10.stage (cfg1.slots t 10)).view.set]{fullShare} f10) ∗ ((win1_11.stage (cfg1.slots t 11)).view.loc (c : Thread nD τ) ↦[(win1_11.stage (cfg1.slots t 11)).view.set]{fullShare} f11) ∗ ((win1_12.stage (cfg1.slots t 12)).view.loc (c : Thread nD τ) ↦[(win1_12.stage (cfg1.slots t 12)).view.set]{fullShare} f12) ∗ ((win1_13.stage (cfg1.slots t 13)).view.loc (c : Thread nD τ) ↦[(win1_13.stage (cfg1.slots t 13)).view.set]{fullShare} f13) ∗ ((Memref.whole cc1_scratch0).view.loc (c : Thread nD τ) ↦[(Memref.whole cc1_scratch0).view.set]{fullShare} m0) ∗ ((Memref.whole cc1_scratch1).view.loc (c : Thread nD τ) ↦[(Memref.whole cc1_scratch1).view.set]{fullShare} m1) ∗ ((Memref.whole cc1_scratch2).view.loc (c : Thread nD τ) ↦[(Memref.whole cc1_scratch2).view.set]{fullShare} m2) ∗ ((Memref.whole cc1_scratch3).view.loc (c : Thread nD τ) ↦[(Memref.whole cc1_scratch3).view.set]{fullShare} m3)) : sProp 𝕄G) ⊢ wp Idealize.ShloMosaic.frame (wpE (defs₀ (F := F)) 𝒱₀ (c : Thread nD τ) none) Set.univ (bodyAt1 t) (fun _ => bwdPost c (win1_0.stage (cfg1.slots t 0)) (win1_1.stage (cfg1.slots t 1)) (win1_2.stage (cfg1.slots t 2)) (win1_3.stage (cfg1.slots t 3)) (win1_4.stage (cfg1.slots t 4)) (win1_5.stage (cfg1.slots t 5)) (win1_6.stage (cfg1.slots t 6)) (win1_7.stage (cfg1.slots t 7)) (win1_8.stage (cfg1.slots t 8)) (win1_9.stage (cfg1.slots t 9)) (win1_10.stage (cfg1.slots t 10)) (win1_11.stage (cfg1.slots t 11)) (win1_12.stage (cfg1.slots t 12)) (win1_13.stage (cfg1.slots t 13)) (Memref.whole cc1_scratch0) (Memref.whole cc1_scratch1) (Memref.whole cc1_scratch2) (Memref.whole cc1_scratch3) (St1 c V t.val) f0 f1 f2 f3 f4 f5 f6 f7) := by
  rw [show (bodyAt1 t : Prog (TpuEff nD τ sig (Elt F) Λ₀ .tc) PUnit) = cc1_rwkv_scan_bwd_skel (F := F) (grid1.coords t) (win1_0.stage (cfg1.slots t 0)) (hstage1_0 ((cfg1.slots t 0).cast nbuf1_0)) (win1_1.stage (cfg1.slots t 1)) (hstage1_1 ((cfg1.slots t 1).cast nbuf1_1)) (win1_2.stage (cfg1.slots t 2)) (hstage1_2 ((cfg1.slots t 2).cast nbuf1_2)) (win1_3.stage (cfg1.slots t 3)) (hstage1_3 ((cfg1.slots t 3).cast nbuf1_3)) (win1_4.stage (cfg1.slots t 4)) (hstage1_4 ((cfg1.slots t 4).cast nbuf1_4)) (win1_5.stage (cfg1.slots t 5)) (hstage1_5 ((cfg1.slots t 5).cast nbuf1_5)) (win1_6.stage (cfg1.slots t 6)) (hstage1_6 ((cfg1.slots t 6).cast nbuf1_6)) (win1_7.stage (cfg1.slots t 7)) (hstage1_7 ((cfg1.slots t 7).cast nbuf1_7)) (win1_8.stage (cfg1.slots t 8)) (hstage1_8 ((cfg1.slots t 8).cast nbuf1_8)) (win1_9.stage (cfg1.slots t 9)) (hstage1_9 ((cfg1.slots t 9).cast nbuf1_9)) (win1_10.stage (cfg1.slots t 10)) (hstage1_10 ((cfg1.slots t 10).cast nbuf1_10)) (win1_11.stage (cfg1.slots t 11)) (hstage1_11 ((cfg1.slots t 11).cast nbuf1_11)) (win1_12.stage (cfg1.slots t 12)) (hstage1_12 ((cfg1.slots t 12).cast nbuf1_12)) (win1_13.stage (cfg1.slots t 13)) (hstage1_13 ((cfg1.slots t 13).cast nbuf1_13)) (Memref.whole cc1_scratch0) (Memref.isWhole_whole _) (Memref.whole cc1_scratch1) (Memref.isWhole_whole _) (Memref.whole cc1_scratch2) (Memref.isWhole_whole _) (Memref.whole cc1_scratch3) (Memref.isWhole_whole _) from by unfold bodyAt1; rw [cc1_rwkv_scan_bwd_eq_skeleton]]
  by_cases h0 : t.val = 0
  · exact bodyFirst c (grid1.coords t) (win1_0.stage (cfg1.slots t 0)) (hstage1_0 ((cfg1.slots t 0).cast nbuf1_0)) (win1_1.stage (cfg1.slots t 1)) (hstage1_1 ((cfg1.slots t 1).cast nbuf1_1)) (win1_2.stage (cfg1.slots t 2)) (hstage1_2 ((cfg1.slots t 2).cast nbuf1_2)) (win1_3.stage (cfg1.slots t 3)) (hstage1_3 ((cfg1.slots t 3).cast nbuf1_3)) (win1_4.stage (cfg1.slots t 4)) (hstage1_4 ((cfg1.slots t 4).cast nbuf1_4)) (win1_5.stage (cfg1.slots t 5)) (hstage1_5 ((cfg1.slots t 5).cast nbuf1_5)) (win1_6.stage (cfg1.slots t 6)) (hstage1_6 ((cfg1.slots t 6).cast nbuf1_6)) (win1_7.stage (cfg1.slots t 7)) (hstage1_7 ((cfg1.slots t 7).cast nbuf1_7)) (win1_8.stage (cfg1.slots t 8)) (hstage1_8 ((cfg1.slots t 8).cast nbuf1_8)) (win1_9.stage (cfg1.slots t 9)) (hstage1_9 ((cfg1.slots t 9).cast nbuf1_9)) (win1_10.stage (cfg1.slots t 10)) (hstage1_10 ((cfg1.slots t 10).cast nbuf1_10)) (win1_11.stage (cfg1.slots t 11)) (hstage1_11 ((cfg1.slots t 11).cast nbuf1_11)) (win1_12.stage (cfg1.slots t 12)) (hstage1_12 ((cfg1.slots t 12).cast nbuf1_12)) (win1_13.stage (cfg1.slots t 13)) (hstage1_13 ((cfg1.slots t 13).cast nbuf1_13)) (Memref.whole cc1_scratch0) (Memref.isWhole_whole _) (Memref.whole cc1_scratch1) (Memref.isWhole_whole _) (Memref.whole cc1_scratch2) (Memref.isWhole_whole _) (Memref.whole cc1_scratch3) (Memref.isWhole_whole _) 𝒱₀ none (by rw [coord1]; exact (cond1 _ t.isLt).mpr h0) _ f0 f1 f2 f3 f4 f5 f6 f7 f8 f9 f10 f11 f12 f13 m0 m1 m2 m3 (by rw [h0]; rfl) _
  · exact bodyNext c (grid1.coords t) (win1_0.stage (cfg1.slots t 0)) (hstage1_0 ((cfg1.slots t 0).cast nbuf1_0)) (win1_1.stage (cfg1.slots t 1)) (hstage1_1 ((cfg1.slots t 1).cast nbuf1_1)) (win1_2.stage (cfg1.slots t 2)) (hstage1_2 ((cfg1.slots t 2).cast nbuf1_2)) (win1_3.stage (cfg1.slots t 3)) (hstage1_3 ((cfg1.slots t 3).cast nbuf1_3)) (win1_4.stage (cfg1.slots t 4)) (hstage1_4 ((cfg1.slots t 4).cast nbuf1_4)) (win1_5.stage (cfg1.slots t 5)) (hstage1_5 ((cfg1.slots t 5).cast nbuf1_5)) (win1_6.stage (cfg1.slots t 6)) (hstage1_6 ((cfg1.slots t 6).cast nbuf1_6)) (win1_7.stage (cfg1.slots t 7)) (hstage1_7 ((cfg1.slots t 7).cast nbuf1_7)) (win1_8.stage (cfg1.slots t 8)) (hstage1_8 ((cfg1.slots t 8).cast nbuf1_8)) (win1_9.stage (cfg1.slots t 9)) (hstage1_9 ((cfg1.slots t 9).cast nbuf1_9)) (win1_10.stage (cfg1.slots t 10)) (hstage1_10 ((cfg1.slots t 10).cast nbuf1_10)) (win1_11.stage (cfg1.slots t 11)) (hstage1_11 ((cfg1.slots t 11).cast nbuf1_11)) (win1_12.stage (cfg1.slots t 12)) (hstage1_12 ((cfg1.slots t 12).cast nbuf1_12)) (win1_13.stage (cfg1.slots t 13)) (hstage1_13 ((cfg1.slots t 13).cast nbuf1_13)) (Memref.whole cc1_scratch0) (Memref.isWhole_whole _) (Memref.whole cc1_scratch1) (Memref.isWhole_whole _) (Memref.whole cc1_scratch2) (Memref.isWhole_whole _) (Memref.whole cc1_scratch3) (Memref.isWhole_whole _) 𝒱₀ none (by rw [coord1]; exact fun h => h0 ((cond1 _ t.isLt).mp h)) _ f0 f1 f2 f3 f4 f5 f6 f7 f8 f9 f10 f11 f12 f13 m0 m1 m2 m3 (hm0 h0).symm _

/-- The body at a point: from the staged blocks and the invariant to the block's functions and the next invariant. -/
theorem body1 : BodyObligation (dat1 c V) (defs₀ (F := F)) 𝒱₀ () Set.univ := fun t => by
  rw [bigSep_W1, bigSep_W1]
  rw [show (dat1 c V).Φ t.castSucc = Φ1 c V t.val from rfl, show (dat1 c V).Φ t.succ = Φ1 c V (t.val + 1) from rfl,
    show (dat1 c V).owesAt () t.succ = (dat1 c V).owesAt () t.castSucc from rfl]
  have h := point1 c t.val (St1 c V t.val) (bodyAt1 t) (st1_0 t) (st1_1 t) (st1_2 t) (st1_3 t) (st1_4 t) (st1_5 t) (st1_6 t) (st1_7 t) (st1_8 t) (st1_9 t) (st1_10 t) (st1_11 t) (st1_12 t) (st1_13 t) (Memref.whole cc1_scratch0) (Memref.whole cc1_scratch1) (Memref.whole cc1_scratch2) (Memref.whole cc1_scratch3) (fun S => S) (fun _ _ h => h) (run1 c V t) (in1_0 c V t) (in1_1 c V t) (in1_2 c V t) (in1_3 c V t) (in1_4 c V t) (in1_5 c V t) (in1_6 c V t) (in1_7 c V t) ((dat1 c V).before 0 t) (before1_0 c V t) ((dat1 c V).before 1 t) (before1_1 c V t) ((dat1 c V).before 2 t) (before1_2 c V t) ((dat1 c V).before 3 t) (before1_3 c V t) ((dat1 c V).before 4 t) (before1_4 c V t) ((dat1 c V).before 5 t) (before1_5 c V t) ((dat1 c V).before 6 t) (before1_6 c V t) ((dat1 c V).before 7 t) (before1_7 c V t) ((dat1 c V).before 8 t)  ((dat1 c V).before 9 t)  ((dat1 c V).before 10 t)  ((dat1 c V).before 11 t)  ((dat1 c V).before 12 t)  ((dat1 c V).before 13 t)
    (Pipeline.scopedRestBut (Ix := Unit) (Name := ℕ) (U := UR sig nD τ) (Lvl := ℕ) (Val := Elt F) spec1 c [cc1_scratch0, cc1_scratch1, cc1_scratch2, cc1_scratch3])
    ((dat1 c V).owesAt () t.castSucc)
  rw [← St1_succ] at h
  refine h.trans (wp_mono _ _ _ fun _ => ?_)
  · refine sep_mono (sep_mono ?_ .rfl) .rfl
    iintro ⟨%f, %hf, H⟩
    iexists f; isplitr; · ipureintro; exact fun _ => hf
    iexact H
end Data1
end Cert.Proof.Scan
end
-- ==== Proof.Run.lean ====
module
public import proofs.«01_k».proof.Proof.FwdDat
public import proofs.«01_k».proof.Proof.BwdDat
public import proofs.«01_k».proof.Proof.Gen.KernelIdeal.Regions
@[expose] public section
set_option maxRecDepth 16384
set_option maxHeartbeats 200000
noncomputable section
namespace Cert.Proof.Scan
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)
variable {F : FTy → Type} [FloatOps F]
local notation "𝕄G" => MT nD τ sig Unit (Elt F) ℕ (UR sig nD τ) ℕ

/-! The two regions as segments of @main, and the run of the whole. -/

variable (m : (ℓ : Loc nD τ sig) → Buf (Elt F) ℓ) (ρ : Dev nD → PrngReg)

/-- The buffers at launch. -/
abbrev U0 (c : Dev nD) (b : Ref sig .tc) : Buf (Elt F) ((c : Thread nD τ).loc b) := V0 m c b

/-- What the forward scan leaves in its two arrays. -/
abbrev fin0 (c : Dev nD) (w : Fin cfg0.W) : Buf (Elt F) ((cfg0.win w).arr.view.loc (c : Thread nD τ)) := (dat0 c (U0 m c)).arrAt w cfg0.N
/-- The buffers between the two regions. -/
def V1' (c : Dev nD) : Valuation τ sig (Elt F) :=
  Function.update (Function.update (V0 m c) main_v0_0 (fin0 m c 6)) main_v0_1 (fin0 m c 7)
abbrev U1 (c : Dev nD) (b : Ref sig .tc) : Buf (Elt F) ((c : Thread nD τ).loc b) := V1' m c b
/-- What the backward scan leaves in its arrays. -/
abbrev fin1 (c : Dev nD) (w : Fin cfg1.W) : Buf (Elt F) ((cfg1.win w).arr.view.loc (c : Thread nD τ)) := (dat1 c (U1 m c)).arrAt w cfg1.N
/-- The buffers at the end. -/
def V2' (c : Dev nD) : Valuation τ sig (Elt F) :=
  Function.update (Function.update (Function.update (Function.update (Function.update (Function.update (V1' m c)
    main_v1_0 (fin1 m c 8)) main_v1_1 (fin1 m c 9)) main_v1_2 (fin1 m c 10)) main_v1_3 (fin1 m c 11)) main_v1_4 (fin1 m c 12)) main_v1_5 (fin1 m c 13)
abbrev U2 (c : Dev nD) (b : Ref sig .tc) : Buf (Elt F) ((c : Thread nD τ).loc b) := V2' m c b

theorem ne_dev {r r' : Ref sig .tc} (h : r ≠ r') : (Proc.devRef .tc r : DevRef τ sig) ≠ Proc.devRef .tc r' := StableHlo.devRef_ne_of_ne h

theorem U1_of (c : Dev nD) (r : Ref sig .tc) (h0 : r ≠ main_v0_0) (h1 : r ≠ main_v0_1) : U1 m c r = U0 m c r := by
  unfold U1 V1'
  rw [Function.update_of_ne (ne_dev h1), Function.update_of_ne (ne_dev h0)]
theorem U1_0 (c : Dev nD) : U1 m c main_v0_0 = fin0 m c 6 := by
  unfold U1 V1'
  rw [Function.update_of_ne (ne_dev (by decide)), Function.update_self]
theorem U1_1 (c : Dev nD) : U1 m c main_v0_1 = fin0 m c 7 := by
  unfold U1 V1'
  rw [Function.update_self]
theorem U2_of (c : Dev nD) (r : Ref sig .tc) (h0 : r ≠ main_v1_0) (h1 : r ≠ main_v1_1) (h2 : r ≠ main_v1_2) (h3 : r ≠ main_v1_3)
    (h4 : r ≠ main_v1_4) (h5 : r ≠ main_v1_5) : U2 m c r = U1 m c r := by
  unfold U2 V2'
  rw [Function.update_of_ne (ne_dev h5), Function.update_of_ne (ne_dev h4), Function.update_of_ne (ne_dev h3),
    Function.update_of_ne (ne_dev h2), Function.update_of_ne (ne_dev h1), Function.update_of_ne (ne_dev h0)]
theorem U2_0 (c : Dev nD) : U2 m c main_v1_0 = fin1 m c 8 := by
  unfold U2 V2'
  rw [Function.update_of_ne (ne_dev (by decide)), Function.update_of_ne (ne_dev (by decide)), Function.update_of_ne (ne_dev (by decide)), Function.update_of_ne (ne_dev (by decide)), Function.update_of_ne (ne_dev (by decide)), Function.update_self]
theorem U2_1 (c : Dev nD) : U2 m c main_v1_1 = fin1 m c 9 := by
  unfold U2 V2'
  rw [Function.update_of_ne (ne_dev (by decide)), Function.update_of_ne (ne_dev (by decide)), Function.update_of_ne (ne_dev (by decide)), Function.update_of_ne (ne_dev (by decide)), Function.update_self]
theorem U2_2 (c : Dev nD) : U2 m c main_v1_2 = fin1 m c 10 := by
  unfold U2 V2'
  rw [Function.update_of_ne (ne_dev (by decide)), Function.update_of_ne (ne_dev (by decide)), Function.update_of_ne (ne_dev (by decide)), Function.update_self]
theorem U2_3 (c : Dev nD) : U2 m c main_v1_3 = fin1 m c 11 := by
  unfold U2 V2'
  rw [Function.update_of_ne (ne_dev (by decide)), Function.update_of_ne (ne_dev (by decide)), Function.update_self]
theorem U2_4 (c : Dev nD) : U2 m c main_v1_4 = fin1 m c 12 := by
  unfold U2 V2'
  rw [Function.update_of_ne (ne_dev (by decide)), Function.update_self]
theorem U2_5 (c : Dev nD) : U2 m c main_v1_5 = fin1 m c 13 := by
  unfold U2 V2'
  rw [Function.update_self]

/-- The proof data of both pipelines. -/
def pdats : (p : Fin 2) → (c : Dev nD) → Dat τ (Elt F) Unit ℕ (UR sig nD τ) ℕ (Pipeline.pin (pcfgs (F := F)) adm p) c
  | ⟨0, _⟩ => fun c => dat0 c (U0 m c)
  | ⟨1, _⟩ => fun c => dat1 c (U1 m c)

/-- No core owes another anything: no level is assigned. -/
abbrev Lv : GSem nD τ sig → Finset Unit := fun _ => ∅
abbrev lv : GSem nD τ sig → Unit → ℕ := fun _ _ => 0
/-- What rides beside the buffers: the core owes nothing. -/
abbrev Rw (c : Dev nD) : sProp 𝕄G := iprop(∃ W, owes (c : Thread nD τ) (0 : CellTallies nD τ sig Unit) W)

/-- A whole buffer held at something, through its memref. -/
theorem ex_pts (c : Dev nD) (b : Ref sig .tc) :
    (iprop(∃ f : Buf (Elt F) ((c : Thread nD τ).loc b), (((c : Thread nD τ).loc b) ↦{fullShare} f)) : sProp 𝕄G)
     = iprop(∃ f : BufTy.Contents (Elt F) (Memref.whole b).view.ty, (((Memref.whole b).view.loc (c : Thread nD τ)) ↦[(Memref.whole b).view.set]{fullShare} f)) := by
  simp only [Memref.view_whole, View.set_whole]

/-- The scoped buffers no window stages, the call's own scratch apart. -/
theorem rest0 (c : Dev nD) : (Pipeline.scopedRest (Ix := Unit) (Name := ℕ) (U := UR sig nD τ) (Lvl := ℕ) (Val := Elt F) (Pipeline.pin (pcfgs (F := F)) adm 0).spec c : sProp 𝕄G)
    = iprop(((∃ f : BufTy.Contents (Elt F) (Memref.whole cc0_scratch0).view.ty, ((Memref.whole cc0_scratch0).view.loc (c : Thread nD τ) ↦[(Memref.whole cc0_scratch0).view.set]{fullShare} f)) ∗ (∃ f : BufTy.Contents (Elt F) (Memref.whole cc0_scratch1).view.ty, ((Memref.whole cc0_scratch1).view.loc (c : Thread nD τ) ↦[(Memref.whole cc0_scratch1).view.set]{fullShare} f)) ∗ (∃ f : BufTy.Contents (Elt F) (Memref.whole cc0_scratch2).view.ty, ((Memref.whole cc0_scratch2).view.loc (c : Thread nD τ) ↦[(Memref.whole cc0_scratch2).view.set]{fullShare} f))) ∗ Pipeline.scopedRestBut (Ix := Unit) (Name := ℕ) (U := UR sig nD τ) (Lvl := ℕ) (Val := Elt F) spec0 c [cc0_scratch0, cc0_scratch1, cc0_scratch2]) :=
  (Pipeline.scopedRest_split_of_list spec0 c [cc0_scratch0, cc0_scratch1, cc0_scratch2] (by decide) (by decide)).trans (by rw [← ex_pts c cc0_scratch0, ← ex_pts c cc0_scratch1, ← ex_pts c cc0_scratch2]; rfl)

set_option backward.isDefEq.respectTransparency.types false in
/-- Region 0: entered from the buffers as they stand, left with its outputs at what the points wrote. -/
def reg0 : Pipeline.RegionSeg (pcfgs (F := F)) adm (pdats m) () defs₀ 𝒱₀ Lv lv 0 where
  win := launch0.win.to₀
  block_pos := launch0.block_pos
  stage_whole := launch0.stage_whole
  K := PEmpty
  osem k := k.elim
  ho := Pipeline.OwnSemFacts.none _
  hbody c := (body0 c (U0 m c)).loose
  hwaits := Pipeline.hwaits_of_owed_zero _ _ _ _ Lv lv 0 fun _ _ => rfl
  pre c := iprop(StableHlo.held (c : Thread nD τ) (Pipeline.ucRefs τ sig) (V0 m c) ∗ Rw c)
  post c := iprop(StableHlo.held (c : Thread nD τ) (Pipeline.ucRefs τ sig) (V1' m c) ∗ Rw c)
  X _ := BI.emp
  Y _ := BI.emp
  Z c := Pipeline.unscopedRest (Ix := Unit) (Name := ℕ) (U := UR sig nD τ) (Lvl := ℕ) spec0 c (U0 m c)
  hentry c := by
    rw [Pipeline.ownSems0_none, ← Pipeline.unscopedBufs_held (Ix := Unit) (Name := ℕ) (U := UR sig nD τ) (Lvl := ℕ) c (V0 m c)]
    have hsplit := Pipeline.arrays_of_unscopedBufs (p := 0) (pcfgs (F := F)) adm (pdats m) launch0.win launch0.arr_whole c
      ((pdats m 0 c).share_full fun _ => rfl) (U0 m c) fun _ => rfl
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    iexact Hrest
  hin c := by
    rw [show (pdats m 0 c).Φ 0 = Φ0 c (U0 m c) 0 from rfl, rest0]
    unfold Φ0
    iintro ⟨-, -, ⟨⟨%f0, S0⟩, ⟨%f1, S1⟩, ⟨%f2, S2⟩⟩, Hr⟩
    isplitl [S0]
    · iexists f0; isplitr; swap; (· iexact S0)
      ipureintro; exact fun h => absurd rfl h
    isplitl [S1]; · iexists f1; iexact S1
    isplitl [S2]; · iexists f2; iexact S2
    iexact Hr
  hout c := by
    rw [Pipeline.ownSems0_none, show (pdats m 0 c).Φ (Fin.last _) = Φ0 c (U0 m c) cfg0.N from rfl, rest0]
    unfold Φ0
    iintro ⟨⟨%f0, -, S0⟩, ⟨%f1, S1⟩, ⟨%f2, S2⟩, Hr⟩
    isplitr; · iempintro
    isplitr; · iempintro
    isplitr [Hr]
    · isplitl [S0]; · iexists f0; iexact S0
      isplitl [S1]; · iexists f1; iexact S1
      iexists f2; iexact S2
    iexact Hr
  hexit c := by
    rw [← Pipeline.unscopedBufs_held (Ix := Unit) (Name := ℕ) (U := UR sig nD τ) (Lvl := ℕ) c (V1' m c)]
    have hjoin := Pipeline.unscopedBufs_of_arrays (p := 0) (pcfgs (F := F)) adm (Ix := Unit) (Name := ℕ) (U := UR sig nD τ) (Lvl := ℕ) launch0.win launch0.arr_whole c
      (pdats m) ((pdats m 0 c).share_full fun _ => rfl) (U0 m c) (U1 m c) ((pdats m 0 c).arrAt · cfg0.N)
      (fun w => by
        fin_cases w
        · exact ((pdats m 0 c).arrAt_in 0 rfl _).trans (U1_of m c main_arg0 (by decide) (by decide)).symm
        · exact ((pdats m 0 c).arrAt_in 1 rfl _).trans (U1_of m c main_arg1 (by decide) (by decide)).symm
        · exact ((pdats m 0 c).arrAt_in 2 rfl _).trans (U1_of m c main_arg2 (by decide) (by decide)).symm
        · exact ((pdats m 0 c).arrAt_in 3 rfl _).trans (U1_of m c main_arg4 (by decide) (by decide)).symm
        · exact ((pdats m 0 c).arrAt_in 4 rfl _).trans (U1_of m c main_arg5 (by decide) (by decide)).symm
        · exact ((pdats m 0 c).arrAt_in 5 rfl _).trans (U1_of m c main_arg3 (by decide) (by decide)).symm
        · exact (U1_0 m c).symm
        · exact (U1_1 m c).symm
      )
      (fun b hb => U1_of m c b (fun h => hb (h ▸ Finset.mem_image.mpr ⟨6, Finset.mem_univ _, rfl⟩)) (fun h => hb (h ▸ Finset.mem_image.mpr ⟨7, Finset.mem_univ _, rfl⟩)))
    iintro ⟨Ha, HO, -, Hrest⟩
    imodintro
    isplitl [Ha Hrest]
    · iapply hjoin; isplitl [Ha] <;> iassumption
    unfold Pipeline.Dat.owesAt Pipeline.owesWithin
    icases HO with ⟨%W, -, HO⟩; iexists W; iexact HO

/-- The scoped buffers no window stages, the call's own scratch apart. -/
theorem rest1 (c : Dev nD) : (Pipeline.scopedRest (Ix := Unit) (Name := ℕ) (U := UR sig nD τ) (Lvl := ℕ) (Val := Elt F) (Pipeline.pin (pcfgs (F := F)) adm 1).spec c : sProp 𝕄G)
    = iprop(((∃ f : BufTy.Contents (Elt F) (Memref.whole cc1_scratch0).view.ty, ((Memref.whole cc1_scratch0).view.loc (c : Thread nD τ) ↦[(Memref.whole cc1_scratch0).view.set]{fullShare} f)) ∗ (∃ f : BufTy.Contents (Elt F) (Memref.whole cc1_scratch1).view.ty, ((Memref.whole cc1_scratch1).view.loc (c : Thread nD τ) ↦[(Memref.whole cc1_scratch1).view.set]{fullShare} f)) ∗ (∃ f : BufTy.Contents (Elt F) (Memref.whole cc1_scratch2).view.ty, ((Memref.whole cc1_scratch2).view.loc (c : Thread nD τ) ↦[(Memref.whole cc1_scratch2).view.set]{fullShare} f)) ∗ (∃ f : BufTy.Contents (Elt F) (Memref.whole cc1_scratch3).view.ty, ((Memref.whole cc1_scratch3).view.loc (c : Thread nD τ) ↦[(Memref.whole cc1_scratch3).view.set]{fullShare} f))) ∗ Pipeline.scopedRestBut (Ix := Unit) (Name := ℕ) (U := UR sig nD τ) (Lvl := ℕ) (Val := Elt F) spec1 c [cc1_scratch0, cc1_scratch1, cc1_scratch2, cc1_scratch3]) :=
  (Pipeline.scopedRest_split_of_list spec1 c [cc1_scratch0, cc1_scratch1, cc1_scratch2, cc1_scratch3] (by decide) (by decide)).trans (by rw [← ex_pts c cc1_scratch0, ← ex_pts c cc1_scratch1, ← ex_pts c cc1_scratch2, ← ex_pts c cc1_scratch3]; rfl)

set_option backward.isDefEq.respectTransparency.types false in
/-- Region 1: entered from the buffers as they stand, left with its outputs at what the points wrote. -/
def reg1 : Pipeline.RegionSeg (pcfgs (F := F)) adm (pdats m) () defs₀ 𝒱₀ Lv lv 1 where
  win := launch1.win.to₀
  block_pos := launch1.block_pos
  stage_whole := launch1.stage_whole
  K := PEmpty
  osem k := k.elim
  ho := Pipeline.OwnSemFacts.none _
  hbody c := (body1 c (U1 m c)).loose
  hwaits := Pipeline.hwaits_of_owed_zero _ _ _ _ Lv lv 1 fun _ _ => rfl
  pre c := iprop(StableHlo.held (c : Thread nD τ) (Pipeline.ucRefs τ sig) (V1' m c) ∗ Rw c)
  post c := iprop(StableHlo.held (c : Thread nD τ) (Pipeline.ucRefs τ sig) (V2' m c) ∗ Rw c)
  X _ := BI.emp
  Y _ := BI.emp
  Z c := Pipeline.unscopedRest (Ix := Unit) (Name := ℕ) (U := UR sig nD τ) (Lvl := ℕ) spec1 c (U1 m c)
  hentry c := by
    rw [Pipeline.ownSems0_none, ← Pipeline.unscopedBufs_held (Ix := Unit) (Name := ℕ) (U := UR sig nD τ) (Lvl := ℕ) c (V1' m c)]
    have hsplit := Pipeline.arrays_of_unscopedBufs (p := 1) (pcfgs (F := F)) adm (pdats m) launch1.win launch1.arr_whole c
      ((pdats m 1 c).share_full fun _ => rfl) (U1 m c) fun _ => rfl
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    iexact Hrest
  hin c := by
    rw [show (pdats m 1 c).Φ 0 = Φ1 c (U1 m c) 0 from rfl, rest1]
    unfold Φ1
    iintro ⟨-, -, ⟨⟨%f0, S0⟩, ⟨%f1, S1⟩, ⟨%f2, S2⟩, ⟨%f3, S3⟩⟩, Hr⟩
    isplitl [S0]
    · iexists f0; isplitr; swap; (· iexact S0)
      ipureintro; exact fun h => absurd rfl h
    isplitl [S1]; · iexists f1; iexact S1
    isplitl [S2]; · iexists f2; iexact S2
    isplitl [S3]; · iexists f3; iexact S3
    iexact Hr
  hout c := by
    rw [Pipeline.ownSems0_none, show (pdats m 1 c).Φ (Fin.last _) = Φ1 c (U1 m c) cfg1.N from rfl, rest1]
    unfold Φ1
    iintro ⟨⟨%f0, -, S0⟩, ⟨%f1, S1⟩, ⟨%f2, S2⟩, ⟨%f3, S3⟩, Hr⟩
    isplitr; · iempintro
    isplitr; · iempintro
    isplitr [Hr]
    · isplitl [S0]; · iexists f0; iexact S0
      isplitl [S1]; · iexists f1; iexact S1
      isplitl [S2]; · iexists f2; iexact S2
      iexists f3; iexact S3
    iexact Hr
  hexit c := by
    rw [← Pipeline.unscopedBufs_held (Ix := Unit) (Name := ℕ) (U := UR sig nD τ) (Lvl := ℕ) c (V2' m c)]
    have hjoin := Pipeline.unscopedBufs_of_arrays (p := 1) (pcfgs (F := F)) adm (Ix := Unit) (Name := ℕ) (U := UR sig nD τ) (Lvl := ℕ) launch1.win launch1.arr_whole c
      (pdats m) ((pdats m 1 c).share_full fun _ => rfl) (U1 m c) (U2 m c) ((pdats m 1 c).arrAt · cfg1.N)
      (fun w => by
        fin_cases w
        · exact ((pdats m 1 c).arrAt_in 0 rfl _).trans (U2_of m c main_arg0 (by decide) (by decide) (by decide) (by decide) (by decide) (by decide)).symm
        · exact ((pdats m 1 c).arrAt_in 1 rfl _).trans (U2_of m c main_arg1 (by decide) (by decide) (by decide) (by decide) (by decide) (by decide)).symm
        · exact ((pdats m 1 c).arrAt_in 2 rfl _).trans (U2_of m c main_arg2 (by decide) (by decide) (by decide) (by decide) (by decide) (by decide)).symm
        · exact ((pdats m 1 c).arrAt_in 3 rfl _).trans (U2_of m c main_arg4 (by decide) (by decide) (by decide) (by decide) (by decide) (by decide)).symm
        · exact ((pdats m 1 c).arrAt_in 4 rfl _).trans (U2_of m c main_arg5 (by decide) (by decide) (by decide) (by decide) (by decide) (by decide)).symm
        · exact ((pdats m 1 c).arrAt_in 5 rfl _).trans (U2_of m c main_arg3 (by decide) (by decide) (by decide) (by decide) (by decide) (by decide)).symm
        · exact ((pdats m 1 c).arrAt_in 6 rfl _).trans (U2_of m c main_arg6 (by decide) (by decide) (by decide) (by decide) (by decide) (by decide)).symm
        · exact ((pdats m 1 c).arrAt_in 7 rfl _).trans (U2_of m c main_v0_1 (by decide) (by decide) (by decide) (by decide) (by decide) (by decide)).symm
        · exact (U2_0 m c).symm
        · exact (U2_1 m c).symm
        · exact (U2_2 m c).symm
        · exact (U2_3 m c).symm
        · exact (U2_4 m c).symm
        · exact (U2_5 m c).symm
      )
      (fun b hb => U2_of m c b (fun h => hb (h ▸ Finset.mem_image.mpr ⟨8, Finset.mem_univ _, rfl⟩)) (fun h => hb (h ▸ Finset.mem_image.mpr ⟨9, Finset.mem_univ _, rfl⟩)) (fun h => hb (h ▸ Finset.mem_image.mpr ⟨10, Finset.mem_univ _, rfl⟩)) (fun h => hb (h ▸ Finset.mem_image.mpr ⟨11, Finset.mem_univ _, rfl⟩)) (fun h => hb (h ▸ Finset.mem_image.mpr ⟨12, Finset.mem_univ _, rfl⟩)) (fun h => hb (h ▸ Finset.mem_image.mpr ⟨13, Finset.mem_univ _, rfl⟩)))
    iintro ⟨Ha, HO, -, Hrest⟩
    imodintro
    isplitl [Ha Hrest]
    · iapply hjoin; isplitl [Ha] <;> iassumption
    unfold Pipeline.Dat.owesAt Pipeline.owesWithin
    icases HO with ⟨%W, -, HO⟩; iexists W; iexact HO

abbrev EP : Emb (UR sig nD τ) (MT nD τ sig Unit (Elt F) ℕ (UR sig nD τ) ℕ) := emb₁

/-- @main as the list of its two regions. -/
abbrev segs' : List (Pipeline.Seg (pcfgs (F := F)) adm (pdats m) () defs₀ 𝒱₀ Lv lv) := [.region (reg0 m), .region (reg1 m)]

set_option backward.isDefEq.respectTransparency.types false in
/-- The run: from any memory with zero counters @main terminates with every unscoped buffer at `V2'` and every counter
    at zero. -/
theorem run_main : θ_run defs (onTc (τ := τ) (main (F := F))) ⟨m, fun _ => 0, ρ⟩
    (fun r => (∀ (c : Dev nD) (b : Ref sig .tc), b.isScoped = false → r.2.mem ((c.tc : Thread nD τ).loc b) = U2 m c b) ∧ r.2.sem = fun _ => 0) :=
  Pipeline.θ_run_regions_kit_sems (pcfgs (F := F)) adm (pdats m) () cellOf_inj EP defs₀ 𝒱₀ Lv lv m ρ main (segs' m)
    (fun c Q => by rw [main_segs adm (pdats m) () 𝒱₀ Lv lv (reg0 m) (reg1 m) c])
    (by simp only [Pipeline.Seg.pipes_host, Pipeline.Seg.pipes_region, Pipeline.Seg.pipes_nil]; decide) (O₀ := 0) (hL := fun _ _ => rfl) (G := fun _ => iprop(emp))
    (u₀ := initOf (Pipeline.cells cfgs cellOf_inj) (Pipeline.launchToks cfgs cellOf_inj))
    (hu₀ := by
      rw [ownU_emb₁]
      iintro Hu
      imodintro
      isplitl [Hu]; · iexact Hu
      iapply (show (BI.emp : sProp 𝕄G) ⊢ bigSep Finset.univ (fun _ : Dev nD => (BI.emp : sProp 𝕄G)) from by rw [BI.bigSep_emp_const])
      iempintro)
    (T₀ := fun c => iprop(StableHlo.held (c : Thread nD τ) (Pipeline.ucRefs τ sig) (V0 m c) ∗ Rw c))
    (Tₙ := fun c => StableHlo.held (c : Thread nD τ) (Pipeline.ucRefs τ sig) (V2' m c))
    (hch := ⟨fun _ => .rfl, fun _ => .rfl, fun _ => .rfl⟩)
    (hinit := by
      refine Pipeline.initEach Lv lv fun c => ?_
      rw [show unscopedBufs c (fun b => m ((c : Thread nD τ).loc b)) = StableHlo.held (c : Thread nD τ) (Pipeline.ucRefs τ sig) (V0 m c) from Pipeline.unscopedBufs_held c (V0 m c)]
      iintro ⟨⟨Hh, -, HO, -, -, -⟩, -⟩
      imodintro
      isplitl [Hh]; · iexact Hh
      iexists ∅; iexact HO)
    (QY := fun c s => ∀ b ∈ Pipeline.ucRefs τ sig, s.mem ((c : Dev nD), b) = V2' m c b)
    (hfin := fun c s' => by
      unfold StableHlo.held
      iintro ⟨Hh, HSI⟩
      ihave Hr := (pointsTo_read_all (Pipeline.ucRefs τ sig) (fun b => ((c : Thread nD τ).1, b)) (V2' m c) s') $$ [Hh HSI]
      · isplitl [Hh] <;> iassumption
      icases Hr with ⟨%h, HSI⟩
      imodintro
      isplitr; · ipureintro; exact h
      iexact HSI)
    (hQ := fun _ h hz => ⟨fun c b hb => h c (Proc.devRef .tc b) (Finset.mem_filter.mpr ⟨StableHlo.devRef_mem_tcRefs b, by show ¬ b.isScoped = true; rw [hb]; decide⟩), funext fun g => hz g (.inr (regions_no_unscoped g.2))⟩)
end Cert.Proof.Scan
end
-- ==== Proof.RefOps.lean ====
module

public import proofs.«01_k».proof.Proof.Gen.ReferenceIdeal

@[expose] public section

namespace Cert.Proof.Ref

open Idealize.ShloMosaic Idealize.SL.Sem Cert.ReferenceIdeal Cert.ReferenceIdeal.Gen

variable {F : FTy → Type} [FloatOps F]

/-- The operations of @dynamic_index_in_dim. -/
noncomputable def takeOps (arg0 : StableHlo.TRef sig ⟨S2048x1x4x64, .f32⟩) (arg1 : StableHlo.TRef sig ⟨S_, .i32⟩) (φ : fn_dynamic_index_in_dim.Bufs) : List (HloOp τ sig (Elt F)) :=
  [ StableHlo.TRef.nullary φ.c (constantI S_ 32 0#32),
    StableHlo.TRef.nullary φ.c_0 (constantI S_ 32 0#32),
    StableHlo.TRef.nullary φ.c_1 (constantI S_ 32 0#32),
    StableHlo.TRef.unaryIndexed arg0 ![arg1, φ.c, φ.c_0, φ.c_1] φ.v0 (fun x i => Host.dynamicSlice S1x1x4x64 x (fun k => (i k (Shape.Idx.first h_S_)).toInt) sliceFits_S2048x1x4x64_S1x1x4x64),
    StableHlo.TRef.reshape φ.v0 φ.v1 (rfl : (.f32 : EltTy) = .f32) shapeCasts_S1x1x4x64_S1x4x64 ]

/-- The operations of @dynamic_update_index_in_dim. -/
noncomputable def putOps (arg0 : StableHlo.TRef sig ⟨S2048x1x4x64, .f32⟩) (arg1 : StableHlo.TRef sig ⟨S1x4x64, .f32⟩) (arg2 : StableHlo.TRef sig ⟨S_, .i32⟩) (φ : fn_dynamic_update_index_in_dim.Bufs) : List (HloOp τ sig (Elt F)) :=
  [ StableHlo.TRef.unary arg1 φ.v0 (broadcastInDim S1x1x4x64 ![1, 2, 3] bcast_S1x4x64_S1x1x4x64_1_2_3),
    StableHlo.TRef.nullary φ.c (constantI S_ 32 0#32),
    StableHlo.TRef.nullary φ.c_0 (constantI S_ 32 0#32),
    StableHlo.TRef.nullary φ.c_1 (constantI S_ 32 0#32),
    StableHlo.TRef.binaryIndexed arg0 φ.v0 ![arg2, φ.c, φ.c_0, φ.c_1] φ.v1 (fun x u i => Host.dynamicUpdateSlice x u (fun k => (i k (Shape.Idx.first h_S_)).toInt) updateFits_S2048x1x4x64_S1x1x4x64) ]

/-- The operations of @dynamic_update_index_in_dim_0. -/
noncomputable def put0Ops (arg0 : StableHlo.TRef sig ⟨S2048x1x4x1x64, .f32⟩) (arg1 : StableHlo.TRef sig ⟨S1x4x1x64, .f32⟩) (arg2 : StableHlo.TRef sig ⟨S_, .i32⟩) (φ : fn_dynamic_update_index_in_dim_0.Bufs) : List (HloOp τ sig (Elt F)) :=
  [ StableHlo.TRef.unary arg1 φ.v0 (broadcastInDim S1x1x4x1x64 ![1, 2, 3, 4] bcast_S1x4x1x64_S1x1x4x1x64_1_2_3_4),
    StableHlo.TRef.nullary φ.c (constantI S_ 32 0#32),
    StableHlo.TRef.nullary φ.c_0 (constantI S_ 32 0#32),
    StableHlo.TRef.nullary φ.c_1 (constantI S_ 32 0#32),
    StableHlo.TRef.nullary φ.c_2 (constantI S_ 32 0#32),
    StableHlo.TRef.binaryIndexed arg0 φ.v0 ![arg2, φ.c, φ.c_0, φ.c_1, φ.c_2] φ.v1 (fun x u i => Host.dynamicUpdateSlice x u (fun k => (i k (Shape.Idx.first h_S_)).toInt) updateFits_S2048x1x4x1x64_S1x1x4x1x64) ]

/-- The operations of @dynamic_update_index_in_dim_1. -/
noncomputable def put1Ops (arg0 : StableHlo.TRef sig ⟨S2048x1x4x64x64, .f32⟩) (arg1 : StableHlo.TRef sig ⟨S1x4x64x64, .f32⟩) (arg2 : StableHlo.TRef sig ⟨S_, .i32⟩) (φ : fn_dynamic_update_index_in_dim_1.Bufs) : List (HloOp τ sig (Elt F)) :=
  [ StableHlo.TRef.unary arg1 φ.v0 (broadcastInDim S1x1x4x64x64 ![1, 2, 3, 4] bcast_S1x4x64x64_S1x1x4x64x64_1_2_3_4),
    StableHlo.TRef.nullary φ.c (constantI S_ 32 0#32),
    StableHlo.TRef.nullary φ.c_0 (constantI S_ 32 0#32),
    StableHlo.TRef.nullary φ.c_1 (constantI S_ 32 0#32),
    StableHlo.TRef.nullary φ.c_2 (constantI S_ 32 0#32),
    StableHlo.TRef.binaryIndexed arg0 φ.v0 ![arg2, φ.c, φ.c_0, φ.c_1, φ.c_2] φ.v1 (fun x u i => Host.dynamicUpdateSlice x u (fun k => (i k (Shape.Idx.first h_S_)).toInt) updateFits_S2048x1x4x64x64_S1x1x4x64x64) ]

/-- The operations of @dynamic_update_index_in_dim_2. -/
noncomputable def put2Ops (arg0 : StableHlo.TRef sig ⟨S2048x1x4x64x1, .f32⟩) (arg1 : StableHlo.TRef sig ⟨S1x4x64x1, .f32⟩) (arg2 : StableHlo.TRef sig ⟨S_, .i32⟩) (φ : fn_dynamic_update_index_in_dim_2.Bufs) : List (HloOp τ sig (Elt F)) :=
  [ StableHlo.TRef.unary arg1 φ.v0 (broadcastInDim S1x1x4x64x1 ![1, 2, 3, 4] bcast_S1x4x64x1_S1x1x4x64x1_1_2_3_4),
    StableHlo.TRef.nullary φ.c (constantI S_ 32 0#32),
    StableHlo.TRef.nullary φ.c_0 (constantI S_ 32 0#32),
    StableHlo.TRef.nullary φ.c_1 (constantI S_ 32 0#32),
    StableHlo.TRef.nullary φ.c_2 (constantI S_ 32 0#32),
    StableHlo.TRef.binaryIndexed arg0 φ.v0 ![arg2, φ.c, φ.c_0, φ.c_1, φ.c_2] φ.v1 (fun x u i => Host.dynamicUpdateSlice x u (fun k => (i k (Shape.Idx.first h_S_)).toInt) updateFits_S2048x1x4x64x1_S1x1x4x64x1) ]

/-- The operations of @dynamic_index_in_dim_3. -/
noncomputable def take3Ops (arg0 : StableHlo.TRef sig ⟨S2048x1x4x1x64, .f32⟩) (arg1 : StableHlo.TRef sig ⟨S_, .i32⟩) (φ : fn_dynamic_index_in_dim_3.Bufs) : List (HloOp τ sig (Elt F)) :=
  [ StableHlo.TRef.nullary φ.c (constantI S_ 32 0#32),
    StableHlo.TRef.nullary φ.c_0 (constantI S_ 32 0#32),
    StableHlo.TRef.nullary φ.c_1 (constantI S_ 32 0#32),
    StableHlo.TRef.nullary φ.c_2 (constantI S_ 32 0#32),
    StableHlo.TRef.unaryIndexed arg0 ![arg1, φ.c, φ.c_0, φ.c_1, φ.c_2] φ.v0 (fun x i => Host.dynamicSlice S1x1x4x1x64 x (fun k => (i k (Shape.Idx.first h_S_)).toInt) sliceFits_S2048x1x4x1x64_S1x1x4x1x64),
    StableHlo.TRef.reshape φ.v0 φ.v1 (rfl : (.f32 : EltTy) = .f32) shapeCasts_S1x1x4x1x64_S1x4x1x64 ]

/-- The operations of @dynamic_index_in_dim_4. -/
noncomputable def take4Ops (arg0 : StableHlo.TRef sig ⟨S2048x1x4x64x64, .f32⟩) (arg1 : StableHlo.TRef sig ⟨S_, .i32⟩) (φ : fn_dynamic_index_in_dim_4.Bufs) : List (HloOp τ sig (Elt F)) :=
  [ StableHlo.TRef.nullary φ.c (constantI S_ 32 0#32),
    StableHlo.TRef.nullary φ.c_0 (constantI S_ 32 0#32),
    StableHlo.TRef.nullary φ.c_1 (constantI S_ 32 0#32),
    StableHlo.TRef.nullary φ.c_2 (constantI S_ 32 0#32),
    StableHlo.TRef.unaryIndexed arg0 ![arg1, φ.c, φ.c_0, φ.c_1, φ.c_2] φ.v0 (fun x i => Host.dynamicSlice S1x1x4x64x64 x (fun k => (i k (Shape.Idx.first h_S_)).toInt) sliceFits_S2048x1x4x64x64_S1x1x4x64x64),
    StableHlo.TRef.reshape φ.v0 φ.v1 (rfl : (.f32 : EltTy) = .f32) shapeCasts_S1x1x4x64x64_S1x4x64x64 ]

/-- The operations of @dynamic_index_in_dim_5. -/
noncomputable def take5Ops (arg0 : StableHlo.TRef sig ⟨S2048x1x4x64x1, .f32⟩) (arg1 : StableHlo.TRef sig ⟨S_, .i32⟩) (φ : fn_dynamic_index_in_dim_5.Bufs) : List (HloOp τ sig (Elt F)) :=
  [ StableHlo.TRef.nullary φ.c (constantI S_ 32 0#32),
    StableHlo.TRef.nullary φ.c_0 (constantI S_ 32 0#32),
    StableHlo.TRef.nullary φ.c_1 (constantI S_ 32 0#32),
    StableHlo.TRef.nullary φ.c_2 (constantI S_ 32 0#32),
    StableHlo.TRef.unaryIndexed arg0 ![arg1, φ.c, φ.c_0, φ.c_1, φ.c_2] φ.v0 (fun x i => Host.dynamicSlice S1x1x4x64x1 x (fun k => (i k (Shape.Idx.first h_S_)).toInt) sliceFits_S2048x1x4x64x1_S1x1x4x64x1),
    StableHlo.TRef.reshape φ.v0 φ.v1 (rfl : (.f32 : EltTy) = .f32) shapeCasts_S1x1x4x64x1_S1x4x64x1 ]

/-- @main's operations before the first loop. -/
noncomputable def preOps : List (HloOp τ sig (Elt F)) :=
  [ StableHlo.unary main_arg0 main_v0 ((transpose S2048x4x64 [1, 0, 2] · transposes_S4x2048x64_S2048x4x64_1_0_2) : (⟨S4x2048x64, .f32⟩ : BufTy).Contents (Elt F) → (⟨S2048x4x64, .f32⟩ : BufTy).Contents (Elt F)),
    StableHlo.unary main_v0 main_v1 (broadcastInDim S1x2048x4x64 ![1, 2, 3] bcast_S2048x4x64_S1x2048x4x64_1_2_3 : (⟨S2048x4x64, .f32⟩ : BufTy).Contents (Elt F) → (⟨S1x2048x4x64, .f32⟩ : BufTy).Contents (Elt F)),
    StableHlo.unary main_arg1 main_v2 ((transpose S2048x4x64 [1, 0, 2] · transposes_S4x2048x64_S2048x4x64_1_0_2) : (⟨S4x2048x64, .f32⟩ : BufTy).Contents (Elt F) → (⟨S2048x4x64, .f32⟩ : BufTy).Contents (Elt F)),
    StableHlo.unary main_v2 main_v3 (broadcastInDim S1x2048x4x64 ![1, 2, 3] bcast_S2048x4x64_S1x2048x4x64_1_2_3 : (⟨S2048x4x64, .f32⟩ : BufTy).Contents (Elt F) → (⟨S1x2048x4x64, .f32⟩ : BufTy).Contents (Elt F)),
    StableHlo.unary main_arg2 main_v4 ((transpose S2048x4x64 [1, 0, 2] · transposes_S4x2048x64_S2048x4x64_1_0_2) : (⟨S4x2048x64, .f32⟩ : BufTy).Contents (Elt F) → (⟨S2048x4x64, .f32⟩ : BufTy).Contents (Elt F)),
    StableHlo.unary main_v4 main_v5 (broadcastInDim S1x2048x4x64 ![1, 2, 3] bcast_S2048x4x64_S1x2048x4x64_1_2_3 : (⟨S2048x4x64, .f32⟩ : BufTy).Contents (Elt F) → (⟨S1x2048x4x64, .f32⟩ : BufTy).Contents (Elt F)),
    StableHlo.reshape main_arg3 main_v6 (rfl : (.f32 : EltTy) = .f32) shapeCasts_S2048x256_S1x2048x4x64,
    StableHlo.unary main_arg4 main_v7 ((transpose S2048x4x64 [1, 0, 2] · transposes_S4x2048x64_S2048x4x64_1_0_2) : (⟨S4x2048x64, .f32⟩ : BufTy).Contents (Elt F) → (⟨S2048x4x64, .f32⟩ : BufTy).Contents (Elt F)),
    StableHlo.unary main_v7 main_v8 (broadcastInDim S1x2048x4x64 ![1, 2, 3] bcast_S2048x4x64_S1x2048x4x64_1_2_3 : (⟨S2048x4x64, .f32⟩ : BufTy).Contents (Elt F) → (⟨S1x2048x4x64, .f32⟩ : BufTy).Contents (Elt F)),
    StableHlo.unary main_arg5 main_v9 ((transpose S2048x4x64 [1, 0, 2] · transposes_S4x2048x64_S2048x4x64_1_0_2) : (⟨S4x2048x64, .f32⟩ : BufTy).Contents (Elt F) → (⟨S2048x4x64, .f32⟩ : BufTy).Contents (Elt F)),
    StableHlo.unary main_v9 main_v10 (broadcastInDim S1x2048x4x64 ![1, 2, 3] bcast_S2048x4x64_S1x2048x4x64_1_2_3 : (⟨S2048x4x64, .f32⟩ : BufTy).Contents (Elt F) → (⟨S1x2048x4x64, .f32⟩ : BufTy).Contents (Elt F)),
    StableHlo.unary main_v1 main_v11 ((transpose S2048x1x4x64 [1, 0, 2, 3] · transposes_S1x2048x4x64_S2048x1x4x64_1_0_2_3) : (⟨S1x2048x4x64, .f32⟩ : BufTy).Contents (Elt F) → (⟨S2048x1x4x64, .f32⟩ : BufTy).Contents (Elt F)),
    StableHlo.unary main_v3 main_v12 ((transpose S2048x1x4x64 [1, 0, 2, 3] · transposes_S1x2048x4x64_S2048x1x4x64_1_0_2_3) : (⟨S1x2048x4x64, .f32⟩ : BufTy).Contents (Elt F) → (⟨S2048x1x4x64, .f32⟩ : BufTy).Contents (Elt F)),
    StableHlo.unary main_v5 main_v13 ((transpose S2048x1x4x64 [1, 0, 2, 3] · transposes_S1x2048x4x64_S2048x1x4x64_1_0_2_3) : (⟨S1x2048x4x64, .f32⟩ : BufTy).Contents (Elt F) → (⟨S2048x1x4x64, .f32⟩ : BufTy).Contents (Elt F)),
    StableHlo.unary main_v6 main_v14 ((transpose S2048x1x4x64 [1, 0, 2, 3] · transposes_S1x2048x4x64_S2048x1x4x64_1_0_2_3) : (⟨S1x2048x4x64, .f32⟩ : BufTy).Contents (Elt F) → (⟨S2048x1x4x64, .f32⟩ : BufTy).Contents (Elt F)),
    StableHlo.unary main_v8 main_v15 ((transpose S2048x1x4x64 [1, 0, 2, 3] · transposes_S1x2048x4x64_S2048x1x4x64_1_0_2_3) : (⟨S1x2048x4x64, .f32⟩ : BufTy).Contents (Elt F) → (⟨S2048x1x4x64, .f32⟩ : BufTy).Contents (Elt F)),
    StableHlo.unary main_v10 main_v16 ((transpose S2048x1x4x64 [1, 0, 2, 3] · transposes_S1x2048x4x64_S2048x1x4x64_1_0_2_3) : (⟨S1x2048x4x64, .f32⟩ : BufTy).Contents (Elt F) → (⟨S2048x1x4x64, .f32⟩ : BufTy).Contents (Elt F)),
    StableHlo.nullary main_cst (constant S_ .f32 0x00000000#32),
    StableHlo.unary main_cst main_v17 (broadcastInDim S1x4x64x64 ![] bcast_S_S1x4x64x64 : (⟨S_, .f32⟩ : BufTy).Contents (Elt F) → (⟨S1x4x64x64, .f32⟩ : BufTy).Contents (Elt F)),
    StableHlo.nullary main_cst_0 (constant S_ .f32 0x00000000#32),
    StableHlo.unary main_cst_0 main_v18 (broadcastInDim S2048x1x4x64 ![] bcast_S_S2048x1x4x64 : (⟨S_, .f32⟩ : BufTy).Contents (Elt F) → (⟨S2048x1x4x64, .f32⟩ : BufTy).Contents (Elt F)),
    StableHlo.nullary main_cst_1 (constant S_ .f32 0x00000000#32),
    StableHlo.unary main_cst_1 main_v19 (broadcastInDim S2048x1x4x1x64 ![] bcast_S_S2048x1x4x1x64 : (⟨S_, .f32⟩ : BufTy).Contents (Elt F) → (⟨S2048x1x4x1x64, .f32⟩ : BufTy).Contents (Elt F)),
    StableHlo.nullary main_cst_2 (constant S_ .f32 0x00000000#32),
    StableHlo.unary main_cst_2 main_v20 (broadcastInDim S2048x1x4x64x64 ![] bcast_S_S2048x1x4x64x64 : (⟨S_, .f32⟩ : BufTy).Contents (Elt F) → (⟨S2048x1x4x64x64, .f32⟩ : BufTy).Contents (Elt F)),
    StableHlo.nullary main_cst_3 (constant S_ .f32 0x00000000#32),
    StableHlo.unary main_cst_3 main_v21 (broadcastInDim S2048x1x4x1x64 ![] bcast_S_S2048x1x4x1x64 : (⟨S_, .f32⟩ : BufTy).Contents (Elt F) → (⟨S2048x1x4x1x64, .f32⟩ : BufTy).Contents (Elt F)),
    StableHlo.nullary main_cst_4 (constant S_ .f32 0x00000000#32),
    StableHlo.unary main_cst_4 main_v22 (broadcastInDim S2048x1x4x1x64 ![] bcast_S_S2048x1x4x1x64 : (⟨S_, .f32⟩ : BufTy).Contents (Elt F) → (⟨S2048x1x4x1x64, .f32⟩ : BufTy).Contents (Elt F)),
    StableHlo.nullary main_cst_5 (constant S_ .f32 0x00000000#32),
    StableHlo.unary main_cst_5 main_v23 (broadcastInDim S2048x1x4x64x1 ![] bcast_S_S2048x1x4x64x1 : (⟨S_, .f32⟩ : BufTy).Contents (Elt F) → (⟨S2048x1x4x64x1, .f32⟩ : BufTy).Contents (Elt F)),
    StableHlo.nullary main_cst_6 (constant S_ .f32 0x00000000#32),
    StableHlo.unary main_cst_6 main_v24 (broadcastInDim S2048x1x4x1x64 ![] bcast_S_S2048x1x4x1x64 : (⟨S_, .f32⟩ : BufTy).Contents (Elt F) → (⟨S2048x1x4x1x64, .f32⟩ : BufTy).Contents (Elt F)),
    StableHlo.nullary main_cst_7 (constant S_ .f32 0x00000000#32),
    StableHlo.unary main_cst_7 main_v25 (broadcastInDim S2048x1x4x64x1 ![] bcast_S_S2048x1x4x64x1 : (⟨S_, .f32⟩ : BufTy).Contents (Elt F) → (⟨S2048x1x4x64x1, .f32⟩ : BufTy).Contents (Elt F)),
    StableHlo.nullary main_cst_8 (constant S_ .f32 0x00000000#32),
    StableHlo.unary main_cst_8 main_v26 (broadcastInDim S2048x1x4x1x64 ![] bcast_S_S2048x1x4x1x64 : (⟨S_, .f32⟩ : BufTy).Contents (Elt F) → (⟨S2048x1x4x1x64, .f32⟩ : BufTy).Contents (Elt F)),
    StableHlo.nullary main_cst_9 (constant S_ .f32 0x00000000#32),
    StableHlo.unary main_cst_9 main_v27 (broadcastInDim S2048x1x4x64x64 ![] bcast_S_S2048x1x4x64x64 : (⟨S_, .f32⟩ : BufTy).Contents (Elt F) → (⟨S2048x1x4x64x64, .f32⟩ : BufTy).Contents (Elt F)),
    StableHlo.nullary main_c (constantI S_ 32 0#32),
    StableHlo.unary main_v11 main_v28_0 id,
    StableHlo.unary main_v12 main_v28_1 id,
    StableHlo.unary main_v13 main_v28_2 id,
    StableHlo.unary main_v14 main_v28_3 id,
    StableHlo.unary main_v15 main_v28_4 id,
    StableHlo.unary main_v16 main_v28_5 id,
    StableHlo.unary main_c main_v28_6 id,
    StableHlo.unary main_v17 main_v28_7 id,
    StableHlo.unary main_v18 main_v28_8 id,
    StableHlo.unary main_v19 main_v28_9 id,
    StableHlo.unary main_v20 main_v28_10 id,
    StableHlo.unary main_v21 main_v28_11 id,
    StableHlo.unary main_v22 main_v28_12 id,
    StableHlo.unary main_v23 main_v28_13 id,
    StableHlo.unary main_v24 main_v28_14 id,
    StableHlo.unary main_v25 main_v28_15 id,
    StableHlo.unary main_v26 main_v28_16 id,
    StableHlo.unary main_v27 main_v28_17 id ]

/-- @main's operations between the two loops. -/
noncomputable def midOps : List (HloOp τ sig (Elt F)) :=
  [ StableHlo.unary main_v28_8 main_v29 ((transpose S1x2048x4x64 [1, 0, 2, 3] · transposes_S2048x1x4x64_S1x2048x4x64_1_0_2_3) : (⟨S2048x1x4x64, .f32⟩ : BufTy).Contents (Elt F) → (⟨S1x2048x4x64, .f32⟩ : BufTy).Contents (Elt F)),
    StableHlo.reshape main_v29 main_v30 (rfl : (.f32 : EltTy) = .f32) shapeCasts_S1x2048x4x64_S2048x256,
    StableHlo.nullary main_cst_10 (constant S_ .f32 0x00000000#32),
    StableHlo.unary main_cst_10 main_v31 (broadcastInDim S1x4x64x64 ![] bcast_S_S1x4x64x64 : (⟨S_, .f32⟩ : BufTy).Contents (Elt F) → (⟨S1x4x64x64, .f32⟩ : BufTy).Contents (Elt F)),
    StableHlo.reshape main_arg6 main_v32 (rfl : (.f32 : EltTy) = .f32) shapeCasts_S2048x256_S1x2048x4x64,
    StableHlo.unary main_v32 main_v33 ((transpose S2048x1x4x64 [1, 0, 2, 3] · transposes_S1x2048x4x64_S2048x1x4x64_1_0_2_3) : (⟨S1x2048x4x64, .f32⟩ : BufTy).Contents (Elt F) → (⟨S2048x1x4x64, .f32⟩ : BufTy).Contents (Elt F)),
    StableHlo.nullary main_cst_11 (constant S_ .f32 0x00000000#32),
    StableHlo.unary main_cst_11 main_v34 (broadcastInDim S1x4x64x64 ![] bcast_S_S1x4x64x64 : (⟨S_, .f32⟩ : BufTy).Contents (Elt F) → (⟨S1x4x64x64, .f32⟩ : BufTy).Contents (Elt F)),
    StableHlo.nullary main_cst_12 (constant S_ .f32 0x00000000#32),
    StableHlo.unary main_cst_12 main_v35 (broadcastInDim S2048x1x4x64 ![] bcast_S_S2048x1x4x64 : (⟨S_, .f32⟩ : BufTy).Contents (Elt F) → (⟨S2048x1x4x64, .f32⟩ : BufTy).Contents (Elt F)),
    StableHlo.nullary main_cst_13 (constant S_ .f32 0x00000000#32),
    StableHlo.unary main_cst_13 main_v36 (broadcastInDim S2048x1x4x64 ![] bcast_S_S2048x1x4x64 : (⟨S_, .f32⟩ : BufTy).Contents (Elt F) → (⟨S2048x1x4x64, .f32⟩ : BufTy).Contents (Elt F)),
    StableHlo.nullary main_cst_14 (constant S_ .f32 0x00000000#32),
    StableHlo.unary main_cst_14 main_v37 (broadcastInDim S2048x1x4x64 ![] bcast_S_S2048x1x4x64 : (⟨S_, .f32⟩ : BufTy).Contents (Elt F) → (⟨S2048x1x4x64, .f32⟩ : BufTy).Contents (Elt F)),
    StableHlo.nullary main_cst_15 (constant S_ .f32 0x00000000#32),
    StableHlo.unary main_cst_15 main_v38 (broadcastInDim S2048x1x4x64 ![] bcast_S_S2048x1x4x64 : (⟨S_, .f32⟩ : BufTy).Contents (Elt F) → (⟨S2048x1x4x64, .f32⟩ : BufTy).Contents (Elt F)),
    StableHlo.nullary main_cst_16 (constant S_ .f32 0x00000000#32),
    StableHlo.unary main_cst_16 main_v39 (broadcastInDim S2048x1x4x64 ![] bcast_S_S2048x1x4x64 : (⟨S_, .f32⟩ : BufTy).Contents (Elt F) → (⟨S2048x1x4x64, .f32⟩ : BufTy).Contents (Elt F)),
    StableHlo.nullary main_cst_17 (constant S_ .f32 0x00000000#32),
    StableHlo.unary main_cst_17 main_v40 (broadcastInDim S2048x1x4x64 ![] bcast_S_S2048x1x4x64 : (⟨S_, .f32⟩ : BufTy).Contents (Elt F) → (⟨S2048x1x4x64, .f32⟩ : BufTy).Contents (Elt F)),
    StableHlo.nullary main_c_18 (constantI S_ 32 0#32),
    StableHlo.unary main_v33 main_v41_0 id,
    StableHlo.unary main_v28_9 main_v41_1 id,
    StableHlo.unary main_v28_10 main_v41_2 id,
    StableHlo.unary main_v28_11 main_v41_3 id,
    StableHlo.unary main_v16 main_v41_4 id,
    StableHlo.unary main_v15 main_v41_5 id,
    StableHlo.unary main_v28_12 main_v41_6 id,
    StableHlo.unary main_v28_13 main_v41_7 id,
    StableHlo.unary main_v28_14 main_v41_8 id,
    StableHlo.unary main_v28_15 main_v41_9 id,
    StableHlo.unary main_v28_16 main_v41_10 id,
    StableHlo.unary main_v28_17 main_v41_11 id,
    StableHlo.unary main_c_18 main_v41_12 id,
    StableHlo.unary main_v34 main_v41_13 id,
    StableHlo.unary main_v35 main_v41_14 id,
    StableHlo.unary main_v36 main_v41_15 id,
    StableHlo.unary main_v37 main_v41_16 id,
    StableHlo.unary main_v38 main_v41_17 id,
    StableHlo.unary main_v39 main_v41_18 id,
    StableHlo.unary main_v40 main_v41_19 id ]

/-- @main's operations after the second loop. -/
noncomputable def postOps : List (HloOp τ sig (Elt F)) :=
  [ StableHlo.unary main_v41_19 main_v42 ((transpose S1x2048x4x64 [1, 0, 2, 3] · transposes_S2048x1x4x64_S1x2048x4x64_1_0_2_3) : (⟨S2048x1x4x64, .f32⟩ : BufTy).Contents (Elt F) → (⟨S1x2048x4x64, .f32⟩ : BufTy).Contents (Elt F)),
    StableHlo.unary main_v41_18 main_v43 ((transpose S1x2048x4x64 [1, 0, 2, 3] · transposes_S2048x1x4x64_S1x2048x4x64_1_0_2_3) : (⟨S2048x1x4x64, .f32⟩ : BufTy).Contents (Elt F) → (⟨S1x2048x4x64, .f32⟩ : BufTy).Contents (Elt F)),
    StableHlo.unary main_v41_17 main_v44 ((transpose S1x2048x4x64 [1, 0, 2, 3] · transposes_S2048x1x4x64_S1x2048x4x64_1_0_2_3) : (⟨S2048x1x4x64, .f32⟩ : BufTy).Contents (Elt F) → (⟨S1x2048x4x64, .f32⟩ : BufTy).Contents (Elt F)),
    StableHlo.unary main_v41_16 main_v45 ((transpose S1x2048x4x64 [1, 0, 2, 3] · transposes_S2048x1x4x64_S1x2048x4x64_1_0_2_3) : (⟨S2048x1x4x64, .f32⟩ : BufTy).Contents (Elt F) → (⟨S1x2048x4x64, .f32⟩ : BufTy).Contents (Elt F)),
    StableHlo.unary main_v41_15 main_v46 ((transpose S1x2048x4x64 [1, 0, 2, 3] · transposes_S2048x1x4x64_S1x2048x4x64_1_0_2_3) : (⟨S2048x1x4x64, .f32⟩ : BufTy).Contents (Elt F) → (⟨S1x2048x4x64, .f32⟩ : BufTy).Contents (Elt F)),
    StableHlo.unary main_v41_14 main_v47 ((transpose S1x2048x4x64 [1, 0, 2, 3] · transposes_S2048x1x4x64_S1x2048x4x64_1_0_2_3) : (⟨S2048x1x4x64, .f32⟩ : BufTy).Contents (Elt F) → (⟨S1x2048x4x64, .f32⟩ : BufTy).Contents (Elt F)),
    StableHlo.nullary main_cst_19 (constant S_ .f32 0x00000000#32),
    StableHlo.binary main_v42 main_cst_19 main_v48 ((fun x v => Host.reduceAdd x v reducesTo_S1x2048x4x64_S2048x4x64_d0 h_S_) : (⟨S1x2048x4x64, .f32⟩ : BufTy).Contents (Elt F) → (⟨S_, .f32⟩ : BufTy).Contents (Elt F) → (⟨S2048x4x64, .f32⟩ : BufTy).Contents (Elt F)),
    StableHlo.unary main_v48 main_v49 ((transpose S4x2048x64 [1, 0, 2] · transposes_S2048x4x64_S4x2048x64_1_0_2) : (⟨S2048x4x64, .f32⟩ : BufTy).Contents (Elt F) → (⟨S4x2048x64, .f32⟩ : BufTy).Contents (Elt F)),
    StableHlo.nullary main_cst_20 (constant S_ .f32 0x00000000#32),
    StableHlo.binary main_v43 main_cst_20 main_v50 ((fun x v => Host.reduceAdd x v reducesTo_S1x2048x4x64_S2048x4x64_d0 h_S_) : (⟨S1x2048x4x64, .f32⟩ : BufTy).Contents (Elt F) → (⟨S_, .f32⟩ : BufTy).Contents (Elt F) → (⟨S2048x4x64, .f32⟩ : BufTy).Contents (Elt F)),
    StableHlo.unary main_v50 main_v51 ((transpose S4x2048x64 [1, 0, 2] · transposes_S2048x4x64_S4x2048x64_1_0_2) : (⟨S2048x4x64, .f32⟩ : BufTy).Contents (Elt F) → (⟨S4x2048x64, .f32⟩ : BufTy).Contents (Elt F)),
    StableHlo.reshape main_v44 main_v52 (rfl : (.f32 : EltTy) = .f32) shapeCasts_S1x2048x4x64_S2048x256,
    StableHlo.nullary main_cst_21 (constant S_ .f32 0x00000000#32),
    StableHlo.binary main_v45 main_cst_21 main_v53 ((fun x v => Host.reduceAdd x v reducesTo_S1x2048x4x64_S2048x4x64_d0 h_S_) : (⟨S1x2048x4x64, .f32⟩ : BufTy).Contents (Elt F) → (⟨S_, .f32⟩ : BufTy).Contents (Elt F) → (⟨S2048x4x64, .f32⟩ : BufTy).Contents (Elt F)),
    StableHlo.unary main_v53 main_v54 ((transpose S4x2048x64 [1, 0, 2] · transposes_S2048x4x64_S4x2048x64_1_0_2) : (⟨S2048x4x64, .f32⟩ : BufTy).Contents (Elt F) → (⟨S4x2048x64, .f32⟩ : BufTy).Contents (Elt F)),
    StableHlo.nullary main_cst_22 (constant S_ .f32 0x00000000#32),
    StableHlo.binary main_v46 main_cst_22 main_v55 ((fun x v => Host.reduceAdd x v reducesTo_S1x2048x4x64_S2048x4x64_d0 h_S_) : (⟨S1x2048x4x64, .f32⟩ : BufTy).Contents (Elt F) → (⟨S_, .f32⟩ : BufTy).Contents (Elt F) → (⟨S2048x4x64, .f32⟩ : BufTy).Contents (Elt F)),
    StableHlo.unary main_v55 main_v56 ((transpose S4x2048x64 [1, 0, 2] · transposes_S2048x4x64_S4x2048x64_1_0_2) : (⟨S2048x4x64, .f32⟩ : BufTy).Contents (Elt F) → (⟨S4x2048x64, .f32⟩ : BufTy).Contents (Elt F)),
    StableHlo.nullary main_cst_23 (constant S_ .f32 0x00000000#32),
    StableHlo.binary main_v47 main_cst_23 main_v57 ((fun x v => Host.reduceAdd x v reducesTo_S1x2048x4x64_S2048x4x64_d0 h_S_) : (⟨S1x2048x4x64, .f32⟩ : BufTy).Contents (Elt F) → (⟨S_, .f32⟩ : BufTy).Contents (Elt F) → (⟨S2048x4x64, .f32⟩ : BufTy).Contents (Elt F)),
    StableHlo.unary main_v57 main_v58 ((transpose S4x2048x64 [1, 0, 2] · transposes_S2048x4x64_S4x2048x64_1_0_2) : (⟨S2048x4x64, .f32⟩ : BufTy).Contents (Elt F) → (⟨S4x2048x64, .f32⟩ : BufTy).Contents (Elt F)) ]

/-- The forward loop's trip: the slices of the arrays scanned over. -/
noncomputable def fwdTakes : List (HloOp τ sig (Elt F)) :=
  takeOps (.of main_v28_0) (.of main_v28_6) main_while0b_call0 ++
  takeOps (.of main_v28_1) (.of main_v28_6) main_while0b_call1 ++
  takeOps (.of main_v28_2) (.of main_v28_6) main_while0b_call2 ++
  takeOps (.of main_v28_3) (.of main_v28_6) main_while0b_call3 ++
  takeOps (.of main_v28_4) (.of main_v28_6) main_while0b_call4 ++
  takeOps (.of main_v28_5) (.of main_v28_6) main_while0b_call5

/-- The forward loop's trip: the step. -/
noncomputable def fwdCore : List (HloOp τ sig (Elt F)) :=
  [ StableHlo.unary main_while0b_v63 main_while0b_v65 (Host.negf : (⟨S1x4x64, .f32⟩ : BufTy).Contents (Elt F) → (⟨S1x4x64, .f32⟩ : BufTy).Contents (Elt F)),
    StableHlo.unary main_while0b_v65 main_while0b_v66 (broadcastInDim S1x4x1x64 ![0, 1, 3] bcast_S1x4x64_S1x4x1x64_0_1_3 : (⟨S1x4x64, .f32⟩ : BufTy).Contents (Elt F) → (⟨S1x4x1x64, .f32⟩ : BufTy).Contents (Elt F)),
    StableHlo.unary main_while0b_v66 main_while0b_v67 (broadcastInDim S1x4x64x64 ![0, 1, 2, 3] bcast_S1x4x1x64_S1x4x64x64_0_1_2_3 : (⟨S1x4x1x64, .f32⟩ : BufTy).Contents (Elt F) → (⟨S1x4x64x64, .f32⟩ : BufTy).Contents (Elt F)),
    StableHlo.binary main_v28_7 main_while0b_v67 main_while0b_v68 (mulf : (⟨S1x4x64x64, .f32⟩ : BufTy).Contents (Elt F) → (⟨S1x4x64x64, .f32⟩ : BufTy).Contents (Elt F) → (⟨S1x4x64x64, .f32⟩ : BufTy).Contents (Elt F)),
    StableHlo.nullary main_while0b_cst_41 (constant S_ .f32 0x00000000#32),
    StableHlo.binary main_while0b_v68 main_while0b_cst_41 main_while0b_v69 ((fun x v => Host.reduceAdd x v reducesTo_S1x4x64x64_S1x4x64_d3 h_S_) : (⟨S1x4x64x64, .f32⟩ : BufTy).Contents (Elt F) → (⟨S_, .f32⟩ : BufTy).Contents (Elt F) → (⟨S1x4x64, .f32⟩ : BufTy).Contents (Elt F)),
    StableHlo.unary main_while0b_v60 main_while0b_v70 (broadcastInDim S1x4x1x64 ![0, 1, 3] bcast_S1x4x64_S1x4x1x64_0_1_3 : (⟨S1x4x64, .f32⟩ : BufTy).Contents (Elt F) → (⟨S1x4x1x64, .f32⟩ : BufTy).Contents (Elt F)),
    StableHlo.unary main_while0b_v70 main_while0b_v71 (broadcastInDim S1x4x64x64 ![0, 1, 2, 3] bcast_S1x4x1x64_S1x4x64x64_0_1_2_3 : (⟨S1x4x1x64, .f32⟩ : BufTy).Contents (Elt F) → (⟨S1x4x64x64, .f32⟩ : BufTy).Contents (Elt F)),
    StableHlo.binary main_v28_7 main_while0b_v71 main_while0b_v72 (mulf : (⟨S1x4x64x64, .f32⟩ : BufTy).Contents (Elt F) → (⟨S1x4x64x64, .f32⟩ : BufTy).Contents (Elt F) → (⟨S1x4x64x64, .f32⟩ : BufTy).Contents (Elt F)),
    StableHlo.unary main_while0b_v69 main_while0b_v73 (broadcastInDim S1x4x64x1 ![0, 1, 2] bcast_S1x4x64_S1x4x64x1_0_1_2 : (⟨S1x4x64, .f32⟩ : BufTy).Contents (Elt F) → (⟨S1x4x64x1, .f32⟩ : BufTy).Contents (Elt F)),
    StableHlo.binary main_while0b_v63 main_while0b_v64 main_while0b_v74 (mulf : (⟨S1x4x64, .f32⟩ : BufTy).Contents (Elt F) → (⟨S1x4x64, .f32⟩ : BufTy).Contents (Elt F) → (⟨S1x4x64, .f32⟩ : BufTy).Contents (Elt F)),
    StableHlo.unary main_while0b_v74 main_while0b_v75 (broadcastInDim S1x4x1x64 ![0, 1, 3] bcast_S1x4x64_S1x4x1x64_0_1_3 : (⟨S1x4x64, .f32⟩ : BufTy).Contents (Elt F) → (⟨S1x4x1x64, .f32⟩ : BufTy).Contents (Elt F)),
    StableHlo.unary main_while0b_v73 main_while0b_v76 (broadcastInDim S1x4x64x64 ![0, 1, 2, 3] bcast_S1x4x64x1_S1x4x64x64_0_1_2_3 : (⟨S1x4x64x1, .f32⟩ : BufTy).Contents (Elt F) → (⟨S1x4x64x64, .f32⟩ : BufTy).Contents (Elt F)),
    StableHlo.unary main_while0b_v75 main_while0b_v77 (broadcastInDim S1x4x64x64 ![0, 1, 2, 3] bcast_S1x4x1x64_S1x4x64x64_0_1_2_3 : (⟨S1x4x1x64, .f32⟩ : BufTy).Contents (Elt F) → (⟨S1x4x64x64, .f32⟩ : BufTy).Contents (Elt F)),
    StableHlo.binary main_while0b_v76 main_while0b_v77 main_while0b_v78 (mulf : (⟨S1x4x64x64, .f32⟩ : BufTy).Contents (Elt F) → (⟨S1x4x64x64, .f32⟩ : BufTy).Contents (Elt F) → (⟨S1x4x64x64, .f32⟩ : BufTy).Contents (Elt F)),
    StableHlo.binary main_while0b_v72 main_while0b_v78 main_while0b_v79 (addf : (⟨S1x4x64x64, .f32⟩ : BufTy).Contents (Elt F) → (⟨S1x4x64x64, .f32⟩ : BufTy).Contents (Elt F) → (⟨S1x4x64x64, .f32⟩ : BufTy).Contents (Elt F)),
    StableHlo.unary main_while0b_v62 main_while0b_v80 (broadcastInDim S1x4x64x1 ![0, 1, 2] bcast_S1x4x64_S1x4x64x1_0_1_2 : (⟨S1x4x64, .f32⟩ : BufTy).Contents (Elt F) → (⟨S1x4x64x1, .f32⟩ : BufTy).Contents (Elt F)),
    StableHlo.unary main_while0b_v61 main_while0b_v81 (broadcastInDim S1x4x1x64 ![0, 1, 3] bcast_S1x4x64_S1x4x1x64_0_1_3 : (⟨S1x4x64, .f32⟩ : BufTy).Contents (Elt F) → (⟨S1x4x1x64, .f32⟩ : BufTy).Contents (Elt F)),
    StableHlo.unary main_while0b_v80 main_while0b_v82 (broadcastInDim S1x4x64x64 ![0, 1, 2, 3] bcast_S1x4x64x1_S1x4x64x64_0_1_2_3 : (⟨S1x4x64x1, .f32⟩ : BufTy).Contents (Elt F) → (⟨S1x4x64x64, .f32⟩ : BufTy).Contents (Elt F)),
    StableHlo.unary main_while0b_v81 main_while0b_v83 (broadcastInDim S1x4x64x64 ![0, 1, 2, 3] bcast_S1x4x1x64_S1x4x64x64_0_1_2_3 : (⟨S1x4x1x64, .f32⟩ : BufTy).Contents (Elt F) → (⟨S1x4x64x64, .f32⟩ : BufTy).Contents (Elt F)),
    StableHlo.binary main_while0b_v82 main_while0b_v83 main_while0b_v84 (mulf : (⟨S1x4x64x64, .f32⟩ : BufTy).Contents (Elt F) → (⟨S1x4x64x64, .f32⟩ : BufTy).Contents (Elt F) → (⟨S1x4x64x64, .f32⟩ : BufTy).Contents (Elt F)),
    StableHlo.binary main_while0b_v79 main_while0b_v84 main_while0b_v85 (addf : (⟨S1x4x64x64, .f32⟩ : BufTy).Contents (Elt F) → (⟨S1x4x64x64, .f32⟩ : BufTy).Contents (Elt F) → (⟨S1x4x64x64, .f32⟩ : BufTy).Contents (Elt F)),
    StableHlo.unary main_while0b_v59 main_while0b_v86 (broadcastInDim S1x4x1x64 ![0, 1, 3] bcast_S1x4x64_S1x4x1x64_0_1_3 : (⟨S1x4x64, .f32⟩ : BufTy).Contents (Elt F) → (⟨S1x4x1x64, .f32⟩ : BufTy).Contents (Elt F)),
    StableHlo.unary main_while0b_v86 main_while0b_v87 (broadcastInDim S1x4x64x64 ![0, 1, 2, 3] bcast_S1x4x1x64_S1x4x64x64_0_1_2_3 : (⟨S1x4x1x64, .f32⟩ : BufTy).Contents (Elt F) → (⟨S1x4x64x64, .f32⟩ : BufTy).Contents (Elt F)),
    StableHlo.binary main_while0b_v85 main_while0b_v87 main_while0b_v88 (mulf : (⟨S1x4x64x64, .f32⟩ : BufTy).Contents (Elt F) → (⟨S1x4x64x64, .f32⟩ : BufTy).Contents (Elt F) → (⟨S1x4x64x64, .f32⟩ : BufTy).Contents (Elt F)),
    StableHlo.nullary main_while0b_cst_42 (constant S_ .f32 0x00000000#32),
    StableHlo.binary main_while0b_v88 main_while0b_cst_42 main_while0b_v89 ((fun x v => Host.reduceAdd x v reducesTo_S1x4x64x64_S1x4x64_d3 h_S_) : (⟨S1x4x64x64, .f32⟩ : BufTy).Contents (Elt F) → (⟨S_, .f32⟩ : BufTy).Contents (Elt F) → (⟨S1x4x64, .f32⟩ : BufTy).Contents (Elt F)) ]

/-- The forward loop's trip: the writes into the stacked arrays. -/
noncomputable def fwdPuts : List (HloOp τ sig (Elt F)) :=
  putOps (.of main_v28_8) (.of main_while0b_v89) (.of main_v28_6) main_while0b_call6 ++
  put0Ops (.of main_v28_9) (.of main_while0b_v66) (.of main_v28_6) main_while0b_call7 ++
  put1Ops (.of main_v28_10) (.of main_v28_7) (.of main_v28_6) main_while0b_call8 ++
  put0Ops (.of main_v28_11) (.of main_while0b_v70) (.of main_v28_6) main_while0b_call9 ++
  put0Ops (.of main_v28_12) (.of main_while0b_v75) (.of main_v28_6) main_while0b_call10 ++
  put2Ops (.of main_v28_13) (.of main_while0b_v73) (.of main_v28_6) main_while0b_call11 ++
  put0Ops (.of main_v28_14) (.of main_while0b_v81) (.of main_v28_6) main_while0b_call12 ++
  put2Ops (.of main_v28_15) (.of main_while0b_v80) (.of main_v28_6) main_while0b_call13 ++
  put0Ops (.of main_v28_16) (.of main_while0b_v86) (.of main_v28_6) main_while0b_call14 ++
  put1Ops (.of main_v28_17) (.of main_while0b_v85) (.of main_v28_6) main_while0b_call15

/-- The forward loop's trip: the counter and the copies. -/
noncomputable def fwdEnd : List (HloOp τ sig (Elt F)) :=
  [ StableHlo.nullary main_while0b_c_43 (constantI S_ 32 1#32),
    StableHlo.binary main_v28_6 main_while0b_c_43 main_while0b_v100 (addi : (⟨S_, .i32⟩ : BufTy).Contents (Elt F) → (⟨S_, .i32⟩ : BufTy).Contents (Elt F) → (⟨S_, .i32⟩ : BufTy).Contents (Elt F)),
    StableHlo.unary main_while0b_v100 main_v28_6 id,
    StableHlo.unary main_while0b_v85 main_v28_7 id,
    StableHlo.unary main_while0b_v90 main_v28_8 id,
    StableHlo.unary main_while0b_v91 main_v28_9 id,
    StableHlo.unary main_while0b_v92 main_v28_10 id,
    StableHlo.unary main_while0b_v93 main_v28_11 id,
    StableHlo.unary main_while0b_v94 main_v28_12 id,
    StableHlo.unary main_while0b_v95 main_v28_13 id,
    StableHlo.unary main_while0b_v96 main_v28_14 id,
    StableHlo.unary main_while0b_v97 main_v28_15 id,
    StableHlo.unary main_while0b_v98 main_v28_16 id,
    StableHlo.unary main_while0b_v99 main_v28_17 id ]

/-- One trip of the forward loop. -/
noncomputable def fwdOps : List (HloOp τ sig (Elt F)) :=
  fwdTakes ++ fwdCore ++ fwdPuts ++ fwdEnd

/-- The backward loop's trip: the index. -/
noncomputable def bwdIdx : List (HloOp τ sig (Elt F)) :=
  [ StableHlo.nullary main_while1b_c_43 (constantI S_ 32 2048#32),
    StableHlo.binary main_while1b_c_43 main_v41_12 main_while1b_v59 (subi : (⟨S_, .i32⟩ : BufTy).Contents (Elt F) → (⟨S_, .i32⟩ : BufTy).Contents (Elt F) → (⟨S_, .i32⟩ : BufTy).Contents (Elt F)),
    StableHlo.nullary main_while1b_c_44 (constantI S_ 32 1#32),
    StableHlo.binary main_while1b_v59 main_while1b_c_44 main_while1b_v60 (subi : (⟨S_, .i32⟩ : BufTy).Contents (Elt F) → (⟨S_, .i32⟩ : BufTy).Contents (Elt F) → (⟨S_, .i32⟩ : BufTy).Contents (Elt F)) ]

/-- The backward loop's trip: the slices of the arrays scanned over. -/
noncomputable def bwdTakes : List (HloOp τ sig (Elt F)) :=
  takeOps (.of main_v41_0) (.of main_while1b_v60) main_while1b_call16 ++
  take3Ops (.of main_v41_1) (.of main_while1b_v60) main_while1b_call17 ++
  take4Ops (.of main_v41_2) (.of main_while1b_v60) main_while1b_call18 ++
  take3Ops (.of main_v41_3) (.of main_while1b_v60) main_while1b_call19 ++
  takeOps (.of main_v41_4) (.of main_while1b_v60) main_while1b_call20 ++
  takeOps (.of main_v41_5) (.of main_while1b_v60) main_while1b_call21 ++
  take3Ops (.of main_v41_6) (.of main_while1b_v60) main_while1b_call22 ++
  take5Ops (.of main_v41_7) (.of main_while1b_v60) main_while1b_call23 ++
  take3Ops (.of main_v41_8) (.of main_while1b_v60) main_while1b_call24 ++
  take5Ops (.of main_v41_9) (.of main_while1b_v60) main_while1b_call25 ++
  take3Ops (.of main_v41_10) (.of main_while1b_v60) main_while1b_call26 ++
  take4Ops (.of main_v41_11) (.of main_while1b_v60) main_while1b_call27

/-- The backward loop's trip: the step. -/
noncomputable def bwdCore : List (HloOp τ sig (Elt F)) :=
  [ StableHlo.unary main_while1b_v61 main_while1b_v73 (broadcastInDim S1x4x64x64 ![0, 1, 2] bcast_S1x4x64_S1x4x64x64_0_1_2 : (⟨S1x4x64, .f32⟩ : BufTy).Contents (Elt F) → (⟨S1x4x64x64, .f32⟩ : BufTy).Contents (Elt F)),
    StableHlo.binary main_while1b_v72 main_while1b_v73 main_while1b_v74 (mulf : (⟨S1x4x64x64, .f32⟩ : BufTy).Contents (Elt F) → (⟨S1x4x64x64, .f32⟩ : BufTy).Contents (Elt F) → (⟨S1x4x64x64, .f32⟩ : BufTy).Contents (Elt F)),
    StableHlo.nullary main_while1b_cst_45 (constant S_ .f32 0x00000000#32),
    StableHlo.binary main_while1b_v74 main_while1b_cst_45 main_while1b_v75 ((fun x v => Host.reduceAdd x v reducesTo_S1x4x64x64_S1x4x64_d2 h_S_) : (⟨S1x4x64x64, .f32⟩ : BufTy).Contents (Elt F) → (⟨S_, .f32⟩ : BufTy).Contents (Elt F) → (⟨S1x4x64, .f32⟩ : BufTy).Contents (Elt F)),
    StableHlo.reshape main_while1b_v75 main_while1b_v76 (rfl : (.f32 : EltTy) = .f32) shapeCasts_S1x4x64_S1x4x1x64,
    StableHlo.unary main_while1b_v71 main_while1b_v77 (broadcastInDim S1x4x64x64 ![0, 1, 2, 3] bcast_S1x4x1x64_S1x4x64x64_0_1_2_3 : (⟨S1x4x1x64, .f32⟩ : BufTy).Contents (Elt F) → (⟨S1x4x64x64, .f32⟩ : BufTy).Contents (Elt F)),
    StableHlo.binary main_while1b_v73 main_while1b_v77 main_while1b_v78 (mulf : (⟨S1x4x64x64, .f32⟩ : BufTy).Contents (Elt F) → (⟨S1x4x64x64, .f32⟩ : BufTy).Contents (Elt F) → (⟨S1x4x64x64, .f32⟩ : BufTy).Contents (Elt F)),
    StableHlo.binary main_v41_13 main_while1b_v78 main_while1b_v79 (addf : (⟨S1x4x64x64, .f32⟩ : BufTy).Contents (Elt F) → (⟨S1x4x64x64, .f32⟩ : BufTy).Contents (Elt F) → (⟨S1x4x64x64, .f32⟩ : BufTy).Contents (Elt F)),
    StableHlo.nullary main_while1b_cst_46 (constant S_ .f32 0x00000000#32),
    StableHlo.binary main_while1b_v76 main_while1b_cst_46 main_while1b_v80 ((fun x v => Host.reduceAdd x v reducesTo_S1x4x1x64_S4x64_d0_2 h_S_) : (⟨S1x4x1x64, .f32⟩ : BufTy).Contents (Elt F) → (⟨S_, .f32⟩ : BufTy).Contents (Elt F) → (⟨S4x64, .f32⟩ : BufTy).Contents (Elt F)),
    StableHlo.unary main_while1b_v80 main_while1b_v81 (broadcastInDim S1x4x64 ![1, 2] bcast_S4x64_S1x4x64_1_2 : (⟨S4x64, .f32⟩ : BufTy).Contents (Elt F) → (⟨S1x4x64, .f32⟩ : BufTy).Contents (Elt F)),
    StableHlo.unary main_while1b_v70 main_while1b_v82 (broadcastInDim S1x4x64x64 ![0, 1, 2, 3] bcast_S1x4x64x1_S1x4x64x64_0_1_2_3 : (⟨S1x4x64x1, .f32⟩ : BufTy).Contents (Elt F) → (⟨S1x4x64x64, .f32⟩ : BufTy).Contents (Elt F)),
    StableHlo.binary main_while1b_v82 main_while1b_v79 main_while1b_v83 (mulf : (⟨S1x4x64x64, .f32⟩ : BufTy).Contents (Elt F) → (⟨S1x4x64x64, .f32⟩ : BufTy).Contents (Elt F) → (⟨S1x4x64x64, .f32⟩ : BufTy).Contents (Elt F)),
    StableHlo.nullary main_while1b_cst_47 (constant S_ .f32 0x00000000#32),
    StableHlo.binary main_while1b_v83 main_while1b_cst_47 main_while1b_v84 ((fun x v => Host.reduceAdd x v reducesTo_S1x4x64x64_S1x4x64_d2 h_S_) : (⟨S1x4x64x64, .f32⟩ : BufTy).Contents (Elt F) → (⟨S_, .f32⟩ : BufTy).Contents (Elt F) → (⟨S1x4x64, .f32⟩ : BufTy).Contents (Elt F)),
    StableHlo.reshape main_while1b_v84 main_while1b_v85 (rfl : (.f32 : EltTy) = .f32) shapeCasts_S1x4x64_S1x4x1x64,
    StableHlo.unary main_while1b_v69 main_while1b_v86 (broadcastInDim S1x4x64x64 ![0, 1, 2, 3] bcast_S1x4x1x64_S1x4x64x64_0_1_2_3 : (⟨S1x4x1x64, .f32⟩ : BufTy).Contents (Elt F) → (⟨S1x4x64x64, .f32⟩ : BufTy).Contents (Elt F)),
    StableHlo.binary main_while1b_v79 main_while1b_v86 main_while1b_v87 (mulf : (⟨S1x4x64x64, .f32⟩ : BufTy).Contents (Elt F) → (⟨S1x4x64x64, .f32⟩ : BufTy).Contents (Elt F) → (⟨S1x4x64x64, .f32⟩ : BufTy).Contents (Elt F)),
    StableHlo.nullary main_while1b_cst_48 (constant S_ .f32 0x00000000#32),
    StableHlo.binary main_while1b_v87 main_while1b_cst_48 main_while1b_v88 ((fun x v => Host.reduceAdd x v reducesTo_S1x4x64x64_S1x4x64_d3 h_S_) : (⟨S1x4x64x64, .f32⟩ : BufTy).Contents (Elt F) → (⟨S_, .f32⟩ : BufTy).Contents (Elt F) → (⟨S1x4x64, .f32⟩ : BufTy).Contents (Elt F)),
    StableHlo.reshape main_while1b_v88 main_while1b_v89 (rfl : (.f32 : EltTy) = .f32) shapeCasts_S1x4x64_S1x4x64x1,
    StableHlo.nullary main_while1b_cst_49 (constant S_ .f32 0x00000000#32),
    StableHlo.binary main_while1b_v85 main_while1b_cst_49 main_while1b_v90 ((fun x v => Host.reduceAdd x v reducesTo_S1x4x1x64_S4x64_d0_2 h_S_) : (⟨S1x4x1x64, .f32⟩ : BufTy).Contents (Elt F) → (⟨S_, .f32⟩ : BufTy).Contents (Elt F) → (⟨S4x64, .f32⟩ : BufTy).Contents (Elt F)),
    StableHlo.unary main_while1b_v90 main_while1b_v91 (broadcastInDim S1x4x64 ![1, 2] bcast_S4x64_S1x4x64_1_2 : (⟨S4x64, .f32⟩ : BufTy).Contents (Elt F) → (⟨S1x4x64, .f32⟩ : BufTy).Contents (Elt F)),
    StableHlo.nullary main_while1b_cst_50 (constant S_ .f32 0x00000000#32),
    StableHlo.binary main_while1b_v89 main_while1b_cst_50 main_while1b_v92 ((fun x v => Host.reduceAdd x v reducesTo_S1x4x64x1_S4x64_d0_3 h_S_) : (⟨S1x4x64x1, .f32⟩ : BufTy).Contents (Elt F) → (⟨S_, .f32⟩ : BufTy).Contents (Elt F) → (⟨S4x64, .f32⟩ : BufTy).Contents (Elt F)),
    StableHlo.unary main_while1b_v92 main_while1b_v93 (broadcastInDim S1x4x64 ![1, 2] bcast_S4x64_S1x4x64_1_2 : (⟨S4x64, .f32⟩ : BufTy).Contents (Elt F) → (⟨S1x4x64, .f32⟩ : BufTy).Contents (Elt F)),
    StableHlo.unary main_while1b_v68 main_while1b_v94 (broadcastInDim S1x4x64x64 ![0, 1, 2, 3] bcast_S1x4x64x1_S1x4x64x64_0_1_2_3 : (⟨S1x4x64x1, .f32⟩ : BufTy).Contents (Elt F) → (⟨S1x4x64x64, .f32⟩ : BufTy).Contents (Elt F)),
    StableHlo.binary main_while1b_v94 main_while1b_v79 main_while1b_v95 (mulf : (⟨S1x4x64x64, .f32⟩ : BufTy).Contents (Elt F) → (⟨S1x4x64x64, .f32⟩ : BufTy).Contents (Elt F) → (⟨S1x4x64x64, .f32⟩ : BufTy).Contents (Elt F)),
    StableHlo.nullary main_while1b_cst_51 (constant S_ .f32 0x00000000#32),
    StableHlo.binary main_while1b_v95 main_while1b_cst_51 main_while1b_v96 ((fun x v => Host.reduceAdd x v reducesTo_S1x4x64x64_S1x4x64_d2 h_S_) : (⟨S1x4x64x64, .f32⟩ : BufTy).Contents (Elt F) → (⟨S_, .f32⟩ : BufTy).Contents (Elt F) → (⟨S1x4x64, .f32⟩ : BufTy).Contents (Elt F)),
    StableHlo.reshape main_while1b_v96 main_while1b_v97 (rfl : (.f32 : EltTy) = .f32) shapeCasts_S1x4x64_S1x4x1x64,
    StableHlo.unary main_while1b_v67 main_while1b_v98 (broadcastInDim S1x4x64x64 ![0, 1, 2, 3] bcast_S1x4x1x64_S1x4x64x64_0_1_2_3 : (⟨S1x4x1x64, .f32⟩ : BufTy).Contents (Elt F) → (⟨S1x4x64x64, .f32⟩ : BufTy).Contents (Elt F)),
    StableHlo.binary main_while1b_v79 main_while1b_v98 main_while1b_v99 (mulf : (⟨S1x4x64x64, .f32⟩ : BufTy).Contents (Elt F) → (⟨S1x4x64x64, .f32⟩ : BufTy).Contents (Elt F) → (⟨S1x4x64x64, .f32⟩ : BufTy).Contents (Elt F)),
    StableHlo.nullary main_while1b_cst_52 (constant S_ .f32 0x00000000#32),
    StableHlo.binary main_while1b_v99 main_while1b_cst_52 main_while1b_v100 ((fun x v => Host.reduceAdd x v reducesTo_S1x4x64x64_S1x4x64_d3 h_S_) : (⟨S1x4x64x64, .f32⟩ : BufTy).Contents (Elt F) → (⟨S_, .f32⟩ : BufTy).Contents (Elt F) → (⟨S1x4x64, .f32⟩ : BufTy).Contents (Elt F)),
    StableHlo.reshape main_while1b_v100 main_while1b_v101 (rfl : (.f32 : EltTy) = .f32) shapeCasts_S1x4x64_S1x4x64x1,
    StableHlo.nullary main_while1b_cst_53 (constant S_ .f32 0x00000000#32),
    StableHlo.binary main_while1b_v97 main_while1b_cst_53 main_while1b_v102 ((fun x v => Host.reduceAdd x v reducesTo_S1x4x1x64_S4x64_d0_2 h_S_) : (⟨S1x4x1x64, .f32⟩ : BufTy).Contents (Elt F) → (⟨S_, .f32⟩ : BufTy).Contents (Elt F) → (⟨S4x64, .f32⟩ : BufTy).Contents (Elt F)),
    StableHlo.unary main_while1b_v102 main_while1b_v103 (broadcastInDim S1x4x64 ![1, 2] bcast_S4x64_S1x4x64_1_2 : (⟨S4x64, .f32⟩ : BufTy).Contents (Elt F) → (⟨S1x4x64, .f32⟩ : BufTy).Contents (Elt F)),
    StableHlo.binary main_while1b_v66 main_while1b_v103 main_while1b_v104 (mulf : (⟨S1x4x64, .f32⟩ : BufTy).Contents (Elt F) → (⟨S1x4x64, .f32⟩ : BufTy).Contents (Elt F) → (⟨S1x4x64, .f32⟩ : BufTy).Contents (Elt F)),
    StableHlo.binary main_while1b_v103 main_while1b_v65 main_while1b_v105 (mulf : (⟨S1x4x64, .f32⟩ : BufTy).Contents (Elt F) → (⟨S1x4x64, .f32⟩ : BufTy).Contents (Elt F) → (⟨S1x4x64, .f32⟩ : BufTy).Contents (Elt F)),
    StableHlo.nullary main_while1b_cst_54 (constant S_ .f32 0x00000000#32),
    StableHlo.binary main_while1b_v101 main_while1b_cst_54 main_while1b_v106 ((fun x v => Host.reduceAdd x v reducesTo_S1x4x64x1_S4x64_d0_3 h_S_) : (⟨S1x4x64x1, .f32⟩ : BufTy).Contents (Elt F) → (⟨S_, .f32⟩ : BufTy).Contents (Elt F) → (⟨S4x64, .f32⟩ : BufTy).Contents (Elt F)),
    StableHlo.unary main_while1b_v106 main_while1b_v107 (broadcastInDim S1x4x64 ![1, 2] bcast_S4x64_S1x4x64_1_2 : (⟨S4x64, .f32⟩ : BufTy).Contents (Elt F) → (⟨S1x4x64, .f32⟩ : BufTy).Contents (Elt F)),
    StableHlo.binary main_while1b_v63 main_while1b_v79 main_while1b_v108 (mulf : (⟨S1x4x64x64, .f32⟩ : BufTy).Contents (Elt F) → (⟨S1x4x64x64, .f32⟩ : BufTy).Contents (Elt F) → (⟨S1x4x64x64, .f32⟩ : BufTy).Contents (Elt F)),
    StableHlo.nullary main_while1b_cst_55 (constant S_ .f32 0x00000000#32),
    StableHlo.binary main_while1b_v108 main_while1b_cst_55 main_while1b_v109 ((fun x v => Host.reduceAdd x v reducesTo_S1x4x64x64_S1x4x64_d2 h_S_) : (⟨S1x4x64x64, .f32⟩ : BufTy).Contents (Elt F) → (⟨S_, .f32⟩ : BufTy).Contents (Elt F) → (⟨S1x4x64, .f32⟩ : BufTy).Contents (Elt F)),
    StableHlo.reshape main_while1b_v109 main_while1b_v110 (rfl : (.f32 : EltTy) = .f32) shapeCasts_S1x4x64_S1x4x1x64,
    StableHlo.unary main_while1b_v64 main_while1b_v111 (broadcastInDim S1x4x64x64 ![0, 1, 2, 3] bcast_S1x4x1x64_S1x4x64x64_0_1_2_3 : (⟨S1x4x1x64, .f32⟩ : BufTy).Contents (Elt F) → (⟨S1x4x64x64, .f32⟩ : BufTy).Contents (Elt F)),
    StableHlo.binary main_while1b_v79 main_while1b_v111 main_while1b_v112 (mulf : (⟨S1x4x64x64, .f32⟩ : BufTy).Contents (Elt F) → (⟨S1x4x64x64, .f32⟩ : BufTy).Contents (Elt F) → (⟨S1x4x64x64, .f32⟩ : BufTy).Contents (Elt F)),
    StableHlo.nullary main_while1b_cst_56 (constant S_ .f32 0x00000000#32),
    StableHlo.binary main_while1b_v110 main_while1b_cst_56 main_while1b_v113 ((fun x v => Host.reduceAdd x v reducesTo_S1x4x1x64_S4x64_d0_2 h_S_) : (⟨S1x4x1x64, .f32⟩ : BufTy).Contents (Elt F) → (⟨S_, .f32⟩ : BufTy).Contents (Elt F) → (⟨S4x64, .f32⟩ : BufTy).Contents (Elt F)),
    StableHlo.unary main_while1b_v113 main_while1b_v114 (broadcastInDim S1x4x64 ![1, 2] bcast_S4x64_S1x4x64_1_2 : (⟨S4x64, .f32⟩ : BufTy).Contents (Elt F) → (⟨S1x4x64, .f32⟩ : BufTy).Contents (Elt F)),
    StableHlo.unary main_while1b_v107 main_while1b_v115 (broadcastInDim S1x4x64x64 ![0, 1, 2] bcast_S1x4x64_S1x4x64x64_0_1_2 : (⟨S1x4x64, .f32⟩ : BufTy).Contents (Elt F) → (⟨S1x4x64x64, .f32⟩ : BufTy).Contents (Elt F)),
    StableHlo.binary main_while1b_v63 main_while1b_v115 main_while1b_v116 (mulf : (⟨S1x4x64x64, .f32⟩ : BufTy).Contents (Elt F) → (⟨S1x4x64x64, .f32⟩ : BufTy).Contents (Elt F) → (⟨S1x4x64x64, .f32⟩ : BufTy).Contents (Elt F)),
    StableHlo.nullary main_while1b_cst_57 (constant S_ .f32 0x00000000#32),
    StableHlo.binary main_while1b_v116 main_while1b_cst_57 main_while1b_v117 ((fun x v => Host.reduceAdd x v reducesTo_S1x4x64x64_S1x4x64_d2 h_S_) : (⟨S1x4x64x64, .f32⟩ : BufTy).Contents (Elt F) → (⟨S_, .f32⟩ : BufTy).Contents (Elt F) → (⟨S1x4x64, .f32⟩ : BufTy).Contents (Elt F)),
    StableHlo.reshape main_while1b_v117 main_while1b_v118 (rfl : (.f32 : EltTy) = .f32) shapeCasts_S1x4x64_S1x4x1x64,
    StableHlo.unary main_while1b_v62 main_while1b_v119 (broadcastInDim S1x4x64x64 ![0, 1, 2, 3] bcast_S1x4x1x64_S1x4x64x64_0_1_2_3 : (⟨S1x4x1x64, .f32⟩ : BufTy).Contents (Elt F) → (⟨S1x4x64x64, .f32⟩ : BufTy).Contents (Elt F)),
    StableHlo.binary main_while1b_v115 main_while1b_v119 main_while1b_v120 (mulf : (⟨S1x4x64x64, .f32⟩ : BufTy).Contents (Elt F) → (⟨S1x4x64x64, .f32⟩ : BufTy).Contents (Elt F) → (⟨S1x4x64x64, .f32⟩ : BufTy).Contents (Elt F)),
    StableHlo.binary main_while1b_v112 main_while1b_v120 main_while1b_v121 (addf : (⟨S1x4x64x64, .f32⟩ : BufTy).Contents (Elt F) → (⟨S1x4x64x64, .f32⟩ : BufTy).Contents (Elt F) → (⟨S1x4x64x64, .f32⟩ : BufTy).Contents (Elt F)),
    StableHlo.nullary main_while1b_cst_58 (constant S_ .f32 0x00000000#32),
    StableHlo.binary main_while1b_v118 main_while1b_cst_58 main_while1b_v122 ((fun x v => Host.reduceAdd x v reducesTo_S1x4x1x64_S4x64_d0_2 h_S_) : (⟨S1x4x1x64, .f32⟩ : BufTy).Contents (Elt F) → (⟨S_, .f32⟩ : BufTy).Contents (Elt F) → (⟨S4x64, .f32⟩ : BufTy).Contents (Elt F)),
    StableHlo.unary main_while1b_v122 main_while1b_v123 (broadcastInDim S1x4x64 ![1, 2] bcast_S4x64_S1x4x64_1_2 : (⟨S4x64, .f32⟩ : BufTy).Contents (Elt F) → (⟨S1x4x64, .f32⟩ : BufTy).Contents (Elt F)),
    StableHlo.unary main_while1b_v123 main_while1b_v124 (Host.negf : (⟨S1x4x64, .f32⟩ : BufTy).Contents (Elt F) → (⟨S1x4x64, .f32⟩ : BufTy).Contents (Elt F)),
    StableHlo.binary main_while1b_v105 main_while1b_v124 main_while1b_v125 (addf : (⟨S1x4x64, .f32⟩ : BufTy).Contents (Elt F) → (⟨S1x4x64, .f32⟩ : BufTy).Contents (Elt F) → (⟨S1x4x64, .f32⟩ : BufTy).Contents (Elt F)) ]

/-- The backward loop's trip: the writes into the stacked arrays. -/
noncomputable def bwdPuts : List (HloOp τ sig (Elt F)) :=
  putOps (.of main_v41_14) (.of main_while1b_v81) (.of main_while1b_v60) main_while1b_call28 ++
  putOps (.of main_v41_15) (.of main_while1b_v114) (.of main_while1b_v60) main_while1b_call29 ++
  putOps (.of main_v41_16) (.of main_while1b_v91) (.of main_while1b_v60) main_while1b_call30 ++
  putOps (.of main_v41_17) (.of main_while1b_v93) (.of main_while1b_v60) main_while1b_call31 ++
  putOps (.of main_v41_18) (.of main_while1b_v125) (.of main_while1b_v60) main_while1b_call32 ++
  putOps (.of main_v41_19) (.of main_while1b_v104) (.of main_while1b_v60) main_while1b_call33

/-- The backward loop's trip: the counter and the copies. -/
noncomputable def bwdEnd : List (HloOp τ sig (Elt F)) :=
  [ StableHlo.nullary main_while1b_c_59 (constantI S_ 32 1#32),
    StableHlo.binary main_v41_12 main_while1b_c_59 main_while1b_v132 (addi : (⟨S_, .i32⟩ : BufTy).Contents (Elt F) → (⟨S_, .i32⟩ : BufTy).Contents (Elt F) → (⟨S_, .i32⟩ : BufTy).Contents (Elt F)),
    StableHlo.unary main_while1b_v132 main_v41_12 id,
    StableHlo.unary main_while1b_v121 main_v41_13 id,
    StableHlo.unary main_while1b_v126 main_v41_14 id,
    StableHlo.unary main_while1b_v127 main_v41_15 id,
    StableHlo.unary main_while1b_v128 main_v41_16 id,
    StableHlo.unary main_while1b_v129 main_v41_17 id,
    StableHlo.unary main_while1b_v130 main_v41_18 id,
    StableHlo.unary main_while1b_v131 main_v41_19 id ]

/-- One trip of the backward loop. -/
noncomputable def bwdOps : List (HloOp τ sig (Elt F)) :=
  bwdIdx ++ bwdTakes ++ bwdCore ++ bwdPuts ++ bwdEnd

end Cert.Proof.Ref
-- ==== Proof.RefPlain.lean ====
module

public import proofs.«01_k».proof.Proof.RefOps
public import Idealize.ShloMosaic.Lib.StableHlo.RunLoop
public import Idealize.ShloMosaic.Lib.Pipeline.Regions

@[expose] public section

noncomputable section

namespace Cert.Proof.Ref

open Idealize.ShloMosaic Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.StableHlo
open Idealize.ShloMosaic.Pipeline (CSeg Ticket PCfg ucRefs sub_ucRefs)
open TcCoe
open Cert.ReferenceIdeal Cert.ReferenceIdeal.Gen

variable {F : FTy → Type} [FloatOps F]

/-- An operation of the reference: it touches the core's buffers only, and allocates none. -/
def Op (op : HloOp τ sig (Elt F)) : Prop := op.bufs ⊆ tcRefs τ sig ∧ op.fresh = ∅

section Each

variable {x y z : Ref sig .tc} {S T U : BufTy} {a : TRef sig S} {b : TRef sig T} {d : TRef sig U}

theorem op_nullary {v} {h} : Op (F := F) (nullary y v h) := ⟨nullary_bufs_sub .., rfl⟩
theorem op_unary {f} {h k} : Op (F := F) (unary x y f h k) := ⟨unary_bufs_sub .., rfl⟩
theorem op_binary {f} {h k l} : Op (F := F) (binary x z y f h k l) := ⟨binary_bufs_sub .., rfl⟩
theorem op_reshape {h k l n} : Op (F := F) (reshape x y h k l n) := ⟨reshape_bufs_sub .., rfl⟩
theorem op_tnullary {v} : Op (F := F) (TRef.nullary a v) := ⟨nullary_bufs_sub .., rfl⟩
theorem op_tunary {f} : Op (F := F) (TRef.unary a b f) := ⟨unary_bufs_sub .., rfl⟩
theorem op_treshape {h k} : Op (F := F) (TRef.reshape a b h k) := ⟨reshape_bufs_sub .., rfl⟩
theorem op_tslice {n : ℕ} {V : BufTy} {ix : Fin n → TRef sig V} {f} : Op (F := F) (TRef.unaryIndexed a ix b f) := ⟨unaryIndexed_bufs_sub .., rfl⟩
theorem op_tput {n : ℕ} {V : BufTy} {ix : Fin n → TRef sig V} {f} : Op (F := F) (TRef.binaryIndexed a d ix b f) := ⟨binaryIndexed_bufs_sub .., rfl⟩

end Each

theorem preOps_op : (preOps (F := F)).Forall Op := by
  simp only [preOps, List.Forall, op_nullary, op_unary, op_binary, op_reshape, and_self]

theorem midOps_op : (midOps (F := F)).Forall Op := by
  simp only [midOps, List.Forall, op_nullary, op_unary, op_binary, op_reshape, and_self]

theorem postOps_op : (postOps (F := F)).Forall Op := by
  simp only [postOps, List.Forall, op_nullary, op_unary, op_binary, op_reshape, and_self]

theorem fwdCore_op : (fwdCore (F := F)).Forall Op := by
  simp only [fwdCore, List.Forall, op_nullary, op_unary, op_binary, op_reshape, and_self]

theorem fwdEnd_op : (fwdEnd (F := F)).Forall Op := by
  simp only [fwdEnd, List.Forall, op_nullary, op_unary, op_binary, op_reshape, and_self]

theorem bwdIdx_op : (bwdIdx (F := F)).Forall Op := by
  simp only [bwdIdx, List.Forall, op_nullary, op_unary, op_binary, op_reshape, and_self]

theorem bwdCore_op : (bwdCore (F := F)).Forall Op := by
  simp only [bwdCore, List.Forall, op_nullary, op_unary, op_binary, op_reshape, and_self]

theorem bwdEnd_op : (bwdEnd (F := F)).Forall Op := by
  simp only [bwdEnd, List.Forall, op_nullary, op_unary, op_binary, op_reshape, and_self]

theorem takeOps_op (a b φ) : (takeOps (F := F) a b φ).Forall Op := by
  simp only [takeOps, List.Forall, op_tnullary, op_tunary, op_treshape, op_tslice, op_tput, and_self]

theorem take3Ops_op (a b φ) : (take3Ops (F := F) a b φ).Forall Op := by
  simp only [take3Ops, List.Forall, op_tnullary, op_tunary, op_treshape, op_tslice, op_tput, and_self]

theorem take4Ops_op (a b φ) : (take4Ops (F := F) a b φ).Forall Op := by
  simp only [take4Ops, List.Forall, op_tnullary, op_tunary, op_treshape, op_tslice, op_tput, and_self]

theorem take5Ops_op (a b φ) : (take5Ops (F := F) a b φ).Forall Op := by
  simp only [take5Ops, List.Forall, op_tnullary, op_tunary, op_treshape, op_tslice, op_tput, and_self]

theorem putOps_op (a b c φ) : (putOps (F := F) a b c φ).Forall Op := by
  simp only [putOps, List.Forall, op_tnullary, op_tunary, op_treshape, op_tslice, op_tput, and_self]

theorem put0Ops_op (a b c φ) : (put0Ops (F := F) a b c φ).Forall Op := by
  simp only [put0Ops, List.Forall, op_tnullary, op_tunary, op_treshape, op_tslice, op_tput, and_self]

theorem put1Ops_op (a b c φ) : (put1Ops (F := F) a b c φ).Forall Op := by
  simp only [put1Ops, List.Forall, op_tnullary, op_tunary, op_treshape, op_tslice, op_tput, and_self]

theorem put2Ops_op (a b c φ) : (put2Ops (F := F) a b c φ).Forall Op := by
  simp only [put2Ops, List.Forall, op_tnullary, op_tunary, op_treshape, op_tslice, op_tput, and_self]

theorem fwdTakes_op : (fwdTakes (F := F)).Forall Op := by
  simp only [fwdTakes, List.forall_append, takeOps_op, take3Ops_op, take4Ops_op, take5Ops_op, putOps_op, put0Ops_op, put1Ops_op, put2Ops_op, and_self]

theorem fwdPuts_op : (fwdPuts (F := F)).Forall Op := by
  simp only [fwdPuts, List.forall_append, takeOps_op, take3Ops_op, take4Ops_op, take5Ops_op, putOps_op, put0Ops_op, put1Ops_op, put2Ops_op, and_self]

theorem bwdTakes_op : (bwdTakes (F := F)).Forall Op := by
  simp only [bwdTakes, List.forall_append, takeOps_op, take3Ops_op, take4Ops_op, take5Ops_op, putOps_op, put0Ops_op, put1Ops_op, put2Ops_op, and_self]

theorem bwdPuts_op : (bwdPuts (F := F)).Forall Op := by
  simp only [bwdPuts, List.forall_append, takeOps_op, take3Ops_op, take4Ops_op, take5Ops_op, putOps_op, put0Ops_op, put1Ops_op, put2Ops_op, and_self]

theorem fwdOps_op : (fwdOps (F := F)).Forall Op := by
  simp only [fwdOps, List.forall_append, fwdTakes_op, fwdCore_op, fwdPuts_op, fwdEnd_op, and_self]

theorem bwdOps_op : (bwdOps (F := F)).Forall Op := by
  simp only [bwdOps, List.forall_append, bwdIdx_op, bwdTakes_op, bwdCore_op, bwdPuts_op, bwdEnd_op, and_self]

/-- A line of such operations is a plain stretch. -/
theorem plain_of {ops : List (HloOp τ sig (Elt F))} (h : ops.Forall Op) : Plain [ops] := fun o ho => by
  obtain rfl := List.mem_singleton.mp ho
  exact ⟨fun op hop => (List.forall_iff_forall_mem.mp h op hop).1, fun op hop => (List.forall_iff_forall_mem.mp h op hop).2⟩

end Cert.Proof.Ref
-- ==== Proof.RefRun.lean ====
module

public import proofs.«01_k».proof.Proof.RefPlain
public import Idealize.ShloMosaic.Lib.StableHlo.RunLoop
public import Idealize.ShloMosaic.Lib.StableHlo.RunRead
public import Idealize.ShloMosaic.Lib.Pipeline.Regions

@[expose] public section

noncomputable section

namespace Cert.Proof.Ref

open Idealize.ShloMosaic Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.StableHlo
open Idealize.ShloMosaic.Pipeline (CSeg Ticket PCfg ucRefs sub_ucRefs)
open TcCoe
open Cert.ReferenceIdeal Cert.ReferenceIdeal.Gen

variable {F : FTy → Type} [FloatOps F]

/-- The programs @main is made of. -/
abbrev Pr (F : FTy → Type) [FloatOps F] := Prog (TpuEff nD τ sig (Elt F) (HostLoop.Sig (Pipeline.Sig Λ₀ (Fin 0) fun p => (pcfgs (F := F) p).Adm) 2) .tc) PUnit

/-- The forward loop's condition's operations. -/
def condFwd : List (HloOp τ sig (Elt F)) :=
  [ StableHlo.nullary main_while0c_c_41 (constantI S_ 32 2048#32),
    StableHlo.binary main_v28_6 main_while0c_c_41 main_while0c_v59 (cmpi .slt : (⟨S_, .i32⟩ : BufTy).Contents (Elt F) → (⟨S_, .i32⟩ : BufTy).Contents (Elt F) → (⟨S_, .i1⟩ : BufTy).Contents (Elt F)) ]

/-- The backward loop's condition's operations. -/
def condBwd : List (HloOp τ sig (Elt F)) :=
  [ StableHlo.nullary main_while1c_c_43 (constantI S_ 32 2048#32),
    StableHlo.binary main_v41_12 main_while1c_c_43 main_while1c_v59 (cmpi .slt : (⟨S_, .i32⟩ : BufTy).Contents (Elt F) → (⟨S_, .i32⟩ : BufTy).Contents (Elt F) → (⟨S_, .i1⟩ : BufTy).Contents (Elt F)) ]

/-- The forward loop's body is one line of operations. -/
theorem fwd_chain : main_while0_body (F := F) = Pipeline.chain [(seq fwdOps : Pr F)] := by
  rewrite [chain_seq_cons]
  chain_rfl

/-- The backward loop's body is one line of operations. -/
theorem bwd_chain : main_while1_body (F := F) = Pipeline.chain [(seq bwdOps : Pr F)] := by
  rewrite [chain_seq_cons]
  chain_rfl

/-- @main is a line, the forward loop, a line, the backward loop and a line. -/
theorem main_chain (c : Dev nD) : main (F := F) c = Pipeline.chain
    [(seq preOps : Pr F), HostLoop.enter 0, seq midOps, HostLoop.enter 1, seq postOps] := by
  rewrite [chain_seq_cons, Pipeline.chain_cons, chain_seq_cons, Pipeline.chain_cons, chain_seq_cons]
  chain_rfl

/-- The forward loop's trip counts one. -/
theorem fwd_ctr (V : Valuation τ sig (Elt F)) :
    after fwdOps (after condFwd V) (Proc.devRef .tc main_v28_6) = addi (V (Proc.devRef .tc main_v28_6)) (constantI S_ 32 1#32) := by
  rw [fwdOps, after_append, after_append, after_append]
  generalize hV : after fwdPuts _ = W
  have hW : W (Proc.devRef .tc main_v28_6) = V (Proc.devRef .tc main_v28_6) := by
    rw [← hV]; after_reads_simp
  after_reads_simp
  rw [hW]; rfl

/-- The backward loop's trip counts one. -/
theorem bwd_ctr (V : Valuation τ sig (Elt F)) :
    after bwdOps (after condBwd V) (Proc.devRef .tc main_v41_12) = addi (V (Proc.devRef .tc main_v41_12)) (constantI S_ 32 1#32) := by
  rw [bwdOps, after_append, after_append, after_append, after_append]
  generalize hV : after bwdPuts _ = W
  have hW : W (Proc.devRef .tc main_v41_12) = V (Proc.devRef .tc main_v41_12) := by
    rw [← hV]; after_reads_simp
  after_reads_simp
  rw [hW]; rfl

/-- The counter of a loop that starts at zero and counts one a trip. -/
theorem ctr_step (k : ℕ) (x : (⟨S_, .i32⟩ : BufTy).Contents (Elt F)) (h : x = fun _ => BitVec.ofNat 32 k) :
    addi x (constantI S_ 32 1#32) = fun _ => BitVec.ofNat 32 (k + 1) := by
  subst h
  funext i
  show BitVec.ofNat 32 k + 1#32 = BitVec.ofNat 32 (k + 1)
  rw [BitVec.ofNat_add]

variable (W : Dev nD → Valuation τ sig (Elt F))

/-- The forward counter at the `k`-th test is `k`. -/
theorem fwd_at (h : ∀ c, W c (Proc.devRef .tc main_v28_6) = fun _ => (0#32 : BitVec 32)) (c : Dev nD) :
    ∀ k, atTrip condFwd [fwdOps] W k c (Proc.devRef .tc main_v28_6) = fun _ => (BitVec.ofNat 32 k : BitVec 32)
  | 0 => h c
  | k + 1 => by
    rw [atTrip_succ, afterL_cons, afterL_nil, fwd_ctr]
    exact ctr_step k _ (fwd_at h c k)

/-- The backward counter at the `k`-th test is `k`. -/
theorem bwd_at (h : ∀ c, W c (Proc.devRef .tc main_v41_12) = fun _ => (0#32 : BitVec 32)) (c : Dev nD) :
    ∀ k, atTrip condBwd [bwdOps] W k c (Proc.devRef .tc main_v41_12) = fun _ => (BitVec.ofNat 32 k : BitVec 32)
  | 0 => h c
  | k + 1 => by
    rw [atTrip_succ, afterL_cons, afterL_nil, bwd_ctr]
    exact ctr_step k _ (bwd_at h c k)

theorem pred_iff (k : ℕ) (h : k ≤ 2048) : IntOp.cmpi .slt (BitVec.ofNat 32 k) 2048#32 = 1#1 ↔ k < 2048 := by
  have hk : (BitVec.ofNat 32 k).toInt = k := by
    rw [BitVec.toInt_eq_toNat_of_lt (by rw [BitVec.toNat_ofNat]; omega), BitVec.toNat_ofNat]; omega
  have h2 : (2048#32 : BitVec 32).toInt = 2048 := by decide
  simp only [IntOp.cmpi, BitVec.slt, hk, h2]
  by_cases hlt : k < 2048
  · simp [hlt]
  · simp [hlt]

/-- What is carried beside the buffers: the core's open transfers. -/
abbrev Rw (c : Dev nD) : sProp (MT nD τ sig Unit (Elt F) ℕ (Option PUnit) ℕ) := iprop(∃ U, owes (c : Thread nD τ) (0 : CellTallies nD τ sig Unit) U)

/-- The forward loop's condition: it holds while fewer than 2048 trips are done. -/
theorem fwd_cond (h : ∀ c, W c (Proc.devRef .tc main_v28_6) = fun _ => (0#32 : BitVec 32)) :
    LoopCond (Ix := Unit) (Name := ℕ) (U := Option PUnit) (Lvl := ℕ) (pcfgs (F := F)) defs₀ Variants.none loops Rw main_while0_cond condFwd [fwdOps] W 2048 := fun k hk c bd => by
  have hctr := fwd_at W h c k
  simp only [main_while0_cond, bind_pure]
  rw [wp_bind]
  iintro ⟨Hb, Hh, HR⟩
  iapply (StableHlo.wp_hlo_within (Variants.lift Variants.none) (c : Thread nD τ) bd Set.univ (sub_ucRefs _ (StableHlo.nullary_bufs_sub ..))) $$ [Hb Hh]
  · isplitl [Hb]; · iexact Hb
    iexact Hh
  iintro ⟨Hb, Hh⟩
  rw [wp_ret]; imodintro
  iapply (StableHlo.wp_hlo_within (Variants.lift Variants.none) (c : Thread nD τ) bd Set.univ (sub_ucRefs _ (StableHlo.binary_bufs_sub ..))) $$ [Hb Hh]
  · isplitl [Hb]; · iexact Hb
    iexact Hh
  iintro ⟨Hb, Hh⟩
  unfold HostLoop.elt
  erw [wp_ret]; imodintro
  isplitr
  · ipureintro
    show Iff (IntOp.cmpi .slt (HloOp.result _ (atTrip condFwd [fwdOps] W k c) (Proc.devRef .tc main_v28_6) HostLoop.idx0)
        (HloOp.result _ (atTrip condFwd [fwdOps] W k c) (Proc.devRef .tc main_while0c_c_41) HostLoop.idx0) = 1#1) (k < 2048)
    rw [StableHlo.nullary_result_ne _ _ _ _ (by decide), StableHlo.nullary_result, hctr]
    exact pred_iff k hk
  isplitl [Hb]; · iexact Hb
  isplitl [Hh]; · iexact Hh
  iexact HR

/-- The backward loop's condition: it holds while fewer than 2048 trips are done. -/
theorem bwd_cond (h : ∀ c, W c (Proc.devRef .tc main_v41_12) = fun _ => (0#32 : BitVec 32)) :
    LoopCond (Ix := Unit) (Name := ℕ) (U := Option PUnit) (Lvl := ℕ) (pcfgs (F := F)) defs₀ Variants.none loops Rw main_while1_cond condBwd [bwdOps] W 2048 := fun k hk c bd => by
  have hctr := bwd_at W h c k
  simp only [main_while1_cond, bind_pure]
  rw [wp_bind]
  iintro ⟨Hb, Hh, HR⟩
  iapply (StableHlo.wp_hlo_within (Variants.lift Variants.none) (c : Thread nD τ) bd Set.univ (sub_ucRefs _ (StableHlo.nullary_bufs_sub ..))) $$ [Hb Hh]
  · isplitl [Hb]; · iexact Hb
    iexact Hh
  iintro ⟨Hb, Hh⟩
  rw [wp_ret]; imodintro
  iapply (StableHlo.wp_hlo_within (Variants.lift Variants.none) (c : Thread nD τ) bd Set.univ (sub_ucRefs _ (StableHlo.binary_bufs_sub ..))) $$ [Hb Hh]
  · isplitl [Hb]; · iexact Hb
    iexact Hh
  iintro ⟨Hb, Hh⟩
  unfold HostLoop.elt
  erw [wp_ret]; imodintro
  isplitr
  · ipureintro
    show Iff (IntOp.cmpi .slt (HloOp.result _ (atTrip condBwd [bwdOps] W k c) (Proc.devRef .tc main_v41_12) HostLoop.idx0)
        (HloOp.result _ (atTrip condBwd [bwdOps] W k c) (Proc.devRef .tc main_while1c_c_43) HostLoop.idx0) = 1#1) (k < 2048)
    rw [StableHlo.nullary_result_ne _ _ _ _ (by decide), StableHlo.nullary_result, hctr]
    exact pred_iff k hk
  isplitl [Hb]; · iexact Hb
  isplitl [Hh]; · iexact Hh
  iexact HR

end Cert.Proof.Ref
-- ==== Proof.RefMain.lean ====
module

public import proofs.«01_k».proof.Proof.RefRun
public import Idealize.ShloMosaic.Lib.StableHlo.RunLoop
public import Idealize.ShloMosaic.Lib.StableHlo.RunRead
public import Idealize.ShloMosaic.Lib.Pipeline.Regions

@[expose] public section

noncomputable section

namespace Cert.Proof.Ref

open Idealize.ShloMosaic Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.StableHlo
open Idealize.ShloMosaic.Pipeline (CSeg Ticket PCfg ucRefs sub_ucRefs)
open TcCoe
open Cert.ReferenceIdeal Cert.ReferenceIdeal.Gen

variable {F : FTy → Type} [FloatOps F]

/-- Every buffer as the forward loop is entered. -/
def E0 (m : (ℓ : Loc nD τ sig) → Buf (Elt F) ℓ) (c : Dev nD) : Valuation τ sig (Elt F) := after preOps (launchContents m c)
/-- Every buffer before the `k`-th forward trip. -/
def A (m : (ℓ : Loc nD τ sig) → Buf (Elt F) ℓ) (k : ℕ) (c : Dev nD) : Valuation τ sig (Elt F) := atTrip condFwd [fwdOps] (E0 m) k c
/-- Every buffer as the backward loop is entered. -/
def E1 (m : (ℓ : Loc nD τ sig) → Buf (Elt F) ℓ) (c : Dev nD) : Valuation τ sig (Elt F) := after midOps (after condFwd (A m 2048 c))
/-- Every buffer before the `k`-th backward trip. -/
def D (m : (ℓ : Loc nD τ sig) → Buf (Elt F) ℓ) (k : ℕ) (c : Dev nD) : Valuation τ sig (Elt F) := atTrip condBwd [bwdOps] (E1 m) k c
/-- Every buffer at the end. -/
def fin (m : (ℓ : Loc nD τ sig) → Buf (Elt F) ℓ) (c : Dev nD) : Valuation τ sig (Elt F) := after postOps (after condBwd (D m 2048 c))

theorem E0_ctr (m : (ℓ : Loc nD τ sig) → Buf (Elt F) ℓ) (c : Dev nD) : E0 m c (Proc.devRef .tc main_v28_6) = fun _ => (0#32 : BitVec 32) := by
  unfold E0; after_reads_simp; rfl

theorem E1_ctr (m : (ℓ : Loc nD τ sig) → Buf (Elt F) ℓ) (c : Dev nD) : E1 m c (Proc.devRef .tc main_v41_12) = fun _ => (0#32 : BitVec 32) := by
  unfold E1; generalize after condFwd _ = V; after_reads_simp; rfl

section Run

local notation "𝕄" => MT nD τ sig Unit (Elt F) ℕ (Option PUnit) ℕ

abbrev adm : (p : Fin 0) → (pcfgs (F := F) p).Adm := fun p => p.elim0
abbrev tk : Fin 0 → Ticket (Ix := Unit) (Name := ℕ) (U := Option PUnit) (Lvl := ℕ) (nD := nD) (τ := τ) (pcfgs (F := F)) adm := fun j => j.elim0
abbrev L : GSem nD τ sig → Finset Unit := fun _ => ∅
abbrev lv : GSem nD τ sig → Unit → ℕ := fun _ _ => 0

variable (m : (ℓ : Loc nD τ sig) → Buf (Elt F) ℓ)

/-- The forward loop as a segment. -/
abbrev seg0 : CSeg (pcfgs (F := F)) adm defs₀ Variants.none L lv loops tk :=
  loopSeg _ _ _ _ _ _ _ _ 0 main_while0_cond main_while0_body rfl condFwd [fwdOps] (plain_of fwdOps_op) fwd_chain 2048 (E0 m) Rw (fwd_cond _ (E0_ctr m))
/-- The backward loop as a segment. -/
abbrev seg1 : CSeg (pcfgs (F := F)) adm defs₀ Variants.none L lv loops tk :=
  loopSeg _ _ _ _ _ _ _ _ 1 main_while1_cond main_while1_body rfl condBwd [bwdOps] (plain_of bwdOps_op) bwd_chain 2048 (E1 m) Rw (bwd_cond _ (E1_ctr m))

/-- The whole program's segments. -/
def segs : List (CSeg (pcfgs (F := F)) adm defs₀ Variants.none L lv loops tk) :=
  segsOf _ _ _ _ _ _ _ _ Rw [preOps] (plain_of preOps_op) (launchContents m)
    ++ seg0 m :: (segsOf _ _ _ _ _ _ _ _ Rw [midOps] (plain_of midOps_op) (fun c => after condFwd (A m 2048 c))
    ++ seg1 m :: segsOf _ _ _ _ _ _ _ _ Rw [postOps] (plain_of postOps_op) (fun c => after condBwd (D m 2048 c)))

theorem segs_prog : (segs m).map CSeg.prog = [seq preOps, HostLoop.enter 0, seq midOps, HostLoop.enter 1, seq postOps] := by
  unfold segs
  rw [List.map_append, List.map_cons, List.map_append, List.map_cons, segsOf_prog, segsOf_prog, segsOf_prog]
  rfl

theorem segs_chains :
    CSeg.Chains (fun c => iprop(held (c : Thread nD τ) (ucRefs τ sig) (launchContents m c) ∗ Rw c)) (segs m)
      (fun c => iprop(iprop(held (c : Thread nD τ) (ucRefs τ sig) (fin m c)) ∗ ∃ W, owes (c : Thread nD τ) (0 : CellTallies nD τ sig Unit) W)) := by
  unfold segs
  exact CSeg.Chains.append (segsOf_chains _ _ _ _ _ _ _ _ Rw [preOps] (plain_of preOps_op) _)
    ⟨fun _ => .rfl, CSeg.Chains.append (segsOf_chains _ _ _ _ _ _ _ _ Rw [midOps] (plain_of midOps_op) _)
      ⟨fun _ => .rfl, segsOf_chains _ _ _ _ _ _ _ _ Rw [postOps] (plain_of postOps_op) _⟩⟩

/-- Equal programs meet the same post. -/
theorem wp_of_eq (c : Dev nD) {p q : Pr F} (h : p = q) (Q : PUnit → sProp 𝕄) :
    wp frame (wpE (HostLoop.defs loops (Pipeline.defs pcfgs defs₀)) Variants.none.lift (c.tc : Thread nD τ) none) Set.univ q Q
      ⊢ wp frame (wpE (HostLoop.defs loops (Pipeline.defs pcfgs defs₀)) Variants.none.lift (c.tc : Thread nD τ) none) Set.univ p Q := by
  subst h; exact .rfl

/-- The reference's run: every buffer ends at `fin`, and every semaphore at zero. -/
theorem run_ref (ρ : Dev nD → PrngReg) :
    θ_run defs (onTc (τ := τ) (main (F := F))) ⟨m, fun _ => 0, ρ⟩ (fun r =>
      (∀ (c : Dev nD) (b : Ref sig .tc), (Proc.devRef .tc b : DevRef τ sig).isScoped = false →
        r.2.mem ((c.tc : Thread nD τ).loc b) = fin m c (Proc.devRef .tc b)) ∧ r.2.sem = fun _ => 0) :=
  Pipeline.θ_run_regions_loop_kit_sems (Ix := Unit) (Name := ℕ) (U := Option PUnit) (Lvl := ℕ) (J := Fin 0) (P := Fin 0) (Val := Elt F)
    pcfgs adm (fun k => k.1.elim0) defs₀ Variants.none L lv loops tk m ρ main (segs m)
    (fun c Q => wp_of_eq c ((main_chain c).trans (congrArg Pipeline.chain (segs_prog m).symm)) Q)
    (Pipeline.CSeg.pairwise_disjoint_of_T_empty _ fun s _ => Finset.eq_empty_of_isEmpty s.T)
    (O₀ := 0) (hL := fun _ _ => rfl) (G := fun _ => iprop(emp)) (u₀ := 1)
    (hu₀ := by
      iintro -
      imodintro
      isplitl []
      · rw [Finset.univ_eq_empty, BI.bigSep_empty]; iempintro
      · iapply (show (BI.emp : sProp 𝕄) ⊢ bigSep Finset.univ (fun _ : Dev nD => (BI.emp : sProp 𝕄)) from by rw [BI.bigSep_emp_const])
        iempintro)
    (T₀ := fun c => iprop(held (c : Thread nD τ) (ucRefs τ sig) (launchContents m c) ∗ Rw c))
    (Tₙ := fun c => iprop(held (c : Thread nD τ) (ucRefs τ sig) (fin m c)))
    (hch := segs_chains m)
    (hinit := by
      refine Pipeline.initEach L lv fun c => ?_
      rw [show unscopedBufs c (fun b => m ((c : Thread nD τ).loc b)) = held (c : Thread nD τ) (ucRefs τ sig) (launchContents m c) from Pipeline.unscopedBufs_held c (launchContents m c)]
      iintro ⟨⟨Hh, -, HO, -, -, -⟩, -⟩
      imodintro
      isplitl [Hh]; · iexact Hh
      iexists ∅; iexact HO)
    (QY := fun c s => ∀ b ∈ ucRefs τ sig, s.mem ((c : Dev nD), b) = fin m c b)
    (hfin := fun c s' => by
      unfold held
      iintro ⟨Hh, HSI⟩
      ihave Hr := (pointsTo_read_all (ucRefs τ sig) (fun b => ((c : Dev nD), b)) (fun b => fin m c b) s') $$ [Hh HSI]
      · isplitl [Hh] <;> iassumption
      icases Hr with ⟨%h, HSI⟩
      imodintro
      isplitr; · ipureintro; exact h
      iexact HSI)
    (hQ := fun s h hs => ⟨fun c b hb => h c _ (devRef_mem_ucRefs b hb), funext fun g => by
      rcases g with ⟨⟨c, p⟩, y⟩
      rcases p with _ | _ | _
      · cases y with
        | reg s => exact s.elim0
        | dma s => exact s.elim0
      all_goals exact hs _ (Or.inl (by simp))⟩)

end Run

end Cert.Proof.Ref
-- ==== Proof.RefFrame.lean ====
module

public import proofs.«01_k».proof.Proof.RefMain
public import Idealize.ShloMosaic.Lib.StableHlo.RunLoop
public import Idealize.ShloMosaic.Lib.StableHlo.RunRead
public import Idealize.ShloMosaic.Lib.Pipeline.Regions

@[expose] public section

noncomputable section

namespace Cert.Proof.Ref

open Idealize.ShloMosaic Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.StableHlo
open Idealize.ShloMosaic.Pipeline (CSeg Ticket PCfg ucRefs sub_ucRefs)
open TcCoe
open Cert.ReferenceIdeal Cert.ReferenceIdeal.Gen

variable {F : FTy → Type} [FloatOps F]

/-- A line of operations that leaves every argument as it finds it. -/
def Keeps (ops : List (HloOp τ sig (Elt F))) : Prop := ∀ V : Valuation τ sig (Elt F),
  after ops V (Proc.devRef .tc main_arg0) = V (Proc.devRef .tc main_arg0) ∧ after ops V (Proc.devRef .tc main_arg1) = V (Proc.devRef .tc main_arg1)
  ∧ after ops V (Proc.devRef .tc main_arg2) = V (Proc.devRef .tc main_arg2) ∧ after ops V (Proc.devRef .tc main_arg3) = V (Proc.devRef .tc main_arg3)
  ∧ after ops V (Proc.devRef .tc main_arg4) = V (Proc.devRef .tc main_arg4) ∧ after ops V (Proc.devRef .tc main_arg5) = V (Proc.devRef .tc main_arg5)
  ∧ after ops V (Proc.devRef .tc main_arg6) = V (Proc.devRef .tc main_arg6)

theorem Keeps.append {a b : List (HloOp τ sig (Elt F))} (ha : Keeps a) (hb : Keeps b) : Keeps (a ++ b) := fun V => by
  obtain ⟨a0, a1, a2, a3, a4, a5, a6⟩ := ha V
  obtain ⟨b0, b1, b2, b3, b4, b5, b6⟩ := hb (after a V)
  rw [after_append]
  exact ⟨b0.trans a0, b1.trans a1, b2.trans a2, b3.trans a3, b4.trans a4, b5.trans a5, b6.trans a6⟩

theorem preOps_keeps : Keeps (preOps (F := F)) := fun V => by
  refine ⟨?_, ?_, ?_, ?_, ?_, ?_, ?_⟩ <;> after_reads_simp

theorem midOps_keeps : Keeps (midOps (F := F)) := fun V => by
  refine ⟨?_, ?_, ?_, ?_, ?_, ?_, ?_⟩ <;> after_reads_simp

theorem postOps_keeps : Keeps (postOps (F := F)) := fun V => by
  refine ⟨?_, ?_, ?_, ?_, ?_, ?_, ?_⟩ <;> after_reads_simp

theorem fwdTakes_keeps : Keeps (fwdTakes (F := F)) := fun V => by
  refine ⟨?_, ?_, ?_, ?_, ?_, ?_, ?_⟩ <;> after_reads_simp

theorem fwdCore_keeps : Keeps (fwdCore (F := F)) := fun V => by
  refine ⟨?_, ?_, ?_, ?_, ?_, ?_, ?_⟩ <;> after_reads_simp

theorem fwdPuts_keeps : Keeps (fwdPuts (F := F)) := fun V => by
  refine ⟨?_, ?_, ?_, ?_, ?_, ?_, ?_⟩ <;> after_reads_simp

theorem fwdEnd_keeps : Keeps (fwdEnd (F := F)) := fun V => by
  refine ⟨?_, ?_, ?_, ?_, ?_, ?_, ?_⟩ <;> after_reads_simp

theorem bwdIdx_keeps : Keeps (bwdIdx (F := F)) := fun V => by
  refine ⟨?_, ?_, ?_, ?_, ?_, ?_, ?_⟩ <;> after_reads_simp

theorem bwdTakes_keeps : Keeps (bwdTakes (F := F)) := fun V => by
  refine ⟨?_, ?_, ?_, ?_, ?_, ?_, ?_⟩ <;> after_reads_simp

theorem bwdCore_keeps : Keeps (bwdCore (F := F)) := fun V => by
  refine ⟨?_, ?_, ?_, ?_, ?_, ?_, ?_⟩ <;> after_reads_simp

theorem bwdPuts_keeps : Keeps (bwdPuts (F := F)) := fun V => by
  refine ⟨?_, ?_, ?_, ?_, ?_, ?_, ?_⟩ <;> after_reads_simp

theorem bwdEnd_keeps : Keeps (bwdEnd (F := F)) := fun V => by
  refine ⟨?_, ?_, ?_, ?_, ?_, ?_, ?_⟩ <;> after_reads_simp

theorem condFwd_keeps : Keeps (condFwd (F := F)) := fun V => by
  refine ⟨?_, ?_, ?_, ?_, ?_, ?_, ?_⟩ <;> after_reads_simp

theorem condBwd_keeps : Keeps (condBwd (F := F)) := fun V => by
  refine ⟨?_, ?_, ?_, ?_, ?_, ?_, ?_⟩ <;> after_reads_simp

theorem fwdOps_keeps : Keeps (fwdOps (F := F)) := ((fwdTakes_keeps.append fwdCore_keeps).append fwdPuts_keeps).append fwdEnd_keeps
theorem bwdOps_keeps : Keeps (bwdOps (F := F)) := (((bwdIdx_keeps.append bwdTakes_keeps).append bwdCore_keeps).append bwdPuts_keeps).append bwdEnd_keeps

/-- Keeping lines keep the arguments through any number of trips. -/
theorem trips_keep {a b : List (HloOp τ sig (Elt F))} (ha : Keeps a) (hb : Keeps b) (W : Dev nD → Valuation τ sig (Elt F)) (c : Dev nD) (k : ℕ)
    {r : Ref sig .tc} (hr : ∀ {l : List (HloOp τ sig (Elt F))}, Keeps l → ∀ V, after l V (Proc.devRef .tc r) = V (Proc.devRef .tc r)) :
    atTrip a [b] W k c (Proc.devRef .tc r) = W c (Proc.devRef .tc r) := by
  induction k with
  | zero => rfl
  | succ k ih => rw [atTrip_succ, afterL_cons, afterL_nil, hr hb, hr ha, ih]

theorem fin_keep (m : (ℓ : Loc nD τ sig) → Buf (Elt F) ℓ) (c : Dev nD)
    {r : Ref sig .tc} (hr : ∀ {l : List (HloOp τ sig (Elt F))}, Keeps l → ∀ V, after l V (Proc.devRef .tc r) = V (Proc.devRef .tc r)) :
    fin m c (Proc.devRef .tc r) = m ((c.tc : Thread nD τ).loc r) := by
  rw [fin, hr postOps_keeps, hr condBwd_keeps, D, trips_keep condBwd_keeps bwdOps_keeps _ _ _ hr, E1, hr midOps_keeps, hr condFwd_keeps, A,
    trips_keep condFwd_keeps fwdOps_keeps _ _ _ hr, E0, hr preOps_keeps]

end Cert.Proof.Ref
-- ==== Proof.Frames.lean ====
module

public import proofs.«01_k».proof.Defs
public import proofs.«01_k».proof.Proof.Run
public import proofs.«01_k».proof.Proof.RefFrame

@[expose] public section

set_option maxRecDepth 65536
set_option maxHeartbeats 8000000

noncomputable section

namespace Cert.Proof

open Idealize.ShloMosaic Idealize.SL.Sem
open TcCoe

section Ideal

open Cert.KernelIdeal Cert.Proof.Scan

variable {F : FTy → Type} [FloatOps F]

/-- An array no call writes ends as it began. -/
theorem U2_arg (m : (ℓ : Loc nD τ sig) → Buf (Elt F) ℓ) (c : Dev nD) (r : Ref sig .tc)
    (h0 : r ≠ main_v0_0) (h1 : r ≠ main_v0_1) (h2 : r ≠ main_v1_0) (h3 : r ≠ main_v1_1) (h4 : r ≠ main_v1_2) (h5 : r ≠ main_v1_3)
    (h6 : r ≠ main_v1_4) (h7 : r ≠ main_v1_5) : U2 m c r = m ((c.tc : Thread nD τ).loc r) :=
  (U2_of m c r h2 h3 h4 h5 h6 h7).trans (U1_of m c r h0 h1)

/-- The program runs, every argument ends unchanged and every counter at zero, at any float model. -/
theorem frame_any (m : (ℓ : Loc nD τ sig) → Buf (Elt F) ℓ) (ρ : Dev nD → PrngReg) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) ∧ r.2.sem = fun _ => 0) :=
  (θ_run defs _ _).mono (fun _ h => ⟨fun c => by
    have e : ∀ (r : Ref sig .tc) (hs : r.isScoped = false), r ≠ main_v0_0 → r ≠ main_v0_1 → r ≠ main_v1_0 → r ≠ main_v1_1 → r ≠ main_v1_2 → r ≠ main_v1_3
        → r ≠ main_v1_4 → r ≠ main_v1_5 → _ = m ((c.tc : Thread nD τ).loc r) :=
      fun r hs h0 h1 h2 h3 h4 h5 h6 h7 => (h.1 c r hs).trans (U2_arg m c r h0 h1 h2 h3 h4 h5 h6 h7)
    refine ⟨?_, ?_, ?_, ?_, ?_, ?_, ?_⟩
    all_goals exact e _ rfl (by decide) (by decide) (by decide) (by decide) (by decide) (by decide) (by decide) (by decide), h.2⟩) (run_main m ρ)

end Ideal

/-- `KernelIdeal`'s frame. -/
theorem frame_kernelIdeal [hKernelIdeal : Cert.KernelIdeal.Facts] : Cert.quiescent_KernelIdeal := fun m ρ _ => frame_any (F := Ideal) m ρ

/-- `ReferenceIdeal`'s frame. -/
theorem frame_reference [hReferenceIdeal : Cert.ReferenceIdeal.Facts] : Cert.quiescent_ReferenceIdeal := fun m ρ _ =>
  (θ_run Cert.ReferenceIdeal.defs _ _).mono (fun _ h => ⟨fun c =>
    ⟨(h.1 c _ rfl).trans (Ref.fin_keep m c fun k V => (k V).1),
     (h.1 c _ rfl).trans (Ref.fin_keep m c fun k V => (k V).2.1),
     (h.1 c _ rfl).trans (Ref.fin_keep m c fun k V => (k V).2.2.1),
     (h.1 c _ rfl).trans (Ref.fin_keep m c fun k V => (k V).2.2.2.1),
     (h.1 c _ rfl).trans (Ref.fin_keep m c fun k V => (k V).2.2.2.2.1),
     (h.1 c _ rfl).trans (Ref.fin_keep m c fun k V => (k V).2.2.2.2.2.1),
     (h.1 c _ rfl).trans (Ref.fin_keep m c fun k V => (k V).2.2.2.2.2.2)⟩, h.2⟩) (Ref.run_ref m ρ)

end Cert.Proof
-- ==== Proof.FrameWords.lean ====
module

public import proofs.«01_k».proof.Proof.Frames
public import proofs.«01_k».proof.Proof.Gen.Kernel

@[expose] public section

set_option maxRecDepth 65536
set_option maxHeartbeats 8000000

noncomputable section

/-! The frame of the kernel over words, from the idealized program's text. -/

namespace Cert.Proof

open Idealize.ShloMosaic Idealize.SL.Sem
open TcCoe

section Words

variable {F : FTy → Type} [FloatOps F] [hKernel : Cert.Kernel.Facts]

theorem pcfgs_eq : Cert.Kernel.pcfgs (F := F) = Cert.KernelIdeal.pcfgs (F := F) := rfl

theorem fwd_eq : @Cert.Kernel.cc0_rwkv_scan_fwd F _ _ = @Cert.KernelIdeal.cc0_rwkv_scan_fwd F _ _ := rfl

theorem bwd_eq : @Cert.Kernel.cc1_rwkv_scan_bwd F _ _ = @Cert.KernelIdeal.cc1_rwkv_scan_bwd F _ _ := rfl

/-- The two programs' kernels are the same. -/
theorem defs₀_eq : Cert.Kernel.defs₀ (F := F) = Cert.KernelIdeal.defs₀ (F := F) := by
  unfold Cert.Kernel.defs₀ Cert.KernelIdeal.defs₀
  refine congrArg Defs.onTc ?_
  funext l x
  match l, x with
  | 0, (t, s) => rfl
  | 1, (t, s) => rfl

/-- The two programs' calls are the same. -/
theorem defs_eq : Cert.Kernel.defs (F := F) = Cert.KernelIdeal.defs (F := F) :=
  congrArg (Pipeline.defs Cert.KernelIdeal.pcfgs) defs₀_eq

end Words

/-- `Kernel`'s frame: its text is the idealized program's, read at words. -/
theorem frame_kernel [hKernel : Cert.Kernel.Facts] : Cert.quiescent_Kernel := fun m ρ _ => by
  have h := frame_any (F := Bits) m ρ
  rw [← defs_eq] at h
  exact h

end Cert.Proof
-- ==== Proof.Maths.lean ====
module

public import Idealize.ShloMosaic.PureOps.Ideal.Laws

@[expose] public section

noncomputable section

/-! The recurrence and its adjoint, as mathematics: what both programs compute. -/

namespace Cert.Proof.Maths

/-- The seven inputs, by time, head and channel. -/
structure In where
  r : ℕ → Fin 4 → Fin 64 → EReal
  w : ℕ → Fin 4 → Fin 64 → EReal
  k : ℕ → Fin 4 → Fin 64 → EReal
  v : ℕ → Fin 4 → Fin 64 → EReal
  kk : ℕ → Fin 4 → Fin 64 → EReal
  a : ℕ → Fin 4 → Fin 64 → EReal
  dy : ℕ → Fin 4 → Fin 64 → EReal

/-- A matrix a head: the state, or its adjoint. -/
abbrev Mat := Fin 4 → Fin 64 → Fin 64 → EReal

variable (x : In)

/-- The state's product with the negated key. -/
def sa (S : Mat) (t : ℕ) (h : Fin 4) (i : Fin 64) : EReal := ∑ j, S h i j * -(x.kk t h j)

/-- The state before step `t`. -/
def S : ℕ → Mat
  | 0 => fun _ _ _ => 0
  | t + 1 => fun h i j => S t h i j * x.w t h j + sa x (S t) t h i * (x.kk t h j * x.a t h j) + x.v t h i * x.k t h j

/-- The output of step `t`. -/
def y (t : ℕ) (h : Fin 4) (i : Fin 64) : EReal := ∑ j, S x (t + 1) h i j * x.r t h j

/-- The adjoint of the state after step `t`, from what later steps left of it. -/
def g (Ds : Mat) (t : ℕ) : Mat := fun h i j => Ds h i j + x.dy t h i * x.r t h j

/-- The adjoint of the state's product. -/
def dsa (Ds : Mat) (t : ℕ) (h : Fin 4) (i : Fin 64) : EReal := ∑ j, g x Ds t h i j * (x.kk t h j * x.a t h j)

/-- The adjoint of the state after `n` steps back. -/
def DS : ℕ → Mat
  | 0 => fun _ _ _ => 0
  | n + 1 => fun h i j => g x (DS n) (2047 - n) h i j * x.w (2047 - n) h j + dsa x (DS n) (2047 - n) h i * -(x.kk (2047 - n) h j)

/-- The adjoint reaching step `t`. -/
def D (t : ℕ) : Mat := DS x (2047 - t)

def dr (t : ℕ) (h : Fin 4) (j : Fin 64) : EReal := ∑ i, S x (t + 1) h i j * x.dy t h i
def dw (t : ℕ) (h : Fin 4) (j : Fin 64) : EReal := ∑ i, S x t h i j * g x (D x t) t h i j
def dk (t : ℕ) (h : Fin 4) (j : Fin 64) : EReal := ∑ i, x.v t h i * g x (D x t) t h i j
def dv (t : ℕ) (h : Fin 4) (i : Fin 64) : EReal := ∑ j, g x (D x t) t h i j * x.k t h j
def db (t : ℕ) (h : Fin 4) (j : Fin 64) : EReal := ∑ i, sa x (S x t) t h i * g x (D x t) t h i j
def da (t : ℕ) (h : Fin 4) (j : Fin 64) : EReal := x.kk t h j * db x t h j
def dkk (t : ℕ) (h : Fin 4) (j : Fin 64) : EReal := db x t h j * x.a t h j + -(∑ i, S x t h i j * dsa x (D x t) t h i)

end Cert.Proof.Maths
-- ==== Proof.KStep.lean ====
module

public import Idealize.ShloMosaic.Lib.Pointwise
public import proofs.«01_k».proof.Proof.BwdBlock
public import proofs.«01_k».proof.Proof.FwdDat
public import proofs.«01_k».proof.Proof.Maths

@[expose] public section

set_option maxRecDepth 16384
set_option maxHeartbeats 1000000

noncomputable section

/-! One step's functions over the extended reals, at an index. -/

namespace Cert.Proof.Scan

open Cert.KernelIdeal Cert.KernelIdeal.Gen
open Idealize.ShloMosaic Idealize.ShloMosaic.TcCoe

/-- The one entry a mask of lanes leaves. -/
theorem sum_lane (v : Fin 128 → EReal) (w : BitVec 32) (t : Fin 128) (hw : w = BitVec.ofNat 32 t.val) :
    ∑ l : Fin 128, (Scalar.select (IntOp.cmpi .eq (BitVec.ofNat 32 l.val) w) (v l) 0 : EReal) = v t := by
  subst hw
  simp only [lane_select]
  exact (Finset.sum_ite_eq' Finset.univ t v).trans (if_pos (Finset.mem_univ _))

/-- A row of the identity matrix, as a number. -/
theorem eye_at {n : ℕ} (hn : n ≤ 128) (a b : Fin n) :
    (FloatOps.sitofp (F := Ideal) .f32 (BitVec.setWidth 32 (IntOp.cmpi .eq (BitVec.ofNat 32 a.val) (BitVec.ofNat 32 b.val))) : EReal)
      = if b = a then 1 else 0 := by
  have e : (IntOp.cmpi .eq (BitVec.ofNat 32 a.val) (BitVec.ofNat 32 b.val) : BitVec 1) = if b = a then 1#1 else 0#1 := by
    by_cases h : b = a
    · subst h; rw [if_pos rfl]; simp [IntOp.cmpi]
    · rw [if_neg h]
      have : BitVec.ofNat 32 a.val ≠ BitVec.ofNat 32 b.val := fun q => h <| Fin.ext <| by
        have := congrArg BitVec.toNat q
        simp only [BitVec.toNat_ofNat] at this
        omega
      show BitVec.ofBool _ = _
      rw [beq_eq_false_iff_ne.mpr this]
      rfl
  rw [e]
  split
  · show (((BitVec.setWidth 32 1#1).toInt : ℝ) : EReal) = 1
    rw [show (BitVec.setWidth 32 1#1).toInt = 1 from by decide]; norm_num
  · show (((BitVec.setWidth 32 0#1).toInt : ℝ) : EReal) = 0
    rw [show (BitVec.setWidth 32 0#1).toInt = 0 from by decide]; norm_num

/-- A sum against a row of the identity matrix: the entry. -/
theorem sum_eye {n : ℕ} (hn : n ≤ 128) (v : Fin n → EReal) (a : Fin n) :
    ∑ b : Fin n, (FloatOps.sitofp (F := Ideal) .f32 (BitVec.setWidth 32 (IntOp.cmpi .eq (BitVec.ofNat 32 a.val) (BitVec.ofNat 32 b.val))) : EReal) * v b = v a := by
  simp only [eye_at hn, ite_mul, one_mul, zero_mul]
  exact (Finset.sum_ite_eq' Finset.univ a v).trans (if_pos (Finset.mem_univ _))

/-- What one backward step of head `h` reads is what the recurrence has at time `t`. -/
structure LdIs (X : Maths.In) (t : ℕ) (h : Fin 4) (i : Fin k1_t1_loop.trips) (x : Ld Ideal) : Prop where
  s : ∀ a b, (x.s (ix4 0 0 a b) : EReal) = Maths.S X t h a b
  r : ∀ b, (x.r (ix3 0 0 b) : EReal) = X.r t h b
  w : ∀ b, (x.w (ix3 0 0 b) : EReal) = X.w t h b
  k : ∀ b, (x.k (ix3 0 0 b) : EReal) = X.k t h b
  kk : ∀ b, (x.kk (ix3 0 0 b) : EReal) = X.kk t h b
  a : ∀ b, (x.a (ix3 0 0 b) : EReal) = X.a t h b
  v : ∀ a, (x.v (ix3 0 a (tOf i)) : EReal) = X.v t h a
  dy : ∀ a, (x.dy (ix3 0 a (tOf i)) : EReal) = X.dy t h a

section Step

variable {X : Maths.In} {t : ℕ} {h : Fin 4} {i : Fin k1_t1_loop.trips} {x : Ld Ideal} {Ds : Maths.Mat} {ds : FVec Ideal S64x64 .f32}

theorem LdIs.vcol (H : LdIs X t h i x) (a : Fin 64) : (vcol i x (ix2 a 0) : EReal) = X.v t h a := by
  rw [← H.v]
  unfold Scan.vcol k1_pay10
  pointwise
  exact sum_lane (fun l => x.v (ix3 0 a l)) _ _ (word_eq i)

theorem LdIs.dycol (H : LdIs X t h i x) (a : Fin 64) : (dycol i x (ix2 a 0) : EReal) = X.dy t h a := by
  rw [← H.dy]
  unfold Scan.dycol k1_pay11
  pointwise
  exact sum_lane (fun l => x.dy (ix3 0 a l)) _ _ (word_eq i)

theorem LdIs.sa (H : LdIs X t h i x) (a : Fin 64) : (saOf x (ix2 a 0) : EReal) = Maths.sa X (Maths.S X t) t h a := by
  unfold Scan.saOf k1_pay12 k1_pay4 k1_pay8 Maths.sa
  pointwise
  exact Finset.sum_congr rfl fun j _ => by rw [← H.s, ← H.kk]; exact congrArg (_ * ·) (zero_sub _)

theorem LdIs.g (H : LdIs X t h i x) (hd : ∀ a b, (ds (ix2 a b) : EReal) = Ds h a b) (a b : Fin 64) : (gOf i x ds (ix2 a b) : EReal) = Maths.g X Ds t h a b := by
  unfold Scan.gOf k1_pay14 k1_pay5 Maths.g
  pointwise
  rw [hd, H.dycol, H.r]

theorem LdIs.dr (H : LdIs X t h i x) (b : Fin 64) : (dr i x ds (ix3 0 0 b) : EReal) = ∑ a, Maths.S X (t + 1) h a b * X.dy t h a := by
  unfold Scan.dr k1_pay13
  pointwise
  refine Finset.sum_congr rfl fun a _ => ?_
  rw [H.dycol, H.vcol, show k1_pay12 (k1_pay4 x.s) (k1_pay8 x.kk) (ix2 a 0) = _ from H.sa a]
  unfold k1_pay4 k1_pay6 k1_pay7 k1_pay8 k1_pay9
  pointwise
  rw [H.s, H.w, H.kk, H.a, H.k]
  rfl

theorem LdIs.dw (H : LdIs X t h i x) (hd : ∀ a b, (ds (ix2 a b) : EReal) = Ds h a b) (b : Fin 64) :
    (dw i x ds (ix3 0 0 b) : EReal) = ∑ a, Maths.S X t h a b * Maths.g X Ds t h a b := by
  unfold Scan.dw k1_pay15
  pointwise
  refine Finset.sum_congr rfl fun a _ => ?_
  rw [show k1_pay14 ds (k1_pay5 x.r) (Scan.dycol i x) (ix2 a b) = _ from H.g hd a b]
  unfold k1_pay4
  pointwise
  rw [H.s]
  exact mul_comm _ _

theorem LdIs.dk (H : LdIs X t h i x) (hd : ∀ a b, (ds (ix2 a b) : EReal) = Ds h a b) (b : Fin 64) :
    (dk i x ds (ix3 0 0 b) : EReal) = ∑ a, X.v t h a * Maths.g X Ds t h a b := by
  unfold Scan.dk k1_pay16
  pointwise
  refine Finset.sum_congr rfl fun a _ => ?_
  rw [show k1_pay14 ds (k1_pay5 x.r) (Scan.dycol i x) (ix2 a b) = _ from H.g hd a b, H.vcol]
  exact mul_comm _ _

theorem LdIs.db (H : LdIs X t h i x) (hd : ∀ a b, (ds (ix2 a b) : EReal) = Ds h a b) (b : Fin 64) :
    (k1_pay19 (saOf x) (gOf i x ds) (ix2 0 b) : EReal) = ∑ a, Maths.sa X (Maths.S X t) t h a * Maths.g X Ds t h a b := by
  unfold k1_pay19
  pointwise
  refine Finset.sum_congr rfl fun a _ => ?_
  rw [H.g hd, H.sa]
  exact mul_comm _ _

theorem LdIs.dsa (H : LdIs X t h i x) (hd : ∀ a b, (ds (ix2 a b) : EReal) = Ds h a b) (a : Fin 64) :
    (k1_pay18 (k1_pay8 x.kk) (k1_pay9 x.a) (gOf i x ds) (ix2 a 0) : EReal) = Maths.dsa X Ds t h a := by
  unfold k1_pay18 k1_pay8 k1_pay9 Maths.dsa
  pointwise
  refine Finset.sum_congr rfl fun b _ => ?_
  rw [H.g hd, H.kk, H.a]

theorem LdIs.da (H : LdIs X t h i x) (hd : ∀ a b, (ds (ix2 a b) : EReal) = Ds h a b) (b : Fin 64) :
    (da i x ds (ix3 0 0 b) : EReal) = X.kk t h b * ∑ a, Maths.sa X (Maths.S X t) t h a * Maths.g X Ds t h a b := by
  unfold Scan.da k1_pay21
  pointwise
  rw [H.db hd]
  unfold k1_pay8
  pointwise
  rw [H.kk]
  exact mul_comm _ _

theorem LdIs.dkk (H : LdIs X t h i x) (hd : ∀ a b, (ds (ix2 a b) : EReal) = Ds h a b) (b : Fin 64) :
    (dkk i x ds (ix3 0 0 b) : EReal) = (∑ a, Maths.sa X (Maths.S X t) t h a * Maths.g X Ds t h a b) * X.a t h b + -(∑ a, Maths.S X t h a b * Maths.dsa X Ds t h a) := by
  unfold Scan.dkk k1_pay20
  pointwise
  rw [H.db hd]
  simp only [H.dsa hd]
  unfold k1_pay4 k1_pay9
  pointwise
  rw [H.a]
  simp only [H.s]
  rfl

theorem LdIs.dv (H : LdIs X t h i x) (hd : ∀ a b, (ds (ix2 a b) : EReal) = Ds h a b) (a : Fin 64) :
    (dvCol i x ds (ix1 a) : EReal) = ∑ b, Maths.g X Ds t h a b * X.k t h b := by
  unfold dvCol k1_pay17
  pointwise
  refine Finset.sum_congr rfl fun b _ => ?_
  rw [show k1_pay14 ds (k1_pay5 x.r) (Scan.dycol i x) (ix2 a b) = _ from H.g hd a b]
  unfold k1_pay7
  pointwise
  rw [H.k]

theorem LdIs.next (H : LdIs X t h i x) (hd : ∀ a b, (ds (ix2 a b) : EReal) = Ds h a b) (a b : Fin 64) :
    (dsNext i x ds (ix2 a b) : EReal) = Maths.g X Ds t h a b * X.w t h b + Maths.dsa X Ds t h a * -(X.kk t h b) := by
  unfold dsNext k1_pay23
  pointwise
  rw [H.g hd, H.dsa hd]
  unfold k1_pay6 k1_pay8
  pointwise
  rw [H.w, H.kk, mul_neg]
  rfl

end Step

/-- What one forward step of head `h` reads is what the recurrence has at time `t`. -/
structure LfIs (X : Maths.In) (t : ℕ) (h : Fin 4) (i : Fin k0_t1_loop.trips) (x : Lf Ideal) : Prop where
  r : ∀ b, (x.r (ix3 0 0 b) : EReal) = X.r t h b
  w : ∀ b, (x.w (ix3 0 0 b) : EReal) = X.w t h b
  k : ∀ b, (x.k (ix3 0 0 b) : EReal) = X.k t h b
  kk : ∀ b, (x.kk (ix3 0 0 b) : EReal) = X.kk t h b
  a : ∀ b, (x.a (ix3 0 0 b) : EReal) = X.a t h b
  v : ∀ a, (x.v (ix3 0 a (sOf i)) : EReal) = X.v t h a

section StepF

variable {X : Maths.In} {t : ℕ} {h : Fin 4} {i : Fin k0_t1_loop.trips} {x : Lf Ideal} {s : FVec Ideal S64x64 .f32}

theorem LfIs.next (H : LfIs X t h i x) (hs : ∀ a b, (s (ix2 a b) : EReal) = Maths.S X t h a b) (a b : Fin 64) :
    (sNext i x s (ix2 a b) : EReal) = Maths.S X (t + 1) h a b := by
  have hv : (k0_pay7 lanes 0#32 1#32 i x.v (ix2 a 0) : EReal) = X.v t h a := by
    rw [← H.v]
    unfold k0_pay7
    pointwise
    exact sum_lane (fun l => x.v (ix3 0 a l)) _ _ (word0_eq i)
  have hsa : (k0_pay9 s x.kk (ix2 a b) : EReal) = Maths.sa X (Maths.S X t) t h a := by
    unfold k0_pay9 k0_pay6 Maths.sa
    pointwise
    exact Finset.sum_congr rfl fun j _ => by rw [← hs, ← H.kk]; exact congrArg (_ * ·) (zero_sub _)
  unfold sNext k0_pay11
  pointwise
  rw [hv, hsa]
  unfold k0_pay8 k0_pay10 k0_pay6 k0_pay5
  pointwise
  rw [hs, H.w, H.kk, H.a, H.k]
  rfl

theorem LfIs.y (H : LfIs X t h i x) (hs : ∀ a b, (s (ix2 a b) : EReal) = Maths.S X t h a b) (a : Fin 64) :
    (yCol i x s (ix1 a) : EReal) = Maths.y X t h a := by
  unfold yCol k0_pay4 Maths.y
  pointwise
  exact Finset.sum_congr rfl fun j _ => by rw [H.next hs, H.r]

end StepF

/-- The turned columns of a head, at an entry. -/
theorem slabs_at (A : Vec Ideal S128x256 .f32) (h : Fin 4) (a : Fin 64) (l : Fin 128) : (slabs A (ix3 h a l) : EReal) = A (ix2 l (lane h a)) := by
  unfold slabs k1_pay87
  pointwise
  exact sum_eye (by decide) (fun b => (colsOf A h (ix2 l b) : EReal)) a

/-- The slabs turned back, at an entry. -/
theorem unslabs_at (A : Vec Ideal S4x64x128 .f32) (l : Fin 128) (h : Fin 4) (a : Fin 64) : (unslabs A (ix2 l (lane h a)) : EReal) = A (ix3 h a l) := by
  unfold unslabs k1_pay107
  pointwise
  rw [show laneHead (lane h a) = h from Fin.ext (by show (64 * h.val + a.val) / 64 = h.val; omega),
    show laneCol (lane h a) = a from Fin.ext (by show (64 * h.val + a.val) % 64 = a.val; omega)]
  exact sum_eye (le_refl _) (fun b => (slabOf A h (ix3 0 a b) : EReal)) l

theorem mats_unmats (D : Fin 4 → FVec Ideal S64x64 .f32) (h : Fin 4) (a b : Fin 64) : (mats (unmats D) h (ix2 a b) : EReal) = D h (ix2 a b) := by
  unfold mats unmats k1_pay97 k1_pay106 matOf
  pointwise

theorem mats_zero (h : Fin 4) (a b : Fin 64) : (mats (F := Ideal) (k1_pay86 (F := Ideal)) h (ix2 a b) : EReal) = (0 : EReal) := by
  unfold mats k1_pay97 matOf k1_pay86
  pointwise

end Cert.Proof.Scan
-- ==== Proof.Inputs.lean ====
module

public import Idealize.ShloMosaic.Lib.Pointwise
public import proofs.«01_k».proof.Proof.Maths

@[expose] public section

noncomputable section

/-! The seven argument arrays, read as the recurrence's inputs. -/

namespace Cert.Proof.Maths

open Idealize.ShloMosaic

/-- A time as a row number. -/
def tm (t : ℕ) : Fin 2048 := ⟨t % 2048, Nat.mod_lt _ (by decide)⟩

theorem tm_val (t : Fin 2048) : tm t.val = t := Fin.ext (Nat.mod_eq_of_lt t.isLt)

theorem tm_of_lt {t : ℕ} (h : t < 2048) : tm t = ⟨t, h⟩ := Fin.ext (Nat.mod_eq_of_lt h)

/-- Head `h`'s channel `j` in a row of all heads. -/
def chan (h : Fin 4) (j : Fin 64) : Fin 256 := ⟨64 * h.val + j.val, by omega⟩

/-- An array by head, as an input. -/
def byHead (X : FVec Ideal ⟨3, ![4, 2048, 64]⟩ .f32) (t : ℕ) (h : Fin 4) (j : Fin 64) : EReal := X (ix3 h (tm t) j)

/-- An array of rows of all heads, as an input. -/
def byRow (X : FVec Ideal ⟨2, ![2048, 256]⟩ .f32) (t : ℕ) (h : Fin 4) (j : Fin 64) : EReal := X (ix2 (tm t) (chan h j))

/-- The recurrence's inputs, from the arrays. -/
def inOf (R W K : FVec Ideal ⟨3, ![4, 2048, 64]⟩ .f32) (V : FVec Ideal ⟨2, ![2048, 256]⟩ .f32)
    (KK A : FVec Ideal ⟨3, ![4, 2048, 64]⟩ .f32) (DY : FVec Ideal ⟨2, ![2048, 256]⟩ .f32) : In :=
  ⟨byHead R, byHead W, byHead K, byRow V, byHead KK, byHead A, byRow DY⟩

end Cert.Proof.Maths
-- ==== Proof.KBlock.lean ====
module

public import Idealize.ShloMosaic.Lib.Pipeline.ValueKit.Geometry
public import proofs.«01_k».proof.Proof.KStep
public import proofs.«01_k».proof.Proof.BwdDat
public import proofs.«01_k».proof.Proof.Inputs

@[expose] public section

set_option maxRecDepth 16384
set_option maxHeartbeats 1000000

noncomputable section

/-! Where a grid point's block lies in its array, and what the points read, at an index. -/

namespace Cert.Proof.Scan

open Cert.KernelIdeal Cert.KernelIdeal.Gen
open Idealize.ShloMosaic Idealize.ShloMosaic.TcCoe

/-- A block by head, at chunk `n`: its coordinates in the array. -/
theorem rows_coord (n : ℕ) {idx sz : Fin 3 → ℕ} (hi : idx = ![0, n, 0]) (hs : sz = ![4, 128, 64]) (h : Fin 4) (s : Fin 128) (j : Fin 64)
    (p : 128 * n + s.val < 2048) (a : Fin 3) :
    idx a * sz a + ((ix3 h s j : S4x128x64.Idx) a).val = ((ix3 h ⟨128 * n + s.val, p⟩ j : S4x2048x64.Idx) a).val := by
  subst hi hs
  match a with
  | 0 => show 0 * 4 + h.val = h.val; omega
  | 1 => show n * 128 + s.val = 128 * n + s.val; omega
  | 2 => show 0 * 64 + j.val = j.val; omega

/-- A block of rows of all heads. -/
theorem lanes_coord (n : ℕ) {idx sz : Fin 2 → ℕ} (hi : idx = ![n, 0]) (hs : sz = ![128, 256]) (s : Fin 128) (l : Fin 256)
    (p : 128 * n + s.val < 2048) (a : Fin 2) :
    idx a * sz a + ((ix2 s l : S128x256.Idx) a).val = ((ix2 ⟨128 * n + s.val, p⟩ l : S2048x256.Idx) a).val := by
  subst hi hs
  match a with
  | 0 => show n * 128 + s.val = 128 * n + s.val; omega
  | 1 => show 0 * 256 + l.val = l.val; omega

/-- A block of states. -/
theorem states_coord (n : ℕ) {idx sz : Fin 4 → ℕ} (hi : idx = ![n, 0, 0, 0]) (hs : sz = ![128, 4, 64, 64]) (s : Fin 128) (h : Fin 4) (i j : Fin 64)
    (p : 128 * n + s.val < 2048) (a : Fin 4) :
    idx a * sz a + ((ix4 s h i j : S128x4x64x64.Idx) a).val = ((ix4 ⟨128 * n + s.val, p⟩ h i j : S2048x4x64x64.Idx) a).val := by
  subst hi hs
  match a with
  | 0 => show n * 128 + s.val = 128 * n + s.val; omega
  | 1 => show 0 * 4 + h.val = h.val; omega
  | 2 => show 0 * 64 + i.val = i.val; omega
  | 3 => show 0 * 64 + j.val = j.val; omega

/-- The forward points' blocks: chunk `t` at point `t`. -/
theorem index0 : ∀ t : Fin cfg0.N, (win0_0.index t = ![0, t.val, 0] ∧ win0_1.index t = ![0, t.val, 0] ∧ win0_2.index t = ![0, t.val, 0]
    ∧ win0_3.index t = ![0, t.val, 0] ∧ win0_4.index t = ![0, t.val, 0]) ∧ win0_5.index t = ![t.val, 0] ∧ win0_6.index t = ![t.val, 0]
    ∧ win0_7.index t = ![t.val, 0, 0, 0] := by decide +kernel

/-- The backward points' blocks: the last chunk first. -/
theorem index1 : ∀ t : Fin cfg1.N, (win1_0.index t = ![0, 15 - t.val, 0] ∧ win1_1.index t = ![0, 15 - t.val, 0] ∧ win1_2.index t = ![0, 15 - t.val, 0]
    ∧ win1_3.index t = ![0, 15 - t.val, 0] ∧ win1_4.index t = ![0, 15 - t.val, 0]) ∧ (win1_5.index t = ![15 - t.val, 0] ∧ win1_6.index t = ![15 - t.val, 0]
    ∧ win1_7.index t = ![15 - t.val, 0, 0, 0]) ∧ (win1_8.index t = ![0, 15 - t.val, 0] ∧ win1_9.index t = ![0, 15 - t.val, 0]
    ∧ win1_10.index t = ![0, 15 - t.val, 0] ∧ win1_11.index t = ![0, 15 - t.val, 0] ∧ win1_12.index t = ![0, 15 - t.val, 0]) ∧ win1_13.index t = ![15 - t.val, 0] := by
  decide +kernel

/-- An array of all heads' rows, from the values by time, head and channel. -/
def lanesOf (f : ℕ → Fin 4 → Fin 64 → EReal) (p : S2048x256.Idx) : EReal := f (p 0 : Fin 2048).val (laneHead (p 1)) (laneCol (p 1))

/-- An array by head. -/
def rowsOf (f : ℕ → Fin 4 → Fin 64 → EReal) (p : S4x2048x64.Idx) : EReal := f (p 1 : Fin 2048).val (p 0) (p 2)

/-- An array of states. -/
def statesOf (f : ℕ → Fin 4 → Fin 64 → Fin 64 → EReal) (p : S2048x4x64x64.Idx) : EReal := f (p 0 : Fin 2048).val (p 1) (p 2) (p 3)

theorem lanesOf_at (f : ℕ → Fin 4 → Fin 64 → EReal) (t : Fin 2048) (h : Fin 4) (j : Fin 64) : lanesOf f (ix2 t (lane h j)) = f t.val h j := by
  show f t.val (laneHead (lane h j)) (laneCol (lane h j)) = _
  rw [show laneHead (lane h j) = h from Fin.ext (by show (64 * h.val + j.val) / 64 = h.val; omega),
    show laneCol (lane h j) = j from Fin.ext (by show (64 * h.val + j.val) % 64 = j.val; omega)]

theorem lane_eq (l : Fin 256) : ∃ h j, l = lane h j := ⟨laneHead l, laneCol l, Fin.ext (by show l.val = 64 * (l.val / 64) + l.val % 64; omega)⟩

theorem time0 (t : Fin cfg0.N) (s : Fin 128) : 128 * t.val + s.val < 2048 := by
  have : t.val < 16 := t.isLt
  omega

theorem time1 (t : Fin cfg1.N) (s : Fin 128) : 128 * (15 - t.val) + s.val < 2048 := by
  have : t.val < 16 := t.isLt
  omega

section Reads

variable (c : Dev nD) (V : (b : Ref sig .tc) → Buf (Elt Ideal) ((c : Thread nD τ).loc b))

/-- The recurrence's inputs, from the kernel's argument arrays. -/
def inK : Maths.In :=
  Maths.inOf (V main_arg0) (V main_arg1) (V main_arg2) (V main_arg3) (V main_arg4) (V main_arg5) (V main_arg6)

theorem in0_0_at (t : Fin cfg0.N) (h : Fin 4) (s : Fin 128) (j : Fin 64) :
    (in0_0 c V t (ix3 h s j) : EReal) = (inK c V).r (128 * t.val + s.val) h j := by
  show _ = V main_arg0 (ix3 h (Maths.tm (128 * t.val + s.val)) j)
  rw [Maths.tm_of_lt (time0 t s)]
  refine congrArg (V main_arg0) (funext fun a => Fin.ext ?_)
  blk_simp
  exact rows_coord _ (index0 t).1.1 rfl h s j _ a

theorem in0_1_at (t : Fin cfg0.N) (h : Fin 4) (s : Fin 128) (j : Fin 64) :
    (in0_1 c V t (ix3 h s j) : EReal) = (inK c V).w (128 * t.val + s.val) h j := by
  show _ = V main_arg1 (ix3 h (Maths.tm (128 * t.val + s.val)) j)
  rw [Maths.tm_of_lt (time0 t s)]
  refine congrArg (V main_arg1) (funext fun a => Fin.ext ?_)
  blk_simp
  exact rows_coord _ (index0 t).1.2.1 rfl h s j _ a

theorem in0_2_at (t : Fin cfg0.N) (h : Fin 4) (s : Fin 128) (j : Fin 64) :
    (in0_2 c V t (ix3 h s j) : EReal) = (inK c V).k (128 * t.val + s.val) h j := by
  show _ = V main_arg2 (ix3 h (Maths.tm (128 * t.val + s.val)) j)
  rw [Maths.tm_of_lt (time0 t s)]
  refine congrArg (V main_arg2) (funext fun a => Fin.ext ?_)
  blk_simp
  exact rows_coord _ (index0 t).1.2.2.1 rfl h s j _ a

theorem in0_3_at (t : Fin cfg0.N) (h : Fin 4) (s : Fin 128) (j : Fin 64) :
    (in0_3 c V t (ix3 h s j) : EReal) = (inK c V).kk (128 * t.val + s.val) h j := by
  show _ = V main_arg4 (ix3 h (Maths.tm (128 * t.val + s.val)) j)
  rw [Maths.tm_of_lt (time0 t s)]
  refine congrArg (V main_arg4) (funext fun a => Fin.ext ?_)
  blk_simp
  exact rows_coord _ (index0 t).1.2.2.2.1 rfl h s j _ a

theorem in0_4_at (t : Fin cfg0.N) (h : Fin 4) (s : Fin 128) (j : Fin 64) :
    (in0_4 c V t (ix3 h s j) : EReal) = (inK c V).a (128 * t.val + s.val) h j := by
  show _ = V main_arg5 (ix3 h (Maths.tm (128 * t.val + s.val)) j)
  rw [Maths.tm_of_lt (time0 t s)]
  refine congrArg (V main_arg5) (funext fun a => Fin.ext ?_)
  blk_simp
  exact rows_coord _ (index0 t).1.2.2.2.2 rfl h s j _ a

theorem in1_0_at (t : Fin cfg1.N) (h : Fin 4) (s : Fin 128) (j : Fin 64) :
    (in1_0 c V t (ix3 h s j) : EReal) = (inK c V).r (128 * (15 - t.val) + s.val) h j := by
  show _ = V main_arg0 (ix3 h (Maths.tm (128 * (15 - t.val) + s.val)) j)
  rw [Maths.tm_of_lt (time1 t s)]
  refine congrArg (V main_arg0) (funext fun a => Fin.ext ?_)
  blk_simp
  exact rows_coord _ (index1 t).1.1 rfl h s j _ a

theorem in1_1_at (t : Fin cfg1.N) (h : Fin 4) (s : Fin 128) (j : Fin 64) :
    (in1_1 c V t (ix3 h s j) : EReal) = (inK c V).w (128 * (15 - t.val) + s.val) h j := by
  show _ = V main_arg1 (ix3 h (Maths.tm (128 * (15 - t.val) + s.val)) j)
  rw [Maths.tm_of_lt (time1 t s)]
  refine congrArg (V main_arg1) (funext fun a => Fin.ext ?_)
  blk_simp
  exact rows_coord _ (index1 t).1.2.1 rfl h s j _ a

theorem in1_2_at (t : Fin cfg1.N) (h : Fin 4) (s : Fin 128) (j : Fin 64) :
    (in1_2 c V t (ix3 h s j) : EReal) = (inK c V).k (128 * (15 - t.val) + s.val) h j := by
  show _ = V main_arg2 (ix3 h (Maths.tm (128 * (15 - t.val) + s.val)) j)
  rw [Maths.tm_of_lt (time1 t s)]
  refine congrArg (V main_arg2) (funext fun a => Fin.ext ?_)
  blk_simp
  exact rows_coord _ (index1 t).1.2.2.1 rfl h s j _ a

theorem in1_3_at (t : Fin cfg1.N) (h : Fin 4) (s : Fin 128) (j : Fin 64) :
    (in1_3 c V t (ix3 h s j) : EReal) = (inK c V).kk (128 * (15 - t.val) + s.val) h j := by
  show _ = V main_arg4 (ix3 h (Maths.tm (128 * (15 - t.val) + s.val)) j)
  rw [Maths.tm_of_lt (time1 t s)]
  refine congrArg (V main_arg4) (funext fun a => Fin.ext ?_)
  blk_simp
  exact rows_coord _ (index1 t).1.2.2.2.1 rfl h s j _ a

theorem in1_4_at (t : Fin cfg1.N) (h : Fin 4) (s : Fin 128) (j : Fin 64) :
    (in1_4 c V t (ix3 h s j) : EReal) = (inK c V).a (128 * (15 - t.val) + s.val) h j := by
  show _ = V main_arg5 (ix3 h (Maths.tm (128 * (15 - t.val) + s.val)) j)
  rw [Maths.tm_of_lt (time1 t s)]
  refine congrArg (V main_arg5) (funext fun a => Fin.ext ?_)
  blk_simp
  exact rows_coord _ (index1 t).1.2.2.2.2 rfl h s j _ a

theorem in0_5_at (t : Fin cfg0.N) (s : Fin 128) (h : Fin 4) (j : Fin 64) :
    (in0_5 c V t (ix2 s (lane h j)) : EReal) = (inK c V).v (128 * t.val + s.val) h j := by
  show _ = V main_arg3 (ix2 (Maths.tm (128 * t.val + s.val)) (lane h j))
  rw [Maths.tm_of_lt (time0 t s)]
  refine congrArg (V main_arg3) (funext fun a => Fin.ext ?_)
  blk_simp
  exact lanes_coord _ (index0 t).2.1 rfl s (lane h j) _ a

theorem in1_5_at (t : Fin cfg1.N) (s : Fin 128) (h : Fin 4) (j : Fin 64) :
    (in1_5 c V t (ix2 s (lane h j)) : EReal) = (inK c V).v (128 * (15 - t.val) + s.val) h j := by
  show _ = V main_arg3 (ix2 (Maths.tm (128 * (15 - t.val) + s.val)) (lane h j))
  rw [Maths.tm_of_lt (time1 t s)]
  refine congrArg (V main_arg3) (funext fun a => Fin.ext ?_)
  blk_simp
  exact lanes_coord _ (index1 t).2.1.1 rfl s (lane h j) _ a

theorem in1_6_at (t : Fin cfg1.N) (s : Fin 128) (h : Fin 4) (j : Fin 64) :
    (in1_6 c V t (ix2 s (lane h j)) : EReal) = (inK c V).dy (128 * (15 - t.val) + s.val) h j := by
  show _ = V main_arg6 (ix2 (Maths.tm (128 * (15 - t.val) + s.val)) (lane h j))
  rw [Maths.tm_of_lt (time1 t s)]
  refine congrArg (V main_arg6) (funext fun a => Fin.ext ?_)
  blk_simp
  exact lanes_coord _ (index1 t).2.1.2.1 rfl s (lane h j) _ a

theorem in1_7_at (t : Fin cfg1.N) (s : Fin 128) (h : Fin 4) (i j : Fin 64) :
    (in1_7 c V t (ix4 s h i j) : EReal) = V main_v0_1 (ix4 (⟨128 * (15 - t.val) + s.val, time1 t s⟩ : Fin 2048) h i j) := by
  refine congrArg (V main_v0_1) (funext fun a => Fin.ext ?_)
  blk_simp
  exact states_coord _ (index1 t).2.1.2.2 rfl s h i j _ a

end Reads

end Cert.Proof.Scan
-- ==== Proof.KFwd.lean ====
module

public import Idealize.ShloMosaic.Lib.Pipeline.ValueKit.Geometry
public import proofs.«01_k».proof.Proof.KBlock

@[expose] public section

set_option maxRecDepth 16384
set_option maxHeartbeats 1000000

noncomputable section

/-! The forward scan over the extended reals: its arrays are the recurrence's. -/

namespace Cert.Proof.Scan

open Cert.KernelIdeal Cert.KernelIdeal.Gen
open Idealize.ShloMosaic Idealize.ShloMosaic.TcCoe

section Fwd

variable (c : Dev nD) (V : (b : Ref sig .tc) → Buf (Elt Ideal) ((c : Thread nD τ).loc b))

/-- What a head reads at a trip is the recurrence's at the trip's time. -/
theorem ld0 (t : Fin cfg0.N) (k : Fin k0_t1_loop.trips) (h : Fin 4) : LfIs (inK c V) (128 * t.val + k.val) h k ((B0 c V t).ld k h) where
  r b := in0_0_at c V t h (sOf k) b
  w b := in0_1_at c V t h (sOf k) b
  k b := in0_2_at c V t h (sOf k) b
  kk b := in0_3_at c V t h (sOf k) b
  a b := in0_4_at c V t h (sOf k) b
  v a := (slabs_at (in0_5 c V t) h a (sOf k)).trans (in0_5_at c V t (sOf k) h a)

/-- The states within a point, from the state it starts at. -/
theorem sAt_is (t : Fin cfg0.N) (D : Fin 4 → FVec Ideal S64x64 .f32) (hD : ∀ h a b, (D h (ix2 a b) : EReal) = Maths.S (inK c V) (128 * t.val) h a b)
    (n : ℕ) (hn : n ≤ k0_t1_loop.trips) (h : Fin 4) (a b : Fin 64) : (sAt (B0 c V t) D n h (ix2 a b) : EReal) = Maths.S (inK c V) (128 * t.val + n) h a b := by
  induction n generalizing a b with
  | zero => exact hD h a b
  | succ n ih =>
    rw [sAt_succ (B0 c V t) D ⟨n, hn⟩]
    exact (ld0 c V t ⟨n, hn⟩ h).next (fun a b => ih (by omega) a b) a b

/-- The state each point starts from. -/
theorem St0_is (n : ℕ) (hn : n ≤ 16) (h : Fin 4) (a b : Fin 64) : (mats (St0 c V n) h (ix2 a b) : EReal) = Maths.S (inK c V) (128 * n) h a b := by
  induction n generalizing h a b with
  | zero => exact mats_zero h a b
  | succ n ih =>
    rw [St0_succ c V ⟨n, hn⟩, mats_unmats, sAt_is c V ⟨n, hn⟩ _ (fun h a b => ih (by omega) h a b) _ le_rfl, trips0]
    rfl

theorem sAt_at (t : Fin cfg0.N) (k : Fin 128) (h : Fin 4) (a b : Fin 64) :
    (sAt (B0 c V t) (mats (St0 c V t.val)) k.val h (ix2 a b) : EReal) = Maths.S (inK c V) (128 * t.val + k.val) h a b :=
  sAt_is c V t _ (St0_is c V t.val (Nat.le_of_lt t.isLt)) k.val (by rw [trips0]; exact Nat.le_of_lt k.isLt) h a b

/-- The forward scan's output array. -/
theorem y_array : (dat0 c V).arrAt 6 cfg0.N = lanesOf (Maths.y (inK c V)) := by
  refine (dat0 c V).arrAt_eq_of_covers 6 _ (by decide +kernel) fun t hf y => ?_
  blk_simp
  obtain ⟨s, l, rfl⟩ : ∃ (s : Fin 128) (l : Fin 256), y = ix2 s l := ⟨_, _, eq_ix2 y⟩
  have e : (win0_6.blk t).view.emb (ix2 s l) = ix2 (⟨128 * t.val + s.val, time0 t s⟩ : Fin 2048) l := funext fun a => Fin.ext (by
    blk_simp
    exact lanes_coord _ (index0 t).2.2.1 rfl s l _ a)
  rw [e]
  obtain ⟨h, j, rfl⟩ := lane_eq l
  refine Eq.trans ?_ (lanesOf_at _ _ h j).symm
  refine (unslabs_at _ s h j).trans ?_
  exact (ld0 c V t ⟨s.val, by rw [trips0]; exact s.isLt⟩ h).y (fun a b => sAt_at c V t s h a b) j

/-- The array of the states saved. -/
theorem states_array : (dat0 c V).arrAt 7 cfg0.N = statesOf (Maths.S (inK c V)) := by
  refine (dat0 c V).arrAt_eq_of_covers 7 _ (by decide +kernel) fun t hf y => ?_
  blk_simp
  obtain ⟨s, h, i, j, rfl⟩ : ∃ (s : Fin 128) (h : Fin 4) (i j : Fin 64), y = ix4 s h i j := ⟨_, _, _, _, eq_ix4 y⟩
  have e : (win0_7.blk t).view.emb (ix4 s h i j) = ix4 (⟨128 * t.val + s.val, time0 t s⟩ : Fin 2048) h i j := funext fun a => Fin.ext (by
    blk_simp
    exact states_coord _ (index0 t).2.2.2 rfl s h i j _ a)
  rw [e]
  show out0_7 c V t (ix4 s h i j) = Maths.S (inK c V) (128 * t.val + s.val) h i j
  rw [← sAt_at c V t s h i j]
  show k0_pay3 (sAt (B0 c V t) (mats (St0 c V t.val)) s.val h) (ix4 0 0 i j) = _
  unfold k0_pay3
  pointwise

end Fwd

end Cert.Proof.Scan
-- ==== Proof.KBwd.lean ====
module

public import Idealize.ShloMosaic.Lib.Pipeline.ValueKit.Geometry
public import proofs.«01_k».proof.Proof.KBlock

@[expose] public section

set_option maxRecDepth 16384
set_option maxHeartbeats 1000000

noncomputable section

/-! The backward scan over the extended reals: its arrays are the recurrence's adjoints. -/

namespace Cert.Proof.Scan

open Cert.KernelIdeal Cert.KernelIdeal.Gen
open Idealize.ShloMosaic Idealize.ShloMosaic.TcCoe

section Bwd

variable (c : Dev nD) (V : (b : Ref sig .tc) → Buf (Elt Ideal) ((c : Thread nD τ).loc b))

/-- The saved states are the recurrence's. -/
def Saved : Prop := ∀ (t : Fin 2048) (h : Fin 4) (i j : Fin 64), (V main_v0_1 (ix4 t h i j) : EReal) = Maths.S (inK c V) t.val h i j

variable {c V} (hS : Saved c V)
include hS

/-- What a head reads at a trip is the recurrence's at the trip's time. -/
theorem ld1 (t : Fin cfg1.N) (k : Fin k1_t1_loop.trips) (h : Fin 4) : LdIs (inK c V) (128 * (15 - t.val) + (tOf k).val) h k ((B1 c V t).ld k h) where
  s a b := (in1_7_at c V t (tOf k) h a b).trans (hS _ h a b)
  r b := in1_0_at c V t h (tOf k) b
  w b := in1_1_at c V t h (tOf k) b
  k b := in1_2_at c V t h (tOf k) b
  kk b := in1_3_at c V t h (tOf k) b
  a b := in1_4_at c V t h (tOf k) b
  v a := (slabs_at (in1_5 c V t) h a (tOf k)).trans (in1_5_at c V t (tOf k) h a)
  dy a := (slabs_at (in1_6 c V t) h a (tOf k)).trans (in1_6_at c V t (tOf k) h a)

/-- The adjoints within a point, from the one it starts at. -/
theorem dsAt_is (t : Fin cfg1.N) (D : Fin 4 → FVec Ideal S64x64 .f32) (hD : ∀ h a b, (D h (ix2 a b) : EReal) = Maths.DS (inK c V) (128 * t.val) h a b)
    (n : ℕ) (hn : n ≤ k1_t1_loop.trips) (h : Fin 4) (a b : Fin 64) : (dsAt (B1 c V t) D n h (ix2 a b) : EReal) = Maths.DS (inK c V) (128 * t.val + n) h a b := by
  induction n generalizing a b with
  | zero => exact hD h a b
  | succ n ih =>
    rw [dsAt_succ (B1 c V t) D ⟨n, hn⟩]
    have ht : t.val < 16 := t.isLt
    have hn' : n < 128 := by rw [← trips1]; exact hn
    have e : 128 * (15 - t.val) + (tOf ⟨n, hn⟩).val = 2047 - (128 * t.val + n) := by
      show 128 * (15 - t.val) + (127 - n) = _
      omega
    have L := ld1 hS t ⟨n, hn⟩ h
    rw [e] at L
    exact L.next (fun a b => ih (by omega) a b) a b

/-- The adjoint each point starts from. -/
theorem St1_is (n : ℕ) (hn : n ≤ 16) (h : Fin 4) (a b : Fin 64) : (mats (St1 c V n) h (ix2 a b) : EReal) = Maths.DS (inK c V) (128 * n) h a b := by
  induction n generalizing h a b with
  | zero => exact mats_zero h a b
  | succ n ih =>
    rw [St1_succ c V ⟨n, hn⟩, mats_unmats, dsAt_is hS ⟨n, hn⟩ _ (fun h a b => ih (by omega) h a b) _ le_rfl, trips1]
    rfl

/-- The adjoint reaching step `s` of a point's chunk. -/
theorem dsAt_at (t : Fin cfg1.N) (s : Fin 128) (h : Fin 4) (a b : Fin 64) :
    (dsAt (B1 c V t) (mats (St1 c V t.val)) (iOf s).val h (ix2 a b) : EReal) = Maths.D (inK c V) (128 * (15 - t.val) + s.val) h a b := by
  rw [dsAt_is hS t _ (St1_is hS t.val (Nat.le_of_lt t.isLt)) _ (Nat.le_of_lt (iOf s).isLt)]
  have ht : t.val < 16 := t.isLt
  have e : 128 * t.val + (iOf s).val = 2047 - (128 * (15 - t.val) + s.val) := by
    show 128 * t.val + (127 - s.val) = _
    omega
  rw [e]
  rfl

/-- What a head reads at the step `s` of a point's chunk. -/
theorem ld1_at (t : Fin cfg1.N) (s : Fin 128) (h : Fin 4) : LdIs (inK c V) (128 * (15 - t.val) + s.val) h (iOf s) ((B1 c V t).ld (iOf s) h) := by
  have := ld1 hS t (iOf s) h
  rwa [tOf_iOf] at this

theorem dr_array : (dat1 c V).arrAt 8 cfg1.N = rowsOf (Maths.dr (inK c V)) := by
  refine (dat1 c V).arrAt_eq_of_covers 8 _ (by decide +kernel) fun t hf y => ?_
  blk_simp
  obtain ⟨h, s, j, rfl⟩ : ∃ (h : Fin 4) (s : Fin 128) (j : Fin 64), y = ix3 h s j := ⟨_, _, _, eq_ix3 y⟩
  have e : (win1_8.blk t).view.emb (ix3 h s j) = ix3 h (⟨128 * (15 - t.val) + s.val, time1 t s⟩ : Fin 2048) j := funext fun a => Fin.ext (by
    blk_simp
    exact rows_coord _ (index1 t).2.2.1.1 rfl h s j _ a)
  rw [e]
  exact (ld1_at hS t s h).dr (ds := dsAt (B1 c V t) (mats (St1 c V t.val)) (iOf s).val h) j

theorem dw_array : (dat1 c V).arrAt 9 cfg1.N = rowsOf (Maths.dw (inK c V)) := by
  refine (dat1 c V).arrAt_eq_of_covers 9 _ (by decide +kernel) fun t hf y => ?_
  blk_simp
  obtain ⟨h, s, j, rfl⟩ : ∃ (h : Fin 4) (s : Fin 128) (j : Fin 64), y = ix3 h s j := ⟨_, _, _, eq_ix3 y⟩
  have e : (win1_9.blk t).view.emb (ix3 h s j) = ix3 h (⟨128 * (15 - t.val) + s.val, time1 t s⟩ : Fin 2048) j := funext fun a => Fin.ext (by
    blk_simp
    exact rows_coord _ (index1 t).2.2.1.2.1 rfl h s j _ a)
  rw [e]
  exact (ld1_at hS t s h).dw (dsAt_at hS t s h) j

theorem dk_array : (dat1 c V).arrAt 10 cfg1.N = rowsOf (Maths.dk (inK c V)) := by
  refine (dat1 c V).arrAt_eq_of_covers 10 _ (by decide +kernel) fun t hf y => ?_
  blk_simp
  obtain ⟨h, s, j, rfl⟩ : ∃ (h : Fin 4) (s : Fin 128) (j : Fin 64), y = ix3 h s j := ⟨_, _, _, eq_ix3 y⟩
  have e : (win1_10.blk t).view.emb (ix3 h s j) = ix3 h (⟨128 * (15 - t.val) + s.val, time1 t s⟩ : Fin 2048) j := funext fun a => Fin.ext (by
    blk_simp
    exact rows_coord _ (index1 t).2.2.1.2.2.1 rfl h s j _ a)
  rw [e]
  exact (ld1_at hS t s h).dk (dsAt_at hS t s h) j

theorem dkk_array : (dat1 c V).arrAt 11 cfg1.N = rowsOf (Maths.dkk (inK c V)) := by
  refine (dat1 c V).arrAt_eq_of_covers 11 _ (by decide +kernel) fun t hf y => ?_
  blk_simp
  obtain ⟨h, s, j, rfl⟩ : ∃ (h : Fin 4) (s : Fin 128) (j : Fin 64), y = ix3 h s j := ⟨_, _, _, eq_ix3 y⟩
  have e : (win1_11.blk t).view.emb (ix3 h s j) = ix3 h (⟨128 * (15 - t.val) + s.val, time1 t s⟩ : Fin 2048) j := funext fun a => Fin.ext (by
    blk_simp
    exact rows_coord _ (index1 t).2.2.1.2.2.2.1 rfl h s j _ a)
  rw [e]
  exact (ld1_at hS t s h).dkk (dsAt_at hS t s h) j

theorem da_array : (dat1 c V).arrAt 12 cfg1.N = rowsOf (Maths.da (inK c V)) := by
  refine (dat1 c V).arrAt_eq_of_covers 12 _ (by decide +kernel) fun t hf y => ?_
  blk_simp
  obtain ⟨h, s, j, rfl⟩ : ∃ (h : Fin 4) (s : Fin 128) (j : Fin 64), y = ix3 h s j := ⟨_, _, _, eq_ix3 y⟩
  have e : (win1_12.blk t).view.emb (ix3 h s j) = ix3 h (⟨128 * (15 - t.val) + s.val, time1 t s⟩ : Fin 2048) j := funext fun a => Fin.ext (by
    blk_simp
    exact rows_coord _ (index1 t).2.2.1.2.2.2.2 rfl h s j _ a)
  rw [e]
  exact (ld1_at hS t s h).da (dsAt_at hS t s h) j

theorem dv_array : (dat1 c V).arrAt 13 cfg1.N = lanesOf (Maths.dv (inK c V)) := by
  refine (dat1 c V).arrAt_eq_of_covers 13 _ (by decide +kernel) fun t hf y => ?_
  blk_simp
  obtain ⟨s, l, rfl⟩ : ∃ (s : Fin 128) (l : Fin 256), y = ix2 s l := ⟨_, _, eq_ix2 y⟩
  have e : (win1_13.blk t).view.emb (ix2 s l) = ix2 (⟨128 * (15 - t.val) + s.val, time1 t s⟩ : Fin 2048) l := funext fun a => Fin.ext (by
    blk_simp
    exact lanes_coord _ (index1 t).2.2.2 rfl s l _ a)
  rw [e]
  obtain ⟨h, j, rfl⟩ := lane_eq l
  refine Eq.trans ?_ (lanesOf_at _ _ h j).symm
  refine (unslabs_at _ s h j).trans ?_
  exact (ld1_at hS t s h).dv (dsAt_at hS t s h) j

end Bwd

end Cert.Proof.Scan
-- ==== Proof.RefStep.lean ====
module

public import proofs.«01_k».proof.Proof.RefMain
public import proofs.«01_k».proof.Proof.Maths
public import Idealize.ShloMosaic.Lib.StableHlo.ReadAt
public import Idealize.ShloMosaic.Lib.Pointwise
public import Idealize.ShloMosaic.Lib.IdealHost

@[expose] public section

noncomputable section

namespace Cert.Proof.Ref

open Idealize.ShloMosaic Idealize.ShloMosaic.StableHlo
open TcCoe
open Cert.ReferenceIdeal Cert.ReferenceIdeal.Gen

variable (V : Valuation τ sig (Elt Ideal))

theorem toInt_ctr {k : ℕ} (hk : k < 2048) : (BitVec.ofNat 32 k).toInt = k := by
  rw [BitVec.toInt_eq_toNat_of_lt (by rw [BitVec.toNat_ofNat]; omega), BitVec.toNat_ofNat]; omega

/-- The window's start: the counter, then zeros. -/
def starts4 (c : (⟨S_, .i32⟩ : BufTy).Contents (Elt Ideal)) (k : Fin 4) : Int := ((![c, constantI S_ 32 0#32, constantI S_ 32 0#32, constantI S_ 32 0#32] : Fin 4 → (⟨S_, .i32⟩ : BufTy).Contents (Elt Ideal)) k (Shape.Idx.first h_S_)).toInt
def starts5 (c : (⟨S_, .i32⟩ : BufTy).Contents (Elt Ideal)) (k : Fin 5) : Int := ((![c, constantI S_ 32 0#32, constantI S_ 32 0#32, constantI S_ 32 0#32, constantI S_ 32 0#32] : Fin 5 → (⟨S_, .i32⟩ : BufTy).Contents (Elt Ideal)) k (Shape.Idx.first h_S_)).toInt

/-- The slice of a stack at the counter. -/
def takeF (x : (⟨S2048x1x4x64, .f32⟩ : BufTy).Contents (Elt Ideal)) (c : (⟨S_, .i32⟩ : BufTy).Contents (Elt Ideal)) : (⟨S1x4x64, .f32⟩ : BufTy).Contents (Elt Ideal) :=
  shapeCast S1x4x64 (Host.dynamicSlice S1x1x4x64 x (starts4 c) sliceFits_S2048x1x4x64_S1x1x4x64) shapeCasts_S1x1x4x64_S1x4x64

theorem takeF_at {x : (⟨S2048x1x4x64, .f32⟩ : BufTy).Contents (Elt Ideal)} {c : (⟨S_, .i32⟩ : BufTy).Contents (Elt Ideal)} {k : ℕ} (hk : k < 2048) (hc : c = fun _ => (BitVec.ofNat 32 k : BitVec 32)) (h : Fin 4) (j : Fin 64) :
    takeF x c (ix3 0 h j) = x (ix4 ⟨k, hk⟩ 0 h j) := by
  subst hc
  unfold takeF
  pointwise
  refine congrArg x ?_
  congr 1 <;> simp [Host.clampedStart, starts4, toInt_ctr hk] <;> omega

/-- A stack with the slice at the counter replaced. -/
def putF (x : (⟨S2048x1x4x64, .f32⟩ : BufTy).Contents (Elt Ideal)) (u : (⟨S1x4x64, .f32⟩ : BufTy).Contents (Elt Ideal)) (c : (⟨S_, .i32⟩ : BufTy).Contents (Elt Ideal)) : (⟨S2048x1x4x64, .f32⟩ : BufTy).Contents (Elt Ideal) :=
  Host.dynamicUpdateSlice x (broadcastInDim S1x1x4x64 ![1, 2, 3] bcast_S1x4x64_S1x1x4x64_1_2_3 u) (starts4 c) updateFits_S2048x1x4x64_S1x1x4x64

theorem putF_at {x : (⟨S2048x1x4x64, .f32⟩ : BufTy).Contents (Elt Ideal)} {u : (⟨S1x4x64, .f32⟩ : BufTy).Contents (Elt Ideal)} {c : (⟨S_, .i32⟩ : BufTy).Contents (Elt Ideal)} {k : ℕ} (hk : k < 2048) (hc : c = fun _ => (BitVec.ofNat 32 k : BitVec 32)) (t : Fin 2048) (h : Fin 4) (j : Fin 64) :
    putF x u c (ix4 t 0 h j) = if t.val = k then u (ix3 0 h j) else x (ix4 t 0 h j) := by
  subst hc
  unfold putF
  pointwise
  simp [Host.clampedStart, starts4, toInt_ctr hk]
  refine if_congr ?_ rfl rfl
  have := t.isLt
  omega

/-- The slice of a stack at the counter. -/
def take3F (x : (⟨S2048x1x4x1x64, .f32⟩ : BufTy).Contents (Elt Ideal)) (c : (⟨S_, .i32⟩ : BufTy).Contents (Elt Ideal)) : (⟨S1x4x1x64, .f32⟩ : BufTy).Contents (Elt Ideal) :=
  shapeCast S1x4x1x64 (Host.dynamicSlice S1x1x4x1x64 x (starts5 c) sliceFits_S2048x1x4x1x64_S1x1x4x1x64) shapeCasts_S1x1x4x1x64_S1x4x1x64

theorem take3F_at {x : (⟨S2048x1x4x1x64, .f32⟩ : BufTy).Contents (Elt Ideal)} {c : (⟨S_, .i32⟩ : BufTy).Contents (Elt Ideal)} {k : ℕ} (hk : k < 2048) (hc : c = fun _ => (BitVec.ofNat 32 k : BitVec 32)) (h : Fin 4) (j : Fin 64) :
    take3F x c (ix4 0 h 0 j) = x (ix5 ⟨k, hk⟩ 0 h 0 j) := by
  subst hc
  unfold take3F
  pointwise
  refine congrArg x ?_
  congr 1 <;> simp [Host.clampedStart, starts5, toInt_ctr hk] <;> omega

/-- A stack with the slice at the counter replaced. -/
def put3F (x : (⟨S2048x1x4x1x64, .f32⟩ : BufTy).Contents (Elt Ideal)) (u : (⟨S1x4x1x64, .f32⟩ : BufTy).Contents (Elt Ideal)) (c : (⟨S_, .i32⟩ : BufTy).Contents (Elt Ideal)) : (⟨S2048x1x4x1x64, .f32⟩ : BufTy).Contents (Elt Ideal) :=
  Host.dynamicUpdateSlice x (broadcastInDim S1x1x4x1x64 ![1, 2, 3, 4] bcast_S1x4x1x64_S1x1x4x1x64_1_2_3_4 u) (starts5 c) updateFits_S2048x1x4x1x64_S1x1x4x1x64

theorem put3F_at {x : (⟨S2048x1x4x1x64, .f32⟩ : BufTy).Contents (Elt Ideal)} {u : (⟨S1x4x1x64, .f32⟩ : BufTy).Contents (Elt Ideal)} {c : (⟨S_, .i32⟩ : BufTy).Contents (Elt Ideal)} {k : ℕ} (hk : k < 2048) (hc : c = fun _ => (BitVec.ofNat 32 k : BitVec 32)) (t : Fin 2048) (h : Fin 4) (j : Fin 64) :
    put3F x u c (ix5 t 0 h 0 j) = if t.val = k then u (ix4 0 h 0 j) else x (ix5 t 0 h 0 j) := by
  subst hc
  unfold put3F
  pointwise
  simp [Host.clampedStart, starts5, toInt_ctr hk]
  refine if_congr ?_ rfl rfl
  have := t.isLt
  omega

/-- The slice of a stack at the counter. -/
def take4F (x : (⟨S2048x1x4x64x64, .f32⟩ : BufTy).Contents (Elt Ideal)) (c : (⟨S_, .i32⟩ : BufTy).Contents (Elt Ideal)) : (⟨S1x4x64x64, .f32⟩ : BufTy).Contents (Elt Ideal) :=
  shapeCast S1x4x64x64 (Host.dynamicSlice S1x1x4x64x64 x (starts5 c) sliceFits_S2048x1x4x64x64_S1x1x4x64x64) shapeCasts_S1x1x4x64x64_S1x4x64x64

theorem take4F_at {x : (⟨S2048x1x4x64x64, .f32⟩ : BufTy).Contents (Elt Ideal)} {c : (⟨S_, .i32⟩ : BufTy).Contents (Elt Ideal)} {k : ℕ} (hk : k < 2048) (hc : c = fun _ => (BitVec.ofNat 32 k : BitVec 32)) (h : Fin 4) (i j : Fin 64) :
    take4F x c (ix4 0 h i j) = x (ix5 ⟨k, hk⟩ 0 h i j) := by
  subst hc
  unfold take4F
  pointwise
  refine congrArg x ?_
  congr 1 <;> simp [Host.clampedStart, starts5, toInt_ctr hk] <;> omega

/-- A stack with the slice at the counter replaced. -/
def put4F (x : (⟨S2048x1x4x64x64, .f32⟩ : BufTy).Contents (Elt Ideal)) (u : (⟨S1x4x64x64, .f32⟩ : BufTy).Contents (Elt Ideal)) (c : (⟨S_, .i32⟩ : BufTy).Contents (Elt Ideal)) : (⟨S2048x1x4x64x64, .f32⟩ : BufTy).Contents (Elt Ideal) :=
  Host.dynamicUpdateSlice x (broadcastInDim S1x1x4x64x64 ![1, 2, 3, 4] bcast_S1x4x64x64_S1x1x4x64x64_1_2_3_4 u) (starts5 c) updateFits_S2048x1x4x64x64_S1x1x4x64x64

theorem put4F_at {x : (⟨S2048x1x4x64x64, .f32⟩ : BufTy).Contents (Elt Ideal)} {u : (⟨S1x4x64x64, .f32⟩ : BufTy).Contents (Elt Ideal)} {c : (⟨S_, .i32⟩ : BufTy).Contents (Elt Ideal)} {k : ℕ} (hk : k < 2048) (hc : c = fun _ => (BitVec.ofNat 32 k : BitVec 32)) (t : Fin 2048) (h : Fin 4) (i j : Fin 64) :
    put4F x u c (ix5 t 0 h i j) = if t.val = k then u (ix4 0 h i j) else x (ix5 t 0 h i j) := by
  subst hc
  unfold put4F
  pointwise
  simp [Host.clampedStart, starts5, toInt_ctr hk]
  refine if_congr ?_ rfl rfl
  have := t.isLt
  omega

/-- The slice of a stack at the counter. -/
def take5F (x : (⟨S2048x1x4x64x1, .f32⟩ : BufTy).Contents (Elt Ideal)) (c : (⟨S_, .i32⟩ : BufTy).Contents (Elt Ideal)) : (⟨S1x4x64x1, .f32⟩ : BufTy).Contents (Elt Ideal) :=
  shapeCast S1x4x64x1 (Host.dynamicSlice S1x1x4x64x1 x (starts5 c) sliceFits_S2048x1x4x64x1_S1x1x4x64x1) shapeCasts_S1x1x4x64x1_S1x4x64x1

theorem take5F_at {x : (⟨S2048x1x4x64x1, .f32⟩ : BufTy).Contents (Elt Ideal)} {c : (⟨S_, .i32⟩ : BufTy).Contents (Elt Ideal)} {k : ℕ} (hk : k < 2048) (hc : c = fun _ => (BitVec.ofNat 32 k : BitVec 32)) (h : Fin 4) (i : Fin 64) :
    take5F x c (ix4 0 h i 0) = x (ix5 ⟨k, hk⟩ 0 h i 0) := by
  subst hc
  unfold take5F
  pointwise
  refine congrArg x ?_
  congr 1 <;> simp [Host.clampedStart, starts5, toInt_ctr hk] <;> omega

/-- A stack with the slice at the counter replaced. -/
def put5F (x : (⟨S2048x1x4x64x1, .f32⟩ : BufTy).Contents (Elt Ideal)) (u : (⟨S1x4x64x1, .f32⟩ : BufTy).Contents (Elt Ideal)) (c : (⟨S_, .i32⟩ : BufTy).Contents (Elt Ideal)) : (⟨S2048x1x4x64x1, .f32⟩ : BufTy).Contents (Elt Ideal) :=
  Host.dynamicUpdateSlice x (broadcastInDim S1x1x4x64x1 ![1, 2, 3, 4] bcast_S1x4x64x1_S1x1x4x64x1_1_2_3_4 u) (starts5 c) updateFits_S2048x1x4x64x1_S1x1x4x64x1

theorem put5F_at {x : (⟨S2048x1x4x64x1, .f32⟩ : BufTy).Contents (Elt Ideal)} {u : (⟨S1x4x64x1, .f32⟩ : BufTy).Contents (Elt Ideal)} {c : (⟨S_, .i32⟩ : BufTy).Contents (Elt Ideal)} {k : ℕ} (hk : k < 2048) (hc : c = fun _ => (BitVec.ofNat 32 k : BitVec 32)) (t : Fin 2048) (h : Fin 4) (i : Fin 64) :
    put5F x u c (ix5 t 0 h i 0) = if t.val = k then u (ix4 0 h i 0) else x (ix5 t 0 h i 0) := by
  subst hc
  unfold put5F
  pointwise
  simp [Host.clampedStart, starts5, toInt_ctr hk]
  refine if_congr ?_ rfl rfl
  have := t.isLt
  omega

theorem sum_d3 (x : FVec Ideal S1x4x64x64 .f32) (h : Fin 4) (i : Fin 64) :
    (Host.reduceAdd (F := Ideal) x (constant S_ .f32 0x00000000#32) reducesTo_S1x4x64x64_S1x4x64_d3 h_S_ (ix3 0 h i) : EReal) = ∑ j, (x (ix4 0 h i j) : EReal) := by
  pointwise

theorem sum_d2 (x : FVec Ideal S1x4x64x64 .f32) (h : Fin 4) (j : Fin 64) :
    (Host.reduceAdd (F := Ideal) x (constant S_ .f32 0x00000000#32) reducesTo_S1x4x64x64_S1x4x64_d2 h_S_ (ix3 0 h j) : EReal) = ∑ i, (x (ix4 0 h i j) : EReal) := by
  pointwise

theorem sum_d0 (x : FVec Ideal S1x2048x4x64 .f32) (t : Fin 2048) (h : Fin 4) (j : Fin 64) :
    (Host.reduceAdd (F := Ideal) x (constant S_ .f32 0x00000000#32) reducesTo_S1x2048x4x64_S2048x4x64_d0 h_S_ (ix3 t h j) : EReal) = x (ix4 0 t h j) := by
  pointwise
  exact Fin.sum_univ_one _

theorem sum_d0_2 (x : FVec Ideal S1x4x1x64 .f32) (h : Fin 4) (j : Fin 64) :
    (Host.reduceAdd (F := Ideal) x (constant S_ .f32 0x00000000#32) reducesTo_S1x4x1x64_S4x64_d0_2 h_S_ (ix2 h j) : EReal) = x (ix4 0 h 0 j) := by
  show Ideal.hostReduceAdd _ x _ _ = _
  unfold Ideal.hostReduceAdd
  have e : (Finset.univ.filter fun q => reducesTo_S1x4x1x64_S4x64_d0_2.drop q = ix2 h j) = {(ix4 0 h 0 j)} := by
    ext y
    rw [Finset.mem_filter, Finset.mem_singleton]
    constructor
    · intro hy
      have h0 : y 1 = h := congrFun hy.2 0
      have h1 : y 3 = _ := congrFun hy.2 1
      rw [eq_ix4 y, h0, h1]
      congr 1 <;> exact Subsingleton.elim (α := Fin 1) _ _
    · rintro rfl
      exact ⟨Finset.mem_univ _, funext fun b => by fin_cases b <;> rfl⟩
  rw [e, Finset.sum_singleton]
  exact (congrArg (· + _) Ideal.ofBits_zero_f32).trans (zero_add _)

theorem sum_d0_3 (x : FVec Ideal S1x4x64x1 .f32) (h : Fin 4) (i : Fin 64) :
    (Host.reduceAdd (F := Ideal) x (constant S_ .f32 0x00000000#32) reducesTo_S1x4x64x1_S4x64_d0_3 h_S_ (ix2 h i) : EReal) = x (ix4 0 h i 0) := by
  show Ideal.hostReduceAdd _ x _ _ = _
  unfold Ideal.hostReduceAdd
  have e : (Finset.univ.filter fun q => reducesTo_S1x4x64x1_S4x64_d0_3.drop q = ix2 h i) = {(ix4 0 h i 0)} := by
    ext y
    rw [Finset.mem_filter, Finset.mem_singleton]
    constructor
    · intro hy
      have h0 : y 1 = h := congrFun hy.2 0
      have h1 : y 2 = _ := congrFun hy.2 1
      rw [eq_ix4 y, h0, h1]
      congr 1 <;> exact Subsingleton.elim (α := Fin 1) _ _
    · rintro rfl
      exact ⟨Finset.mem_univ _, funext fun b => by fin_cases b <;> rfl⟩
  rw [e, Finset.sum_singleton]
  exact (congrArg (· + _) Ideal.ofBits_zero_f32).trans (zero_add _)

end Cert.Proof.Ref
-- ==== Proof.RefRead.lean ====
module

public import proofs.«01_k».proof.Proof.RefStep
public import Idealize.ShloMosaic.Lib.StableHlo.ReadAt
public import Idealize.ShloMosaic.Lib.Pointwise
public import Idealize.ShloMosaic.Lib.IdealHost

@[expose] public section

noncomputable section

namespace Cert.Proof.Ref

open Idealize.ShloMosaic Idealize.ShloMosaic.StableHlo
open TcCoe
open Cert.ReferenceIdeal Cert.ReferenceIdeal.Gen

variable (V : Valuation τ sig (Elt Ideal))

/-! What one trip of each loop reads and writes, list by list. -/

theorem fwdTakes_v59 : after fwdTakes V (Proc.devRef .tc main_while0b_v59) = takeF (V (Proc.devRef .tc main_v28_0)) (V (Proc.devRef .tc main_v28_6)) := by
  after_reads_simp
  refine congrArg (fun s => shapeCast S1x4x64 (Host.dynamicSlice S1x1x4x64 (V (Proc.devRef .tc main_v28_0)) s sliceFits_S2048x1x4x64_S1x1x4x64) shapeCasts_S1x1x4x64_S1x4x64) (funext fun k => ?_)
  fin_cases k <;> rfl

theorem fwdTakes_v60 : after fwdTakes V (Proc.devRef .tc main_while0b_v60) = takeF (V (Proc.devRef .tc main_v28_1)) (V (Proc.devRef .tc main_v28_6)) := by
  after_reads_simp
  refine congrArg (fun s => shapeCast S1x4x64 (Host.dynamicSlice S1x1x4x64 (V (Proc.devRef .tc main_v28_1)) s sliceFits_S2048x1x4x64_S1x1x4x64) shapeCasts_S1x1x4x64_S1x4x64) (funext fun k => ?_)
  fin_cases k <;> rfl

theorem fwdTakes_v61 : after fwdTakes V (Proc.devRef .tc main_while0b_v61) = takeF (V (Proc.devRef .tc main_v28_2)) (V (Proc.devRef .tc main_v28_6)) := by
  after_reads_simp
  refine congrArg (fun s => shapeCast S1x4x64 (Host.dynamicSlice S1x1x4x64 (V (Proc.devRef .tc main_v28_2)) s sliceFits_S2048x1x4x64_S1x1x4x64) shapeCasts_S1x1x4x64_S1x4x64) (funext fun k => ?_)
  fin_cases k <;> rfl

theorem fwdTakes_v62 : after fwdTakes V (Proc.devRef .tc main_while0b_v62) = takeF (V (Proc.devRef .tc main_v28_3)) (V (Proc.devRef .tc main_v28_6)) := by
  after_reads_simp
  refine congrArg (fun s => shapeCast S1x4x64 (Host.dynamicSlice S1x1x4x64 (V (Proc.devRef .tc main_v28_3)) s sliceFits_S2048x1x4x64_S1x1x4x64) shapeCasts_S1x1x4x64_S1x4x64) (funext fun k => ?_)
  fin_cases k <;> rfl

theorem fwdTakes_v63 : after fwdTakes V (Proc.devRef .tc main_while0b_v63) = takeF (V (Proc.devRef .tc main_v28_4)) (V (Proc.devRef .tc main_v28_6)) := by
  after_reads_simp
  refine congrArg (fun s => shapeCast S1x4x64 (Host.dynamicSlice S1x1x4x64 (V (Proc.devRef .tc main_v28_4)) s sliceFits_S2048x1x4x64_S1x1x4x64) shapeCasts_S1x1x4x64_S1x4x64) (funext fun k => ?_)
  fin_cases k <;> rfl

theorem fwdTakes_v64 : after fwdTakes V (Proc.devRef .tc main_while0b_v64) = takeF (V (Proc.devRef .tc main_v28_5)) (V (Proc.devRef .tc main_v28_6)) := by
  after_reads_simp
  refine congrArg (fun s => shapeCast S1x4x64 (Host.dynamicSlice S1x1x4x64 (V (Proc.devRef .tc main_v28_5)) s sliceFits_S2048x1x4x64_S1x1x4x64) shapeCasts_S1x1x4x64_S1x4x64) (funext fun k => ?_)
  fin_cases k <;> rfl

theorem fwdPuts_v90 : after fwdPuts V (Proc.devRef .tc main_while0b_v90) = putF (V (Proc.devRef .tc main_v28_8)) (V (Proc.devRef .tc main_while0b_v89)) (V (Proc.devRef .tc main_v28_6)) := by
  after_reads_simp
  refine congrArg (fun s => Host.dynamicUpdateSlice (V (Proc.devRef .tc main_v28_8)) (broadcastInDim S1x1x4x64 ![1, 2, 3] bcast_S1x4x64_S1x1x4x64_1_2_3 (V (Proc.devRef .tc main_while0b_v89))) s updateFits_S2048x1x4x64_S1x1x4x64) (funext fun k => ?_)
  fin_cases k <;> rfl

theorem fwdPuts_v91 : after fwdPuts V (Proc.devRef .tc main_while0b_v91) = put3F (V (Proc.devRef .tc main_v28_9)) (V (Proc.devRef .tc main_while0b_v66)) (V (Proc.devRef .tc main_v28_6)) := by
  after_reads_simp
  refine congrArg (fun s => Host.dynamicUpdateSlice (V (Proc.devRef .tc main_v28_9)) (broadcastInDim S1x1x4x1x64 ![1, 2, 3, 4] bcast_S1x4x1x64_S1x1x4x1x64_1_2_3_4 (V (Proc.devRef .tc main_while0b_v66))) s updateFits_S2048x1x4x1x64_S1x1x4x1x64) (funext fun k => ?_)
  fin_cases k <;> rfl

theorem fwdPuts_v92 : after fwdPuts V (Proc.devRef .tc main_while0b_v92) = put4F (V (Proc.devRef .tc main_v28_10)) (V (Proc.devRef .tc main_v28_7)) (V (Proc.devRef .tc main_v28_6)) := by
  after_reads_simp
  refine congrArg (fun s => Host.dynamicUpdateSlice (V (Proc.devRef .tc main_v28_10)) (broadcastInDim S1x1x4x64x64 ![1, 2, 3, 4] bcast_S1x4x64x64_S1x1x4x64x64_1_2_3_4 (V (Proc.devRef .tc main_v28_7))) s updateFits_S2048x1x4x64x64_S1x1x4x64x64) (funext fun k => ?_)
  fin_cases k <;> rfl

theorem fwdPuts_v93 : after fwdPuts V (Proc.devRef .tc main_while0b_v93) = put3F (V (Proc.devRef .tc main_v28_11)) (V (Proc.devRef .tc main_while0b_v70)) (V (Proc.devRef .tc main_v28_6)) := by
  after_reads_simp
  refine congrArg (fun s => Host.dynamicUpdateSlice (V (Proc.devRef .tc main_v28_11)) (broadcastInDim S1x1x4x1x64 ![1, 2, 3, 4] bcast_S1x4x1x64_S1x1x4x1x64_1_2_3_4 (V (Proc.devRef .tc main_while0b_v70))) s updateFits_S2048x1x4x1x64_S1x1x4x1x64) (funext fun k => ?_)
  fin_cases k <;> rfl

theorem fwdPuts_v94 : after fwdPuts V (Proc.devRef .tc main_while0b_v94) = put3F (V (Proc.devRef .tc main_v28_12)) (V (Proc.devRef .tc main_while0b_v75)) (V (Proc.devRef .tc main_v28_6)) := by
  after_reads_simp
  refine congrArg (fun s => Host.dynamicUpdateSlice (V (Proc.devRef .tc main_v28_12)) (broadcastInDim S1x1x4x1x64 ![1, 2, 3, 4] bcast_S1x4x1x64_S1x1x4x1x64_1_2_3_4 (V (Proc.devRef .tc main_while0b_v75))) s updateFits_S2048x1x4x1x64_S1x1x4x1x64) (funext fun k => ?_)
  fin_cases k <;> rfl

theorem fwdPuts_v95 : after fwdPuts V (Proc.devRef .tc main_while0b_v95) = put5F (V (Proc.devRef .tc main_v28_13)) (V (Proc.devRef .tc main_while0b_v73)) (V (Proc.devRef .tc main_v28_6)) := by
  after_reads_simp
  refine congrArg (fun s => Host.dynamicUpdateSlice (V (Proc.devRef .tc main_v28_13)) (broadcastInDim S1x1x4x64x1 ![1, 2, 3, 4] bcast_S1x4x64x1_S1x1x4x64x1_1_2_3_4 (V (Proc.devRef .tc main_while0b_v73))) s updateFits_S2048x1x4x64x1_S1x1x4x64x1) (funext fun k => ?_)
  fin_cases k <;> rfl

theorem fwdPuts_v96 : after fwdPuts V (Proc.devRef .tc main_while0b_v96) = put3F (V (Proc.devRef .tc main_v28_14)) (V (Proc.devRef .tc main_while0b_v81)) (V (Proc.devRef .tc main_v28_6)) := by
  after_reads_simp
  refine congrArg (fun s => Host.dynamicUpdateSlice (V (Proc.devRef .tc main_v28_14)) (broadcastInDim S1x1x4x1x64 ![1, 2, 3, 4] bcast_S1x4x1x64_S1x1x4x1x64_1_2_3_4 (V (Proc.devRef .tc main_while0b_v81))) s updateFits_S2048x1x4x1x64_S1x1x4x1x64) (funext fun k => ?_)
  fin_cases k <;> rfl

theorem fwdPuts_v97 : after fwdPuts V (Proc.devRef .tc main_while0b_v97) = put5F (V (Proc.devRef .tc main_v28_15)) (V (Proc.devRef .tc main_while0b_v80)) (V (Proc.devRef .tc main_v28_6)) := by
  after_reads_simp
  refine congrArg (fun s => Host.dynamicUpdateSlice (V (Proc.devRef .tc main_v28_15)) (broadcastInDim S1x1x4x64x1 ![1, 2, 3, 4] bcast_S1x4x64x1_S1x1x4x64x1_1_2_3_4 (V (Proc.devRef .tc main_while0b_v80))) s updateFits_S2048x1x4x64x1_S1x1x4x64x1) (funext fun k => ?_)
  fin_cases k <;> rfl

theorem fwdPuts_v98 : after fwdPuts V (Proc.devRef .tc main_while0b_v98) = put3F (V (Proc.devRef .tc main_v28_16)) (V (Proc.devRef .tc main_while0b_v86)) (V (Proc.devRef .tc main_v28_6)) := by
  after_reads_simp
  refine congrArg (fun s => Host.dynamicUpdateSlice (V (Proc.devRef .tc main_v28_16)) (broadcastInDim S1x1x4x1x64 ![1, 2, 3, 4] bcast_S1x4x1x64_S1x1x4x1x64_1_2_3_4 (V (Proc.devRef .tc main_while0b_v86))) s updateFits_S2048x1x4x1x64_S1x1x4x1x64) (funext fun k => ?_)
  fin_cases k <;> rfl

theorem fwdPuts_v99 : after fwdPuts V (Proc.devRef .tc main_while0b_v99) = put4F (V (Proc.devRef .tc main_v28_17)) (V (Proc.devRef .tc main_while0b_v85)) (V (Proc.devRef .tc main_v28_6)) := by
  after_reads_simp
  refine congrArg (fun s => Host.dynamicUpdateSlice (V (Proc.devRef .tc main_v28_17)) (broadcastInDim S1x1x4x64x64 ![1, 2, 3, 4] bcast_S1x4x64x64_S1x1x4x64x64_1_2_3_4 (V (Proc.devRef .tc main_while0b_v85))) s updateFits_S2048x1x4x64x64_S1x1x4x64x64) (funext fun k => ?_)
  fin_cases k <;> rfl

theorem bwdTakes_v61 : after bwdTakes V (Proc.devRef .tc main_while1b_v61) = takeF (V (Proc.devRef .tc main_v41_0)) (V (Proc.devRef .tc main_while1b_v60)) := by
  after_reads_simp
  refine congrArg (fun s => shapeCast S1x4x64 (Host.dynamicSlice S1x1x4x64 (V (Proc.devRef .tc main_v41_0)) s sliceFits_S2048x1x4x64_S1x1x4x64) shapeCasts_S1x1x4x64_S1x4x64) (funext fun k => ?_)
  fin_cases k <;> rfl

theorem bwdTakes_v62 : after bwdTakes V (Proc.devRef .tc main_while1b_v62) = take3F (V (Proc.devRef .tc main_v41_1)) (V (Proc.devRef .tc main_while1b_v60)) := by
  after_reads_simp
  refine congrArg (fun s => shapeCast S1x4x1x64 (Host.dynamicSlice S1x1x4x1x64 (V (Proc.devRef .tc main_v41_1)) s sliceFits_S2048x1x4x1x64_S1x1x4x1x64) shapeCasts_S1x1x4x1x64_S1x4x1x64) (funext fun k => ?_)
  fin_cases k <;> rfl

theorem bwdTakes_v63 : after bwdTakes V (Proc.devRef .tc main_while1b_v63) = take4F (V (Proc.devRef .tc main_v41_2)) (V (Proc.devRef .tc main_while1b_v60)) := by
  after_reads_simp
  refine congrArg (fun s => shapeCast S1x4x64x64 (Host.dynamicSlice S1x1x4x64x64 (V (Proc.devRef .tc main_v41_2)) s sliceFits_S2048x1x4x64x64_S1x1x4x64x64) shapeCasts_S1x1x4x64x64_S1x4x64x64) (funext fun k => ?_)
  fin_cases k <;> rfl

theorem bwdTakes_v64 : after bwdTakes V (Proc.devRef .tc main_while1b_v64) = take3F (V (Proc.devRef .tc main_v41_3)) (V (Proc.devRef .tc main_while1b_v60)) := by
  after_reads_simp
  refine congrArg (fun s => shapeCast S1x4x1x64 (Host.dynamicSlice S1x1x4x1x64 (V (Proc.devRef .tc main_v41_3)) s sliceFits_S2048x1x4x1x64_S1x1x4x1x64) shapeCasts_S1x1x4x1x64_S1x4x1x64) (funext fun k => ?_)
  fin_cases k <;> rfl

theorem bwdTakes_v65 : after bwdTakes V (Proc.devRef .tc main_while1b_v65) = takeF (V (Proc.devRef .tc main_v41_4)) (V (Proc.devRef .tc main_while1b_v60)) := by
  after_reads_simp
  refine congrArg (fun s => shapeCast S1x4x64 (Host.dynamicSlice S1x1x4x64 (V (Proc.devRef .tc main_v41_4)) s sliceFits_S2048x1x4x64_S1x1x4x64) shapeCasts_S1x1x4x64_S1x4x64) (funext fun k => ?_)
  fin_cases k <;> rfl

theorem bwdTakes_v66 : after bwdTakes V (Proc.devRef .tc main_while1b_v66) = takeF (V (Proc.devRef .tc main_v41_5)) (V (Proc.devRef .tc main_while1b_v60)) := by
  after_reads_simp
  refine congrArg (fun s => shapeCast S1x4x64 (Host.dynamicSlice S1x1x4x64 (V (Proc.devRef .tc main_v41_5)) s sliceFits_S2048x1x4x64_S1x1x4x64) shapeCasts_S1x1x4x64_S1x4x64) (funext fun k => ?_)
  fin_cases k <;> rfl

theorem bwdTakes_v67 : after bwdTakes V (Proc.devRef .tc main_while1b_v67) = take3F (V (Proc.devRef .tc main_v41_6)) (V (Proc.devRef .tc main_while1b_v60)) := by
  after_reads_simp
  refine congrArg (fun s => shapeCast S1x4x1x64 (Host.dynamicSlice S1x1x4x1x64 (V (Proc.devRef .tc main_v41_6)) s sliceFits_S2048x1x4x1x64_S1x1x4x1x64) shapeCasts_S1x1x4x1x64_S1x4x1x64) (funext fun k => ?_)
  fin_cases k <;> rfl

theorem bwdTakes_v68 : after bwdTakes V (Proc.devRef .tc main_while1b_v68) = take5F (V (Proc.devRef .tc main_v41_7)) (V (Proc.devRef .tc main_while1b_v60)) := by
  after_reads_simp
  refine congrArg (fun s => shapeCast S1x4x64x1 (Host.dynamicSlice S1x1x4x64x1 (V (Proc.devRef .tc main_v41_7)) s sliceFits_S2048x1x4x64x1_S1x1x4x64x1) shapeCasts_S1x1x4x64x1_S1x4x64x1) (funext fun k => ?_)
  fin_cases k <;> rfl

theorem bwdTakes_v69 : after bwdTakes V (Proc.devRef .tc main_while1b_v69) = take3F (V (Proc.devRef .tc main_v41_8)) (V (Proc.devRef .tc main_while1b_v60)) := by
  after_reads_simp
  refine congrArg (fun s => shapeCast S1x4x1x64 (Host.dynamicSlice S1x1x4x1x64 (V (Proc.devRef .tc main_v41_8)) s sliceFits_S2048x1x4x1x64_S1x1x4x1x64) shapeCasts_S1x1x4x1x64_S1x4x1x64) (funext fun k => ?_)
  fin_cases k <;> rfl

theorem bwdTakes_v70 : after bwdTakes V (Proc.devRef .tc main_while1b_v70) = take5F (V (Proc.devRef .tc main_v41_9)) (V (Proc.devRef .tc main_while1b_v60)) := by
  after_reads_simp
  refine congrArg (fun s => shapeCast S1x4x64x1 (Host.dynamicSlice S1x1x4x64x1 (V (Proc.devRef .tc main_v41_9)) s sliceFits_S2048x1x4x64x1_S1x1x4x64x1) shapeCasts_S1x1x4x64x1_S1x4x64x1) (funext fun k => ?_)
  fin_cases k <;> rfl

theorem bwdTakes_v71 : after bwdTakes V (Proc.devRef .tc main_while1b_v71) = take3F (V (Proc.devRef .tc main_v41_10)) (V (Proc.devRef .tc main_while1b_v60)) := by
  after_reads_simp
  refine congrArg (fun s => shapeCast S1x4x1x64 (Host.dynamicSlice S1x1x4x1x64 (V (Proc.devRef .tc main_v41_10)) s sliceFits_S2048x1x4x1x64_S1x1x4x1x64) shapeCasts_S1x1x4x1x64_S1x4x1x64) (funext fun k => ?_)
  fin_cases k <;> rfl

theorem bwdTakes_v72 : after bwdTakes V (Proc.devRef .tc main_while1b_v72) = take4F (V (Proc.devRef .tc main_v41_11)) (V (Proc.devRef .tc main_while1b_v60)) := by
  after_reads_simp
  refine congrArg (fun s => shapeCast S1x4x64x64 (Host.dynamicSlice S1x1x4x64x64 (V (Proc.devRef .tc main_v41_11)) s sliceFits_S2048x1x4x64x64_S1x1x4x64x64) shapeCasts_S1x1x4x64x64_S1x4x64x64) (funext fun k => ?_)
  fin_cases k <;> rfl

theorem bwdPuts_v126 : after bwdPuts V (Proc.devRef .tc main_while1b_v126) = putF (V (Proc.devRef .tc main_v41_14)) (V (Proc.devRef .tc main_while1b_v81)) (V (Proc.devRef .tc main_while1b_v60)) := by
  after_reads_simp
  refine congrArg (fun s => Host.dynamicUpdateSlice (V (Proc.devRef .tc main_v41_14)) (broadcastInDim S1x1x4x64 ![1, 2, 3] bcast_S1x4x64_S1x1x4x64_1_2_3 (V (Proc.devRef .tc main_while1b_v81))) s updateFits_S2048x1x4x64_S1x1x4x64) (funext fun k => ?_)
  fin_cases k <;> rfl

theorem bwdPuts_v127 : after bwdPuts V (Proc.devRef .tc main_while1b_v127) = putF (V (Proc.devRef .tc main_v41_15)) (V (Proc.devRef .tc main_while1b_v114)) (V (Proc.devRef .tc main_while1b_v60)) := by
  after_reads_simp
  refine congrArg (fun s => Host.dynamicUpdateSlice (V (Proc.devRef .tc main_v41_15)) (broadcastInDim S1x1x4x64 ![1, 2, 3] bcast_S1x4x64_S1x1x4x64_1_2_3 (V (Proc.devRef .tc main_while1b_v114))) s updateFits_S2048x1x4x64_S1x1x4x64) (funext fun k => ?_)
  fin_cases k <;> rfl

theorem bwdPuts_v128 : after bwdPuts V (Proc.devRef .tc main_while1b_v128) = putF (V (Proc.devRef .tc main_v41_16)) (V (Proc.devRef .tc main_while1b_v91)) (V (Proc.devRef .tc main_while1b_v60)) := by
  after_reads_simp
  refine congrArg (fun s => Host.dynamicUpdateSlice (V (Proc.devRef .tc main_v41_16)) (broadcastInDim S1x1x4x64 ![1, 2, 3] bcast_S1x4x64_S1x1x4x64_1_2_3 (V (Proc.devRef .tc main_while1b_v91))) s updateFits_S2048x1x4x64_S1x1x4x64) (funext fun k => ?_)
  fin_cases k <;> rfl

theorem bwdPuts_v129 : after bwdPuts V (Proc.devRef .tc main_while1b_v129) = putF (V (Proc.devRef .tc main_v41_17)) (V (Proc.devRef .tc main_while1b_v93)) (V (Proc.devRef .tc main_while1b_v60)) := by
  after_reads_simp
  refine congrArg (fun s => Host.dynamicUpdateSlice (V (Proc.devRef .tc main_v41_17)) (broadcastInDim S1x1x4x64 ![1, 2, 3] bcast_S1x4x64_S1x1x4x64_1_2_3 (V (Proc.devRef .tc main_while1b_v93))) s updateFits_S2048x1x4x64_S1x1x4x64) (funext fun k => ?_)
  fin_cases k <;> rfl

theorem bwdPuts_v130 : after bwdPuts V (Proc.devRef .tc main_while1b_v130) = putF (V (Proc.devRef .tc main_v41_18)) (V (Proc.devRef .tc main_while1b_v125)) (V (Proc.devRef .tc main_while1b_v60)) := by
  after_reads_simp
  refine congrArg (fun s => Host.dynamicUpdateSlice (V (Proc.devRef .tc main_v41_18)) (broadcastInDim S1x1x4x64 ![1, 2, 3] bcast_S1x4x64_S1x1x4x64_1_2_3 (V (Proc.devRef .tc main_while1b_v125))) s updateFits_S2048x1x4x64_S1x1x4x64) (funext fun k => ?_)
  fin_cases k <;> rfl

theorem bwdPuts_v131 : after bwdPuts V (Proc.devRef .tc main_while1b_v131) = putF (V (Proc.devRef .tc main_v41_19)) (V (Proc.devRef .tc main_while1b_v104)) (V (Proc.devRef .tc main_while1b_v60)) := by
  after_reads_simp
  refine congrArg (fun s => Host.dynamicUpdateSlice (V (Proc.devRef .tc main_v41_19)) (broadcastInDim S1x1x4x64 ![1, 2, 3] bcast_S1x4x64_S1x1x4x64_1_2_3 (V (Proc.devRef .tc main_while1b_v104))) s updateFits_S2048x1x4x64_S1x1x4x64) (funext fun k => ?_)
  fin_cases k <;> rfl

end Cert.Proof.Ref
-- ==== Proof.RefBack.lean ====
module

public import proofs.«01_k».proof.Proof.RefRead
public import Idealize.ShloMosaic.Lib.StableHlo.ReadAt
public import Idealize.ShloMosaic.Lib.Pointwise
public import Idealize.ShloMosaic.Lib.IdealHost

@[expose] public section

noncomputable section

namespace Cert.Proof.Ref

open Idealize.ShloMosaic Idealize.ShloMosaic.StableHlo
open TcCoe
open Cert.ReferenceIdeal Cert.ReferenceIdeal.Gen

/-- What the backward loop has before trip `n`: what the forward one saved, and the adjoints so far. -/
structure BwdInv (x : Maths.In) (n : ℕ) (V : Valuation τ sig (Elt Ideal)) : Prop where
  ctr : V (Proc.devRef .tc main_v41_12) = fun _ => (BitVec.ofNat 32 n : BitVec 32)
  dy : ∀ (t : Fin 2048) (h : Fin 4) (j : Fin 64), (V (Proc.devRef .tc main_v41_0) (ix4 t 0 h j) : EReal) = x.dy t h j
  nkk : ∀ (t : Fin 2048) (h : Fin 4) (j : Fin 64), (V (Proc.devRef .tc main_v41_1) (ix5 t 0 h 0 j) : EReal) = -(x.kk t h j)
  s : ∀ (t : Fin 2048) (h : Fin 4) (i j : Fin 64), (V (Proc.devRef .tc main_v41_2) (ix5 t 0 h i j) : EReal) = Maths.S x t h i j
  w : ∀ (t : Fin 2048) (h : Fin 4) (j : Fin 64), (V (Proc.devRef .tc main_v41_3) (ix5 t 0 h 0 j) : EReal) = x.w t h j
  a : ∀ (t : Fin 2048) (h : Fin 4) (j : Fin 64), (V (Proc.devRef .tc main_v41_4) (ix4 t 0 h j) : EReal) = x.a t h j
  kk : ∀ (t : Fin 2048) (h : Fin 4) (j : Fin 64), (V (Proc.devRef .tc main_v41_5) (ix4 t 0 h j) : EReal) = x.kk t h j
  kka : ∀ (t : Fin 2048) (h : Fin 4) (j : Fin 64), (V (Proc.devRef .tc main_v41_6) (ix5 t 0 h 0 j) : EReal) = x.kk t h j * x.a t h j
  sa : ∀ (t : Fin 2048) (h : Fin 4) (i : Fin 64), (V (Proc.devRef .tc main_v41_7) (ix5 t 0 h i 0) : EReal) = Maths.sa x (Maths.S x t) t h i
  k : ∀ (t : Fin 2048) (h : Fin 4) (j : Fin 64), (V (Proc.devRef .tc main_v41_8) (ix5 t 0 h 0 j) : EReal) = x.k t h j
  v : ∀ (t : Fin 2048) (h : Fin 4) (i : Fin 64), (V (Proc.devRef .tc main_v41_9) (ix5 t 0 h i 0) : EReal) = x.v t h i
  r : ∀ (t : Fin 2048) (h : Fin 4) (j : Fin 64), (V (Proc.devRef .tc main_v41_10) (ix5 t 0 h 0 j) : EReal) = x.r t h j
  s' : ∀ (t : Fin 2048) (h : Fin 4) (i j : Fin 64), (V (Proc.devRef .tc main_v41_11) (ix5 t 0 h i j) : EReal) = Maths.S x (t + 1) h i j
  ds : ∀ (h : Fin 4) (i j : Fin 64), (V (Proc.devRef .tc main_v41_13) (ix4 0 h i j) : EReal) = Maths.DS x n h i j
  dr : ∀ t : Fin 2048, 2048 ≤ t.val + n → ∀ (h : Fin 4) (j : Fin 64), (V (Proc.devRef .tc main_v41_14) (ix4 t 0 h j) : EReal) = Maths.dr x t h j
  dw : ∀ t : Fin 2048, 2048 ≤ t.val + n → ∀ (h : Fin 4) (j : Fin 64), (V (Proc.devRef .tc main_v41_15) (ix4 t 0 h j) : EReal) = Maths.dw x t h j
  dk : ∀ t : Fin 2048, 2048 ≤ t.val + n → ∀ (h : Fin 4) (j : Fin 64), (V (Proc.devRef .tc main_v41_16) (ix4 t 0 h j) : EReal) = Maths.dk x t h j
  dv : ∀ t : Fin 2048, 2048 ≤ t.val + n → ∀ (h : Fin 4) (j : Fin 64), (V (Proc.devRef .tc main_v41_17) (ix4 t 0 h j) : EReal) = Maths.dv x t h j
  dkk : ∀ t : Fin 2048, 2048 ≤ t.val + n → ∀ (h : Fin 4) (j : Fin 64), (V (Proc.devRef .tc main_v41_18) (ix4 t 0 h j) : EReal) = Maths.dkk x t h j
  da : ∀ t : Fin 2048, 2048 ≤ t.val + n → ∀ (h : Fin 4) (j : Fin 64), (V (Proc.devRef .tc main_v41_19) (ix4 t 0 h j) : EReal) = Maths.da x t h j

/-- The slices of one backward trip, at the time `t`. -/
structure BwdIn (x : Maths.In) (t : ℕ) (Ds : Maths.Mat) (V : Valuation τ sig (Elt Ideal)) : Prop where
  dy : ∀ (h : Fin 4) (j : Fin 64), (V (Proc.devRef .tc main_while1b_v61) (ix3 0 h j) : EReal) = x.dy t h j
  nkk : ∀ (h : Fin 4) (j : Fin 64), (V (Proc.devRef .tc main_while1b_v62) (ix4 0 h 0 j) : EReal) = -(x.kk t h j)
  s : ∀ (h : Fin 4) (i j : Fin 64), (V (Proc.devRef .tc main_while1b_v63) (ix4 0 h i j) : EReal) = Maths.S x t h i j
  w : ∀ (h : Fin 4) (j : Fin 64), (V (Proc.devRef .tc main_while1b_v64) (ix4 0 h 0 j) : EReal) = x.w t h j
  a : ∀ (h : Fin 4) (j : Fin 64), (V (Proc.devRef .tc main_while1b_v65) (ix3 0 h j) : EReal) = x.a t h j
  kk : ∀ (h : Fin 4) (j : Fin 64), (V (Proc.devRef .tc main_while1b_v66) (ix3 0 h j) : EReal) = x.kk t h j
  kka : ∀ (h : Fin 4) (j : Fin 64), (V (Proc.devRef .tc main_while1b_v67) (ix4 0 h 0 j) : EReal) = x.kk t h j * x.a t h j
  sa : ∀ (h : Fin 4) (i : Fin 64), (V (Proc.devRef .tc main_while1b_v68) (ix4 0 h i 0) : EReal) = Maths.sa x (Maths.S x t) t h i
  k : ∀ (h : Fin 4) (j : Fin 64), (V (Proc.devRef .tc main_while1b_v69) (ix4 0 h 0 j) : EReal) = x.k t h j
  v : ∀ (h : Fin 4) (i : Fin 64), (V (Proc.devRef .tc main_while1b_v70) (ix4 0 h i 0) : EReal) = x.v t h i
  r : ∀ (h : Fin 4) (j : Fin 64), (V (Proc.devRef .tc main_while1b_v71) (ix4 0 h 0 j) : EReal) = x.r t h j
  s' : ∀ (h : Fin 4) (i j : Fin 64), (V (Proc.devRef .tc main_while1b_v72) (ix4 0 h i j) : EReal) = Maths.S x (t + 1) h i j
  ds : ∀ (h : Fin 4) (i j : Fin 64), (V (Proc.devRef .tc main_v41_13) (ix4 0 h i j) : EReal) = Ds h i j

/-- Two axes of one element summed away: that element. -/
theorem one_d0_2 (x : FVec Ideal S1x4x1x64 .f32) (h : Fin 4) (j : Fin 64) :
    Ideal.hostReduceAdd reducesTo_S1x4x1x64_S4x64_d0_2 x 0 (ix2 h j) = x (ix4 0 h 0 j) := by
  rw [← sum_d0_2 x h j]
  exact congrArg (fun z => Ideal.hostReduceAdd reducesTo_S1x4x1x64_S4x64_d0_2 x z (ix2 h j)) Ideal.ofBits_zero_f32.symm

theorem one_d0_3 (x : FVec Ideal S1x4x64x1 .f32) (h : Fin 4) (i : Fin 64) :
    Ideal.hostReduceAdd reducesTo_S1x4x64x1_S4x64_d0_3 x 0 (ix2 h i) = x (ix4 0 h i 0) := by
  rw [← sum_d0_3 x h i]
  exact congrArg (fun z => Ideal.hostReduceAdd reducesTo_S1x4x64x1_S4x64_d0_3 x z (ix2 h i)) Ideal.ofBits_zero_f32.symm

section Core

variable {x : Maths.In} {t : ℕ} {Ds : Maths.Mat} {V : Valuation τ sig (Elt Ideal)}

/-- The adjoint of the state after the step. -/
theorem BwdIn.g (H : BwdIn x t Ds V) (h : Fin 4) (i j : Fin 64) : (after bwdCore V (Proc.devRef .tc main_while1b_v79) (ix4 0 h i j) : EReal) = Maths.g x Ds t h i j := by
  after_reads_at
  rw [H.ds, H.dy, H.r]
  rfl

/-- The adjoint of the state's product. -/
theorem BwdIn.dsa (H : BwdIn x t Ds V) (h : Fin 4) (i : Fin 64) : (after bwdCore V (Proc.devRef .tc main_while1b_v107) (ix3 0 h i) : EReal) = Maths.dsa x Ds t h i := by
  have e := fun j => H.g h i j
  revert e
  after_reads_at
  intro e
  refine (one_d0_3 _ h i).trans ?_
  unfold Maths.dsa
  exact Finset.sum_congr rfl fun j _ => by rw [← e, ← H.kka] <;> rfl

theorem BwdIn.next (H : BwdIn x t Ds V) (h : Fin 4) (i j : Fin 64) : (after bwdCore V (Proc.devRef .tc main_while1b_v121) (ix4 0 h i j) : EReal) = Maths.g x Ds t h i j * x.w t h j + Maths.dsa x Ds t h i * -(x.kk t h j) := by
  have e := H.g h i j
  have e' := H.dsa h i
  revert e e'
  after_reads_at
  intro e e'
  rw [e, e', H.w, H.nkk]

theorem BwdIn.dr (H : BwdIn x t Ds V) (h : Fin 4) (j : Fin 64) : (after bwdCore V (Proc.devRef .tc main_while1b_v81) (ix3 0 h j) : EReal) = ∑ i, Maths.S x (t + 1) h i j * x.dy t h i := by
  have e := fun i => H.g h i j
  revert e
  after_reads_at
  intro e
  refine (one_d0_2 _ h j).trans ?_
  exact Finset.sum_congr rfl fun i _ => by rw [← H.s', ← H.dy] <;> rfl

theorem BwdIn.dw (H : BwdIn x t Ds V) (h : Fin 4) (j : Fin 64) : (after bwdCore V (Proc.devRef .tc main_while1b_v114) (ix3 0 h j) : EReal) = ∑ i, Maths.S x t h i j * Maths.g x Ds t h i j := by
  have e := fun i => H.g h i j
  revert e
  after_reads_at
  intro e
  refine (one_d0_2 _ h j).trans ?_
  exact Finset.sum_congr rfl fun i _ => by rw [← e, ← H.s] <;> rfl

theorem BwdIn.dk (H : BwdIn x t Ds V) (h : Fin 4) (j : Fin 64) : (after bwdCore V (Proc.devRef .tc main_while1b_v91) (ix3 0 h j) : EReal) = ∑ i, x.v t h i * Maths.g x Ds t h i j := by
  have e := fun i => H.g h i j
  revert e
  after_reads_at
  intro e
  refine (one_d0_2 _ h j).trans ?_
  exact Finset.sum_congr rfl fun i _ => by rw [← e, ← H.v] <;> rfl

theorem BwdIn.db (H : BwdIn x t Ds V) (h : Fin 4) (j : Fin 64) : (after bwdCore V (Proc.devRef .tc main_while1b_v103) (ix3 0 h j) : EReal) = ∑ i, Maths.sa x (Maths.S x t) t h i * Maths.g x Ds t h i j := by
  have e := fun i => H.g h i j
  revert e
  after_reads_at
  intro e
  refine (one_d0_2 _ h j).trans ?_
  exact Finset.sum_congr rfl fun i _ => by rw [← e, ← H.sa] <;> rfl

theorem BwdIn.dv (H : BwdIn x t Ds V) (h : Fin 4) (i : Fin 64) : (after bwdCore V (Proc.devRef .tc main_while1b_v93) (ix3 0 h i) : EReal) = ∑ j, Maths.g x Ds t h i j * x.k t h j := by
  have e := fun j => H.g h i j
  revert e
  after_reads_at
  intro e
  refine (one_d0_3 _ h i).trans ?_
  exact Finset.sum_congr rfl fun j _ => by rw [← e, ← H.k] <;> rfl

theorem BwdIn.da (H : BwdIn x t Ds V) (h : Fin 4) (j : Fin 64) : (after bwdCore V (Proc.devRef .tc main_while1b_v104) (ix3 0 h j) : EReal) = x.kk t h j * ∑ i, Maths.sa x (Maths.S x t) t h i * Maths.g x Ds t h i j := by
  have e := H.db h j
  revert e
  after_reads_at
  intro e
  rw [e, H.kk]

theorem BwdIn.dkk (H : BwdIn x t Ds V) (h : Fin 4) (j : Fin 64) : (after bwdCore V (Proc.devRef .tc main_while1b_v125) (ix3 0 h j) : EReal) =
    (∑ i, Maths.sa x (Maths.S x t) t h i * Maths.g x Ds t h i j) * x.a t h j + -(∑ i, Maths.S x t h i j * Maths.dsa x Ds t h i) := by
  have e := H.db h j
  have e' := fun i => H.dsa h i
  revert e e'
  after_reads_at
  intro e e'
  rw [e, H.a]
  congr 2
  refine (one_d0_2 _ h j).trans ?_
  exact Finset.sum_congr rfl fun i _ => by rw [← e', ← H.s] <;> rfl

end Core

end Cert.Proof.Ref
-- ==== Proof.RefBwd.lean ====
module

public import proofs.«01_k».proof.Proof.RefBack
public import Idealize.ShloMosaic.Lib.StableHlo.ReadAt
public import Idealize.ShloMosaic.Lib.Pointwise
public import Idealize.ShloMosaic.Lib.IdealHost

@[expose] public section

noncomputable section

namespace Cert.Proof.Ref

open Idealize.ShloMosaic Idealize.ShloMosaic.StableHlo
open TcCoe
open Cert.ReferenceIdeal Cert.ReferenceIdeal.Gen

/-- The time of trip number `x`, counted from the end. -/
def idxOf (x : (⟨S_, .i32⟩ : BufTy).Contents (Elt Ideal)) : (⟨S_, .i32⟩ : BufTy).Contents (Elt Ideal) :=
  subi (subi (constantI S_ 32 2048#32) x) (constantI S_ 32 1#32)

theorem idxOf_eq (n : ℕ) (hn : n < 2048) (x : (⟨S_, .i32⟩ : BufTy).Contents (Elt Ideal)) (h : x = fun _ => BitVec.ofNat 32 n) :
    idxOf x = fun _ => BitVec.ofNat 32 (2047 - n) := by
  subst h
  funext i
  show (2048#32 - BitVec.ofNat 32 n) - 1#32 = BitVec.ofNat 32 (2047 - n)
  apply BitVec.eq_of_toNat_eq
  simp only [BitVec.toNat_sub, BitVec.toNat_ofNat]
  omega

/-- The backward trip keeps the invariant. -/
theorem BwdInv.step {x : Maths.In} {n : ℕ} (hn : n < 2048) {V : Valuation τ sig (Elt Ideal)} (H : BwdInv x n V) :
    BwdInv x (n + 1) (after bwdOps (after condBwd V)) := by
  have hctr := (bwd_ctr V).trans (ctr_step n _ H.ctr)
  have hk : 2047 - n < 2048 := by omega
  revert hctr
  rw [bwdOps, after_append, after_append, after_append, after_append]
  generalize hV0 : after condBwd V = V0
  generalize hVI : after bwdIdx V0 = VI
  generalize hV1 : after bwdTakes VI = V1
  generalize hV2 : after bwdCore V1 = V2
  generalize hV3 : after bwdPuts V2 = V3
  intro hctr
  have c0 : VI (Proc.devRef .tc main_while1b_v60) = fun _ => (BitVec.ofNat 32 (2047 - n) : BitVec 32) := by
    rw [show VI (Proc.devRef .tc main_while1b_v60) = idxOf (V (Proc.devRef .tc main_v41_12)) from by rw [← hVI, ← hV0]; after_reads_simp <;> rfl]
    exact idxOf_eq n hn _ H.ctr
  have c2 : V2 (Proc.devRef .tc main_while1b_v60) = fun _ => (BitVec.ofNat 32 (2047 - n) : BitVec 32) := by
    rw [← c0, ← hV2, ← hV1]; after_reads_simp
  have I : BwdIn x (2047 - n) (Maths.DS x n) V1 := by
    constructor
    · intro h j; rw [← hV1, bwdTakes_v61, takeF_at hk c0, ← hVI, ← hV0, ← H.dy ⟨_, hk⟩ h j]; after_reads_simp
    · intro h j; rw [← hV1, bwdTakes_v62, take3F_at hk c0, ← hVI, ← hV0, ← H.nkk ⟨_, hk⟩ h j]; after_reads_simp
    · intro h i j; rw [← hV1, bwdTakes_v63, take4F_at hk c0, ← hVI, ← hV0, ← H.s ⟨_, hk⟩ h i j]; after_reads_simp
    · intro h j; rw [← hV1, bwdTakes_v64, take3F_at hk c0, ← hVI, ← hV0, ← H.w ⟨_, hk⟩ h j]; after_reads_simp
    · intro h j; rw [← hV1, bwdTakes_v65, takeF_at hk c0, ← hVI, ← hV0, ← H.a ⟨_, hk⟩ h j]; after_reads_simp
    · intro h j; rw [← hV1, bwdTakes_v66, takeF_at hk c0, ← hVI, ← hV0, ← H.kk ⟨_, hk⟩ h j]; after_reads_simp
    · intro h j; rw [← hV1, bwdTakes_v67, take3F_at hk c0, ← hVI, ← hV0, ← H.kka ⟨_, hk⟩ h j]; after_reads_simp
    · intro h i; rw [← hV1, bwdTakes_v68, take5F_at hk c0, ← hVI, ← hV0, ← H.sa ⟨_, hk⟩ h i]; after_reads_simp
    · intro h j; rw [← hV1, bwdTakes_v69, take3F_at hk c0, ← hVI, ← hV0, ← H.k ⟨_, hk⟩ h j]; after_reads_simp
    · intro h i; rw [← hV1, bwdTakes_v70, take5F_at hk c0, ← hVI, ← hV0, ← H.v ⟨_, hk⟩ h i]; after_reads_simp
    · intro h j; rw [← hV1, bwdTakes_v71, take3F_at hk c0, ← hVI, ← hV0, ← H.r ⟨_, hk⟩ h j]; after_reads_simp
    · intro h i j; rw [← hV1, bwdTakes_v72, take4F_at hk c0, ← hVI, ← hV0, ← H.s' ⟨_, hk⟩ h i j]; after_reads_simp
    · intro h i j; rw [← H.ds h i j, ← hV1, ← hVI, ← hV0]; after_reads_simp
  have e1 : 2047 - (2047 - n) = n := by omega
  constructor
  · exact hctr
  · intro t h j; rw [← H.dy t h j, ← hV3, ← hV2, ← hV1, ← hVI, ← hV0]; after_reads_simp
  · intro t h j; rw [← H.nkk t h j, ← hV3, ← hV2, ← hV1, ← hVI, ← hV0]; after_reads_simp
  · intro t h i j; rw [← H.s t h i j, ← hV3, ← hV2, ← hV1, ← hVI, ← hV0]; after_reads_simp
  · intro t h j; rw [← H.w t h j, ← hV3, ← hV2, ← hV1, ← hVI, ← hV0]; after_reads_simp
  · intro t h j; rw [← H.a t h j, ← hV3, ← hV2, ← hV1, ← hVI, ← hV0]; after_reads_simp
  · intro t h j; rw [← H.kk t h j, ← hV3, ← hV2, ← hV1, ← hVI, ← hV0]; after_reads_simp
  · intro t h j; rw [← H.kka t h j, ← hV3, ← hV2, ← hV1, ← hVI, ← hV0]; after_reads_simp
  · intro t h i; rw [← H.sa t h i, ← hV3, ← hV2, ← hV1, ← hVI, ← hV0]; after_reads_simp
  · intro t h j; rw [← H.k t h j, ← hV3, ← hV2, ← hV1, ← hVI, ← hV0]; after_reads_simp
  · intro t h i; rw [← H.v t h i, ← hV3, ← hV2, ← hV1, ← hVI, ← hV0]; after_reads_simp
  · intro t h j; rw [← H.r t h j, ← hV3, ← hV2, ← hV1, ← hVI, ← hV0]; after_reads_simp
  · intro t h i j; rw [← H.s' t h i j, ← hV3, ← hV2, ← hV1, ← hVI, ← hV0]; after_reads_simp
  · intro h i j
    rw [show Maths.DS x (n + 1) h i j = _ from (I.next h i j).symm, hV2, show after bwdEnd V3 (Proc.devRef .tc main_v41_13) = V3 (Proc.devRef .tc main_while1b_v121) from by after_reads_simp <;> rfl, ← hV3]; after_reads_simp
  · intro t ht h j
    rw [show after bwdEnd V3 (Proc.devRef .tc main_v41_14) = V3 (Proc.devRef .tc main_while1b_v126) from by after_reads_simp <;> rfl, ← hV3, bwdPuts_v126, putF_at hk c2]
    split_ifs with e
    · rw [e, ← hV2, I.dr h j]
      simp only [Maths.dr, Maths.db, Maths.D, e1]
    · rw [← H.dr t (by omega) h j, ← hV2, ← hV1, ← hVI, ← hV0]; after_reads_simp
  · intro t ht h j
    rw [show after bwdEnd V3 (Proc.devRef .tc main_v41_15) = V3 (Proc.devRef .tc main_while1b_v127) from by after_reads_simp <;> rfl, ← hV3, bwdPuts_v127, putF_at hk c2]
    split_ifs with e
    · rw [e, ← hV2, I.dw h j]
      simp only [Maths.dw, Maths.db, Maths.D, e1]
    · rw [← H.dw t (by omega) h j, ← hV2, ← hV1, ← hVI, ← hV0]; after_reads_simp
  · intro t ht h j
    rw [show after bwdEnd V3 (Proc.devRef .tc main_v41_16) = V3 (Proc.devRef .tc main_while1b_v128) from by after_reads_simp <;> rfl, ← hV3, bwdPuts_v128, putF_at hk c2]
    split_ifs with e
    · rw [e, ← hV2, I.dk h j]
      simp only [Maths.dk, Maths.db, Maths.D, e1]
    · rw [← H.dk t (by omega) h j, ← hV2, ← hV1, ← hVI, ← hV0]; after_reads_simp
  · intro t ht h j
    rw [show after bwdEnd V3 (Proc.devRef .tc main_v41_17) = V3 (Proc.devRef .tc main_while1b_v129) from by after_reads_simp <;> rfl, ← hV3, bwdPuts_v129, putF_at hk c2]
    split_ifs with e
    · rw [e, ← hV2, I.dv h j]
      simp only [Maths.dv, Maths.db, Maths.D, e1]
    · rw [← H.dv t (by omega) h j, ← hV2, ← hV1, ← hVI, ← hV0]; after_reads_simp
  · intro t ht h j
    rw [show after bwdEnd V3 (Proc.devRef .tc main_v41_18) = V3 (Proc.devRef .tc main_while1b_v130) from by after_reads_simp <;> rfl, ← hV3, bwdPuts_v130, putF_at hk c2]
    split_ifs with e
    · rw [e, ← hV2, I.dkk h j]
      simp only [Maths.dkk, Maths.db, Maths.D, e1]
    · rw [← H.dkk t (by omega) h j, ← hV2, ← hV1, ← hVI, ← hV0]; after_reads_simp
  · intro t ht h j
    rw [show after bwdEnd V3 (Proc.devRef .tc main_v41_19) = V3 (Proc.devRef .tc main_while1b_v131) from by after_reads_simp <;> rfl, ← hV3, bwdPuts_v131, putF_at hk c2]
    split_ifs with e
    · rw [e, ← hV2, I.da h j]
      simp only [Maths.da, Maths.db, Maths.D, e1]
    · rw [← H.da t (by omega) h j, ← hV2, ← hV1, ← hVI, ← hV0]; after_reads_simp

end Cert.Proof.Ref
-- ==== Proof.RefFwd.lean ====
module

public import proofs.«01_k».proof.Proof.RefRead
public import Idealize.ShloMosaic.Lib.StableHlo.ReadAt
public import Idealize.ShloMosaic.Lib.Pointwise
public import Idealize.ShloMosaic.Lib.IdealHost

@[expose] public section

noncomputable section

namespace Cert.Proof.Ref

open Idealize.ShloMosaic Idealize.ShloMosaic.StableHlo
open TcCoe
open Cert.ReferenceIdeal Cert.ReferenceIdeal.Gen

/-- What the forward loop has before trip `k`. -/
structure FwdInv (x : Maths.In) (n : ℕ) (V : Valuation τ sig (Elt Ideal)) : Prop where
  ctr : V (Proc.devRef .tc main_v28_6) = fun _ => (BitVec.ofNat 32 n : BitVec 32)
  r : ∀ (t : Fin 2048) (h : Fin 4) (j : Fin 64), (V (Proc.devRef .tc main_v28_0) (ix4 t 0 h j) : EReal) = x.r t h j
  w : ∀ (t : Fin 2048) (h : Fin 4) (j : Fin 64), (V (Proc.devRef .tc main_v28_1) (ix4 t 0 h j) : EReal) = x.w t h j
  k : ∀ (t : Fin 2048) (h : Fin 4) (j : Fin 64), (V (Proc.devRef .tc main_v28_2) (ix4 t 0 h j) : EReal) = x.k t h j
  v : ∀ (t : Fin 2048) (h : Fin 4) (j : Fin 64), (V (Proc.devRef .tc main_v28_3) (ix4 t 0 h j) : EReal) = x.v t h j
  kk : ∀ (t : Fin 2048) (h : Fin 4) (j : Fin 64), (V (Proc.devRef .tc main_v28_4) (ix4 t 0 h j) : EReal) = x.kk t h j
  a : ∀ (t : Fin 2048) (h : Fin 4) (j : Fin 64), (V (Proc.devRef .tc main_v28_5) (ix4 t 0 h j) : EReal) = x.a t h j
  kk' : ∀ (t : Fin 2048) (h : Fin 4) (j : Fin 64), (V (Proc.devRef .tc main_v15) (ix4 t 0 h j) : EReal) = x.kk t h j
  a' : ∀ (t : Fin 2048) (h : Fin 4) (j : Fin 64), (V (Proc.devRef .tc main_v16) (ix4 t 0 h j) : EReal) = x.a t h j
  st : ∀ (h : Fin 4) (i j : Fin 64), (V (Proc.devRef .tc main_v28_7) (ix4 0 h i j) : EReal) = Maths.S x n h i j
  y : ∀ (t : Fin 2048), t.val < n → ∀ (h : Fin 4) (i : Fin 64), (V (Proc.devRef .tc main_v28_8) (ix4 t 0 h i) : EReal) = Maths.y x t h i
  s0 : ∀ (t : Fin 2048), t.val < n → ∀ (h : Fin 4) (j : Fin 64), (V (Proc.devRef .tc main_v28_9) (ix5 t 0 h 0 j) : EReal) = -(x.kk t h j)
  s1 : ∀ (t : Fin 2048), t.val < n → ∀ (h : Fin 4) (i j : Fin 64), (V (Proc.devRef .tc main_v28_10) (ix5 t 0 h i j) : EReal) = Maths.S x t h i j
  s2 : ∀ (t : Fin 2048), t.val < n → ∀ (h : Fin 4) (j : Fin 64), (V (Proc.devRef .tc main_v28_11) (ix5 t 0 h 0 j) : EReal) = x.w t h j
  s3 : ∀ (t : Fin 2048), t.val < n → ∀ (h : Fin 4) (j : Fin 64), (V (Proc.devRef .tc main_v28_12) (ix5 t 0 h 0 j) : EReal) = x.kk t h j * x.a t h j
  s4 : ∀ (t : Fin 2048), t.val < n → ∀ (h : Fin 4) (i : Fin 64), (V (Proc.devRef .tc main_v28_13) (ix5 t 0 h i 0) : EReal) = Maths.sa x (Maths.S x t) t h i
  s5 : ∀ (t : Fin 2048), t.val < n → ∀ (h : Fin 4) (j : Fin 64), (V (Proc.devRef .tc main_v28_14) (ix5 t 0 h 0 j) : EReal) = x.k t h j
  s6 : ∀ (t : Fin 2048), t.val < n → ∀ (h : Fin 4) (i : Fin 64), (V (Proc.devRef .tc main_v28_15) (ix5 t 0 h i 0) : EReal) = x.v t h i
  s7 : ∀ (t : Fin 2048), t.val < n → ∀ (h : Fin 4) (j : Fin 64), (V (Proc.devRef .tc main_v28_16) (ix5 t 0 h 0 j) : EReal) = x.r t h j
  s8 : ∀ (t : Fin 2048), t.val < n → ∀ (h : Fin 4) (i j : Fin 64), (V (Proc.devRef .tc main_v28_17) (ix5 t 0 h i j) : EReal) = Maths.S x (t + 1) h i j

/-! The step's values, over the slices it starts from. -/

section Core

variable {x : Maths.In} {k : ℕ} {V : Valuation τ sig (Elt Ideal)}

/-- The slices of one forward trip. -/
structure FwdIn (x : Maths.In) (n : ℕ) (V : Valuation τ sig (Elt Ideal)) : Prop where
  st : ∀ (h : Fin 4) (i j : Fin 64), (V (Proc.devRef .tc main_v28_7) (ix4 0 h i j) : EReal) = Maths.S x n h i j
  r : ∀ (h : Fin 4) (j : Fin 64), (V (Proc.devRef .tc main_while0b_v59) (ix3 0 h j) : EReal) = x.r n h j
  w : ∀ (h : Fin 4) (j : Fin 64), (V (Proc.devRef .tc main_while0b_v60) (ix3 0 h j) : EReal) = x.w n h j
  k : ∀ (h : Fin 4) (j : Fin 64), (V (Proc.devRef .tc main_while0b_v61) (ix3 0 h j) : EReal) = x.k n h j
  v : ∀ (h : Fin 4) (j : Fin 64), (V (Proc.devRef .tc main_while0b_v62) (ix3 0 h j) : EReal) = x.v n h j
  kk : ∀ (h : Fin 4) (j : Fin 64), (V (Proc.devRef .tc main_while0b_v63) (ix3 0 h j) : EReal) = x.kk n h j
  a : ∀ (h : Fin 4) (j : Fin 64), (V (Proc.devRef .tc main_while0b_v64) (ix3 0 h j) : EReal) = x.a n h j

theorem FwdIn.sa (H : FwdIn x k V) (h : Fin 4) (i : Fin 64) : (after fwdCore V (Proc.devRef .tc main_while0b_v73) (ix4 0 h i 0) : EReal) = Maths.sa x (Maths.S x k) k h i := by
  after_reads_at
  unfold Maths.sa
  exact Finset.sum_congr rfl fun j _ => by rw [← H.st, ← H.kk]

theorem FwdIn.next (H : FwdIn x k V) (h : Fin 4) (i j : Fin 64) : (after fwdCore V (Proc.devRef .tc main_while0b_v85) (ix4 0 h i j) : EReal) = Maths.S x (k + 1) h i j := by
  have e := H.sa h i
  revert e
  after_reads_at
  intro e
  rw [e, H.st, H.w, H.kk, H.a, H.v, H.k]
  rfl

theorem FwdIn.y (H : FwdIn x k V) (h : Fin 4) (i : Fin 64) : (after fwdCore V (Proc.devRef .tc main_while0b_v89) (ix3 0 h i) : EReal) = Maths.y x k h i := by
  have e := fun j => H.next h i j
  revert e
  after_reads_at
  intro e
  unfold Maths.y
  exact Finset.sum_congr rfl fun j _ => by rw [← e, ← H.r]

theorem FwdIn.s0 (H : FwdIn x k V) (h : Fin 4) (j : Fin 64) : (after fwdCore V (Proc.devRef .tc main_while0b_v66) (ix4 0 h 0 j) : EReal) = -(x.kk k h j) := by
  after_reads_at
  rw [← H.kk]

theorem FwdIn.s2 (H : FwdIn x k V) (h : Fin 4) (j : Fin 64) : (after fwdCore V (Proc.devRef .tc main_while0b_v70) (ix4 0 h 0 j) : EReal) = x.w k h j := by
  after_reads_at
  rw [← H.w]

theorem FwdIn.s3 (H : FwdIn x k V) (h : Fin 4) (j : Fin 64) : (after fwdCore V (Proc.devRef .tc main_while0b_v75) (ix4 0 h 0 j) : EReal) = x.kk k h j * x.a k h j := by
  after_reads_at
  rw [← H.a, ← H.kk]

theorem FwdIn.s5 (H : FwdIn x k V) (h : Fin 4) (j : Fin 64) : (after fwdCore V (Proc.devRef .tc main_while0b_v81) (ix4 0 h 0 j) : EReal) = x.k k h j := by
  after_reads_at
  rw [← H.k]

theorem FwdIn.s6 (H : FwdIn x k V) (h : Fin 4) (j : Fin 64) : (after fwdCore V (Proc.devRef .tc main_while0b_v80) (ix4 0 h j 0) : EReal) = x.v k h j := by
  after_reads_at
  rw [← H.v]

theorem FwdIn.s7 (H : FwdIn x k V) (h : Fin 4) (j : Fin 64) : (after fwdCore V (Proc.devRef .tc main_while0b_v86) (ix4 0 h 0 j) : EReal) = x.r k h j := by
  after_reads_at
  rw [← H.r]

end Core

/-- The forward trip keeps the invariant. -/
theorem FwdInv.step {x : Maths.In} {k : ℕ} (hk : k < 2048) {V : Valuation τ sig (Elt Ideal)} (H : FwdInv x k V) :
    FwdInv x (k + 1) (after fwdOps (after condFwd V)) := by
  have hctr := (fwd_ctr V).trans (ctr_step k _ H.ctr)
  revert hctr
  rw [fwdOps, after_append, after_append, after_append]
  generalize hV0 : after condFwd V = V0
  generalize hV1 : after fwdTakes V0 = V1
  generalize hV2 : after fwdCore V1 = V2
  generalize hV3 : after fwdPuts V2 = V3
  intro hctr
  have c0 : V0 (Proc.devRef .tc main_v28_6) = fun _ => (BitVec.ofNat 32 k : BitVec 32) := by
    rw [← H.ctr, ← hV0]; after_reads_simp
  have c2 : V2 (Proc.devRef .tc main_v28_6) = fun _ => (BitVec.ofNat 32 k : BitVec 32) := by
    rw [← c0, ← hV2, ← hV1]; after_reads_simp
  have I : FwdIn x k V1 := by
    constructor
    · intro h i j
      rw [← H.st h i j, ← hV1, ← hV0]; after_reads_simp
    · intro h j
      rw [← H.r ⟨k, hk⟩ h j, ← hV1, fwdTakes_v59, takeF_at hk c0, ← hV0]; after_reads_simp
    · intro h j
      rw [← H.w ⟨k, hk⟩ h j, ← hV1, fwdTakes_v60, takeF_at hk c0, ← hV0]; after_reads_simp
    · intro h j
      rw [← H.k ⟨k, hk⟩ h j, ← hV1, fwdTakes_v61, takeF_at hk c0, ← hV0]; after_reads_simp
    · intro h j
      rw [← H.v ⟨k, hk⟩ h j, ← hV1, fwdTakes_v62, takeF_at hk c0, ← hV0]; after_reads_simp
    · intro h j
      rw [← H.kk ⟨k, hk⟩ h j, ← hV1, fwdTakes_v63, takeF_at hk c0, ← hV0]; after_reads_simp
    · intro h j
      rw [← H.a ⟨k, hk⟩ h j, ← hV1, fwdTakes_v64, takeF_at hk c0, ← hV0]; after_reads_simp
  constructor
  · exact hctr
  · intro t h j; rw [← H.r t h j, ← hV3, ← hV2, ← hV1, ← hV0]; after_reads_simp
  · intro t h j; rw [← H.w t h j, ← hV3, ← hV2, ← hV1, ← hV0]; after_reads_simp
  · intro t h j; rw [← H.k t h j, ← hV3, ← hV2, ← hV1, ← hV0]; after_reads_simp
  · intro t h j; rw [← H.v t h j, ← hV3, ← hV2, ← hV1, ← hV0]; after_reads_simp
  · intro t h j; rw [← H.kk t h j, ← hV3, ← hV2, ← hV1, ← hV0]; after_reads_simp
  · intro t h j; rw [← H.a t h j, ← hV3, ← hV2, ← hV1, ← hV0]; after_reads_simp
  · intro t h j; rw [← H.kk' t h j, ← hV3, ← hV2, ← hV1, ← hV0]; after_reads_simp
  · intro t h j; rw [← H.a' t h j, ← hV3, ← hV2, ← hV1, ← hV0]; after_reads_simp
  · intro h i j
    rw [← I.next h i j, hV2, show after fwdEnd V3 (Proc.devRef .tc main_v28_7) = V3 (Proc.devRef .tc main_while0b_v85) from by after_reads_simp <;> rfl, ← hV3]; after_reads_simp
  · intro t ht h i
    rw [show after fwdEnd V3 (Proc.devRef .tc main_v28_8) = V3 (Proc.devRef .tc main_while0b_v90) from by after_reads_simp <;> rfl, ← hV3, fwdPuts_v90, putF_at hk c2]
    split_ifs with e
    · rw [e, ← hV2]; exact I.y h i
    · rw [← H.y t (by omega) h i, ← hV2, ← hV1, ← hV0]; after_reads_simp
  · intro t ht h j
    rw [show after fwdEnd V3 (Proc.devRef .tc main_v28_9) = V3 (Proc.devRef .tc main_while0b_v91) from by after_reads_simp <;> rfl, ← hV3, fwdPuts_v91, put3F_at hk c2]
    split_ifs with e
    · rw [e, ← hV2]; exact I.s0 h j
    · rw [← H.s0 t (by omega) h j, ← hV2, ← hV1, ← hV0]; after_reads_simp
  · intro t ht h i j
    rw [show after fwdEnd V3 (Proc.devRef .tc main_v28_10) = V3 (Proc.devRef .tc main_while0b_v92) from by after_reads_simp <;> rfl, ← hV3, fwdPuts_v92, put4F_at hk c2]
    split_ifs with e
    · rw [e, ← I.st h i j, ← hV2]; after_reads_simp
    · rw [← H.s1 t (by omega) h i j, ← hV2, ← hV1, ← hV0]; after_reads_simp
  · intro t ht h j
    rw [show after fwdEnd V3 (Proc.devRef .tc main_v28_11) = V3 (Proc.devRef .tc main_while0b_v93) from by after_reads_simp <;> rfl, ← hV3, fwdPuts_v93, put3F_at hk c2]
    split_ifs with e
    · rw [e, ← hV2]; exact I.s2 h j
    · rw [← H.s2 t (by omega) h j, ← hV2, ← hV1, ← hV0]; after_reads_simp
  · intro t ht h j
    rw [show after fwdEnd V3 (Proc.devRef .tc main_v28_12) = V3 (Proc.devRef .tc main_while0b_v94) from by after_reads_simp <;> rfl, ← hV3, fwdPuts_v94, put3F_at hk c2]
    split_ifs with e
    · rw [e, ← hV2]; exact I.s3 h j
    · rw [← H.s3 t (by omega) h j, ← hV2, ← hV1, ← hV0]; after_reads_simp
  · intro t ht h i
    rw [show after fwdEnd V3 (Proc.devRef .tc main_v28_13) = V3 (Proc.devRef .tc main_while0b_v95) from by after_reads_simp <;> rfl, ← hV3, fwdPuts_v95, put5F_at hk c2]
    split_ifs with e
    · rw [e, ← hV2]; exact I.sa h i
    · rw [← H.s4 t (by omega) h i, ← hV2, ← hV1, ← hV0]; after_reads_simp
  · intro t ht h j
    rw [show after fwdEnd V3 (Proc.devRef .tc main_v28_14) = V3 (Proc.devRef .tc main_while0b_v96) from by after_reads_simp <;> rfl, ← hV3, fwdPuts_v96, put3F_at hk c2]
    split_ifs with e
    · rw [e, ← hV2]; exact I.s5 h j
    · rw [← H.s5 t (by omega) h j, ← hV2, ← hV1, ← hV0]; after_reads_simp
  · intro t ht h i
    rw [show after fwdEnd V3 (Proc.devRef .tc main_v28_15) = V3 (Proc.devRef .tc main_while0b_v97) from by after_reads_simp <;> rfl, ← hV3, fwdPuts_v97, put5F_at hk c2]
    split_ifs with e
    · rw [e, ← hV2]; exact I.s6 h i
    · rw [← H.s6 t (by omega) h i, ← hV2, ← hV1, ← hV0]; after_reads_simp
  · intro t ht h j
    rw [show after fwdEnd V3 (Proc.devRef .tc main_v28_16) = V3 (Proc.devRef .tc main_while0b_v98) from by after_reads_simp <;> rfl, ← hV3, fwdPuts_v98, put3F_at hk c2]
    split_ifs with e
    · rw [e, ← hV2]; exact I.s7 h j
    · rw [← H.s7 t (by omega) h j, ← hV2, ← hV1, ← hV0]; after_reads_simp
  · intro t ht h i j
    rw [show after fwdEnd V3 (Proc.devRef .tc main_v28_17) = V3 (Proc.devRef .tc main_while0b_v99) from by after_reads_simp <;> rfl, ← hV3, fwdPuts_v99, put4F_at hk c2]
    split_ifs with e
    · rw [e, ← hV2]; exact I.next h i j
    · rw [← H.s8 t (by omega) h i j, ← hV2, ← hV1, ← hV0]; after_reads_simp

end Cert.Proof.Ref
-- ==== Proof.RefVal.lean ====
module

public import proofs.«01_k».proof.Proof.RefBwd
public import proofs.«01_k».proof.Proof.RefFwd
public import proofs.«01_k».proof.Proof.Inputs
public import proofs.«01_k».proof.Proof.RefFrame
public import Idealize.ShloMosaic.Lib.StableHlo.ReadAt
public import Idealize.ShloMosaic.Lib.Pointwise
public import Idealize.ShloMosaic.Lib.IdealHost

@[expose] public section

noncomputable section

namespace Cert.Proof.Ref

open Idealize.ShloMosaic Idealize.ShloMosaic.StableHlo
open TcCoe
open Cert.ReferenceIdeal Cert.ReferenceIdeal.Gen

/-- The inputs, from the reference's argument arrays. -/
def input (V : Valuation τ sig (Elt Ideal)) : Maths.In :=
  Maths.inOf (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6))

/-- A channel's number, the factors the other way round. -/
theorem chan_eq (h : Fin 4) (j : Fin 64) (p : h.val * 64 + j.val < 256) : (⟨h.val * 64 + j.val, p⟩ : Fin 256) = Maths.chan h j :=
  Fin.ext (by show h.val * 64 + j.val = 64 * h.val + j.val; omega)

/-- A channel's head and place. -/
theorem chan_split (h : Fin 4) (j : Fin 64) :
    (⟨(Maths.chan h j).val / 64, by have := (Maths.chan h j).isLt; omega⟩ : Fin 4) = h ∧ (⟨(Maths.chan h j).val % 64, Nat.mod_lt _ (by decide)⟩ : Fin 64) = j :=
  ⟨Fin.ext (by show (64 * h.val + j.val) / 64 = h.val; omega), Fin.ext (by show (64 * h.val + j.val) % 64 = j.val; omega)⟩

/-- The first `x` is the array by head, laid out by time. -/
theorem byHead_at (X : FVec Ideal S4x2048x64 .f32) (t : Fin 2048) (h : Fin 4) (j : Fin 64) :
    (id (transpose S2048x1x4x64 [1, 0, 2, 3]
        (broadcastInDim S1x2048x4x64 ![1, 2, 3] bcast_S2048x4x64_S1x2048x4x64_1_2_3
          (transpose S2048x4x64 [1, 0, 2] X transposes_S4x2048x64_S2048x4x64_1_0_2))
        transposes_S1x2048x4x64_S2048x1x4x64_1_0_2_3) (ix4 t 0 h j) : EReal) = Maths.byHead X t h j := by
  rw [id_eq, Maths.byHead, Maths.tm_val]
  pointwise

/-- The same, of an array of rows of all heads. -/
theorem byRow_at (X : FVec Ideal S2048x256 .f32) (t : Fin 2048) (h : Fin 4) (j : Fin 64)
    (p : ∀ i : S1x2048x4x64.Idx, (i 2 : Fin 4).val * 64 + (i 3 : Fin 64).val < 256) :
    (id (transpose S2048x1x4x64 [1, 0, 2, 3] (fun i : S1x2048x4x64.Idx => X (ix2 (i 1) ⟨(i 2 : Fin 4).val * 64 + (i 3 : Fin 64).val, p i⟩))
        transposes_S1x2048x4x64_S2048x1x4x64_1_0_2_3) (ix4 t 0 h j) : EReal) = Maths.byRow X t h j := by
  rw [id_eq, Maths.byRow, Maths.tm_val, ← chan_eq h j (by omega)]
  pointwise

theorem zero_at (h : Fin 4) (i j : Fin 64) :
    (id (broadcastInDim S1x4x64x64 ![] bcast_S_S1x4x64x64 (constant S_ .f32 0x00000000#32) : FVec Ideal S1x4x64x64 .f32) (ix4 0 h i j) : EReal) = (0 : EReal) := by
  rw [id_eq]
  pointwise

section Start

variable (V : Valuation τ sig (Elt Ideal))

/-- What the forward loop starts from. -/
theorem pre_inv (h0 : after preOps V (Proc.devRef .tc main_v28_6) = fun _ => (0#32 : BitVec 32)) : FwdInv (input V) 0 (after preOps V) := by
  constructor
  · exact h0
  · intro t h j; after_reads_at; exact byHead_at _ t h j
  · intro t h j; after_reads_at; exact byHead_at _ t h j
  · intro t h j; after_reads_at; exact byHead_at _ t h j
  · intro t h j; after_reads_at; exact byRow_at _ t h j _
  · intro t h j; after_reads_at; exact byHead_at _ t h j
  · intro t h j; after_reads_at; exact byHead_at _ t h j
  · intro t h j; after_reads_at; exact congrArg (fun t' => V (Proc.devRef .tc main_arg4) (ix3 h t' j)) (Maths.tm_val t).symm
  · intro t h j; after_reads_at; exact congrArg (fun t' => V (Proc.devRef .tc main_arg5) (ix3 h t' j)) (Maths.tm_val t).symm
  · intro h i j; after_reads_at; exact zero_at h i j
  all_goals exact fun t ht => absurd ht (Nat.not_lt_zero _)

/-- What the backward loop starts from. -/
theorem mid_inv {x : Maths.In} (H : FwdInv x 2048 V) (hd : ∀ (t : Fin 2048) (h : Fin 4) (j : Fin 64), Maths.byRow (V (Proc.devRef .tc main_arg6)) t h j = x.dy t h j)
    (h0 : after midOps V (Proc.devRef .tc main_v41_12) = fun _ => (0#32 : BitVec 32)) : BwdInv x 0 (after midOps V) := by
  constructor
  · exact h0
  · intro t h j; rw [← hd]; after_reads_at; exact byRow_at _ t h j _
  · intro t h j; rw [← H.s0 t t.isLt h j]; after_reads_simp <;> rfl
  · intro t h i j; rw [← H.s1 t t.isLt h i j]; after_reads_simp <;> rfl
  · intro t h j; rw [← H.s2 t t.isLt h j]; after_reads_simp <;> rfl
  · intro t h j; rw [← H.a' t h j]; after_reads_simp <;> rfl
  · intro t h j; rw [← H.kk' t h j]; after_reads_simp <;> rfl
  · intro t h j; rw [← H.s3 t t.isLt h j]; after_reads_simp <;> rfl
  · intro t h i; rw [← H.s4 t t.isLt h i]; after_reads_simp <;> rfl
  · intro t h j; rw [← H.s5 t t.isLt h j]; after_reads_simp <;> rfl
  · intro t h i; rw [← H.s6 t t.isLt h i]; after_reads_simp <;> rfl
  · intro t h j; rw [← H.s7 t t.isLt h j]; after_reads_simp <;> rfl
  · intro t h i j; rw [← H.s8 t t.isLt h i j]; after_reads_simp <;> rfl
  · intro h i j; after_reads_at; exact zero_at h i j
  all_goals exact fun t ht => absurd ht (by omega)

/-- The forward loop's output, as laid out for the result. -/
theorem mid_y {x : Maths.In} (H : FwdInv x 2048 V) (t : Fin 2048) (h : Fin 4) (j : Fin 64) :
    (after midOps V (Proc.devRef .tc main_v30) (ix2 t (Maths.chan h j)) : EReal) = Maths.y x t h j := by
  rw [← H.y t t.isLt]
  after_reads_at
  rw [(chan_split h j).1, (chan_split h j).2]

theorem post_dr {x : Maths.In} (H : BwdInv x 2048 V) (h : Fin 4) (t : Fin 2048) (j : Fin 64) :
    (after postOps V (Proc.devRef .tc main_v58) (ix3 h t j) : EReal) = Maths.dr x t h j := by
  rw [← H.dr t (by omega)]
  after_reads_at
  exact Fin.sum_univ_one _

theorem post_dw {x : Maths.In} (H : BwdInv x 2048 V) (h : Fin 4) (t : Fin 2048) (j : Fin 64) :
    (after postOps V (Proc.devRef .tc main_v56) (ix3 h t j) : EReal) = Maths.dw x t h j := by
  rw [← H.dw t (by omega)]
  after_reads_at
  exact Fin.sum_univ_one _

theorem post_dk {x : Maths.In} (H : BwdInv x 2048 V) (h : Fin 4) (t : Fin 2048) (j : Fin 64) :
    (after postOps V (Proc.devRef .tc main_v54) (ix3 h t j) : EReal) = Maths.dk x t h j := by
  rw [← H.dk t (by omega)]
  after_reads_at
  exact Fin.sum_univ_one _

theorem post_dkk {x : Maths.In} (H : BwdInv x 2048 V) (h : Fin 4) (t : Fin 2048) (j : Fin 64) :
    (after postOps V (Proc.devRef .tc main_v51) (ix3 h t j) : EReal) = Maths.dkk x t h j := by
  rw [← H.dkk t (by omega)]
  after_reads_at
  exact Fin.sum_univ_one _

theorem post_da {x : Maths.In} (H : BwdInv x 2048 V) (h : Fin 4) (t : Fin 2048) (j : Fin 64) :
    (after postOps V (Proc.devRef .tc main_v49) (ix3 h t j) : EReal) = Maths.da x t h j := by
  rw [← H.da t (by omega)]
  after_reads_at
  exact Fin.sum_univ_one _

theorem post_dv {x : Maths.In} (H : BwdInv x 2048 V) (t : Fin 2048) (h : Fin 4) (j : Fin 64) :
    (after postOps V (Proc.devRef .tc main_v52) (ix2 t (Maths.chan h j)) : EReal) = Maths.dv x t h j := by
  rw [← H.dv t (by omega)]
  after_reads_at
  rw [(chan_split h j).1, (chan_split h j).2]

end Start

/-- The condition changes nothing the loop carries. -/
theorem FwdInv.cond {x : Maths.In} {n : ℕ} {V : Valuation τ sig (Elt Ideal)} (H : FwdInv x n V) : FwdInv x n (after condFwd V) where
  ctr := by rw [← H.ctr]; after_reads_simp
  r t h j := by rw [← H.r t h j]; after_reads_simp
  w t h j := by rw [← H.w t h j]; after_reads_simp
  k t h j := by rw [← H.k t h j]; after_reads_simp
  v t h j := by rw [← H.v t h j]; after_reads_simp
  kk t h j := by rw [← H.kk t h j]; after_reads_simp
  a t h j := by rw [← H.a t h j]; after_reads_simp
  kk' t h j := by rw [← H.kk' t h j]; after_reads_simp
  a' t h j := by rw [← H.a' t h j]; after_reads_simp
  st h i j := by rw [← H.st h i j]; after_reads_simp
  y t ht h i := by rw [← H.y t ht h i]; after_reads_simp
  s0 t ht h j := by rw [← H.s0 t ht h j]; after_reads_simp
  s1 t ht h i j := by rw [← H.s1 t ht h i j]; after_reads_simp
  s2 t ht h j := by rw [← H.s2 t ht h j]; after_reads_simp
  s3 t ht h j := by rw [← H.s3 t ht h j]; after_reads_simp
  s4 t ht h i := by rw [← H.s4 t ht h i]; after_reads_simp
  s5 t ht h j := by rw [← H.s5 t ht h j]; after_reads_simp
  s6 t ht h i := by rw [← H.s6 t ht h i]; after_reads_simp
  s7 t ht h j := by rw [← H.s7 t ht h j]; after_reads_simp
  s8 t ht h i j := by rw [← H.s8 t ht h i j]; after_reads_simp

/-- The same of the backward loop's. -/
theorem BwdInv.cond {x : Maths.In} {n : ℕ} {V : Valuation τ sig (Elt Ideal)} (H : BwdInv x n V) : BwdInv x n (after condBwd V) where
  ctr := by rw [← H.ctr]; after_reads_simp
  dy t h j := by rw [← H.dy t h j]; after_reads_simp
  nkk t h j := by rw [← H.nkk t h j]; after_reads_simp
  s t h i j := by rw [← H.s t h i j]; after_reads_simp
  w t h j := by rw [← H.w t h j]; after_reads_simp
  a t h j := by rw [← H.a t h j]; after_reads_simp
  kk t h j := by rw [← H.kk t h j]; after_reads_simp
  kka t h j := by rw [← H.kka t h j]; after_reads_simp
  sa t h i := by rw [← H.sa t h i]; after_reads_simp
  k t h j := by rw [← H.k t h j]; after_reads_simp
  v t h i := by rw [← H.v t h i]; after_reads_simp
  r t h j := by rw [← H.r t h j]; after_reads_simp
  s' t h i j := by rw [← H.s' t h i j]; after_reads_simp
  ds h i j := by rw [← H.ds h i j]; after_reads_simp
  dr t ht h j := by rw [← H.dr t ht h j]; after_reads_simp
  dw t ht h j := by rw [← H.dw t ht h j]; after_reads_simp
  dk t ht h j := by rw [← H.dk t ht h j]; after_reads_simp
  dv t ht h j := by rw [← H.dv t ht h j]; after_reads_simp
  dkk t ht h j := by rw [← H.dkk t ht h j]; after_reads_simp
  da t ht h j := by rw [← H.da t ht h j]; after_reads_simp

/-- A backward trip leaves the output. -/
theorem bwd_y (V : Valuation τ sig (Elt Ideal)) : after bwdOps (after condBwd V) (Proc.devRef .tc main_v30) = V (Proc.devRef .tc main_v30) := by
  rw [bwdOps, after_append, after_append, after_append, after_append]
  generalize hV0 : after condBwd V = V0
  generalize hVI : after bwdIdx V0 = VI
  generalize hV1 : after bwdTakes VI = V1
  generalize hV2 : after bwdCore V1 = V2
  generalize hV3 : after bwdPuts V2 = V3
  rw [show after bwdEnd V3 (Proc.devRef .tc main_v30) = V3 (Proc.devRef .tc main_v30) from by after_reads_simp, ← hV3, ← hV2, ← hV1, ← hVI, ← hV0]
  after_reads_simp

section Results

variable (m : (ℓ : Loc nD τ sig) → Buf (Elt Ideal) ℓ) (c : Dev nD)

/-- The reference's inputs. -/
abbrev inp : Maths.In := input (launchContents m c)

theorem A_inv (n : ℕ) (hn : n ≤ 2048) : FwdInv (inp m c) n (A m n c) := by
  induction n with
  | zero => exact pre_inv _ (E0_ctr m c)
  | succ n ih =>
    have e : A m (n + 1) c = after fwdOps (after condFwd (A m n c)) := by
      unfold A; rw [atTrip_succ, afterL_cons, afterL_nil]
    rw [e]
    exact (ih (by omega)).step (by omega)

theorem E1_inv : BwdInv (inp m c) 0 (E1 m c) := by
  have e : after condFwd (A m 2048 c) (Proc.devRef .tc main_arg6) = launchContents m c (Proc.devRef .tc main_arg6) := by
    rw [(condFwd_keeps _).2.2.2.2.2.2, A, trips_keep condFwd_keeps fwdOps_keeps _ _ _ (fun k V => (k V).2.2.2.2.2.2), E0, (preOps_keeps _).2.2.2.2.2.2]
  refine mid_inv _ (A_inv m c 2048 le_rfl).cond (fun t h j => ?_) (E1_ctr m c)
  rw [e]
  rfl

theorem D_inv (n : ℕ) (hn : n ≤ 2048) : BwdInv (inp m c) n (D m n c) := by
  induction n with
  | zero => exact E1_inv m c
  | succ n ih =>
    have e : D m (n + 1) c = after bwdOps (after condBwd (D m n c)) := by
      unfold D; rw [atTrip_succ, afterL_cons, afterL_nil]
    rw [e]
    exact (ih (by omega)).step (by omega)

theorem D_y (n : ℕ) : D m n c (Proc.devRef .tc main_v30) = E1 m c (Proc.devRef .tc main_v30) := by
  induction n with
  | zero => rfl
  | succ n ih =>
    have e : D m (n + 1) c = after bwdOps (after condBwd (D m n c)) := by
      unfold D; rw [atTrip_succ, afterL_cons, afterL_nil]
    rw [e, bwd_y, ih]

/-- The reference's output. -/
theorem fin_y (t : Fin 2048) (h : Fin 4) (j : Fin 64) : (fin m c (Proc.devRef .tc main_v30) (ix2 t (Maths.chan h j)) : EReal) = Maths.y (inp m c) t h j := by
  rw [← mid_y _ (A_inv m c 2048 le_rfl).cond t h j]
  change fin m c (Proc.devRef .tc main_v30) _ = E1 m c (Proc.devRef .tc main_v30) _
  rw [← D_y m c 2048, fin]
  generalize D m 2048 c = V
  generalize hV : after condBwd V = V'
  rw [show after postOps V' (Proc.devRef .tc main_v30) = V' (Proc.devRef .tc main_v30) from by after_reads_simp, ← hV]
  after_reads_simp

theorem fin_dr (h : Fin 4) (t : Fin 2048) (j : Fin 64) : (fin m c (Proc.devRef .tc main_v58) (ix3 h t j) : EReal) = Maths.dr (inp m c) t h j :=
  post_dr _ (D_inv m c 2048 le_rfl).cond h t j

theorem fin_dw (h : Fin 4) (t : Fin 2048) (j : Fin 64) : (fin m c (Proc.devRef .tc main_v56) (ix3 h t j) : EReal) = Maths.dw (inp m c) t h j :=
  post_dw _ (D_inv m c 2048 le_rfl).cond h t j

theorem fin_dk (h : Fin 4) (t : Fin 2048) (j : Fin 64) : (fin m c (Proc.devRef .tc main_v54) (ix3 h t j) : EReal) = Maths.dk (inp m c) t h j :=
  post_dk _ (D_inv m c 2048 le_rfl).cond h t j

theorem fin_dkk (h : Fin 4) (t : Fin 2048) (j : Fin 64) : (fin m c (Proc.devRef .tc main_v51) (ix3 h t j) : EReal) = Maths.dkk (inp m c) t h j :=
  post_dkk _ (D_inv m c 2048 le_rfl).cond h t j

theorem fin_da (h : Fin 4) (t : Fin 2048) (j : Fin 64) : (fin m c (Proc.devRef .tc main_v49) (ix3 h t j) : EReal) = Maths.da (inp m c) t h j :=
  post_da _ (D_inv m c 2048 le_rfl).cond h t j

theorem fin_dv (t : Fin 2048) (h : Fin 4) (j : Fin 64) : (fin m c (Proc.devRef .tc main_v52) (ix2 t (Maths.chan h j)) : EReal) = Maths.dv (inp m c) t h j :=
  post_dv _ (D_inv m c 2048 le_rfl).cond t h j

end Results

end Cert.Proof.Ref
-- ==== Proof.Values.lean ====
module

public import proofs.«01_k».proof.Proof.KFwd
public import proofs.«01_k».proof.Proof.KBwd
public import proofs.«01_k».proof.Proof.RefVal
public import proofs.«01_k».proof.Proof.Frames

@[expose] public section

set_option maxRecDepth 16384
set_option maxHeartbeats 1000000

noncomputable section

/-! The two programs' results are equal over the extended reals. -/

namespace Cert.Proof

open Idealize.ShloMosaic Idealize.SL.Sem
open TcCoe

section Kernel

open Cert.KernelIdeal Cert.Proof.Scan

variable (m : (ℓ : Loc nD τ sig) → Buf (Elt Ideal) ℓ) (c : Dev nD)

/-- The backward scan reads the same inputs. -/
theorem inK_U1 : inK c (U1 m c) = inK c (U0 m c) := by
  unfold inK
  rw [U1_of m c main_arg0 (by decide) (by decide), U1_of m c main_arg1 (by decide) (by decide), U1_of m c main_arg2 (by decide) (by decide),
    U1_of m c main_arg3 (by decide) (by decide), U1_of m c main_arg4 (by decide) (by decide), U1_of m c main_arg5 (by decide) (by decide),
    U1_of m c main_arg6 (by decide) (by decide)]

/-- The backward scan finds the recurrence's states. -/
theorem saved : Saved c (U1 m c) := fun t h i j => by
  rw [inK_U1, U1_1]
  exact congrFun (states_array c (U0 m c)) (ix4 t h i j)

theorem K_y : U2 m c main_v0_0 = lanesOf (Maths.y (inK c (U0 m c))) := by
  rw [U2_of m c main_v0_0 (by decide) (by decide) (by decide) (by decide) (by decide) (by decide), U1_0]
  exact y_array c (U0 m c)
theorem K_dr : U2 m c main_v1_0 = rowsOf (Maths.dr (inK c (U0 m c))) := by
  rw [U2_0, ← inK_U1]
  exact dr_array (saved m c)
theorem K_dw : U2 m c main_v1_1 = rowsOf (Maths.dw (inK c (U0 m c))) := by
  rw [U2_1, ← inK_U1]
  exact dw_array (saved m c)
theorem K_dk : U2 m c main_v1_2 = rowsOf (Maths.dk (inK c (U0 m c))) := by
  rw [U2_2, ← inK_U1]
  exact dk_array (saved m c)
theorem K_dkk : U2 m c main_v1_3 = rowsOf (Maths.dkk (inK c (U0 m c))) := by
  rw [U2_3, ← inK_U1]
  exact dkk_array (saved m c)
theorem K_da : U2 m c main_v1_4 = rowsOf (Maths.da (inK c (U0 m c))) := by
  rw [U2_4, ← inK_U1]
  exact da_array (saved m c)
theorem K_dv : U2 m c main_v1_5 = lanesOf (Maths.dv (inK c (U0 m c))) := by
  rw [U2_5, ← inK_U1]
  exact dv_array (saved m c)

end Kernel

section Reference

open Cert.ReferenceIdeal

/-- An array by head is known by its entries. -/
theorem rowsOf_ext {f : ℕ → Fin 4 → Fin 64 → EReal} {A : FVec Ideal ⟨3, ![4, 2048, 64]⟩ .f32} (h : ∀ a t j, (A (ix3 a t j) : EReal) = f t.val a j) :
    A = Scan.rowsOf f := funext fun p => by
  obtain ⟨a, t, j, rfl⟩ : ∃ (a : Fin 4) (t : Fin 2048) (j : Fin 64), p = ix3 a t j := ⟨_, _, _, eq_ix3 p⟩
  exact h a t j

/-- An array of all heads' rows is known by its entries. -/
theorem lanesOf_ext {f : ℕ → Fin 4 → Fin 64 → EReal} {A : FVec Ideal ⟨2, ![2048, 256]⟩ .f32} (h : ∀ t a j, (A (ix2 t (Maths.chan a j)) : EReal) = f t.val a j) :
    A = Scan.lanesOf f := funext fun p => by
  obtain ⟨t, l, rfl⟩ : ∃ (t : Fin 2048) (l : Fin 256), p = ix2 t l := ⟨_, _, eq_ix2 p⟩
  obtain ⟨a, j, rfl⟩ := Scan.lane_eq l
  exact (h t a j).trans (Scan.lanesOf_at f t a j).symm

end Reference

/-- The idealized kernel and the reference end with equal results. -/
theorem algebraic [hKernelIdeal : Cert.KernelIdeal.Facts] [hReferenceIdeal : Cert.ReferenceIdeal.Facts] :
    Cert.algebraic_KernelIdeal_ReferenceIdeal := fun m g m' g' _ hag => by
  have hin : ∀ c : Dev Cert.KernelIdeal.nD, Ref.inp m' c = Scan.inK c (Scan.U0 m c) := fun c => by
    obtain ⟨h0, h1, h2, h3, h4, h5, h6⟩ := hag c
    unfold Ref.inp Ref.input Scan.inK
    exact congr (congr (congr (congr (congr (congr (congrArg Maths.inOf h0) h1) h2) h3) h4) h5) h6
  refine ⟨fun c => Scan.U2 m c Cert.KernelIdeal.main_v0_0, fun c => Scan.U2 m c Cert.KernelIdeal.main_v1_0, fun c => Scan.U2 m c Cert.KernelIdeal.main_v1_1,
    fun c => Scan.U2 m c Cert.KernelIdeal.main_v1_2, fun c => Scan.U2 m c Cert.KernelIdeal.main_v1_5, fun c => Scan.U2 m c Cert.KernelIdeal.main_v1_3,
    fun c => Scan.U2 m c Cert.KernelIdeal.main_v1_4, ?_, ?_⟩
  · refine (θ_run _ _ _).mono (fun _ h c => ?_) (Scan.run_main m g)
    have e : ∀ (r : Ref Cert.KernelIdeal.sig .tc) (hs : r.isScoped = false), r ≠ Cert.KernelIdeal.main_v0_0 → r ≠ Cert.KernelIdeal.main_v0_1
        → r ≠ Cert.KernelIdeal.main_v1_0 → r ≠ Cert.KernelIdeal.main_v1_1 → r ≠ Cert.KernelIdeal.main_v1_2 → r ≠ Cert.KernelIdeal.main_v1_3
        → r ≠ Cert.KernelIdeal.main_v1_4 → r ≠ Cert.KernelIdeal.main_v1_5 → _ = m ((c.tc : Thread Cert.KernelIdeal.nD Cert.KernelIdeal.τ).loc r) :=
      fun r hs h0 h1 h2 h3 h4 h5 h6 h7 => (h.1 c r hs).trans (U2_arg m c r h0 h1 h2 h3 h4 h5 h6 h7)
    refine ⟨h.1 c _ rfl, h.1 c _ rfl, h.1 c _ rfl, h.1 c _ rfl, h.1 c _ rfl, h.1 c _ rfl, h.1 c _ rfl, ?_, ?_, ?_, ?_, ?_, ?_, ?_⟩
    all_goals exact e _ rfl (by decide) (by decide) (by decide) (by decide) (by decide) (by decide) (by decide) (by decide)
  · refine (θ_run _ _ _).mono (fun _ h c => ?_) (Ref.run_ref m' g')
    have X := hin c
    refine ⟨(h.1 c _ rfl).trans ?_, (h.1 c _ rfl).trans ?_, (h.1 c _ rfl).trans ?_, (h.1 c _ rfl).trans ?_, (h.1 c _ rfl).trans ?_,
      (h.1 c _ rfl).trans ?_, (h.1 c _ rfl).trans ?_,
      (h.1 c _ rfl).trans (Ref.fin_keep m' c fun k V => (k V).1), (h.1 c _ rfl).trans (Ref.fin_keep m' c fun k V => (k V).2.1),
      (h.1 c _ rfl).trans (Ref.fin_keep m' c fun k V => (k V).2.2.1), (h.1 c _ rfl).trans (Ref.fin_keep m' c fun k V => (k V).2.2.2.1),
      (h.1 c _ rfl).trans (Ref.fin_keep m' c fun k V => (k V).2.2.2.2.1), (h.1 c _ rfl).trans (Ref.fin_keep m' c fun k V => (k V).2.2.2.2.2.1),
      (h.1 c _ rfl).trans (Ref.fin_keep m' c fun k V => (k V).2.2.2.2.2.2)⟩
    · exact (lanesOf_ext fun t a j => (Ref.fin_y m' c t a j).trans (by rw [X])).trans (K_y m c).symm
    · exact (rowsOf_ext fun a t j => (Ref.fin_dr m' c a t j).trans (by rw [X])).trans (K_dr m c).symm
    · exact (rowsOf_ext fun a t j => (Ref.fin_dw m' c a t j).trans (by rw [X])).trans (K_dw m c).symm
    · exact (rowsOf_ext fun a t j => (Ref.fin_dk m' c a t j).trans (by rw [X])).trans (K_dk m c).symm
    · exact (lanesOf_ext fun t a j => (Ref.fin_dv m' c t a j).trans (by rw [X])).trans (K_dv m c).symm
    · exact (rowsOf_ext fun a t j => (Ref.fin_dkk m' c a t j).trans (by rw [X])).trans (K_dkk m c).symm
    · exact (rowsOf_ext fun a t j => (Ref.fin_da m' c a t j).trans (by rw [X])).trans (K_da m c).symm

end Cert.Proof
-- ==== Proof.Blocks.lean ====
module

public import Idealize.ShloMosaic.Lib.Pipeline.ValueKit.Geometry
public import Idealize.ShloMosaic.Lib.Pointwise

@[expose] public section

noncomputable section

/-! Matrices read at two natural numbers, and sums taken block by block. -/

namespace Cert.Proof.Blocks

open Idealize.ShloMosaic

/-- A matrix's shape. -/
abbrev Mat (M N : ℕ) : Shape := ⟨2, ![M, N]⟩

/-- The matrix with the given entries. -/
def matOf (M N : ℕ) (f : ℕ → ℕ → EReal) : (Mat M N).Idx → EReal := fun p => f (p 0).val (p 1).val

/-- A matrix's entries, zero outside it. -/
def entry {M N : ℕ} (X : (Mat M N).Idx → EReal) (a b : ℕ) : EReal :=
  if h : a < M ∧ b < N then X (ix2 ⟨a, h.1⟩ ⟨b, h.2⟩) else 0

theorem entry_at {M N : ℕ} (X : (Mat M N).Idx → EReal) (a : Fin M) (b : Fin N) : entry X a.val b.val = X (ix2 a b) := dif_pos ⟨a.isLt, b.isLt⟩

/-- A block's entry is the matrix's at the block's place. -/
theorem entry_block {M N : ℕ} (X : (Mat M N).Idx → EReal) (y : (Mat M N).Idx) {idx sz : Fin 2 → ℕ} (p q a b : ℕ)
    (hi : idx = ![p, q]) (hs : sz = ![1024, 1024]) (h0 : (y 0).val = idx 0 * sz 0 + a) (h1 : (y 1).val = idx 1 * sz 1 + b) :
    X y = entry X (1024 * p + a) (1024 * q + b) := by
  subst hi hs
  have e0 : (y 0).val = 1024 * p + a := h0.trans (congrArg (· + a) (Nat.mul_comm p 1024))
  have e1 : (y 1).val = 1024 * q + b := h1.trans (congrArg (· + b) (Nat.mul_comm q 1024))
  rw [← e0, ← e1, entry_at X (y 0) (y 1)]
  exact congrArg X (eq_ix2 y)

/-- Consecutive blocks' sums are one sum. -/
theorem sum_blocks (f : ℕ → EReal) (T n : ℕ) :
    ∑ k ∈ Finset.range n, ∑ q : Fin T, f (T * k + q.val) = ∑ j ∈ Finset.range (n * T), f j := by
  induction n with
  | zero => simp
  | succ n ih =>
    rw [Finset.sum_range_succ, ih, Nat.succ_mul, Finset.sum_range_add, Finset.sum_range fun x => f (n * T + x), Nat.mul_comm T n]

/-- A fold that restarts every `J` points, added to at each: its value is the sum since the restart. -/
theorem fold_sum {ι : Type} (J : ℕ) (hJ : 0 < J) (N : ℕ) (f : (n : ℕ) → n < N → ι → EReal) (A P : ℕ → ι → EReal)
    (h0 : ∀ n (h : n < N) i, n % J = 0 → f n h i = A (n / J) i + P n i)
    (hs : ∀ n (h : n < N) i, n % J ≠ 0 → f n h i = f (n - 1) (Nat.lt_of_le_of_lt (Nat.sub_le n 1) h) i + P n i) (i : ι) (n : ℕ) (h : n < N) :
    f n h i = A (n / J) i + ∑ k ∈ Finset.range (n % J + 1), P (J * (n / J) + k) i := by
  induction n with
  | zero => rw [h0 0 h i (Nat.zero_mod J)]; simp
  | succ n ih =>
    have d := Nat.div_add_mod (n + 1) J
    by_cases z : (n + 1) % J = 0
    · rw [h0 _ h i z, z, Finset.sum_range_one]
      rw [z] at d
      rw [d]
    · have l := Nat.mod_lt (n + 1) hJ
      have q : n / J = (n + 1) / J ∧ n % J = (n + 1) % J - 1 := by
        rw [Nat.div_mod_unique hJ]
        omega
      rw [hs _ h i z]
      show f n _ i + _ = _
      rw [ih (by omega), q.1, q.2, Nat.sub_add_cancel (Nat.pos_of_ne_zero z), Finset.sum_range_succ, d, add_assoc]

/-- A fold over blocks of 1024 terms, restarting every `J` points: at the last point before a restart it holds the whole sum. -/
theorem fold_blocks {ι : Type} (J : ℕ) (hJ : 0 < J) (N : ℕ) (f : (n : ℕ) → n < N → ι → EReal) (A : ℕ → ι → EReal) (g : ℕ → ι → ℕ → EReal)
    (h0 : ∀ n (h : n < N) i, n % J = 0 → f n h i = A (n / J) i + ∑ k : Fin 1024, g (n / J) i (1024 * (n % J) + k.val))
    (hs : ∀ n (h : n < N) i, n % J ≠ 0 → f n h i = f (n - 1) (Nat.lt_of_le_of_lt (Nat.sub_le n 1) h) i + ∑ k : Fin 1024, g (n / J) i (1024 * (n % J) + k.val))
    (i : ι) (n : ℕ) (h : n < N) (last : n % J + 1 = J) : f n h i = A (n / J) i + ∑ k ∈ Finset.range (J * 1024), g (n / J) i k := by
  rw [fold_sum J hJ N f A (fun n i => ∑ k : Fin 1024, g (n / J) i (1024 * (n % J) + k.val)) h0 hs i n h, last, ← sum_blocks]
  refine congrArg (A (n / J) i + ·) (Finset.sum_congr rfl fun k hk => ?_)
  have l := Finset.mem_range.mp hk
  show ∑ q : Fin 1024, _ = _
  rw [Nat.mul_add_div hJ, Nat.div_eq_of_lt l, Nat.add_zero, Nat.mul_add_mod, Nat.mod_eq_of_lt l]

/-- A matrix of given entries, read at a block's place. -/
theorem mat_block {M N : ℕ} (f : ℕ → ℕ → EReal) (y : (Mat M N).Idx) {idx sz : Fin 2 → ℕ} (p q a b : ℕ)
    (hi : idx = ![p, q]) (hs : sz = ![1024, 1024]) (h0 : (y 0).val = idx 0 * sz 0 + a) (h1 : (y 1).val = idx 1 * sz 1 + b) :
    matOf M N f y = f (1024 * p + a) (1024 * q + b) := by
  subst hi hs
  exact congr (congrArg f (h0.trans (congrArg (· + a) (Nat.mul_comm p 1024)))) (h1.trans (congrArg (· + b) (Nat.mul_comm q 1024)))

theorem origin : (![0, 0] : Fin 2 → Nat) = fun _ => 0 := funext fun a => by fin_cases a <;> rfl
theorem origin3 : (![0, 0, 0] : Fin 3 → Nat) = fun _ => 0 := funext fun a => by fin_cases a <;> rfl
theorem origin4 : (![0, 0, 0, 0] : Fin 4 → Nat) = fun _ => 0 := funext fun a => by fin_cases a <;> rfl

/-! The MLP's weights: four chips' parts of two layers. -/

/-- The gathered weight's shape. -/
abbrev Parts : Shape := ⟨4, ![4, 2, 1024, 1024]⟩

/-- A chip's entry of a layer, zero outside. -/
def part (W : Parts.Idx → EReal) (l : Fin 2) (p a b : ℕ) : EReal :=
  if h : p < 4 ∧ a < 1024 ∧ b < 1024 then W (ix4 ⟨p, h.1⟩ l ⟨a, h.2.1⟩ ⟨b, h.2.2⟩) else 0

theorem part_at (W : Parts.Idx → EReal) (l : Fin 2) (p : Fin 4) (a b : Fin 1024) : part W l p.val a.val b.val = W (ix4 p l a b) :=
  dif_pos ⟨p.isLt, a.isLt, b.isLt⟩

/-- The up weight's columns, and the down weight's rows, are the chips' in turn. -/
def up (W : Parts.Idx → EReal) (l : Fin 2) (a b : ℕ) : EReal := part W l (b / 1024) a (b % 1024)
def down (W : Parts.Idx → EReal) (l : Fin 2) (a b : ℕ) : EReal := part W l (a / 1024) (a % 1024) b

theorem up_block (W : Parts.Idx → EReal) (l : Fin 2) (a p : ℕ) (b : Fin 1024) : up W l a (1024 * p + b.val) = part W l p a b.val := by
  unfold up
  rw [Nat.mul_add_div (by omega), Nat.div_eq_of_lt b.isLt, Nat.add_zero, Nat.mul_add_mod, Nat.mod_eq_of_lt b.isLt]

theorem down_block (W : Parts.Idx → EReal) (l : Fin 2) (p : ℕ) (a : Fin 1024) (b : ℕ) : down W l (1024 * p + a.val) b = part W l p a.val b := by
  unfold down
  rw [Nat.mul_add_div (by omega), Nat.div_eq_of_lt a.isLt, Nat.add_zero, Nat.mul_add_mod, Nat.mod_eq_of_lt a.isLt]

theorem up_at (W : Parts.Idx → EReal) (l : Fin 2) (a : Fin 1024) (b : Fin 4096) (h : b.val / 1024 < 4) (h' : b.val % 1024 < 1024) :
    W (ix4 ⟨b.val / 1024, h⟩ l a ⟨b.val % 1024, h'⟩) = up W l a.val b.val := (part_at W l ⟨_, h⟩ a ⟨_, h'⟩).symm

theorem down_at (W : Parts.Idx → EReal) (l : Fin 2) (a : Fin 4096) (b : Fin 1024) (h : a.val / 1024 < 4) (h' : a.val % 1024 < 1024) :
    W (ix4 ⟨a.val / 1024, h⟩ l ⟨a.val % 1024, h'⟩ b) = down W l a.val b.val := (part_at W l ⟨_, h⟩ ⟨_, h'⟩ b).symm

/-- A layer's slice of the gathered weight. -/
theorem slice0_at (w : FVec Ideal Parts .bf16) (h : Parts.Slices ![0, 0, 0, 0] ⟨4, ![4, 1, 1024, 1024]⟩) (p : Fin 4) (a b : Fin 1024) :
    (extractStridedSlice ⟨4, ![4, 1, 1024, 1024]⟩ ![0, 0, 0, 0] w h (ix4 p 0 a b) : EReal) = w (ix4 p 0 a b) := by
  pointwise

theorem slice1_at (w : FVec Ideal Parts .bf16) (h : Parts.Slices ![0, 1, 0, 0] ⟨4, ![4, 1, 1024, 1024]⟩) (p : Fin 4) (a b : Fin 1024) :
    (extractStridedSlice ⟨4, ![4, 1, 1024, 1024]⟩ ![0, 1, 0, 0] w h (ix4 p 0 a b) : EReal) = w (ix4 p 1 a b) := by
  pointwise

/-- A block's entry of the gathered weight. -/
theorem part_block (W : Parts.Idx → EReal) (l : Fin 2) (y : Parts.Idx) {idx sz : Fin 4 → ℕ} (p : ℕ) (a b : Fin 1024)
    (hi : idx = ![p, l.val, 0, 0]) (hs : sz = ![1, 1, 1024, 1024]) (h0 : (y 0).val = idx 0 * sz 0 + 0) (h1 : (y 1).val = idx 1 * sz 1 + 0)
    (h2 : (y 2).val = idx 2 * sz 2 + a.val) (h3 : (y 3).val = idx 3 * sz 3 + b.val) : W y = part W l p a.val b.val := by
  subst hi hs
  have e0 : (y 0).val = p := h0.trans (Nat.mul_one p)
  have e1 : y 1 = l := Fin.ext (h1.trans (Nat.mul_one l.val))
  have e2 : y 2 = a := Fin.ext (h2.trans ((congrArg (· + a.val) (Nat.zero_mul 1024)).trans (Nat.zero_add _)))
  have e3 : y 3 = b := Fin.ext (h3.trans ((congrArg (· + b.val) (Nat.zero_mul 1024)).trans (Nat.zero_add _)))
  rw [← e0, part_at W l (y 0) a b, ← e1, ← e2, ← e3]
  exact congrArg W (eq_ix4 y)

/-- The MLP's activation. -/
def relu2 (x : EReal) : EReal := max x 0 * max x 0

/-- Its derivative times a cotangent: with the comparison, or with the maximum alone. -/
theorem relu2_grad (u g v : EReal) : (if 0 < u then g * (v * max u 0) else 0) = g * (v * max u 0) := by
  by_cases h : 0 < u
  · rw [if_pos h]
  · rw [if_neg h, max_eq_right (not_lt.mp h), mul_zero, mul_zero]

end Cert.Proof.Blocks
-- ==== Proof.Proj2.lean ====
module

public import Idealize.ShloMosaic.Lib.Pipeline.ValueKit.Geometry
public import Idealize.ShloMosaic.Lib.VecWindow
public import Idealize.ShloMosaic.Lib.WritesUnit
public import Idealize.ShloMosaic.Lib.Quiescent
public import proofs.«01_k».proof.Defs
public import proofs.«01_k».proof.Proof.Blocks
public import proofs.«01_k».proof.Proof.Gen.Kernel2Ideal.Value
public import proofs.«01_k».proof.Proof.Gen.Reference2Ideal.Run

@[expose] public section

set_option maxRecDepth 16384
set_option maxHeartbeats 1000000

noncomputable section

/-! The projection's gradient with respect to its weight: the blocked product is the whole product. -/

namespace Cert.Proof.Proj2

open Idealize.ShloMosaic Idealize.SL.Sem
open TcCoe Cert.Proof.Blocks

/-- The gradient at a position, from the entries of the input and the cotangent. -/
def grad (X D : ℕ → ℕ → EReal) (a b : ℕ) : EReal := ∑ k ∈ Finset.range 2048, X k a * D k b

section Kernel

open Cert.Kernel2Ideal Cert.Kernel2Ideal.Gen

theorem origin : (![0, 0] : Fin 2 → Nat) = fun _ => 0 := funext fun a => by fin_cases a <;> rfl

/-- A block's product, at an entry. -/
theorem pay1_at (x d : Vec Ideal S1024x1024 .f32) (r s : Fin 1024) :
    (k0_pay1 x d (ix2 r s) : EReal) = ∑ k : Fin 1024, (x (ix2 k r) : EReal) * (d (ix2 k s) : EReal) := by
  unfold k0_pay1
  pointwise

theorem pay2_at (x d o : Vec Ideal S1024x1024 .f32) (i : S1024x1024.Idx) : (k0_pay2 x d o i : EReal) = (o i : EReal) + k0_pay1 x d i := by
  unfold k0_pay2
  rw [shapeCast_self]
  rfl

theorem out_A (c : Dev nD) (i : grid0.Coords) (a3 : Memref sig .tc .vmem S1024x1024 .f32) (h3 : a3.IsWhole)
    (a4 : Memref sig .tc .vmem S1024x1024 .f32) (h4 : a4.IsWhole) (a5 : Memref sig .tc .vmem S1024x1024 .f32) (h5 : a5.IsWhole)
    (hc : cond0_0 i) (hd : ¬cond0_1 i) (x d : Vec Ideal S1024x1024 .f32) : out0_A_2 c i a3 h3 a4 h4 a5 h5 hc hd x d = k0_pay1 x d := by
  unfold out0_A_2
  rw [View.read_writes_eq_canon _ _ _ (cover0_A_2 c i a3 h3 a4 h4 a5 h5 hc hd x d)]
  unfold kernelRun0_A
  dsimp only
  rw [View.canon_unit_zero origin]
  simp only [View.readAt_eq_ld, h3.read_unread, h4.read_unread, View.ld_unit_zero (S := S1024x1024) origin]

theorem out_B (c : Dev nD) (i : grid0.Coords) (a3 : Memref sig .tc .vmem S1024x1024 .f32) (h3 : a3.IsWhole)
    (a4 : Memref sig .tc .vmem S1024x1024 .f32) (h4 : a4.IsWhole) (a5 : Memref sig .tc .vmem S1024x1024 .f32) (h5 : a5.IsWhole)
    (hc : ¬cond0_0 i) (hd : cond0_1 i) (x d o : Vec Ideal S1024x1024 .f32) : out0_B_2 c i a3 h3 a4 h4 a5 h5 hc hd x d o = k0_pay2 x d o := by
  unfold out0_B_2
  rw [View.read_writes_eq_canon _ _ _ (cover0_B_2 c i a3 h3 a4 h4 a5 h5 hc hd x d o)]
  unfold kernelRun0_B
  dsimp only
  rw [View.canon_unit_zero origin]
  simp only [View.readAt_eq_ld, h3.read_unread, h4.read_unread, h5.read_unread, View.ld_unit_zero (S := S1024x1024) origin]

theorem index : ∀ t : Fin cfg0.N, win0_0.index t = ![t.val % 2, 0] ∧ win0_1.index t = ![t.val % 2, t.val / 2] ∧ win0_2.index t = ![0, t.val / 2] := by
  decide +kernel

variable (m : (ℓ : Loc nD τ sig) → Buf (Elt Ideal) ℓ) (c : Dev nD)

/-- The input's and the cotangent's entries. -/
def X : ℕ → ℕ → EReal := entry (M := 2048) (N := 1024) (m ((c : Thread nD τ).loc main_arg0))
def D : ℕ → ℕ → EReal := entry (M := 2048) (N := 4096) (m ((c : Thread nD τ).loc main_arg1))

theorem blk_X (t : Fin cfg0.N) (k r : Fin 1024) : (iblk m c 0 t (ix2 k r) : EReal) = X m c (1024 * (t.val % 2) + k.val) r.val :=
  (entry_block (M := 2048) (N := 1024) (m ((c : Thread nD τ).loc main_arg0)) _ _ _ k.val r.val (index t).1 rfl (by blk_simp) (by blk_simp)).trans
    (congrArg (X m c _) (Nat.zero_add r.val))

theorem blk_D (t : Fin cfg0.N) (k s : Fin 1024) : (iblk m c 1 t (ix2 k s) : EReal) = D m c (1024 * (t.val % 2) + k.val) (1024 * (t.val / 2) + s.val) :=
  entry_block (M := 2048) (N := 4096) (m ((c : Thread nD τ).loc main_arg1)) _ _ _ k.val s.val (index t).2.1 rfl (by blk_simp) (by blk_simp)

/-- What a point adds. -/
def part (n : ℕ) (i : Fin 1024 × Fin 1024) : EReal := ∑ k : Fin 1024, X m c (1024 * (n % 2) + k.val) i.1.val * D m c (1024 * (n % 2) + k.val) (1024 * (n / 2) + i.2.val)

theorem pay_part (t : Fin cfg0.N) (r s : Fin 1024) : (k0_pay1 (iblk m c 0 t) (iblk m c 1 t) (ix2 r s) : EReal) = part m c t.val (r, s) :=
  (pay1_at _ _ r s).trans (Finset.sum_congr rfl fun k _ => congr (congrArg HMul.hMul (blk_X m c t k r)) (blk_D m c t k s))

theorem outs_at (n : ℕ) (h : n < cfg0.N) (r s : Fin 1024) : (outsAt0 m c n h (ix2 r s) : EReal) =
    0 + ∑ k ∈ Finset.range (n % 2 + 1), part m c (2 * (n / 2) + k) (r, s) :=
  fold_sum 2 (by omega) cfg0.N (fun n h (i : Fin 1024 × Fin 1024) => (outsAt0 m c n h (ix2 i.1 i.2) : EReal)) (fun _ _ => 0) (part m c)
    (fun n h i z => by
      show (outsAt0 m c n h (ix2 i.1 i.2) : EReal) = _
      rw [outsAt0_A m c ⟨n, h⟩ z (by show ¬n % 2 = 1; omega), out_A, pay_part, zero_add])
    (fun n h i z => by
      show (outsAt0 m c n h (ix2 i.1 i.2) : EReal) = _
      rw [outsAt0_B m c ⟨n, h⟩ z (by show n % 2 = 1; omega), out_B, pay2_at, pay_part])
    (r, s) n h

/-- The second point of a column of blocks holds the whole sum. -/
theorem outs_last (t : Fin cfg0.N) (z : t.val % 2 = 1) (r s : Fin 1024) : (outsAt0 m c t.val t.isLt (ix2 r s) : EReal) =
    grad (X m c) (D m c) r.val (1024 * (t.val / 2) + s.val) := by
  rw [outs_at, z, zero_add]
  unfold grad
  rw [← sum_blocks (fun k => X m c k r.val * D m c k (1024 * (t.val / 2) + s.val)) 1024 2]
  refine Finset.sum_congr rfl fun k hk => ?_
  have e := Finset.mem_range.mp hk
  show ∑ q : Fin 1024, _ = _
  rw [show (2 * (t.val / 2) + k) / 2 = t.val / 2 by omega, show (2 * (t.val / 2) + k) % 2 = k by omega]

/-- The kernel's result array. -/
theorem array : (dats m 0 c).arrAt 2 cfg0.N = matOf 1024 4096 (grad (X m c) (D m c)) := by
  refine (dats m 0 c).arrAt_eq_of_covers 2 _ (by decide +kernel) fun t hf y => ?_
  obtain ⟨r, s, rfl⟩ : ∃ (r s : Fin 1024), y = ix2 r s := ⟨_, _, eq_ix2 y⟩
  show (outsAt0 m c t.val t.isLt (ix2 r s) : EReal) = matOf 1024 4096 _ ((win0_2.blk t).view.emb (ix2 r s))
  rw [outs_last m c t ((flush0_2 t).mp hf)]
  unfold matOf
  have e0 : (((win0_2.blk t).view.emb (ix2 r s)) 0).val = r.val := by
    blk_simp
    rw [(index t).2.2]
    exact (congrArg (· + r.val) (Nat.zero_mul 1024)).trans (Nat.zero_add _)
  have e1 : (((win0_2.blk t).view.emb (ix2 r s)) 1).val = 1024 * (t.val / 2) + s.val := by
    blk_simp
    rw [(index t).2.2]
    exact congrArg (· + s.val) (Nat.mul_comm _ 1024)
  rw [e0, e1]

end Kernel

section Reference

open Cert.Reference2Ideal

/-- The reference's result, at an entry. -/
theorem ref_at (x : Vec Ideal S2048x1024 .f32) (d : Vec Ideal S2048x4096 .f32) :
    (transpose S1024x4096 [1, 0] (Host.dotGeneral (F := Ideal) (φ₁ := .f32) (φ₂ := .f32) dot_S2048x4096_S2048x1024_S4096x1024_0_0_1_1_n_n none d x : FVec Ideal S4096x1024 .f32)
      Gen.transposes_S4096x1024_S1024x4096_1_0 : FVec Ideal S1024x4096 .f32)
      = matOf 1024 4096 (grad (entry (M := 2048) (N := 1024) x) (entry (M := 2048) (N := 4096) d)) := by
  funext p
  obtain ⟨a, b, rfl⟩ : ∃ (a : Fin 1024) (b : Fin 4096), p = ix2 a b := ⟨_, _, eq_ix2 p⟩
  show _ = ∑ k ∈ Finset.range 2048, entry (M := 2048) (N := 1024) x k a.val * entry (M := 2048) (N := 4096) d k b.val
  rw [Finset.sum_range]
  pointwise
  refine Finset.sum_congr rfl fun k _ => ?_
  rw [entry_at, entry_at]
  exact mul_comm _ _

end Reference

theorem frame_reference [hReference2Ideal : Cert.Reference2Ideal.Facts] : Cert.quiescent_Reference2Ideal := fun m ρ _ =>
  (θ_run Cert.Reference2Ideal.defs _ _).mono (fun r h => ⟨fun c => (h c).2, sem_eq_zero_of_no_sems (by decide) r.2⟩)
    (Cert.Reference2Ideal.Value.run (F := Ideal) m ρ)

theorem algebraic [hKernel2Ideal : Cert.Kernel2Ideal.Facts] [hReference2Ideal : Cert.Reference2Ideal.Facts] :
    Cert.algebraic_Kernel2Ideal_Reference2Ideal := fun m g m' g' _ hag =>
  ⟨fun c => matOf 1024 4096 (grad (X m c) (D m c)),
    (θ_run _ _ _).mono (fun _ h c => ⟨(h c).1.trans (array m c), (h c).2⟩) (Cert.Kernel2Ideal.Value.run_blocks m g),
    (θ_run _ _ _).mono (fun _ h c => ⟨(h c).1.trans ((ref_at _ _).trans (by
      obtain ⟨h0, h1⟩ := hag c
      rw [h0, h1]
      rfl)), (h c).2⟩) (Cert.Reference2Ideal.Value.run (F := Ideal) m' g')⟩

end Cert.Proof.Proj2
-- ==== Proof.Proj3.lean ====
module

public import Idealize.ShloMosaic.Lib.Pipeline.ValueKit.Geometry
public import Idealize.ShloMosaic.Lib.VecWindow
public import Idealize.ShloMosaic.Lib.WritesUnit
public import Idealize.ShloMosaic.Lib.Quiescent
public import proofs.«01_k».proof.Defs
public import proofs.«01_k».proof.Proof.Blocks
public import proofs.«01_k».proof.Proof.Gen.Kernel3Ideal.Value
public import proofs.«01_k».proof.Proof.Gen.Reference3Ideal.Run

@[expose] public section

set_option maxRecDepth 16384
set_option maxHeartbeats 1000000

noncomputable section

/-! The projection's gradient with respect to its input: the blocked product with the addend is the whole product with it. -/

namespace Cert.Proof.Proj3

open Idealize.ShloMosaic Idealize.SL.Sem
open TcCoe Cert.Proof.Blocks

/-- The gradient at a position, from the entries of the cotangent, the weight and the addend. -/
def grad (D W X : ℕ → ℕ → EReal) (a b : ℕ) : EReal := X a b + ∑ k ∈ Finset.range 4096, D a k * W b k

section Kernel

open Cert.Kernel3Ideal Cert.Kernel3Ideal.Gen

theorem origin : (![0, 0] : Fin 2 → Nat) = fun _ => 0 := funext fun a => by fin_cases a <;> rfl

/-- A block's product, at an entry. -/
theorem pay1_at (x : Vec Ideal S1024x1024 .f32) (w : Vec Ideal S1024x1024 .bf16) (r s : Fin 1024) :
    (k0_pay1 x w (ix2 r s) : EReal) = ∑ k : Fin 1024, (x (ix2 r k) : EReal) * (w (ix2 s k) : EReal) := by
  unfold k0_pay1
  pointwise

theorem pay2_at (x : Vec Ideal S1024x1024 .f32) (w : Vec Ideal S1024x1024 .bf16) (d : Vec Ideal S1024x1024 .f32) (i : S1024x1024.Idx) :
    (k0_pay2 x w d i : EReal) = (d i : EReal) + k0_pay1 x w i := by
  unfold k0_pay2
  exact add_comm (k0_pay1 x w i : EReal) (d i)

theorem pay3_at (x : Vec Ideal S1024x1024 .f32) (w : Vec Ideal S1024x1024 .bf16) (d : Vec Ideal S1024x1024 .f32) (i : S1024x1024.Idx) :
    (k0_pay3 x w d i : EReal) = (d i : EReal) + k0_pay1 x w i := by
  unfold k0_pay3
  rw [shapeCast_self]
  rfl

theorem out_A (c : Dev nD) (i : grid0.Coords) (a3 : Memref sig .tc .vmem S1024x1024 .f32) (h3 : a3.IsWhole)
    (a4 : Memref sig .tc .vmem S1024x1024 .bf16) (h4 : a4.IsWhole) (a5 : Memref sig .tc .vmem S1024x1024 .f32) (h5 : a5.IsWhole)
    (a6 : Memref sig .tc .vmem S1024x1024 .f32) (h6 : a6.IsWhole) (hc : cond0_0 i) (hd : ¬cond0_1 i)
    (x : Vec Ideal S1024x1024 .f32) (w : Vec Ideal S1024x1024 .bf16) (d : Vec Ideal S1024x1024 .f32) :
    out0_A_3 c i a3 h3 a4 h4 a5 h5 a6 h6 hc hd x w d = k0_pay2 x w d := by
  unfold out0_A_3
  rw [View.read_writes_eq_canon _ _ _ (cover0_A_3 c i a3 h3 a4 h4 a5 h5 a6 h6 hc hd x w d)]
  unfold kernelRun0_A
  dsimp only
  rw [View.canon_unit_zero origin]
  simp only [View.readAt_eq_ld, h3.read_unread, h4.read_unread, h5.read_unread, View.ld_unit_zero (S := S1024x1024) origin]

theorem out_B (c : Dev nD) (i : grid0.Coords) (a3 : Memref sig .tc .vmem S1024x1024 .f32) (h3 : a3.IsWhole)
    (a4 : Memref sig .tc .vmem S1024x1024 .bf16) (h4 : a4.IsWhole) (a5 : Memref sig .tc .vmem S1024x1024 .f32) (h5 : a5.IsWhole)
    (a6 : Memref sig .tc .vmem S1024x1024 .f32) (h6 : a6.IsWhole) (hc : ¬cond0_0 i) (hd : cond0_1 i)
    (x : Vec Ideal S1024x1024 .f32) (w : Vec Ideal S1024x1024 .bf16) (d o : Vec Ideal S1024x1024 .f32) :
    out0_B_3 c i a3 h3 a4 h4 a5 h5 a6 h6 hc hd x w d o = k0_pay3 x w o := by
  unfold out0_B_3
  rw [View.read_writes_eq_canon _ _ _ (cover0_B_3 c i a3 h3 a4 h4 a5 h5 a6 h6 hc hd x w d o)]
  unfold kernelRun0_B
  dsimp only
  rw [View.canon_unit_zero origin]
  simp only [View.readAt_eq_ld, h3.read_unread, h4.read_unread, h6.read_unread, View.ld_unit_zero (S := S1024x1024) origin]

theorem index : ∀ t : Fin cfg0.N, win0_0.index t = ![t.val / 4, t.val % 4] ∧ win0_1.index t = ![0, t.val % 4] ∧ win0_2.index t = ![t.val / 4, 0]
    ∧ win0_3.index t = ![t.val / 4, 0] := by decide +kernel

variable (m : (ℓ : Loc nD τ sig) → Buf (Elt Ideal) ℓ) (c : Dev nD)

/-- The cotangent's, the weight's and the addend's entries. -/
def D : ℕ → ℕ → EReal := entry (M := 2048) (N := 4096) (m ((c : Thread nD τ).loc main_arg0))
def W : ℕ → ℕ → EReal := entry (M := 1024) (N := 4096) (m ((c : Thread nD τ).loc main_arg1))
def X : ℕ → ℕ → EReal := entry (M := 2048) (N := 1024) (m ((c : Thread nD τ).loc main_arg2))

theorem blk_D (t : Fin cfg0.N) (r k : Fin 1024) : (iblk m c 0 t (ix2 r k) : EReal) = D m c (1024 * (t.val / 4) + r.val) (1024 * (t.val % 4) + k.val) :=
  entry_block (M := 2048) (N := 4096) (m ((c : Thread nD τ).loc main_arg0)) _ _ _ r.val k.val (index t).1 rfl (by blk_simp) (by blk_simp)

theorem blk_W (t : Fin cfg0.N) (s k : Fin 1024) : (iblk m c 1 t (ix2 s k) : EReal) = W m c s.val (1024 * (t.val % 4) + k.val) :=
  (entry_block (M := 1024) (N := 4096) (m ((c : Thread nD τ).loc main_arg1)) _ _ _ s.val k.val (index t).2.1 rfl (by blk_simp) (by blk_simp)).trans
    (congrArg (W m c · _) (Nat.zero_add s.val))

theorem blk_X (t : Fin cfg0.N) (r s : Fin 1024) : (iblk m c 2 t (ix2 r s) : EReal) = X m c (1024 * (t.val / 4) + r.val) s.val :=
  (entry_block (M := 2048) (N := 1024) (m ((c : Thread nD τ).loc main_arg2)) _ _ _ r.val s.val (index t).2.2.1 rfl (by blk_simp) (by blk_simp)).trans
    (congrArg (X m c _) (Nat.zero_add s.val))

/-- What a point adds. -/
def part (n : ℕ) (i : Fin 1024 × Fin 1024) : EReal := ∑ k : Fin 1024, D m c (1024 * (n / 4) + i.1.val) (1024 * (n % 4) + k.val) * W m c i.2.val (1024 * (n % 4) + k.val)

theorem pay_part (t : Fin cfg0.N) (r s : Fin 1024) : (k0_pay1 (iblk m c 0 t) (iblk m c 1 t) (ix2 r s) : EReal) = part m c t.val (r, s) :=
  (pay1_at _ _ r s).trans (Finset.sum_congr rfl fun k _ => congr (congrArg HMul.hMul (blk_D m c t r k)) (blk_W m c t s k))

theorem outs_at (n : ℕ) (h : n < cfg0.N) (r s : Fin 1024) : (outsAt0 m c n h (ix2 r s) : EReal) =
    X m c (1024 * (n / 4) + r.val) s.val + ∑ k ∈ Finset.range (n % 4 + 1), part m c (4 * (n / 4) + k) (r, s) :=
  fold_sum 4 (by omega) cfg0.N (fun n h (i : Fin 1024 × Fin 1024) => (outsAt0 m c n h (ix2 i.1 i.2) : EReal))
    (fun q i => X m c (1024 * q + i.1.val) i.2.val) (part m c)
    (fun n h i z => by
      show (outsAt0 m c n h (ix2 i.1 i.2) : EReal) = _
      rw [outsAt0_A m c ⟨n, h⟩ z (by show ¬1 ≤ n % 4; omega), out_A, pay2_at, pay_part, blk_X])
    (fun n h i z => by
      show (outsAt0 m c n h (ix2 i.1 i.2) : EReal) = _
      rw [outsAt0_B m c ⟨n, h⟩ z (Nat.pos_of_ne_zero z), out_B, pay3_at, pay_part])
    (r, s) n h

/-- The last point of a row of blocks holds the whole sum. -/
theorem outs_last (t : Fin cfg0.N) (z : t.val % 4 = 3) (r s : Fin 1024) : (outsAt0 m c t.val t.isLt (ix2 r s) : EReal) =
    grad (D m c) (W m c) (X m c) (1024 * (t.val / 4) + r.val) s.val := by
  rw [outs_at, z]
  refine congrArg (X m c _ _ + ·) ?_
  rw [← sum_blocks (fun k => D m c (1024 * (t.val / 4) + r.val) k * W m c s.val k) 1024 4]
  refine Finset.sum_congr rfl fun k hk => ?_
  have e := Finset.mem_range.mp hk
  show ∑ q : Fin 1024, _ = _
  rw [show (4 * (t.val / 4) + k) / 4 = t.val / 4 by omega, show (4 * (t.val / 4) + k) % 4 = k by omega]

/-- The kernel's result array. -/
theorem array : (dats m 0 c).arrAt 3 cfg0.N = matOf 2048 1024 (grad (D m c) (W m c) (X m c)) := by
  refine (dats m 0 c).arrAt_eq_of_covers 3 _ (by decide +kernel) fun t hf y => ?_
  obtain ⟨r, s, rfl⟩ : ∃ (r s : Fin 1024), y = ix2 r s := ⟨_, _, eq_ix2 y⟩
  show (outsAt0 m c t.val t.isLt (ix2 r s) : EReal) = matOf 2048 1024 _ ((win0_3.blk t).view.emb (ix2 r s))
  rw [outs_last m c t ((flush0_3 t).mp hf)]
  unfold matOf
  have e0 : (((win0_3.blk t).view.emb (ix2 r s)) 0).val = 1024 * (t.val / 4) + r.val := by
    blk_simp
    rw [(index t).2.2.2]
    exact congrArg (· + r.val) (Nat.mul_comm _ 1024)
  have e1 : (((win0_3.blk t).view.emb (ix2 r s)) 1).val = s.val := by
    blk_simp
    rw [(index t).2.2.2]
    exact (congrArg (· + s.val) (Nat.zero_mul 1024)).trans (Nat.zero_add _)
  rw [e0, e1]

end Kernel

section Reference

open Cert.Reference3Ideal

/-- The reference's result, at an entry. -/
theorem ref_at (d : Vec Ideal S2048x4096 .f32) (w : Vec Ideal S1024x4096 .bf16) (x : Vec Ideal S2048x1024 .f32) :
    (addf x (Host.dotGeneral (φ₁ := .f32) (φ₂ := .f32) dot_S2048x4096_S1024x4096_S2048x1024_1_1_0_0_n_n none d (extf .f32 w Gen.bitsLt_bf16_f32)) : FVec Ideal S2048x1024 .f32)
      = matOf 2048 1024 (grad (entry (M := 2048) (N := 4096) d) (entry (M := 1024) (N := 4096) w) (entry (M := 2048) (N := 1024) x)) := by
  funext p
  obtain ⟨a, b, rfl⟩ : ∃ (a : Fin 2048) (b : Fin 1024), p = ix2 a b := ⟨_, _, eq_ix2 p⟩
  show _ = entry (M := 2048) (N := 1024) x a.val b.val + ∑ k ∈ Finset.range 4096, entry (M := 2048) (N := 4096) d a.val k * entry (M := 1024) (N := 4096) w b.val k
  rw [Finset.sum_range, entry_at]
  pointwise
  refine congrArg (_ + ·) (Finset.sum_congr rfl fun k _ => ?_)
  rw [entry_at, entry_at]

end Reference

theorem frame_reference [hReference3Ideal : Cert.Reference3Ideal.Facts] : Cert.quiescent_Reference3Ideal := fun m ρ _ =>
  (θ_run Cert.Reference3Ideal.defs _ _).mono (fun r h => ⟨fun c => (h c).2, sem_eq_zero_of_no_sems (by decide) r.2⟩)
    (Cert.Reference3Ideal.Value.run (F := Ideal) m ρ)

theorem algebraic [hKernel3Ideal : Cert.Kernel3Ideal.Facts] [hReference3Ideal : Cert.Reference3Ideal.Facts] :
    Cert.algebraic_Kernel3Ideal_Reference3Ideal := fun m g m' g' _ hag =>
  ⟨fun c => matOf 2048 1024 (grad (D m c) (W m c) (X m c)),
    (θ_run _ _ _).mono (fun _ h c => ⟨(h c).1.trans (array m c), (h c).2⟩) (Cert.Kernel3Ideal.Value.run_blocks m g),
    (θ_run _ _ _).mono (fun _ h c => ⟨(h c).1.trans ((ref_at _ _ _).trans (by
      obtain ⟨h0, h1, h2⟩ := hag c
      rw [h0, h1, h2]
      rfl)), (h c).2⟩) (Cert.Reference3Ideal.Value.run (F := Ideal) m' g')⟩

end Cert.Proof.Proj3
-- ==== Proof.Proj4.lean ====
module

public import Idealize.ShloMosaic.Lib.Pipeline.ValueKit.Geometry
public import Idealize.ShloMosaic.Lib.VecWindow
public import Idealize.ShloMosaic.Lib.WritesUnit
public import Idealize.ShloMosaic.Lib.Quiescent
public import proofs.«01_k».proof.Defs
public import proofs.«01_k».proof.Proof.Blocks
public import proofs.«01_k».proof.Proof.Gen.Kernel4Ideal.Value
public import proofs.«01_k».proof.Proof.Gen.Reference4Ideal.Run

@[expose] public section

set_option maxRecDepth 16384
set_option maxHeartbeats 1000000

noncomputable section

/-! The projection: the blocked product is the whole product. -/

namespace Cert.Proof.Proj4

open Idealize.ShloMosaic Idealize.SL.Sem
open TcCoe Cert.Proof.Blocks

/-- The projection at a position, from the entries of the input and the weight. -/
def prod (X W : ℕ → ℕ → EReal) (a b : ℕ) : EReal := ∑ k : Fin 1024, X a k.val * W k.val b

section Kernel

open Cert.Kernel4Ideal Cert.Kernel4Ideal.Gen

theorem origin : (![0, 0] : Fin 2 → Nat) = fun _ => 0 := funext fun a => by fin_cases a <;> rfl

/-- A block's product, at an entry. -/
theorem pay1_at (x : Vec Ideal S1024x1024 .f32) (w : Vec Ideal S1024x1024 .bf16) (r s : Fin 1024) :
    (k0_pay1 x w (ix2 r s) : EReal) = ∑ k : Fin 1024, (x (ix2 r k) : EReal) * (w (ix2 k s) : EReal) := by
  unfold k0_pay1
  pointwise

theorem out_A (c : Dev nD) (i : grid0.Coords) (a3 : Memref sig .tc .vmem S1024x1024 .f32) (h3 : a3.IsWhole)
    (a4 : Memref sig .tc .vmem S1024x1024 .bf16) (h4 : a4.IsWhole) (a5 : Memref sig .tc .vmem S1024x1024 .f32) (h5 : a5.IsWhole)
    (hc : cond0_0 i) (x : Vec Ideal S1024x1024 .f32) (w : Vec Ideal S1024x1024 .bf16) : out0_A_2 c i a3 h3 a4 h4 a5 h5 hc x w = k0_pay1 x w := by
  unfold out0_A_2
  rw [View.read_writes_eq_canon _ _ _ (cover0_A_2 c i a3 h3 a4 h4 a5 h5 hc x w)]
  unfold kernelRun0_A
  dsimp only
  rw [View.canon_unit_zero origin]
  simp only [View.readAt_eq_ld, h3.read_unread, h4.read_unread, View.ld_unit_zero (S := S1024x1024) origin]

theorem index : ∀ t : Fin cfg0.N, win0_0.index t = ![t.val / 4, 0] ∧ win0_1.index t = ![0, t.val % 4] ∧ win0_2.index t = ![t.val / 4, t.val % 4] := by
  decide +kernel

variable (m : (ℓ : Loc nD τ sig) → Buf (Elt Ideal) ℓ) (c : Dev nD)

/-- The input's and the weight's entries. -/
def X : ℕ → ℕ → EReal := entry (M := 2048) (N := 1024) (m ((c : Thread nD τ).loc main_arg0))
def W : ℕ → ℕ → EReal := entry (M := 1024) (N := 4096) (m ((c : Thread nD τ).loc main_arg1))

theorem blk_X (t : Fin cfg0.N) (r k : Fin 1024) : (iblk m c 0 t (ix2 r k) : EReal) = X m c (1024 * (t.val / 4) + r.val) k.val :=
  (entry_block (M := 2048) (N := 1024) (m ((c : Thread nD τ).loc main_arg0)) _ _ _ r.val k.val (index t).1 rfl (by blk_simp) (by blk_simp)).trans
    (congrArg (X m c _) (Nat.zero_add k.val))

theorem blk_W (t : Fin cfg0.N) (k s : Fin 1024) : (iblk m c 1 t (ix2 k s) : EReal) = W m c k.val (1024 * (t.val % 4) + s.val) :=
  (entry_block (M := 1024) (N := 4096) (m ((c : Thread nD τ).loc main_arg1)) _ _ _ k.val s.val (index t).2.1 rfl (by blk_simp) (by blk_simp)).trans
    (congrArg (W m c · _) (Nat.zero_add k.val))

/-- A point's block of the result. -/
theorem outs_at (t : Fin cfg0.N) (r s : Fin 1024) : (outsAt0 m c t (ix2 r s) : EReal) =
    prod (X m c) (W m c) (1024 * (t.val / 4) + r.val) (1024 * (t.val % 4) + s.val) := by
  unfold outsAt0
  rw [out_A]
  exact (pay1_at _ _ r s).trans (Finset.sum_congr rfl fun k _ => congr (congrArg HMul.hMul (blk_X m c t r k)) (blk_W m c t k s))

attribute [local irreducible] outsAt0 in
/-- The kernel's result array. -/
theorem array : (dats m 0 c).arrAt 2 cfg0.N = matOf 2048 4096 (prod (X m c) (W m c)) := by
  refine (dats m 0 c).arrAt_eq_of_covers 2 _ (by decide +kernel) fun t hf y => ?_
  obtain ⟨r, s, rfl⟩ : ∃ (r s : Fin 1024), y = ix2 r s := ⟨_, _, eq_ix2 y⟩
  show (outsAt0 m c t (ix2 r s) : EReal) = matOf 2048 4096 _ ((win0_2.blk t).view.emb (ix2 r s))
  rw [outs_at]
  unfold matOf
  have e0 : (((win0_2.blk t).view.emb (ix2 r s)) 0).val = 1024 * (t.val / 4) + r.val := by
    blk_simp
    rw [(index t).2.2]
    exact congrArg (· + r.val) (Nat.mul_comm _ 1024)
  have e1 : (((win0_2.blk t).view.emb (ix2 r s)) 1).val = 1024 * (t.val % 4) + s.val := by
    blk_simp
    rw [(index t).2.2]
    exact congrArg (· + s.val) (Nat.mul_comm _ 1024)
  rw [e0, e1]

end Kernel

section Reference

open Cert.Reference4Ideal

/-- The reference's result, at an entry. -/
theorem ref_at (x : Vec Ideal S2048x1024 .f32) (w : Vec Ideal S1024x4096 .bf16) :
    (Host.dotGeneral (F := Ideal) (φ₁ := .f32) (φ₂ := .f32) dot_S2048x1024_S1024x4096_S2048x4096_1_0_0_1_n_n none x (extf (F := Ideal) .f32 w Gen.bitsLt_bf16_f32) : FVec Ideal S2048x4096 .f32)
      = matOf 2048 4096 (prod (entry (M := 2048) (N := 1024) x) (entry (M := 1024) (N := 4096) w)) := by
  funext p
  obtain ⟨a, b, rfl⟩ : ∃ (a : Fin 2048) (b : Fin 4096), p = ix2 a b := ⟨_, _, eq_ix2 p⟩
  show _ = ∑ k : Fin 1024, entry (M := 2048) (N := 1024) x a.val k.val * entry (M := 1024) (N := 4096) w k.val b.val
  pointwise
  refine Finset.sum_congr rfl fun k _ => ?_
  rw [entry_at, entry_at]

end Reference

theorem frame_reference [hReference4Ideal : Cert.Reference4Ideal.Facts] : Cert.quiescent_Reference4Ideal := fun m ρ _ =>
  (θ_run Cert.Reference4Ideal.defs _ _).mono (fun r h => ⟨fun c => (h c).2, sem_eq_zero_of_no_sems (by decide) r.2⟩)
    (Cert.Reference4Ideal.Value.run (F := Ideal) m ρ)

theorem algebraic [hKernel4Ideal : Cert.Kernel4Ideal.Facts] [hReference4Ideal : Cert.Reference4Ideal.Facts] :
    Cert.algebraic_Kernel4Ideal_Reference4Ideal := fun m g m' g' _ hag =>
  ⟨fun c => matOf 2048 4096 (prod (X m c) (W m c)),
    (θ_run _ _ _).mono (fun _ h c => ⟨(h c).1.trans (array m c), (h c).2⟩) (Cert.Kernel4Ideal.Value.run_blocks m g),
    (θ_run _ _ _).mono (fun _ h c => ⟨(h c).1.trans ((ref_at _ _).trans (by
      obtain ⟨h0, h1⟩ := hag c
      rw [h0, h1]
      rfl)), (h c).2⟩) (Cert.Reference4Ideal.Value.run (F := Ideal) m' g')⟩

end Cert.Proof.Proj4
-- ==== Proof.Proj5.lean ====
module

public import Idealize.ShloMosaic.Lib.Pipeline.ValueKit.Geometry
public import Idealize.ShloMosaic.Lib.VecWindow
public import Idealize.ShloMosaic.Lib.WritesUnit
public import Idealize.ShloMosaic.Lib.Quiescent
public import proofs.«01_k».proof.Defs
public import proofs.«01_k».proof.Proof.Blocks
public import proofs.«01_k».proof.Proof.Gen.Kernel5Ideal.Value
public import proofs.«01_k».proof.Proof.Gen.Reference5Ideal.Run

@[expose] public section

set_option maxRecDepth 16384
set_option maxHeartbeats 1000000

noncomputable section

/-! The gradient of the MLP's down weight: the blocked product is the whole product. -/

namespace Cert.Proof.Proj5

open Idealize.ShloMosaic Idealize.SL.Sem
open TcCoe Cert.Proof.Blocks

/-- The gradient at a position, from the entries of the activation's input and the cotangent. -/
def grad (U D : ℕ → ℕ → EReal) (a b : ℕ) : EReal := 0 + ∑ k ∈ Finset.range (2 * 1024), relu2 (U k a) * D k b

section Kernel

open Cert.Kernel5Ideal Cert.Kernel5Ideal.Gen

/-- A block's product, at an entry. -/
theorem pay1_at (x : Vec Ideal S1024x1024 .f32) (w : Vec Ideal S1024x1024 .f32) (r s : Fin 1024) : (k0_pay1 x w (ix2 r s) : EReal) = ∑ k : Fin 1024, relu2 (x (ix2 k r)) * (w (ix2 k s) : EReal) := by
  unfold k0_pay1
  pointwise
  rfl

theorem pay2_at (x : Vec Ideal S1024x1024 .f32) (w : Vec Ideal S1024x1024 .f32) (o : Vec Ideal S1024x1024 .f32) (i : S1024x1024.Idx) :
    (k0_pay2 x w o i : EReal) = (o i : EReal) + k0_pay1 x w i := by
  unfold k0_pay2
  rw [shapeCast_self]
  rfl

theorem out_A (c : Dev nD) (i : grid0.Coords) (a3 : Memref sig .tc .vmem S1024x1024 .f32) (h3 : a3.IsWhole) (a4 : Memref sig .tc .vmem S1024x1024 .f32) (h4 : a4.IsWhole) (a5 : Memref sig .tc .vmem S1024x1024 .f32) (h5 : a5.IsWhole)
    (hc : cond0_0 i) (hd : ¬cond0_1 i) (x w : Vec Ideal S1024x1024 .f32) :
    out0_A_2 c i a3 h3 a4 h4 a5 h5 hc hd x w = k0_pay1 x w := by
  unfold out0_A_2
  rw [View.read_writes_eq_canon _ _ _ (cover0_A_2 c i a3 h3 a4 h4 a5 h5 hc hd x w)]
  unfold kernelRun0_A
  dsimp only
  rw [View.canon_unit_zero origin]
  simp only [View.readAt_eq_ld, h3.read_unread, h4.read_unread, View.ld_unit_zero (S := S1024x1024) origin]

theorem out_B (c : Dev nD) (i : grid0.Coords) (a3 : Memref sig .tc .vmem S1024x1024 .f32) (h3 : a3.IsWhole) (a4 : Memref sig .tc .vmem S1024x1024 .f32) (h4 : a4.IsWhole) (a5 : Memref sig .tc .vmem S1024x1024 .f32) (h5 : a5.IsWhole)
    (hc : ¬cond0_0 i) (hd : cond0_1 i) (x w o : Vec Ideal S1024x1024 .f32) :
    out0_B_2 c i a3 h3 a4 h4 a5 h5 hc hd x w o = k0_pay2 x w o := by
  unfold out0_B_2
  rw [View.read_writes_eq_canon _ _ _ (cover0_B_2 c i a3 h3 a4 h4 a5 h5 hc hd x w o)]
  unfold kernelRun0_B
  dsimp only
  rw [View.canon_unit_zero origin]
  simp only [View.readAt_eq_ld, h3.read_unread, h4.read_unread, h5.read_unread, View.ld_unit_zero (S := S1024x1024) origin]

theorem index : ∀ t : Fin cfg0.N, win0_0.index t = ![t.val % 2, t.val / 2] ∧ win0_1.index t = ![t.val % 2, 0] ∧ win0_2.index t = ![t.val / 2, 0] := by
  decide +kernel

variable (m : (ℓ : Loc nD τ sig) → Buf (Elt Ideal) ℓ) (c : Dev nD)

/-- The input's and the cotangent's entries. -/
def U : ℕ → ℕ → EReal := entry (M := 2048) (N := 4096) (m ((c : Thread nD τ).loc main_arg0))
def D : ℕ → ℕ → EReal := entry (M := 2048) (N := 1024) (m ((c : Thread nD τ).loc main_arg1))

theorem blk_U (t : Fin cfg0.N) (k r : Fin 1024) : (iblk m c 0 t (ix2 k r) : EReal) = U m c (1024 * (t.val % 2) + k.val) (1024 * (t.val / 2) + r.val) :=
  entry_block (M := 2048) (N := 4096) (m ((c : Thread nD τ).loc main_arg0)) _ _ _ k.val r.val (index t).1 rfl (by blk_simp) (by blk_simp)

theorem blk_D (t : Fin cfg0.N) (k s : Fin 1024) : (iblk m c 1 t (ix2 k s) : EReal) = D m c (1024 * (t.val % 2) + k.val) s.val :=
  (entry_block (M := 2048) (N := 1024) (m ((c : Thread nD τ).loc main_arg1)) _ _ _ k.val s.val (index t).2.1 rfl (by blk_simp) (by blk_simp)).trans
    (congrArg (D m c _) (Nat.zero_add s.val))

/-- A point's product. -/
theorem pay_point (t : Fin cfg0.N) (r s : Fin 1024) : (k0_pay1 (iblk m c 0 t) (iblk m c 1 t) (ix2 r s) : EReal) = ∑ k : Fin 1024, relu2 (U m c (1024 * (t.val % 2) + k.val) (1024 * (t.val / 2) + r.val)) * D m c (1024 * (t.val % 2) + k.val) s.val :=
  (pay1_at _ _ r s).trans (Finset.sum_congr rfl fun k _ => by rw [blk_U, blk_D])

/-- The last point of a block's sum holds all of it. -/
theorem outs_last (t : Fin cfg0.N) (z : t.val % 2 + 1 = 2) (r s : Fin 1024) : (outsAt0 m c t.val t.isLt (ix2 r s) : EReal) =
    0 + ∑ k ∈ Finset.range (2 * 1024), relu2 (U m c k (1024 * (t.val / 2) + r.val)) * D m c k s.val :=
  fold_blocks 2 (by omega) cfg0.N (fun n h (i : Fin 1024 × Fin 1024) => (outsAt0 m c n h (ix2 i.1 i.2) : EReal))
    (fun q i => 0) (fun q i k => relu2 (U m c k (1024 * q + i.1.val)) * D m c k i.2.val)
    (fun n h i z => by
      show (outsAt0 m c n h (ix2 i.1 i.2) : EReal) = _
      rw [outsAt0_A m c ⟨n, h⟩ z (by show ¬n % 2 = 1; omega), out_A, pay_point, zero_add])
    (fun n h i z => by
      show (outsAt0 m c n h (ix2 i.1 i.2) : EReal) = _
      rw [outsAt0_B m c ⟨n, h⟩ z (by show n % 2 = 1; omega), out_B, pay2_at, pay_point])
    (r, s) t.val t.isLt z

/-- The kernel's result array. -/
theorem array : (dats m 0 c).arrAt 2 cfg0.N = matOf 4096 1024 (grad (U m c) (D m c)) := by
  refine (dats m 0 c).arrAt_eq_of_covers 2 _ (by decide +kernel) fun t hf y => ?_
  obtain ⟨r, s, rfl⟩ : ∃ (r s : Fin 1024), y = ix2 r s := ⟨_, _, eq_ix2 y⟩
  show (outsAt0 m c t.val t.isLt (ix2 r s) : EReal) = matOf 4096 1024 _ ((win0_2.blk t).view.emb (ix2 r s))
  rw [outs_last m c t (congrArg (· + 1) ((flush0_2 t).mp hf))]
  exact ((mat_block (M := 4096) (N := 1024) (grad (U m c) (D m c)) _ (t.val / 2) 0 r.val s.val (index t).2.2 rfl (by blk_simp) (by blk_simp)).trans (by
    simp only [Nat.mul_zero, Nat.zero_add]
    rfl)).symm

end Kernel

section Reference

open Cert.Reference5Ideal

/-- The reference's result, at an entry. -/
theorem ref_at (u : FVec Ideal S2048x4096 .f32) (d : FVec Ideal S2048x1024 .f32) :
    (transpose S4096x1024 [1, 0] (Host.dotGeneral (F := Ideal) dot_S2048x1024_S2048x4096_S1024x4096_0_0_1_1_n_n none d
      (mulf (maximumf u (broadcastInDim S2048x4096 ![] Gen.bcast_S_S2048x4096 (constant S_ .f32 0x00000000#32)))
        (maximumf u (broadcastInDim S2048x4096 ![] Gen.bcast_S_S2048x4096 (constant S_ .f32 0x00000000#32)))) : FVec Ideal S1024x4096 .f32)
      Gen.transposes_S1024x4096_S4096x1024_1_0 : FVec Ideal S4096x1024 .f32)
      = matOf 4096 1024 (grad (entry (M := 2048) (N := 4096) u) (entry (M := 2048) (N := 1024) d)) := by
  funext p
  obtain ⟨a, b, rfl⟩ : ∃ (a : Fin 4096) (b : Fin 1024), p = ix2 a b := ⟨_, _, eq_ix2 p⟩
  show _ = 0 + ∑ k ∈ Finset.range 2048, relu2 (entry (M := 2048) (N := 4096) u k a.val) * entry (M := 2048) (N := 1024) d k b.val
  rw [Finset.sum_range, zero_add]
  pointwise
  refine Finset.sum_congr rfl fun k _ => ?_
  rw [entry_at, entry_at]
  exact mul_comm _ _

end Reference

theorem frame_reference [hReference5Ideal : Cert.Reference5Ideal.Facts] : Cert.quiescent_Reference5Ideal := fun m ρ _ =>
  (θ_run Cert.Reference5Ideal.defs _ _).mono (fun r h => ⟨fun c => (h c).2, sem_eq_zero_of_no_sems (by decide) r.2⟩)
    (Cert.Reference5Ideal.Value.run (F := Ideal) m ρ)

theorem algebraic [hKernel5Ideal : Cert.Kernel5Ideal.Facts] [hReference5Ideal : Cert.Reference5Ideal.Facts] :
    Cert.algebraic_Kernel5Ideal_Reference5Ideal := fun m g m' g' _ hag =>
  ⟨fun c => matOf 4096 1024 (grad (U m c) (D m c)),
    (θ_run _ _ _).mono (fun _ h c => ⟨(h c).1.trans (array m c), (h c).2⟩) (Cert.Kernel5Ideal.Value.run_blocks m g),
    (θ_run _ _ _).mono (fun _ h c => ⟨(h c).1.trans ((ref_at _ _).trans (by
      obtain ⟨h0, h1⟩ := hag c
      rw [h0, h1]
      rfl)), (h c).2⟩) (Cert.Reference5Ideal.Value.run (F := Ideal) m' g')⟩

end Cert.Proof.Proj5
-- ==== Proof.Proj6.lean ====
module

public import Idealize.ShloMosaic.Lib.Pipeline.ValueKit.Geometry
public import Idealize.ShloMosaic.Lib.VecWindow
public import Idealize.ShloMosaic.Lib.WritesUnit
public import Idealize.ShloMosaic.Lib.Quiescent
public import proofs.«01_k».proof.Defs
public import proofs.«01_k».proof.Proof.Blocks
public import proofs.«01_k».proof.Proof.Gen.Kernel6Ideal.Value
public import proofs.«01_k».proof.Proof.Gen.Reference6Ideal.Run

@[expose] public section

set_option maxRecDepth 16384
set_option maxHeartbeats 1000000

noncomputable section

/-! The gradient of the MLP's up weight: the blocked product is the whole product, split into the chips' parts. -/

namespace Cert.Proof.Proj6

open Idealize.ShloMosaic Idealize.SL.Sem
open TcCoe Cert.Proof.Blocks

/-- The gradient at a position, from the entries of the input and the cotangent. -/
def grad (X D : ℕ → ℕ → EReal) (a b : ℕ) : EReal := 0 + ∑ k ∈ Finset.range (2 * 1024), X k a * D k b

/-- The chips' parts of the gradient: each has 1024 of the columns. -/
def parts (f : ℕ → ℕ → EReal) : (⟨3, ![4, 1024, 1024]⟩ : Shape).Idx → EReal := fun p => f (p 1).val (1024 * (p 0).val + (p 2).val)

theorem parts_block (f : ℕ → ℕ → EReal) (y : (⟨3, ![4, 1024, 1024]⟩ : Shape).Idx) {idx sz : Fin 3 → ℕ} (p a b : ℕ)
    (hi : idx = ![p, 0, 0]) (hs : sz = ![1, 1024, 1024]) (h0 : (y 0).val = idx 0 * sz 0 + 0) (h1 : (y 1).val = idx 1 * sz 1 + a)
    (h2 : (y 2).val = idx 2 * sz 2 + b) : parts f y = f a (1024 * p + b) := by
  subst hi hs
  exact congr (congrArg f (h1.trans (Nat.zero_add a)))
    (congr (congrArg (fun i j => 1024 * i + j) (h0.trans (Nat.mul_one p))) (h2.trans (Nat.zero_add b)))

section Kernel

open Cert.Kernel6Ideal Cert.Kernel6Ideal.Gen

/-- A block's product, at an entry. -/
theorem pay1_at (x : Vec Ideal S1024x1024 .f32) (w : Vec Ideal S1024x1024 .f32) (r s : Fin 1024) : (k0_pay1 x w (ix2 r s) : EReal) = ∑ k : Fin 1024, (x (ix2 k r) : EReal) * (w (ix2 k s) : EReal) := by
  unfold k0_pay1
  pointwise

theorem pay2_at (x w : Vec Ideal S1024x1024 .f32) (r s : Fin 1024) : (k0_pay2 x w (ix3 0 r s) : EReal) = k0_pay1 x w (ix2 r s) := by
  rw [pay1_at]
  unfold k0_pay2 k0_pay1
  pointwise

theorem pay3_at (x w : Vec Ideal S1024x1024 .f32) (o : Vec Ideal S1x1024x1024 .f32) (r s : Fin 1024) :
    (k0_pay3 x w o (ix3 0 r s) : EReal) = (o (ix3 0 r s) : EReal) + k0_pay1 x w (ix2 r s) := by
  rw [pay1_at]
  unfold k0_pay3 k0_pay1
  pointwise

theorem out_A (c : Dev nD) (i : grid0.Coords) (a3 : Memref sig .tc .vmem S1024x1024 .f32) (h3 : a3.IsWhole) (a4 : Memref sig .tc .vmem S1024x1024 .f32) (h4 : a4.IsWhole) (a5 : Memref sig .tc .vmem S1x1024x1024 .f32) (h5 : a5.IsWhole)
    (hc : cond0_0 i) (hd : ¬cond0_1 i) (x w : Vec Ideal S1024x1024 .f32) :
    out0_A_2 c i a3 h3 a4 h4 a5 h5 hc hd x w = k0_pay2 x w := by
  unfold out0_A_2
  rw [View.read_writes_eq_canon _ _ _ (cover0_A_2 c i a3 h3 a4 h4 a5 h5 hc hd x w)]
  unfold kernelRun0_A
  dsimp only
  rw [View.canon_unit_zero origin3]
  simp only [View.readAt_eq_ld, h3.read_unread, h4.read_unread, View.ld_unit_zero (S := S1024x1024) origin]

theorem out_B (c : Dev nD) (i : grid0.Coords) (a3 : Memref sig .tc .vmem S1024x1024 .f32) (h3 : a3.IsWhole) (a4 : Memref sig .tc .vmem S1024x1024 .f32) (h4 : a4.IsWhole) (a5 : Memref sig .tc .vmem S1x1024x1024 .f32) (h5 : a5.IsWhole)
    (hc : ¬cond0_0 i) (hd : cond0_1 i) (x w : Vec Ideal S1024x1024 .f32) (o : Vec Ideal S1x1024x1024 .f32) :
    out0_B_2 c i a3 h3 a4 h4 a5 h5 hc hd x w o = k0_pay3 x w o := by
  unfold out0_B_2
  rw [View.read_writes_eq_canon _ _ _ (cover0_B_2 c i a3 h3 a4 h4 a5 h5 hc hd x w o)]
  unfold kernelRun0_B
  dsimp only
  rw [View.canon_unit_zero origin3]
  simp only [View.readAt_eq_ld, h3.read_unread, h4.read_unread, h5.read_unread, View.ld_unit_zero (S := S1024x1024) origin, View.ld_unit_zero (S := S1x1024x1024) origin3]

theorem index : ∀ t : Fin cfg0.N, win0_0.index t = ![t.val % 2, 0] ∧ win0_1.index t = ![t.val % 2, t.val / 2] ∧ win0_2.index t = ![t.val / 2, 0, 0] := by
  decide +kernel

variable (m : (ℓ : Loc nD τ sig) → Buf (Elt Ideal) ℓ) (c : Dev nD)

/-- The input's and the cotangent's entries. -/
def X : ℕ → ℕ → EReal := entry (M := 2048) (N := 1024) (m ((c : Thread nD τ).loc main_arg0))
def D : ℕ → ℕ → EReal := entry (M := 2048) (N := 4096) (m ((c : Thread nD τ).loc main_arg1))

theorem blk_X (t : Fin cfg0.N) (k r : Fin 1024) : (iblk m c 0 t (ix2 k r) : EReal) = X m c (1024 * (t.val % 2) + k.val) r.val :=
  (entry_block (M := 2048) (N := 1024) (m ((c : Thread nD τ).loc main_arg0)) _ _ _ k.val r.val (index t).1 rfl (by blk_simp) (by blk_simp)).trans
    (congrArg (X m c _) (Nat.zero_add r.val))

theorem blk_D (t : Fin cfg0.N) (k s : Fin 1024) : (iblk m c 1 t (ix2 k s) : EReal) = D m c (1024 * (t.val % 2) + k.val) (1024 * (t.val / 2) + s.val) :=
  entry_block (M := 2048) (N := 4096) (m ((c : Thread nD τ).loc main_arg1)) _ _ _ k.val s.val (index t).2.1 rfl (by blk_simp) (by blk_simp)

/-- A point's product. -/
theorem pay_point (t : Fin cfg0.N) (r s : Fin 1024) : (k0_pay1 (iblk m c 0 t) (iblk m c 1 t) (ix2 r s) : EReal) = ∑ k : Fin 1024, X m c (1024 * (t.val % 2) + k.val) r.val * D m c (1024 * (t.val % 2) + k.val) (1024 * (t.val / 2) + s.val) :=
  (pay1_at _ _ r s).trans (Finset.sum_congr rfl fun k _ => by rw [blk_X, blk_D])

/-- The last point of a block's sum holds all of it. -/
theorem outs_last (t : Fin cfg0.N) (z : t.val % 2 + 1 = 2) (r s : Fin 1024) : (outsAt0 m c t.val t.isLt (ix3 0 r s) : EReal) =
    0 + ∑ k ∈ Finset.range (2 * 1024), X m c k r.val * D m c k (1024 * (t.val / 2) + s.val) :=
  fold_blocks 2 (by omega) cfg0.N (fun n h (i : Fin 1024 × Fin 1024) => (outsAt0 m c n h (ix3 0 i.1 i.2) : EReal))
    (fun q i => 0) (fun q i k => X m c k i.1.val * D m c k (1024 * q + i.2.val))
    (fun n h i z => by
      show (outsAt0 m c n h (ix3 0 i.1 i.2) : EReal) = _
      rw [outsAt0_A m c ⟨n, h⟩ z (by show ¬n % 2 = 1; omega), out_A, pay2_at, pay_point, zero_add])
    (fun n h i z => by
      show (outsAt0 m c n h (ix3 0 i.1 i.2) : EReal) = _
      rw [outsAt0_B m c ⟨n, h⟩ z (by show n % 2 = 1; omega), out_B, pay3_at, pay_point])
    (r, s) t.val t.isLt z

/-- The kernel's result array. -/
theorem array : (dats m 0 c).arrAt 2 cfg0.N = parts (grad (X m c) (D m c)) := by
  refine (dats m 0 c).arrAt_eq_of_covers 2 _ (by decide +kernel) fun t hf y => ?_
  obtain ⟨z, r, s, rfl⟩ : ∃ (z : Fin 1) (r s : Fin 1024), y = ix3 z r s := ⟨_, _, _, eq_ix3 y⟩
  obtain rfl : z = 0 := Subsingleton.elim _ _
  show (outsAt0 m c t.val t.isLt (ix3 0 r s) : EReal) = parts _ ((win0_2.blk t).view.emb (ix3 0 r s))
  rw [outs_last m c t (congrArg (· + 1) ((flush0_2 t).mp hf))]
  exact (parts_block (grad (X m c) (D m c)) _ (t.val / 2) r.val s.val (index t).2.2 rfl (by blk_simp; rfl) (by blk_simp) (by blk_simp)).symm

end Kernel

section Reference

open Cert.Reference6Ideal

/-- The reference's result, at an entry. -/
theorem ref_at (x : FVec Ideal S2048x1024 .f32) (d : FVec Ideal S2048x4096 .f32) :
    (transpose S4x1024x1024 [1, 0, 2] (shapeCast S1024x4x1024 (transpose S1024x4096 [1, 0]
      (Host.dotGeneral (F := Ideal) dot_S2048x4096_S2048x1024_S4096x1024_0_0_1_1_n_n none d x : FVec Ideal S4096x1024 .f32)
      Gen.transposes_S4096x1024_S1024x4096_1_0) Gen.shapeCasts_S1024x4096_S1024x4x1024) Gen.transposes_S1024x4x1024_S4x1024x1024_1_0_2 : FVec Ideal S4x1024x1024 .f32)
      = parts (grad (entry (M := 2048) (N := 1024) x) (entry (M := 2048) (N := 4096) d)) := by
  funext y
  obtain ⟨p, a, b, rfl⟩ : ∃ (p : Fin 4) (a b : Fin 1024), y = ix3 p a b := ⟨_, _, _, eq_ix3 y⟩
  show _ = 0 + ∑ k ∈ Finset.range 2048, entry (M := 2048) (N := 1024) x k a.val * entry (M := 2048) (N := 4096) d k (1024 * p.val + b.val)
  rw [Finset.sum_range, zero_add]
  pointwise
  refine Finset.sum_congr rfl fun k _ => ?_
  rw [entry_at, Nat.mul_comm 1024 p.val]
  exact (mul_comm _ _).trans (congrArg (_ * ·) (entry_at (M := 2048) (N := 4096) d k ⟨p.val * 1024 + b.val, by omega⟩).symm)

end Reference

theorem frame_reference [hReference6Ideal : Cert.Reference6Ideal.Facts] : Cert.quiescent_Reference6Ideal := fun m ρ _ =>
  (θ_run Cert.Reference6Ideal.defs _ _).mono (fun r h => ⟨fun c => (h c).2, sem_eq_zero_of_no_sems (by decide) r.2⟩)
    (Cert.Reference6Ideal.Value.run (F := Ideal) m ρ)

theorem algebraic [hKernel6Ideal : Cert.Kernel6Ideal.Facts] [hReference6Ideal : Cert.Reference6Ideal.Facts] :
    Cert.algebraic_Kernel6Ideal_Reference6Ideal := fun m g m' g' _ hag =>
  ⟨fun c => parts (grad (X m c) (D m c)),
    (θ_run _ _ _).mono (fun _ h c => ⟨(h c).1.trans (array m c), (h c).2⟩) (Cert.Kernel6Ideal.Value.run_blocks m g),
    (θ_run _ _ _).mono (fun _ h c => ⟨(h c).1.trans ((ref_at _ _).trans (by
      obtain ⟨h0, h1⟩ := hag c
      rw [h0, h1]
      rfl)), (h c).2⟩) (Cert.Reference6Ideal.Value.run (F := Ideal) m' g')⟩

end Cert.Proof.Proj6
-- ==== Proof.Proj7.lean ====
module

public import Idealize.ShloMosaic.Lib.Pipeline.ValueKit.Geometry
public import Idealize.ShloMosaic.Lib.VecWindow
public import Idealize.ShloMosaic.Lib.WritesUnit
public import Idealize.ShloMosaic.Lib.Quiescent
public import proofs.«01_k».proof.Defs
public import proofs.«01_k».proof.Proof.Blocks
public import proofs.«01_k».proof.Proof.Gen.Kernel7Ideal.Value
public import proofs.«01_k».proof.Proof.Gen.Reference7Ideal.Run

@[expose] public section

set_option maxRecDepth 16384
set_option maxHeartbeats 1000000

noncomputable section

/-! The MLP's up product: the blocked product is the whole product. -/

namespace Cert.Proof.Proj7

open Idealize.ShloMosaic Idealize.SL.Sem
open TcCoe Cert.Proof.Blocks

/-- The product at a position, from the entries of the input and the weight. -/
def prod (X W : ℕ → ℕ → EReal) (a b : ℕ) : EReal := ∑ k : Fin 1024, X a k.val * W k.val b

section Kernel

open Cert.Kernel7Ideal Cert.Kernel7Ideal.Gen

/-- A block's product, at an entry. -/
theorem pay1_at (x : Vec Ideal S1024x1024 .f32) (w : Vec Ideal S1x1x1024x1024 .bf16) (r s : Fin 1024) : (k0_pay1 x w (ix2 r s) : EReal) = ∑ k : Fin 1024, (x (ix2 r k) : EReal) * (w (ix4 0 0 k s) : EReal) := by
  unfold k0_pay1
  pointwise

theorem out_A (c : Dev nD) (i : grid0.Coords) (a3 : Memref sig .tc .vmem S1024x1024 .f32) (h3 : a3.IsWhole) (a4 : Memref sig .tc .vmem S1x1x1024x1024 .bf16) (h4 : a4.IsWhole) (a5 : Memref sig .tc .vmem S1024x1024 .f32) (h5 : a5.IsWhole)
    (hc : cond0_0 i) (x : Vec Ideal S1024x1024 .f32) (w : Vec Ideal S1x1x1024x1024 .bf16) :
    out0_A_2 c i a3 h3 a4 h4 a5 h5 hc x w = k0_pay1 x w := by
  unfold out0_A_2
  rw [View.read_writes_eq_canon _ _ _ (cover0_A_2 c i a3 h3 a4 h4 a5 h5 hc x w)]
  unfold kernelRun0_A
  dsimp only
  rw [View.canon_unit_zero origin]
  simp only [View.readAt_eq_ld, h3.read_unread, h4.read_unread, View.ld_unit_zero (S := S1024x1024) origin, View.ld_unit_zero (S := S1x1x1024x1024) origin4]

theorem index : ∀ t : Fin cfg0.N, win0_0.index t = ![t.val / 4, 0] ∧ win0_1.index t = ![t.val % 4, 0, 0, 0] ∧ win0_2.index t = ![t.val / 4, t.val % 4] := by
  decide +kernel

variable (m : (ℓ : Loc nD τ sig) → Buf (Elt Ideal) ℓ) (c : Dev nD)

/-- The input's entries, and the weight. -/
def X : ℕ → ℕ → EReal := entry (M := 2048) (N := 1024) (m ((c : Thread nD τ).loc main_arg0))
def W : Parts.Idx → EReal := m ((c : Thread nD τ).loc main_arg1)

theorem blk_X (t : Fin cfg0.N) (r k : Fin 1024) : (iblk m c 0 t (ix2 r k) : EReal) = X m c (1024 * (t.val / 4) + r.val) k.val :=
  (entry_block (M := 2048) (N := 1024) (m ((c : Thread nD τ).loc main_arg0)) _ _ _ r.val k.val (index t).1 rfl (by blk_simp) (by blk_simp)).trans
    (congrArg (X m c _) (Nat.zero_add k.val))

theorem blk_W (t : Fin cfg0.N) (k s : Fin 1024) : (iblk m c 1 t (ix4 0 0 k s) : EReal) = up (W m c) 0 k.val (1024 * (t.val % 4) + s.val) :=
  (part_block (W m c) 0 _ (t.val % 4) k s (index t).2.1 rfl (by blk_simp <;> rfl) (by blk_simp <;> rfl) (by blk_simp <;> rfl) (by blk_simp <;> rfl)).trans
    (up_block (W m c) 0 k.val (t.val % 4) s).symm

/-- A point's block of the result. -/
theorem outs_at (t : Fin cfg0.N) (r s : Fin 1024) : (outsAt0 m c t (ix2 r s) : EReal) =
    prod (X m c) (up (W m c) 0) (1024 * (t.val / 4) + r.val) (1024 * (t.val % 4) + s.val) := by
  unfold outsAt0
  rw [out_A]
  exact (pay1_at _ _ r s).trans (Finset.sum_congr rfl fun k _ => by rw [blk_X, blk_W])

attribute [local irreducible] outsAt0 in
/-- The kernel's result array. -/
theorem array : (dats m 0 c).arrAt 2 cfg0.N = matOf 2048 4096 (prod (X m c) (up (W m c) 0)) := by
  refine (dats m 0 c).arrAt_eq_of_covers 2 _ (by decide +kernel) fun t hf y => ?_
  obtain ⟨r, s, rfl⟩ : ∃ (r s : Fin 1024), y = ix2 r s := ⟨_, _, eq_ix2 y⟩
  show (outsAt0 m c t (ix2 r s) : EReal) = matOf 2048 4096 _ ((win0_2.blk t).view.emb (ix2 r s))
  rw [outs_at]
  exact ((mat_block (M := 2048) (N := 4096) (prod (X m c) (up (W m c) 0)) _ (t.val / 4) (t.val % 4) r.val s.val (index t).2.2 rfl (by blk_simp) (by blk_simp))).symm

end Kernel

section Reference

open Cert.Reference7Ideal

/-- The reference's result, for a layer's part of the weight. -/
theorem ref_at (x : FVec Ideal S2048x1024 .f32) (w : FVec Ideal S4x2x1024x1024 .bf16) (l : Fin 2) (v : FVec Ideal S4x1x1024x1024 .bf16)
    (hv : ∀ p a b, (v (ix4 p 0 a b) : EReal) = w (ix4 p l a b)) :
    (Host.dotGeneral (F := Ideal) dot_S2048x1024_S1024x4096_S2048x4096_1_0_0_1_n_n none x (extf (F := Ideal) .f32 (shapeCast S1024x4096 (transpose S1024x4x1024 [1, 0, 2] (shapeCast S4x1024x1024
      v Gen.shapeCasts_S4x1x1024x1024_S4x1024x1024)
      Gen.transposes_S4x1024x1024_S1024x4x1024_1_0_2) Gen.shapeCasts_S1024x4x1024_S1024x4096) Gen.bitsLt_bf16_f32) : FVec Ideal S2048x4096 .f32)
      = matOf 2048 4096 (prod (entry (M := 2048) (N := 1024) x) (up w l)) := by
  funext p
  obtain ⟨a, b, rfl⟩ : ∃ (a : Fin 2048) (b : Fin 4096), p = ix2 a b := ⟨_, _, eq_ix2 p⟩
  show _ = ∑ k : Fin 1024, entry (M := 2048) (N := 1024) x a.val k.val * up w l k.val b.val
  pointwise
  refine Finset.sum_congr rfl fun k _ => ?_
  rw [entry_at]
  exact congrArg (_ * ·) ((hv _ _ _).trans (up_at w l k b _ _))

end Reference

theorem frame_reference [hReference7Ideal : Cert.Reference7Ideal.Facts] : Cert.quiescent_Reference7Ideal := fun m ρ _ =>
  (θ_run Cert.Reference7Ideal.defs _ _).mono (fun r h => ⟨fun c => (h c).2, sem_eq_zero_of_no_sems (by decide) r.2⟩)
    (Cert.Reference7Ideal.Value.run (F := Ideal) m ρ)

theorem algebraic [hKernel7Ideal : Cert.Kernel7Ideal.Facts] [hReference7Ideal : Cert.Reference7Ideal.Facts] :
    Cert.algebraic_Kernel7Ideal_Reference7Ideal := fun m g m' g' _ hag =>
  ⟨fun c => matOf 2048 4096 (prod (X m c) (up (W m c) 0)),
    (θ_run _ _ _).mono (fun _ h c => ⟨(h c).1.trans (array m c), (h c).2⟩) (Cert.Kernel7Ideal.Value.run_blocks m g),
    (θ_run _ _ _).mono (fun _ h c => ⟨(h c).1.trans ((ref_at _ _ 0 _ (slice0_at _ _)).trans (by
      obtain ⟨h0, h1⟩ := hag c
      rw [h0, h1]
      rfl)), (h c).2⟩) (Cert.Reference7Ideal.Value.run (F := Ideal) m' g')⟩

end Cert.Proof.Proj7
-- ==== Proof.Proj8.lean ====
module

public import Idealize.ShloMosaic.Lib.Pipeline.ValueKit.Geometry
public import Idealize.ShloMosaic.Lib.VecWindow
public import Idealize.ShloMosaic.Lib.WritesUnit
public import Idealize.ShloMosaic.Lib.Quiescent
public import proofs.«01_k».proof.Defs
public import proofs.«01_k».proof.Proof.Blocks
public import proofs.«01_k».proof.Proof.Gen.Kernel8Ideal.Value
public import proofs.«01_k».proof.Proof.Gen.Reference8Ideal.Run

@[expose] public section

set_option maxRecDepth 16384
set_option maxHeartbeats 1000000

noncomputable section

/-! The MLP's down product: the blocked product is the whole product. -/

namespace Cert.Proof.Proj8

open Idealize.ShloMosaic Idealize.SL.Sem
open TcCoe Cert.Proof.Blocks

/-- The product at a position, from the entries of the activation's input and the weight. -/
def prod (U W : ℕ → ℕ → EReal) (a b : ℕ) : EReal := 0 + ∑ k ∈ Finset.range (4 * 1024), relu2 (U a k) * W k b

section Kernel

open Cert.Kernel8Ideal Cert.Kernel8Ideal.Gen

/-- A block's product, at an entry. -/
theorem pay1_at (x : Vec Ideal S1024x1024 .f32) (w : Vec Ideal S1x1x1024x1024 .bf16) (r s : Fin 1024) : (k0_pay1 x w (ix2 r s) : EReal) = ∑ k : Fin 1024, relu2 (x (ix2 r k)) * (w (ix4 0 0 k s) : EReal) := by
  unfold k0_pay1
  pointwise
  rfl

theorem pay2_at (x : Vec Ideal S1024x1024 .f32) (w : Vec Ideal S1x1x1024x1024 .bf16) (o : Vec Ideal S1024x1024 .f32) (i : S1024x1024.Idx) :
    (k0_pay2 x w o i : EReal) = (o i : EReal) + k0_pay1 x w i := by
  unfold k0_pay2
  rw [shapeCast_self]
  rfl

theorem out_A (c : Dev nD) (i : grid0.Coords) (a3 : Memref sig .tc .vmem S1024x1024 .f32) (h3 : a3.IsWhole) (a4 : Memref sig .tc .vmem S1x1x1024x1024 .bf16) (h4 : a4.IsWhole) (a5 : Memref sig .tc .vmem S1024x1024 .f32) (h5 : a5.IsWhole)
    (hc : cond0_0 i) (hd : ¬cond0_1 i) (x : Vec Ideal S1024x1024 .f32) (w : Vec Ideal S1x1x1024x1024 .bf16) :
    out0_A_2 c i a3 h3 a4 h4 a5 h5 hc hd x w = k0_pay1 x w := by
  unfold out0_A_2
  rw [View.read_writes_eq_canon _ _ _ (cover0_A_2 c i a3 h3 a4 h4 a5 h5 hc hd x w)]
  unfold kernelRun0_A
  dsimp only
  rw [View.canon_unit_zero origin]
  simp only [View.readAt_eq_ld, h3.read_unread, h4.read_unread, View.ld_unit_zero (S := S1024x1024) origin, View.ld_unit_zero (S := S1x1x1024x1024) origin4]

theorem out_B (c : Dev nD) (i : grid0.Coords) (a3 : Memref sig .tc .vmem S1024x1024 .f32) (h3 : a3.IsWhole) (a4 : Memref sig .tc .vmem S1x1x1024x1024 .bf16) (h4 : a4.IsWhole) (a5 : Memref sig .tc .vmem S1024x1024 .f32) (h5 : a5.IsWhole)
    (hc : ¬cond0_0 i) (hd : cond0_1 i) (x : Vec Ideal S1024x1024 .f32) (w : Vec Ideal S1x1x1024x1024 .bf16) (o : Vec Ideal S1024x1024 .f32) :
    out0_B_2 c i a3 h3 a4 h4 a5 h5 hc hd x w o = k0_pay2 x w o := by
  unfold out0_B_2
  rw [View.read_writes_eq_canon _ _ _ (cover0_B_2 c i a3 h3 a4 h4 a5 h5 hc hd x w o)]
  unfold kernelRun0_B
  dsimp only
  rw [View.canon_unit_zero origin]
  simp only [View.readAt_eq_ld, h3.read_unread, h4.read_unread, h5.read_unread, View.ld_unit_zero (S := S1024x1024) origin, View.ld_unit_zero (S := S1x1x1024x1024) origin4]

theorem index : ∀ t : Fin cfg0.N, win0_0.index t = ![t.val / 4, t.val % 4] ∧ win0_1.index t = ![t.val % 4, 0, 0, 0] ∧ win0_2.index t = ![t.val / 4, 0] := by
  decide +kernel

variable (m : (ℓ : Loc nD τ sig) → Buf (Elt Ideal) ℓ) (c : Dev nD)

/-- The input's entries, and the weight. -/
def U : ℕ → ℕ → EReal := entry (M := 2048) (N := 4096) (m ((c : Thread nD τ).loc main_arg0))
def W : Parts.Idx → EReal := m ((c : Thread nD τ).loc main_arg1)

theorem blk_U (t : Fin cfg0.N) (r k : Fin 1024) : (iblk m c 0 t (ix2 r k) : EReal) = U m c (1024 * (t.val / 4) + r.val) (1024 * (t.val % 4) + k.val) :=
  entry_block (M := 2048) (N := 4096) (m ((c : Thread nD τ).loc main_arg0)) _ _ _ r.val k.val (index t).1 rfl (by blk_simp) (by blk_simp)

theorem blk_W (t : Fin cfg0.N) (k s : Fin 1024) : (iblk m c 1 t (ix4 0 0 k s) : EReal) = down (W m c) 0 (1024 * (t.val % 4) + k.val) s.val :=
  (part_block (W m c) 0 _ (t.val % 4) k s (index t).2.1 rfl (by blk_simp <;> rfl) (by blk_simp <;> rfl) (by blk_simp <;> rfl) (by blk_simp <;> rfl)).trans
    (down_block (W m c) 0 (t.val % 4) k s.val).symm

/-- A point's product. -/
theorem pay_point (t : Fin cfg0.N) (r s : Fin 1024) : (k0_pay1 (iblk m c 0 t) (iblk m c 1 t) (ix2 r s) : EReal) = ∑ k : Fin 1024, relu2 (U m c (1024 * (t.val / 4) + r.val) (1024 * (t.val % 4) + k.val)) * down (W m c) 0 (1024 * (t.val % 4) + k.val) s.val :=
  (pay1_at _ _ r s).trans (Finset.sum_congr rfl fun k _ => by rw [blk_U, blk_W])

/-- The last point of a block's sum holds all of it. -/
theorem outs_last (t : Fin cfg0.N) (z : t.val % 4 + 1 = 4) (r s : Fin 1024) : (outsAt0 m c t.val t.isLt (ix2 r s) : EReal) =
    0 + ∑ k ∈ Finset.range (4 * 1024), relu2 (U m c (1024 * (t.val / 4) + r.val) k) * down (W m c) 0 k s.val :=
  fold_blocks 4 (by omega) cfg0.N (fun n h (i : Fin 1024 × Fin 1024) => (outsAt0 m c n h (ix2 i.1 i.2) : EReal))
    (fun q i => 0) (fun q i k => relu2 (U m c (1024 * q + i.1.val) k) * down (W m c) 0 k i.2.val)
    (fun n h i z => by
      show (outsAt0 m c n h (ix2 i.1 i.2) : EReal) = _
      rw [outsAt0_A m c ⟨n, h⟩ z (by show ¬1 ≤ n % 4; omega), out_A, pay_point, zero_add])
    (fun n h i z => by
      show (outsAt0 m c n h (ix2 i.1 i.2) : EReal) = _
      rw [outsAt0_B m c ⟨n, h⟩ z (by show 1 ≤ n % 4; omega), out_B, pay2_at, pay_point])
    (r, s) t.val t.isLt z

/-- The kernel's result array. -/
theorem array : (dats m 0 c).arrAt 2 cfg0.N = matOf 2048 1024 (prod (U m c) (down (W m c) 0)) := by
  refine (dats m 0 c).arrAt_eq_of_covers 2 _ (by decide +kernel) fun t hf y => ?_
  obtain ⟨r, s, rfl⟩ : ∃ (r s : Fin 1024), y = ix2 r s := ⟨_, _, eq_ix2 y⟩
  show (outsAt0 m c t.val t.isLt (ix2 r s) : EReal) = matOf 2048 1024 _ ((win0_2.blk t).view.emb (ix2 r s))
  rw [outs_last m c t (congrArg (· + 1) ((flush0_2 t).mp hf))]
  exact ((mat_block (M := 2048) (N := 1024) (prod (U m c) (down (W m c) 0)) _ (t.val / 4) 0 r.val s.val (index t).2.2 rfl (by blk_simp) (by blk_simp)).trans (by
    simp only [Nat.mul_zero, Nat.zero_add]
    rfl)).symm

end Kernel

section Reference

open Cert.Reference8Ideal

/-- The reference's result, for a layer's part of the weight. -/
theorem ref_at (u : FVec Ideal S2048x4096 .f32) (w : FVec Ideal S4x2x1024x1024 .bf16) (l : Fin 2) (v : FVec Ideal S4x1x1024x1024 .bf16)
    (hv : ∀ p a b, (v (ix4 p 0 a b) : EReal) = w (ix4 p l a b)) :
    (Host.dotGeneral (F := Ideal) dot_S2048x4096_S4096x1024_S2048x1024_1_0_0_1_n_n none
      (mulf (maximumf u (broadcastInDim S2048x4096 ![] Gen.bcast_S_S2048x4096 (constant S_ .f32 0x00000000#32)))
        (maximumf u (broadcastInDim S2048x4096 ![] Gen.bcast_S_S2048x4096 (constant S_ .f32 0x00000000#32)))) (extf (F := Ideal) .f32 (shapeCast S4096x1024 (shapeCast S4x1024x1024
      v Gen.shapeCasts_S4x1x1024x1024_S4x1024x1024)
      Gen.shapeCasts_S4x1024x1024_S4096x1024) Gen.bitsLt_bf16_f32) : FVec Ideal S2048x1024 .f32)
      = matOf 2048 1024 (prod (entry (M := 2048) (N := 4096) u) (down w l)) := by
  funext p
  obtain ⟨a, b, rfl⟩ : ∃ (a : Fin 2048) (b : Fin 1024), p = ix2 a b := ⟨_, _, eq_ix2 p⟩
  show _ = 0 + ∑ k ∈ Finset.range 4096, relu2 (entry (M := 2048) (N := 4096) u a.val k) * down w l k b.val
  rw [Finset.sum_range, zero_add]
  pointwise
  refine Finset.sum_congr rfl fun k _ => ?_
  rw [entry_at]
  exact congrArg (_ * ·) ((hv _ _ _).trans (down_at w l k b _ _))

end Reference

theorem frame_reference [hReference8Ideal : Cert.Reference8Ideal.Facts] : Cert.quiescent_Reference8Ideal := fun m ρ _ =>
  (θ_run Cert.Reference8Ideal.defs _ _).mono (fun r h => ⟨fun c => (h c).2, sem_eq_zero_of_no_sems (by decide) r.2⟩)
    (Cert.Reference8Ideal.Value.run (F := Ideal) m ρ)

theorem algebraic [hKernel8Ideal : Cert.Kernel8Ideal.Facts] [hReference8Ideal : Cert.Reference8Ideal.Facts] :
    Cert.algebraic_Kernel8Ideal_Reference8Ideal := fun m g m' g' _ hag =>
  ⟨fun c => matOf 2048 1024 (prod (U m c) (down (W m c) 0)),
    (θ_run _ _ _).mono (fun _ h c => ⟨(h c).1.trans (array m c), (h c).2⟩) (Cert.Kernel8Ideal.Value.run_blocks m g),
    (θ_run _ _ _).mono (fun _ h c => ⟨(h c).1.trans ((ref_at _ _ 0 _ (slice0_at _ _)).trans (by
      obtain ⟨h0, h1⟩ := hag c
      rw [h0, h1]
      rfl)), (h c).2⟩) (Cert.Reference8Ideal.Value.run (F := Ideal) m' g')⟩

end Cert.Proof.Proj8
-- ==== Proof.Proj9.lean ====
module

public import Idealize.ShloMosaic.Lib.Pipeline.ValueKit.Geometry
public import Idealize.ShloMosaic.Lib.VecWindow
public import Idealize.ShloMosaic.Lib.WritesUnit
public import Idealize.ShloMosaic.Lib.Quiescent
public import proofs.«01_k».proof.Defs
public import proofs.«01_k».proof.Proof.Blocks
public import proofs.«01_k».proof.Proof.Gen.Kernel9Ideal.Value
public import proofs.«01_k».proof.Proof.Gen.Reference9Ideal.Run

@[expose] public section

set_option maxRecDepth 16384
set_option maxHeartbeats 1000000

noncomputable section

/-! The gradient of the MLP's activation's input: the blocked product times the activation's derivative. -/

namespace Cert.Proof.Proj9

open Idealize.ShloMosaic Idealize.SL.Sem
open TcCoe Cert.Proof.Blocks

/-- The product of the cotangent with the weight, at a position. -/
def prod (D W : ℕ → ℕ → EReal) (a b : ℕ) : EReal := ∑ k : Fin 1024, D a k.val * W b k.val

/-- The gradient at a position, from the entries of the cotangent, the weight and the activation's input. -/
def grad (D W U : ℕ → ℕ → EReal) (a b : ℕ) : EReal := prod D W a b * (Ideal.ofBits FTy.f32 0x40000000#32 * max (U a b) 0)

section Kernel

open Cert.Kernel9Ideal Cert.Kernel9Ideal.Gen

/-- A block's product, at an entry. -/
theorem pay1_at (x : Vec Ideal S1024x1024 .f32) (w : Vec Ideal S1x1x1024x1024 .bf16) (r s : Fin 1024) : (k0_pay1 x w (ix2 r s) : EReal) = ∑ k : Fin 1024, (x (ix2 r k) : EReal) * (w (ix4 0 0 s k) : EReal) := by
  unfold k0_pay1
  pointwise

theorem pay2_at (o u : Vec Ideal S1024x1024 .f32) (r s : Fin 1024) :
    (k0_pay2 o u (ix2 r s) : EReal) = (o (ix2 r s) : EReal) * (Ideal.ofBits FTy.f32 0x40000000#32 * max (u (ix2 r s) : EReal) 0) := by
  unfold k0_pay2
  pointwise

theorem out_A (c : Dev nD) (i : grid0.Coords) (a3 : Memref sig .tc .vmem S1024x1024 .f32) (h3 : a3.IsWhole) (a4 : Memref sig .tc .vmem S1x1x1024x1024 .bf16) (h4 : a4.IsWhole) (a5 : Memref sig .tc .vmem S1024x1024 .f32) (h5 : a5.IsWhole) (a6 : Memref sig .tc .vmem S1024x1024 .f32) (h6 : a6.IsWhole)
    (hc : cond0_0 i) (hd : cond0_1 i) (x : Vec Ideal S1024x1024 .f32) (w : Vec Ideal S1x1x1024x1024 .bf16) (u : Vec Ideal S1024x1024 .f32) :
    out0_A_3 c i a3 h3 a4 h4 a5 h5 a6 h6 hc hd x w u = k0_pay2 (k0_pay1 x w) u := by
  unfold out0_A_3
  rw [View.read_writes_eq_canon _ _ _ (cover0_A_3 c i a3 h3 a4 h4 a5 h5 a6 h6 hc hd x w u)]
  unfold kernelRun0_A
  dsimp only
  rw [View.canon_cons_unit_zero origin]
  sl_unfold_words
  rw [View.readCov_unit_zero _ origin]
  simp only [View.readAt_eq_ld, h3.read_unread, h4.read_unread, h5.read_unread, View.ld_unit_zero (S := S1024x1024) origin, View.ld_unit_zero (S := S1x1x1024x1024) origin4]

theorem index : ∀ t : Fin cfg0.N, win0_0.index t = ![t.val / 4, 0] ∧ win0_1.index t = ![t.val % 4, 0, 0, 0] ∧ win0_2.index t = ![t.val / 4, t.val % 4] ∧ win0_3.index t = ![t.val / 4, t.val % 4] := by
  decide +kernel

variable (m : (ℓ : Loc nD τ sig) → Buf (Elt Ideal) ℓ) (c : Dev nD)

/-- The cotangent's and the input's entries, and the weight. -/
def D : ℕ → ℕ → EReal := entry (M := 2048) (N := 1024) (m ((c : Thread nD τ).loc main_arg0))
def U : ℕ → ℕ → EReal := entry (M := 2048) (N := 4096) (m ((c : Thread nD τ).loc main_arg2))
def W : Parts.Idx → EReal := m ((c : Thread nD τ).loc main_arg1)

theorem blk_D (t : Fin cfg0.N) (r k : Fin 1024) : (iblk m c 0 t (ix2 r k) : EReal) = D m c (1024 * (t.val / 4) + r.val) k.val :=
  (entry_block (M := 2048) (N := 1024) (m ((c : Thread nD τ).loc main_arg0)) _ _ _ r.val k.val (index t).1 rfl (by blk_simp) (by blk_simp)).trans
    (congrArg (D m c _) (Nat.zero_add k.val))

theorem blk_W (t : Fin cfg0.N) (s k : Fin 1024) : (iblk m c 1 t (ix4 0 0 s k) : EReal) = down (W m c) 0 (1024 * (t.val % 4) + s.val) k.val :=
  (part_block (W m c) 0 _ (t.val % 4) s k (index t).2.1 rfl (by blk_simp <;> rfl) (by blk_simp <;> rfl) (by blk_simp <;> rfl) (by blk_simp <;> rfl)).trans
    (down_block (W m c) 0 (t.val % 4) s k.val).symm

theorem blk_U (t : Fin cfg0.N) (r s : Fin 1024) : (iblk m c 2 t (ix2 r s) : EReal) = U m c (1024 * (t.val / 4) + r.val) (1024 * (t.val % 4) + s.val) :=
  entry_block (M := 2048) (N := 4096) (m ((c : Thread nD τ).loc main_arg2)) _ _ _ r.val s.val (index t).2.2.1 rfl (by blk_simp) (by blk_simp)

/-- A point's block of the result. -/
theorem outs_at (t : Fin cfg0.N) (r s : Fin 1024) : (outsAt0 m c t (ix2 r s) : EReal) =
    grad (D m c) (down (W m c) 0) (U m c) (1024 * (t.val / 4) + r.val) (1024 * (t.val % 4) + s.val) := by
  unfold outsAt0
  rw [out_A, pay2_at, blk_U]
  exact congrArg (· * _) ((pay1_at _ _ r s).trans (Finset.sum_congr rfl fun k _ => by rw [blk_D, blk_W]))

attribute [local irreducible] outsAt0 in
/-- The kernel's result array. -/
theorem array : (dats m 0 c).arrAt 3 cfg0.N = matOf 2048 4096 (grad (D m c) (down (W m c) 0) (U m c)) := by
  refine (dats m 0 c).arrAt_eq_of_covers 3 _ (by decide +kernel) fun t hf y => ?_
  obtain ⟨r, s, rfl⟩ : ∃ (r s : Fin 1024), y = ix2 r s := ⟨_, _, eq_ix2 y⟩
  show (outsAt0 m c t (ix2 r s) : EReal) = matOf 2048 4096 _ ((win0_3.blk t).view.emb (ix2 r s))
  rw [outs_at]
  exact ((mat_block (M := 2048) (N := 4096) (grad (D m c) (down (W m c) 0) (U m c)) _ (t.val / 4) (t.val % 4) r.val s.val (index t).2.2.2 rfl (by blk_simp) (by blk_simp))).symm

end Kernel

section Reference

open Cert.Reference9Ideal

/-- The reference's result, for a layer's part of the weight. -/
theorem ref_at (d : FVec Ideal S2048x1024 .f32) (w : FVec Ideal S4x2x1024x1024 .bf16) (l : Fin 2) (v : FVec Ideal S4x1x1024x1024 .bf16)
    (hv : ∀ p a b, (v (ix4 p 0 a b) : EReal) = w (ix4 p l a b)) (u : FVec Ideal S2048x4096 .f32) :
    (select (cmpf .ogt u (broadcastInDim S2048x4096 ![] Gen.bcast_S_S2048x4096 (constant S_ .f32 0x00000000#32)))
      (mulf (Host.dotGeneral (F := Ideal) dot_S2048x1024_S4096x1024_S2048x4096_1_1_0_0_n_n none d (extf (F := Ideal) .f32 (shapeCast S4096x1024 (shapeCast S4x1024x1024
      v Gen.shapeCasts_S4x1x1024x1024_S4x1024x1024)
      Gen.shapeCasts_S4x1024x1024_S4096x1024) Gen.bitsLt_bf16_f32))
        (mulf (broadcastInDim S2048x4096 ![] Gen.bcast_S_S2048x4096 (constant S_ .f32 0x40000000#32)) (maximumf u (broadcastInDim S2048x4096 ![] Gen.bcast_S_S2048x4096 (constant S_ .f32 0x00000000#32)))))
      (broadcastInDim S2048x4096 ![] Gen.bcast_S_S2048x4096 (constant S_ .f32 0x00000000#32)) : FVec Ideal S2048x4096 .f32)
      = matOf 2048 4096 (grad (entry (M := 2048) (N := 1024) d) (down w l) (entry (M := 2048) (N := 4096) u)) := by
  funext p
  obtain ⟨a, b, rfl⟩ : ∃ (a : Fin 2048) (b : Fin 4096), p = ix2 a b := ⟨_, _, eq_ix2 p⟩
  show _ = prod (entry (M := 2048) (N := 1024) d) (down w l) a.val b.val * (Ideal.ofBits FTy.f32 0x40000000#32 * max (entry (M := 2048) (N := 4096) u a.val b.val) 0)
  unfold prod
  rw [entry_at]
  pointwise
  refine (relu2_grad _ _ _).trans (congrArg (· * _) (Finset.sum_congr rfl fun k _ => ?_))
  rw [entry_at]
  exact congrArg (_ * ·) ((hv _ _ _).trans (down_at w l b k _ _))

end Reference

theorem frame_reference [hReference9Ideal : Cert.Reference9Ideal.Facts] : Cert.quiescent_Reference9Ideal := fun m ρ _ =>
  (θ_run Cert.Reference9Ideal.defs _ _).mono (fun r h => ⟨fun c => (h c).2, sem_eq_zero_of_no_sems (by decide) r.2⟩)
    (Cert.Reference9Ideal.Value.run (F := Ideal) m ρ)

theorem algebraic [hKernel9Ideal : Cert.Kernel9Ideal.Facts] [hReference9Ideal : Cert.Reference9Ideal.Facts] :
    Cert.algebraic_Kernel9Ideal_Reference9Ideal := fun m g m' g' _ hag =>
  ⟨fun c => matOf 2048 4096 (grad (D m c) (down (W m c) 0) (U m c)),
    (θ_run _ _ _).mono (fun _ h c => ⟨(h c).1.trans (array m c), (h c).2⟩) (Cert.Kernel9Ideal.Value.run_blocks m g),
    (θ_run _ _ _).mono (fun _ h c => ⟨(h c).1.trans ((ref_at _ _ 0 _ (slice0_at _ _) _).trans (by
      obtain ⟨h0, h1, h2⟩ := hag c
      rw [h0, h1, h2]
      rfl)), (h c).2⟩) (Cert.Reference9Ideal.Value.run (F := Ideal) m' g')⟩

end Cert.Proof.Proj9
-- ==== Proof.Proj10.lean ====
module

public import Idealize.ShloMosaic.Lib.Pipeline.ValueKit.Geometry
public import Idealize.ShloMosaic.Lib.VecWindow
public import Idealize.ShloMosaic.Lib.WritesUnit
public import Idealize.ShloMosaic.Lib.Quiescent
public import proofs.«01_k».proof.Defs
public import proofs.«01_k».proof.Proof.Blocks
public import proofs.«01_k».proof.Proof.Gen.Kernel10Ideal.Value
public import proofs.«01_k».proof.Proof.Gen.Reference10Ideal.Run

@[expose] public section

set_option maxRecDepth 16384
set_option maxHeartbeats 1000000

noncomputable section

/-! The MLP's gradient with respect to its input: the blocked product with the addend is the whole product with it. -/

namespace Cert.Proof.Proj10

open Idealize.ShloMosaic Idealize.SL.Sem
open TcCoe Cert.Proof.Blocks

/-- The gradient at a position, from the entries of the cotangent, the weight and the addend. -/
def grad (D W X : ℕ → ℕ → EReal) (a b : ℕ) : EReal := X a b + ∑ k ∈ Finset.range (4 * 1024), D a k * W b k

section Kernel

open Cert.Kernel10Ideal Cert.Kernel10Ideal.Gen

/-- A block's product, at an entry. -/
theorem pay1_at (x : Vec Ideal S1024x1024 .f32) (w : Vec Ideal S1x1x1024x1024 .bf16) (r s : Fin 1024) : (k0_pay1 x w (ix2 r s) : EReal) = ∑ k : Fin 1024, (x (ix2 r k) : EReal) * (w (ix4 0 0 s k) : EReal) := by
  unfold k0_pay1
  pointwise

theorem pay2_at (x : Vec Ideal S1024x1024 .f32) (w : Vec Ideal S1x1x1024x1024 .bf16) (d : Vec Ideal S1024x1024 .f32) (i : S1024x1024.Idx) :
    (k0_pay2 x w d i : EReal) = (d i : EReal) + k0_pay1 x w i := by
  unfold k0_pay2
  exact add_comm (k0_pay1 x w i : EReal) (d i)

theorem pay3_at (x : Vec Ideal S1024x1024 .f32) (w : Vec Ideal S1x1x1024x1024 .bf16) (o : Vec Ideal S1024x1024 .f32) (i : S1024x1024.Idx) :
    (k0_pay3 x w o i : EReal) = (o i : EReal) + k0_pay1 x w i := by
  unfold k0_pay3
  rw [shapeCast_self]
  rfl

theorem out_A (c : Dev nD) (i : grid0.Coords) (a3 : Memref sig .tc .vmem S1024x1024 .f32) (h3 : a3.IsWhole) (a4 : Memref sig .tc .vmem S1x1x1024x1024 .bf16) (h4 : a4.IsWhole) (a5 : Memref sig .tc .vmem S1024x1024 .f32) (h5 : a5.IsWhole) (a6 : Memref sig .tc .vmem S1024x1024 .f32) (h6 : a6.IsWhole)
    (hc : cond0_0 i) (hd : ¬cond0_1 i) (x : Vec Ideal S1024x1024 .f32) (w : Vec Ideal S1x1x1024x1024 .bf16) (d : Vec Ideal S1024x1024 .f32) :
    out0_A_3 c i a3 h3 a4 h4 a5 h5 a6 h6 hc hd x w d = k0_pay2 x w d := by
  unfold out0_A_3
  rw [View.read_writes_eq_canon _ _ _ (cover0_A_3 c i a3 h3 a4 h4 a5 h5 a6 h6 hc hd x w d)]
  unfold kernelRun0_A
  dsimp only
  rw [View.canon_unit_zero origin]
  simp only [View.readAt_eq_ld, h3.read_unread, h4.read_unread, h5.read_unread, View.ld_unit_zero (S := S1024x1024) origin, View.ld_unit_zero (S := S1x1x1024x1024) origin4]

theorem out_B (c : Dev nD) (i : grid0.Coords) (a3 : Memref sig .tc .vmem S1024x1024 .f32) (h3 : a3.IsWhole) (a4 : Memref sig .tc .vmem S1x1x1024x1024 .bf16) (h4 : a4.IsWhole) (a5 : Memref sig .tc .vmem S1024x1024 .f32) (h5 : a5.IsWhole) (a6 : Memref sig .tc .vmem S1024x1024 .f32) (h6 : a6.IsWhole)
    (hc : ¬cond0_0 i) (hd : cond0_1 i) (x : Vec Ideal S1024x1024 .f32) (w : Vec Ideal S1x1x1024x1024 .bf16) (d o : Vec Ideal S1024x1024 .f32) :
    out0_B_3 c i a3 h3 a4 h4 a5 h5 a6 h6 hc hd x w d o = k0_pay3 x w o := by
  unfold out0_B_3
  rw [View.read_writes_eq_canon _ _ _ (cover0_B_3 c i a3 h3 a4 h4 a5 h5 a6 h6 hc hd x w d o)]
  unfold kernelRun0_B
  dsimp only
  rw [View.canon_unit_zero origin]
  simp only [View.readAt_eq_ld, h3.read_unread, h4.read_unread, h6.read_unread, View.ld_unit_zero (S := S1024x1024) origin, View.ld_unit_zero (S := S1x1x1024x1024) origin4]

theorem index : ∀ t : Fin cfg0.N, win0_0.index t = ![t.val / 4, t.val % 4] ∧ win0_1.index t = ![t.val % 4, 0, 0, 0] ∧ win0_2.index t = ![t.val / 4, 0] ∧ win0_3.index t = ![t.val / 4, 0] := by
  decide +kernel

variable (m : (ℓ : Loc nD τ sig) → Buf (Elt Ideal) ℓ) (c : Dev nD)

/-- The cotangent's and the addend's entries, and the weight. -/
def D : ℕ → ℕ → EReal := entry (M := 2048) (N := 4096) (m ((c : Thread nD τ).loc main_arg0))
def X : ℕ → ℕ → EReal := entry (M := 2048) (N := 1024) (m ((c : Thread nD τ).loc main_arg2))
def W : Parts.Idx → EReal := m ((c : Thread nD τ).loc main_arg1)

theorem blk_D (t : Fin cfg0.N) (r k : Fin 1024) : (iblk m c 0 t (ix2 r k) : EReal) = D m c (1024 * (t.val / 4) + r.val) (1024 * (t.val % 4) + k.val) :=
  entry_block (M := 2048) (N := 4096) (m ((c : Thread nD τ).loc main_arg0)) _ _ _ r.val k.val (index t).1 rfl (by blk_simp) (by blk_simp)

theorem blk_W (t : Fin cfg0.N) (s k : Fin 1024) : (iblk m c 1 t (ix4 0 0 s k) : EReal) = up (W m c) 0 s.val (1024 * (t.val % 4) + k.val) :=
  (part_block (W m c) 0 _ (t.val % 4) s k (index t).2.1 rfl (by blk_simp <;> rfl) (by blk_simp <;> rfl) (by blk_simp <;> rfl) (by blk_simp <;> rfl)).trans
    (up_block (W m c) 0 s.val (t.val % 4) k).symm

theorem blk_X (t : Fin cfg0.N) (r s : Fin 1024) : (iblk m c 2 t (ix2 r s) : EReal) = X m c (1024 * (t.val / 4) + r.val) s.val :=
  (entry_block (M := 2048) (N := 1024) (m ((c : Thread nD τ).loc main_arg2)) _ _ _ r.val s.val (index t).2.2.1 rfl (by blk_simp) (by blk_simp)).trans
    (congrArg (X m c _) (Nat.zero_add s.val))

/-- A point's product. -/
theorem pay_point (t : Fin cfg0.N) (r s : Fin 1024) : (k0_pay1 (iblk m c 0 t) (iblk m c 1 t) (ix2 r s) : EReal) = ∑ k : Fin 1024, D m c (1024 * (t.val / 4) + r.val) (1024 * (t.val % 4) + k.val) * up (W m c) 0 s.val (1024 * (t.val % 4) + k.val) :=
  (pay1_at _ _ r s).trans (Finset.sum_congr rfl fun k _ => by rw [blk_D, blk_W])

/-- The last point of a block's sum holds all of it. -/
theorem outs_last (t : Fin cfg0.N) (z : t.val % 4 + 1 = 4) (r s : Fin 1024) : (outsAt0 m c t.val t.isLt (ix2 r s) : EReal) =
    X m c (1024 * (t.val / 4) + r.val) s.val + ∑ k ∈ Finset.range (4 * 1024), D m c (1024 * (t.val / 4) + r.val) k * up (W m c) 0 s.val k :=
  fold_blocks 4 (by omega) cfg0.N (fun n h (i : Fin 1024 × Fin 1024) => (outsAt0 m c n h (ix2 i.1 i.2) : EReal))
    (fun q i => X m c (1024 * q + i.1.val) i.2.val) (fun q i k => D m c (1024 * q + i.1.val) k * up (W m c) 0 i.2.val k)
    (fun n h i z => by
      show (outsAt0 m c n h (ix2 i.1 i.2) : EReal) = _
      rw [outsAt0_A m c ⟨n, h⟩ z (by show ¬1 ≤ n % 4; omega), out_A, pay2_at, pay_point, blk_X])
    (fun n h i z => by
      show (outsAt0 m c n h (ix2 i.1 i.2) : EReal) = _
      rw [outsAt0_B m c ⟨n, h⟩ z (by show 1 ≤ n % 4; omega), out_B, pay3_at, pay_point])
    (r, s) t.val t.isLt z

/-- The kernel's result array. -/
theorem array : (dats m 0 c).arrAt 3 cfg0.N = matOf 2048 1024 (grad (D m c) (up (W m c) 0) (X m c)) := by
  refine (dats m 0 c).arrAt_eq_of_covers 3 _ (by decide +kernel) fun t hf y => ?_
  obtain ⟨r, s, rfl⟩ : ∃ (r s : Fin 1024), y = ix2 r s := ⟨_, _, eq_ix2 y⟩
  show (outsAt0 m c t.val t.isLt (ix2 r s) : EReal) = matOf 2048 1024 _ ((win0_3.blk t).view.emb (ix2 r s))
  rw [outs_last m c t (congrArg (· + 1) ((flush0_3 t).mp hf))]
  exact ((mat_block (M := 2048) (N := 1024) (grad (D m c) (up (W m c) 0) (X m c)) _ (t.val / 4) 0 r.val s.val (index t).2.2.2 rfl (by blk_simp) (by blk_simp)).trans (by
    simp only [Nat.mul_zero, Nat.zero_add]
    rfl)).symm

end Kernel

section Reference

open Cert.Reference10Ideal

/-- The reference's result, for a layer's part of the weight. -/
theorem ref_at (d : FVec Ideal S2048x4096 .f32) (w : FVec Ideal S4x2x1024x1024 .bf16) (l : Fin 2) (v : FVec Ideal S4x1x1024x1024 .bf16)
    (hv : ∀ p a b, (v (ix4 p 0 a b) : EReal) = w (ix4 p l a b)) (x : FVec Ideal S2048x1024 .f32) :
    (addf x (Host.dotGeneral (F := Ideal) dot_S2048x4096_S1024x4096_S2048x1024_1_1_0_0_n_n none d (extf (F := Ideal) .f32 (shapeCast S1024x4096 (transpose S1024x4x1024 [1, 0, 2] (shapeCast S4x1024x1024
      v Gen.shapeCasts_S4x1x1024x1024_S4x1024x1024)
      Gen.transposes_S4x1024x1024_S1024x4x1024_1_0_2) Gen.shapeCasts_S1024x4x1024_S1024x4096) Gen.bitsLt_bf16_f32)) : FVec Ideal S2048x1024 .f32)
      = matOf 2048 1024 (grad (entry (M := 2048) (N := 4096) d) (up w l) (entry (M := 2048) (N := 1024) x)) := by
  funext p
  obtain ⟨a, b, rfl⟩ : ∃ (a : Fin 2048) (b : Fin 1024), p = ix2 a b := ⟨_, _, eq_ix2 p⟩
  show _ = entry (M := 2048) (N := 1024) x a.val b.val + ∑ k ∈ Finset.range 4096, entry (M := 2048) (N := 4096) d a.val k * up w l b.val k
  rw [Finset.sum_range, entry_at]
  pointwise
  refine congrArg (_ + ·) (Finset.sum_congr rfl fun k _ => ?_)
  rw [entry_at]
  exact congrArg (_ * ·) ((hv _ _ _).trans (up_at w l b k _ _))

end Reference

theorem frame_reference [hReference10Ideal : Cert.Reference10Ideal.Facts] : Cert.quiescent_Reference10Ideal := fun m ρ _ =>
  (θ_run Cert.Reference10Ideal.defs _ _).mono (fun r h => ⟨fun c => (h c).2, sem_eq_zero_of_no_sems (by decide) r.2⟩)
    (Cert.Reference10Ideal.Value.run (F := Ideal) m ρ)

theorem algebraic [hKernel10Ideal : Cert.Kernel10Ideal.Facts] [hReference10Ideal : Cert.Reference10Ideal.Facts] :
    Cert.algebraic_Kernel10Ideal_Reference10Ideal := fun m g m' g' _ hag =>
  ⟨fun c => matOf 2048 1024 (grad (D m c) (up (W m c) 0) (X m c)),
    (θ_run _ _ _).mono (fun _ h c => ⟨(h c).1.trans (array m c), (h c).2⟩) (Cert.Kernel10Ideal.Value.run_blocks m g),
    (θ_run _ _ _).mono (fun _ h c => ⟨(h c).1.trans ((ref_at _ _ 0 _ (slice0_at _ _) _).trans (by
      obtain ⟨h0, h1, h2⟩ := hag c
      rw [h0, h1, h2]
      rfl)), (h c).2⟩) (Cert.Reference10Ideal.Value.run (F := Ideal) m' g')⟩

end Cert.Proof.Proj10
-- ==== Proof.Proj11.lean ====
module

public import Idealize.ShloMosaic.Lib.Pipeline.ValueKit.Geometry
public import Idealize.ShloMosaic.Lib.VecWindow
public import Idealize.ShloMosaic.Lib.WritesUnit
public import Idealize.ShloMosaic.Lib.Quiescent
public import proofs.«01_k».proof.Defs
public import proofs.«01_k».proof.Proof.Proj7
public import proofs.«01_k».proof.Proof.Gen.Kernel11Ideal.Value
public import proofs.«01_k».proof.Proof.Gen.Reference11Ideal.Run

@[expose] public section

set_option maxRecDepth 16384
set_option maxHeartbeats 400000

noncomputable section

/-! The second layer's up product; the block's product and the reference's reading are those of the first layer. -/

namespace Cert.Proof.Proj11

open Idealize.ShloMosaic Idealize.SL.Sem
open TcCoe Cert.Proof.Blocks

section Kernel

open Cert.Kernel11Ideal Cert.Kernel11Ideal.Gen

theorem out_A (c : Dev nD) (i : grid0.Coords) (a3 : Memref sig .tc .vmem S1024x1024 .f32) (h3 : a3.IsWhole) (a4 : Memref sig .tc .vmem S1x1x1024x1024 .bf16) (h4 : a4.IsWhole) (a5 : Memref sig .tc .vmem S1024x1024 .f32) (h5 : a5.IsWhole)
    (hc : cond0_0 i) (x : Vec Ideal S1024x1024 .f32) (w : Vec Ideal S1x1x1024x1024 .bf16) :
    out0_A_2 c i a3 h3 a4 h4 a5 h5 hc x w = k0_pay1 x w := by
  unfold out0_A_2
  rw [View.read_writes_eq_canon _ _ _ (cover0_A_2 c i a3 h3 a4 h4 a5 h5 hc x w)]
  unfold kernelRun0_A
  dsimp only
  rw [View.canon_unit_zero origin]
  simp only [View.readAt_eq_ld, h3.read_unread, h4.read_unread, View.ld_unit_zero (S := S1024x1024) origin, View.ld_unit_zero (S := S1x1x1024x1024) origin4]

theorem index : ∀ t : Fin cfg0.N, win0_0.index t = ![t.val / 4, 0] ∧ win0_1.index t = ![t.val % 4, 1, 0, 0] ∧ win0_2.index t = ![t.val / 4, t.val % 4] := by
  decide +kernel

variable (m : (ℓ : Loc nD τ sig) → Buf (Elt Ideal) ℓ) (c : Dev nD)

def W : Parts.Idx → EReal := m ((c : Thread nD τ).loc main_arg1)
def X : ℕ → ℕ → EReal := entry (M := 2048) (N := 1024) (m ((c : Thread nD τ).loc main_arg0))

theorem blk_X (t : Fin cfg0.N) (r k : Fin 1024) : (iblk m c 0 t (ix2 r k) : EReal) = X m c (1024 * (t.val / 4) + r.val) k.val :=
  (entry_block (M := 2048) (N := 1024) (m ((c : Thread nD τ).loc main_arg0)) _ _ _ r.val k.val (index t).1 rfl (by blk_simp) (by blk_simp)).trans
    (congrArg (X m c _) (Nat.zero_add k.val))

theorem blk_W (t : Fin cfg0.N) (k s : Fin 1024) : (iblk m c 1 t (ix4 0 0 k s) : EReal) = up (W m c) 1 k.val (1024 * (t.val % 4) + s.val) :=
  (part_block (W m c) 1 _ (t.val % 4) k s (index t).2.1 rfl (by blk_simp <;> rfl) (by blk_simp <;> rfl) (by blk_simp <;> rfl) (by blk_simp <;> rfl)).trans
    (up_block (W m c) 1 k.val (t.val % 4) s).symm

theorem outs_at (t : Fin cfg0.N) (r s : Fin 1024) : (outsAt0 m c t (ix2 r s) : EReal) =
    Proj7.prod (X m c) (up (W m c) 1) (1024 * (t.val / 4) + r.val) (1024 * (t.val % 4) + s.val) := by
  unfold outsAt0
  rw [out_A]
  exact (Proj7.pay1_at _ _ r s).trans (Finset.sum_congr rfl fun k _ => congr (congrArg HMul.hMul (blk_X m c t r k)) (blk_W m c t k s))

attribute [local irreducible] outsAt0 in
theorem array : (dats m 0 c).arrAt 2 cfg0.N = matOf 2048 4096 (Proj7.prod (X m c) (up (W m c) 1)) := by
  refine (dats m 0 c).arrAt_eq_of_covers 2 _ (by decide +kernel) fun t hf y => ?_
  obtain ⟨r, s, rfl⟩ : ∃ (r s : Fin 1024), y = ix2 r s := ⟨_, _, eq_ix2 y⟩
  show (outsAt0 m c t (ix2 r s) : EReal) = matOf 2048 4096 _ ((win0_2.blk t).view.emb (ix2 r s))
  rw [outs_at]
  exact ((mat_block (M := 2048) (N := 4096) (Proj7.prod (X m c) (up (W m c) 1)) _ (t.val / 4) (t.val % 4) r.val s.val (index t).2.2 rfl (by blk_simp) (by blk_simp))).symm

end Kernel

theorem frame_reference [hReference11Ideal : Cert.Reference11Ideal.Facts] : Cert.quiescent_Reference11Ideal := fun m ρ _ =>
  (θ_run Cert.Reference11Ideal.defs _ _).mono (fun r h => ⟨fun c => (h c).2, sem_eq_zero_of_no_sems (by decide) r.2⟩)
    (Cert.Reference11Ideal.Value.run (F := Ideal) m ρ)

theorem algebraic [hKernel11Ideal : Cert.Kernel11Ideal.Facts] [hReference11Ideal : Cert.Reference11Ideal.Facts] :
    Cert.algebraic_Kernel11Ideal_Reference11Ideal := fun m g m' g' _ hag =>
  ⟨fun c => matOf 2048 4096 (Proj7.prod (X m c) (up (W m c) 1)),
    (θ_run _ _ _).mono (fun _ h c => ⟨(h c).1.trans (array m c), (h c).2⟩) (Cert.Kernel11Ideal.Value.run_blocks m g),
    (θ_run _ _ _).mono (fun _ h c => ⟨(h c).1.trans ((Proj7.ref_at _ _ 1 _ (slice1_at _ _)).trans (by
      obtain ⟨h0, h1⟩ := hag c
      rw [h0, h1]
      rfl)), (h c).2⟩) (Cert.Reference11Ideal.Value.run (F := Ideal) m' g')⟩

end Cert.Proof.Proj11
-- ==== Proof.Proj12.lean ====
module

public import Idealize.ShloMosaic.Lib.Pipeline.ValueKit.Geometry
public import Idealize.ShloMosaic.Lib.VecWindow
public import Idealize.ShloMosaic.Lib.WritesUnit
public import Idealize.ShloMosaic.Lib.Quiescent
public import proofs.«01_k».proof.Defs
public import proofs.«01_k».proof.Proof.Proj8
public import proofs.«01_k».proof.Proof.Gen.Kernel12Ideal.Value
public import proofs.«01_k».proof.Proof.Gen.Reference12Ideal.Run

@[expose] public section

set_option maxRecDepth 16384
set_option maxHeartbeats 400000

noncomputable section

/-! The second layer's down product; the block's values and the reference's reading are those of the first layer. -/

namespace Cert.Proof.Proj12

open Idealize.ShloMosaic Idealize.SL.Sem
open TcCoe Cert.Proof.Blocks

section Kernel

open Cert.Kernel12Ideal Cert.Kernel12Ideal.Gen

theorem out_A (c : Dev nD) (i : grid0.Coords) (a3 : Memref sig .tc .vmem S1024x1024 .f32) (h3 : a3.IsWhole) (a4 : Memref sig .tc .vmem S1x1x1024x1024 .bf16) (h4 : a4.IsWhole) (a5 : Memref sig .tc .vmem S1024x1024 .f32) (h5 : a5.IsWhole)
    (hc : cond0_0 i) (hd : ¬cond0_1 i) (x : Vec Ideal S1024x1024 .f32) (w : Vec Ideal S1x1x1024x1024 .bf16) :
    out0_A_2 c i a3 h3 a4 h4 a5 h5 hc hd x w = k0_pay1 x w := by
  unfold out0_A_2
  rw [View.read_writes_eq_canon _ _ _ (cover0_A_2 c i a3 h3 a4 h4 a5 h5 hc hd x w)]
  unfold kernelRun0_A
  dsimp only
  rw [View.canon_unit_zero origin]
  simp only [View.readAt_eq_ld, h3.read_unread, h4.read_unread, View.ld_unit_zero (S := S1024x1024) origin, View.ld_unit_zero (S := S1x1x1024x1024) origin4]

theorem out_B (c : Dev nD) (i : grid0.Coords) (a3 : Memref sig .tc .vmem S1024x1024 .f32) (h3 : a3.IsWhole) (a4 : Memref sig .tc .vmem S1x1x1024x1024 .bf16) (h4 : a4.IsWhole) (a5 : Memref sig .tc .vmem S1024x1024 .f32) (h5 : a5.IsWhole)
    (hc : ¬cond0_0 i) (hd : cond0_1 i) (x : Vec Ideal S1024x1024 .f32) (w : Vec Ideal S1x1x1024x1024 .bf16) (o : Vec Ideal S1024x1024 .f32) :
    out0_B_2 c i a3 h3 a4 h4 a5 h5 hc hd x w o = k0_pay2 x w o := by
  unfold out0_B_2
  rw [View.read_writes_eq_canon _ _ _ (cover0_B_2 c i a3 h3 a4 h4 a5 h5 hc hd x w o)]
  unfold kernelRun0_B
  dsimp only
  rw [View.canon_unit_zero origin]
  simp only [View.readAt_eq_ld, h3.read_unread, h4.read_unread, h5.read_unread, View.ld_unit_zero (S := S1024x1024) origin, View.ld_unit_zero (S := S1x1x1024x1024) origin4]

theorem index : ∀ t : Fin cfg0.N, win0_0.index t = ![t.val / 4, t.val % 4] ∧ win0_1.index t = ![t.val % 4, 1, 0, 0] ∧ win0_2.index t = ![t.val / 4, 0] := by
  decide +kernel

variable (m : (ℓ : Loc nD τ sig) → Buf (Elt Ideal) ℓ) (c : Dev nD)

def W : Parts.Idx → EReal := m ((c : Thread nD τ).loc main_arg1)
def U : ℕ → ℕ → EReal := entry (M := 2048) (N := 4096) (m ((c : Thread nD τ).loc main_arg0))

theorem blk_U (t : Fin cfg0.N) (r k : Fin 1024) : (iblk m c 0 t (ix2 r k) : EReal) = U m c (1024 * (t.val / 4) + r.val) (1024 * (t.val % 4) + k.val) :=
  entry_block (M := 2048) (N := 4096) (m ((c : Thread nD τ).loc main_arg0)) _ _ _ r.val k.val (index t).1 rfl (by blk_simp) (by blk_simp)

theorem blk_W (t : Fin cfg0.N) (k s : Fin 1024) : (iblk m c 1 t (ix4 0 0 k s) : EReal) = down (W m c) 1 (1024 * (t.val % 4) + k.val) s.val :=
  (part_block (W m c) 1 _ (t.val % 4) k s (index t).2.1 rfl (by blk_simp <;> rfl) (by blk_simp <;> rfl) (by blk_simp <;> rfl) (by blk_simp <;> rfl)).trans
    (down_block (W m c) 1 (t.val % 4) k s.val).symm

theorem pay_point (t : Fin cfg0.N) (r s : Fin 1024) : (k0_pay1 (iblk m c 0 t) (iblk m c 1 t) (ix2 r s) : EReal) = ∑ k : Fin 1024, relu2 (U m c (1024 * (t.val / 4) + r.val) (1024 * (t.val % 4) + k.val)) * down (W m c) 1 (1024 * (t.val % 4) + k.val) s.val :=
  (Proj8.pay1_at _ _ r s).trans (Finset.sum_congr rfl fun k _ => congr (congrArg HMul.hMul (congrArg relu2 (blk_U m c t r k))) (blk_W m c t k s))

theorem outs_last (t : Fin cfg0.N) (z : t.val % 4 + 1 = 4) (r s : Fin 1024) : (outsAt0 m c t.val t.isLt (ix2 r s) : EReal) =
    0 + ∑ k ∈ Finset.range (4 * 1024), relu2 (U m c (1024 * (t.val / 4) + r.val) k) * down (W m c) 1 k s.val :=
  fold_blocks 4 (by omega) cfg0.N (fun n h (i : Fin 1024 × Fin 1024) => (outsAt0 m c n h (ix2 i.1 i.2) : EReal))
    (fun q i => 0) (fun q i k => relu2 (U m c (1024 * q + i.1.val) k) * down (W m c) 1 k i.2.val)
    (fun n h i z => by
      show (outsAt0 m c n h (ix2 i.1 i.2) : EReal) = _
      rw [outsAt0_A m c ⟨n, h⟩ z (by show ¬1 ≤ n % 4; omega), out_A]
      exact (pay_point m c ⟨n, h⟩ i.1 i.2).trans (zero_add _).symm)
    (fun n h i z => by
      show (outsAt0 m c n h (ix2 i.1 i.2) : EReal) = _
      rw [outsAt0_B m c ⟨n, h⟩ z (by show 1 ≤ n % 4; omega), out_B]
      exact (Proj8.pay2_at _ _ _ _).trans (congrArg (_ + ·) (pay_point m c ⟨n, h⟩ i.1 i.2)))
    (r, s) t.val t.isLt z

theorem array : (dats m 0 c).arrAt 2 cfg0.N = matOf 2048 1024 (Proj8.prod (U m c) (down (W m c) 1)) := by
  refine (dats m 0 c).arrAt_eq_of_covers 2 _ (by decide +kernel) fun t hf y => ?_
  obtain ⟨r, s, rfl⟩ : ∃ (r s : Fin 1024), y = ix2 r s := ⟨_, _, eq_ix2 y⟩
  show (outsAt0 m c t.val t.isLt (ix2 r s) : EReal) = matOf 2048 1024 _ ((win0_2.blk t).view.emb (ix2 r s))
  rw [outs_last m c t (congrArg (· + 1) ((flush0_2 t).mp hf))]
  exact ((mat_block (M := 2048) (N := 1024) (Proj8.prod (U m c) (down (W m c) 1)) _ (t.val / 4) 0 r.val s.val (index t).2.2 rfl (by blk_simp) (by blk_simp)).trans (by
    simp only [Nat.mul_zero, Nat.zero_add]
    rfl)).symm

end Kernel

theorem frame_reference [hReference12Ideal : Cert.Reference12Ideal.Facts] : Cert.quiescent_Reference12Ideal := fun m ρ _ =>
  (θ_run Cert.Reference12Ideal.defs _ _).mono (fun r h => ⟨fun c => (h c).2, sem_eq_zero_of_no_sems (by decide) r.2⟩)
    (Cert.Reference12Ideal.Value.run (F := Ideal) m ρ)

theorem algebraic [hKernel12Ideal : Cert.Kernel12Ideal.Facts] [hReference12Ideal : Cert.Reference12Ideal.Facts] :
    Cert.algebraic_Kernel12Ideal_Reference12Ideal := fun m g m' g' _ hag =>
  ⟨fun c => matOf 2048 1024 (Proj8.prod (U m c) (down (W m c) 1)),
    (θ_run _ _ _).mono (fun _ h c => ⟨(h c).1.trans (array m c), (h c).2⟩) (Cert.Kernel12Ideal.Value.run_blocks m g),
    (θ_run _ _ _).mono (fun _ h c => ⟨(h c).1.trans ((Proj8.ref_at _ _ 1 _ (slice1_at _ _)).trans (by
      obtain ⟨h0, h1⟩ := hag c
      rw [h0, h1]
      rfl)), (h c).2⟩) (Cert.Reference12Ideal.Value.run (F := Ideal) m' g')⟩

end Cert.Proof.Proj12
-- ==== Proof.Proj13.lean ====
module

public import Idealize.ShloMosaic.Lib.Pipeline.ValueKit.Geometry
public import Idealize.ShloMosaic.Lib.VecWindow
public import Idealize.ShloMosaic.Lib.WritesUnit
public import Idealize.ShloMosaic.Lib.Quiescent
public import proofs.«01_k».proof.Defs
public import proofs.«01_k».proof.Proof.Proj9
public import proofs.«01_k».proof.Proof.Gen.Kernel13Ideal.Value
public import proofs.«01_k».proof.Proof.Gen.Reference13Ideal.Run

@[expose] public section

set_option maxRecDepth 16384
set_option maxHeartbeats 400000

noncomputable section

/-! The second layer's gradient of the activation's input; the block's value and the reference's reading are those of the first layer. -/

namespace Cert.Proof.Proj13

open Idealize.ShloMosaic Idealize.SL.Sem
open TcCoe Cert.Proof.Blocks

section Kernel

open Cert.Kernel13Ideal Cert.Kernel13Ideal.Gen

theorem out_A (c : Dev nD) (i : grid0.Coords) (a3 : Memref sig .tc .vmem S1024x1024 .f32) (h3 : a3.IsWhole) (a4 : Memref sig .tc .vmem S1x1x1024x1024 .bf16) (h4 : a4.IsWhole) (a5 : Memref sig .tc .vmem S1024x1024 .f32) (h5 : a5.IsWhole) (a6 : Memref sig .tc .vmem S1024x1024 .f32) (h6 : a6.IsWhole)
    (hc : cond0_0 i) (hd : cond0_1 i) (x : Vec Ideal S1024x1024 .f32) (w : Vec Ideal S1x1x1024x1024 .bf16) (u : Vec Ideal S1024x1024 .f32) :
    out0_A_3 c i a3 h3 a4 h4 a5 h5 a6 h6 hc hd x w u = k0_pay2 (k0_pay1 x w) u := by
  unfold out0_A_3
  rw [View.read_writes_eq_canon _ _ _ (cover0_A_3 c i a3 h3 a4 h4 a5 h5 a6 h6 hc hd x w u)]
  unfold kernelRun0_A
  dsimp only
  rw [View.canon_cons_unit_zero origin]
  sl_unfold_words
  rw [View.readCov_unit_zero _ origin]
  simp only [View.readAt_eq_ld, h3.read_unread, h4.read_unread, h5.read_unread, View.ld_unit_zero (S := S1024x1024) origin, View.ld_unit_zero (S := S1x1x1024x1024) origin4]

theorem index : ∀ t : Fin cfg0.N, win0_0.index t = ![t.val / 4, 0] ∧ win0_1.index t = ![t.val % 4, 1, 0, 0] ∧ win0_2.index t = ![t.val / 4, t.val % 4] ∧
    win0_3.index t = ![t.val / 4, t.val % 4] := by
  decide +kernel

variable (m : (ℓ : Loc nD τ sig) → Buf (Elt Ideal) ℓ) (c : Dev nD)

def W : Parts.Idx → EReal := m ((c : Thread nD τ).loc main_arg1)
def D : ℕ → ℕ → EReal := entry (M := 2048) (N := 1024) (m ((c : Thread nD τ).loc main_arg0))
def U : ℕ → ℕ → EReal := entry (M := 2048) (N := 4096) (m ((c : Thread nD τ).loc main_arg2))

theorem blk_D (t : Fin cfg0.N) (r k : Fin 1024) : (iblk m c 0 t (ix2 r k) : EReal) = D m c (1024 * (t.val / 4) + r.val) k.val :=
  (entry_block (M := 2048) (N := 1024) (m ((c : Thread nD τ).loc main_arg0)) _ _ _ r.val k.val (index t).1 rfl (by blk_simp) (by blk_simp)).trans
    (congrArg (D m c _) (Nat.zero_add k.val))

theorem blk_W (t : Fin cfg0.N) (s k : Fin 1024) : (iblk m c 1 t (ix4 0 0 s k) : EReal) = down (W m c) 1 (1024 * (t.val % 4) + s.val) k.val :=
  (part_block (W m c) 1 _ (t.val % 4) s k (index t).2.1 rfl (by blk_simp <;> rfl) (by blk_simp <;> rfl) (by blk_simp <;> rfl) (by blk_simp <;> rfl)).trans
    (down_block (W m c) 1 (t.val % 4) s k.val).symm

theorem blk_U (t : Fin cfg0.N) (r s : Fin 1024) : (iblk m c 2 t (ix2 r s) : EReal) = U m c (1024 * (t.val / 4) + r.val) (1024 * (t.val % 4) + s.val) :=
  entry_block (M := 2048) (N := 4096) (m ((c : Thread nD τ).loc main_arg2)) _ _ _ r.val s.val (index t).2.2.1 rfl (by blk_simp) (by blk_simp)

theorem outs_at (t : Fin cfg0.N) (r s : Fin 1024) : (outsAt0 m c t (ix2 r s) : EReal) =
    Proj9.grad (D m c) (down (W m c) 1) (U m c) (1024 * (t.val / 4) + r.val) (1024 * (t.val % 4) + s.val) := by
  unfold outsAt0
  rw [out_A]
  exact (Proj9.pay2_at _ _ r s).trans (congr (congrArg HMul.hMul ((Proj9.pay1_at _ _ r s).trans
    (Finset.sum_congr rfl fun k _ => congr (congrArg HMul.hMul (blk_D m c t r k)) (blk_W m c t s k))))
    (congrArg (fun u => Ideal.ofBits FTy.f32 0x40000000#32 * max u 0) (blk_U m c t r s)))

attribute [local irreducible] outsAt0 in
theorem array : (dats m 0 c).arrAt 3 cfg0.N = matOf 2048 4096 (Proj9.grad (D m c) (down (W m c) 1) (U m c)) := by
  refine (dats m 0 c).arrAt_eq_of_covers 3 _ (by decide +kernel) fun t hf y => ?_
  obtain ⟨r, s, rfl⟩ : ∃ (r s : Fin 1024), y = ix2 r s := ⟨_, _, eq_ix2 y⟩
  show (outsAt0 m c t (ix2 r s) : EReal) = matOf 2048 4096 _ ((win0_3.blk t).view.emb (ix2 r s))
  rw [outs_at]
  exact ((mat_block (M := 2048) (N := 4096) (Proj9.grad (D m c) (down (W m c) 1) (U m c)) _ (t.val / 4) (t.val % 4) r.val s.val (index t).2.2.2 rfl (by blk_simp) (by blk_simp))).symm

end Kernel

theorem frame_reference [hReference13Ideal : Cert.Reference13Ideal.Facts] : Cert.quiescent_Reference13Ideal := fun m ρ _ =>
  (θ_run Cert.Reference13Ideal.defs _ _).mono (fun r h => ⟨fun c => (h c).2, sem_eq_zero_of_no_sems (by decide) r.2⟩)
    (Cert.Reference13Ideal.Value.run (F := Ideal) m ρ)

theorem algebraic [hKernel13Ideal : Cert.Kernel13Ideal.Facts] [hReference13Ideal : Cert.Reference13Ideal.Facts] :
    Cert.algebraic_Kernel13Ideal_Reference13Ideal := fun m g m' g' _ hag =>
  ⟨fun c => matOf 2048 4096 (Proj9.grad (D m c) (down (W m c) 1) (U m c)),
    (θ_run _ _ _).mono (fun _ h c => ⟨(h c).1.trans (array m c), (h c).2⟩) (Cert.Kernel13Ideal.Value.run_blocks m g),
    (θ_run _ _ _).mono (fun _ h c => ⟨(h c).1.trans ((Proj9.ref_at _ _ 1 _ (slice1_at _ _) _).trans (by
      obtain ⟨h0, h1, h2⟩ := hag c
      rw [h0, h1, h2]
      rfl)), (h c).2⟩) (Cert.Reference13Ideal.Value.run (F := Ideal) m' g')⟩

end Cert.Proof.Proj13
-- ==== Proof.Proj14.lean ====
module

public import Idealize.ShloMosaic.Lib.Pipeline.ValueKit.Geometry
public import Idealize.ShloMosaic.Lib.VecWindow
public import Idealize.ShloMosaic.Lib.WritesUnit
public import Idealize.ShloMosaic.Lib.Quiescent
public import proofs.«01_k».proof.Defs
public import proofs.«01_k».proof.Proof.Proj10
public import proofs.«01_k».proof.Proof.Gen.Kernel14Ideal.Value
public import proofs.«01_k».proof.Proof.Gen.Reference14Ideal.Run

@[expose] public section

set_option maxRecDepth 16384
set_option maxHeartbeats 400000

noncomputable section

/-! The second layer's gradient of the MLP's input; the block's values and the reference's reading are those of the first layer. -/

namespace Cert.Proof.Proj14

open Idealize.ShloMosaic Idealize.SL.Sem
open TcCoe Cert.Proof.Blocks

section Kernel

open Cert.Kernel14Ideal Cert.Kernel14Ideal.Gen

theorem out_A (c : Dev nD) (i : grid0.Coords) (a3 : Memref sig .tc .vmem S1024x1024 .f32) (h3 : a3.IsWhole) (a4 : Memref sig .tc .vmem S1x1x1024x1024 .bf16) (h4 : a4.IsWhole) (a5 : Memref sig .tc .vmem S1024x1024 .f32) (h5 : a5.IsWhole) (a6 : Memref sig .tc .vmem S1024x1024 .f32) (h6 : a6.IsWhole)
    (hc : cond0_0 i) (hd : ¬cond0_1 i) (x : Vec Ideal S1024x1024 .f32) (w : Vec Ideal S1x1x1024x1024 .bf16) (d : Vec Ideal S1024x1024 .f32) :
    out0_A_3 c i a3 h3 a4 h4 a5 h5 a6 h6 hc hd x w d = k0_pay2 x w d := by
  unfold out0_A_3
  rw [View.read_writes_eq_canon _ _ _ (cover0_A_3 c i a3 h3 a4 h4 a5 h5 a6 h6 hc hd x w d)]
  unfold kernelRun0_A
  dsimp only
  rw [View.canon_unit_zero origin]
  simp only [View.readAt_eq_ld, h3.read_unread, h4.read_unread, h5.read_unread, View.ld_unit_zero (S := S1024x1024) origin, View.ld_unit_zero (S := S1x1x1024x1024) origin4]

theorem out_B (c : Dev nD) (i : grid0.Coords) (a3 : Memref sig .tc .vmem S1024x1024 .f32) (h3 : a3.IsWhole) (a4 : Memref sig .tc .vmem S1x1x1024x1024 .bf16) (h4 : a4.IsWhole) (a5 : Memref sig .tc .vmem S1024x1024 .f32) (h5 : a5.IsWhole) (a6 : Memref sig .tc .vmem S1024x1024 .f32) (h6 : a6.IsWhole)
    (hc : ¬cond0_0 i) (hd : cond0_1 i) (x : Vec Ideal S1024x1024 .f32) (w : Vec Ideal S1x1x1024x1024 .bf16) (d o : Vec Ideal S1024x1024 .f32) :
    out0_B_3 c i a3 h3 a4 h4 a5 h5 a6 h6 hc hd x w d o = k0_pay3 x w o := by
  unfold out0_B_3
  rw [View.read_writes_eq_canon _ _ _ (cover0_B_3 c i a3 h3 a4 h4 a5 h5 a6 h6 hc hd x w d o)]
  unfold kernelRun0_B
  dsimp only
  rw [View.canon_unit_zero origin]
  simp only [View.readAt_eq_ld, h3.read_unread, h4.read_unread, h6.read_unread, View.ld_unit_zero (S := S1024x1024) origin, View.ld_unit_zero (S := S1x1x1024x1024) origin4]

theorem index : ∀ t : Fin cfg0.N, win0_0.index t = ![t.val / 4, t.val % 4] ∧ win0_1.index t = ![t.val % 4, 1, 0, 0] ∧ win0_2.index t = ![t.val / 4, 0] ∧
    win0_3.index t = ![t.val / 4, 0] := by
  decide +kernel

variable (m : (ℓ : Loc nD τ sig) → Buf (Elt Ideal) ℓ) (c : Dev nD)

def W : Parts.Idx → EReal := m ((c : Thread nD τ).loc main_arg1)
def D : ℕ → ℕ → EReal := entry (M := 2048) (N := 4096) (m ((c : Thread nD τ).loc main_arg0))
def X : ℕ → ℕ → EReal := entry (M := 2048) (N := 1024) (m ((c : Thread nD τ).loc main_arg2))

theorem blk_D (t : Fin cfg0.N) (r k : Fin 1024) : (iblk m c 0 t (ix2 r k) : EReal) = D m c (1024 * (t.val / 4) + r.val) (1024 * (t.val % 4) + k.val) :=
  entry_block (M := 2048) (N := 4096) (m ((c : Thread nD τ).loc main_arg0)) _ _ _ r.val k.val (index t).1 rfl (by blk_simp) (by blk_simp)

theorem blk_W (t : Fin cfg0.N) (s k : Fin 1024) : (iblk m c 1 t (ix4 0 0 s k) : EReal) = up (W m c) 1 s.val (1024 * (t.val % 4) + k.val) :=
  (part_block (W m c) 1 _ (t.val % 4) s k (index t).2.1 rfl (by blk_simp <;> rfl) (by blk_simp <;> rfl) (by blk_simp <;> rfl) (by blk_simp <;> rfl)).trans
    (up_block (W m c) 1 s.val (t.val % 4) k).symm

theorem blk_X (t : Fin cfg0.N) (r s : Fin 1024) : (iblk m c 2 t (ix2 r s) : EReal) = X m c (1024 * (t.val / 4) + r.val) s.val :=
  (entry_block (M := 2048) (N := 1024) (m ((c : Thread nD τ).loc main_arg2)) _ _ _ r.val s.val (index t).2.2.1 rfl (by blk_simp) (by blk_simp)).trans
    (congrArg (X m c _) (Nat.zero_add s.val))

theorem pay_point (t : Fin cfg0.N) (r s : Fin 1024) : (k0_pay1 (iblk m c 0 t) (iblk m c 1 t) (ix2 r s) : EReal) = ∑ k : Fin 1024, D m c (1024 * (t.val / 4) + r.val) (1024 * (t.val % 4) + k.val) * up (W m c) 1 s.val (1024 * (t.val % 4) + k.val) :=
  (Proj10.pay1_at _ _ r s).trans (Finset.sum_congr rfl fun k _ => congr (congrArg HMul.hMul (blk_D m c t r k)) (blk_W m c t s k))

theorem outs_last (t : Fin cfg0.N) (z : t.val % 4 + 1 = 4) (r s : Fin 1024) : (outsAt0 m c t.val t.isLt (ix2 r s) : EReal) =
    X m c (1024 * (t.val / 4) + r.val) s.val + ∑ k ∈ Finset.range (4 * 1024), D m c (1024 * (t.val / 4) + r.val) k * up (W m c) 1 s.val k :=
  fold_blocks 4 (by omega) cfg0.N (fun n h (i : Fin 1024 × Fin 1024) => (outsAt0 m c n h (ix2 i.1 i.2) : EReal))
    (fun q i => X m c (1024 * q + i.1.val) i.2.val) (fun q i k => D m c (1024 * q + i.1.val) k * up (W m c) 1 i.2.val k)
    (fun n h i z => by
      show (outsAt0 m c n h (ix2 i.1 i.2) : EReal) = _
      rw [outsAt0_A m c ⟨n, h⟩ z (by show ¬1 ≤ n % 4; omega), out_A]
      exact (Proj10.pay2_at _ _ _ _).trans (congr (congrArg HAdd.hAdd (blk_X m c ⟨n, h⟩ i.1 i.2)) (pay_point m c ⟨n, h⟩ i.1 i.2)))
    (fun n h i z => by
      show (outsAt0 m c n h (ix2 i.1 i.2) : EReal) = _
      rw [outsAt0_B m c ⟨n, h⟩ z (by show 1 ≤ n % 4; omega), out_B]
      exact (Proj10.pay3_at _ _ _ _).trans (congrArg (_ + ·) (pay_point m c ⟨n, h⟩ i.1 i.2)))
    (r, s) t.val t.isLt z

theorem array : (dats m 0 c).arrAt 3 cfg0.N = matOf 2048 1024 (Proj10.grad (D m c) (up (W m c) 1) (X m c)) := by
  refine (dats m 0 c).arrAt_eq_of_covers 3 _ (by decide +kernel) fun t hf y => ?_
  obtain ⟨r, s, rfl⟩ : ∃ (r s : Fin 1024), y = ix2 r s := ⟨_, _, eq_ix2 y⟩
  show (outsAt0 m c t.val t.isLt (ix2 r s) : EReal) = matOf 2048 1024 _ ((win0_3.blk t).view.emb (ix2 r s))
  rw [outs_last m c t (congrArg (· + 1) ((flush0_3 t).mp hf))]
  exact ((mat_block (M := 2048) (N := 1024) (Proj10.grad (D m c) (up (W m c) 1) (X m c)) _ (t.val / 4) 0 r.val s.val (index t).2.2.2 rfl (by blk_simp) (by blk_simp)).trans (by
    simp only [Nat.mul_zero, Nat.zero_add]
    rfl)).symm

end Kernel

theorem frame_reference [hReference14Ideal : Cert.Reference14Ideal.Facts] : Cert.quiescent_Reference14Ideal := fun m ρ _ =>
  (θ_run Cert.Reference14Ideal.defs _ _).mono (fun r h => ⟨fun c => (h c).2, sem_eq_zero_of_no_sems (by decide) r.2⟩)
    (Cert.Reference14Ideal.Value.run (F := Ideal) m ρ)

theorem algebraic [hKernel14Ideal : Cert.Kernel14Ideal.Facts] [hReference14Ideal : Cert.Reference14Ideal.Facts] :
    Cert.algebraic_Kernel14Ideal_Reference14Ideal := fun m g m' g' _ hag =>
  ⟨fun c => matOf 2048 1024 (Proj10.grad (D m c) (up (W m c) 1) (X m c)),
    (θ_run _ _ _).mono (fun _ h c => ⟨(h c).1.trans (array m c), (h c).2⟩) (Cert.Kernel14Ideal.Value.run_blocks m g),
    (θ_run _ _ _).mono (fun _ h c => ⟨(h c).1.trans ((Proj10.ref_at _ _ 1 _ (slice1_at _ _) _).trans (by
      obtain ⟨h0, h1, h2⟩ := hag c
      rw [h0, h1, h2]
      rfl)), (h c).2⟩) (Cert.Reference14Ideal.Value.run (F := Ideal) m' g')⟩

end Cert.Proof.Proj14
-- ==== Proof.Proj15.lean ====
module

public import Idealize.ShloMosaic.Lib.Pipeline.ValueKit.Geometry
public import Idealize.ShloMosaic.Lib.VecWindow
public import Idealize.ShloMosaic.Lib.WritesUnit
public import Idealize.ShloMosaic.Lib.Quiescent
public import proofs.«01_k».proof.Defs
public import proofs.«01_k».proof.Proof.Blocks
public import proofs.«01_k».proof.Proof.Gen.Kernel15Ideal.Value
public import proofs.«01_k».proof.Proof.Gen.Reference15Ideal.Run

@[expose] public section

set_option maxRecDepth 16384
set_option maxHeartbeats 1000000

noncomputable section

/-! The gradient of the output projection's input: the blocked product is the whole product. -/

namespace Cert.Proof.Proj15

open Idealize.ShloMosaic Idealize.SL.Sem
open TcCoe Cert.Proof.Blocks

/-- The gradient at a position, from the entries of the cotangent and the weight. -/
def grad (D W : ℕ → ℕ → EReal) (a b : ℕ) : EReal := ∑ k : Fin 1024, D a k.val * W b k.val

section Kernel

open Cert.Kernel15Ideal Cert.Kernel15Ideal.Gen

/-- A block's product, at an entry. -/
theorem pay1_at (x : Vec Ideal S1024x1024 .f32) (w : Vec Ideal S1024x1024 .bf16) (r s : Fin 1024) :
    (k0_pay1 x w (ix2 r s) : EReal) = ∑ k : Fin 1024, (x (ix2 r k) : EReal) * (w (ix2 s k) : EReal) := by
  unfold k0_pay1
  pointwise

theorem out_A (c : Dev nD) (i : grid0.Coords) (a3 : Memref sig .tc .vmem S1024x1024 .f32) (h3 : a3.IsWhole)
    (a4 : Memref sig .tc .vmem S1024x1024 .bf16) (h4 : a4.IsWhole) (a5 : Memref sig .tc .vmem S1024x1024 .f32) (h5 : a5.IsWhole)
    (hc : cond0_0 i) (x : Vec Ideal S1024x1024 .f32) (w : Vec Ideal S1024x1024 .bf16) : out0_A_2 c i a3 h3 a4 h4 a5 h5 hc x w = k0_pay1 x w := by
  unfold out0_A_2
  rw [View.read_writes_eq_canon _ _ _ (cover0_A_2 c i a3 h3 a4 h4 a5 h5 hc x w)]
  unfold kernelRun0_A
  dsimp only
  rw [View.canon_unit_zero origin]
  simp only [View.readAt_eq_ld, h3.read_unread, h4.read_unread, View.ld_unit_zero (S := S1024x1024) origin]

theorem index : ∀ t : Fin cfg0.N, win0_0.index t = ![t.val, 0] ∧ win0_1.index t = ![0, 0] ∧ win0_2.index t = ![t.val, 0] := by
  decide +kernel

variable (m : (ℓ : Loc nD τ sig) → Buf (Elt Ideal) ℓ) (c : Dev nD)

/-- The cotangent's and the weight's entries. -/
def D : ℕ → ℕ → EReal := entry (M := 2048) (N := 1024) (m ((c : Thread nD τ).loc main_arg0))
def W : ℕ → ℕ → EReal := entry (M := 1024) (N := 1024) (m ((c : Thread nD τ).loc main_arg1))

theorem blk_D (t : Fin cfg0.N) (r k : Fin 1024) : (iblk m c 0 t (ix2 r k) : EReal) = D m c (1024 * t.val + r.val) k.val :=
  (entry_block (M := 2048) (N := 1024) (m ((c : Thread nD τ).loc main_arg0)) _ _ _ r.val k.val (index t).1 rfl (by blk_simp) (by blk_simp)).trans
    (congrArg (D m c _) (Nat.zero_add k.val))

theorem blk_W (t : Fin cfg0.N) (s k : Fin 1024) : (iblk m c 1 t (ix2 s k) : EReal) = W m c s.val k.val :=
  (entry_block (M := 1024) (N := 1024) (m ((c : Thread nD τ).loc main_arg1)) _ _ _ s.val k.val (index t).2.1 rfl (by blk_simp) (by blk_simp)).trans
    (congr (congrArg (W m c) (Nat.zero_add s.val)) (Nat.zero_add k.val))

/-- A point's block of the result. -/
theorem outs_at (t : Fin cfg0.N) (r s : Fin 1024) : (outsAt0 m c t (ix2 r s) : EReal) = grad (D m c) (W m c) (1024 * t.val + r.val) s.val := by
  unfold outsAt0
  rw [out_A]
  exact (pay1_at _ _ r s).trans (Finset.sum_congr rfl fun k _ => congr (congrArg HMul.hMul (blk_D m c t r k)) (blk_W m c t s k))

attribute [local irreducible] outsAt0 in
/-- The kernel's result array. -/
theorem array : (dats m 0 c).arrAt 2 cfg0.N = matOf 2048 1024 (grad (D m c) (W m c)) := by
  refine (dats m 0 c).arrAt_eq_of_covers 2 _ (by decide +kernel) fun t hf y => ?_
  obtain ⟨r, s, rfl⟩ : ∃ (r s : Fin 1024), y = ix2 r s := ⟨_, _, eq_ix2 y⟩
  show (outsAt0 m c t (ix2 r s) : EReal) = matOf 2048 1024 _ ((win0_2.blk t).view.emb (ix2 r s))
  rw [outs_at]
  exact ((mat_block (M := 2048) (N := 1024) (grad (D m c) (W m c)) _ t.val 0 r.val s.val (index t).2.2 rfl (by blk_simp) (by blk_simp)).trans
    (congrArg (grad (D m c) (W m c) _) (Nat.zero_add s.val))).symm

end Kernel

section Reference

open Cert.Reference15Ideal

/-- The reference's result, at an entry. -/
theorem ref_at (d : Vec Ideal S2048x1024 .f32) (w : Vec Ideal S1024x1024 .bf16) :
    (Host.dotGeneral (F := Ideal) (φ₁ := .f32) (φ₂ := .f32) dot_S2048x1024_S1024x1024_S2048x1024_1_1_0_0_n_n none d (extf (F := Ideal) .f32 w Gen.bitsLt_bf16_f32) : FVec Ideal S2048x1024 .f32)
      = matOf 2048 1024 (grad (entry (M := 2048) (N := 1024) d) (entry (M := 1024) (N := 1024) w)) := by
  funext p
  obtain ⟨a, b, rfl⟩ : ∃ (a : Fin 2048) (b : Fin 1024), p = ix2 a b := ⟨_, _, eq_ix2 p⟩
  show _ = ∑ k : Fin 1024, entry (M := 2048) (N := 1024) d a.val k.val * entry (M := 1024) (N := 1024) w b.val k.val
  pointwise
  refine Finset.sum_congr rfl fun k _ => ?_
  rw [entry_at, entry_at]

end Reference

theorem frame_reference [hReference15Ideal : Cert.Reference15Ideal.Facts] : Cert.quiescent_Reference15Ideal := fun m ρ _ =>
  (θ_run Cert.Reference15Ideal.defs _ _).mono (fun r h => ⟨fun c => (h c).2, sem_eq_zero_of_no_sems (by decide) r.2⟩)
    (Cert.Reference15Ideal.Value.run (F := Ideal) m ρ)

theorem algebraic [hKernel15Ideal : Cert.Kernel15Ideal.Facts] [hReference15Ideal : Cert.Reference15Ideal.Facts] :
    Cert.algebraic_Kernel15Ideal_Reference15Ideal := fun m g m' g' _ hag =>
  ⟨fun c => matOf 2048 1024 (grad (D m c) (W m c)),
    (θ_run _ _ _).mono (fun _ h c => ⟨(h c).1.trans (array m c), (h c).2⟩) (Cert.Kernel15Ideal.Value.run_blocks m g),
    (θ_run _ _ _).mono (fun _ h c => ⟨(h c).1.trans ((ref_at _ _).trans (by
      obtain ⟨h0, h1⟩ := hag c
      rw [h0, h1]
      rfl)), (h c).2⟩) (Cert.Reference15Ideal.Value.run (F := Ideal) m' g')⟩

end Cert.Proof.Proj15
-- ==== Proof.lean ====
module

public import proofs.«01_k».proof.Defs
public import proofs.«01_k».proof.Proof.FrameWords
public import proofs.«01_k».proof.Proof.Values
public import proofs.«01_k».proof.Proof.Gen.Kernel
public import proofs.«01_k».proof.Proof.Gen.KernelIdeal
public import proofs.«01_k».proof.Proof.Gen.ReferenceIdeal
public import proofs.«01_k».proof.Proof.Gen.Kernel2.Frame
public import proofs.«01_k».proof.Proof.Gen.Kernel2Ideal.Value
public import proofs.«01_k».proof.Proof.Gen.Reference2Ideal.Run
public import proofs.«01_k».proof.Proof.Proj2
public import proofs.«01_k».proof.Proof.Gen.Kernel3.Frame
public import proofs.«01_k».proof.Proof.Gen.Kernel3Ideal.Value
public import proofs.«01_k».proof.Proof.Gen.Reference3Ideal.Run
public import proofs.«01_k».proof.Proof.Proj3
public import proofs.«01_k».proof.Proof.Gen.Kernel4.Frame
public import proofs.«01_k».proof.Proof.Gen.Kernel4Ideal.Value
public import proofs.«01_k».proof.Proof.Gen.Reference4Ideal.Run
public import proofs.«01_k».proof.Proof.Proj4
public import proofs.«01_k».proof.Proof.Gen.Kernel5.Frame
public import proofs.«01_k».proof.Proof.Gen.Kernel5Ideal.Value
public import proofs.«01_k».proof.Proof.Gen.Reference5Ideal.Run
public import proofs.«01_k».proof.Proof.Proj5
public import proofs.«01_k».proof.Proof.Gen.Kernel6.Frame
public import proofs.«01_k».proof.Proof.Gen.Kernel6Ideal.Value
public import proofs.«01_k».proof.Proof.Gen.Reference6Ideal.Run
public import proofs.«01_k».proof.Proof.Proj6
public import proofs.«01_k».proof.Proof.Gen.Kernel7.Frame
public import proofs.«01_k».proof.Proof.Gen.Kernel7Ideal.Value
public import proofs.«01_k».proof.Proof.Gen.Reference7Ideal.Run
public import proofs.«01_k».proof.Proof.Proj7
public import proofs.«01_k».proof.Proof.Gen.Kernel8.Frame
public import proofs.«01_k».proof.Proof.Gen.Kernel8Ideal.Value
public import proofs.«01_k».proof.Proof.Gen.Reference8Ideal.Run
public import proofs.«01_k».proof.Proof.Proj8
public import proofs.«01_k».proof.Proof.Gen.Kernel9.Frame
public import proofs.«01_k».proof.Proof.Gen.Kernel9Ideal.Value
public import proofs.«01_k».proof.Proof.Gen.Reference9Ideal.Run
public import proofs.«01_k».proof.Proof.Proj9
public import proofs.«01_k».proof.Proof.Gen.Kernel10.Frame
public import proofs.«01_k».proof.Proof.Gen.Kernel10Ideal.Value
public import proofs.«01_k».proof.Proof.Gen.Reference10Ideal.Run
public import proofs.«01_k».proof.Proof.Proj10
public import proofs.«01_k».proof.Proof.Gen.Kernel11.Frame
public import proofs.«01_k».proof.Proof.Gen.Kernel11Ideal.Value
public import proofs.«01_k».proof.Proof.Gen.Reference11Ideal.Run
public import proofs.«01_k».proof.Proof.Proj11
public import proofs.«01_k».proof.Proof.Gen.Kernel12.Frame
public import proofs.«01_k».proof.Proof.Gen.Kernel12Ideal.Value
public import proofs.«01_k».proof.Proof.Gen.Reference12Ideal.Run
public import proofs.«01_k».proof.Proof.Proj12
public import proofs.«01_k».proof.Proof.Gen.Kernel13.Frame
public import proofs.«01_k».proof.Proof.Gen.Kernel13Ideal.Value
public import proofs.«01_k».proof.Proof.Gen.Reference13Ideal.Run
public import proofs.«01_k».proof.Proof.Proj13
public import proofs.«01_k».proof.Proof.Gen.Kernel14.Frame
public import proofs.«01_k».proof.Proof.Gen.Kernel14Ideal.Value
public import proofs.«01_k».proof.Proof.Gen.Reference14Ideal.Run
public import proofs.«01_k».proof.Proof.Proj14
public import proofs.«01_k».proof.Proof.Gen.Kernel15.Frame
public import proofs.«01_k».proof.Proof.Gen.Kernel15Ideal.Value
public import proofs.«01_k».proof.Proof.Gen.Reference15Ideal.Run
public import proofs.«01_k».proof.Proof.Proj15

@[expose] public section

noncomputable section

namespace Cert.Proof

/-- Everything claimed. -/
theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Kernel8.Gen.facts, Cert.Kernel8Ideal.Gen.facts, Cert.Reference8Ideal.Gen.facts,
  Cert.Kernel9.Gen.facts, Cert.Kernel9Ideal.Gen.facts, Cert.Reference9Ideal.Gen.facts,
  Cert.Kernel10.Gen.facts, Cert.Kernel10Ideal.Gen.facts, Cert.Reference10Ideal.Gen.facts,
  Cert.Kernel11.Gen.facts, Cert.Kernel11Ideal.Gen.facts, Cert.Reference11Ideal.Gen.facts,
  Cert.Kernel12.Gen.facts, Cert.Kernel12Ideal.Gen.facts, Cert.Reference12Ideal.Gen.facts,
  Cert.Kernel13.Gen.facts, Cert.Kernel13Ideal.Gen.facts, Cert.Reference13Ideal.Gen.facts,
  Cert.Kernel14.Gen.facts, Cert.Kernel14Ideal.Gen.facts, Cert.Reference14Ideal.Gen.facts,
  Cert.Kernel15.Gen.facts, Cert.Kernel15Ideal.Gen.facts, Cert.Reference15Ideal.Gen.facts,
  frame_kernel (hKernel := Cert.Kernel.Gen.facts), frame_kernelIdeal (hKernelIdeal := Cert.KernelIdeal.Gen.facts),
  frame_reference (hReferenceIdeal := Cert.ReferenceIdeal.Gen.facts),
  fun m ρ _ => Cert.Kernel2.Gen.frame m ρ, fun m ρ _ => Cert.Kernel2Ideal.Gen.frame m ρ, Proj2.frame_reference (hReference2Ideal := Cert.Reference2Ideal.Gen.facts),
  fun m ρ _ => Cert.Kernel3.Gen.frame m ρ, fun m ρ _ => Cert.Kernel3Ideal.Gen.frame m ρ, Proj3.frame_reference (hReference3Ideal := Cert.Reference3Ideal.Gen.facts),
  fun m ρ _ => Cert.Kernel4.Gen.frame m ρ, fun m ρ _ => Cert.Kernel4Ideal.Gen.frame m ρ, Proj4.frame_reference (hReference4Ideal := Cert.Reference4Ideal.Gen.facts),
  fun m ρ _ => Cert.Kernel5.Gen.frame m ρ, fun m ρ _ => Cert.Kernel5Ideal.Gen.frame m ρ, Proj5.frame_reference (hReference5Ideal := Cert.Reference5Ideal.Gen.facts),
  fun m ρ _ => Cert.Kernel6.Gen.frame m ρ, fun m ρ _ => Cert.Kernel6Ideal.Gen.frame m ρ, Proj6.frame_reference (hReference6Ideal := Cert.Reference6Ideal.Gen.facts),
  fun m ρ _ => Cert.Kernel7.Gen.frame m ρ, fun m ρ _ => Cert.Kernel7Ideal.Gen.frame m ρ, Proj7.frame_reference (hReference7Ideal := Cert.Reference7Ideal.Gen.facts),
  fun m ρ _ => Cert.Kernel8.Gen.frame m ρ, fun m ρ _ => Cert.Kernel8Ideal.Gen.frame m ρ, Proj8.frame_reference (hReference8Ideal := Cert.Reference8Ideal.Gen.facts),
  fun m ρ _ => Cert.Kernel9.Gen.frame m ρ, fun m ρ _ => Cert.Kernel9Ideal.Gen.frame m ρ, Proj9.frame_reference (hReference9Ideal := Cert.Reference9Ideal.Gen.facts),
  fun m ρ _ => Cert.Kernel10.Gen.frame m ρ, fun m ρ _ => Cert.Kernel10Ideal.Gen.frame m ρ, Proj10.frame_reference (hReference10Ideal := Cert.Reference10Ideal.Gen.facts),
  fun m ρ _ => Cert.Kernel11.Gen.frame m ρ, fun m ρ _ => Cert.Kernel11Ideal.Gen.frame m ρ, Proj11.frame_reference (hReference11Ideal := Cert.Reference11Ideal.Gen.facts),
  fun m ρ _ => Cert.Kernel12.Gen.frame m ρ, fun m ρ _ => Cert.Kernel12Ideal.Gen.frame m ρ, Proj12.frame_reference (hReference12Ideal := Cert.Reference12Ideal.Gen.facts),
  fun m ρ _ => Cert.Kernel13.Gen.frame m ρ, fun m ρ _ => Cert.Kernel13Ideal.Gen.frame m ρ, Proj13.frame_reference (hReference13Ideal := Cert.Reference13Ideal.Gen.facts),
  fun m ρ _ => Cert.Kernel14.Gen.frame m ρ, fun m ρ _ => Cert.Kernel14Ideal.Gen.frame m ρ, Proj14.frame_reference (hReference14Ideal := Cert.Reference14Ideal.Gen.facts),
  fun m ρ _ => Cert.Kernel15.Gen.frame m ρ, fun m ρ _ => Cert.Kernel15Ideal.Gen.frame m ρ, Proj15.frame_reference (hReference15Ideal := Cert.Reference15Ideal.Gen.facts),
  trivial, algebraic (hKernelIdeal := Cert.KernelIdeal.Gen.facts) (hReferenceIdeal := Cert.ReferenceIdeal.Gen.facts),
  trivial, Proj2.algebraic (hKernel2Ideal := Cert.Kernel2Ideal.Gen.facts) (hReference2Ideal := Cert.Reference2Ideal.Gen.facts),
  trivial, Proj3.algebraic (hKernel3Ideal := Cert.Kernel3Ideal.Gen.facts) (hReference3Ideal := Cert.Reference3Ideal.Gen.facts),
  trivial, Proj4.algebraic (hKernel4Ideal := Cert.Kernel4Ideal.Gen.facts) (hReference4Ideal := Cert.Reference4Ideal.Gen.facts),
  trivial, Proj5.algebraic (hKernel5Ideal := Cert.Kernel5Ideal.Gen.facts) (hReference5Ideal := Cert.Reference5Ideal.Gen.facts),
  trivial, Proj6.algebraic (hKernel6Ideal := Cert.Kernel6Ideal.Gen.facts) (hReference6Ideal := Cert.Reference6Ideal.Gen.facts),
  trivial, Proj7.algebraic (hKernel7Ideal := Cert.Kernel7Ideal.Gen.facts) (hReference7Ideal := Cert.Reference7Ideal.Gen.facts),
  trivial, Proj8.algebraic (hKernel8Ideal := Cert.Kernel8Ideal.Gen.facts) (hReference8Ideal := Cert.Reference8Ideal.Gen.facts),
  trivial, Proj9.algebraic (hKernel9Ideal := Cert.Kernel9Ideal.Gen.facts) (hReference9Ideal := Cert.Reference9Ideal.Gen.facts),
  trivial, Proj10.algebraic (hKernel10Ideal := Cert.Kernel10Ideal.Gen.facts) (hReference10Ideal := Cert.Reference10Ideal.Gen.facts),
  trivial, Proj11.algebraic (hKernel11Ideal := Cert.Kernel11Ideal.Gen.facts) (hReference11Ideal := Cert.Reference11Ideal.Gen.facts),
  trivial, Proj12.algebraic (hKernel12Ideal := Cert.Kernel12Ideal.Gen.facts) (hReference12Ideal := Cert.Reference12Ideal.Gen.facts),
  trivial, Proj13.algebraic (hKernel13Ideal := Cert.Kernel13Ideal.Gen.facts) (hReference13Ideal := Cert.Reference13Ideal.Gen.facts),
  trivial, Proj14.algebraic (hKernel14Ideal := Cert.Kernel14Ideal.Gen.facts) (hReference14Ideal := Cert.Reference14Ideal.Gen.facts),
  trivial, Proj15.algebraic (hKernel15Ideal := Cert.Kernel15Ideal.Gen.facts) (hReference15Ideal := Cert.Reference15Ideal.Gen.facts)⟩

end Cert.Proof

end
